-- ==== Defs.lean ====
def Pre_NormFirst (m : (ℓ : Loc Cert.NormFirst.nD Cert.NormFirst.τ Cert.NormFirst.sig) → Buf (Elt Bits) ℓ) : Prop :=
  True

def Pre_NormFirstIdeal (m : (ℓ : Loc Cert.NormFirstIdeal.nD Cert.NormFirstIdeal.τ Cert.NormFirstIdeal.sig) → Buf (Elt Ideal) ℓ) : Prop :=
  True

def Pre_NormFirstIdeal_norm_first_finite [hPre_norm_first_finite : Cert.Pre_norm_first_finite.Facts] (m : (ℓ : Loc Cert.NormFirstIdeal.nD Cert.NormFirstIdeal.τ Cert.NormFirstIdeal.sig) → Buf (Elt Ideal) ℓ) : Prop :=
  ∀ c : Dev Cert.NormFirstIdeal.nD,
    (Cert.Pre_norm_first_finite.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3))).1 = (fun _ => 1#1)
    ∧ (Cert.Pre_norm_first_finite.fn (F := Ideal) (m ((c.tc : Thread Cert.NormFirstIdeal.nD Cert.NormFirstIdeal.τ).loc Cert.NormFirstIdeal.main_arg0)) (m ((c.tc : Thread Cert.NormFirstIdeal.nD Cert.NormFirstIdeal.τ).loc Cert.NormFirstIdeal.main_arg1)) (m ((c.tc : Thread Cert.NormFirstIdeal.nD Cert.NormFirstIdeal.τ).loc Cert.NormFirstIdeal.main_arg2)) (m ((c.tc : Thread Cert.NormFirstIdeal.nD Cert.NormFirstIdeal.τ).loc Cert.NormFirstIdeal.main_arg3))).2 = (fun _ => 1#1)

def Pre_NormFirstRefIdeal (m : (ℓ : Loc Cert.NormFirstRefIdeal.nD Cert.NormFirstRefIdeal.τ Cert.NormFirstRefIdeal.sig) → Buf (Elt Ideal) ℓ) : Prop :=
  True

def Pre_NormFirstRefIdeal_norm_first_finite [hPre_norm_first_finite : Cert.Pre_norm_first_finite.Facts] (m : (ℓ : Loc Cert.NormFirstRefIdeal.nD Cert.NormFirstRefIdeal.τ Cert.NormFirstRefIdeal.sig) → Buf (Elt Ideal) ℓ) : Prop :=
  ∀ c : Dev Cert.NormFirstRefIdeal.nD,
    (Cert.Pre_norm_first_finite.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3))).1 = (fun _ => 1#1)
    ∧ (Cert.Pre_norm_first_finite.fn (F := Ideal) (m ((c.tc : Thread Cert.NormFirstRefIdeal.nD Cert.NormFirstRefIdeal.τ).loc Cert.NormFirstRefIdeal.main_arg0)) (m ((c.tc : Thread Cert.NormFirstRefIdeal.nD Cert.NormFirstRefIdeal.τ).loc Cert.NormFirstRefIdeal.main_arg1)) (m ((c.tc : Thread Cert.NormFirstRefIdeal.nD Cert.NormFirstRefIdeal.τ).loc Cert.NormFirstRefIdeal.main_arg2)) (m ((c.tc : Thread Cert.NormFirstRefIdeal.nD Cert.NormFirstRefIdeal.τ).loc Cert.NormFirstRefIdeal.main_arg3))).2 = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_finite [hPre_loss_head_finite : Cert.Pre_loss_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))).1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))).2.1 = (fun _ => 1#1)
    ∧ (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_finite [hPre_loss_head_finite : Cert.Pre_loss_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))).1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))).2.1 = (fun _ => 1#1)
    ∧ (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))).2.2 = (fun _ => 1#1)

def Pre_GateA (m : (ℓ : Loc Cert.GateA.nD Cert.GateA.τ Cert.GateA.sig) → Buf (Elt Bits) ℓ) : Prop :=
  True

def Pre_GateAIdeal (m : (ℓ : Loc Cert.GateAIdeal.nD Cert.GateAIdeal.τ Cert.GateAIdeal.sig) → Buf (Elt Ideal) ℓ) : Prop :=
  True

def Pre_GateAIdeal_gate_a_finite [hPre_gate_a_finite : Cert.Pre_gate_a_finite.Facts] (m : (ℓ : Loc Cert.GateAIdeal.nD Cert.GateAIdeal.τ Cert.GateAIdeal.sig) → Buf (Elt Ideal) ℓ) : Prop :=
  ∀ c : Dev Cert.GateAIdeal.nD,
    (Cert.Pre_gate_a_finite.fn (F := Ideal) (m ((c.tc : Thread Cert.GateAIdeal.nD Cert.GateAIdeal.τ).loc Cert.GateAIdeal.main_arg0)) (m ((c.tc : Thread Cert.GateAIdeal.nD Cert.GateAIdeal.τ).loc Cert.GateAIdeal.main_arg1)) (m ((c.tc : Thread Cert.GateAIdeal.nD Cert.GateAIdeal.τ).loc Cert.GateAIdeal.main_arg2)) (m ((c.tc : Thread Cert.GateAIdeal.nD Cert.GateAIdeal.τ).loc Cert.GateAIdeal.main_arg3)) (m ((c.tc : Thread Cert.GateAIdeal.nD Cert.GateAIdeal.τ).loc Cert.GateAIdeal.main_arg4)) (m ((c.tc : Thread Cert.GateAIdeal.nD Cert.GateAIdeal.τ).loc Cert.GateAIdeal.main_arg5))).1 = (fun _ => 1#1)
    ∧ (Cert.Pre_gate_a_finite.fn (F := Ideal) (m ((c.tc : Thread Cert.GateAIdeal.nD Cert.GateAIdeal.τ).loc Cert.GateAIdeal.main_arg0)) (m ((c.tc : Thread Cert.GateAIdeal.nD Cert.GateAIdeal.τ).loc Cert.GateAIdeal.main_arg1)) (m ((c.tc : Thread Cert.GateAIdeal.nD Cert.GateAIdeal.τ).loc Cert.GateAIdeal.main_arg2)) (m ((c.tc : Thread Cert.GateAIdeal.nD Cert.GateAIdeal.τ).loc Cert.GateAIdeal.main_arg3)) (m ((c.tc : Thread Cert.GateAIdeal.nD Cert.GateAIdeal.τ).loc Cert.GateAIdeal.main_arg4)) (m ((c.tc : Thread Cert.GateAIdeal.nD Cert.GateAIdeal.τ).loc Cert.GateAIdeal.main_arg5))).2.1 = (fun _ => 1#1)
    ∧ (Cert.Pre_gate_a_finite.fn (F := Ideal) (m ((c.tc : Thread Cert.GateAIdeal.nD Cert.GateAIdeal.τ).loc Cert.GateAIdeal.main_arg0)) (m ((c.tc : Thread Cert.GateAIdeal.nD Cert.GateAIdeal.τ).loc Cert.GateAIdeal.main_arg1)) (m ((c.tc : Thread Cert.GateAIdeal.nD Cert.GateAIdeal.τ).loc Cert.GateAIdeal.main_arg2)) (m ((c.tc : Thread Cert.GateAIdeal.nD Cert.GateAIdeal.τ).loc Cert.GateAIdeal.main_arg3)) (m ((c.tc : Thread Cert.GateAIdeal.nD Cert.GateAIdeal.τ).loc Cert.GateAIdeal.main_arg4)) (m ((c.tc : Thread Cert.GateAIdeal.nD Cert.GateAIdeal.τ).loc Cert.GateAIdeal.main_arg5))).2.2.1 = (fun _ => 1#1)
    ∧ (Cert.Pre_gate_a_finite.fn (F := Ideal) (m ((c.tc : Thread Cert.GateAIdeal.nD Cert.GateAIdeal.τ).loc Cert.GateAIdeal.main_arg0)) (m ((c.tc : Thread Cert.GateAIdeal.nD Cert.GateAIdeal.τ).loc Cert.GateAIdeal.main_arg1)) (m ((c.tc : Thread Cert.GateAIdeal.nD Cert.GateAIdeal.τ).loc Cert.GateAIdeal.main_arg2)) (m ((c.tc : Thread Cert.GateAIdeal.nD Cert.GateAIdeal.τ).loc Cert.GateAIdeal.main_arg3)) (m ((c.tc : Thread Cert.GateAIdeal.nD Cert.GateAIdeal.τ).loc Cert.GateAIdeal.main_arg4)) (m ((c.tc : Thread Cert.GateAIdeal.nD Cert.GateAIdeal.τ).loc Cert.GateAIdeal.main_arg5))).2.2.2.1 = (fun _ => 1#1)
    ∧ (Cert.Pre_gate_a_finite.fn (F := Ideal) (m ((c.tc : Thread Cert.GateAIdeal.nD Cert.GateAIdeal.τ).loc Cert.GateAIdeal.main_arg0)) (m ((c.tc : Thread Cert.GateAIdeal.nD Cert.GateAIdeal.τ).loc Cert.GateAIdeal.main_arg1)) (m ((c.tc : Thread Cert.GateAIdeal.nD Cert.GateAIdeal.τ).loc Cert.GateAIdeal.main_arg2)) (m ((c.tc : Thread Cert.GateAIdeal.nD Cert.GateAIdeal.τ).loc Cert.GateAIdeal.main_arg3)) (m ((c.tc : Thread Cert.GateAIdeal.nD Cert.GateAIdeal.τ).loc Cert.GateAIdeal.main_arg4)) (m ((c.tc : Thread Cert.GateAIdeal.nD Cert.GateAIdeal.τ).loc Cert.GateAIdeal.main_arg5))).2.2.2.2.1 = (fun _ => 1#1)
    ∧ (Cert.Pre_gate_a_finite.fn (F := Ideal) (m ((c.tc : Thread Cert.GateAIdeal.nD Cert.GateAIdeal.τ).loc Cert.GateAIdeal.main_arg0)) (m ((c.tc : Thread Cert.GateAIdeal.nD Cert.GateAIdeal.τ).loc Cert.GateAIdeal.main_arg1)) (m ((c.tc : Thread Cert.GateAIdeal.nD Cert.GateAIdeal.τ).loc Cert.GateAIdeal.main_arg2)) (m ((c.tc : Thread Cert.GateAIdeal.nD Cert.GateAIdeal.τ).loc Cert.GateAIdeal.main_arg3)) (m ((c.tc : Thread Cert.GateAIdeal.nD Cert.GateAIdeal.τ).loc Cert.GateAIdeal.main_arg4)) (m ((c.tc : Thread Cert.GateAIdeal.nD Cert.GateAIdeal.τ).loc Cert.GateAIdeal.main_arg5))).2.2.2.2.2 = (fun _ => 1#1)

def Pre_GateARefIdeal (m : (ℓ : Loc Cert.GateARefIdeal.nD Cert.GateARefIdeal.τ Cert.GateARefIdeal.sig) → Buf (Elt Ideal) ℓ) : Prop :=
  True

def Pre_GateARefIdeal_gate_a_finite [hPre_gate_a_finite : Cert.Pre_gate_a_finite.Facts] (m : (ℓ : Loc Cert.GateARefIdeal.nD Cert.GateARefIdeal.τ Cert.GateARefIdeal.sig) → Buf (Elt Ideal) ℓ) : Prop :=
  ∀ c : Dev Cert.GateARefIdeal.nD,
    (Cert.Pre_gate_a_finite.fn (F := Ideal) (m ((c.tc : Thread Cert.GateARefIdeal.nD Cert.GateARefIdeal.τ).loc Cert.GateARefIdeal.main_arg0)) (m ((c.tc : Thread Cert.GateARefIdeal.nD Cert.GateARefIdeal.τ).loc Cert.GateARefIdeal.main_arg1)) (m ((c.tc : Thread Cert.GateARefIdeal.nD Cert.GateARefIdeal.τ).loc Cert.GateARefIdeal.main_arg2)) (m ((c.tc : Thread Cert.GateARefIdeal.nD Cert.GateARefIdeal.τ).loc Cert.GateARefIdeal.main_arg3)) (m ((c.tc : Thread Cert.GateARefIdeal.nD Cert.GateARefIdeal.τ).loc Cert.GateARefIdeal.main_arg4)) (m ((c.tc : Thread Cert.GateARefIdeal.nD Cert.GateARefIdeal.τ).loc Cert.GateARefIdeal.main_arg5))).1 = (fun _ => 1#1)
    ∧ (Cert.Pre_gate_a_finite.fn (F := Ideal) (m ((c.tc : Thread Cert.GateARefIdeal.nD Cert.GateARefIdeal.τ).loc Cert.GateARefIdeal.main_arg0)) (m ((c.tc : Thread Cert.GateARefIdeal.nD Cert.GateARefIdeal.τ).loc Cert.GateARefIdeal.main_arg1)) (m ((c.tc : Thread Cert.GateARefIdeal.nD Cert.GateARefIdeal.τ).loc Cert.GateARefIdeal.main_arg2)) (m ((c.tc : Thread Cert.GateARefIdeal.nD Cert.GateARefIdeal.τ).loc Cert.GateARefIdeal.main_arg3)) (m ((c.tc : Thread Cert.GateARefIdeal.nD Cert.GateARefIdeal.τ).loc Cert.GateARefIdeal.main_arg4)) (m ((c.tc : Thread Cert.GateARefIdeal.nD Cert.GateARefIdeal.τ).loc Cert.GateARefIdeal.main_arg5))).2.1 = (fun _ => 1#1)
    ∧ (Cert.Pre_gate_a_finite.fn (F := Ideal) (m ((c.tc : Thread Cert.GateARefIdeal.nD Cert.GateARefIdeal.τ).loc Cert.GateARefIdeal.main_arg0)) (m ((c.tc : Thread Cert.GateARefIdeal.nD Cert.GateARefIdeal.τ).loc Cert.GateARefIdeal.main_arg1)) (m ((c.tc : Thread Cert.GateARefIdeal.nD Cert.GateARefIdeal.τ).loc Cert.GateARefIdeal.main_arg2)) (m ((c.tc : Thread Cert.GateARefIdeal.nD Cert.GateARefIdeal.τ).loc Cert.GateARefIdeal.main_arg3)) (m ((c.tc : Thread Cert.GateARefIdeal.nD Cert.GateARefIdeal.τ).loc Cert.GateARefIdeal.main_arg4)) (m ((c.tc : Thread Cert.GateARefIdeal.nD Cert.GateARefIdeal.τ).loc Cert.GateARefIdeal.main_arg5))).2.2.1 = (fun _ => 1#1)
    ∧ (Cert.Pre_gate_a_finite.fn (F := Ideal) (m ((c.tc : Thread Cert.GateARefIdeal.nD Cert.GateARefIdeal.τ).loc Cert.GateARefIdeal.main_arg0)) (m ((c.tc : Thread Cert.GateARefIdeal.nD Cert.GateARefIdeal.τ).loc Cert.GateARefIdeal.main_arg1)) (m ((c.tc : Thread Cert.GateARefIdeal.nD Cert.GateARefIdeal.τ).loc Cert.GateARefIdeal.main_arg2)) (m ((c.tc : Thread Cert.GateARefIdeal.nD Cert.GateARefIdeal.τ).loc Cert.GateARefIdeal.main_arg3)) (m ((c.tc : Thread Cert.GateARefIdeal.nD Cert.GateARefIdeal.τ).loc Cert.GateARefIdeal.main_arg4)) (m ((c.tc : Thread Cert.GateARefIdeal.nD Cert.GateARefIdeal.τ).loc Cert.GateARefIdeal.main_arg5))).2.2.2.1 = (fun _ => 1#1)
    ∧ (Cert.Pre_gate_a_finite.fn (F := Ideal) (m ((c.tc : Thread Cert.GateARefIdeal.nD Cert.GateARefIdeal.τ).loc Cert.GateARefIdeal.main_arg0)) (m ((c.tc : Thread Cert.GateARefIdeal.nD Cert.GateARefIdeal.τ).loc Cert.GateARefIdeal.main_arg1)) (m ((c.tc : Thread Cert.GateARefIdeal.nD Cert.GateARefIdeal.τ).loc Cert.GateARefIdeal.main_arg2)) (m ((c.tc : Thread Cert.GateARefIdeal.nD Cert.GateARefIdeal.τ).loc Cert.GateARefIdeal.main_arg3)) (m ((c.tc : Thread Cert.GateARefIdeal.nD Cert.GateARefIdeal.τ).loc Cert.GateARefIdeal.main_arg4)) (m ((c.tc : Thread Cert.GateARefIdeal.nD Cert.GateARefIdeal.τ).loc Cert.GateARefIdeal.main_arg5))).2.2.2.2.1 = (fun _ => 1#1)
    ∧ (Cert.Pre_gate_a_finite.fn (F := Ideal) (m ((c.tc : Thread Cert.GateARefIdeal.nD Cert.GateARefIdeal.τ).loc Cert.GateARefIdeal.main_arg0)) (m ((c.tc : Thread Cert.GateARefIdeal.nD Cert.GateARefIdeal.τ).loc Cert.GateARefIdeal.main_arg1)) (m ((c.tc : Thread Cert.GateARefIdeal.nD Cert.GateARefIdeal.τ).loc Cert.GateARefIdeal.main_arg2)) (m ((c.tc : Thread Cert.GateARefIdeal.nD Cert.GateARefIdeal.τ).loc Cert.GateARefIdeal.main_arg3)) (m ((c.tc : Thread Cert.GateARefIdeal.nD Cert.GateARefIdeal.τ).loc Cert.GateARefIdeal.main_arg4)) (m ((c.tc : Thread Cert.GateARefIdeal.nD Cert.GateARefIdeal.τ).loc Cert.GateARefIdeal.main_arg5))).2.2.2.2.2 = (fun _ => 1#1)

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBIdeal_gate_b_finite [hPre_gate_b_finite : Cert.Pre_gate_b_finite.Facts] (m : (ℓ : Loc Cert.GateBIdeal.nD Cert.GateBIdeal.τ Cert.GateBIdeal.sig) → Buf (Elt Ideal) ℓ) : Prop :=
  ∀ c : Dev Cert.GateBIdeal.nD,
    (Cert.Pre_gate_b_finite.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).1 = (fun _ => 1#1)
    ∧ (Cert.Pre_gate_b_finite.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.1 = (fun _ => 1#1)
    ∧ (Cert.Pre_gate_b_finite.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.2.1 = (fun _ => 1#1)
    ∧ (Cert.Pre_gate_b_finite.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.2.2 = (fun _ => 1#1)

def Pre_GateBRefIdeal (m : (ℓ : Loc Cert.GateBRefIdeal.nD Cert.GateBRefIdeal.τ Cert.GateBRefIdeal.sig) → Buf (Elt Ideal) ℓ) : Prop :=
  True

def Pre_GateBRefIdeal_gate_b_finite [hPre_gate_b_finite : Cert.Pre_gate_b_finite.Facts] (m : (ℓ : Loc Cert.GateBRefIdeal.nD Cert.GateBRefIdeal.τ Cert.GateBRefIdeal.sig) → Buf (Elt Ideal) ℓ) : Prop :=
  ∀ c : Dev Cert.GateBRefIdeal.nD,
    (Cert.Pre_gate_b_finite.fn (F := Ideal) (m ((c.tc : Thread Cert.GateBRefIdeal.nD Cert.GateBRefIdeal.τ).loc Cert.GateBRefIdeal.main_arg0)) (m ((c.tc : Thread Cert.GateBRefIdeal.nD Cert.GateBRefIdeal.τ).loc Cert.GateBRefIdeal.main_arg1)) (m ((c.tc : Thread Cert.GateBRefIdeal.nD Cert.GateBRefIdeal.τ).loc Cert.GateBRefIdeal.main_arg2)) (m ((c.tc : Thread Cert.GateBRefIdeal.nD Cert.GateBRefIdeal.τ).loc Cert.GateBRefIdeal.main_arg3)) (m ((c.tc : Thread Cert.GateBRefIdeal.nD Cert.GateBRefIdeal.τ).loc Cert.GateBRefIdeal.main_arg4))).1 = (fun _ => 1#1)
    ∧ (Cert.Pre_gate_b_finite.fn (F := Ideal) (m ((c.tc : Thread Cert.GateBRefIdeal.nD Cert.GateBRefIdeal.τ).loc Cert.GateBRefIdeal.main_arg0)) (m ((c.tc : Thread Cert.GateBRefIdeal.nD Cert.GateBRefIdeal.τ).loc Cert.GateBRefIdeal.main_arg1)) (m ((c.tc : Thread Cert.GateBRefIdeal.nD Cert.GateBRefIdeal.τ).loc Cert.GateBRefIdeal.main_arg2)) (m ((c.tc : Thread Cert.GateBRefIdeal.nD Cert.GateBRefIdeal.τ).loc Cert.GateBRefIdeal.main_arg3)) (m ((c.tc : Thread Cert.GateBRefIdeal.nD Cert.GateBRefIdeal.τ).loc Cert.GateBRefIdeal.main_arg4))).2.1 = (fun _ => 1#1)
    ∧ (Cert.Pre_gate_b_finite.fn (F := Ideal) (m ((c.tc : Thread Cert.GateBRefIdeal.nD Cert.GateBRefIdeal.τ).loc Cert.GateBRefIdeal.main_arg0)) (m ((c.tc : Thread Cert.GateBRefIdeal.nD Cert.GateBRefIdeal.τ).loc Cert.GateBRefIdeal.main_arg1)) (m ((c.tc : Thread Cert.GateBRefIdeal.nD Cert.GateBRefIdeal.τ).loc Cert.GateBRefIdeal.main_arg2)) (m ((c.tc : Thread Cert.GateBRefIdeal.nD Cert.GateBRefIdeal.τ).loc Cert.GateBRefIdeal.main_arg3)) (m ((c.tc : Thread Cert.GateBRefIdeal.nD Cert.GateBRefIdeal.τ).loc Cert.GateBRefIdeal.main_arg4))).2.2.1 = (fun _ => 1#1)
    ∧ (Cert.Pre_gate_b_finite.fn (F := Ideal) (m ((c.tc : Thread Cert.GateBRefIdeal.nD Cert.GateBRefIdeal.τ).loc Cert.GateBRefIdeal.main_arg0)) (m ((c.tc : Thread Cert.GateBRefIdeal.nD Cert.GateBRefIdeal.τ).loc Cert.GateBRefIdeal.main_arg1)) (m ((c.tc : Thread Cert.GateBRefIdeal.nD Cert.GateBRefIdeal.τ).loc Cert.GateBRefIdeal.main_arg2)) (m ((c.tc : Thread Cert.GateBRefIdeal.nD Cert.GateBRefIdeal.τ).loc Cert.GateBRefIdeal.main_arg3)) (m ((c.tc : Thread Cert.GateBRefIdeal.nD Cert.GateBRefIdeal.τ).loc Cert.GateBRefIdeal.main_arg4))).2.2.2 = (fun _ => 1#1)

def Pre_NormsMid (m : (ℓ : Loc Cert.NormsMid.nD Cert.NormsMid.τ Cert.NormsMid.sig) → Buf (Elt Bits) ℓ) : Prop :=
  True

def Pre_NormsMidIdeal (m : (ℓ : Loc Cert.NormsMidIdeal.nD Cert.NormsMidIdeal.τ Cert.NormsMidIdeal.sig) → Buf (Elt Ideal) ℓ) : Prop :=
  True

def Pre_NormsMidIdeal_norms_mid_finite [hPre_norms_mid_finite : Cert.Pre_norms_mid_finite.Facts] (m : (ℓ : Loc Cert.NormsMidIdeal.nD Cert.NormsMidIdeal.τ Cert.NormsMidIdeal.sig) → Buf (Elt Ideal) ℓ) : Prop :=
  ∀ c : Dev Cert.NormsMidIdeal.nD,
    (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.2.1 = (fun _ => 1#1)
    ∧ (Cert.Pre_norms_mid_finite.fn (F := Ideal) (m ((c.tc : Thread Cert.NormsMidIdeal.nD Cert.NormsMidIdeal.τ).loc Cert.NormsMidIdeal.main_arg0)) (m ((c.tc : Thread Cert.NormsMidIdeal.nD Cert.NormsMidIdeal.τ).loc Cert.NormsMidIdeal.main_arg1)) (m ((c.tc : Thread Cert.NormsMidIdeal.nD Cert.NormsMidIdeal.τ).loc Cert.NormsMidIdeal.main_arg2)) (m ((c.tc : Thread Cert.NormsMidIdeal.nD Cert.NormsMidIdeal.τ).loc Cert.NormsMidIdeal.main_arg3)) (m ((c.tc : Thread Cert.NormsMidIdeal.nD Cert.NormsMidIdeal.τ).loc Cert.NormsMidIdeal.main_arg4)) (m ((c.tc : Thread Cert.NormsMidIdeal.nD Cert.NormsMidIdeal.τ).loc Cert.NormsMidIdeal.main_arg5))).2.2.2 = (fun _ => 1#1)

def Pre_NormsMidRefIdeal (m : (ℓ : Loc Cert.NormsMidRefIdeal.nD Cert.NormsMidRefIdeal.τ Cert.NormsMidRefIdeal.sig) → Buf (Elt Ideal) ℓ) : Prop :=
  True

def Pre_NormsMidRefIdeal_norms_mid_finite [hPre_norms_mid_finite : Cert.Pre_norms_mid_finite.Facts] (m : (ℓ : Loc Cert.NormsMidRefIdeal.nD Cert.NormsMidRefIdeal.τ Cert.NormsMidRefIdeal.sig) → Buf (Elt Ideal) ℓ) : Prop :=
  ∀ c : Dev Cert.NormsMidRefIdeal.nD,
    (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.2.1 = (fun _ => 1#1)
    ∧ (Cert.Pre_norms_mid_finite.fn (F := Ideal) (m ((c.tc : Thread Cert.NormsMidRefIdeal.nD Cert.NormsMidRefIdeal.τ).loc Cert.NormsMidRefIdeal.main_arg0)) (m ((c.tc : Thread Cert.NormsMidRefIdeal.nD Cert.NormsMidRefIdeal.τ).loc Cert.NormsMidRefIdeal.main_arg1)) (m ((c.tc : Thread Cert.NormsMidRefIdeal.nD Cert.NormsMidRefIdeal.τ).loc Cert.NormsMidRefIdeal.main_arg2)) (m ((c.tc : Thread Cert.NormsMidRefIdeal.nD Cert.NormsMidRefIdeal.τ).loc Cert.NormsMidRefIdeal.main_arg3)) (m ((c.tc : Thread Cert.NormsMidRefIdeal.nD Cert.NormsMidRefIdeal.τ).loc Cert.NormsMidRefIdeal.main_arg4)) (m ((c.tc : Thread Cert.NormsMidRefIdeal.nD Cert.NormsMidRefIdeal.τ).loc Cert.NormsMidRefIdeal.main_arg5))).2.2.2 = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1))) = (fun _ => 1#1)

def Pre_GateAFwd (m : (ℓ : Loc Cert.GateAFwd.nD Cert.GateAFwd.τ Cert.GateAFwd.sig) → Buf (Elt Bits) ℓ) : Prop :=
  True

def Pre_GateAFwdIdeal (m : (ℓ : Loc Cert.GateAFwdIdeal.nD Cert.GateAFwdIdeal.τ Cert.GateAFwdIdeal.sig) → Buf (Elt Ideal) ℓ) : Prop :=
  True

def Pre_GateAFwdIdeal_gate_a_fwd_finite [hPre_gate_a_fwd_finite : Cert.Pre_gate_a_fwd_finite.Facts] (m : (ℓ : Loc Cert.GateAFwdIdeal.nD Cert.GateAFwdIdeal.τ Cert.GateAFwdIdeal.sig) → Buf (Elt Ideal) ℓ) : Prop :=
  ∀ c : Dev Cert.GateAFwdIdeal.nD,
    (Cert.Pre_gate_a_fwd_finite.fn (F := Ideal) (m ((c.tc : Thread Cert.GateAFwdIdeal.nD Cert.GateAFwdIdeal.τ).loc Cert.GateAFwdIdeal.main_arg0)) (m ((c.tc : Thread Cert.GateAFwdIdeal.nD Cert.GateAFwdIdeal.τ).loc Cert.GateAFwdIdeal.main_arg1)) (m ((c.tc : Thread Cert.GateAFwdIdeal.nD Cert.GateAFwdIdeal.τ).loc Cert.GateAFwdIdeal.main_arg2)) (m ((c.tc : Thread Cert.GateAFwdIdeal.nD Cert.GateAFwdIdeal.τ).loc Cert.GateAFwdIdeal.main_arg3)) (m ((c.tc : Thread Cert.GateAFwdIdeal.nD Cert.GateAFwdIdeal.τ).loc Cert.GateAFwdIdeal.main_arg4))).1 = (fun _ => 1#1)
    ∧ (Cert.Pre_gate_a_fwd_finite.fn (F := Ideal) (m ((c.tc : Thread Cert.GateAFwdIdeal.nD Cert.GateAFwdIdeal.τ).loc Cert.GateAFwdIdeal.main_arg0)) (m ((c.tc : Thread Cert.GateAFwdIdeal.nD Cert.GateAFwdIdeal.τ).loc Cert.GateAFwdIdeal.main_arg1)) (m ((c.tc : Thread Cert.GateAFwdIdeal.nD Cert.GateAFwdIdeal.τ).loc Cert.GateAFwdIdeal.main_arg2)) (m ((c.tc : Thread Cert.GateAFwdIdeal.nD Cert.GateAFwdIdeal.τ).loc Cert.GateAFwdIdeal.main_arg3)) (m ((c.tc : Thread Cert.GateAFwdIdeal.nD Cert.GateAFwdIdeal.τ).loc Cert.GateAFwdIdeal.main_arg4))).2.1 = (fun _ => 1#1)
    ∧ (Cert.Pre_gate_a_fwd_finite.fn (F := Ideal) (m ((c.tc : Thread Cert.GateAFwdIdeal.nD Cert.GateAFwdIdeal.τ).loc Cert.GateAFwdIdeal.main_arg0)) (m ((c.tc : Thread Cert.GateAFwdIdeal.nD Cert.GateAFwdIdeal.τ).loc Cert.GateAFwdIdeal.main_arg1)) (m ((c.tc : Thread Cert.GateAFwdIdeal.nD Cert.GateAFwdIdeal.τ).loc Cert.GateAFwdIdeal.main_arg2)) (m ((c.tc : Thread Cert.GateAFwdIdeal.nD Cert.GateAFwdIdeal.τ).loc Cert.GateAFwdIdeal.main_arg3)) (m ((c.tc : Thread Cert.GateAFwdIdeal.nD Cert.GateAFwdIdeal.τ).loc Cert.GateAFwdIdeal.main_arg4))).2.2.1 = (fun _ => 1#1)
    ∧ (Cert.Pre_gate_a_fwd_finite.fn (F := Ideal) (m ((c.tc : Thread Cert.GateAFwdIdeal.nD Cert.GateAFwdIdeal.τ).loc Cert.GateAFwdIdeal.main_arg0)) (m ((c.tc : Thread Cert.GateAFwdIdeal.nD Cert.GateAFwdIdeal.τ).loc Cert.GateAFwdIdeal.main_arg1)) (m ((c.tc : Thread Cert.GateAFwdIdeal.nD Cert.GateAFwdIdeal.τ).loc Cert.GateAFwdIdeal.main_arg2)) (m ((c.tc : Thread Cert.GateAFwdIdeal.nD Cert.GateAFwdIdeal.τ).loc Cert.GateAFwdIdeal.main_arg3)) (m ((c.tc : Thread Cert.GateAFwdIdeal.nD Cert.GateAFwdIdeal.τ).loc Cert.GateAFwdIdeal.main_arg4))).2.2.2.1 = (fun _ => 1#1)
    ∧ (Cert.Pre_gate_a_fwd_finite.fn (F := Ideal) (m ((c.tc : Thread Cert.GateAFwdIdeal.nD Cert.GateAFwdIdeal.τ).loc Cert.GateAFwdIdeal.main_arg0)) (m ((c.tc : Thread Cert.GateAFwdIdeal.nD Cert.GateAFwdIdeal.τ).loc Cert.GateAFwdIdeal.main_arg1)) (m ((c.tc : Thread Cert.GateAFwdIdeal.nD Cert.GateAFwdIdeal.τ).loc Cert.GateAFwdIdeal.main_arg2)) (m ((c.tc : Thread Cert.GateAFwdIdeal.nD Cert.GateAFwdIdeal.τ).loc Cert.GateAFwdIdeal.main_arg3)) (m ((c.tc : Thread Cert.GateAFwdIdeal.nD Cert.GateAFwdIdeal.τ).loc Cert.GateAFwdIdeal.main_arg4))).2.2.2.2 = (fun _ => 1#1)

def Pre_GateAFwdRefIdeal (m : (ℓ : Loc Cert.GateAFwdRefIdeal.nD Cert.GateAFwdRefIdeal.τ Cert.GateAFwdRefIdeal.sig) → Buf (Elt Ideal) ℓ) : Prop :=
  True

def Pre_GateAFwdRefIdeal_gate_a_fwd_finite [hPre_gate_a_fwd_finite : Cert.Pre_gate_a_fwd_finite.Facts] (m : (ℓ : Loc Cert.GateAFwdRefIdeal.nD Cert.GateAFwdRefIdeal.τ Cert.GateAFwdRefIdeal.sig) → Buf (Elt Ideal) ℓ) : Prop :=
  ∀ c : Dev Cert.GateAFwdRefIdeal.nD,
    (Cert.Pre_gate_a_fwd_finite.fn (F := Ideal) (m ((c.tc : Thread Cert.GateAFwdRefIdeal.nD Cert.GateAFwdRefIdeal.τ).loc Cert.GateAFwdRefIdeal.main_arg0)) (m ((c.tc : Thread Cert.GateAFwdRefIdeal.nD Cert.GateAFwdRefIdeal.τ).loc Cert.GateAFwdRefIdeal.main_arg1)) (m ((c.tc : Thread Cert.GateAFwdRefIdeal.nD Cert.GateAFwdRefIdeal.τ).loc Cert.GateAFwdRefIdeal.main_arg2)) (m ((c.tc : Thread Cert.GateAFwdRefIdeal.nD Cert.GateAFwdRefIdeal.τ).loc Cert.GateAFwdRefIdeal.main_arg3)) (m ((c.tc : Thread Cert.GateAFwdRefIdeal.nD Cert.GateAFwdRefIdeal.τ).loc Cert.GateAFwdRefIdeal.main_arg4))).1 = (fun _ => 1#1)
    ∧ (Cert.Pre_gate_a_fwd_finite.fn (F := Ideal) (m ((c.tc : Thread Cert.GateAFwdRefIdeal.nD Cert.GateAFwdRefIdeal.τ).loc Cert.GateAFwdRefIdeal.main_arg0)) (m ((c.tc : Thread Cert.GateAFwdRefIdeal.nD Cert.GateAFwdRefIdeal.τ).loc Cert.GateAFwdRefIdeal.main_arg1)) (m ((c.tc : Thread Cert.GateAFwdRefIdeal.nD Cert.GateAFwdRefIdeal.τ).loc Cert.GateAFwdRefIdeal.main_arg2)) (m ((c.tc : Thread Cert.GateAFwdRefIdeal.nD Cert.GateAFwdRefIdeal.τ).loc Cert.GateAFwdRefIdeal.main_arg3)) (m ((c.tc : Thread Cert.GateAFwdRefIdeal.nD Cert.GateAFwdRefIdeal.τ).loc Cert.GateAFwdRefIdeal.main_arg4))).2.1 = (fun _ => 1#1)
    ∧ (Cert.Pre_gate_a_fwd_finite.fn (F := Ideal) (m ((c.tc : Thread Cert.GateAFwdRefIdeal.nD Cert.GateAFwdRefIdeal.τ).loc Cert.GateAFwdRefIdeal.main_arg0)) (m ((c.tc : Thread Cert.GateAFwdRefIdeal.nD Cert.GateAFwdRefIdeal.τ).loc Cert.GateAFwdRefIdeal.main_arg1)) (m ((c.tc : Thread Cert.GateAFwdRefIdeal.nD Cert.GateAFwdRefIdeal.τ).loc Cert.GateAFwdRefIdeal.main_arg2)) (m ((c.tc : Thread Cert.GateAFwdRefIdeal.nD Cert.GateAFwdRefIdeal.τ).loc Cert.GateAFwdRefIdeal.main_arg3)) (m ((c.tc : Thread Cert.GateAFwdRefIdeal.nD Cert.GateAFwdRefIdeal.τ).loc Cert.GateAFwdRefIdeal.main_arg4))).2.2.1 = (fun _ => 1#1)
    ∧ (Cert.Pre_gate_a_fwd_finite.fn (F := Ideal) (m ((c.tc : Thread Cert.GateAFwdRefIdeal.nD Cert.GateAFwdRefIdeal.τ).loc Cert.GateAFwdRefIdeal.main_arg0)) (m ((c.tc : Thread Cert.GateAFwdRefIdeal.nD Cert.GateAFwdRefIdeal.τ).loc Cert.GateAFwdRefIdeal.main_arg1)) (m ((c.tc : Thread Cert.GateAFwdRefIdeal.nD Cert.GateAFwdRefIdeal.τ).loc Cert.GateAFwdRefIdeal.main_arg2)) (m ((c.tc : Thread Cert.GateAFwdRefIdeal.nD Cert.GateAFwdRefIdeal.τ).loc Cert.GateAFwdRefIdeal.main_arg3)) (m ((c.tc : Thread Cert.GateAFwdRefIdeal.nD Cert.GateAFwdRefIdeal.τ).loc Cert.GateAFwdRefIdeal.main_arg4))).2.2.2.1 = (fun _ => 1#1)
    ∧ (Cert.Pre_gate_a_fwd_finite.fn (F := Ideal) (m ((c.tc : Thread Cert.GateAFwdRefIdeal.nD Cert.GateAFwdRefIdeal.τ).loc Cert.GateAFwdRefIdeal.main_arg0)) (m ((c.tc : Thread Cert.GateAFwdRefIdeal.nD Cert.GateAFwdRefIdeal.τ).loc Cert.GateAFwdRefIdeal.main_arg1)) (m ((c.tc : Thread Cert.GateAFwdRefIdeal.nD Cert.GateAFwdRefIdeal.τ).loc Cert.GateAFwdRefIdeal.main_arg2)) (m ((c.tc : Thread Cert.GateAFwdRefIdeal.nD Cert.GateAFwdRefIdeal.τ).loc Cert.GateAFwdRefIdeal.main_arg3)) (m ((c.tc : Thread Cert.GateAFwdRefIdeal.nD Cert.GateAFwdRefIdeal.τ).loc Cert.GateAFwdRefIdeal.main_arg4))).2.2.2.2 = (fun _ => 1#1)

def Pre_GateBFwd (m : (ℓ : Loc Cert.GateBFwd.nD Cert.GateBFwd.τ Cert.GateBFwd.sig) → Buf (Elt Bits) ℓ) : Prop :=
  True

def Pre_GateBFwdIdeal (m : (ℓ : Loc Cert.GateBFwdIdeal.nD Cert.GateBFwdIdeal.τ Cert.GateBFwdIdeal.sig) → Buf (Elt Ideal) ℓ) : Prop :=
  True

def Pre_GateBFwdRefIdeal (m : (ℓ : Loc Cert.GateBFwdRefIdeal.nD Cert.GateBFwdRefIdeal.τ Cert.GateBFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdIdeal_pool_fwd_finite [hPre_pool_fwd_finite : Cert.Pre_pool_fwd_finite.Facts] (m : (ℓ : Loc Cert.PoolFwdIdeal.nD Cert.PoolFwdIdeal.τ Cert.PoolFwdIdeal.sig) → Buf (Elt Ideal) ℓ) : Prop :=
  ∀ c : Dev Cert.PoolFwdIdeal.nD,
    (Cert.Pre_pool_fwd_finite.fn (F := Ideal) (m ((c.tc : Thread Cert.PoolFwdIdeal.nD Cert.PoolFwdIdeal.τ).loc Cert.PoolFwdIdeal.main_arg0))) = (fun _ => 1#1)

def Pre_PoolFwdRefIdeal (m : (ℓ : Loc Cert.PoolFwdRefIdeal.nD Cert.PoolFwdRefIdeal.τ Cert.PoolFwdRefIdeal.sig) → Buf (Elt Ideal) ℓ) : Prop :=
  True

def Pre_PoolFwdRefIdeal_pool_fwd_finite [hPre_pool_fwd_finite : Cert.Pre_pool_fwd_finite.Facts] (m : (ℓ : Loc Cert.PoolFwdRefIdeal.nD Cert.PoolFwdRefIdeal.τ Cert.PoolFwdRefIdeal.sig) → Buf (Elt Ideal) ℓ) : Prop :=
  ∀ c : Dev Cert.PoolFwdRefIdeal.nD,
    (Cert.Pre_pool_fwd_finite.fn (F := Ideal) (m ((c.tc : Thread Cert.PoolFwdRefIdeal.nD Cert.PoolFwdRefIdeal.τ).loc Cert.PoolFwdRefIdeal.main_arg0))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Grouped (m : (ℓ : Loc Cert.Grouped.nD Cert.Grouped.τ Cert.Grouped.sig) → Buf (Elt Bits) ℓ) : Prop :=
  True

def Pre_GroupedIdeal (m : (ℓ : Loc Cert.GroupedIdeal.nD Cert.GroupedIdeal.τ Cert.GroupedIdeal.sig) → Buf (Elt Ideal) ℓ) : Prop :=
  True

def Pre_GroupedRefIdeal (m : (ℓ : Loc Cert.GroupedRefIdeal.nD Cert.GroupedRefIdeal.τ Cert.GroupedRefIdeal.sig) → Buf (Elt Ideal) ℓ) : Prop :=
  True

def Pre_DactOut (m : (ℓ : Loc Cert.DactOut.nD Cert.DactOut.τ Cert.DactOut.sig) → Buf (Elt Bits) ℓ) : Prop :=
  True

def Pre_DactOutIdeal (m : (ℓ : Loc Cert.DactOutIdeal.nD Cert.DactOutIdeal.τ Cert.DactOutIdeal.sig) → Buf (Elt Ideal) ℓ) : Prop :=
  True

def Pre_DactOutRefIdeal (m : (ℓ : Loc Cert.DactOutRefIdeal.nD Cert.DactOutRefIdeal.τ Cert.DactOutRefIdeal.sig) → Buf (Elt Ideal) ℓ) : Prop :=
  True

def Pre_DactIn (m : (ℓ : Loc Cert.DactIn.nD Cert.DactIn.τ Cert.DactIn.sig) → Buf (Elt Bits) ℓ) : Prop :=
  True

def Pre_DactInIdeal (m : (ℓ : Loc Cert.DactInIdeal.nD Cert.DactInIdeal.τ Cert.DactInIdeal.sig) → Buf (Elt Ideal) ℓ) : Prop :=
  True

def Pre_DactInRefIdeal (m : (ℓ : Loc Cert.DactInRefIdeal.nD Cert.DactInRefIdeal.τ Cert.DactInRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_DwSharded (m : (ℓ : Loc Cert.DwSharded.nD Cert.DwSharded.τ Cert.DwSharded.sig) → Buf (Elt Bits) ℓ) : Prop :=
  True

def Pre_DwShardedIdeal (m : (ℓ : Loc Cert.DwShardedIdeal.nD Cert.DwShardedIdeal.τ Cert.DwShardedIdeal.sig) → Buf (Elt Ideal) ℓ) : Prop :=
  True

def Pre_DwShardedRefIdeal (m : (ℓ : Loc Cert.DwShardedRefIdeal.nD Cert.DwShardedRefIdeal.τ Cert.DwShardedRefIdeal.sig) → Buf (Elt Ideal) ℓ) : Prop :=
  True

def Pre_DwGrouped (m : (ℓ : Loc Cert.DwGrouped.nD Cert.DwGrouped.τ Cert.DwGrouped.sig) → Buf (Elt Bits) ℓ) : Prop :=
  True

def Pre_DwGroupedIdeal (m : (ℓ : Loc Cert.DwGroupedIdeal.nD Cert.DwGroupedIdeal.τ Cert.DwGroupedIdeal.sig) → Buf (Elt Ideal) ℓ) : Prop :=
  True

def Pre_DwGroupedRefIdeal (m : (ℓ : Loc Cert.DwGroupedRefIdeal.nD Cert.DwGroupedRefIdeal.τ Cert.DwGroupedRefIdeal.sig) → Buf (Elt Ideal) ℓ) : Prop :=
  True

def Pre_SmallAdamw (m : (ℓ : Loc Cert.SmallAdamw.nD Cert.SmallAdamw.τ Cert.SmallAdamw.sig) → Buf (Elt Bits) ℓ) : Prop :=
  True

def Pre_SmallAdamwIdeal (m : (ℓ : Loc Cert.SmallAdamwIdeal.nD Cert.SmallAdamwIdeal.τ Cert.SmallAdamwIdeal.sig) → Buf (Elt Ideal) ℓ) : Prop :=
  True

def Pre_SmallAdamwRefIdeal (m : (ℓ : Loc Cert.SmallAdamwRefIdeal.nD Cert.SmallAdamwRefIdeal.τ Cert.SmallAdamwRefIdeal.sig) → Buf (Elt Ideal) ℓ) : Prop :=
  True

def Pre_DwClass [hPre_class_is_a_core : Cert.Pre_class_is_a_core.Facts] (m : (ℓ : Loc Cert.DwClass.nD Cert.DwClass.τ Cert.DwClass.sig) → Buf (Elt Bits) ℓ) : Prop :=
  ∀ c : Dev Cert.DwClass.nD,
    (Cert.Pre_class_is_a_core.fn (F := Bits) (m ((c.tc : Thread Cert.DwClass.nD Cert.DwClass.τ).loc Cert.DwClass.main_arg0)) (m ((c.tc : Thread Cert.DwClass.nD Cert.DwClass.τ).loc Cert.DwClass.main_arg1)) (m ((c.tc : Thread Cert.DwClass.nD Cert.DwClass.τ).loc Cert.DwClass.main_arg2))) = (fun _ => 1#1)

def Pre_DwClassIdeal [hPre_class_is_a_core : Cert.Pre_class_is_a_core.Facts] (m : (ℓ : Loc Cert.DwClassIdeal.nD Cert.DwClassIdeal.τ Cert.DwClassIdeal.sig) → Buf (Elt Ideal) ℓ) : Prop :=
  ∀ c : Dev Cert.DwClassIdeal.nD,
    (Cert.Pre_class_is_a_core.fn (F := Ideal) (m ((c.tc : Thread Cert.DwClassIdeal.nD Cert.DwClassIdeal.τ).loc Cert.DwClassIdeal.main_arg0)) (m ((c.tc : Thread Cert.DwClassIdeal.nD Cert.DwClassIdeal.τ).loc Cert.DwClassIdeal.main_arg1)) (m ((c.tc : Thread Cert.DwClassIdeal.nD Cert.DwClassIdeal.τ).loc Cert.DwClassIdeal.main_arg2))) = (fun _ => 1#1)

def Pre_DwClassRefIdeal (m : (ℓ : Loc Cert.DwClassRefIdeal.nD Cert.DwClassRefIdeal.τ Cert.DwClassRefIdeal.sig) → Buf (Elt Ideal) ℓ) : Prop :=
  True

def Pre_DwClassRefIdeal_class_is_a_core [hPre_class_is_a_core : Cert.Pre_class_is_a_core.Facts] (m : (ℓ : Loc Cert.DwClassRefIdeal.nD Cert.DwClassRefIdeal.τ Cert.DwClassRefIdeal.sig) → Buf (Elt Ideal) ℓ) : Prop :=
  ∀ c : Dev Cert.DwClassRefIdeal.nD,
    (Cert.Pre_class_is_a_core.fn (F := Ideal) (m ((c.tc : Thread Cert.DwClassRefIdeal.nD Cert.DwClassRefIdeal.τ).loc Cert.DwClassRefIdeal.main_arg0)) (m ((c.tc : Thread Cert.DwClassRefIdeal.nD Cert.DwClassRefIdeal.τ).loc Cert.DwClassRefIdeal.main_arg1)) (m ((c.tc : Thread Cert.DwClassRefIdeal.nD Cert.DwClassRefIdeal.τ).loc Cert.DwClassRefIdeal.main_arg2))) = (fun _ => 1#1)

def Pre_ReduceAdamw [hPre_class_chip_in_mesh : Cert.Pre_class_chip_in_mesh.Facts] (m : (ℓ : Loc Cert.ReduceAdamw.nD Cert.ReduceAdamw.τ Cert.ReduceAdamw.sig) → Buf (Elt Bits) ℓ) : Prop :=
  ∀ c : Dev Cert.ReduceAdamw.nD,
    (Cert.Pre_class_chip_in_mesh.fn (F := Bits) (m ((c.tc : Thread Cert.ReduceAdamw.nD Cert.ReduceAdamw.τ).loc Cert.ReduceAdamw.main_arg0)) (m ((c.tc : Thread Cert.ReduceAdamw.nD Cert.ReduceAdamw.τ).loc Cert.ReduceAdamw.main_arg1)) (m ((c.tc : Thread Cert.ReduceAdamw.nD Cert.ReduceAdamw.τ).loc Cert.ReduceAdamw.main_arg2)) (m ((c.tc : Thread Cert.ReduceAdamw.nD Cert.ReduceAdamw.τ).loc Cert.ReduceAdamw.main_arg3)) (m ((c.tc : Thread Cert.ReduceAdamw.nD Cert.ReduceAdamw.τ).loc Cert.ReduceAdamw.main_arg4)) (m ((c.tc : Thread Cert.ReduceAdamw.nD Cert.ReduceAdamw.τ).loc Cert.ReduceAdamw.main_arg5)) (m ((c.tc : Thread Cert.ReduceAdamw.nD Cert.ReduceAdamw.τ).loc Cert.ReduceAdamw.main_arg6))) = (fun _ => 1#1)

def Pre_ReduceAdamwIdeal [hPre_class_chip_in_mesh : Cert.Pre_class_chip_in_mesh.Facts] (m : (ℓ : Loc Cert.ReduceAdamwIdeal.nD Cert.ReduceAdamwIdeal.τ Cert.ReduceAdamwIdeal.sig) → Buf (Elt Ideal) ℓ) : Prop :=
  ∀ c : Dev Cert.ReduceAdamwIdeal.nD,
    (Cert.Pre_class_chip_in_mesh.fn (F := Ideal) (m ((c.tc : Thread Cert.ReduceAdamwIdeal.nD Cert.ReduceAdamwIdeal.τ).loc Cert.ReduceAdamwIdeal.main_arg0)) (m ((c.tc : Thread Cert.ReduceAdamwIdeal.nD Cert.ReduceAdamwIdeal.τ).loc Cert.ReduceAdamwIdeal.main_arg1)) (m ((c.tc : Thread Cert.ReduceAdamwIdeal.nD Cert.ReduceAdamwIdeal.τ).loc Cert.ReduceAdamwIdeal.main_arg2)) (m ((c.tc : Thread Cert.ReduceAdamwIdeal.nD Cert.ReduceAdamwIdeal.τ).loc Cert.ReduceAdamwIdeal.main_arg3)) (m ((c.tc : Thread Cert.ReduceAdamwIdeal.nD Cert.ReduceAdamwIdeal.τ).loc Cert.ReduceAdamwIdeal.main_arg4)) (m ((c.tc : Thread Cert.ReduceAdamwIdeal.nD Cert.ReduceAdamwIdeal.τ).loc Cert.ReduceAdamwIdeal.main_arg5)) (m ((c.tc : Thread Cert.ReduceAdamwIdeal.nD Cert.ReduceAdamwIdeal.τ).loc Cert.ReduceAdamwIdeal.main_arg6))) = (fun _ => 1#1)

def Pre_ReduceAdamwRefIdeal (m : (ℓ : Loc Cert.ReduceAdamwRefIdeal.nD Cert.ReduceAdamwRefIdeal.τ Cert.ReduceAdamwRefIdeal.sig) → Buf (Elt Ideal) ℓ) : Prop :=
  True

def Pre_ReduceAdamwRefIdeal_class_chip_in_mesh [hPre_class_chip_in_mesh : Cert.Pre_class_chip_in_mesh.Facts] (m : (ℓ : Loc Cert.ReduceAdamwRefIdeal.nD Cert.ReduceAdamwRefIdeal.τ Cert.ReduceAdamwRefIdeal.sig) → Buf (Elt Ideal) ℓ) : Prop :=
  ∀ c : Dev Cert.ReduceAdamwRefIdeal.nD,
    (Cert.Pre_class_chip_in_mesh.fn (F := Ideal) (m ((c.tc : Thread Cert.ReduceAdamwRefIdeal.nD Cert.ReduceAdamwRefIdeal.τ).loc Cert.ReduceAdamwRefIdeal.main_arg0)) (m ((c.tc : Thread Cert.ReduceAdamwRefIdeal.nD Cert.ReduceAdamwRefIdeal.τ).loc Cert.ReduceAdamwRefIdeal.main_arg1)) (m ((c.tc : Thread Cert.ReduceAdamwRefIdeal.nD Cert.ReduceAdamwRefIdeal.τ).loc Cert.ReduceAdamwRefIdeal.main_arg2)) (m ((c.tc : Thread Cert.ReduceAdamwRefIdeal.nD Cert.ReduceAdamwRefIdeal.τ).loc Cert.ReduceAdamwRefIdeal.main_arg3)) (m ((c.tc : Thread Cert.ReduceAdamwRefIdeal.nD Cert.ReduceAdamwRefIdeal.τ).loc Cert.ReduceAdamwRefIdeal.main_arg4)) (m ((c.tc : Thread Cert.ReduceAdamwRefIdeal.nD Cert.ReduceAdamwRefIdeal.τ).loc Cert.ReduceAdamwRefIdeal.main_arg5)) (m ((c.tc : Thread Cert.ReduceAdamwRefIdeal.nD Cert.ReduceAdamwRefIdeal.τ).loc Cert.ReduceAdamwRefIdeal.main_arg6))) = (fun _ => 1#1)

def Pre_ChipSums [hPre_class_chips_in_mesh : Cert.Pre_class_chips_in_mesh.Facts] (m : (ℓ : Loc Cert.ChipSums.nD Cert.ChipSums.τ Cert.ChipSums.sig) → Buf (Elt Bits) ℓ) : Prop :=
  ∀ c : Dev Cert.ChipSums.nD,
    (Cert.Pre_class_chips_in_mesh.fn (F := Bits) (m ((c.tc : Thread Cert.ChipSums.nD Cert.ChipSums.τ).loc Cert.ChipSums.main_arg0)) (m ((c.tc : Thread Cert.ChipSums.nD Cert.ChipSums.τ).loc Cert.ChipSums.main_arg1)) (m ((c.tc : Thread Cert.ChipSums.nD Cert.ChipSums.τ).loc Cert.ChipSums.main_arg2))) = (fun _ => 1#1)

def Pre_ChipSumsIdeal [hPre_class_chips_in_mesh : Cert.Pre_class_chips_in_mesh.Facts] (m : (ℓ : Loc Cert.ChipSumsIdeal.nD Cert.ChipSumsIdeal.τ Cert.ChipSumsIdeal.sig) → Buf (Elt Ideal) ℓ) : Prop :=
  ∀ c : Dev Cert.ChipSumsIdeal.nD,
    (Cert.Pre_class_chips_in_mesh.fn (F := Ideal) (m ((c.tc : Thread Cert.ChipSumsIdeal.nD Cert.ChipSumsIdeal.τ).loc Cert.ChipSumsIdeal.main_arg0)) (m ((c.tc : Thread Cert.ChipSumsIdeal.nD Cert.ChipSumsIdeal.τ).loc Cert.ChipSumsIdeal.main_arg1)) (m ((c.tc : Thread Cert.ChipSumsIdeal.nD Cert.ChipSumsIdeal.τ).loc Cert.ChipSumsIdeal.main_arg2))) = (fun _ => 1#1)

def Pre_ChipSumsRefIdeal (m : (ℓ : Loc Cert.ChipSumsRefIdeal.nD Cert.ChipSumsRefIdeal.τ Cert.ChipSumsRefIdeal.sig) → Buf (Elt Ideal) ℓ) : Prop :=
  True

def Pre_ChipSumsRefIdeal_class_chips_in_mesh [hPre_class_chips_in_mesh : Cert.Pre_class_chips_in_mesh.Facts] (m : (ℓ : Loc Cert.ChipSumsRefIdeal.nD Cert.ChipSumsRefIdeal.τ Cert.ChipSumsRefIdeal.sig) → Buf (Elt Ideal) ℓ) : Prop :=
  ∀ c : Dev Cert.ChipSumsRefIdeal.nD,
    (Cert.Pre_class_chips_in_mesh.fn (F := Ideal) (m ((c.tc : Thread Cert.ChipSumsRefIdeal.nD Cert.ChipSumsRefIdeal.τ).loc Cert.ChipSumsRefIdeal.main_arg0)) (m ((c.tc : Thread Cert.ChipSumsRefIdeal.nD Cert.ChipSumsRefIdeal.τ).loc Cert.ChipSumsRefIdeal.main_arg1)) (m ((c.tc : Thread Cert.ChipSumsRefIdeal.nD Cert.ChipSumsRefIdeal.τ).loc Cert.ChipSumsRefIdeal.main_arg2))) = (fun _ => 1#1)

def quiescent_NormFirst [hNormFirst : Cert.NormFirst.Facts] : Prop :=
  ∀ (m : (ℓ : Loc Cert.NormFirst.nD Cert.NormFirst.τ Cert.NormFirst.sig) → Buf (Elt Bits) ℓ) (g : Dev Cert.NormFirst.nD → PrngReg), Pre_NormFirst m →
    θ_run (Cert.NormFirst.defs (F := Bits)) (onTc (τ := Cert.NormFirst.τ) (Cert.NormFirst.main (F := Bits))) ⟨m, fun _ => 0, g⟩ (fun r => (∀ c : Dev Cert.NormFirst.nD,
      r.2.mem ((c.tc : Thread Cert.NormFirst.nD Cert.NormFirst.τ).loc Cert.NormFirst.main_arg0) = m ((c.tc : Thread Cert.NormFirst.nD Cert.NormFirst.τ).loc Cert.NormFirst.main_arg0)
      ∧ r.2.mem ((c.tc : Thread Cert.NormFirst.nD Cert.NormFirst.τ).loc Cert.NormFirst.main_arg1) = m ((c.tc : Thread Cert.NormFirst.nD Cert.NormFirst.τ).loc Cert.NormFirst.main_arg1)
      ∧ r.2.mem ((c.tc : Thread Cert.NormFirst.nD Cert.NormFirst.τ).loc Cert.NormFirst.main_arg2) = m ((c.tc : Thread Cert.NormFirst.nD Cert.NormFirst.τ).loc Cert.NormFirst.main_arg2)
      ∧ r.2.mem ((c.tc : Thread Cert.NormFirst.nD Cert.NormFirst.τ).loc Cert.NormFirst.main_arg3) = m ((c.tc : Thread Cert.NormFirst.nD Cert.NormFirst.τ).loc Cert.NormFirst.main_arg3))
      ∧ r.2.sem = fun _ => 0)

def quiescent_NormFirstIdeal [hNormFirstIdeal : Cert.NormFirstIdeal.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ r.2.sem = fun _ => 0)

def quiescent_NormFirstIdeal_pre_norm_first_finite [hNormFirstIdeal : Cert.NormFirstIdeal.Facts] [hPre_norm_first_finite : Cert.Pre_norm_first_finite.Facts] : Prop :=
  ∀ (m : (ℓ : Loc Cert.NormFirstIdeal.nD Cert.NormFirstIdeal.τ Cert.NormFirstIdeal.sig) → Buf (Elt Ideal) ℓ) (g : Dev Cert.NormFirstIdeal.nD → PrngReg), Pre_NormFirstIdeal_norm_first_finite m →
    θ_run (Cert.NormFirstIdeal.defs (F := Ideal)) (onTc (τ := Cert.NormFirstIdeal.τ) (Cert.NormFirstIdeal.main (F := Ideal))) ⟨m, fun _ => 0, g⟩ (fun r => (∀ c : Dev Cert.NormFirstIdeal.nD,
      r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
      ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
      ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
      ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ r.2.sem = fun _ => 0)

def quiescent_NormFirstRefIdeal [hNormFirstRefIdeal : Cert.NormFirstRefIdeal.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3))
      ∧ r.2.sem = fun _ => 0)

def quiescent_NormFirstRefIdeal_pre_norm_first_finite [hNormFirstRefIdeal : Cert.NormFirstRefIdeal.Facts] [hPre_norm_first_finite : Cert.Pre_norm_first_finite.Facts] : Prop :=
  ∀ (m : (ℓ : Loc Cert.NormFirstRefIdeal.nD Cert.NormFirstRefIdeal.τ Cert.NormFirstRefIdeal.sig) → Buf (Elt Ideal) ℓ) (g : Dev Cert.NormFirstRefIdeal.nD → PrngReg), Pre_NormFirstRefIdeal_norm_first_finite m →
    θ_run (Cert.NormFirstRefIdeal.defs (F := Ideal)) (onTc (τ := Cert.NormFirstRefIdeal.τ) (Cert.NormFirstRefIdeal.main (F := Ideal))) ⟨m, fun _ => 0, g⟩ (fun r => (∀ c : Dev Cert.NormFirstRefIdeal.nD,
      r.2.mem ((c.tc : Thread Cert.NormFirstRefIdeal.nD Cert.NormFirstRefIdeal.τ).loc Cert.NormFirstRefIdeal.main_arg0) = m ((c.tc : Thread Cert.NormFirstRefIdeal.nD Cert.NormFirstRefIdeal.τ).loc Cert.NormFirstRefIdeal.main_arg0)
      ∧ r.2.mem ((c.tc : Thread Cert.NormFirstRefIdeal.nD Cert.NormFirstRefIdeal.τ).loc Cert.NormFirstRefIdeal.main_arg1) = m ((c.tc : Thread Cert.NormFirstRefIdeal.nD Cert.NormFirstRefIdeal.τ).loc Cert.NormFirstRefIdeal.main_arg1)
      ∧ r.2.mem ((c.tc : Thread Cert.NormFirstRefIdeal.nD Cert.NormFirstRefIdeal.τ).loc Cert.NormFirstRefIdeal.main_arg2) = m ((c.tc : Thread Cert.NormFirstRefIdeal.nD Cert.NormFirstRefIdeal.τ).loc Cert.NormFirstRefIdeal.main_arg2)
      ∧ r.2.mem ((c.tc : Thread Cert.NormFirstRefIdeal.nD Cert.NormFirstRefIdeal.τ).loc Cert.NormFirstRefIdeal.main_arg3) = m ((c.tc : Thread Cert.NormFirstRefIdeal.nD Cert.NormFirstRefIdeal.τ).loc Cert.NormFirstRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadIdeal_pre_loss_head_finite [hLossHeadIdeal : Cert.LossHeadIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_LossHeadRefIdeal_pre_loss_head_finite [hLossHeadRefIdeal : Cert.LossHeadRefIdeal.Facts] [hPre_loss_head_finite : Cert.Pre_loss_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_GateA [hGateA : Cert.GateA.Facts] : Prop :=
  ∀ (m : (ℓ : Loc Cert.GateA.nD Cert.GateA.τ Cert.GateA.sig) → Buf (Elt Bits) ℓ) (g : Dev Cert.GateA.nD → PrngReg), Pre_GateA m →
    θ_run (Cert.GateA.defs (F := Bits)) (onTc (τ := Cert.GateA.τ) (Cert.GateA.main (F := Bits))) ⟨m, fun _ => 0, g⟩ (fun r => (∀ c : Dev Cert.GateA.nD,
      r.2.mem ((c.tc : Thread Cert.GateA.nD Cert.GateA.τ).loc Cert.GateA.main_arg0) = m ((c.tc : Thread Cert.GateA.nD Cert.GateA.τ).loc Cert.GateA.main_arg0)
      ∧ r.2.mem ((c.tc : Thread Cert.GateA.nD Cert.GateA.τ).loc Cert.GateA.main_arg1) = m ((c.tc : Thread Cert.GateA.nD Cert.GateA.τ).loc Cert.GateA.main_arg1)
      ∧ r.2.mem ((c.tc : Thread Cert.GateA.nD Cert.GateA.τ).loc Cert.GateA.main_arg2) = m ((c.tc : Thread Cert.GateA.nD Cert.GateA.τ).loc Cert.GateA.main_arg2)
      ∧ r.2.mem ((c.tc : Thread Cert.GateA.nD Cert.GateA.τ).loc Cert.GateA.main_arg3) = m ((c.tc : Thread Cert.GateA.nD Cert.GateA.τ).loc Cert.GateA.main_arg3)
      ∧ r.2.mem ((c.tc : Thread Cert.GateA.nD Cert.GateA.τ).loc Cert.GateA.main_arg4) = m ((c.tc : Thread Cert.GateA.nD Cert.GateA.τ).loc Cert.GateA.main_arg4)
      ∧ r.2.mem ((c.tc : Thread Cert.GateA.nD Cert.GateA.τ).loc Cert.GateA.main_arg5) = m ((c.tc : Thread Cert.GateA.nD Cert.GateA.τ).loc Cert.GateA.main_arg5))
      ∧ r.2.sem = fun _ => 0)

def quiescent_GateAIdeal [hGateAIdeal : Cert.GateAIdeal.Facts] : Prop :=
  ∀ (m : (ℓ : Loc Cert.GateAIdeal.nD Cert.GateAIdeal.τ Cert.GateAIdeal.sig) → Buf (Elt Ideal) ℓ) (g : Dev Cert.GateAIdeal.nD → PrngReg), Pre_GateAIdeal m →
    θ_run (Cert.GateAIdeal.defs (F := Ideal)) (onTc (τ := Cert.GateAIdeal.τ) (Cert.GateAIdeal.main (F := Ideal))) ⟨m, fun _ => 0, g⟩ (fun r => (∀ c : Dev Cert.GateAIdeal.nD,
      r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
      ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1)
      ∧ r.2.mem ((c.tc : Thread Cert.GateAIdeal.nD Cert.GateAIdeal.τ).loc Cert.GateAIdeal.main_arg2) = m ((c.tc : Thread Cert.GateAIdeal.nD Cert.GateAIdeal.τ).loc Cert.GateAIdeal.main_arg2)
      ∧ r.2.mem ((c.tc : Thread Cert.GateAIdeal.nD Cert.GateAIdeal.τ).loc Cert.GateAIdeal.main_arg3) = m ((c.tc : Thread Cert.GateAIdeal.nD Cert.GateAIdeal.τ).loc Cert.GateAIdeal.main_arg3)
      ∧ r.2.mem ((c.tc : Thread Cert.GateAIdeal.nD Cert.GateAIdeal.τ).loc Cert.GateAIdeal.main_arg4) = m ((c.tc : Thread Cert.GateAIdeal.nD Cert.GateAIdeal.τ).loc Cert.GateAIdeal.main_arg4)
      ∧ r.2.mem ((c.tc : Thread Cert.GateAIdeal.nD Cert.GateAIdeal.τ).loc Cert.GateAIdeal.main_arg5) = m ((c.tc : Thread Cert.GateAIdeal.nD Cert.GateAIdeal.τ).loc Cert.GateAIdeal.main_arg5))
      ∧ r.2.sem = fun _ => 0)

def quiescent_GateAIdeal_pre_gate_a_finite [hGateAIdeal : Cert.GateAIdeal.Facts] [hPre_gate_a_finite : Cert.Pre_gate_a_finite.Facts] : Prop :=
  ∀ (m : (ℓ : Loc Cert.GateAIdeal.nD Cert.GateAIdeal.τ Cert.GateAIdeal.sig) → Buf (Elt Ideal) ℓ) (g : Dev Cert.GateAIdeal.nD → PrngReg), Pre_GateAIdeal_gate_a_finite m →
    θ_run (Cert.GateAIdeal.defs (F := Ideal)) (onTc (τ := Cert.GateAIdeal.τ) (Cert.GateAIdeal.main (F := Ideal))) ⟨m, fun _ => 0, g⟩ (fun r => (∀ c : Dev Cert.GateAIdeal.nD,
      r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
      ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1)
      ∧ r.2.mem ((c.tc : Thread Cert.GateAIdeal.nD Cert.GateAIdeal.τ).loc Cert.GateAIdeal.main_arg2) = m ((c.tc : Thread Cert.GateAIdeal.nD Cert.GateAIdeal.τ).loc Cert.GateAIdeal.main_arg2)
      ∧ r.2.mem ((c.tc : Thread Cert.GateAIdeal.nD Cert.GateAIdeal.τ).loc Cert.GateAIdeal.main_arg3) = m ((c.tc : Thread Cert.GateAIdeal.nD Cert.GateAIdeal.τ).loc Cert.GateAIdeal.main_arg3)
      ∧ r.2.mem ((c.tc : Thread Cert.GateAIdeal.nD Cert.GateAIdeal.τ).loc Cert.GateAIdeal.main_arg4) = m ((c.tc : Thread Cert.GateAIdeal.nD Cert.GateAIdeal.τ).loc Cert.GateAIdeal.main_arg4)
      ∧ r.2.mem ((c.tc : Thread Cert.GateAIdeal.nD Cert.GateAIdeal.τ).loc Cert.GateAIdeal.main_arg5) = m ((c.tc : Thread Cert.GateAIdeal.nD Cert.GateAIdeal.τ).loc Cert.GateAIdeal.main_arg5))
      ∧ r.2.sem = fun _ => 0)

def quiescent_GateARefIdeal [hGateARefIdeal : Cert.GateARefIdeal.Facts] : Prop :=
  ∀ (m : (ℓ : Loc Cert.GateARefIdeal.nD Cert.GateARefIdeal.τ Cert.GateARefIdeal.sig) → Buf (Elt Ideal) ℓ) (g : Dev Cert.GateARefIdeal.nD → PrngReg), Pre_GateARefIdeal m →
    θ_run (Cert.GateARefIdeal.defs (F := Ideal)) (onTc (τ := Cert.GateARefIdeal.τ) (Cert.GateARefIdeal.main (F := Ideal))) ⟨m, fun _ => 0, g⟩ (fun r => (∀ c : Dev Cert.GateARefIdeal.nD,
      r.2.mem ((c.tc : Thread Cert.GateARefIdeal.nD Cert.GateARefIdeal.τ).loc Cert.GateARefIdeal.main_arg0) = m ((c.tc : Thread Cert.GateARefIdeal.nD Cert.GateARefIdeal.τ).loc Cert.GateARefIdeal.main_arg0)
      ∧ r.2.mem ((c.tc : Thread Cert.GateARefIdeal.nD Cert.GateARefIdeal.τ).loc Cert.GateARefIdeal.main_arg1) = m ((c.tc : Thread Cert.GateARefIdeal.nD Cert.GateARefIdeal.τ).loc Cert.GateARefIdeal.main_arg1)
      ∧ r.2.mem ((c.tc : Thread Cert.GateARefIdeal.nD Cert.GateARefIdeal.τ).loc Cert.GateARefIdeal.main_arg2) = m ((c.tc : Thread Cert.GateARefIdeal.nD Cert.GateARefIdeal.τ).loc Cert.GateARefIdeal.main_arg2)
      ∧ r.2.mem ((c.tc : Thread Cert.GateARefIdeal.nD Cert.GateARefIdeal.τ).loc Cert.GateARefIdeal.main_arg3) = m ((c.tc : Thread Cert.GateARefIdeal.nD Cert.GateARefIdeal.τ).loc Cert.GateARefIdeal.main_arg3)
      ∧ r.2.mem ((c.tc : Thread Cert.GateARefIdeal.nD Cert.GateARefIdeal.τ).loc Cert.GateARefIdeal.main_arg4) = m ((c.tc : Thread Cert.GateARefIdeal.nD Cert.GateARefIdeal.τ).loc Cert.GateARefIdeal.main_arg4)
      ∧ r.2.mem ((c.tc : Thread Cert.GateARefIdeal.nD Cert.GateARefIdeal.τ).loc Cert.GateARefIdeal.main_arg5) = m ((c.tc : Thread Cert.GateARefIdeal.nD Cert.GateARefIdeal.τ).loc Cert.GateARefIdeal.main_arg5))
      ∧ r.2.sem = fun _ => 0)

def quiescent_GateARefIdeal_pre_gate_a_finite [hGateARefIdeal : Cert.GateARefIdeal.Facts] [hPre_gate_a_finite : Cert.Pre_gate_a_finite.Facts] : Prop :=
  ∀ (m : (ℓ : Loc Cert.GateARefIdeal.nD Cert.GateARefIdeal.τ Cert.GateARefIdeal.sig) → Buf (Elt Ideal) ℓ) (g : Dev Cert.GateARefIdeal.nD → PrngReg), Pre_GateARefIdeal_gate_a_finite m →
    θ_run (Cert.GateARefIdeal.defs (F := Ideal)) (onTc (τ := Cert.GateARefIdeal.τ) (Cert.GateARefIdeal.main (F := Ideal))) ⟨m, fun _ => 0, g⟩ (fun r => (∀ c : Dev Cert.GateARefIdeal.nD,
      r.2.mem ((c.tc : Thread Cert.GateARefIdeal.nD Cert.GateARefIdeal.τ).loc Cert.GateARefIdeal.main_arg0) = m ((c.tc : Thread Cert.GateARefIdeal.nD Cert.GateARefIdeal.τ).loc Cert.GateARefIdeal.main_arg0)
      ∧ r.2.mem ((c.tc : Thread Cert.GateARefIdeal.nD Cert.GateARefIdeal.τ).loc Cert.GateARefIdeal.main_arg1) = m ((c.tc : Thread Cert.GateARefIdeal.nD Cert.GateARefIdeal.τ).loc Cert.GateARefIdeal.main_arg1)
      ∧ r.2.mem ((c.tc : Thread Cert.GateARefIdeal.nD Cert.GateARefIdeal.τ).loc Cert.GateARefIdeal.main_arg2) = m ((c.tc : Thread Cert.GateARefIdeal.nD Cert.GateARefIdeal.τ).loc Cert.GateARefIdeal.main_arg2)
      ∧ r.2.mem ((c.tc : Thread Cert.GateARefIdeal.nD Cert.GateARefIdeal.τ).loc Cert.GateARefIdeal.main_arg3) = m ((c.tc : Thread Cert.GateARefIdeal.nD Cert.GateARefIdeal.τ).loc Cert.GateARefIdeal.main_arg3)
      ∧ r.2.mem ((c.tc : Thread Cert.GateARefIdeal.nD Cert.GateARefIdeal.τ).loc Cert.GateARefIdeal.main_arg4) = m ((c.tc : Thread Cert.GateARefIdeal.nD Cert.GateARefIdeal.τ).loc Cert.GateARefIdeal.main_arg4)
      ∧ r.2.mem ((c.tc : Thread Cert.GateARefIdeal.nD Cert.GateARefIdeal.τ).loc Cert.GateARefIdeal.main_arg5) = m ((c.tc : Thread Cert.GateARefIdeal.nD Cert.GateARefIdeal.τ).loc Cert.GateARefIdeal.main_arg5))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2)
      ∧ r.2.mem ((c.tc : Thread Cert.GateB.nD Cert.GateB.τ).loc Cert.GateB.main_arg3) = m ((c.tc : Thread Cert.GateB.nD Cert.GateB.τ).loc Cert.GateB.main_arg3)
      ∧ r.2.mem ((c.tc : Thread Cert.GateB.nD Cert.GateB.τ).loc Cert.GateB.main_arg4) = m ((c.tc : Thread Cert.GateB.nD Cert.GateB.τ).loc Cert.GateB.main_arg4))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
      ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4))
      ∧ r.2.sem = fun _ => 0)

def quiescent_GateBIdeal_pre_gate_b_finite [hGateBIdeal : Cert.GateBIdeal.Facts] [hPre_gate_b_finite : Cert.Pre_gate_b_finite.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal_gate_b_finite m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
      ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3)
      ∧ r.2.mem ((c.tc : Thread Cert.GateBRefIdeal.nD Cert.GateBRefIdeal.τ).loc Cert.GateBRefIdeal.main_arg4) = m ((c.tc : Thread Cert.GateBRefIdeal.nD Cert.GateBRefIdeal.τ).loc Cert.GateBRefIdeal.main_arg4))
      ∧ r.2.sem = fun _ => 0)

def quiescent_GateBRefIdeal_pre_gate_b_finite [hGateBRefIdeal : Cert.GateBRefIdeal.Facts] [hPre_gate_b_finite : Cert.Pre_gate_b_finite.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal_gate_b_finite m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3)
      ∧ r.2.mem ((c.tc : Thread Cert.GateBRefIdeal.nD Cert.GateBRefIdeal.τ).loc Cert.GateBRefIdeal.main_arg4) = m ((c.tc : Thread Cert.GateBRefIdeal.nD Cert.GateBRefIdeal.τ).loc Cert.GateBRefIdeal.main_arg4))
      ∧ r.2.sem = fun _ => 0)

def quiescent_NormsMid [hNormsMid : Cert.NormsMid.Facts] : Prop :=
  ∀ (m : (ℓ : Loc Cert.NormsMid.nD Cert.NormsMid.τ Cert.NormsMid.sig) → Buf (Elt Bits) ℓ) (g : Dev Cert.NormsMid.nD → PrngReg), Pre_NormsMid m →
    θ_run (Cert.NormsMid.defs (F := Bits)) (onTc (τ := Cert.NormsMid.τ) (Cert.NormsMid.main (F := Bits))) ⟨m, fun _ => 0, g⟩ (fun r => (∀ c : Dev Cert.NormsMid.nD,
      r.2.mem ((c.tc : Thread Cert.NormsMid.nD Cert.NormsMid.τ).loc Cert.NormsMid.main_arg0) = m ((c.tc : Thread Cert.NormsMid.nD Cert.NormsMid.τ).loc Cert.NormsMid.main_arg0)
      ∧ r.2.mem ((c.tc : Thread Cert.NormsMid.nD Cert.NormsMid.τ).loc Cert.NormsMid.main_arg1) = m ((c.tc : Thread Cert.NormsMid.nD Cert.NormsMid.τ).loc Cert.NormsMid.main_arg1)
      ∧ r.2.mem ((c.tc : Thread Cert.NormsMid.nD Cert.NormsMid.τ).loc Cert.NormsMid.main_arg2) = m ((c.tc : Thread Cert.NormsMid.nD Cert.NormsMid.τ).loc Cert.NormsMid.main_arg2)
      ∧ r.2.mem ((c.tc : Thread Cert.NormsMid.nD Cert.NormsMid.τ).loc Cert.NormsMid.main_arg3) = m ((c.tc : Thread Cert.NormsMid.nD Cert.NormsMid.τ).loc Cert.NormsMid.main_arg3)
      ∧ r.2.mem ((c.tc : Thread Cert.NormsMid.nD Cert.NormsMid.τ).loc Cert.NormsMid.main_arg4) = m ((c.tc : Thread Cert.NormsMid.nD Cert.NormsMid.τ).loc Cert.NormsMid.main_arg4)
      ∧ r.2.mem ((c.tc : Thread Cert.NormsMid.nD Cert.NormsMid.τ).loc Cert.NormsMid.main_arg5) = m ((c.tc : Thread Cert.NormsMid.nD Cert.NormsMid.τ).loc Cert.NormsMid.main_arg5))
      ∧ r.2.sem = fun _ => 0)

def quiescent_NormsMidIdeal [hNormsMidIdeal : Cert.NormsMidIdeal.Facts] : Prop :=
  ∀ (m : (ℓ : Loc Cert.NormsMidIdeal.nD Cert.NormsMidIdeal.τ Cert.NormsMidIdeal.sig) → Buf (Elt Ideal) ℓ) (g : Dev Cert.NormsMidIdeal.nD → PrngReg), Pre_NormsMidIdeal m →
    θ_run (Cert.NormsMidIdeal.defs (F := Ideal)) (onTc (τ := Cert.NormsMidIdeal.τ) (Cert.NormsMidIdeal.main (F := Ideal))) ⟨m, fun _ => 0, g⟩ (fun r => (∀ c : Dev Cert.NormsMidIdeal.nD,
      r.2.mem ((c.tc : Thread Cert.NormsMidIdeal.nD Cert.NormsMidIdeal.τ).loc Cert.NormsMidIdeal.main_arg0) = m ((c.tc : Thread Cert.NormsMidIdeal.nD Cert.NormsMidIdeal.τ).loc Cert.NormsMidIdeal.main_arg0)
      ∧ r.2.mem ((c.tc : Thread Cert.NormsMidIdeal.nD Cert.NormsMidIdeal.τ).loc Cert.NormsMidIdeal.main_arg1) = m ((c.tc : Thread Cert.NormsMidIdeal.nD Cert.NormsMidIdeal.τ).loc Cert.NormsMidIdeal.main_arg1)
      ∧ r.2.mem ((c.tc : Thread Cert.NormsMidIdeal.nD Cert.NormsMidIdeal.τ).loc Cert.NormsMidIdeal.main_arg2) = m ((c.tc : Thread Cert.NormsMidIdeal.nD Cert.NormsMidIdeal.τ).loc Cert.NormsMidIdeal.main_arg2)
      ∧ r.2.mem ((c.tc : Thread Cert.NormsMidIdeal.nD Cert.NormsMidIdeal.τ).loc Cert.NormsMidIdeal.main_arg3) = m ((c.tc : Thread Cert.NormsMidIdeal.nD Cert.NormsMidIdeal.τ).loc Cert.NormsMidIdeal.main_arg3)
      ∧ r.2.mem ((c.tc : Thread Cert.NormsMidIdeal.nD Cert.NormsMidIdeal.τ).loc Cert.NormsMidIdeal.main_arg4) = m ((c.tc : Thread Cert.NormsMidIdeal.nD Cert.NormsMidIdeal.τ).loc Cert.NormsMidIdeal.main_arg4)
      ∧ r.2.mem ((c.tc : Thread Cert.NormsMidIdeal.nD Cert.NormsMidIdeal.τ).loc Cert.NormsMidIdeal.main_arg5) = m ((c.tc : Thread Cert.NormsMidIdeal.nD Cert.NormsMidIdeal.τ).loc Cert.NormsMidIdeal.main_arg5))
      ∧ r.2.sem = fun _ => 0)

def quiescent_NormsMidIdeal_pre_norms_mid_finite [hNormsMidIdeal : Cert.NormsMidIdeal.Facts] [hPre_norms_mid_finite : Cert.Pre_norms_mid_finite.Facts] : Prop :=
  ∀ (m : (ℓ : Loc Cert.NormsMidIdeal.nD Cert.NormsMidIdeal.τ Cert.NormsMidIdeal.sig) → Buf (Elt Ideal) ℓ) (g : Dev Cert.NormsMidIdeal.nD → PrngReg), Pre_NormsMidIdeal_norms_mid_finite m →
    θ_run (Cert.NormsMidIdeal.defs (F := Ideal)) (onTc (τ := Cert.NormsMidIdeal.τ) (Cert.NormsMidIdeal.main (F := Ideal))) ⟨m, fun _ => 0, g⟩ (fun r => (∀ c : Dev Cert.NormsMidIdeal.nD,
      r.2.mem ((c.tc : Thread Cert.NormsMidIdeal.nD Cert.NormsMidIdeal.τ).loc Cert.NormsMidIdeal.main_arg0) = m ((c.tc : Thread Cert.NormsMidIdeal.nD Cert.NormsMidIdeal.τ).loc Cert.NormsMidIdeal.main_arg0)
      ∧ r.2.mem ((c.tc : Thread Cert.NormsMidIdeal.nD Cert.NormsMidIdeal.τ).loc Cert.NormsMidIdeal.main_arg1) = m ((c.tc : Thread Cert.NormsMidIdeal.nD Cert.NormsMidIdeal.τ).loc Cert.NormsMidIdeal.main_arg1)
      ∧ r.2.mem ((c.tc : Thread Cert.NormsMidIdeal.nD Cert.NormsMidIdeal.τ).loc Cert.NormsMidIdeal.main_arg2) = m ((c.tc : Thread Cert.NormsMidIdeal.nD Cert.NormsMidIdeal.τ).loc Cert.NormsMidIdeal.main_arg2)
      ∧ r.2.mem ((c.tc : Thread Cert.NormsMidIdeal.nD Cert.NormsMidIdeal.τ).loc Cert.NormsMidIdeal.main_arg3) = m ((c.tc : Thread Cert.NormsMidIdeal.nD Cert.NormsMidIdeal.τ).loc Cert.NormsMidIdeal.main_arg3)
      ∧ r.2.mem ((c.tc : Thread Cert.NormsMidIdeal.nD Cert.NormsMidIdeal.τ).loc Cert.NormsMidIdeal.main_arg4) = m ((c.tc : Thread Cert.NormsMidIdeal.nD Cert.NormsMidIdeal.τ).loc Cert.NormsMidIdeal.main_arg4)
      ∧ r.2.mem ((c.tc : Thread Cert.NormsMidIdeal.nD Cert.NormsMidIdeal.τ).loc Cert.NormsMidIdeal.main_arg5) = m ((c.tc : Thread Cert.NormsMidIdeal.nD Cert.NormsMidIdeal.τ).loc Cert.NormsMidIdeal.main_arg5))
      ∧ r.2.sem = fun _ => 0)

def quiescent_NormsMidRefIdeal [hNormsMidRefIdeal : Cert.NormsMidRefIdeal.Facts] : Prop :=
  ∀ (m : (ℓ : Loc Cert.NormsMidRefIdeal.nD Cert.NormsMidRefIdeal.τ Cert.NormsMidRefIdeal.sig) → Buf (Elt Ideal) ℓ) (g : Dev Cert.NormsMidRefIdeal.nD → PrngReg), Pre_NormsMidRefIdeal m →
    θ_run (Cert.NormsMidRefIdeal.defs (F := Ideal)) (onTc (τ := Cert.NormsMidRefIdeal.τ) (Cert.NormsMidRefIdeal.main (F := Ideal))) ⟨m, fun _ => 0, g⟩ (fun r => (∀ c : Dev Cert.NormsMidRefIdeal.nD,
      r.2.mem ((c.tc : Thread Cert.NormsMidRefIdeal.nD Cert.NormsMidRefIdeal.τ).loc Cert.NormsMidRefIdeal.main_arg0) = m ((c.tc : Thread Cert.NormsMidRefIdeal.nD Cert.NormsMidRefIdeal.τ).loc Cert.NormsMidRefIdeal.main_arg0)
      ∧ r.2.mem ((c.tc : Thread Cert.NormsMidRefIdeal.nD Cert.NormsMidRefIdeal.τ).loc Cert.NormsMidRefIdeal.main_arg1) = m ((c.tc : Thread Cert.NormsMidRefIdeal.nD Cert.NormsMidRefIdeal.τ).loc Cert.NormsMidRefIdeal.main_arg1)
      ∧ r.2.mem ((c.tc : Thread Cert.NormsMidRefIdeal.nD Cert.NormsMidRefIdeal.τ).loc Cert.NormsMidRefIdeal.main_arg2) = m ((c.tc : Thread Cert.NormsMidRefIdeal.nD Cert.NormsMidRefIdeal.τ).loc Cert.NormsMidRefIdeal.main_arg2)
      ∧ r.2.mem ((c.tc : Thread Cert.NormsMidRefIdeal.nD Cert.NormsMidRefIdeal.τ).loc Cert.NormsMidRefIdeal.main_arg3) = m ((c.tc : Thread Cert.NormsMidRefIdeal.nD Cert.NormsMidRefIdeal.τ).loc Cert.NormsMidRefIdeal.main_arg3)
      ∧ r.2.mem ((c.tc : Thread Cert.NormsMidRefIdeal.nD Cert.NormsMidRefIdeal.τ).loc Cert.NormsMidRefIdeal.main_arg4) = m ((c.tc : Thread Cert.NormsMidRefIdeal.nD Cert.NormsMidRefIdeal.τ).loc Cert.NormsMidRefIdeal.main_arg4)
      ∧ r.2.mem ((c.tc : Thread Cert.NormsMidRefIdeal.nD Cert.NormsMidRefIdeal.τ).loc Cert.NormsMidRefIdeal.main_arg5) = m ((c.tc : Thread Cert.NormsMidRefIdeal.nD Cert.NormsMidRefIdeal.τ).loc Cert.NormsMidRefIdeal.main_arg5))
      ∧ r.2.sem = fun _ => 0)

def quiescent_NormsMidRefIdeal_pre_norms_mid_finite [hNormsMidRefIdeal : Cert.NormsMidRefIdeal.Facts] [hPre_norms_mid_finite : Cert.Pre_norms_mid_finite.Facts] : Prop :=
  ∀ (m : (ℓ : Loc Cert.NormsMidRefIdeal.nD Cert.NormsMidRefIdeal.τ Cert.NormsMidRefIdeal.sig) → Buf (Elt Ideal) ℓ) (g : Dev Cert.NormsMidRefIdeal.nD → PrngReg), Pre_NormsMidRefIdeal_norms_mid_finite m →
    θ_run (Cert.NormsMidRefIdeal.defs (F := Ideal)) (onTc (τ := Cert.NormsMidRefIdeal.τ) (Cert.NormsMidRefIdeal.main (F := Ideal))) ⟨m, fun _ => 0, g⟩ (fun r => (∀ c : Dev Cert.NormsMidRefIdeal.nD,
      r.2.mem ((c.tc : Thread Cert.NormsMidRefIdeal.nD Cert.NormsMidRefIdeal.τ).loc Cert.NormsMidRefIdeal.main_arg0) = m ((c.tc : Thread Cert.NormsMidRefIdeal.nD Cert.NormsMidRefIdeal.τ).loc Cert.NormsMidRefIdeal.main_arg0)
      ∧ r.2.mem ((c.tc : Thread Cert.NormsMidRefIdeal.nD Cert.NormsMidRefIdeal.τ).loc Cert.NormsMidRefIdeal.main_arg1) = m ((c.tc : Thread Cert.NormsMidRefIdeal.nD Cert.NormsMidRefIdeal.τ).loc Cert.NormsMidRefIdeal.main_arg1)
      ∧ r.2.mem ((c.tc : Thread Cert.NormsMidRefIdeal.nD Cert.NormsMidRefIdeal.τ).loc Cert.NormsMidRefIdeal.main_arg2) = m ((c.tc : Thread Cert.NormsMidRefIdeal.nD Cert.NormsMidRefIdeal.τ).loc Cert.NormsMidRefIdeal.main_arg2)
      ∧ r.2.mem ((c.tc : Thread Cert.NormsMidRefIdeal.nD Cert.NormsMidRefIdeal.τ).loc Cert.NormsMidRefIdeal.main_arg3) = m ((c.tc : Thread Cert.NormsMidRefIdeal.nD Cert.NormsMidRefIdeal.τ).loc Cert.NormsMidRefIdeal.main_arg3)
      ∧ r.2.mem ((c.tc : Thread Cert.NormsMidRefIdeal.nD Cert.NormsMidRefIdeal.τ).loc Cert.NormsMidRefIdeal.main_arg4) = m ((c.tc : Thread Cert.NormsMidRefIdeal.nD Cert.NormsMidRefIdeal.τ).loc Cert.NormsMidRefIdeal.main_arg4)
      ∧ r.2.mem ((c.tc : Thread Cert.NormsMidRefIdeal.nD Cert.NormsMidRefIdeal.τ).loc Cert.NormsMidRefIdeal.main_arg5) = m ((c.tc : Thread Cert.NormsMidRefIdeal.nD Cert.NormsMidRefIdeal.τ).loc Cert.NormsMidRefIdeal.main_arg5))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1))
      ∧ r.2.sem = fun _ => 0)

def quiescent_GateAFwd [hGateAFwd : Cert.GateAFwd.Facts] : Prop :=
  ∀ (m : (ℓ : Loc Cert.GateAFwd.nD Cert.GateAFwd.τ Cert.GateAFwd.sig) → Buf (Elt Bits) ℓ) (g : Dev Cert.GateAFwd.nD → PrngReg), Pre_GateAFwd m →
    θ_run (Cert.GateAFwd.defs (F := Bits)) (onTc (τ := Cert.GateAFwd.τ) (Cert.GateAFwd.main (F := Bits))) ⟨m, fun _ => 0, g⟩ (fun r => (∀ c : Dev Cert.GateAFwd.nD,
      r.2.mem ((c.tc : Thread Cert.GateAFwd.nD Cert.GateAFwd.τ).loc Cert.GateAFwd.main_arg0) = m ((c.tc : Thread Cert.GateAFwd.nD Cert.GateAFwd.τ).loc Cert.GateAFwd.main_arg0)
      ∧ r.2.mem ((c.tc : Thread Cert.GateAFwd.nD Cert.GateAFwd.τ).loc Cert.GateAFwd.main_arg1) = m ((c.tc : Thread Cert.GateAFwd.nD Cert.GateAFwd.τ).loc Cert.GateAFwd.main_arg1)
      ∧ r.2.mem ((c.tc : Thread Cert.GateAFwd.nD Cert.GateAFwd.τ).loc Cert.GateAFwd.main_arg2) = m ((c.tc : Thread Cert.GateAFwd.nD Cert.GateAFwd.τ).loc Cert.GateAFwd.main_arg2)
      ∧ r.2.mem ((c.tc : Thread Cert.GateAFwd.nD Cert.GateAFwd.τ).loc Cert.GateAFwd.main_arg3) = m ((c.tc : Thread Cert.GateAFwd.nD Cert.GateAFwd.τ).loc Cert.GateAFwd.main_arg3)
      ∧ r.2.mem ((c.tc : Thread Cert.GateAFwd.nD Cert.GateAFwd.τ).loc Cert.GateAFwd.main_arg4) = m ((c.tc : Thread Cert.GateAFwd.nD Cert.GateAFwd.τ).loc Cert.GateAFwd.main_arg4))
      ∧ r.2.sem = fun _ => 0)

def quiescent_GateAFwdIdeal [hGateAFwdIdeal : Cert.GateAFwdIdeal.Facts] : Prop :=
  ∀ (m : (ℓ : Loc Cert.GateAFwdIdeal.nD Cert.GateAFwdIdeal.τ Cert.GateAFwdIdeal.sig) → Buf (Elt Ideal) ℓ) (g : Dev Cert.GateAFwdIdeal.nD → PrngReg), Pre_GateAFwdIdeal m →
    θ_run (Cert.GateAFwdIdeal.defs (F := Ideal)) (onTc (τ := Cert.GateAFwdIdeal.τ) (Cert.GateAFwdIdeal.main (F := Ideal))) ⟨m, fun _ => 0, g⟩ (fun r => (∀ c : Dev Cert.GateAFwdIdeal.nD,
      r.2.mem ((c.tc : Thread Cert.GateAFwdIdeal.nD Cert.GateAFwdIdeal.τ).loc Cert.GateAFwdIdeal.main_arg0) = m ((c.tc : Thread Cert.GateAFwdIdeal.nD Cert.GateAFwdIdeal.τ).loc Cert.GateAFwdIdeal.main_arg0)
      ∧ r.2.mem ((c.tc : Thread Cert.GateAFwdIdeal.nD Cert.GateAFwdIdeal.τ).loc Cert.GateAFwdIdeal.main_arg1) = m ((c.tc : Thread Cert.GateAFwdIdeal.nD Cert.GateAFwdIdeal.τ).loc Cert.GateAFwdIdeal.main_arg1)
      ∧ r.2.mem ((c.tc : Thread Cert.GateAFwdIdeal.nD Cert.GateAFwdIdeal.τ).loc Cert.GateAFwdIdeal.main_arg2) = m ((c.tc : Thread Cert.GateAFwdIdeal.nD Cert.GateAFwdIdeal.τ).loc Cert.GateAFwdIdeal.main_arg2)
      ∧ r.2.mem ((c.tc : Thread Cert.GateAFwdIdeal.nD Cert.GateAFwdIdeal.τ).loc Cert.GateAFwdIdeal.main_arg3) = m ((c.tc : Thread Cert.GateAFwdIdeal.nD Cert.GateAFwdIdeal.τ).loc Cert.GateAFwdIdeal.main_arg3)
      ∧ r.2.mem ((c.tc : Thread Cert.GateAFwdIdeal.nD Cert.GateAFwdIdeal.τ).loc Cert.GateAFwdIdeal.main_arg4) = m ((c.tc : Thread Cert.GateAFwdIdeal.nD Cert.GateAFwdIdeal.τ).loc Cert.GateAFwdIdeal.main_arg4))
      ∧ r.2.sem = fun _ => 0)

def quiescent_GateAFwdIdeal_pre_gate_a_fwd_finite [hGateAFwdIdeal : Cert.GateAFwdIdeal.Facts] [hPre_gate_a_fwd_finite : Cert.Pre_gate_a_fwd_finite.Facts] : Prop :=
  ∀ (m : (ℓ : Loc Cert.GateAFwdIdeal.nD Cert.GateAFwdIdeal.τ Cert.GateAFwdIdeal.sig) → Buf (Elt Ideal) ℓ) (g : Dev Cert.GateAFwdIdeal.nD → PrngReg), Pre_GateAFwdIdeal_gate_a_fwd_finite m →
    θ_run (Cert.GateAFwdIdeal.defs (F := Ideal)) (onTc (τ := Cert.GateAFwdIdeal.τ) (Cert.GateAFwdIdeal.main (F := Ideal))) ⟨m, fun _ => 0, g⟩ (fun r => (∀ c : Dev Cert.GateAFwdIdeal.nD,
      r.2.mem ((c.tc : Thread Cert.GateAFwdIdeal.nD Cert.GateAFwdIdeal.τ).loc Cert.GateAFwdIdeal.main_arg0) = m ((c.tc : Thread Cert.GateAFwdIdeal.nD Cert.GateAFwdIdeal.τ).loc Cert.GateAFwdIdeal.main_arg0)
      ∧ r.2.mem ((c.tc : Thread Cert.GateAFwdIdeal.nD Cert.GateAFwdIdeal.τ).loc Cert.GateAFwdIdeal.main_arg1) = m ((c.tc : Thread Cert.GateAFwdIdeal.nD Cert.GateAFwdIdeal.τ).loc Cert.GateAFwdIdeal.main_arg1)
      ∧ r.2.mem ((c.tc : Thread Cert.GateAFwdIdeal.nD Cert.GateAFwdIdeal.τ).loc Cert.GateAFwdIdeal.main_arg2) = m ((c.tc : Thread Cert.GateAFwdIdeal.nD Cert.GateAFwdIdeal.τ).loc Cert.GateAFwdIdeal.main_arg2)
      ∧ r.2.mem ((c.tc : Thread Cert.GateAFwdIdeal.nD Cert.GateAFwdIdeal.τ).loc Cert.GateAFwdIdeal.main_arg3) = m ((c.tc : Thread Cert.GateAFwdIdeal.nD Cert.GateAFwdIdeal.τ).loc Cert.GateAFwdIdeal.main_arg3)
      ∧ r.2.mem ((c.tc : Thread Cert.GateAFwdIdeal.nD Cert.GateAFwdIdeal.τ).loc Cert.GateAFwdIdeal.main_arg4) = m ((c.tc : Thread Cert.GateAFwdIdeal.nD Cert.GateAFwdIdeal.τ).loc Cert.GateAFwdIdeal.main_arg4))
      ∧ r.2.sem = fun _ => 0)

def quiescent_GateAFwdRefIdeal [hGateAFwdRefIdeal : Cert.GateAFwdRefIdeal.Facts] : Prop :=
  ∀ (m : (ℓ : Loc Cert.GateAFwdRefIdeal.nD Cert.GateAFwdRefIdeal.τ Cert.GateAFwdRefIdeal.sig) → Buf (Elt Ideal) ℓ) (g : Dev Cert.GateAFwdRefIdeal.nD → PrngReg), Pre_GateAFwdRefIdeal m →
    θ_run (Cert.GateAFwdRefIdeal.defs (F := Ideal)) (onTc (τ := Cert.GateAFwdRefIdeal.τ) (Cert.GateAFwdRefIdeal.main (F := Ideal))) ⟨m, fun _ => 0, g⟩ (fun r => (∀ c : Dev Cert.GateAFwdRefIdeal.nD,
      r.2.mem ((c.tc : Thread Cert.GateAFwdRefIdeal.nD Cert.GateAFwdRefIdeal.τ).loc Cert.GateAFwdRefIdeal.main_arg0) = m ((c.tc : Thread Cert.GateAFwdRefIdeal.nD Cert.GateAFwdRefIdeal.τ).loc Cert.GateAFwdRefIdeal.main_arg0)
      ∧ r.2.mem ((c.tc : Thread Cert.GateAFwdRefIdeal.nD Cert.GateAFwdRefIdeal.τ).loc Cert.GateAFwdRefIdeal.main_arg1) = m ((c.tc : Thread Cert.GateAFwdRefIdeal.nD Cert.GateAFwdRefIdeal.τ).loc Cert.GateAFwdRefIdeal.main_arg1)
      ∧ r.2.mem ((c.tc : Thread Cert.GateAFwdRefIdeal.nD Cert.GateAFwdRefIdeal.τ).loc Cert.GateAFwdRefIdeal.main_arg2) = m ((c.tc : Thread Cert.GateAFwdRefIdeal.nD Cert.GateAFwdRefIdeal.τ).loc Cert.GateAFwdRefIdeal.main_arg2)
      ∧ r.2.mem ((c.tc : Thread Cert.GateAFwdRefIdeal.nD Cert.GateAFwdRefIdeal.τ).loc Cert.GateAFwdRefIdeal.main_arg3) = m ((c.tc : Thread Cert.GateAFwdRefIdeal.nD Cert.GateAFwdRefIdeal.τ).loc Cert.GateAFwdRefIdeal.main_arg3)
      ∧ r.2.mem ((c.tc : Thread Cert.GateAFwdRefIdeal.nD Cert.GateAFwdRefIdeal.τ).loc Cert.GateAFwdRefIdeal.main_arg4) = m ((c.tc : Thread Cert.GateAFwdRefIdeal.nD Cert.GateAFwdRefIdeal.τ).loc Cert.GateAFwdRefIdeal.main_arg4))
      ∧ r.2.sem = fun _ => 0)

def quiescent_GateAFwdRefIdeal_pre_gate_a_fwd_finite [hGateAFwdRefIdeal : Cert.GateAFwdRefIdeal.Facts] [hPre_gate_a_fwd_finite : Cert.Pre_gate_a_fwd_finite.Facts] : Prop :=
  ∀ (m : (ℓ : Loc Cert.GateAFwdRefIdeal.nD Cert.GateAFwdRefIdeal.τ Cert.GateAFwdRefIdeal.sig) → Buf (Elt Ideal) ℓ) (g : Dev Cert.GateAFwdRefIdeal.nD → PrngReg), Pre_GateAFwdRefIdeal_gate_a_fwd_finite m →
    θ_run (Cert.GateAFwdRefIdeal.defs (F := Ideal)) (onTc (τ := Cert.GateAFwdRefIdeal.τ) (Cert.GateAFwdRefIdeal.main (F := Ideal))) ⟨m, fun _ => 0, g⟩ (fun r => (∀ c : Dev Cert.GateAFwdRefIdeal.nD,
      r.2.mem ((c.tc : Thread Cert.GateAFwdRefIdeal.nD Cert.GateAFwdRefIdeal.τ).loc Cert.GateAFwdRefIdeal.main_arg0) = m ((c.tc : Thread Cert.GateAFwdRefIdeal.nD Cert.GateAFwdRefIdeal.τ).loc Cert.GateAFwdRefIdeal.main_arg0)
      ∧ r.2.mem ((c.tc : Thread Cert.GateAFwdRefIdeal.nD Cert.GateAFwdRefIdeal.τ).loc Cert.GateAFwdRefIdeal.main_arg1) = m ((c.tc : Thread Cert.GateAFwdRefIdeal.nD Cert.GateAFwdRefIdeal.τ).loc Cert.GateAFwdRefIdeal.main_arg1)
      ∧ r.2.mem ((c.tc : Thread Cert.GateAFwdRefIdeal.nD Cert.GateAFwdRefIdeal.τ).loc Cert.GateAFwdRefIdeal.main_arg2) = m ((c.tc : Thread Cert.GateAFwdRefIdeal.nD Cert.GateAFwdRefIdeal.τ).loc Cert.GateAFwdRefIdeal.main_arg2)
      ∧ r.2.mem ((c.tc : Thread Cert.GateAFwdRefIdeal.nD Cert.GateAFwdRefIdeal.τ).loc Cert.GateAFwdRefIdeal.main_arg3) = m ((c.tc : Thread Cert.GateAFwdRefIdeal.nD Cert.GateAFwdRefIdeal.τ).loc Cert.GateAFwdRefIdeal.main_arg3)
      ∧ r.2.mem ((c.tc : Thread Cert.GateAFwdRefIdeal.nD Cert.GateAFwdRefIdeal.τ).loc Cert.GateAFwdRefIdeal.main_arg4) = m ((c.tc : Thread Cert.GateAFwdRefIdeal.nD Cert.GateAFwdRefIdeal.τ).loc Cert.GateAFwdRefIdeal.main_arg4))
      ∧ r.2.sem = fun _ => 0)

def quiescent_GateBFwd [hGateBFwd : Cert.GateBFwd.Facts] : Prop :=
  ∀ (m : (ℓ : Loc Cert.GateBFwd.nD Cert.GateBFwd.τ Cert.GateBFwd.sig) → Buf (Elt Bits) ℓ) (g : Dev Cert.GateBFwd.nD → PrngReg), Pre_GateBFwd m →
    θ_run (Cert.GateBFwd.defs (F := Bits)) (onTc (τ := Cert.GateBFwd.τ) (Cert.GateBFwd.main (F := Bits))) ⟨m, fun _ => 0, g⟩ (fun r => (∀ c : Dev Cert.GateBFwd.nD,
      r.2.mem ((c.tc : Thread Cert.GateBFwd.nD Cert.GateBFwd.τ).loc Cert.GateBFwd.main_arg0) = m ((c.tc : Thread Cert.GateBFwd.nD Cert.GateBFwd.τ).loc Cert.GateBFwd.main_arg0)
      ∧ r.2.mem ((c.tc : Thread Cert.GateBFwd.nD Cert.GateBFwd.τ).loc Cert.GateBFwd.main_arg1) = m ((c.tc : Thread Cert.GateBFwd.nD Cert.GateBFwd.τ).loc Cert.GateBFwd.main_arg1)
      ∧ r.2.mem ((c.tc : Thread Cert.GateBFwd.nD Cert.GateBFwd.τ).loc Cert.GateBFwd.main_arg2) = m ((c.tc : Thread Cert.GateBFwd.nD Cert.GateBFwd.τ).loc Cert.GateBFwd.main_arg2)
      ∧ r.2.mem ((c.tc : Thread Cert.GateBFwd.nD Cert.GateBFwd.τ).loc Cert.GateBFwd.main_arg3) = m ((c.tc : Thread Cert.GateBFwd.nD Cert.GateBFwd.τ).loc Cert.GateBFwd.main_arg3))
      ∧ r.2.sem = fun _ => 0)

def quiescent_GateBFwdIdeal [hGateBFwdIdeal : Cert.GateBFwdIdeal.Facts] : Prop :=
  ∀ (m : (ℓ : Loc Cert.GateBFwdIdeal.nD Cert.GateBFwdIdeal.τ Cert.GateBFwdIdeal.sig) → Buf (Elt Ideal) ℓ) (g : Dev Cert.GateBFwdIdeal.nD → PrngReg), Pre_GateBFwdIdeal m →
    θ_run (Cert.GateBFwdIdeal.defs (F := Ideal)) (onTc (τ := Cert.GateBFwdIdeal.τ) (Cert.GateBFwdIdeal.main (F := Ideal))) ⟨m, fun _ => 0, g⟩ (fun r => (∀ c : Dev Cert.GateBFwdIdeal.nD,
      r.2.mem ((c.tc : Thread Cert.GateBFwdIdeal.nD Cert.GateBFwdIdeal.τ).loc Cert.GateBFwdIdeal.main_arg0) = m ((c.tc : Thread Cert.GateBFwdIdeal.nD Cert.GateBFwdIdeal.τ).loc Cert.GateBFwdIdeal.main_arg0)
      ∧ r.2.mem ((c.tc : Thread Cert.GateBFwdIdeal.nD Cert.GateBFwdIdeal.τ).loc Cert.GateBFwdIdeal.main_arg1) = m ((c.tc : Thread Cert.GateBFwdIdeal.nD Cert.GateBFwdIdeal.τ).loc Cert.GateBFwdIdeal.main_arg1)
      ∧ r.2.mem ((c.tc : Thread Cert.GateBFwdIdeal.nD Cert.GateBFwdIdeal.τ).loc Cert.GateBFwdIdeal.main_arg2) = m ((c.tc : Thread Cert.GateBFwdIdeal.nD Cert.GateBFwdIdeal.τ).loc Cert.GateBFwdIdeal.main_arg2)
      ∧ r.2.mem ((c.tc : Thread Cert.GateBFwdIdeal.nD Cert.GateBFwdIdeal.τ).loc Cert.GateBFwdIdeal.main_arg3) = m ((c.tc : Thread Cert.GateBFwdIdeal.nD Cert.GateBFwdIdeal.τ).loc Cert.GateBFwdIdeal.main_arg3))
      ∧ r.2.sem = fun _ => 0)

def quiescent_GateBFwdRefIdeal [hGateBFwdRefIdeal : Cert.GateBFwdRefIdeal.Facts] : Prop :=
  ∀ (m : (ℓ : Loc Cert.GateBFwdRefIdeal.nD Cert.GateBFwdRefIdeal.τ Cert.GateBFwdRefIdeal.sig) → Buf (Elt Ideal) ℓ) (g : Dev Cert.GateBFwdRefIdeal.nD → PrngReg), Pre_GateBFwdRefIdeal m →
    θ_run (Cert.GateBFwdRefIdeal.defs (F := Ideal)) (onTc (τ := Cert.GateBFwdRefIdeal.τ) (Cert.GateBFwdRefIdeal.main (F := Ideal))) ⟨m, fun _ => 0, g⟩ (fun r => (∀ c : Dev Cert.GateBFwdRefIdeal.nD,
      r.2.mem ((c.tc : Thread Cert.GateBFwdRefIdeal.nD Cert.GateBFwdRefIdeal.τ).loc Cert.GateBFwdRefIdeal.main_arg0) = m ((c.tc : Thread Cert.GateBFwdRefIdeal.nD Cert.GateBFwdRefIdeal.τ).loc Cert.GateBFwdRefIdeal.main_arg0)
      ∧ r.2.mem ((c.tc : Thread Cert.GateBFwdRefIdeal.nD Cert.GateBFwdRefIdeal.τ).loc Cert.GateBFwdRefIdeal.main_arg1) = m ((c.tc : Thread Cert.GateBFwdRefIdeal.nD Cert.GateBFwdRefIdeal.τ).loc Cert.GateBFwdRefIdeal.main_arg1)
      ∧ r.2.mem ((c.tc : Thread Cert.GateBFwdRefIdeal.nD Cert.GateBFwdRefIdeal.τ).loc Cert.GateBFwdRefIdeal.main_arg2) = m ((c.tc : Thread Cert.GateBFwdRefIdeal.nD Cert.GateBFwdRefIdeal.τ).loc Cert.GateBFwdRefIdeal.main_arg2)
      ∧ r.2.mem ((c.tc : Thread Cert.GateBFwdRefIdeal.nD Cert.GateBFwdRefIdeal.τ).loc Cert.GateBFwdRefIdeal.main_arg3) = m ((c.tc : Thread Cert.GateBFwdRefIdeal.nD Cert.GateBFwdRefIdeal.τ).loc Cert.GateBFwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdIdeal_pre_pool_fwd_finite [hPoolFwdIdeal : Cert.PoolFwdIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal_pool_fwd_finite m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_PoolFwdRefIdeal_pre_pool_fwd_finite [hPoolFwdRefIdeal : Cert.PoolFwdRefIdeal.Facts] [hPre_pool_fwd_finite : Cert.Pre_pool_fwd_finite.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal_pool_fwd_finite m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Grouped [hGrouped : Cert.Grouped.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1))
      ∧ r.2.sem = fun _ => 0)

def quiescent_GroupedIdeal [hGroupedIdeal : Cert.GroupedIdeal.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1))
      ∧ r.2.sem = fun _ => 0)

def quiescent_GroupedRefIdeal [hGroupedRefIdeal : Cert.GroupedRefIdeal.Facts] : Prop :=
  ∀ (m : (ℓ : Loc Cert.GroupedRefIdeal.nD Cert.GroupedRefIdeal.τ Cert.GroupedRefIdeal.sig) → Buf (Elt Ideal) ℓ) (g : Dev Cert.GroupedRefIdeal.nD → PrngReg), Pre_GroupedRefIdeal m →
    θ_run (Cert.GroupedRefIdeal.defs (F := Ideal)) (onTc (τ := Cert.GroupedRefIdeal.τ) (Cert.GroupedRefIdeal.main (F := Ideal))) ⟨m, fun _ => 0, g⟩ (fun r => (∀ c : Dev Cert.GroupedRefIdeal.nD,
      r.2.mem ((c.tc : Thread Cert.GroupedRefIdeal.nD Cert.GroupedRefIdeal.τ).loc Cert.GroupedRefIdeal.main_arg0) = m ((c.tc : Thread Cert.GroupedRefIdeal.nD Cert.GroupedRefIdeal.τ).loc Cert.GroupedRefIdeal.main_arg0)
      ∧ r.2.mem ((c.tc : Thread Cert.GroupedRefIdeal.nD Cert.GroupedRefIdeal.τ).loc Cert.GroupedRefIdeal.main_arg1) = m ((c.tc : Thread Cert.GroupedRefIdeal.nD Cert.GroupedRefIdeal.τ).loc Cert.GroupedRefIdeal.main_arg1))
      ∧ r.2.sem = fun _ => 0)

def quiescent_DactOut [hDactOut : Cert.DactOut.Facts] : Prop :=
  ∀ (m : (ℓ : Loc Cert.DactOut.nD Cert.DactOut.τ Cert.DactOut.sig) → Buf (Elt Bits) ℓ) (g : Dev Cert.DactOut.nD → PrngReg), Pre_DactOut m →
    θ_run (Cert.DactOut.defs (F := Bits)) (onTc (τ := Cert.DactOut.τ) (Cert.DactOut.main (F := Bits))) ⟨m, fun _ => 0, g⟩ (fun r => (∀ c : Dev Cert.DactOut.nD,
      r.2.mem ((c.tc : Thread Cert.DactOut.nD Cert.DactOut.τ).loc Cert.DactOut.main_arg0) = m ((c.tc : Thread Cert.DactOut.nD Cert.DactOut.τ).loc Cert.DactOut.main_arg0)
      ∧ r.2.mem ((c.tc : Thread Cert.DactOut.nD Cert.DactOut.τ).loc Cert.DactOut.main_arg1) = m ((c.tc : Thread Cert.DactOut.nD Cert.DactOut.τ).loc Cert.DactOut.main_arg1))
      ∧ r.2.sem = fun _ => 0)

def quiescent_DactOutIdeal [hDactOutIdeal : Cert.DactOutIdeal.Facts] : Prop :=
  ∀ (m : (ℓ : Loc Cert.DactOutIdeal.nD Cert.DactOutIdeal.τ Cert.DactOutIdeal.sig) → Buf (Elt Ideal) ℓ) (g : Dev Cert.DactOutIdeal.nD → PrngReg), Pre_DactOutIdeal m →
    θ_run (Cert.DactOutIdeal.defs (F := Ideal)) (onTc (τ := Cert.DactOutIdeal.τ) (Cert.DactOutIdeal.main (F := Ideal))) ⟨m, fun _ => 0, g⟩ (fun r => (∀ c : Dev Cert.DactOutIdeal.nD,
      r.2.mem ((c.tc : Thread Cert.DactOutIdeal.nD Cert.DactOutIdeal.τ).loc Cert.DactOutIdeal.main_arg0) = m ((c.tc : Thread Cert.DactOutIdeal.nD Cert.DactOutIdeal.τ).loc Cert.DactOutIdeal.main_arg0)
      ∧ r.2.mem ((c.tc : Thread Cert.DactOutIdeal.nD Cert.DactOutIdeal.τ).loc Cert.DactOutIdeal.main_arg1) = m ((c.tc : Thread Cert.DactOutIdeal.nD Cert.DactOutIdeal.τ).loc Cert.DactOutIdeal.main_arg1))
      ∧ r.2.sem = fun _ => 0)

def quiescent_DactOutRefIdeal [hDactOutRefIdeal : Cert.DactOutRefIdeal.Facts] : Prop :=
  ∀ (m : (ℓ : Loc Cert.DactOutRefIdeal.nD Cert.DactOutRefIdeal.τ Cert.DactOutRefIdeal.sig) → Buf (Elt Ideal) ℓ) (g : Dev Cert.DactOutRefIdeal.nD → PrngReg), Pre_DactOutRefIdeal m →
    θ_run (Cert.DactOutRefIdeal.defs (F := Ideal)) (onTc (τ := Cert.DactOutRefIdeal.τ) (Cert.DactOutRefIdeal.main (F := Ideal))) ⟨m, fun _ => 0, g⟩ (fun r => (∀ c : Dev Cert.DactOutRefIdeal.nD,
      r.2.mem ((c.tc : Thread Cert.DactOutRefIdeal.nD Cert.DactOutRefIdeal.τ).loc Cert.DactOutRefIdeal.main_arg0) = m ((c.tc : Thread Cert.DactOutRefIdeal.nD Cert.DactOutRefIdeal.τ).loc Cert.DactOutRefIdeal.main_arg0)
      ∧ r.2.mem ((c.tc : Thread Cert.DactOutRefIdeal.nD Cert.DactOutRefIdeal.τ).loc Cert.DactOutRefIdeal.main_arg1) = m ((c.tc : Thread Cert.DactOutRefIdeal.nD Cert.DactOutRefIdeal.τ).loc Cert.DactOutRefIdeal.main_arg1))
      ∧ r.2.sem = fun _ => 0)

def quiescent_DactIn [hDactIn : Cert.DactIn.Facts] : Prop :=
  ∀ (m : (ℓ : Loc Cert.DactIn.nD Cert.DactIn.τ Cert.DactIn.sig) → Buf (Elt Bits) ℓ) (g : Dev Cert.DactIn.nD → PrngReg), Pre_DactIn m →
    θ_run (Cert.DactIn.defs (F := Bits)) (onTc (τ := Cert.DactIn.τ) (Cert.DactIn.main (F := Bits))) ⟨m, fun _ => 0, g⟩ (fun r => (∀ c : Dev Cert.DactIn.nD,
      r.2.mem ((c.tc : Thread Cert.DactIn.nD Cert.DactIn.τ).loc Cert.DactIn.main_arg0) = m ((c.tc : Thread Cert.DactIn.nD Cert.DactIn.τ).loc Cert.DactIn.main_arg0)
      ∧ r.2.mem ((c.tc : Thread Cert.DactIn.nD Cert.DactIn.τ).loc Cert.DactIn.main_arg1) = m ((c.tc : Thread Cert.DactIn.nD Cert.DactIn.τ).loc Cert.DactIn.main_arg1))
      ∧ r.2.sem = fun _ => 0)

def quiescent_DactInIdeal [hDactInIdeal : Cert.DactInIdeal.Facts] : Prop :=
  ∀ (m : (ℓ : Loc Cert.DactInIdeal.nD Cert.DactInIdeal.τ Cert.DactInIdeal.sig) → Buf (Elt Ideal) ℓ) (g : Dev Cert.DactInIdeal.nD → PrngReg), Pre_DactInIdeal m →
    θ_run (Cert.DactInIdeal.defs (F := Ideal)) (onTc (τ := Cert.DactInIdeal.τ) (Cert.DactInIdeal.main (F := Ideal))) ⟨m, fun _ => 0, g⟩ (fun r => (∀ c : Dev Cert.DactInIdeal.nD,
      r.2.mem ((c.tc : Thread Cert.DactInIdeal.nD Cert.DactInIdeal.τ).loc Cert.DactInIdeal.main_arg0) = m ((c.tc : Thread Cert.DactInIdeal.nD Cert.DactInIdeal.τ).loc Cert.DactInIdeal.main_arg0)
      ∧ r.2.mem ((c.tc : Thread Cert.DactInIdeal.nD Cert.DactInIdeal.τ).loc Cert.DactInIdeal.main_arg1) = m ((c.tc : Thread Cert.DactInIdeal.nD Cert.DactInIdeal.τ).loc Cert.DactInIdeal.main_arg1))
      ∧ r.2.sem = fun _ => 0)

def quiescent_DactInRefIdeal [hDactInRefIdeal : Cert.DactInRefIdeal.Facts] : Prop :=
  ∀ (m : (ℓ : Loc Cert.DactInRefIdeal.nD Cert.DactInRefIdeal.τ Cert.DactInRefIdeal.sig) → Buf (Elt Ideal) ℓ) (g : Dev Cert.DactInRefIdeal.nD → PrngReg), Pre_DactInRefIdeal m →
    θ_run (Cert.DactInRefIdeal.defs (F := Ideal)) (onTc (τ := Cert.DactInRefIdeal.τ) (Cert.DactInRefIdeal.main (F := Ideal))) ⟨m, fun _ => 0, g⟩ (fun r => (∀ c : Dev Cert.DactInRefIdeal.nD,
      r.2.mem ((c.tc : Thread Cert.DactInRefIdeal.nD Cert.DactInRefIdeal.τ).loc Cert.DactInRefIdeal.main_arg0) = m ((c.tc : Thread Cert.DactInRefIdeal.nD Cert.DactInRefIdeal.τ).loc Cert.DactInRefIdeal.main_arg0)
      ∧ r.2.mem ((c.tc : Thread Cert.DactInRefIdeal.nD Cert.DactInRefIdeal.τ).loc Cert.DactInRefIdeal.main_arg1) = m ((c.tc : Thread Cert.DactInRefIdeal.nD Cert.DactInRefIdeal.τ).loc Cert.DactInRefIdeal.main_arg1))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_DwSharded [hDwSharded : Cert.DwSharded.Facts] : Prop :=
  ∀ (m : (ℓ : Loc Cert.DwSharded.nD Cert.DwSharded.τ Cert.DwSharded.sig) → Buf (Elt Bits) ℓ) (g : Dev Cert.DwSharded.nD → PrngReg), Pre_DwSharded m →
    θ_run (Cert.DwSharded.defs (F := Bits)) (onTc (τ := Cert.DwSharded.τ) (Cert.DwSharded.main (F := Bits))) ⟨m, fun _ => 0, g⟩ (fun r => (∀ c : Dev Cert.DwSharded.nD,
      r.2.mem ((c.tc : Thread Cert.DwSharded.nD Cert.DwSharded.τ).loc Cert.DwSharded.main_arg0) = m ((c.tc : Thread Cert.DwSharded.nD Cert.DwSharded.τ).loc Cert.DwSharded.main_arg0)
      ∧ r.2.mem ((c.tc : Thread Cert.DwSharded.nD Cert.DwSharded.τ).loc Cert.DwSharded.main_arg1) = m ((c.tc : Thread Cert.DwSharded.nD Cert.DwSharded.τ).loc Cert.DwSharded.main_arg1))
      ∧ r.2.sem = fun _ => 0)

def quiescent_DwShardedIdeal [hDwShardedIdeal : Cert.DwShardedIdeal.Facts] : Prop :=
  ∀ (m : (ℓ : Loc Cert.DwShardedIdeal.nD Cert.DwShardedIdeal.τ Cert.DwShardedIdeal.sig) → Buf (Elt Ideal) ℓ) (g : Dev Cert.DwShardedIdeal.nD → PrngReg), Pre_DwShardedIdeal m →
    θ_run (Cert.DwShardedIdeal.defs (F := Ideal)) (onTc (τ := Cert.DwShardedIdeal.τ) (Cert.DwShardedIdeal.main (F := Ideal))) ⟨m, fun _ => 0, g⟩ (fun r => (∀ c : Dev Cert.DwShardedIdeal.nD,
      r.2.mem ((c.tc : Thread Cert.DwShardedIdeal.nD Cert.DwShardedIdeal.τ).loc Cert.DwShardedIdeal.main_arg0) = m ((c.tc : Thread Cert.DwShardedIdeal.nD Cert.DwShardedIdeal.τ).loc Cert.DwShardedIdeal.main_arg0)
      ∧ r.2.mem ((c.tc : Thread Cert.DwShardedIdeal.nD Cert.DwShardedIdeal.τ).loc Cert.DwShardedIdeal.main_arg1) = m ((c.tc : Thread Cert.DwShardedIdeal.nD Cert.DwShardedIdeal.τ).loc Cert.DwShardedIdeal.main_arg1))
      ∧ r.2.sem = fun _ => 0)

def quiescent_DwShardedRefIdeal [hDwShardedRefIdeal : Cert.DwShardedRefIdeal.Facts] : Prop :=
  ∀ (m : (ℓ : Loc Cert.DwShardedRefIdeal.nD Cert.DwShardedRefIdeal.τ Cert.DwShardedRefIdeal.sig) → Buf (Elt Ideal) ℓ) (g : Dev Cert.DwShardedRefIdeal.nD → PrngReg), Pre_DwShardedRefIdeal m →
    θ_run (Cert.DwShardedRefIdeal.defs (F := Ideal)) (onTc (τ := Cert.DwShardedRefIdeal.τ) (Cert.DwShardedRefIdeal.main (F := Ideal))) ⟨m, fun _ => 0, g⟩ (fun r => (∀ c : Dev Cert.DwShardedRefIdeal.nD,
      r.2.mem ((c.tc : Thread Cert.DwShardedRefIdeal.nD Cert.DwShardedRefIdeal.τ).loc Cert.DwShardedRefIdeal.main_arg0) = m ((c.tc : Thread Cert.DwShardedRefIdeal.nD Cert.DwShardedRefIdeal.τ).loc Cert.DwShardedRefIdeal.main_arg0)
      ∧ r.2.mem ((c.tc : Thread Cert.DwShardedRefIdeal.nD Cert.DwShardedRefIdeal.τ).loc Cert.DwShardedRefIdeal.main_arg1) = m ((c.tc : Thread Cert.DwShardedRefIdeal.nD Cert.DwShardedRefIdeal.τ).loc Cert.DwShardedRefIdeal.main_arg1))
      ∧ r.2.sem = fun _ => 0)

def quiescent_DwGrouped [hDwGrouped : Cert.DwGrouped.Facts] : Prop :=
  ∀ (m : (ℓ : Loc Cert.DwGrouped.nD Cert.DwGrouped.τ Cert.DwGrouped.sig) → Buf (Elt Bits) ℓ) (g : Dev Cert.DwGrouped.nD → PrngReg), Pre_DwGrouped m →
    θ_run (Cert.DwGrouped.defs (F := Bits)) (onTc (τ := Cert.DwGrouped.τ) (Cert.DwGrouped.main (F := Bits))) ⟨m, fun _ => 0, g⟩ (fun r => (∀ c : Dev Cert.DwGrouped.nD,
      r.2.mem ((c.tc : Thread Cert.DwGrouped.nD Cert.DwGrouped.τ).loc Cert.DwGrouped.main_arg0) = m ((c.tc : Thread Cert.DwGrouped.nD Cert.DwGrouped.τ).loc Cert.DwGrouped.main_arg0)
      ∧ r.2.mem ((c.tc : Thread Cert.DwGrouped.nD Cert.DwGrouped.τ).loc Cert.DwGrouped.main_arg1) = m ((c.tc : Thread Cert.DwGrouped.nD Cert.DwGrouped.τ).loc Cert.DwGrouped.main_arg1))
      ∧ r.2.sem = fun _ => 0)

def quiescent_DwGroupedIdeal [hDwGroupedIdeal : Cert.DwGroupedIdeal.Facts] : Prop :=
  ∀ (m : (ℓ : Loc Cert.DwGroupedIdeal.nD Cert.DwGroupedIdeal.τ Cert.DwGroupedIdeal.sig) → Buf (Elt Ideal) ℓ) (g : Dev Cert.DwGroupedIdeal.nD → PrngReg), Pre_DwGroupedIdeal m →
    θ_run (Cert.DwGroupedIdeal.defs (F := Ideal)) (onTc (τ := Cert.DwGroupedIdeal.τ) (Cert.DwGroupedIdeal.main (F := Ideal))) ⟨m, fun _ => 0, g⟩ (fun r => (∀ c : Dev Cert.DwGroupedIdeal.nD,
      r.2.mem ((c.tc : Thread Cert.DwGroupedIdeal.nD Cert.DwGroupedIdeal.τ).loc Cert.DwGroupedIdeal.main_arg0) = m ((c.tc : Thread Cert.DwGroupedIdeal.nD Cert.DwGroupedIdeal.τ).loc Cert.DwGroupedIdeal.main_arg0)
      ∧ r.2.mem ((c.tc : Thread Cert.DwGroupedIdeal.nD Cert.DwGroupedIdeal.τ).loc Cert.DwGroupedIdeal.main_arg1) = m ((c.tc : Thread Cert.DwGroupedIdeal.nD Cert.DwGroupedIdeal.τ).loc Cert.DwGroupedIdeal.main_arg1))
      ∧ r.2.sem = fun _ => 0)

def quiescent_DwGroupedRefIdeal [hDwGroupedRefIdeal : Cert.DwGroupedRefIdeal.Facts] : Prop :=
  ∀ (m : (ℓ : Loc Cert.DwGroupedRefIdeal.nD Cert.DwGroupedRefIdeal.τ Cert.DwGroupedRefIdeal.sig) → Buf (Elt Ideal) ℓ) (g : Dev Cert.DwGroupedRefIdeal.nD → PrngReg), Pre_DwGroupedRefIdeal m →
    θ_run (Cert.DwGroupedRefIdeal.defs (F := Ideal)) (onTc (τ := Cert.DwGroupedRefIdeal.τ) (Cert.DwGroupedRefIdeal.main (F := Ideal))) ⟨m, fun _ => 0, g⟩ (fun r => (∀ c : Dev Cert.DwGroupedRefIdeal.nD,
      r.2.mem ((c.tc : Thread Cert.DwGroupedRefIdeal.nD Cert.DwGroupedRefIdeal.τ).loc Cert.DwGroupedRefIdeal.main_arg0) = m ((c.tc : Thread Cert.DwGroupedRefIdeal.nD Cert.DwGroupedRefIdeal.τ).loc Cert.DwGroupedRefIdeal.main_arg0)
      ∧ r.2.mem ((c.tc : Thread Cert.DwGroupedRefIdeal.nD Cert.DwGroupedRefIdeal.τ).loc Cert.DwGroupedRefIdeal.main_arg1) = m ((c.tc : Thread Cert.DwGroupedRefIdeal.nD Cert.DwGroupedRefIdeal.τ).loc Cert.DwGroupedRefIdeal.main_arg1))
      ∧ r.2.sem = fun _ => 0)

def quiescent_SmallAdamw [hSmallAdamw : Cert.SmallAdamw.Facts] : Prop :=
  ∀ (m : (ℓ : Loc Cert.SmallAdamw.nD Cert.SmallAdamw.τ Cert.SmallAdamw.sig) → Buf (Elt Bits) ℓ) (g : Dev Cert.SmallAdamw.nD → PrngReg), Pre_SmallAdamw m →
    θ_run (Cert.SmallAdamw.defs (F := Bits)) (onTc (τ := Cert.SmallAdamw.τ) (Cert.SmallAdamw.main (F := Bits))) ⟨m, fun _ => 0, g⟩ (fun r => (∀ c : Dev Cert.SmallAdamw.nD,
      r.2.mem ((c.tc : Thread Cert.SmallAdamw.nD Cert.SmallAdamw.τ).loc Cert.SmallAdamw.main_arg0) = m ((c.tc : Thread Cert.SmallAdamw.nD Cert.SmallAdamw.τ).loc Cert.SmallAdamw.main_arg0)
      ∧ r.2.mem ((c.tc : Thread Cert.SmallAdamw.nD Cert.SmallAdamw.τ).loc Cert.SmallAdamw.main_arg1) = m ((c.tc : Thread Cert.SmallAdamw.nD Cert.SmallAdamw.τ).loc Cert.SmallAdamw.main_arg1)
      ∧ r.2.mem ((c.tc : Thread Cert.SmallAdamw.nD Cert.SmallAdamw.τ).loc Cert.SmallAdamw.main_arg2) = m ((c.tc : Thread Cert.SmallAdamw.nD Cert.SmallAdamw.τ).loc Cert.SmallAdamw.main_arg2)
      ∧ r.2.mem ((c.tc : Thread Cert.SmallAdamw.nD Cert.SmallAdamw.τ).loc Cert.SmallAdamw.main_arg3) = m ((c.tc : Thread Cert.SmallAdamw.nD Cert.SmallAdamw.τ).loc Cert.SmallAdamw.main_arg3)
      ∧ r.2.mem ((c.tc : Thread Cert.SmallAdamw.nD Cert.SmallAdamw.τ).loc Cert.SmallAdamw.main_arg4) = m ((c.tc : Thread Cert.SmallAdamw.nD Cert.SmallAdamw.τ).loc Cert.SmallAdamw.main_arg4))
      ∧ r.2.sem = fun _ => 0)

def quiescent_SmallAdamwIdeal [hSmallAdamwIdeal : Cert.SmallAdamwIdeal.Facts] : Prop :=
  ∀ (m : (ℓ : Loc Cert.SmallAdamwIdeal.nD Cert.SmallAdamwIdeal.τ Cert.SmallAdamwIdeal.sig) → Buf (Elt Ideal) ℓ) (g : Dev Cert.SmallAdamwIdeal.nD → PrngReg), Pre_SmallAdamwIdeal m →
    θ_run (Cert.SmallAdamwIdeal.defs (F := Ideal)) (onTc (τ := Cert.SmallAdamwIdeal.τ) (Cert.SmallAdamwIdeal.main (F := Ideal))) ⟨m, fun _ => 0, g⟩ (fun r => (∀ c : Dev Cert.SmallAdamwIdeal.nD,
      r.2.mem ((c.tc : Thread Cert.SmallAdamwIdeal.nD Cert.SmallAdamwIdeal.τ).loc Cert.SmallAdamwIdeal.main_arg0) = m ((c.tc : Thread Cert.SmallAdamwIdeal.nD Cert.SmallAdamwIdeal.τ).loc Cert.SmallAdamwIdeal.main_arg0)
      ∧ r.2.mem ((c.tc : Thread Cert.SmallAdamwIdeal.nD Cert.SmallAdamwIdeal.τ).loc Cert.SmallAdamwIdeal.main_arg1) = m ((c.tc : Thread Cert.SmallAdamwIdeal.nD Cert.SmallAdamwIdeal.τ).loc Cert.SmallAdamwIdeal.main_arg1)
      ∧ r.2.mem ((c.tc : Thread Cert.SmallAdamwIdeal.nD Cert.SmallAdamwIdeal.τ).loc Cert.SmallAdamwIdeal.main_arg2) = m ((c.tc : Thread Cert.SmallAdamwIdeal.nD Cert.SmallAdamwIdeal.τ).loc Cert.SmallAdamwIdeal.main_arg2)
      ∧ r.2.mem ((c.tc : Thread Cert.SmallAdamwIdeal.nD Cert.SmallAdamwIdeal.τ).loc Cert.SmallAdamwIdeal.main_arg3) = m ((c.tc : Thread Cert.SmallAdamwIdeal.nD Cert.SmallAdamwIdeal.τ).loc Cert.SmallAdamwIdeal.main_arg3)
      ∧ r.2.mem ((c.tc : Thread Cert.SmallAdamwIdeal.nD Cert.SmallAdamwIdeal.τ).loc Cert.SmallAdamwIdeal.main_arg4) = m ((c.tc : Thread Cert.SmallAdamwIdeal.nD Cert.SmallAdamwIdeal.τ).loc Cert.SmallAdamwIdeal.main_arg4))
      ∧ r.2.sem = fun _ => 0)

def quiescent_SmallAdamwRefIdeal [hSmallAdamwRefIdeal : Cert.SmallAdamwRefIdeal.Facts] : Prop :=
  ∀ (m : (ℓ : Loc Cert.SmallAdamwRefIdeal.nD Cert.SmallAdamwRefIdeal.τ Cert.SmallAdamwRefIdeal.sig) → Buf (Elt Ideal) ℓ) (g : Dev Cert.SmallAdamwRefIdeal.nD → PrngReg), Pre_SmallAdamwRefIdeal m →
    θ_run (Cert.SmallAdamwRefIdeal.defs (F := Ideal)) (onTc (τ := Cert.SmallAdamwRefIdeal.τ) (Cert.SmallAdamwRefIdeal.main (F := Ideal))) ⟨m, fun _ => 0, g⟩ (fun r => (∀ c : Dev Cert.SmallAdamwRefIdeal.nD,
      r.2.mem ((c.tc : Thread Cert.SmallAdamwRefIdeal.nD Cert.SmallAdamwRefIdeal.τ).loc Cert.SmallAdamwRefIdeal.main_arg0) = m ((c.tc : Thread Cert.SmallAdamwRefIdeal.nD Cert.SmallAdamwRefIdeal.τ).loc Cert.SmallAdamwRefIdeal.main_arg0)
      ∧ r.2.mem ((c.tc : Thread Cert.SmallAdamwRefIdeal.nD Cert.SmallAdamwRefIdeal.τ).loc Cert.SmallAdamwRefIdeal.main_arg1) = m ((c.tc : Thread Cert.SmallAdamwRefIdeal.nD Cert.SmallAdamwRefIdeal.τ).loc Cert.SmallAdamwRefIdeal.main_arg1)
      ∧ r.2.mem ((c.tc : Thread Cert.SmallAdamwRefIdeal.nD Cert.SmallAdamwRefIdeal.τ).loc Cert.SmallAdamwRefIdeal.main_arg2) = m ((c.tc : Thread Cert.SmallAdamwRefIdeal.nD Cert.SmallAdamwRefIdeal.τ).loc Cert.SmallAdamwRefIdeal.main_arg2)
      ∧ r.2.mem ((c.tc : Thread Cert.SmallAdamwRefIdeal.nD Cert.SmallAdamwRefIdeal.τ).loc Cert.SmallAdamwRefIdeal.main_arg3) = m ((c.tc : Thread Cert.SmallAdamwRefIdeal.nD Cert.SmallAdamwRefIdeal.τ).loc Cert.SmallAdamwRefIdeal.main_arg3)
      ∧ r.2.mem ((c.tc : Thread Cert.SmallAdamwRefIdeal.nD Cert.SmallAdamwRefIdeal.τ).loc Cert.SmallAdamwRefIdeal.main_arg4) = m ((c.tc : Thread Cert.SmallAdamwRefIdeal.nD Cert.SmallAdamwRefIdeal.τ).loc Cert.SmallAdamwRefIdeal.main_arg4))
      ∧ r.2.sem = fun _ => 0)

def quiescent_DwClass [hDwClass : Cert.DwClass.Facts] [hPre_class_is_a_core : Cert.Pre_class_is_a_core.Facts] : Prop :=
  ∀ (m : (ℓ : Loc Cert.DwClass.nD Cert.DwClass.τ Cert.DwClass.sig) → Buf (Elt Bits) ℓ) (g : Dev Cert.DwClass.nD → PrngReg), Pre_DwClass m →
    θ_run (Cert.DwClass.defs (F := Bits)) (onTc (τ := Cert.DwClass.τ) (Cert.DwClass.main (F := Bits))) ⟨m, fun _ => 0, g⟩ (fun r => (∀ c : Dev Cert.DwClass.nD,
      r.2.mem ((c.tc : Thread Cert.DwClass.nD Cert.DwClass.τ).loc Cert.DwClass.main_arg0) = m ((c.tc : Thread Cert.DwClass.nD Cert.DwClass.τ).loc Cert.DwClass.main_arg0)
      ∧ r.2.mem ((c.tc : Thread Cert.DwClass.nD Cert.DwClass.τ).loc Cert.DwClass.main_arg1) = m ((c.tc : Thread Cert.DwClass.nD Cert.DwClass.τ).loc Cert.DwClass.main_arg1)
      ∧ r.2.mem ((c.tc : Thread Cert.DwClass.nD Cert.DwClass.τ).loc Cert.DwClass.main_arg2) = m ((c.tc : Thread Cert.DwClass.nD Cert.DwClass.τ).loc Cert.DwClass.main_arg2))
      ∧ r.2.sem = fun _ => 0)

def quiescent_DwClassIdeal [hDwClassIdeal : Cert.DwClassIdeal.Facts] [hPre_class_is_a_core : Cert.Pre_class_is_a_core.Facts] : Prop :=
  ∀ (m : (ℓ : Loc Cert.DwClassIdeal.nD Cert.DwClassIdeal.τ Cert.DwClassIdeal.sig) → Buf (Elt Ideal) ℓ) (g : Dev Cert.DwClassIdeal.nD → PrngReg), Pre_DwClassIdeal m →
    θ_run (Cert.DwClassIdeal.defs (F := Ideal)) (onTc (τ := Cert.DwClassIdeal.τ) (Cert.DwClassIdeal.main (F := Ideal))) ⟨m, fun _ => 0, g⟩ (fun r => (∀ c : Dev Cert.DwClassIdeal.nD,
      r.2.mem ((c.tc : Thread Cert.DwClassIdeal.nD Cert.DwClassIdeal.τ).loc Cert.DwClassIdeal.main_arg0) = m ((c.tc : Thread Cert.DwClassIdeal.nD Cert.DwClassIdeal.τ).loc Cert.DwClassIdeal.main_arg0)
      ∧ r.2.mem ((c.tc : Thread Cert.DwClassIdeal.nD Cert.DwClassIdeal.τ).loc Cert.DwClassIdeal.main_arg1) = m ((c.tc : Thread Cert.DwClassIdeal.nD Cert.DwClassIdeal.τ).loc Cert.DwClassIdeal.main_arg1)
      ∧ r.2.mem ((c.tc : Thread Cert.DwClassIdeal.nD Cert.DwClassIdeal.τ).loc Cert.DwClassIdeal.main_arg2) = m ((c.tc : Thread Cert.DwClassIdeal.nD Cert.DwClassIdeal.τ).loc Cert.DwClassIdeal.main_arg2))
      ∧ r.2.sem = fun _ => 0)

def quiescent_DwClassRefIdeal [hDwClassRefIdeal : Cert.DwClassRefIdeal.Facts] : Prop :=
  ∀ (m : (ℓ : Loc Cert.DwClassRefIdeal.nD Cert.DwClassRefIdeal.τ Cert.DwClassRefIdeal.sig) → Buf (Elt Ideal) ℓ) (g : Dev Cert.DwClassRefIdeal.nD → PrngReg), Pre_DwClassRefIdeal m →
    θ_run (Cert.DwClassRefIdeal.defs (F := Ideal)) (onTc (τ := Cert.DwClassRefIdeal.τ) (Cert.DwClassRefIdeal.main (F := Ideal))) ⟨m, fun _ => 0, g⟩ (fun r => (∀ c : Dev Cert.DwClassRefIdeal.nD,
      r.2.mem ((c.tc : Thread Cert.DwClassRefIdeal.nD Cert.DwClassRefIdeal.τ).loc Cert.DwClassRefIdeal.main_arg0) = m ((c.tc : Thread Cert.DwClassRefIdeal.nD Cert.DwClassRefIdeal.τ).loc Cert.DwClassRefIdeal.main_arg0)
      ∧ r.2.mem ((c.tc : Thread Cert.DwClassRefIdeal.nD Cert.DwClassRefIdeal.τ).loc Cert.DwClassRefIdeal.main_arg1) = m ((c.tc : Thread Cert.DwClassRefIdeal.nD Cert.DwClassRefIdeal.τ).loc Cert.DwClassRefIdeal.main_arg1)
      ∧ r.2.mem ((c.tc : Thread Cert.DwClassRefIdeal.nD Cert.DwClassRefIdeal.τ).loc Cert.DwClassRefIdeal.main_arg2) = m ((c.tc : Thread Cert.DwClassRefIdeal.nD Cert.DwClassRefIdeal.τ).loc Cert.DwClassRefIdeal.main_arg2))
      ∧ r.2.sem = fun _ => 0)

def quiescent_DwClassRefIdeal_pre_class_is_a_core [hDwClassRefIdeal : Cert.DwClassRefIdeal.Facts] [hPre_class_is_a_core : Cert.Pre_class_is_a_core.Facts] : Prop :=
  ∀ (m : (ℓ : Loc Cert.DwClassRefIdeal.nD Cert.DwClassRefIdeal.τ Cert.DwClassRefIdeal.sig) → Buf (Elt Ideal) ℓ) (g : Dev Cert.DwClassRefIdeal.nD → PrngReg), Pre_DwClassRefIdeal_class_is_a_core m →
    θ_run (Cert.DwClassRefIdeal.defs (F := Ideal)) (onTc (τ := Cert.DwClassRefIdeal.τ) (Cert.DwClassRefIdeal.main (F := Ideal))) ⟨m, fun _ => 0, g⟩ (fun r => (∀ c : Dev Cert.DwClassRefIdeal.nD,
      r.2.mem ((c.tc : Thread Cert.DwClassRefIdeal.nD Cert.DwClassRefIdeal.τ).loc Cert.DwClassRefIdeal.main_arg0) = m ((c.tc : Thread Cert.DwClassRefIdeal.nD Cert.DwClassRefIdeal.τ).loc Cert.DwClassRefIdeal.main_arg0)
      ∧ r.2.mem ((c.tc : Thread Cert.DwClassRefIdeal.nD Cert.DwClassRefIdeal.τ).loc Cert.DwClassRefIdeal.main_arg1) = m ((c.tc : Thread Cert.DwClassRefIdeal.nD Cert.DwClassRefIdeal.τ).loc Cert.DwClassRefIdeal.main_arg1)
      ∧ r.2.mem ((c.tc : Thread Cert.DwClassRefIdeal.nD Cert.DwClassRefIdeal.τ).loc Cert.DwClassRefIdeal.main_arg2) = m ((c.tc : Thread Cert.DwClassRefIdeal.nD Cert.DwClassRefIdeal.τ).loc Cert.DwClassRefIdeal.main_arg2))
      ∧ r.2.sem = fun _ => 0)

def quiescent_ReduceAdamw [hReduceAdamw : Cert.ReduceAdamw.Facts] [hPre_class_chip_in_mesh : Cert.Pre_class_chip_in_mesh.Facts] : Prop :=
  ∀ (m : (ℓ : Loc Cert.ReduceAdamw.nD Cert.ReduceAdamw.τ Cert.ReduceAdamw.sig) → Buf (Elt Bits) ℓ) (g : Dev Cert.ReduceAdamw.nD → PrngReg), Pre_ReduceAdamw m →
    θ_run (Cert.ReduceAdamw.defs (F := Bits)) (onTc (τ := Cert.ReduceAdamw.τ) (Cert.ReduceAdamw.main (F := Bits))) ⟨m, fun _ => 0, g⟩ (fun r => (∀ c : Dev Cert.ReduceAdamw.nD,
      r.2.mem ((c.tc : Thread Cert.ReduceAdamw.nD Cert.ReduceAdamw.τ).loc Cert.ReduceAdamw.main_arg0) = m ((c.tc : Thread Cert.ReduceAdamw.nD Cert.ReduceAdamw.τ).loc Cert.ReduceAdamw.main_arg0)
      ∧ r.2.mem ((c.tc : Thread Cert.ReduceAdamw.nD Cert.ReduceAdamw.τ).loc Cert.ReduceAdamw.main_arg1) = m ((c.tc : Thread Cert.ReduceAdamw.nD Cert.ReduceAdamw.τ).loc Cert.ReduceAdamw.main_arg1)
      ∧ r.2.mem ((c.tc : Thread Cert.ReduceAdamw.nD Cert.ReduceAdamw.τ).loc Cert.ReduceAdamw.main_arg2) = m ((c.tc : Thread Cert.ReduceAdamw.nD Cert.ReduceAdamw.τ).loc Cert.ReduceAdamw.main_arg2)
      ∧ r.2.mem ((c.tc : Thread Cert.ReduceAdamw.nD Cert.ReduceAdamw.τ).loc Cert.ReduceAdamw.main_arg3) = m ((c.tc : Thread Cert.ReduceAdamw.nD Cert.ReduceAdamw.τ).loc Cert.ReduceAdamw.main_arg3)
      ∧ r.2.mem ((c.tc : Thread Cert.ReduceAdamw.nD Cert.ReduceAdamw.τ).loc Cert.ReduceAdamw.main_arg4) = m ((c.tc : Thread Cert.ReduceAdamw.nD Cert.ReduceAdamw.τ).loc Cert.ReduceAdamw.main_arg4)
      ∧ r.2.mem ((c.tc : Thread Cert.ReduceAdamw.nD Cert.ReduceAdamw.τ).loc Cert.ReduceAdamw.main_arg5) = m ((c.tc : Thread Cert.ReduceAdamw.nD Cert.ReduceAdamw.τ).loc Cert.ReduceAdamw.main_arg5)
      ∧ r.2.mem ((c.tc : Thread Cert.ReduceAdamw.nD Cert.ReduceAdamw.τ).loc Cert.ReduceAdamw.main_arg6) = m ((c.tc : Thread Cert.ReduceAdamw.nD Cert.ReduceAdamw.τ).loc Cert.ReduceAdamw.main_arg6))
      ∧ r.2.sem = fun _ => 0)

def quiescent_ReduceAdamwIdeal [hReduceAdamwIdeal : Cert.ReduceAdamwIdeal.Facts] [hPre_class_chip_in_mesh : Cert.Pre_class_chip_in_mesh.Facts] : Prop :=
  ∀ (m : (ℓ : Loc Cert.ReduceAdamwIdeal.nD Cert.ReduceAdamwIdeal.τ Cert.ReduceAdamwIdeal.sig) → Buf (Elt Ideal) ℓ) (g : Dev Cert.ReduceAdamwIdeal.nD → PrngReg), Pre_ReduceAdamwIdeal m →
    θ_run (Cert.ReduceAdamwIdeal.defs (F := Ideal)) (onTc (τ := Cert.ReduceAdamwIdeal.τ) (Cert.ReduceAdamwIdeal.main (F := Ideal))) ⟨m, fun _ => 0, g⟩ (fun r => (∀ c : Dev Cert.ReduceAdamwIdeal.nD,
      r.2.mem ((c.tc : Thread Cert.ReduceAdamwIdeal.nD Cert.ReduceAdamwIdeal.τ).loc Cert.ReduceAdamwIdeal.main_arg0) = m ((c.tc : Thread Cert.ReduceAdamwIdeal.nD Cert.ReduceAdamwIdeal.τ).loc Cert.ReduceAdamwIdeal.main_arg0)
      ∧ r.2.mem ((c.tc : Thread Cert.ReduceAdamwIdeal.nD Cert.ReduceAdamwIdeal.τ).loc Cert.ReduceAdamwIdeal.main_arg1) = m ((c.tc : Thread Cert.ReduceAdamwIdeal.nD Cert.ReduceAdamwIdeal.τ).loc Cert.ReduceAdamwIdeal.main_arg1)
      ∧ r.2.mem ((c.tc : Thread Cert.ReduceAdamwIdeal.nD Cert.ReduceAdamwIdeal.τ).loc Cert.ReduceAdamwIdeal.main_arg2) = m ((c.tc : Thread Cert.ReduceAdamwIdeal.nD Cert.ReduceAdamwIdeal.τ).loc Cert.ReduceAdamwIdeal.main_arg2)
      ∧ r.2.mem ((c.tc : Thread Cert.ReduceAdamwIdeal.nD Cert.ReduceAdamwIdeal.τ).loc Cert.ReduceAdamwIdeal.main_arg3) = m ((c.tc : Thread Cert.ReduceAdamwIdeal.nD Cert.ReduceAdamwIdeal.τ).loc Cert.ReduceAdamwIdeal.main_arg3)
      ∧ r.2.mem ((c.tc : Thread Cert.ReduceAdamwIdeal.nD Cert.ReduceAdamwIdeal.τ).loc Cert.ReduceAdamwIdeal.main_arg4) = m ((c.tc : Thread Cert.ReduceAdamwIdeal.nD Cert.ReduceAdamwIdeal.τ).loc Cert.ReduceAdamwIdeal.main_arg4)
      ∧ r.2.mem ((c.tc : Thread Cert.ReduceAdamwIdeal.nD Cert.ReduceAdamwIdeal.τ).loc Cert.ReduceAdamwIdeal.main_arg5) = m ((c.tc : Thread Cert.ReduceAdamwIdeal.nD Cert.ReduceAdamwIdeal.τ).loc Cert.ReduceAdamwIdeal.main_arg5)
      ∧ r.2.mem ((c.tc : Thread Cert.ReduceAdamwIdeal.nD Cert.ReduceAdamwIdeal.τ).loc Cert.ReduceAdamwIdeal.main_arg6) = m ((c.tc : Thread Cert.ReduceAdamwIdeal.nD Cert.ReduceAdamwIdeal.τ).loc Cert.ReduceAdamwIdeal.main_arg6))
      ∧ r.2.sem = fun _ => 0)

def quiescent_ReduceAdamwRefIdeal [hReduceAdamwRefIdeal : Cert.ReduceAdamwRefIdeal.Facts] : Prop :=
  ∀ (m : (ℓ : Loc Cert.ReduceAdamwRefIdeal.nD Cert.ReduceAdamwRefIdeal.τ Cert.ReduceAdamwRefIdeal.sig) → Buf (Elt Ideal) ℓ) (g : Dev Cert.ReduceAdamwRefIdeal.nD → PrngReg), Pre_ReduceAdamwRefIdeal m →
    θ_run (Cert.ReduceAdamwRefIdeal.defs (F := Ideal)) (onTc (τ := Cert.ReduceAdamwRefIdeal.τ) (Cert.ReduceAdamwRefIdeal.main (F := Ideal))) ⟨m, fun _ => 0, g⟩ (fun r => (∀ c : Dev Cert.ReduceAdamwRefIdeal.nD,
      r.2.mem ((c.tc : Thread Cert.ReduceAdamwRefIdeal.nD Cert.ReduceAdamwRefIdeal.τ).loc Cert.ReduceAdamwRefIdeal.main_arg0) = m ((c.tc : Thread Cert.ReduceAdamwRefIdeal.nD Cert.ReduceAdamwRefIdeal.τ).loc Cert.ReduceAdamwRefIdeal.main_arg0)
      ∧ r.2.mem ((c.tc : Thread Cert.ReduceAdamwRefIdeal.nD Cert.ReduceAdamwRefIdeal.τ).loc Cert.ReduceAdamwRefIdeal.main_arg1) = m ((c.tc : Thread Cert.ReduceAdamwRefIdeal.nD Cert.ReduceAdamwRefIdeal.τ).loc Cert.ReduceAdamwRefIdeal.main_arg1)
      ∧ r.2.mem ((c.tc : Thread Cert.ReduceAdamwRefIdeal.nD Cert.ReduceAdamwRefIdeal.τ).loc Cert.ReduceAdamwRefIdeal.main_arg2) = m ((c.tc : Thread Cert.ReduceAdamwRefIdeal.nD Cert.ReduceAdamwRefIdeal.τ).loc Cert.ReduceAdamwRefIdeal.main_arg2)
      ∧ r.2.mem ((c.tc : Thread Cert.ReduceAdamwRefIdeal.nD Cert.ReduceAdamwRefIdeal.τ).loc Cert.ReduceAdamwRefIdeal.main_arg3) = m ((c.tc : Thread Cert.ReduceAdamwRefIdeal.nD Cert.ReduceAdamwRefIdeal.τ).loc Cert.ReduceAdamwRefIdeal.main_arg3)
      ∧ r.2.mem ((c.tc : Thread Cert.ReduceAdamwRefIdeal.nD Cert.ReduceAdamwRefIdeal.τ).loc Cert.ReduceAdamwRefIdeal.main_arg4) = m ((c.tc : Thread Cert.ReduceAdamwRefIdeal.nD Cert.ReduceAdamwRefIdeal.τ).loc Cert.ReduceAdamwRefIdeal.main_arg4)
      ∧ r.2.mem ((c.tc : Thread Cert.ReduceAdamwRefIdeal.nD Cert.ReduceAdamwRefIdeal.τ).loc Cert.ReduceAdamwRefIdeal.main_arg5) = m ((c.tc : Thread Cert.ReduceAdamwRefIdeal.nD Cert.ReduceAdamwRefIdeal.τ).loc Cert.ReduceAdamwRefIdeal.main_arg5)
      ∧ r.2.mem ((c.tc : Thread Cert.ReduceAdamwRefIdeal.nD Cert.ReduceAdamwRefIdeal.τ).loc Cert.ReduceAdamwRefIdeal.main_arg6) = m ((c.tc : Thread Cert.ReduceAdamwRefIdeal.nD Cert.ReduceAdamwRefIdeal.τ).loc Cert.ReduceAdamwRefIdeal.main_arg6))
      ∧ r.2.sem = fun _ => 0)

def quiescent_ReduceAdamwRefIdeal_pre_class_chip_in_mesh [hReduceAdamwRefIdeal : Cert.ReduceAdamwRefIdeal.Facts] [hPre_class_chip_in_mesh : Cert.Pre_class_chip_in_mesh.Facts] : Prop :=
  ∀ (m : (ℓ : Loc Cert.ReduceAdamwRefIdeal.nD Cert.ReduceAdamwRefIdeal.τ Cert.ReduceAdamwRefIdeal.sig) → Buf (Elt Ideal) ℓ) (g : Dev Cert.ReduceAdamwRefIdeal.nD → PrngReg), Pre_ReduceAdamwRefIdeal_class_chip_in_mesh m →
    θ_run (Cert.ReduceAdamwRefIdeal.defs (F := Ideal)) (onTc (τ := Cert.ReduceAdamwRefIdeal.τ) (Cert.ReduceAdamwRefIdeal.main (F := Ideal))) ⟨m, fun _ => 0, g⟩ (fun r => (∀ c : Dev Cert.ReduceAdamwRefIdeal.nD,
      r.2.mem ((c.tc : Thread Cert.ReduceAdamwRefIdeal.nD Cert.ReduceAdamwRefIdeal.τ).loc Cert.ReduceAdamwRefIdeal.main_arg0) = m ((c.tc : Thread Cert.ReduceAdamwRefIdeal.nD Cert.ReduceAdamwRefIdeal.τ).loc Cert.ReduceAdamwRefIdeal.main_arg0)
      ∧ r.2.mem ((c.tc : Thread Cert.ReduceAdamwRefIdeal.nD Cert.ReduceAdamwRefIdeal.τ).loc Cert.ReduceAdamwRefIdeal.main_arg1) = m ((c.tc : Thread Cert.ReduceAdamwRefIdeal.nD Cert.ReduceAdamwRefIdeal.τ).loc Cert.ReduceAdamwRefIdeal.main_arg1)
      ∧ r.2.mem ((c.tc : Thread Cert.ReduceAdamwRefIdeal.nD Cert.ReduceAdamwRefIdeal.τ).loc Cert.ReduceAdamwRefIdeal.main_arg2) = m ((c.tc : Thread Cert.ReduceAdamwRefIdeal.nD Cert.ReduceAdamwRefIdeal.τ).loc Cert.ReduceAdamwRefIdeal.main_arg2)
      ∧ r.2.mem ((c.tc : Thread Cert.ReduceAdamwRefIdeal.nD Cert.ReduceAdamwRefIdeal.τ).loc Cert.ReduceAdamwRefIdeal.main_arg3) = m ((c.tc : Thread Cert.ReduceAdamwRefIdeal.nD Cert.ReduceAdamwRefIdeal.τ).loc Cert.ReduceAdamwRefIdeal.main_arg3)
      ∧ r.2.mem ((c.tc : Thread Cert.ReduceAdamwRefIdeal.nD Cert.ReduceAdamwRefIdeal.τ).loc Cert.ReduceAdamwRefIdeal.main_arg4) = m ((c.tc : Thread Cert.ReduceAdamwRefIdeal.nD Cert.ReduceAdamwRefIdeal.τ).loc Cert.ReduceAdamwRefIdeal.main_arg4)
      ∧ r.2.mem ((c.tc : Thread Cert.ReduceAdamwRefIdeal.nD Cert.ReduceAdamwRefIdeal.τ).loc Cert.ReduceAdamwRefIdeal.main_arg5) = m ((c.tc : Thread Cert.ReduceAdamwRefIdeal.nD Cert.ReduceAdamwRefIdeal.τ).loc Cert.ReduceAdamwRefIdeal.main_arg5)
      ∧ r.2.mem ((c.tc : Thread Cert.ReduceAdamwRefIdeal.nD Cert.ReduceAdamwRefIdeal.τ).loc Cert.ReduceAdamwRefIdeal.main_arg6) = m ((c.tc : Thread Cert.ReduceAdamwRefIdeal.nD Cert.ReduceAdamwRefIdeal.τ).loc Cert.ReduceAdamwRefIdeal.main_arg6))
      ∧ r.2.sem = fun _ => 0)

def quiescent_ChipSums [hChipSums : Cert.ChipSums.Facts] [hPre_class_chips_in_mesh : Cert.Pre_class_chips_in_mesh.Facts] : Prop :=
  ∀ (m : (ℓ : Loc Cert.ChipSums.nD Cert.ChipSums.τ Cert.ChipSums.sig) → Buf (Elt Bits) ℓ) (g : Dev Cert.ChipSums.nD → PrngReg), Pre_ChipSums m →
    θ_run (Cert.ChipSums.defs (F := Bits)) (onTc (τ := Cert.ChipSums.τ) (Cert.ChipSums.main (F := Bits))) ⟨m, fun _ => 0, g⟩ (fun r => (∀ c : Dev Cert.ChipSums.nD,
      r.2.mem ((c.tc : Thread Cert.ChipSums.nD Cert.ChipSums.τ).loc Cert.ChipSums.main_arg0) = m ((c.tc : Thread Cert.ChipSums.nD Cert.ChipSums.τ).loc Cert.ChipSums.main_arg0)
      ∧ r.2.mem ((c.tc : Thread Cert.ChipSums.nD Cert.ChipSums.τ).loc Cert.ChipSums.main_arg1) = m ((c.tc : Thread Cert.ChipSums.nD Cert.ChipSums.τ).loc Cert.ChipSums.main_arg1)
      ∧ r.2.mem ((c.tc : Thread Cert.ChipSums.nD Cert.ChipSums.τ).loc Cert.ChipSums.main_arg2) = m ((c.tc : Thread Cert.ChipSums.nD Cert.ChipSums.τ).loc Cert.ChipSums.main_arg2))
      ∧ r.2.sem = fun _ => 0)

def quiescent_ChipSumsIdeal [hChipSumsIdeal : Cert.ChipSumsIdeal.Facts] [hPre_class_chips_in_mesh : Cert.Pre_class_chips_in_mesh.Facts] : Prop :=
  ∀ (m : (ℓ : Loc Cert.ChipSumsIdeal.nD Cert.ChipSumsIdeal.τ Cert.ChipSumsIdeal.sig) → Buf (Elt Ideal) ℓ) (g : Dev Cert.ChipSumsIdeal.nD → PrngReg), Pre_ChipSumsIdeal m →
    θ_run (Cert.ChipSumsIdeal.defs (F := Ideal)) (onTc (τ := Cert.ChipSumsIdeal.τ) (Cert.ChipSumsIdeal.main (F := Ideal))) ⟨m, fun _ => 0, g⟩ (fun r => (∀ c : Dev Cert.ChipSumsIdeal.nD,
      r.2.mem ((c.tc : Thread Cert.ChipSumsIdeal.nD Cert.ChipSumsIdeal.τ).loc Cert.ChipSumsIdeal.main_arg0) = m ((c.tc : Thread Cert.ChipSumsIdeal.nD Cert.ChipSumsIdeal.τ).loc Cert.ChipSumsIdeal.main_arg0)
      ∧ r.2.mem ((c.tc : Thread Cert.ChipSumsIdeal.nD Cert.ChipSumsIdeal.τ).loc Cert.ChipSumsIdeal.main_arg1) = m ((c.tc : Thread Cert.ChipSumsIdeal.nD Cert.ChipSumsIdeal.τ).loc Cert.ChipSumsIdeal.main_arg1)
      ∧ r.2.mem ((c.tc : Thread Cert.ChipSumsIdeal.nD Cert.ChipSumsIdeal.τ).loc Cert.ChipSumsIdeal.main_arg2) = m ((c.tc : Thread Cert.ChipSumsIdeal.nD Cert.ChipSumsIdeal.τ).loc Cert.ChipSumsIdeal.main_arg2))
      ∧ r.2.sem = fun _ => 0)

def quiescent_ChipSumsRefIdeal [hChipSumsRefIdeal : Cert.ChipSumsRefIdeal.Facts] : Prop :=
  ∀ (m : (ℓ : Loc Cert.ChipSumsRefIdeal.nD Cert.ChipSumsRefIdeal.τ Cert.ChipSumsRefIdeal.sig) → Buf (Elt Ideal) ℓ) (g : Dev Cert.ChipSumsRefIdeal.nD → PrngReg), Pre_ChipSumsRefIdeal m →
    θ_run (Cert.ChipSumsRefIdeal.defs (F := Ideal)) (onTc (τ := Cert.ChipSumsRefIdeal.τ) (Cert.ChipSumsRefIdeal.main (F := Ideal))) ⟨m, fun _ => 0, g⟩ (fun r => (∀ c : Dev Cert.ChipSumsRefIdeal.nD,
      r.2.mem ((c.tc : Thread Cert.ChipSumsRefIdeal.nD Cert.ChipSumsRefIdeal.τ).loc Cert.ChipSumsRefIdeal.main_arg0) = m ((c.tc : Thread Cert.ChipSumsRefIdeal.nD Cert.ChipSumsRefIdeal.τ).loc Cert.ChipSumsRefIdeal.main_arg0)
      ∧ r.2.mem ((c.tc : Thread Cert.ChipSumsRefIdeal.nD Cert.ChipSumsRefIdeal.τ).loc Cert.ChipSumsRefIdeal.main_arg1) = m ((c.tc : Thread Cert.ChipSumsRefIdeal.nD Cert.ChipSumsRefIdeal.τ).loc Cert.ChipSumsRefIdeal.main_arg1)
      ∧ r.2.mem ((c.tc : Thread Cert.ChipSumsRefIdeal.nD Cert.ChipSumsRefIdeal.τ).loc Cert.ChipSumsRefIdeal.main_arg2) = m ((c.tc : Thread Cert.ChipSumsRefIdeal.nD Cert.ChipSumsRefIdeal.τ).loc Cert.ChipSumsRefIdeal.main_arg2))
      ∧ r.2.sem = fun _ => 0)

def quiescent_ChipSumsRefIdeal_pre_class_chips_in_mesh [hChipSumsRefIdeal : Cert.ChipSumsRefIdeal.Facts] [hPre_class_chips_in_mesh : Cert.Pre_class_chips_in_mesh.Facts] : Prop :=
  ∀ (m : (ℓ : Loc Cert.ChipSumsRefIdeal.nD Cert.ChipSumsRefIdeal.τ Cert.ChipSumsRefIdeal.sig) → Buf (Elt Ideal) ℓ) (g : Dev Cert.ChipSumsRefIdeal.nD → PrngReg), Pre_ChipSumsRefIdeal_class_chips_in_mesh m →
    θ_run (Cert.ChipSumsRefIdeal.defs (F := Ideal)) (onTc (τ := Cert.ChipSumsRefIdeal.τ) (Cert.ChipSumsRefIdeal.main (F := Ideal))) ⟨m, fun _ => 0, g⟩ (fun r => (∀ c : Dev Cert.ChipSumsRefIdeal.nD,
      r.2.mem ((c.tc : Thread Cert.ChipSumsRefIdeal.nD Cert.ChipSumsRefIdeal.τ).loc Cert.ChipSumsRefIdeal.main_arg0) = m ((c.tc : Thread Cert.ChipSumsRefIdeal.nD Cert.ChipSumsRefIdeal.τ).loc Cert.ChipSumsRefIdeal.main_arg0)
      ∧ r.2.mem ((c.tc : Thread Cert.ChipSumsRefIdeal.nD Cert.ChipSumsRefIdeal.τ).loc Cert.ChipSumsRefIdeal.main_arg1) = m ((c.tc : Thread Cert.ChipSumsRefIdeal.nD Cert.ChipSumsRefIdeal.τ).loc Cert.ChipSumsRefIdeal.main_arg1)
      ∧ r.2.mem ((c.tc : Thread Cert.ChipSumsRefIdeal.nD Cert.ChipSumsRefIdeal.τ).loc Cert.ChipSumsRefIdeal.main_arg2) = m ((c.tc : Thread Cert.ChipSumsRefIdeal.nD Cert.ChipSumsRefIdeal.τ).loc Cert.ChipSumsRefIdeal.main_arg2))
      ∧ r.2.sem = fun _ => 0)

def preserves_NormFirst_NormFirstIdeal : Prop :=
  True

def algebraic_NormFirstIdeal_NormFirstRefIdeal_pre_norm_first_finite [hNormFirstIdeal : Cert.NormFirstIdeal.Facts] [hNormFirstRefIdeal : Cert.NormFirstRefIdeal.Facts] [hPre_norm_first_finite : Cert.Pre_norm_first_finite.Facts] : Prop :=
  ∀ (m : (ℓ : Loc Cert.NormFirstIdeal.nD Cert.NormFirstIdeal.τ Cert.NormFirstIdeal.sig) → Buf (Elt Ideal) ℓ) (g : Dev Cert.NormFirstIdeal.nD → PrngReg)
    (m' : (ℓ : Loc Cert.NormFirstRefIdeal.nD Cert.NormFirstRefIdeal.τ Cert.NormFirstRefIdeal.sig) → Buf (Elt Ideal) ℓ) (g' : Dev Cert.NormFirstRefIdeal.nD → PrngReg), Pre_NormFirstIdeal_norm_first_finite m →
    (∀ c : Dev Cert.NormFirstIdeal.nD,
      m' ((c.tc : Thread Cert.NormFirstRefIdeal.nD Cert.NormFirstRefIdeal.τ).loc Cert.NormFirstRefIdeal.main_arg0) = m ((c.tc : Thread Cert.NormFirstIdeal.nD Cert.NormFirstIdeal.τ).loc Cert.NormFirstIdeal.main_arg0)
      ∧ m' ((c.tc : Thread Cert.NormFirstRefIdeal.nD Cert.NormFirstRefIdeal.τ).loc Cert.NormFirstRefIdeal.main_arg1) = m ((c.tc : Thread Cert.NormFirstIdeal.nD Cert.NormFirstIdeal.τ).loc Cert.NormFirstIdeal.main_arg1)
      ∧ m' ((c.tc : Thread Cert.NormFirstRefIdeal.nD Cert.NormFirstRefIdeal.τ).loc Cert.NormFirstRefIdeal.main_arg2) = m ((c.tc : Thread Cert.NormFirstIdeal.nD Cert.NormFirstIdeal.τ).loc Cert.NormFirstIdeal.main_arg2)
      ∧ m' ((c.tc : Thread Cert.NormFirstRefIdeal.nD Cert.NormFirstRefIdeal.τ).loc Cert.NormFirstRefIdeal.main_arg3) = m ((c.tc : Thread Cert.NormFirstIdeal.nD Cert.NormFirstIdeal.τ).loc Cert.NormFirstIdeal.main_arg3)) →
    ∃ (v0 : (c : Dev Cert.NormFirstIdeal.nD) → Buf (Elt Ideal) ((c.tc : Thread Cert.NormFirstIdeal.nD Cert.NormFirstIdeal.τ).loc Cert.NormFirstIdeal.main_v2_0)) (v1 : (c : Dev Cert.NormFirstIdeal.nD) → Buf (Elt Ideal) ((c.tc : Thread Cert.NormFirstIdeal.nD Cert.NormFirstIdeal.τ).loc Cert.NormFirstIdeal.main_v2_1)),
      θ_run (Cert.NormFirstIdeal.defs (F := Ideal)) (onTc (τ := Cert.NormFirstIdeal.τ) (Cert.NormFirstIdeal.main (F := Ideal))) ⟨m, fun _ => 0, g⟩ (fun r => ∀ c : Dev Cert.NormFirstIdeal.nD,
          r.2.mem ((c.tc : Thread Cert.NormFirstIdeal.nD Cert.NormFirstIdeal.τ).loc Cert.NormFirstIdeal.main_v2_0) = v0 c
          ∧ r.2.mem ((c.tc : Thread Cert.NormFirstIdeal.nD Cert.NormFirstIdeal.τ).loc Cert.NormFirstIdeal.main_v2_1) = v1 c
          ∧ r.2.mem ((c.tc : Thread Cert.NormFirstIdeal.nD Cert.NormFirstIdeal.τ).loc Cert.NormFirstIdeal.main_arg0) = m ((c.tc : Thread Cert.NormFirstIdeal.nD Cert.NormFirstIdeal.τ).loc Cert.NormFirstIdeal.main_arg0)
          ∧ r.2.mem ((c.tc : Thread Cert.NormFirstIdeal.nD Cert.NormFirstIdeal.τ).loc Cert.NormFirstIdeal.main_arg1) = m ((c.tc : Thread Cert.NormFirstIdeal.nD Cert.NormFirstIdeal.τ).loc Cert.NormFirstIdeal.main_arg1)
          ∧ r.2.mem ((c.tc : Thread Cert.NormFirstIdeal.nD Cert.NormFirstIdeal.τ).loc Cert.NormFirstIdeal.main_arg2) = m ((c.tc : Thread Cert.NormFirstIdeal.nD Cert.NormFirstIdeal.τ).loc Cert.NormFirstIdeal.main_arg2)
          ∧ r.2.mem ((c.tc : Thread Cert.NormFirstIdeal.nD Cert.NormFirstIdeal.τ).loc Cert.NormFirstIdeal.main_arg3) = m ((c.tc : Thread Cert.NormFirstIdeal.nD Cert.NormFirstIdeal.τ).loc Cert.NormFirstIdeal.main_arg3))
      ∧ θ_run (Cert.NormFirstRefIdeal.defs (F := Ideal)) (onTc (τ := Cert.NormFirstRefIdeal.τ) (Cert.NormFirstRefIdeal.main (F := Ideal))) ⟨m', fun _ => 0, g'⟩ (fun r => ∀ c : Dev Cert.NormFirstRefIdeal.nD,
          r.2.mem ((c.tc : Thread Cert.NormFirstRefIdeal.nD Cert.NormFirstRefIdeal.τ).loc Cert.NormFirstRefIdeal.main_v41) = v0 c
          ∧ r.2.mem ((c.tc : Thread Cert.NormFirstRefIdeal.nD Cert.NormFirstRefIdeal.τ).loc Cert.NormFirstRefIdeal.main_v42) = v1 c
          ∧ r.2.mem ((c.tc : Thread Cert.NormFirstRefIdeal.nD Cert.NormFirstRefIdeal.τ).loc Cert.NormFirstRefIdeal.main_arg0) = m' ((c.tc : Thread Cert.NormFirstRefIdeal.nD Cert.NormFirstRefIdeal.τ).loc Cert.NormFirstRefIdeal.main_arg0)
          ∧ r.2.mem ((c.tc : Thread Cert.NormFirstRefIdeal.nD Cert.NormFirstRefIdeal.τ).loc Cert.NormFirstRefIdeal.main_arg1) = m' ((c.tc : Thread Cert.NormFirstRefIdeal.nD Cert.NormFirstRefIdeal.τ).loc Cert.NormFirstRefIdeal.main_arg1)
          ∧ r.2.mem ((c.tc : Thread Cert.NormFirstRefIdeal.nD Cert.NormFirstRefIdeal.τ).loc Cert.NormFirstRefIdeal.main_arg2) = m' ((c.tc : Thread Cert.NormFirstRefIdeal.nD Cert.NormFirstRefIdeal.τ).loc Cert.NormFirstRefIdeal.main_arg2)
          ∧ r.2.mem ((c.tc : Thread Cert.NormFirstRefIdeal.nD Cert.NormFirstRefIdeal.τ).loc Cert.NormFirstRefIdeal.main_arg3) = m' ((c.tc : Thread Cert.NormFirstRefIdeal.nD Cert.NormFirstRefIdeal.τ).loc Cert.NormFirstRefIdeal.main_arg3))

def preserves_LossHead_LossHeadIdeal : Prop :=
  True

def algebraic_LossHeadIdeal_LossHeadRefIdeal_pre_loss_head_finite [hLossHeadIdeal : Cert.LossHeadIdeal.Facts] [hLossHeadRefIdeal : Cert.LossHeadRefIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)) (v3 : (c : Dev Cert.LossHeadIdeal.nD) → Buf (Elt Ideal) ((c.tc : Thread Cert.LossHeadIdeal.nD Cert.LossHeadIdeal.τ).loc Cert.LossHeadIdeal.main_v3_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_v3_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v76) = v0 c
          ∧ r.2.mem ((c.tc : Thread Cert.LossHeadRefIdeal.nD Cert.LossHeadRefIdeal.τ).loc Cert.LossHeadRefIdeal.main_v77) = v1 c
          ∧ r.2.mem ((c.tc : Thread Cert.LossHeadRefIdeal.nD Cert.LossHeadRefIdeal.τ).loc Cert.LossHeadRefIdeal.main_v78) = v2 c
          ∧ r.2.mem ((c.tc : Thread Cert.LossHeadRefIdeal.nD Cert.LossHeadRefIdeal.τ).loc Cert.LossHeadRefIdeal.main_v79) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_GateA_GateAIdeal : Prop :=
  IdealRules.named_const.Statement Cert.GateAIdeal.κ "inv_sqrt2" .f32 0x3F3504F3#32 (((Real.sqrt 2)⁻¹ : ℝ) : EReal)
  ∧ IdealRules.named_const.Statement Cert.GateAIdeal.κ "inv_sqrt_2pi" .f32 0x3ECC422A#32 (((9465531 / 16777216) * (Real.sqrt 2)⁻¹ : ℝ) : EReal)

def algebraic_GateAIdeal_GateARefIdeal_pre_gate_a_finite [hGateAIdeal : Cert.GateAIdeal.Facts] [hGateARefIdeal : Cert.GateARefIdeal.Facts] [hPre_gate_a_finite : Cert.Pre_gate_a_finite.Facts] : Prop :=
  ∀ (m : (ℓ : Loc Cert.GateAIdeal.nD Cert.GateAIdeal.τ Cert.GateAIdeal.sig) → Buf (Elt Ideal) ℓ) (g : Dev Cert.GateAIdeal.nD → PrngReg)
    (m' : (ℓ : Loc Cert.GateARefIdeal.nD Cert.GateARefIdeal.τ Cert.GateARefIdeal.sig) → Buf (Elt Ideal) ℓ) (g' : Dev Cert.GateARefIdeal.nD → PrngReg), Pre_GateAIdeal_gate_a_finite m →
    (∀ c : Dev Cert.GateAIdeal.nD,
      m' ((c.tc : Thread Cert.GateARefIdeal.nD Cert.GateARefIdeal.τ).loc Cert.GateARefIdeal.main_arg0) = m ((c.tc : Thread Cert.GateAIdeal.nD Cert.GateAIdeal.τ).loc Cert.GateAIdeal.main_arg0)
      ∧ m' ((c.tc : Thread Cert.GateARefIdeal.nD Cert.GateARefIdeal.τ).loc Cert.GateARefIdeal.main_arg1) = m ((c.tc : Thread Cert.GateAIdeal.nD Cert.GateAIdeal.τ).loc Cert.GateAIdeal.main_arg1)
      ∧ m' ((c.tc : Thread Cert.GateARefIdeal.nD Cert.GateARefIdeal.τ).loc Cert.GateARefIdeal.main_arg2) = m ((c.tc : Thread Cert.GateAIdeal.nD Cert.GateAIdeal.τ).loc Cert.GateAIdeal.main_arg2)
      ∧ m' ((c.tc : Thread Cert.GateARefIdeal.nD Cert.GateARefIdeal.τ).loc Cert.GateARefIdeal.main_arg3) = m ((c.tc : Thread Cert.GateAIdeal.nD Cert.GateAIdeal.τ).loc Cert.GateAIdeal.main_arg3)
      ∧ m' ((c.tc : Thread Cert.GateARefIdeal.nD Cert.GateARefIdeal.τ).loc Cert.GateARefIdeal.main_arg4) = m ((c.tc : Thread Cert.GateAIdeal.nD Cert.GateAIdeal.τ).loc Cert.GateAIdeal.main_arg4)
      ∧ m' ((c.tc : Thread Cert.GateARefIdeal.nD Cert.GateARefIdeal.τ).loc Cert.GateARefIdeal.main_arg5) = m ((c.tc : Thread Cert.GateAIdeal.nD Cert.GateAIdeal.τ).loc Cert.GateAIdeal.main_arg5)) →
    ∃ (v0 : (c : Dev Cert.GateAIdeal.nD) → Buf (Elt Ideal) ((c.tc : Thread Cert.GateAIdeal.nD Cert.GateAIdeal.τ).loc Cert.GateAIdeal.main_v6_0)) (v1 : (c : Dev Cert.GateAIdeal.nD) → Buf (Elt Ideal) ((c.tc : Thread Cert.GateAIdeal.nD Cert.GateAIdeal.τ).loc Cert.GateAIdeal.main_v6_1)) (v2 : (c : Dev Cert.GateAIdeal.nD) → Buf (Elt Ideal) ((c.tc : Thread Cert.GateAIdeal.nD Cert.GateAIdeal.τ).loc Cert.GateAIdeal.main_v6_2)) (v3 : (c : Dev Cert.GateAIdeal.nD) → Buf (Elt Ideal) ((c.tc : Thread Cert.GateAIdeal.nD Cert.GateAIdeal.τ).loc Cert.GateAIdeal.main_v6_3)) (v4 : (c : Dev Cert.GateAIdeal.nD) → Buf (Elt Ideal) ((c.tc : Thread Cert.GateAIdeal.nD Cert.GateAIdeal.τ).loc Cert.GateAIdeal.main_v6_4)),
      θ_run (Cert.GateAIdeal.defs (F := Ideal)) (onTc (τ := Cert.GateAIdeal.τ) (Cert.GateAIdeal.main (F := Ideal))) ⟨m, fun _ => 0, g⟩ (fun r => ∀ c : Dev Cert.GateAIdeal.nD,
          r.2.mem ((c.tc : Thread Cert.GateAIdeal.nD Cert.GateAIdeal.τ).loc Cert.GateAIdeal.main_v6_0) = v0 c
          ∧ r.2.mem ((c.tc : Thread Cert.GateAIdeal.nD Cert.GateAIdeal.τ).loc Cert.GateAIdeal.main_v6_1) = v1 c
          ∧ r.2.mem ((c.tc : Thread Cert.GateAIdeal.nD Cert.GateAIdeal.τ).loc Cert.GateAIdeal.main_v6_2) = v2 c
          ∧ r.2.mem ((c.tc : Thread Cert.GateAIdeal.nD Cert.GateAIdeal.τ).loc Cert.GateAIdeal.main_v6_3) = v3 c
          ∧ r.2.mem ((c.tc : Thread Cert.GateAIdeal.nD Cert.GateAIdeal.τ).loc Cert.GateAIdeal.main_v6_4) = v4 c
          ∧ r.2.mem ((c.tc : Thread Cert.GateAIdeal.nD Cert.GateAIdeal.τ).loc Cert.GateAIdeal.main_arg0) = m ((c.tc : Thread Cert.GateAIdeal.nD Cert.GateAIdeal.τ).loc Cert.GateAIdeal.main_arg0)
          ∧ r.2.mem ((c.tc : Thread Cert.GateAIdeal.nD Cert.GateAIdeal.τ).loc Cert.GateAIdeal.main_arg1) = m ((c.tc : Thread Cert.GateAIdeal.nD Cert.GateAIdeal.τ).loc Cert.GateAIdeal.main_arg1)
          ∧ r.2.mem ((c.tc : Thread Cert.GateAIdeal.nD Cert.GateAIdeal.τ).loc Cert.GateAIdeal.main_arg2) = m ((c.tc : Thread Cert.GateAIdeal.nD Cert.GateAIdeal.τ).loc Cert.GateAIdeal.main_arg2)
          ∧ r.2.mem ((c.tc : Thread Cert.GateAIdeal.nD Cert.GateAIdeal.τ).loc Cert.GateAIdeal.main_arg3) = m ((c.tc : Thread Cert.GateAIdeal.nD Cert.GateAIdeal.τ).loc Cert.GateAIdeal.main_arg3)
          ∧ r.2.mem ((c.tc : Thread Cert.GateAIdeal.nD Cert.GateAIdeal.τ).loc Cert.GateAIdeal.main_arg4) = m ((c.tc : Thread Cert.GateAIdeal.nD Cert.GateAIdeal.τ).loc Cert.GateAIdeal.main_arg4)
          ∧ r.2.mem ((c.tc : Thread Cert.GateAIdeal.nD Cert.GateAIdeal.τ).loc Cert.GateAIdeal.main_arg5) = m ((c.tc : Thread Cert.GateAIdeal.nD Cert.GateAIdeal.τ).loc Cert.GateAIdeal.main_arg5))
      ∧ θ_run (Cert.GateARefIdeal.defs (F := Ideal)) (onTc (τ := Cert.GateARefIdeal.τ) (Cert.GateARefIdeal.main (F := Ideal))) ⟨m', fun _ => 0, g'⟩ (fun r => ∀ c : Dev Cert.GateARefIdeal.nD,
          r.2.mem ((c.tc : Thread Cert.GateARefIdeal.nD Cert.GateARefIdeal.τ).loc Cert.GateARefIdeal.main_v143) = v0 c
          ∧ r.2.mem ((c.tc : Thread Cert.GateARefIdeal.nD Cert.GateARefIdeal.τ).loc Cert.GateARefIdeal.main_v84) = v1 c
          ∧ r.2.mem ((c.tc : Thread Cert.GateARefIdeal.nD Cert.GateARefIdeal.τ).loc Cert.GateARefIdeal.main_v144) = v2 c
          ∧ r.2.mem ((c.tc : Thread Cert.GateARefIdeal.nD Cert.GateARefIdeal.τ).loc Cert.GateARefIdeal.main_v145) = v3 c
          ∧ r.2.mem ((c.tc : Thread Cert.GateARefIdeal.nD Cert.GateARefIdeal.τ).loc Cert.GateARefIdeal.main_v146) = v4 c
          ∧ r.2.mem ((c.tc : Thread Cert.GateARefIdeal.nD Cert.GateARefIdeal.τ).loc Cert.GateARefIdeal.main_arg0) = m' ((c.tc : Thread Cert.GateARefIdeal.nD Cert.GateARefIdeal.τ).loc Cert.GateARefIdeal.main_arg0)
          ∧ r.2.mem ((c.tc : Thread Cert.GateARefIdeal.nD Cert.GateARefIdeal.τ).loc Cert.GateARefIdeal.main_arg1) = m' ((c.tc : Thread Cert.GateARefIdeal.nD Cert.GateARefIdeal.τ).loc Cert.GateARefIdeal.main_arg1)
          ∧ r.2.mem ((c.tc : Thread Cert.GateARefIdeal.nD Cert.GateARefIdeal.τ).loc Cert.GateARefIdeal.main_arg2) = m' ((c.tc : Thread Cert.GateARefIdeal.nD Cert.GateARefIdeal.τ).loc Cert.GateARefIdeal.main_arg2)
          ∧ r.2.mem ((c.tc : Thread Cert.GateARefIdeal.nD Cert.GateARefIdeal.τ).loc Cert.GateARefIdeal.main_arg3) = m' ((c.tc : Thread Cert.GateARefIdeal.nD Cert.GateARefIdeal.τ).loc Cert.GateARefIdeal.main_arg3)
          ∧ r.2.mem ((c.tc : Thread Cert.GateARefIdeal.nD Cert.GateARefIdeal.τ).loc Cert.GateARefIdeal.main_arg4) = m' ((c.tc : Thread Cert.GateARefIdeal.nD Cert.GateARefIdeal.τ).loc Cert.GateARefIdeal.main_arg4)
          ∧ r.2.mem ((c.tc : Thread Cert.GateARefIdeal.nD Cert.GateARefIdeal.τ).loc Cert.GateARefIdeal.main_arg5) = m' ((c.tc : Thread Cert.GateARefIdeal.nD Cert.GateARefIdeal.τ).loc Cert.GateARefIdeal.main_arg5))

def preserves_GateB_GateBIdeal : Prop :=
  True

def algebraic_GateBIdeal_GateBRefIdeal_on_gate_half_pre_gate_b_finite [hGateBIdeal : Cert.GateBIdeal.Facts] [hGateBRefIdeal : Cert.GateBRefIdeal.Facts] [hPre_gate_b_finite : Cert.Pre_gate_b_finite.Facts] [hOn_gate_half : Cert.On_gate_half.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal_gate_b_finite m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)
      ∧ m' ((c.tc : Thread Cert.GateBRefIdeal.nD Cert.GateBRefIdeal.τ).loc Cert.GateBRefIdeal.main_arg2) = m ((c.tc : Thread Cert.GateBIdeal.nD Cert.GateBIdeal.τ).loc Cert.GateBIdeal.main_arg2)
      ∧ m' ((c.tc : Thread Cert.GateBRefIdeal.nD Cert.GateBRefIdeal.τ).loc Cert.GateBRefIdeal.main_arg3) = m ((c.tc : Thread Cert.GateBIdeal.nD Cert.GateBIdeal.τ).loc Cert.GateBIdeal.main_arg3)
      ∧ m' ((c.tc : Thread Cert.GateBRefIdeal.nD Cert.GateBRefIdeal.τ).loc Cert.GateBRefIdeal.main_arg4) = m ((c.tc : Thread Cert.GateBIdeal.nD Cert.GateBIdeal.τ).loc Cert.GateBIdeal.main_arg4)) →
    ∃ (v0 : (c : Dev Cert.GateBIdeal.nD) → Buf (Elt Ideal) ((c.tc : Thread Cert.GateBIdeal.nD Cert.GateBIdeal.τ).loc Cert.GateBIdeal.main_v1_0)) (v1 : (c : Dev Cert.GateBIdeal.nD) → Buf (Elt Ideal) ((c.tc : Thread Cert.GateBIdeal.nD Cert.GateBIdeal.τ).loc Cert.GateBIdeal.main_v1_1)) (v2 : (c : Dev Cert.GateBIdeal.nD) → Buf (Elt Ideal) ((c.tc : Thread Cert.GateBIdeal.nD Cert.GateBIdeal.τ).loc Cert.GateBIdeal.main_v1_2)) (v3 : (c : Dev Cert.GateBIdeal.nD) → Buf (Elt Ideal) ((c.tc : Thread Cert.GateBIdeal.nD Cert.GateBIdeal.τ).loc Cert.GateBIdeal.main_v1_3)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          (∀ i : (⟨2, ![4096, 8192]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).1 i = 1#1 → r.2.mem ((c.tc : Thread Cert.GateBIdeal.nD Cert.GateBIdeal.τ).loc Cert.GateBIdeal.main_v1_0) i = v0 c i)
          ∧ (∀ i : (⟨2, ![4096, 16384]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.1 i = 1#1 → r.2.mem ((c.tc : Thread Cert.GateBIdeal.nD Cert.GateBIdeal.τ).loc Cert.GateBIdeal.main_v1_1) i = v1 c i)
          ∧ (∀ i : (⟨2, ![1, 8192]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.2.1 i = 1#1 → r.2.mem ((c.tc : Thread Cert.GateBIdeal.nD Cert.GateBIdeal.τ).loc Cert.GateBIdeal.main_v1_2) i = v2 c i)
          ∧ (∀ i : (⟨2, ![1, 8192]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.2.2 i = 1#1 → r.2.mem ((c.tc : Thread Cert.GateBIdeal.nD Cert.GateBIdeal.τ).loc Cert.GateBIdeal.main_v1_3) i = v3 c i)
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
          ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
          ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          (∀ i : (⟨2, ![4096, 8192]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).1 i = 1#1 → r.2.mem ((c.tc : Thread Cert.GateBRefIdeal.nD Cert.GateBRefIdeal.τ).loc Cert.GateBRefIdeal.main_v37) i = v0 c i)
          ∧ (∀ i : (⟨2, ![4096, 16384]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.1 i = 1#1 → r.2.mem ((c.tc : Thread Cert.GateBRefIdeal.nD Cert.GateBRefIdeal.τ).loc Cert.GateBRefIdeal.main_v38) i = v1 c i)
          ∧ (∀ i : (⟨2, ![1, 8192]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.2.1 i = 1#1 → r.2.mem ((c.tc : Thread Cert.GateBRefIdeal.nD Cert.GateBRefIdeal.τ).loc Cert.GateBRefIdeal.main_v39) i = v2 c i)
          ∧ (∀ i : (⟨2, ![1, 8192]⟩ : Shape).Idx, (Cert.On_gate_half.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))).2.2.2 i = 1#1 → r.2.mem ((c.tc : Thread Cert.GateBRefIdeal.nD Cert.GateBRefIdeal.τ).loc Cert.GateBRefIdeal.main_v40) i = v3 c i)
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1)
          ∧ r.2.mem ((c.tc : Thread Cert.GateBRefIdeal.nD Cert.GateBRefIdeal.τ).loc Cert.GateBRefIdeal.main_arg2) = m' ((c.tc : Thread Cert.GateBRefIdeal.nD Cert.GateBRefIdeal.τ).loc Cert.GateBRefIdeal.main_arg2)
          ∧ r.2.mem ((c.tc : Thread Cert.GateBRefIdeal.nD Cert.GateBRefIdeal.τ).loc Cert.GateBRefIdeal.main_arg3) = m' ((c.tc : Thread Cert.GateBRefIdeal.nD Cert.GateBRefIdeal.τ).loc Cert.GateBRefIdeal.main_arg3)
          ∧ r.2.mem ((c.tc : Thread Cert.GateBRefIdeal.nD Cert.GateBRefIdeal.τ).loc Cert.GateBRefIdeal.main_arg4) = m' ((c.tc : Thread Cert.GateBRefIdeal.nD Cert.GateBRefIdeal.τ).loc Cert.GateBRefIdeal.main_arg4))

def preserves_NormsMid_NormsMidIdeal : Prop :=
  True

def algebraic_NormsMidIdeal_NormsMidRefIdeal_pre_norms_mid_finite [hNormsMidIdeal : Cert.NormsMidIdeal.Facts] [hNormsMidRefIdeal : Cert.NormsMidRefIdeal.Facts] [hPre_norms_mid_finite : Cert.Pre_norms_mid_finite.Facts] : Prop :=
  ∀ (m : (ℓ : Loc Cert.NormsMidIdeal.nD Cert.NormsMidIdeal.τ Cert.NormsMidIdeal.sig) → Buf (Elt Ideal) ℓ) (g : Dev Cert.NormsMidIdeal.nD → PrngReg)
    (m' : (ℓ : Loc Cert.NormsMidRefIdeal.nD Cert.NormsMidRefIdeal.τ Cert.NormsMidRefIdeal.sig) → Buf (Elt Ideal) ℓ) (g' : Dev Cert.NormsMidRefIdeal.nD → PrngReg), Pre_NormsMidIdeal_norms_mid_finite m →
    (∀ c : Dev Cert.NormsMidIdeal.nD,
      m' ((c.tc : Thread Cert.NormsMidRefIdeal.nD Cert.NormsMidRefIdeal.τ).loc Cert.NormsMidRefIdeal.main_arg0) = m ((c.tc : Thread Cert.NormsMidIdeal.nD Cert.NormsMidIdeal.τ).loc Cert.NormsMidIdeal.main_arg0)
      ∧ m' ((c.tc : Thread Cert.NormsMidRefIdeal.nD Cert.NormsMidRefIdeal.τ).loc Cert.NormsMidRefIdeal.main_arg1) = m ((c.tc : Thread Cert.NormsMidIdeal.nD Cert.NormsMidIdeal.τ).loc Cert.NormsMidIdeal.main_arg1)
      ∧ m' ((c.tc : Thread Cert.NormsMidRefIdeal.nD Cert.NormsMidRefIdeal.τ).loc Cert.NormsMidRefIdeal.main_arg2) = m ((c.tc : Thread Cert.NormsMidIdeal.nD Cert.NormsMidIdeal.τ).loc Cert.NormsMidIdeal.main_arg2)
      ∧ m' ((c.tc : Thread Cert.NormsMidRefIdeal.nD Cert.NormsMidRefIdeal.τ).loc Cert.NormsMidRefIdeal.main_arg3) = m ((c.tc : Thread Cert.NormsMidIdeal.nD Cert.NormsMidIdeal.τ).loc Cert.NormsMidIdeal.main_arg3)
      ∧ m' ((c.tc : Thread Cert.NormsMidRefIdeal.nD Cert.NormsMidRefIdeal.τ).loc Cert.NormsMidRefIdeal.main_arg4) = m ((c.tc : Thread Cert.NormsMidIdeal.nD Cert.NormsMidIdeal.τ).loc Cert.NormsMidIdeal.main_arg4)
      ∧ m' ((c.tc : Thread Cert.NormsMidRefIdeal.nD Cert.NormsMidRefIdeal.τ).loc Cert.NormsMidRefIdeal.main_arg5) = m ((c.tc : Thread Cert.NormsMidIdeal.nD Cert.NormsMidIdeal.τ).loc Cert.NormsMidIdeal.main_arg5)) →
    ∃ (v0 : (c : Dev Cert.NormsMidIdeal.nD) → Buf (Elt Ideal) ((c.tc : Thread Cert.NormsMidIdeal.nD Cert.NormsMidIdeal.τ).loc Cert.NormsMidIdeal.main_v3_0)) (v1 : (c : Dev Cert.NormsMidIdeal.nD) → Buf (Elt Ideal) ((c.tc : Thread Cert.NormsMidIdeal.nD Cert.NormsMidIdeal.τ).loc Cert.NormsMidIdeal.main_v3_1)) (v2 : (c : Dev Cert.NormsMidIdeal.nD) → Buf (Elt Ideal) ((c.tc : Thread Cert.NormsMidIdeal.nD Cert.NormsMidIdeal.τ).loc Cert.NormsMidIdeal.main_v6_0)) (v3 : (c : Dev Cert.NormsMidIdeal.nD) → Buf (Elt Ideal) ((c.tc : Thread Cert.NormsMidIdeal.nD Cert.NormsMidIdeal.τ).loc Cert.NormsMidIdeal.main_v6_1)) (v4 : (c : Dev Cert.NormsMidIdeal.nD) → Buf (Elt Ideal) ((c.tc : Thread Cert.NormsMidIdeal.nD Cert.NormsMidIdeal.τ).loc Cert.NormsMidIdeal.main_v6_2)) (v5 : (c : Dev Cert.NormsMidIdeal.nD) → Buf (Elt Ideal) ((c.tc : Thread Cert.NormsMidIdeal.nD Cert.NormsMidIdeal.τ).loc Cert.NormsMidIdeal.main_v6_3)),
      θ_run (Cert.NormsMidIdeal.defs (F := Ideal)) (onTc (τ := Cert.NormsMidIdeal.τ) (Cert.NormsMidIdeal.main (F := Ideal))) ⟨m, fun _ => 0, g⟩ (fun r => ∀ c : Dev Cert.NormsMidIdeal.nD,
          r.2.mem ((c.tc : Thread Cert.NormsMidIdeal.nD Cert.NormsMidIdeal.τ).loc Cert.NormsMidIdeal.main_v3_0) = v0 c
          ∧ r.2.mem ((c.tc : Thread Cert.NormsMidIdeal.nD Cert.NormsMidIdeal.τ).loc Cert.NormsMidIdeal.main_v3_1) = v1 c
          ∧ r.2.mem ((c.tc : Thread Cert.NormsMidIdeal.nD Cert.NormsMidIdeal.τ).loc Cert.NormsMidIdeal.main_v6_0) = v2 c
          ∧ r.2.mem ((c.tc : Thread Cert.NormsMidIdeal.nD Cert.NormsMidIdeal.τ).loc Cert.NormsMidIdeal.main_v6_1) = v3 c
          ∧ r.2.mem ((c.tc : Thread Cert.NormsMidIdeal.nD Cert.NormsMidIdeal.τ).loc Cert.NormsMidIdeal.main_v6_2) = v4 c
          ∧ r.2.mem ((c.tc : Thread Cert.NormsMidIdeal.nD Cert.NormsMidIdeal.τ).loc Cert.NormsMidIdeal.main_v6_3) = v5 c
          ∧ r.2.mem ((c.tc : Thread Cert.NormsMidIdeal.nD Cert.NormsMidIdeal.τ).loc Cert.NormsMidIdeal.main_arg0) = m ((c.tc : Thread Cert.NormsMidIdeal.nD Cert.NormsMidIdeal.τ).loc Cert.NormsMidIdeal.main_arg0)
          ∧ r.2.mem ((c.tc : Thread Cert.NormsMidIdeal.nD Cert.NormsMidIdeal.τ).loc Cert.NormsMidIdeal.main_arg1) = m ((c.tc : Thread Cert.NormsMidIdeal.nD Cert.NormsMidIdeal.τ).loc Cert.NormsMidIdeal.main_arg1)
          ∧ r.2.mem ((c.tc : Thread Cert.NormsMidIdeal.nD Cert.NormsMidIdeal.τ).loc Cert.NormsMidIdeal.main_arg2) = m ((c.tc : Thread Cert.NormsMidIdeal.nD Cert.NormsMidIdeal.τ).loc Cert.NormsMidIdeal.main_arg2)
          ∧ r.2.mem ((c.tc : Thread Cert.NormsMidIdeal.nD Cert.NormsMidIdeal.τ).loc Cert.NormsMidIdeal.main_arg3) = m ((c.tc : Thread Cert.NormsMidIdeal.nD Cert.NormsMidIdeal.τ).loc Cert.NormsMidIdeal.main_arg3)
          ∧ r.2.mem ((c.tc : Thread Cert.NormsMidIdeal.nD Cert.NormsMidIdeal.τ).loc Cert.NormsMidIdeal.main_arg4) = m ((c.tc : Thread Cert.NormsMidIdeal.nD Cert.NormsMidIdeal.τ).loc Cert.NormsMidIdeal.main_arg4)
          ∧ r.2.mem ((c.tc : Thread Cert.NormsMidIdeal.nD Cert.NormsMidIdeal.τ).loc Cert.NormsMidIdeal.main_arg5) = m ((c.tc : Thread Cert.NormsMidIdeal.nD Cert.NormsMidIdeal.τ).loc Cert.NormsMidIdeal.main_arg5))
      ∧ θ_run (Cert.NormsMidRefIdeal.defs (F := Ideal)) (onTc (τ := Cert.NormsMidRefIdeal.τ) (Cert.NormsMidRefIdeal.main (F := Ideal))) ⟨m', fun _ => 0, g'⟩ (fun r => ∀ c : Dev Cert.NormsMidRefIdeal.nD,
          r.2.mem ((c.tc : Thread Cert.NormsMidRefIdeal.nD Cert.NormsMidRefIdeal.τ).loc Cert.NormsMidRefIdeal.main_v82) = v0 c
          ∧ r.2.mem ((c.tc : Thread Cert.NormsMidRefIdeal.nD Cert.NormsMidRefIdeal.τ).loc Cert.NormsMidRefIdeal.main_v84) = v1 c
          ∧ r.2.mem ((c.tc : Thread Cert.NormsMidRefIdeal.nD Cert.NormsMidRefIdeal.τ).loc Cert.NormsMidRefIdeal.main_v85) = v2 c
          ∧ r.2.mem ((c.tc : Thread Cert.NormsMidRefIdeal.nD Cert.NormsMidRefIdeal.τ).loc Cert.NormsMidRefIdeal.main_v86) = v3 c
          ∧ r.2.mem ((c.tc : Thread Cert.NormsMidRefIdeal.nD Cert.NormsMidRefIdeal.τ).loc Cert.NormsMidRefIdeal.main_v87) = v4 c
          ∧ r.2.mem ((c.tc : Thread Cert.NormsMidRefIdeal.nD Cert.NormsMidRefIdeal.τ).loc Cert.NormsMidRefIdeal.main_v88) = v5 c
          ∧ r.2.mem ((c.tc : Thread Cert.NormsMidRefIdeal.nD Cert.NormsMidRefIdeal.τ).loc Cert.NormsMidRefIdeal.main_arg0) = m' ((c.tc : Thread Cert.NormsMidRefIdeal.nD Cert.NormsMidRefIdeal.τ).loc Cert.NormsMidRefIdeal.main_arg0)
          ∧ r.2.mem ((c.tc : Thread Cert.NormsMidRefIdeal.nD Cert.NormsMidRefIdeal.τ).loc Cert.NormsMidRefIdeal.main_arg1) = m' ((c.tc : Thread Cert.NormsMidRefIdeal.nD Cert.NormsMidRefIdeal.τ).loc Cert.NormsMidRefIdeal.main_arg1)
          ∧ r.2.mem ((c.tc : Thread Cert.NormsMidRefIdeal.nD Cert.NormsMidRefIdeal.τ).loc Cert.NormsMidRefIdeal.main_arg2) = m' ((c.tc : Thread Cert.NormsMidRefIdeal.nD Cert.NormsMidRefIdeal.τ).loc Cert.NormsMidRefIdeal.main_arg2)
          ∧ r.2.mem ((c.tc : Thread Cert.NormsMidRefIdeal.nD Cert.NormsMidRefIdeal.τ).loc Cert.NormsMidRefIdeal.main_arg3) = m' ((c.tc : Thread Cert.NormsMidRefIdeal.nD Cert.NormsMidRefIdeal.τ).loc Cert.NormsMidRefIdeal.main_arg3)
          ∧ r.2.mem ((c.tc : Thread Cert.NormsMidRefIdeal.nD Cert.NormsMidRefIdeal.τ).loc Cert.NormsMidRefIdeal.main_arg4) = m' ((c.tc : Thread Cert.NormsMidRefIdeal.nD Cert.NormsMidRefIdeal.τ).loc Cert.NormsMidRefIdeal.main_arg4)
          ∧ r.2.mem ((c.tc : Thread Cert.NormsMidRefIdeal.nD Cert.NormsMidRefIdeal.τ).loc Cert.NormsMidRefIdeal.main_arg5) = m' ((c.tc : Thread Cert.NormsMidRefIdeal.nD Cert.NormsMidRefIdeal.τ).loc Cert.NormsMidRefIdeal.main_arg5))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)) →
    ∃ (v0 : (c : Dev Cert.PoolIdeal.nD) → Buf (Elt Ideal) ((c.tc : Thread Cert.PoolIdeal.nD Cert.PoolIdeal.τ).loc Cert.PoolIdeal.main_v0)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v122) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1))

def preserves_GateAFwd_GateAFwdIdeal : Prop :=
  IdealRules.named_const.Statement Cert.GateAFwdIdeal.κ "inv_sqrt2" .f32 0x3F3504F3#32 (((Real.sqrt 2)⁻¹ : ℝ) : EReal)

def algebraic_GateAFwdIdeal_GateAFwdRefIdeal_pre_gate_a_fwd_finite [hGateAFwdIdeal : Cert.GateAFwdIdeal.Facts] [hGateAFwdRefIdeal : Cert.GateAFwdRefIdeal.Facts] [hPre_gate_a_fwd_finite : Cert.Pre_gate_a_fwd_finite.Facts] : Prop :=
  ∀ (m : (ℓ : Loc Cert.GateAFwdIdeal.nD Cert.GateAFwdIdeal.τ Cert.GateAFwdIdeal.sig) → Buf (Elt Ideal) ℓ) (g : Dev Cert.GateAFwdIdeal.nD → PrngReg)
    (m' : (ℓ : Loc Cert.GateAFwdRefIdeal.nD Cert.GateAFwdRefIdeal.τ Cert.GateAFwdRefIdeal.sig) → Buf (Elt Ideal) ℓ) (g' : Dev Cert.GateAFwdRefIdeal.nD → PrngReg), Pre_GateAFwdIdeal_gate_a_fwd_finite m →
    (∀ c : Dev Cert.GateAFwdIdeal.nD,
      m' ((c.tc : Thread Cert.GateAFwdRefIdeal.nD Cert.GateAFwdRefIdeal.τ).loc Cert.GateAFwdRefIdeal.main_arg0) = m ((c.tc : Thread Cert.GateAFwdIdeal.nD Cert.GateAFwdIdeal.τ).loc Cert.GateAFwdIdeal.main_arg0)
      ∧ m' ((c.tc : Thread Cert.GateAFwdRefIdeal.nD Cert.GateAFwdRefIdeal.τ).loc Cert.GateAFwdRefIdeal.main_arg1) = m ((c.tc : Thread Cert.GateAFwdIdeal.nD Cert.GateAFwdIdeal.τ).loc Cert.GateAFwdIdeal.main_arg1)
      ∧ m' ((c.tc : Thread Cert.GateAFwdRefIdeal.nD Cert.GateAFwdRefIdeal.τ).loc Cert.GateAFwdRefIdeal.main_arg2) = m ((c.tc : Thread Cert.GateAFwdIdeal.nD Cert.GateAFwdIdeal.τ).loc Cert.GateAFwdIdeal.main_arg2)
      ∧ m' ((c.tc : Thread Cert.GateAFwdRefIdeal.nD Cert.GateAFwdRefIdeal.τ).loc Cert.GateAFwdRefIdeal.main_arg3) = m ((c.tc : Thread Cert.GateAFwdIdeal.nD Cert.GateAFwdIdeal.τ).loc Cert.GateAFwdIdeal.main_arg3)
      ∧ m' ((c.tc : Thread Cert.GateAFwdRefIdeal.nD Cert.GateAFwdRefIdeal.τ).loc Cert.GateAFwdRefIdeal.main_arg4) = m ((c.tc : Thread Cert.GateAFwdIdeal.nD Cert.GateAFwdIdeal.τ).loc Cert.GateAFwdIdeal.main_arg4)) →
    ∃ (v0 : (c : Dev Cert.GateAFwdIdeal.nD) → Buf (Elt Ideal) ((c.tc : Thread Cert.GateAFwdIdeal.nD Cert.GateAFwdIdeal.τ).loc Cert.GateAFwdIdeal.main_v5)),
      θ_run (Cert.GateAFwdIdeal.defs (F := Ideal)) (onTc (τ := Cert.GateAFwdIdeal.τ) (Cert.GateAFwdIdeal.main (F := Ideal))) ⟨m, fun _ => 0, g⟩ (fun r => ∀ c : Dev Cert.GateAFwdIdeal.nD,
          r.2.mem ((c.tc : Thread Cert.GateAFwdIdeal.nD Cert.GateAFwdIdeal.τ).loc Cert.GateAFwdIdeal.main_v5) = v0 c
          ∧ r.2.mem ((c.tc : Thread Cert.GateAFwdIdeal.nD Cert.GateAFwdIdeal.τ).loc Cert.GateAFwdIdeal.main_arg0) = m ((c.tc : Thread Cert.GateAFwdIdeal.nD Cert.GateAFwdIdeal.τ).loc Cert.GateAFwdIdeal.main_arg0)
          ∧ r.2.mem ((c.tc : Thread Cert.GateAFwdIdeal.nD Cert.GateAFwdIdeal.τ).loc Cert.GateAFwdIdeal.main_arg1) = m ((c.tc : Thread Cert.GateAFwdIdeal.nD Cert.GateAFwdIdeal.τ).loc Cert.GateAFwdIdeal.main_arg1)
          ∧ r.2.mem ((c.tc : Thread Cert.GateAFwdIdeal.nD Cert.GateAFwdIdeal.τ).loc Cert.GateAFwdIdeal.main_arg2) = m ((c.tc : Thread Cert.GateAFwdIdeal.nD Cert.GateAFwdIdeal.τ).loc Cert.GateAFwdIdeal.main_arg2)
          ∧ r.2.mem ((c.tc : Thread Cert.GateAFwdIdeal.nD Cert.GateAFwdIdeal.τ).loc Cert.GateAFwdIdeal.main_arg3) = m ((c.tc : Thread Cert.GateAFwdIdeal.nD Cert.GateAFwdIdeal.τ).loc Cert.GateAFwdIdeal.main_arg3)
          ∧ r.2.mem ((c.tc : Thread Cert.GateAFwdIdeal.nD Cert.GateAFwdIdeal.τ).loc Cert.GateAFwdIdeal.main_arg4) = m ((c.tc : Thread Cert.GateAFwdIdeal.nD Cert.GateAFwdIdeal.τ).loc Cert.GateAFwdIdeal.main_arg4))
      ∧ θ_run (Cert.GateAFwdRefIdeal.defs (F := Ideal)) (onTc (τ := Cert.GateAFwdRefIdeal.τ) (Cert.GateAFwdRefIdeal.main (F := Ideal))) ⟨m', fun _ => 0, g'⟩ (fun r => ∀ c : Dev Cert.GateAFwdRefIdeal.nD,
          r.2.mem ((c.tc : Thread Cert.GateAFwdRefIdeal.nD Cert.GateAFwdRefIdeal.τ).loc Cert.GateAFwdRefIdeal.main_v61) = v0 c
          ∧ r.2.mem ((c.tc : Thread Cert.GateAFwdRefIdeal.nD Cert.GateAFwdRefIdeal.τ).loc Cert.GateAFwdRefIdeal.main_arg0) = m' ((c.tc : Thread Cert.GateAFwdRefIdeal.nD Cert.GateAFwdRefIdeal.τ).loc Cert.GateAFwdRefIdeal.main_arg0)
          ∧ r.2.mem ((c.tc : Thread Cert.GateAFwdRefIdeal.nD Cert.GateAFwdRefIdeal.τ).loc Cert.GateAFwdRefIdeal.main_arg1) = m' ((c.tc : Thread Cert.GateAFwdRefIdeal.nD Cert.GateAFwdRefIdeal.τ).loc Cert.GateAFwdRefIdeal.main_arg1)
          ∧ r.2.mem ((c.tc : Thread Cert.GateAFwdRefIdeal.nD Cert.GateAFwdRefIdeal.τ).loc Cert.GateAFwdRefIdeal.main_arg2) = m' ((c.tc : Thread Cert.GateAFwdRefIdeal.nD Cert.GateAFwdRefIdeal.τ).loc Cert.GateAFwdRefIdeal.main_arg2)
          ∧ r.2.mem ((c.tc : Thread Cert.GateAFwdRefIdeal.nD Cert.GateAFwdRefIdeal.τ).loc Cert.GateAFwdRefIdeal.main_arg3) = m' ((c.tc : Thread Cert.GateAFwdRefIdeal.nD Cert.GateAFwdRefIdeal.τ).loc Cert.GateAFwdRefIdeal.main_arg3)
          ∧ r.2.mem ((c.tc : Thread Cert.GateAFwdRefIdeal.nD Cert.GateAFwdRefIdeal.τ).loc Cert.GateAFwdRefIdeal.main_arg4) = m' ((c.tc : Thread Cert.GateAFwdRefIdeal.nD Cert.GateAFwdRefIdeal.τ).loc Cert.GateAFwdRefIdeal.main_arg4))

def preserves_GateBFwd_GateBFwdIdeal : Prop :=
  True

def algebraic_GateBFwdIdeal_GateBFwdRefIdeal [hGateBFwdIdeal : Cert.GateBFwdIdeal.Facts] [hGateBFwdRefIdeal : Cert.GateBFwdRefIdeal.Facts] : Prop :=
  ∀ (m : (ℓ : Loc Cert.GateBFwdIdeal.nD Cert.GateBFwdIdeal.τ Cert.GateBFwdIdeal.sig) → Buf (Elt Ideal) ℓ) (g : Dev Cert.GateBFwdIdeal.nD → PrngReg)
    (m' : (ℓ : Loc Cert.GateBFwdRefIdeal.nD Cert.GateBFwdRefIdeal.τ Cert.GateBFwdRefIdeal.sig) → Buf (Elt Ideal) ℓ) (g' : Dev Cert.GateBFwdRefIdeal.nD → PrngReg), Pre_GateBFwdIdeal m →
    (∀ c : Dev Cert.GateBFwdIdeal.nD,
      m' ((c.tc : Thread Cert.GateBFwdRefIdeal.nD Cert.GateBFwdRefIdeal.τ).loc Cert.GateBFwdRefIdeal.main_arg0) = m ((c.tc : Thread Cert.GateBFwdIdeal.nD Cert.GateBFwdIdeal.τ).loc Cert.GateBFwdIdeal.main_arg0)
      ∧ m' ((c.tc : Thread Cert.GateBFwdRefIdeal.nD Cert.GateBFwdRefIdeal.τ).loc Cert.GateBFwdRefIdeal.main_arg1) = m ((c.tc : Thread Cert.GateBFwdIdeal.nD Cert.GateBFwdIdeal.τ).loc Cert.GateBFwdIdeal.main_arg1)
      ∧ m' ((c.tc : Thread Cert.GateBFwdRefIdeal.nD Cert.GateBFwdRefIdeal.τ).loc Cert.GateBFwdRefIdeal.main_arg2) = m ((c.tc : Thread Cert.GateBFwdIdeal.nD Cert.GateBFwdIdeal.τ).loc Cert.GateBFwdIdeal.main_arg2)
      ∧ m' ((c.tc : Thread Cert.GateBFwdRefIdeal.nD Cert.GateBFwdRefIdeal.τ).loc Cert.GateBFwdRefIdeal.main_arg3) = m ((c.tc : Thread Cert.GateBFwdIdeal.nD Cert.GateBFwdIdeal.τ).loc Cert.GateBFwdIdeal.main_arg3)) →
    ∃ (v0 : (c : Dev Cert.GateBFwdIdeal.nD) → Buf (Elt Ideal) ((c.tc : Thread Cert.GateBFwdIdeal.nD Cert.GateBFwdIdeal.τ).loc Cert.GateBFwdIdeal.main_v1)),
      θ_run (Cert.GateBFwdIdeal.defs (F := Ideal)) (onTc (τ := Cert.GateBFwdIdeal.τ) (Cert.GateBFwdIdeal.main (F := Ideal))) ⟨m, fun _ => 0, g⟩ (fun r => ∀ c : Dev Cert.GateBFwdIdeal.nD,
          r.2.mem ((c.tc : Thread Cert.GateBFwdIdeal.nD Cert.GateBFwdIdeal.τ).loc Cert.GateBFwdIdeal.main_v1) = v0 c
          ∧ r.2.mem ((c.tc : Thread Cert.GateBFwdIdeal.nD Cert.GateBFwdIdeal.τ).loc Cert.GateBFwdIdeal.main_arg0) = m ((c.tc : Thread Cert.GateBFwdIdeal.nD Cert.GateBFwdIdeal.τ).loc Cert.GateBFwdIdeal.main_arg0)
          ∧ r.2.mem ((c.tc : Thread Cert.GateBFwdIdeal.nD Cert.GateBFwdIdeal.τ).loc Cert.GateBFwdIdeal.main_arg1) = m ((c.tc : Thread Cert.GateBFwdIdeal.nD Cert.GateBFwdIdeal.τ).loc Cert.GateBFwdIdeal.main_arg1)
          ∧ r.2.mem ((c.tc : Thread Cert.GateBFwdIdeal.nD Cert.GateBFwdIdeal.τ).loc Cert.GateBFwdIdeal.main_arg2) = m ((c.tc : Thread Cert.GateBFwdIdeal.nD Cert.GateBFwdIdeal.τ).loc Cert.GateBFwdIdeal.main_arg2)
          ∧ r.2.mem ((c.tc : Thread Cert.GateBFwdIdeal.nD Cert.GateBFwdIdeal.τ).loc Cert.GateBFwdIdeal.main_arg3) = m ((c.tc : Thread Cert.GateBFwdIdeal.nD Cert.GateBFwdIdeal.τ).loc Cert.GateBFwdIdeal.main_arg3))
      ∧ θ_run (Cert.GateBFwdRefIdeal.defs (F := Ideal)) (onTc (τ := Cert.GateBFwdRefIdeal.τ) (Cert.GateBFwdRefIdeal.main (F := Ideal))) ⟨m', fun _ => 0, g'⟩ (fun r => ∀ c : Dev Cert.GateBFwdRefIdeal.nD,
          r.2.mem ((c.tc : Thread Cert.GateBFwdRefIdeal.nD Cert.GateBFwdRefIdeal.τ).loc Cert.GateBFwdRefIdeal.main_v18) = v0 c
          ∧ r.2.mem ((c.tc : Thread Cert.GateBFwdRefIdeal.nD Cert.GateBFwdRefIdeal.τ).loc Cert.GateBFwdRefIdeal.main_arg0) = m' ((c.tc : Thread Cert.GateBFwdRefIdeal.nD Cert.GateBFwdRefIdeal.τ).loc Cert.GateBFwdRefIdeal.main_arg0)
          ∧ r.2.mem ((c.tc : Thread Cert.GateBFwdRefIdeal.nD Cert.GateBFwdRefIdeal.τ).loc Cert.GateBFwdRefIdeal.main_arg1) = m' ((c.tc : Thread Cert.GateBFwdRefIdeal.nD Cert.GateBFwdRefIdeal.τ).loc Cert.GateBFwdRefIdeal.main_arg1)
          ∧ r.2.mem ((c.tc : Thread Cert.GateBFwdRefIdeal.nD Cert.GateBFwdRefIdeal.τ).loc Cert.GateBFwdRefIdeal.main_arg2) = m' ((c.tc : Thread Cert.GateBFwdRefIdeal.nD Cert.GateBFwdRefIdeal.τ).loc Cert.GateBFwdRefIdeal.main_arg2)
          ∧ r.2.mem ((c.tc : Thread Cert.GateBFwdRefIdeal.nD Cert.GateBFwdRefIdeal.τ).loc Cert.GateBFwdRefIdeal.main_arg3) = m' ((c.tc : Thread Cert.GateBFwdRefIdeal.nD Cert.GateBFwdRefIdeal.τ).loc Cert.GateBFwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v16) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_PoolFwd_PoolFwdIdeal : Prop :=
  True

def algebraic_PoolFwdIdeal_PoolFwdRefIdeal_pre_pool_fwd_finite [hPoolFwdIdeal : Cert.PoolFwdIdeal.Facts] [hPoolFwdRefIdeal : Cert.PoolFwdRefIdeal.Facts] [hPre_pool_fwd_finite : Cert.Pre_pool_fwd_finite.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal_pool_fwd_finite m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)) →
    ∃ (v0 : (c : Dev Cert.PoolFwdIdeal.nD) → Buf (Elt Ideal) ((c.tc : Thread Cert.PoolFwdIdeal.nD Cert.PoolFwdIdeal.τ).loc Cert.PoolFwdIdeal.main_v0)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v0) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v66) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v0) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Grouped_GroupedIdeal : Prop :=
  True

def algebraic_GroupedIdeal_GroupedRefIdeal [hGroupedIdeal : Cert.GroupedIdeal.Facts] [hGroupedRefIdeal : Cert.GroupedRefIdeal.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedRefIdeal.nD Cert.GroupedRefIdeal.τ Cert.GroupedRefIdeal.sig) → Buf (Elt Ideal) ℓ) (g' : Dev Cert.GroupedRefIdeal.nD → PrngReg), Pre_GroupedIdeal m →
    (∀ c : Dev Cert.GroupedIdeal.nD,
      m' ((c.tc : Thread Cert.GroupedRefIdeal.nD Cert.GroupedRefIdeal.τ).loc Cert.GroupedRefIdeal.main_arg0) = m ((c.tc : Thread Cert.GroupedIdeal.nD Cert.GroupedIdeal.τ).loc Cert.GroupedIdeal.main_arg0)
      ∧ m' ((c.tc : Thread Cert.GroupedRefIdeal.nD Cert.GroupedRefIdeal.τ).loc Cert.GroupedRefIdeal.main_arg1) = m ((c.tc : Thread Cert.GroupedIdeal.nD Cert.GroupedIdeal.τ).loc Cert.GroupedIdeal.main_arg1)) →
    ∃ (v0 : (c : Dev Cert.GroupedIdeal.nD) → Buf (Elt Ideal) ((c.tc : Thread Cert.GroupedIdeal.nD Cert.GroupedIdeal.τ).loc Cert.GroupedIdeal.main_v0)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v0) = v0 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1))
      ∧ θ_run (Cert.GroupedRefIdeal.defs (F := Ideal)) (onTc (τ := Cert.GroupedRefIdeal.τ) (Cert.GroupedRefIdeal.main (F := Ideal))) ⟨m', fun _ => 0, g'⟩ (fun r => ∀ c : Dev Cert.GroupedRefIdeal.nD,
          r.2.mem ((c.tc : Thread Cert.GroupedRefIdeal.nD Cert.GroupedRefIdeal.τ).loc Cert.GroupedRefIdeal.main_v4) = v0 c
          ∧ r.2.mem ((c.tc : Thread Cert.GroupedRefIdeal.nD Cert.GroupedRefIdeal.τ).loc Cert.GroupedRefIdeal.main_arg0) = m' ((c.tc : Thread Cert.GroupedRefIdeal.nD Cert.GroupedRefIdeal.τ).loc Cert.GroupedRefIdeal.main_arg0)
          ∧ r.2.mem ((c.tc : Thread Cert.GroupedRefIdeal.nD Cert.GroupedRefIdeal.τ).loc Cert.GroupedRefIdeal.main_arg1) = m' ((c.tc : Thread Cert.GroupedRefIdeal.nD Cert.GroupedRefIdeal.τ).loc Cert.GroupedRefIdeal.main_arg1))

def preserves_DactOut_DactOutIdeal : Prop :=
  True

def algebraic_DactOutIdeal_DactOutRefIdeal [hDactOutIdeal : Cert.DactOutIdeal.Facts] [hDactOutRefIdeal : Cert.DactOutRefIdeal.Facts] : Prop :=
  ∀ (m : (ℓ : Loc Cert.DactOutIdeal.nD Cert.DactOutIdeal.τ Cert.DactOutIdeal.sig) → Buf (Elt Ideal) ℓ) (g : Dev Cert.DactOutIdeal.nD → PrngReg)
    (m' : (ℓ : Loc Cert.DactOutRefIdeal.nD Cert.DactOutRefIdeal.τ Cert.DactOutRefIdeal.sig) → Buf (Elt Ideal) ℓ) (g' : Dev Cert.DactOutRefIdeal.nD → PrngReg), Pre_DactOutIdeal m →
    (∀ c : Dev Cert.DactOutIdeal.nD,
      m' ((c.tc : Thread Cert.DactOutRefIdeal.nD Cert.DactOutRefIdeal.τ).loc Cert.DactOutRefIdeal.main_arg0) = m ((c.tc : Thread Cert.DactOutIdeal.nD Cert.DactOutIdeal.τ).loc Cert.DactOutIdeal.main_arg0)
      ∧ m' ((c.tc : Thread Cert.DactOutRefIdeal.nD Cert.DactOutRefIdeal.τ).loc Cert.DactOutRefIdeal.main_arg1) = m ((c.tc : Thread Cert.DactOutIdeal.nD Cert.DactOutIdeal.τ).loc Cert.DactOutIdeal.main_arg1)) →
    ∃ (v0 : (c : Dev Cert.DactOutIdeal.nD) → Buf (Elt Ideal) ((c.tc : Thread Cert.DactOutIdeal.nD Cert.DactOutIdeal.τ).loc Cert.DactOutIdeal.main_v0)),
      θ_run (Cert.DactOutIdeal.defs (F := Ideal)) (onTc (τ := Cert.DactOutIdeal.τ) (Cert.DactOutIdeal.main (F := Ideal))) ⟨m, fun _ => 0, g⟩ (fun r => ∀ c : Dev Cert.DactOutIdeal.nD,
          r.2.mem ((c.tc : Thread Cert.DactOutIdeal.nD Cert.DactOutIdeal.τ).loc Cert.DactOutIdeal.main_v0) = v0 c
          ∧ r.2.mem ((c.tc : Thread Cert.DactOutIdeal.nD Cert.DactOutIdeal.τ).loc Cert.DactOutIdeal.main_arg0) = m ((c.tc : Thread Cert.DactOutIdeal.nD Cert.DactOutIdeal.τ).loc Cert.DactOutIdeal.main_arg0)
          ∧ r.2.mem ((c.tc : Thread Cert.DactOutIdeal.nD Cert.DactOutIdeal.τ).loc Cert.DactOutIdeal.main_arg1) = m ((c.tc : Thread Cert.DactOutIdeal.nD Cert.DactOutIdeal.τ).loc Cert.DactOutIdeal.main_arg1))
      ∧ θ_run (Cert.DactOutRefIdeal.defs (F := Ideal)) (onTc (τ := Cert.DactOutRefIdeal.τ) (Cert.DactOutRefIdeal.main (F := Ideal))) ⟨m', fun _ => 0, g'⟩ (fun r => ∀ c : Dev Cert.DactOutRefIdeal.nD,
          r.2.mem ((c.tc : Thread Cert.DactOutRefIdeal.nD Cert.DactOutRefIdeal.τ).loc Cert.DactOutRefIdeal.main_v2) = v0 c
          ∧ r.2.mem ((c.tc : Thread Cert.DactOutRefIdeal.nD Cert.DactOutRefIdeal.τ).loc Cert.DactOutRefIdeal.main_arg0) = m' ((c.tc : Thread Cert.DactOutRefIdeal.nD Cert.DactOutRefIdeal.τ).loc Cert.DactOutRefIdeal.main_arg0)
          ∧ r.2.mem ((c.tc : Thread Cert.DactOutRefIdeal.nD Cert.DactOutRefIdeal.τ).loc Cert.DactOutRefIdeal.main_arg1) = m' ((c.tc : Thread Cert.DactOutRefIdeal.nD Cert.DactOutRefIdeal.τ).loc Cert.DactOutRefIdeal.main_arg1))

def preserves_DactIn_DactInIdeal : Prop :=
  True

def algebraic_DactInIdeal_DactInRefIdeal [hDactInIdeal : Cert.DactInIdeal.Facts] [hDactInRefIdeal : Cert.DactInRefIdeal.Facts] : Prop :=
  ∀ (m : (ℓ : Loc Cert.DactInIdeal.nD Cert.DactInIdeal.τ Cert.DactInIdeal.sig) → Buf (Elt Ideal) ℓ) (g : Dev Cert.DactInIdeal.nD → PrngReg)
    (m' : (ℓ : Loc Cert.DactInRefIdeal.nD Cert.DactInRefIdeal.τ Cert.DactInRefIdeal.sig) → Buf (Elt Ideal) ℓ) (g' : Dev Cert.DactInRefIdeal.nD → PrngReg), Pre_DactInIdeal m →
    (∀ c : Dev Cert.DactInIdeal.nD,
      m' ((c.tc : Thread Cert.DactInRefIdeal.nD Cert.DactInRefIdeal.τ).loc Cert.DactInRefIdeal.main_arg0) = m ((c.tc : Thread Cert.DactInIdeal.nD Cert.DactInIdeal.τ).loc Cert.DactInIdeal.main_arg0)
      ∧ m' ((c.tc : Thread Cert.DactInRefIdeal.nD Cert.DactInRefIdeal.τ).loc Cert.DactInRefIdeal.main_arg1) = m ((c.tc : Thread Cert.DactInIdeal.nD Cert.DactInIdeal.τ).loc Cert.DactInIdeal.main_arg1)) →
    ∃ (v0 : (c : Dev Cert.DactInIdeal.nD) → Buf (Elt Ideal) ((c.tc : Thread Cert.DactInIdeal.nD Cert.DactInIdeal.τ).loc Cert.DactInIdeal.main_v0)),
      θ_run (Cert.DactInIdeal.defs (F := Ideal)) (onTc (τ := Cert.DactInIdeal.τ) (Cert.DactInIdeal.main (F := Ideal))) ⟨m, fun _ => 0, g⟩ (fun r => ∀ c : Dev Cert.DactInIdeal.nD,
          r.2.mem ((c.tc : Thread Cert.DactInIdeal.nD Cert.DactInIdeal.τ).loc Cert.DactInIdeal.main_v0) = v0 c
          ∧ r.2.mem ((c.tc : Thread Cert.DactInIdeal.nD Cert.DactInIdeal.τ).loc Cert.DactInIdeal.main_arg0) = m ((c.tc : Thread Cert.DactInIdeal.nD Cert.DactInIdeal.τ).loc Cert.DactInIdeal.main_arg0)
          ∧ r.2.mem ((c.tc : Thread Cert.DactInIdeal.nD Cert.DactInIdeal.τ).loc Cert.DactInIdeal.main_arg1) = m ((c.tc : Thread Cert.DactInIdeal.nD Cert.DactInIdeal.τ).loc Cert.DactInIdeal.main_arg1))
      ∧ θ_run (Cert.DactInRefIdeal.defs (F := Ideal)) (onTc (τ := Cert.DactInRefIdeal.τ) (Cert.DactInRefIdeal.main (F := Ideal))) ⟨m', fun _ => 0, g'⟩ (fun r => ∀ c : Dev Cert.DactInRefIdeal.nD,
          r.2.mem ((c.tc : Thread Cert.DactInRefIdeal.nD Cert.DactInRefIdeal.τ).loc Cert.DactInRefIdeal.main_v3) = v0 c
          ∧ r.2.mem ((c.tc : Thread Cert.DactInRefIdeal.nD Cert.DactInRefIdeal.τ).loc Cert.DactInRefIdeal.main_arg0) = m' ((c.tc : Thread Cert.DactInRefIdeal.nD Cert.DactInRefIdeal.τ).loc Cert.DactInRefIdeal.main_arg0)
          ∧ r.2.mem ((c.tc : Thread Cert.DactInRefIdeal.nD Cert.DactInRefIdeal.τ).loc Cert.DactInRefIdeal.main_arg1) = m' ((c.tc : Thread Cert.DactInRefIdeal.nD Cert.DactInRefIdeal.τ).loc Cert.DactInRefIdeal.main_arg1))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v2) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_DwSharded_DwShardedIdeal : Prop :=
  True

def algebraic_DwShardedIdeal_DwShardedRefIdeal [hDwShardedIdeal : Cert.DwShardedIdeal.Facts] [hDwShardedRefIdeal : Cert.DwShardedRefIdeal.Facts] : Prop :=
  ∀ (m : (ℓ : Loc Cert.DwShardedIdeal.nD Cert.DwShardedIdeal.τ Cert.DwShardedIdeal.sig) → Buf (Elt Ideal) ℓ) (g : Dev Cert.DwShardedIdeal.nD → PrngReg)
    (m' : (ℓ : Loc Cert.DwShardedRefIdeal.nD Cert.DwShardedRefIdeal.τ Cert.DwShardedRefIdeal.sig) → Buf (Elt Ideal) ℓ) (g' : Dev Cert.DwShardedRefIdeal.nD → PrngReg), Pre_DwShardedIdeal m →
    (∀ c : Dev Cert.DwShardedIdeal.nD,
      m' ((c.tc : Thread Cert.DwShardedRefIdeal.nD Cert.DwShardedRefIdeal.τ).loc Cert.DwShardedRefIdeal.main_arg0) = m ((c.tc : Thread Cert.DwShardedIdeal.nD Cert.DwShardedIdeal.τ).loc Cert.DwShardedIdeal.main_arg0)
      ∧ m' ((c.tc : Thread Cert.DwShardedRefIdeal.nD Cert.DwShardedRefIdeal.τ).loc Cert.DwShardedRefIdeal.main_arg1) = m ((c.tc : Thread Cert.DwShardedIdeal.nD Cert.DwShardedIdeal.τ).loc Cert.DwShardedIdeal.main_arg1)) →
    ∃ (v0 : (c : Dev Cert.DwShardedIdeal.nD) → Buf (Elt Ideal) ((c.tc : Thread Cert.DwShardedIdeal.nD Cert.DwShardedIdeal.τ).loc Cert.DwShardedIdeal.main_v0)),
      θ_run (Cert.DwShardedIdeal.defs (F := Ideal)) (onTc (τ := Cert.DwShardedIdeal.τ) (Cert.DwShardedIdeal.main (F := Ideal))) ⟨m, fun _ => 0, g⟩ (fun r => ∀ c : Dev Cert.DwShardedIdeal.nD,
          r.2.mem ((c.tc : Thread Cert.DwShardedIdeal.nD Cert.DwShardedIdeal.τ).loc Cert.DwShardedIdeal.main_v0) = v0 c
          ∧ r.2.mem ((c.tc : Thread Cert.DwShardedIdeal.nD Cert.DwShardedIdeal.τ).loc Cert.DwShardedIdeal.main_arg0) = m ((c.tc : Thread Cert.DwShardedIdeal.nD Cert.DwShardedIdeal.τ).loc Cert.DwShardedIdeal.main_arg0)
          ∧ r.2.mem ((c.tc : Thread Cert.DwShardedIdeal.nD Cert.DwShardedIdeal.τ).loc Cert.DwShardedIdeal.main_arg1) = m ((c.tc : Thread Cert.DwShardedIdeal.nD Cert.DwShardedIdeal.τ).loc Cert.DwShardedIdeal.main_arg1))
      ∧ θ_run (Cert.DwShardedRefIdeal.defs (F := Ideal)) (onTc (τ := Cert.DwShardedRefIdeal.τ) (Cert.DwShardedRefIdeal.main (F := Ideal))) ⟨m', fun _ => 0, g'⟩ (fun r => ∀ c : Dev Cert.DwShardedRefIdeal.nD,
          r.2.mem ((c.tc : Thread Cert.DwShardedRefIdeal.nD Cert.DwShardedRefIdeal.τ).loc Cert.DwShardedRefIdeal.main_v4) = v0 c
          ∧ r.2.mem ((c.tc : Thread Cert.DwShardedRefIdeal.nD Cert.DwShardedRefIdeal.τ).loc Cert.DwShardedRefIdeal.main_arg0) = m' ((c.tc : Thread Cert.DwShardedRefIdeal.nD Cert.DwShardedRefIdeal.τ).loc Cert.DwShardedRefIdeal.main_arg0)
          ∧ r.2.mem ((c.tc : Thread Cert.DwShardedRefIdeal.nD Cert.DwShardedRefIdeal.τ).loc Cert.DwShardedRefIdeal.main_arg1) = m' ((c.tc : Thread Cert.DwShardedRefIdeal.nD Cert.DwShardedRefIdeal.τ).loc Cert.DwShardedRefIdeal.main_arg1))

def preserves_DwGrouped_DwGroupedIdeal : Prop :=
  True

def algebraic_DwGroupedIdeal_DwGroupedRefIdeal [hDwGroupedIdeal : Cert.DwGroupedIdeal.Facts] [hDwGroupedRefIdeal : Cert.DwGroupedRefIdeal.Facts] : Prop :=
  ∀ (m : (ℓ : Loc Cert.DwGroupedIdeal.nD Cert.DwGroupedIdeal.τ Cert.DwGroupedIdeal.sig) → Buf (Elt Ideal) ℓ) (g : Dev Cert.DwGroupedIdeal.nD → PrngReg)
    (m' : (ℓ : Loc Cert.DwGroupedRefIdeal.nD Cert.DwGroupedRefIdeal.τ Cert.DwGroupedRefIdeal.sig) → Buf (Elt Ideal) ℓ) (g' : Dev Cert.DwGroupedRefIdeal.nD → PrngReg), Pre_DwGroupedIdeal m →
    (∀ c : Dev Cert.DwGroupedIdeal.nD,
      m' ((c.tc : Thread Cert.DwGroupedRefIdeal.nD Cert.DwGroupedRefIdeal.τ).loc Cert.DwGroupedRefIdeal.main_arg0) = m ((c.tc : Thread Cert.DwGroupedIdeal.nD Cert.DwGroupedIdeal.τ).loc Cert.DwGroupedIdeal.main_arg0)
      ∧ m' ((c.tc : Thread Cert.DwGroupedRefIdeal.nD Cert.DwGroupedRefIdeal.τ).loc Cert.DwGroupedRefIdeal.main_arg1) = m ((c.tc : Thread Cert.DwGroupedIdeal.nD Cert.DwGroupedIdeal.τ).loc Cert.DwGroupedIdeal.main_arg1)) →
    ∃ (v0 : (c : Dev Cert.DwGroupedIdeal.nD) → Buf (Elt Ideal) ((c.tc : Thread Cert.DwGroupedIdeal.nD Cert.DwGroupedIdeal.τ).loc Cert.DwGroupedIdeal.main_v0)),
      θ_run (Cert.DwGroupedIdeal.defs (F := Ideal)) (onTc (τ := Cert.DwGroupedIdeal.τ) (Cert.DwGroupedIdeal.main (F := Ideal))) ⟨m, fun _ => 0, g⟩ (fun r => ∀ c : Dev Cert.DwGroupedIdeal.nD,
          r.2.mem ((c.tc : Thread Cert.DwGroupedIdeal.nD Cert.DwGroupedIdeal.τ).loc Cert.DwGroupedIdeal.main_v0) = v0 c
          ∧ r.2.mem ((c.tc : Thread Cert.DwGroupedIdeal.nD Cert.DwGroupedIdeal.τ).loc Cert.DwGroupedIdeal.main_arg0) = m ((c.tc : Thread Cert.DwGroupedIdeal.nD Cert.DwGroupedIdeal.τ).loc Cert.DwGroupedIdeal.main_arg0)
          ∧ r.2.mem ((c.tc : Thread Cert.DwGroupedIdeal.nD Cert.DwGroupedIdeal.τ).loc Cert.DwGroupedIdeal.main_arg1) = m ((c.tc : Thread Cert.DwGroupedIdeal.nD Cert.DwGroupedIdeal.τ).loc Cert.DwGroupedIdeal.main_arg1))
      ∧ θ_run (Cert.DwGroupedRefIdeal.defs (F := Ideal)) (onTc (τ := Cert.DwGroupedRefIdeal.τ) (Cert.DwGroupedRefIdeal.main (F := Ideal))) ⟨m', fun _ => 0, g'⟩ (fun r => ∀ c : Dev Cert.DwGroupedRefIdeal.nD,
          r.2.mem ((c.tc : Thread Cert.DwGroupedRefIdeal.nD Cert.DwGroupedRefIdeal.τ).loc Cert.DwGroupedRefIdeal.main_v3) = v0 c
          ∧ r.2.mem ((c.tc : Thread Cert.DwGroupedRefIdeal.nD Cert.DwGroupedRefIdeal.τ).loc Cert.DwGroupedRefIdeal.main_arg0) = m' ((c.tc : Thread Cert.DwGroupedRefIdeal.nD Cert.DwGroupedRefIdeal.τ).loc Cert.DwGroupedRefIdeal.main_arg0)
          ∧ r.2.mem ((c.tc : Thread Cert.DwGroupedRefIdeal.nD Cert.DwGroupedRefIdeal.τ).loc Cert.DwGroupedRefIdeal.main_arg1) = m' ((c.tc : Thread Cert.DwGroupedRefIdeal.nD Cert.DwGroupedRefIdeal.τ).loc Cert.DwGroupedRefIdeal.main_arg1))

def preserves_SmallAdamw_SmallAdamwIdeal : Prop :=
  True

def algebraic_SmallAdamwIdeal_SmallAdamwRefIdeal [hSmallAdamwIdeal : Cert.SmallAdamwIdeal.Facts] [hSmallAdamwRefIdeal : Cert.SmallAdamwRefIdeal.Facts] : Prop :=
  ∀ (m : (ℓ : Loc Cert.SmallAdamwIdeal.nD Cert.SmallAdamwIdeal.τ Cert.SmallAdamwIdeal.sig) → Buf (Elt Ideal) ℓ) (g : Dev Cert.SmallAdamwIdeal.nD → PrngReg)
    (m' : (ℓ : Loc Cert.SmallAdamwRefIdeal.nD Cert.SmallAdamwRefIdeal.τ Cert.SmallAdamwRefIdeal.sig) → Buf (Elt Ideal) ℓ) (g' : Dev Cert.SmallAdamwRefIdeal.nD → PrngReg), Pre_SmallAdamwIdeal m →
    (∀ c : Dev Cert.SmallAdamwIdeal.nD,
      m' ((c.tc : Thread Cert.SmallAdamwRefIdeal.nD Cert.SmallAdamwRefIdeal.τ).loc Cert.SmallAdamwRefIdeal.main_arg0) = m ((c.tc : Thread Cert.SmallAdamwIdeal.nD Cert.SmallAdamwIdeal.τ).loc Cert.SmallAdamwIdeal.main_arg0)
      ∧ m' ((c.tc : Thread Cert.SmallAdamwRefIdeal.nD Cert.SmallAdamwRefIdeal.τ).loc Cert.SmallAdamwRefIdeal.main_arg1) = m ((c.tc : Thread Cert.SmallAdamwIdeal.nD Cert.SmallAdamwIdeal.τ).loc Cert.SmallAdamwIdeal.main_arg1)
      ∧ m' ((c.tc : Thread Cert.SmallAdamwRefIdeal.nD Cert.SmallAdamwRefIdeal.τ).loc Cert.SmallAdamwRefIdeal.main_arg2) = m ((c.tc : Thread Cert.SmallAdamwIdeal.nD Cert.SmallAdamwIdeal.τ).loc Cert.SmallAdamwIdeal.main_arg2)
      ∧ m' ((c.tc : Thread Cert.SmallAdamwRefIdeal.nD Cert.SmallAdamwRefIdeal.τ).loc Cert.SmallAdamwRefIdeal.main_arg3) = m ((c.tc : Thread Cert.SmallAdamwIdeal.nD Cert.SmallAdamwIdeal.τ).loc Cert.SmallAdamwIdeal.main_arg3)
      ∧ m' ((c.tc : Thread Cert.SmallAdamwRefIdeal.nD Cert.SmallAdamwRefIdeal.τ).loc Cert.SmallAdamwRefIdeal.main_arg4) = m ((c.tc : Thread Cert.SmallAdamwIdeal.nD Cert.SmallAdamwIdeal.τ).loc Cert.SmallAdamwIdeal.main_arg4)) →
    ∃ (v0 : (c : Dev Cert.SmallAdamwIdeal.nD) → Buf (Elt Ideal) ((c.tc : Thread Cert.SmallAdamwIdeal.nD Cert.SmallAdamwIdeal.τ).loc Cert.SmallAdamwIdeal.main_v0_0)) (v1 : (c : Dev Cert.SmallAdamwIdeal.nD) → Buf (Elt Ideal) ((c.tc : Thread Cert.SmallAdamwIdeal.nD Cert.SmallAdamwIdeal.τ).loc Cert.SmallAdamwIdeal.main_v0_1)) (v2 : (c : Dev Cert.SmallAdamwIdeal.nD) → Buf (Elt Ideal) ((c.tc : Thread Cert.SmallAdamwIdeal.nD Cert.SmallAdamwIdeal.τ).loc Cert.SmallAdamwIdeal.main_v0_2)) (v3 : (c : Dev Cert.SmallAdamwIdeal.nD) → Buf (Elt Ideal) ((c.tc : Thread Cert.SmallAdamwIdeal.nD Cert.SmallAdamwIdeal.τ).loc Cert.SmallAdamwIdeal.main_v0_3)),
      θ_run (Cert.SmallAdamwIdeal.defs (F := Ideal)) (onTc (τ := Cert.SmallAdamwIdeal.τ) (Cert.SmallAdamwIdeal.main (F := Ideal))) ⟨m, fun _ => 0, g⟩ (fun r => ∀ c : Dev Cert.SmallAdamwIdeal.nD,
          r.2.mem ((c.tc : Thread Cert.SmallAdamwIdeal.nD Cert.SmallAdamwIdeal.τ).loc Cert.SmallAdamwIdeal.main_v0_0) = v0 c
          ∧ r.2.mem ((c.tc : Thread Cert.SmallAdamwIdeal.nD Cert.SmallAdamwIdeal.τ).loc Cert.SmallAdamwIdeal.main_v0_1) = v1 c
          ∧ r.2.mem ((c.tc : Thread Cert.SmallAdamwIdeal.nD Cert.SmallAdamwIdeal.τ).loc Cert.SmallAdamwIdeal.main_v0_2) = v2 c
          ∧ r.2.mem ((c.tc : Thread Cert.SmallAdamwIdeal.nD Cert.SmallAdamwIdeal.τ).loc Cert.SmallAdamwIdeal.main_v0_3) = v3 c
          ∧ r.2.mem ((c.tc : Thread Cert.SmallAdamwIdeal.nD Cert.SmallAdamwIdeal.τ).loc Cert.SmallAdamwIdeal.main_arg0) = m ((c.tc : Thread Cert.SmallAdamwIdeal.nD Cert.SmallAdamwIdeal.τ).loc Cert.SmallAdamwIdeal.main_arg0)
          ∧ r.2.mem ((c.tc : Thread Cert.SmallAdamwIdeal.nD Cert.SmallAdamwIdeal.τ).loc Cert.SmallAdamwIdeal.main_arg1) = m ((c.tc : Thread Cert.SmallAdamwIdeal.nD Cert.SmallAdamwIdeal.τ).loc Cert.SmallAdamwIdeal.main_arg1)
          ∧ r.2.mem ((c.tc : Thread Cert.SmallAdamwIdeal.nD Cert.SmallAdamwIdeal.τ).loc Cert.SmallAdamwIdeal.main_arg2) = m ((c.tc : Thread Cert.SmallAdamwIdeal.nD Cert.SmallAdamwIdeal.τ).loc Cert.SmallAdamwIdeal.main_arg2)
          ∧ r.2.mem ((c.tc : Thread Cert.SmallAdamwIdeal.nD Cert.SmallAdamwIdeal.τ).loc Cert.SmallAdamwIdeal.main_arg3) = m ((c.tc : Thread Cert.SmallAdamwIdeal.nD Cert.SmallAdamwIdeal.τ).loc Cert.SmallAdamwIdeal.main_arg3)
          ∧ r.2.mem ((c.tc : Thread Cert.SmallAdamwIdeal.nD Cert.SmallAdamwIdeal.τ).loc Cert.SmallAdamwIdeal.main_arg4) = m ((c.tc : Thread Cert.SmallAdamwIdeal.nD Cert.SmallAdamwIdeal.τ).loc Cert.SmallAdamwIdeal.main_arg4))
      ∧ θ_run (Cert.SmallAdamwRefIdeal.defs (F := Ideal)) (onTc (τ := Cert.SmallAdamwRefIdeal.τ) (Cert.SmallAdamwRefIdeal.main (F := Ideal))) ⟨m', fun _ => 0, g'⟩ (fun r => ∀ c : Dev Cert.SmallAdamwRefIdeal.nD,
          r.2.mem ((c.tc : Thread Cert.SmallAdamwRefIdeal.nD Cert.SmallAdamwRefIdeal.τ).loc Cert.SmallAdamwRefIdeal.main_v1) = v0 c
          ∧ r.2.mem ((c.tc : Thread Cert.SmallAdamwRefIdeal.nD Cert.SmallAdamwRefIdeal.τ).loc Cert.SmallAdamwRefIdeal.main_v25) = v1 c
          ∧ r.2.mem ((c.tc : Thread Cert.SmallAdamwRefIdeal.nD Cert.SmallAdamwRefIdeal.τ).loc Cert.SmallAdamwRefIdeal.main_v6) = v2 c
          ∧ r.2.mem ((c.tc : Thread Cert.SmallAdamwRefIdeal.nD Cert.SmallAdamwRefIdeal.τ).loc Cert.SmallAdamwRefIdeal.main_v12) = v3 c
          ∧ r.2.mem ((c.tc : Thread Cert.SmallAdamwRefIdeal.nD Cert.SmallAdamwRefIdeal.τ).loc Cert.SmallAdamwRefIdeal.main_arg0) = m' ((c.tc : Thread Cert.SmallAdamwRefIdeal.nD Cert.SmallAdamwRefIdeal.τ).loc Cert.SmallAdamwRefIdeal.main_arg0)
          ∧ r.2.mem ((c.tc : Thread Cert.SmallAdamwRefIdeal.nD Cert.SmallAdamwRefIdeal.τ).loc Cert.SmallAdamwRefIdeal.main_arg1) = m' ((c.tc : Thread Cert.SmallAdamwRefIdeal.nD Cert.SmallAdamwRefIdeal.τ).loc Cert.SmallAdamwRefIdeal.main_arg1)
          ∧ r.2.mem ((c.tc : Thread Cert.SmallAdamwRefIdeal.nD Cert.SmallAdamwRefIdeal.τ).loc Cert.SmallAdamwRefIdeal.main_arg2) = m' ((c.tc : Thread Cert.SmallAdamwRefIdeal.nD Cert.SmallAdamwRefIdeal.τ).loc Cert.SmallAdamwRefIdeal.main_arg2)
          ∧ r.2.mem ((c.tc : Thread Cert.SmallAdamwRefIdeal.nD Cert.SmallAdamwRefIdeal.τ).loc Cert.SmallAdamwRefIdeal.main_arg3) = m' ((c.tc : Thread Cert.SmallAdamwRefIdeal.nD Cert.SmallAdamwRefIdeal.τ).loc Cert.SmallAdamwRefIdeal.main_arg3)
          ∧ r.2.mem ((c.tc : Thread Cert.SmallAdamwRefIdeal.nD Cert.SmallAdamwRefIdeal.τ).loc Cert.SmallAdamwRefIdeal.main_arg4) = m' ((c.tc : Thread Cert.SmallAdamwRefIdeal.nD Cert.SmallAdamwRefIdeal.τ).loc Cert.SmallAdamwRefIdeal.main_arg4))

def preserves_DwClass_DwClassIdeal : Prop :=
  True

def algebraic_DwClassIdeal_DwClassRefIdeal [hDwClassIdeal : Cert.DwClassIdeal.Facts] [hDwClassRefIdeal : Cert.DwClassRefIdeal.Facts] [hPre_class_is_a_core : Cert.Pre_class_is_a_core.Facts] : Prop :=
  ∀ (m : (ℓ : Loc Cert.DwClassIdeal.nD Cert.DwClassIdeal.τ Cert.DwClassIdeal.sig) → Buf (Elt Ideal) ℓ) (g : Dev Cert.DwClassIdeal.nD → PrngReg)
    (m' : (ℓ : Loc Cert.DwClassRefIdeal.nD Cert.DwClassRefIdeal.τ Cert.DwClassRefIdeal.sig) → Buf (Elt Ideal) ℓ) (g' : Dev Cert.DwClassRefIdeal.nD → PrngReg), Pre_DwClassIdeal m →
    (∀ c : Dev Cert.DwClassIdeal.nD,
      m' ((c.tc : Thread Cert.DwClassRefIdeal.nD Cert.DwClassRefIdeal.τ).loc Cert.DwClassRefIdeal.main_arg0) = m ((c.tc : Thread Cert.DwClassIdeal.nD Cert.DwClassIdeal.τ).loc Cert.DwClassIdeal.main_arg0)
      ∧ m' ((c.tc : Thread Cert.DwClassRefIdeal.nD Cert.DwClassRefIdeal.τ).loc Cert.DwClassRefIdeal.main_arg1) = m ((c.tc : Thread Cert.DwClassIdeal.nD Cert.DwClassIdeal.τ).loc Cert.DwClassIdeal.main_arg1)
      ∧ m' ((c.tc : Thread Cert.DwClassRefIdeal.nD Cert.DwClassRefIdeal.τ).loc Cert.DwClassRefIdeal.main_arg2) = m ((c.tc : Thread Cert.DwClassIdeal.nD Cert.DwClassIdeal.τ).loc Cert.DwClassIdeal.main_arg2)) →
    ∃ (v0 : (c : Dev Cert.DwClassIdeal.nD) → Buf (Elt Ideal) ((c.tc : Thread Cert.DwClassIdeal.nD Cert.DwClassIdeal.τ).loc Cert.DwClassIdeal.main_v0)),
      θ_run (Cert.DwClassIdeal.defs (F := Ideal)) (onTc (τ := Cert.DwClassIdeal.τ) (Cert.DwClassIdeal.main (F := Ideal))) ⟨m, fun _ => 0, g⟩ (fun r => ∀ c : Dev Cert.DwClassIdeal.nD,
          r.2.mem ((c.tc : Thread Cert.DwClassIdeal.nD Cert.DwClassIdeal.τ).loc Cert.DwClassIdeal.main_v0) = v0 c
          ∧ r.2.mem ((c.tc : Thread Cert.DwClassIdeal.nD Cert.DwClassIdeal.τ).loc Cert.DwClassIdeal.main_arg0) = m ((c.tc : Thread Cert.DwClassIdeal.nD Cert.DwClassIdeal.τ).loc Cert.DwClassIdeal.main_arg0)
          ∧ r.2.mem ((c.tc : Thread Cert.DwClassIdeal.nD Cert.DwClassIdeal.τ).loc Cert.DwClassIdeal.main_arg1) = m ((c.tc : Thread Cert.DwClassIdeal.nD Cert.DwClassIdeal.τ).loc Cert.DwClassIdeal.main_arg1)
          ∧ r.2.mem ((c.tc : Thread Cert.DwClassIdeal.nD Cert.DwClassIdeal.τ).loc Cert.DwClassIdeal.main_arg2) = m ((c.tc : Thread Cert.DwClassIdeal.nD Cert.DwClassIdeal.τ).loc Cert.DwClassIdeal.main_arg2))
      ∧ θ_run (Cert.DwClassRefIdeal.defs (F := Ideal)) (onTc (τ := Cert.DwClassRefIdeal.τ) (Cert.DwClassRefIdeal.main (F := Ideal))) ⟨m', fun _ => 0, g'⟩ (fun r => ∀ c : Dev Cert.DwClassRefIdeal.nD,
          r.2.mem ((c.tc : Thread Cert.DwClassRefIdeal.nD Cert.DwClassRefIdeal.τ).loc Cert.DwClassRefIdeal.main_v12) = v0 c
          ∧ r.2.mem ((c.tc : Thread Cert.DwClassRefIdeal.nD Cert.DwClassRefIdeal.τ).loc Cert.DwClassRefIdeal.main_arg0) = m' ((c.tc : Thread Cert.DwClassRefIdeal.nD Cert.DwClassRefIdeal.τ).loc Cert.DwClassRefIdeal.main_arg0)
          ∧ r.2.mem ((c.tc : Thread Cert.DwClassRefIdeal.nD Cert.DwClassRefIdeal.τ).loc Cert.DwClassRefIdeal.main_arg1) = m' ((c.tc : Thread Cert.DwClassRefIdeal.nD Cert.DwClassRefIdeal.τ).loc Cert.DwClassRefIdeal.main_arg1)
          ∧ r.2.mem ((c.tc : Thread Cert.DwClassRefIdeal.nD Cert.DwClassRefIdeal.τ).loc Cert.DwClassRefIdeal.main_arg2) = m' ((c.tc : Thread Cert.DwClassRefIdeal.nD Cert.DwClassRefIdeal.τ).loc Cert.DwClassRefIdeal.main_arg2))

def preserves_ReduceAdamw_ReduceAdamwIdeal : Prop :=
  True

def algebraic_ReduceAdamwIdeal_ReduceAdamwRefIdeal [hReduceAdamwIdeal : Cert.ReduceAdamwIdeal.Facts] [hReduceAdamwRefIdeal : Cert.ReduceAdamwRefIdeal.Facts] [hPre_class_chip_in_mesh : Cert.Pre_class_chip_in_mesh.Facts] : Prop :=
  ∀ (m : (ℓ : Loc Cert.ReduceAdamwIdeal.nD Cert.ReduceAdamwIdeal.τ Cert.ReduceAdamwIdeal.sig) → Buf (Elt Ideal) ℓ) (g : Dev Cert.ReduceAdamwIdeal.nD → PrngReg)
    (m' : (ℓ : Loc Cert.ReduceAdamwRefIdeal.nD Cert.ReduceAdamwRefIdeal.τ Cert.ReduceAdamwRefIdeal.sig) → Buf (Elt Ideal) ℓ) (g' : Dev Cert.ReduceAdamwRefIdeal.nD → PrngReg), Pre_ReduceAdamwIdeal m →
    (∀ c : Dev Cert.ReduceAdamwIdeal.nD,
      m' ((c.tc : Thread Cert.ReduceAdamwRefIdeal.nD Cert.ReduceAdamwRefIdeal.τ).loc Cert.ReduceAdamwRefIdeal.main_arg0) = m ((c.tc : Thread Cert.ReduceAdamwIdeal.nD Cert.ReduceAdamwIdeal.τ).loc Cert.ReduceAdamwIdeal.main_arg0)
      ∧ m' ((c.tc : Thread Cert.ReduceAdamwRefIdeal.nD Cert.ReduceAdamwRefIdeal.τ).loc Cert.ReduceAdamwRefIdeal.main_arg1) = m ((c.tc : Thread Cert.ReduceAdamwIdeal.nD Cert.ReduceAdamwIdeal.τ).loc Cert.ReduceAdamwIdeal.main_arg1)
      ∧ m' ((c.tc : Thread Cert.ReduceAdamwRefIdeal.nD Cert.ReduceAdamwRefIdeal.τ).loc Cert.ReduceAdamwRefIdeal.main_arg2) = m ((c.tc : Thread Cert.ReduceAdamwIdeal.nD Cert.ReduceAdamwIdeal.τ).loc Cert.ReduceAdamwIdeal.main_arg2)
      ∧ m' ((c.tc : Thread Cert.ReduceAdamwRefIdeal.nD Cert.ReduceAdamwRefIdeal.τ).loc Cert.ReduceAdamwRefIdeal.main_arg3) = m ((c.tc : Thread Cert.ReduceAdamwIdeal.nD Cert.ReduceAdamwIdeal.τ).loc Cert.ReduceAdamwIdeal.main_arg3)
      ∧ m' ((c.tc : Thread Cert.ReduceAdamwRefIdeal.nD Cert.ReduceAdamwRefIdeal.τ).loc Cert.ReduceAdamwRefIdeal.main_arg4) = m ((c.tc : Thread Cert.ReduceAdamwIdeal.nD Cert.ReduceAdamwIdeal.τ).loc Cert.ReduceAdamwIdeal.main_arg4)
      ∧ m' ((c.tc : Thread Cert.ReduceAdamwRefIdeal.nD Cert.ReduceAdamwRefIdeal.τ).loc Cert.ReduceAdamwRefIdeal.main_arg5) = m ((c.tc : Thread Cert.ReduceAdamwIdeal.nD Cert.ReduceAdamwIdeal.τ).loc Cert.ReduceAdamwIdeal.main_arg5)
      ∧ m' ((c.tc : Thread Cert.ReduceAdamwRefIdeal.nD Cert.ReduceAdamwRefIdeal.τ).loc Cert.ReduceAdamwRefIdeal.main_arg6) = m ((c.tc : Thread Cert.ReduceAdamwIdeal.nD Cert.ReduceAdamwIdeal.τ).loc Cert.ReduceAdamwIdeal.main_arg6)) →
    ∃ (v0 : (c : Dev Cert.ReduceAdamwIdeal.nD) → Buf (Elt Ideal) ((c.tc : Thread Cert.ReduceAdamwIdeal.nD Cert.ReduceAdamwIdeal.τ).loc Cert.ReduceAdamwIdeal.main_v0_0)) (v1 : (c : Dev Cert.ReduceAdamwIdeal.nD) → Buf (Elt Ideal) ((c.tc : Thread Cert.ReduceAdamwIdeal.nD Cert.ReduceAdamwIdeal.τ).loc Cert.ReduceAdamwIdeal.main_v0_1)) (v2 : (c : Dev Cert.ReduceAdamwIdeal.nD) → Buf (Elt Ideal) ((c.tc : Thread Cert.ReduceAdamwIdeal.nD Cert.ReduceAdamwIdeal.τ).loc Cert.ReduceAdamwIdeal.main_v0_2)) (v3 : (c : Dev Cert.ReduceAdamwIdeal.nD) → Buf (Elt Ideal) ((c.tc : Thread Cert.ReduceAdamwIdeal.nD Cert.ReduceAdamwIdeal.τ).loc Cert.ReduceAdamwIdeal.main_v0_3)),
      θ_run (Cert.ReduceAdamwIdeal.defs (F := Ideal)) (onTc (τ := Cert.ReduceAdamwIdeal.τ) (Cert.ReduceAdamwIdeal.main (F := Ideal))) ⟨m, fun _ => 0, g⟩ (fun r => ∀ c : Dev Cert.ReduceAdamwIdeal.nD,
          r.2.mem ((c.tc : Thread Cert.ReduceAdamwIdeal.nD Cert.ReduceAdamwIdeal.τ).loc Cert.ReduceAdamwIdeal.main_v0_0) = v0 c
          ∧ r.2.mem ((c.tc : Thread Cert.ReduceAdamwIdeal.nD Cert.ReduceAdamwIdeal.τ).loc Cert.ReduceAdamwIdeal.main_v0_1) = v1 c
          ∧ r.2.mem ((c.tc : Thread Cert.ReduceAdamwIdeal.nD Cert.ReduceAdamwIdeal.τ).loc Cert.ReduceAdamwIdeal.main_v0_2) = v2 c
          ∧ r.2.mem ((c.tc : Thread Cert.ReduceAdamwIdeal.nD Cert.ReduceAdamwIdeal.τ).loc Cert.ReduceAdamwIdeal.main_v0_3) = v3 c
          ∧ r.2.mem ((c.tc : Thread Cert.ReduceAdamwIdeal.nD Cert.ReduceAdamwIdeal.τ).loc Cert.ReduceAdamwIdeal.main_arg0) = m ((c.tc : Thread Cert.ReduceAdamwIdeal.nD Cert.ReduceAdamwIdeal.τ).loc Cert.ReduceAdamwIdeal.main_arg0)
          ∧ r.2.mem ((c.tc : Thread Cert.ReduceAdamwIdeal.nD Cert.ReduceAdamwIdeal.τ).loc Cert.ReduceAdamwIdeal.main_arg1) = m ((c.tc : Thread Cert.ReduceAdamwIdeal.nD Cert.ReduceAdamwIdeal.τ).loc Cert.ReduceAdamwIdeal.main_arg1)
          ∧ r.2.mem ((c.tc : Thread Cert.ReduceAdamwIdeal.nD Cert.ReduceAdamwIdeal.τ).loc Cert.ReduceAdamwIdeal.main_arg2) = m ((c.tc : Thread Cert.ReduceAdamwIdeal.nD Cert.ReduceAdamwIdeal.τ).loc Cert.ReduceAdamwIdeal.main_arg2)
          ∧ r.2.mem ((c.tc : Thread Cert.ReduceAdamwIdeal.nD Cert.ReduceAdamwIdeal.τ).loc Cert.ReduceAdamwIdeal.main_arg3) = m ((c.tc : Thread Cert.ReduceAdamwIdeal.nD Cert.ReduceAdamwIdeal.τ).loc Cert.ReduceAdamwIdeal.main_arg3)
          ∧ r.2.mem ((c.tc : Thread Cert.ReduceAdamwIdeal.nD Cert.ReduceAdamwIdeal.τ).loc Cert.ReduceAdamwIdeal.main_arg4) = m ((c.tc : Thread Cert.ReduceAdamwIdeal.nD Cert.ReduceAdamwIdeal.τ).loc Cert.ReduceAdamwIdeal.main_arg4)
          ∧ r.2.mem ((c.tc : Thread Cert.ReduceAdamwIdeal.nD Cert.ReduceAdamwIdeal.τ).loc Cert.ReduceAdamwIdeal.main_arg5) = m ((c.tc : Thread Cert.ReduceAdamwIdeal.nD Cert.ReduceAdamwIdeal.τ).loc Cert.ReduceAdamwIdeal.main_arg5)
          ∧ r.2.mem ((c.tc : Thread Cert.ReduceAdamwIdeal.nD Cert.ReduceAdamwIdeal.τ).loc Cert.ReduceAdamwIdeal.main_arg6) = m ((c.tc : Thread Cert.ReduceAdamwIdeal.nD Cert.ReduceAdamwIdeal.τ).loc Cert.ReduceAdamwIdeal.main_arg6))
      ∧ θ_run (Cert.ReduceAdamwRefIdeal.defs (F := Ideal)) (onTc (τ := Cert.ReduceAdamwRefIdeal.τ) (Cert.ReduceAdamwRefIdeal.main (F := Ideal))) ⟨m', fun _ => 0, g'⟩ (fun r => ∀ c : Dev Cert.ReduceAdamwRefIdeal.nD,
          r.2.mem ((c.tc : Thread Cert.ReduceAdamwRefIdeal.nD Cert.ReduceAdamwRefIdeal.τ).loc Cert.ReduceAdamwRefIdeal.main_v15) = v0 c
          ∧ r.2.mem ((c.tc : Thread Cert.ReduceAdamwRefIdeal.nD Cert.ReduceAdamwRefIdeal.τ).loc Cert.ReduceAdamwRefIdeal.main_v39) = v1 c
          ∧ r.2.mem ((c.tc : Thread Cert.ReduceAdamwRefIdeal.nD Cert.ReduceAdamwRefIdeal.τ).loc Cert.ReduceAdamwRefIdeal.main_v20) = v2 c
          ∧ r.2.mem ((c.tc : Thread Cert.ReduceAdamwRefIdeal.nD Cert.ReduceAdamwRefIdeal.τ).loc Cert.ReduceAdamwRefIdeal.main_v26) = v3 c
          ∧ r.2.mem ((c.tc : Thread Cert.ReduceAdamwRefIdeal.nD Cert.ReduceAdamwRefIdeal.τ).loc Cert.ReduceAdamwRefIdeal.main_arg0) = m' ((c.tc : Thread Cert.ReduceAdamwRefIdeal.nD Cert.ReduceAdamwRefIdeal.τ).loc Cert.ReduceAdamwRefIdeal.main_arg0)
          ∧ r.2.mem ((c.tc : Thread Cert.ReduceAdamwRefIdeal.nD Cert.ReduceAdamwRefIdeal.τ).loc Cert.ReduceAdamwRefIdeal.main_arg1) = m' ((c.tc : Thread Cert.ReduceAdamwRefIdeal.nD Cert.ReduceAdamwRefIdeal.τ).loc Cert.ReduceAdamwRefIdeal.main_arg1)
          ∧ r.2.mem ((c.tc : Thread Cert.ReduceAdamwRefIdeal.nD Cert.ReduceAdamwRefIdeal.τ).loc Cert.ReduceAdamwRefIdeal.main_arg2) = m' ((c.tc : Thread Cert.ReduceAdamwRefIdeal.nD Cert.ReduceAdamwRefIdeal.τ).loc Cert.ReduceAdamwRefIdeal.main_arg2)
          ∧ r.2.mem ((c.tc : Thread Cert.ReduceAdamwRefIdeal.nD Cert.ReduceAdamwRefIdeal.τ).loc Cert.ReduceAdamwRefIdeal.main_arg3) = m' ((c.tc : Thread Cert.ReduceAdamwRefIdeal.nD Cert.ReduceAdamwRefIdeal.τ).loc Cert.ReduceAdamwRefIdeal.main_arg3)
          ∧ r.2.mem ((c.tc : Thread Cert.ReduceAdamwRefIdeal.nD Cert.ReduceAdamwRefIdeal.τ).loc Cert.ReduceAdamwRefIdeal.main_arg4) = m' ((c.tc : Thread Cert.ReduceAdamwRefIdeal.nD Cert.ReduceAdamwRefIdeal.τ).loc Cert.ReduceAdamwRefIdeal.main_arg4)
          ∧ r.2.mem ((c.tc : Thread Cert.ReduceAdamwRefIdeal.nD Cert.ReduceAdamwRefIdeal.τ).loc Cert.ReduceAdamwRefIdeal.main_arg5) = m' ((c.tc : Thread Cert.ReduceAdamwRefIdeal.nD Cert.ReduceAdamwRefIdeal.τ).loc Cert.ReduceAdamwRefIdeal.main_arg5)
          ∧ r.2.mem ((c.tc : Thread Cert.ReduceAdamwRefIdeal.nD Cert.ReduceAdamwRefIdeal.τ).loc Cert.ReduceAdamwRefIdeal.main_arg6) = m' ((c.tc : Thread Cert.ReduceAdamwRefIdeal.nD Cert.ReduceAdamwRefIdeal.τ).loc Cert.ReduceAdamwRefIdeal.main_arg6))

def preserves_ChipSums_ChipSumsIdeal : Prop :=
  True

def algebraic_ChipSumsIdeal_ChipSumsRefIdeal [hChipSumsIdeal : Cert.ChipSumsIdeal.Facts] [hChipSumsRefIdeal : Cert.ChipSumsRefIdeal.Facts] [hPre_class_chips_in_mesh : Cert.Pre_class_chips_in_mesh.Facts] : Prop :=
  ∀ (m : (ℓ : Loc Cert.ChipSumsIdeal.nD Cert.ChipSumsIdeal.τ Cert.ChipSumsIdeal.sig) → Buf (Elt Ideal) ℓ) (g : Dev Cert.ChipSumsIdeal.nD → PrngReg)
    (m' : (ℓ : Loc Cert.ChipSumsRefIdeal.nD Cert.ChipSumsRefIdeal.τ Cert.ChipSumsRefIdeal.sig) → Buf (Elt Ideal) ℓ) (g' : Dev Cert.ChipSumsRefIdeal.nD → PrngReg), Pre_ChipSumsIdeal m →
    (∀ c : Dev Cert.ChipSumsIdeal.nD,
      m' ((c.tc : Thread Cert.ChipSumsRefIdeal.nD Cert.ChipSumsRefIdeal.τ).loc Cert.ChipSumsRefIdeal.main_arg0) = m ((c.tc : Thread Cert.ChipSumsIdeal.nD Cert.ChipSumsIdeal.τ).loc Cert.ChipSumsIdeal.main_arg0)
      ∧ m' ((c.tc : Thread Cert.ChipSumsRefIdeal.nD Cert.ChipSumsRefIdeal.τ).loc Cert.ChipSumsRefIdeal.main_arg1) = m ((c.tc : Thread Cert.ChipSumsIdeal.nD Cert.ChipSumsIdeal.τ).loc Cert.ChipSumsIdeal.main_arg1)
      ∧ m' ((c.tc : Thread Cert.ChipSumsRefIdeal.nD Cert.ChipSumsRefIdeal.τ).loc Cert.ChipSumsRefIdeal.main_arg2) = m ((c.tc : Thread Cert.ChipSumsIdeal.nD Cert.ChipSumsIdeal.τ).loc Cert.ChipSumsIdeal.main_arg2)) →
    ∃ (v0 : (c : Dev Cert.ChipSumsIdeal.nD) → Buf (Elt Ideal) ((c.tc : Thread Cert.ChipSumsIdeal.nD Cert.ChipSumsIdeal.τ).loc Cert.ChipSumsIdeal.main_v0)),
      θ_run (Cert.ChipSumsIdeal.defs (F := Ideal)) (onTc (τ := Cert.ChipSumsIdeal.τ) (Cert.ChipSumsIdeal.main (F := Ideal))) ⟨m, fun _ => 0, g⟩ (fun r => ∀ c : Dev Cert.ChipSumsIdeal.nD,
          r.2.mem ((c.tc : Thread Cert.ChipSumsIdeal.nD Cert.ChipSumsIdeal.τ).loc Cert.ChipSumsIdeal.main_v0) = v0 c
          ∧ r.2.mem ((c.tc : Thread Cert.ChipSumsIdeal.nD Cert.ChipSumsIdeal.τ).loc Cert.ChipSumsIdeal.main_arg0) = m ((c.tc : Thread Cert.ChipSumsIdeal.nD Cert.ChipSumsIdeal.τ).loc Cert.ChipSumsIdeal.main_arg0)
          ∧ r.2.mem ((c.tc : Thread Cert.ChipSumsIdeal.nD Cert.ChipSumsIdeal.τ).loc Cert.ChipSumsIdeal.main_arg1) = m ((c.tc : Thread Cert.ChipSumsIdeal.nD Cert.ChipSumsIdeal.τ).loc Cert.ChipSumsIdeal.main_arg1)
          ∧ r.2.mem ((c.tc : Thread Cert.ChipSumsIdeal.nD Cert.ChipSumsIdeal.τ).loc Cert.ChipSumsIdeal.main_arg2) = m ((c.tc : Thread Cert.ChipSumsIdeal.nD Cert.ChipSumsIdeal.τ).loc Cert.ChipSumsIdeal.main_arg2))
      ∧ θ_run (Cert.ChipSumsRefIdeal.defs (F := Ideal)) (onTc (τ := Cert.ChipSumsRefIdeal.τ) (Cert.ChipSumsRefIdeal.main (F := Ideal))) ⟨m', fun _ => 0, g'⟩ (fun r => ∀ c : Dev Cert.ChipSumsRefIdeal.nD,
          r.2.mem ((c.tc : Thread Cert.ChipSumsRefIdeal.nD Cert.ChipSumsRefIdeal.τ).loc Cert.ChipSumsRefIdeal.main_v19) = v0 c
          ∧ r.2.mem ((c.tc : Thread Cert.ChipSumsRefIdeal.nD Cert.ChipSumsRefIdeal.τ).loc Cert.ChipSumsRefIdeal.main_arg0) = m' ((c.tc : Thread Cert.ChipSumsRefIdeal.nD Cert.ChipSumsRefIdeal.τ).loc Cert.ChipSumsRefIdeal.main_arg0)
          ∧ r.2.mem ((c.tc : Thread Cert.ChipSumsRefIdeal.nD Cert.ChipSumsRefIdeal.τ).loc Cert.ChipSumsRefIdeal.main_arg1) = m' ((c.tc : Thread Cert.ChipSumsRefIdeal.nD Cert.ChipSumsRefIdeal.τ).loc Cert.ChipSumsRefIdeal.main_arg1)
          ∧ r.2.mem ((c.tc : Thread Cert.ChipSumsRefIdeal.nD Cert.ChipSumsRefIdeal.τ).loc Cert.ChipSumsRefIdeal.main_arg2) = m' ((c.tc : Thread Cert.ChipSumsRefIdeal.nD Cert.ChipSumsRefIdeal.τ).loc Cert.ChipSumsRefIdeal.main_arg2))

def Claim : Prop :=
  ∃ (hNormFirst : Cert.NormFirst.Facts) (hNormFirstIdeal : Cert.NormFirstIdeal.Facts) (hNormFirstRefIdeal : Cert.NormFirstRefIdeal.Facts) (hLossHead : Cert.LossHead.Facts) (hLossHeadIdeal : Cert.LossHeadIdeal.Facts) (hLossHeadRefIdeal : Cert.LossHeadRefIdeal.Facts) (hGateA : Cert.GateA.Facts) (hGateAIdeal : Cert.GateAIdeal.Facts) (hGateARefIdeal : Cert.GateARefIdeal.Facts) (hGateB : Cert.GateB.Facts) (hGateBIdeal : Cert.GateBIdeal.Facts) (hGateBRefIdeal : Cert.GateBRefIdeal.Facts) (hNormsMid : Cert.NormsMid.Facts) (hNormsMidIdeal : Cert.NormsMidIdeal.Facts) (hNormsMidRefIdeal : Cert.NormsMidRefIdeal.Facts) (hPool : Cert.Pool.Facts) (hPoolIdeal : Cert.PoolIdeal.Facts) (hPoolRefIdeal : Cert.PoolRefIdeal.Facts) (hGateAFwd : Cert.GateAFwd.Facts) (hGateAFwdIdeal : Cert.GateAFwdIdeal.Facts) (hGateAFwdRefIdeal : Cert.GateAFwdRefIdeal.Facts) (hGateBFwd : Cert.GateBFwd.Facts) (hGateBFwdIdeal : Cert.GateBFwdIdeal.Facts) (hGateBFwdRefIdeal : Cert.GateBFwdRefIdeal.Facts) (hNormFwd : Cert.NormFwd.Facts) (hNormFwdIdeal : Cert.NormFwdIdeal.Facts) (hNormFwdRefIdeal : Cert.NormFwdRefIdeal.Facts) (hPoolFwd : Cert.PoolFwd.Facts) (hPoolFwdIdeal : Cert.PoolFwdIdeal.Facts) (hPoolFwdRefIdeal : Cert.PoolFwdRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hGrouped : Cert.Grouped.Facts) (hGroupedIdeal : Cert.GroupedIdeal.Facts) (hGroupedRefIdeal : Cert.GroupedRefIdeal.Facts) (hDactOut : Cert.DactOut.Facts) (hDactOutIdeal : Cert.DactOutIdeal.Facts) (hDactOutRefIdeal : Cert.DactOutRefIdeal.Facts) (hDactIn : Cert.DactIn.Facts) (hDactInIdeal : Cert.DactInIdeal.Facts) (hDactInRefIdeal : Cert.DactInRefIdeal.Facts) (hDw : Cert.Dw.Facts) (hDwIdeal : Cert.DwIdeal.Facts) (hDwRefIdeal : Cert.DwRefIdeal.Facts) (hDwSharded : Cert.DwSharded.Facts) (hDwShardedIdeal : Cert.DwShardedIdeal.Facts) (hDwShardedRefIdeal : Cert.DwShardedRefIdeal.Facts) (hDwGrouped : Cert.DwGrouped.Facts) (hDwGroupedIdeal : Cert.DwGroupedIdeal.Facts) (hDwGroupedRefIdeal : Cert.DwGroupedRefIdeal.Facts) (hSmallAdamw : Cert.SmallAdamw.Facts) (hSmallAdamwIdeal : Cert.SmallAdamwIdeal.Facts) (hSmallAdamwRefIdeal : Cert.SmallAdamwRefIdeal.Facts) (hDwClass : Cert.DwClass.Facts) (hDwClassIdeal : Cert.DwClassIdeal.Facts) (hDwClassRefIdeal : Cert.DwClassRefIdeal.Facts) (hReduceAdamw : Cert.ReduceAdamw.Facts) (hReduceAdamwIdeal : Cert.ReduceAdamwIdeal.Facts) (hReduceAdamwRefIdeal : Cert.ReduceAdamwRefIdeal.Facts) (hChipSums : Cert.ChipSums.Facts) (hChipSumsIdeal : Cert.ChipSumsIdeal.Facts) (hChipSumsRefIdeal : Cert.ChipSumsRefIdeal.Facts) (hPre_norm_first_finite : Cert.Pre_norm_first_finite.Facts) (hPre_loss_head_finite : Cert.Pre_loss_head_finite.Facts) (hPre_gate_a_finite : Cert.Pre_gate_a_finite.Facts) (hPre_gate_b_finite : Cert.Pre_gate_b_finite.Facts) (hPre_norms_mid_finite : Cert.Pre_norms_mid_finite.Facts) (hPre_pool_finite : Cert.Pre_pool_finite.Facts) (hPre_gate_a_fwd_finite : Cert.Pre_gate_a_fwd_finite.Facts) (hPre_pool_fwd_finite : Cert.Pre_pool_fwd_finite.Facts) (hPre_class_is_a_core : Cert.Pre_class_is_a_core.Facts) (hPre_class_chip_in_mesh : Cert.Pre_class_chip_in_mesh.Facts) (hPre_class_chips_in_mesh : Cert.Pre_class_chips_in_mesh.Facts) (hOn_gate_half : Cert.On_gate_half.Facts),
    quiescent_NormFirst (hNormFirst := hNormFirst)
    ∧ quiescent_NormFirstIdeal (hNormFirstIdeal := hNormFirstIdeal)
    ∧ quiescent_NormFirstIdeal_pre_norm_first_finite (hNormFirstIdeal := hNormFirstIdeal) (hPre_norm_first_finite := hPre_norm_first_finite)
    ∧ quiescent_NormFirstRefIdeal (hNormFirstRefIdeal := hNormFirstRefIdeal)
    ∧ quiescent_NormFirstRefIdeal_pre_norm_first_finite (hNormFirstRefIdeal := hNormFirstRefIdeal) (hPre_norm_first_finite := hPre_norm_first_finite)
    ∧ quiescent_LossHead (hLossHead := hLossHead)
    ∧ quiescent_LossHeadIdeal (hLossHeadIdeal := hLossHeadIdeal)
    ∧ quiescent_LossHeadIdeal_pre_loss_head_finite (hLossHeadIdeal := hLossHeadIdeal) (hPre_loss_head_finite := hPre_loss_head_finite)
    ∧ quiescent_LossHeadRefIdeal (hLossHeadRefIdeal := hLossHeadRefIdeal)
    ∧ quiescent_LossHeadRefIdeal_pre_loss_head_finite (hLossHeadRefIdeal := hLossHeadRefIdeal) (hPre_loss_head_finite := hPre_loss_head_finite)
    ∧ quiescent_GateA (hGateA := hGateA)
    ∧ quiescent_GateAIdeal (hGateAIdeal := hGateAIdeal)
    ∧ quiescent_GateAIdeal_pre_gate_a_finite (hGateAIdeal := hGateAIdeal) (hPre_gate_a_finite := hPre_gate_a_finite)
    ∧ quiescent_GateARefIdeal (hGateARefIdeal := hGateARefIdeal)
    ∧ quiescent_GateARefIdeal_pre_gate_a_finite (hGateARefIdeal := hGateARefIdeal) (hPre_gate_a_finite := hPre_gate_a_finite)
    ∧ quiescent_GateB (hGateB := hGateB)
    ∧ quiescent_GateBIdeal (hGateBIdeal := hGateBIdeal)
    ∧ quiescent_GateBIdeal_pre_gate_b_finite (hGateBIdeal := hGateBIdeal) (hPre_gate_b_finite := hPre_gate_b_finite)
    ∧ quiescent_GateBRefIdeal (hGateBRefIdeal := hGateBRefIdeal)
    ∧ quiescent_GateBRefIdeal_pre_gate_b_finite (hGateBRefIdeal := hGateBRefIdeal) (hPre_gate_b_finite := hPre_gate_b_finite)
    ∧ quiescent_NormsMid (hNormsMid := hNormsMid)
    ∧ quiescent_NormsMidIdeal (hNormsMidIdeal := hNormsMidIdeal)
    ∧ quiescent_NormsMidIdeal_pre_norms_mid_finite (hNormsMidIdeal := hNormsMidIdeal) (hPre_norms_mid_finite := hPre_norms_mid_finite)
    ∧ quiescent_NormsMidRefIdeal (hNormsMidRefIdeal := hNormsMidRefIdeal)
    ∧ quiescent_NormsMidRefIdeal_pre_norms_mid_finite (hNormsMidRefIdeal := hNormsMidRefIdeal) (hPre_norms_mid_finite := hPre_norms_mid_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_GateAFwd (hGateAFwd := hGateAFwd)
    ∧ quiescent_GateAFwdIdeal (hGateAFwdIdeal := hGateAFwdIdeal)
    ∧ quiescent_GateAFwdIdeal_pre_gate_a_fwd_finite (hGateAFwdIdeal := hGateAFwdIdeal) (hPre_gate_a_fwd_finite := hPre_gate_a_fwd_finite)
    ∧ quiescent_GateAFwdRefIdeal (hGateAFwdRefIdeal := hGateAFwdRefIdeal)
    ∧ quiescent_GateAFwdRefIdeal_pre_gate_a_fwd_finite (hGateAFwdRefIdeal := hGateAFwdRefIdeal) (hPre_gate_a_fwd_finite := hPre_gate_a_fwd_finite)
    ∧ quiescent_GateBFwd (hGateBFwd := hGateBFwd)
    ∧ quiescent_GateBFwdIdeal (hGateBFwdIdeal := hGateBFwdIdeal)
    ∧ quiescent_GateBFwdRefIdeal (hGateBFwdRefIdeal := hGateBFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_PoolFwd (hPoolFwd := hPoolFwd)
    ∧ quiescent_PoolFwdIdeal (hPoolFwdIdeal := hPoolFwdIdeal)
    ∧ quiescent_PoolFwdIdeal_pre_pool_fwd_finite (hPoolFwdIdeal := hPoolFwdIdeal) (hPre_pool_fwd_finite := hPre_pool_fwd_finite)
    ∧ quiescent_PoolFwdRefIdeal (hPoolFwdRefIdeal := hPoolFwdRefIdeal)
    ∧ quiescent_PoolFwdRefIdeal_pre_pool_fwd_finite (hPoolFwdRefIdeal := hPoolFwdRefIdeal) (hPre_pool_fwd_finite := hPre_pool_fwd_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Grouped (hGrouped := hGrouped)
    ∧ quiescent_GroupedIdeal (hGroupedIdeal := hGroupedIdeal)
    ∧ quiescent_GroupedRefIdeal (hGroupedRefIdeal := hGroupedRefIdeal)
    ∧ quiescent_DactOut (hDactOut := hDactOut)
    ∧ quiescent_DactOutIdeal (hDactOutIdeal := hDactOutIdeal)
    ∧ quiescent_DactOutRefIdeal (hDactOutRefIdeal := hDactOutRefIdeal)
    ∧ quiescent_DactIn (hDactIn := hDactIn)
    ∧ quiescent_DactInIdeal (hDactInIdeal := hDactInIdeal)
    ∧ quiescent_DactInRefIdeal (hDactInRefIdeal := hDactInRefIdeal)
    ∧ quiescent_Dw (hDw := hDw)
    ∧ quiescent_DwIdeal (hDwIdeal := hDwIdeal)
    ∧ quiescent_DwRefIdeal (hDwRefIdeal := hDwRefIdeal)
    ∧ quiescent_DwSharded (hDwSharded := hDwSharded)
    ∧ quiescent_DwShardedIdeal (hDwShardedIdeal := hDwShardedIdeal)
    ∧ quiescent_DwShardedRefIdeal (hDwShardedRefIdeal := hDwShardedRefIdeal)
    ∧ quiescent_DwGrouped (hDwGrouped := hDwGrouped)
    ∧ quiescent_DwGroupedIdeal (hDwGroupedIdeal := hDwGroupedIdeal)
    ∧ quiescent_DwGroupedRefIdeal (hDwGroupedRefIdeal := hDwGroupedRefIdeal)
    ∧ quiescent_SmallAdamw (hSmallAdamw := hSmallAdamw)
    ∧ quiescent_SmallAdamwIdeal (hSmallAdamwIdeal := hSmallAdamwIdeal)
    ∧ quiescent_SmallAdamwRefIdeal (hSmallAdamwRefIdeal := hSmallAdamwRefIdeal)
    ∧ quiescent_DwClass (hDwClass := hDwClass) (hPre_class_is_a_core := hPre_class_is_a_core)
    ∧ quiescent_DwClassIdeal (hDwClassIdeal := hDwClassIdeal) (hPre_class_is_a_core := hPre_class_is_a_core)
    ∧ quiescent_DwClassRefIdeal (hDwClassRefIdeal := hDwClassRefIdeal)
    ∧ quiescent_DwClassRefIdeal_pre_class_is_a_core (hDwClassRefIdeal := hDwClassRefIdeal) (hPre_class_is_a_core := hPre_class_is_a_core)
    ∧ quiescent_ReduceAdamw (hReduceAdamw := hReduceAdamw) (hPre_class_chip_in_mesh := hPre_class_chip_in_mesh)
    ∧ quiescent_ReduceAdamwIdeal (hReduceAdamwIdeal := hReduceAdamwIdeal) (hPre_class_chip_in_mesh := hPre_class_chip_in_mesh)
    ∧ quiescent_ReduceAdamwRefIdeal (hReduceAdamwRefIdeal := hReduceAdamwRefIdeal)
    ∧ quiescent_ReduceAdamwRefIdeal_pre_class_chip_in_mesh (hReduceAdamwRefIdeal := hReduceAdamwRefIdeal) (hPre_class_chip_in_mesh := hPre_class_chip_in_mesh)
    ∧ quiescent_ChipSums (hChipSums := hChipSums) (hPre_class_chips_in_mesh := hPre_class_chips_in_mesh)
    ∧ quiescent_ChipSumsIdeal (hChipSumsIdeal := hChipSumsIdeal) (hPre_class_chips_in_mesh := hPre_class_chips_in_mesh)
    ∧ quiescent_ChipSumsRefIdeal (hChipSumsRefIdeal := hChipSumsRefIdeal)
    ∧ quiescent_ChipSumsRefIdeal_pre_class_chips_in_mesh (hChipSumsRefIdeal := hChipSumsRefIdeal) (hPre_class_chips_in_mesh := hPre_class_chips_in_mesh)
    ∧ preserves_NormFirst_NormFirstIdeal
    ∧ algebraic_NormFirstIdeal_NormFirstRefIdeal_pre_norm_first_finite (hNormFirstIdeal := hNormFirstIdeal) (hNormFirstRefIdeal := hNormFirstRefIdeal) (hPre_norm_first_finite := hPre_norm_first_finite)
    ∧ preserves_LossHead_LossHeadIdeal
    ∧ algebraic_LossHeadIdeal_LossHeadRefIdeal_pre_loss_head_finite (hLossHeadIdeal := hLossHeadIdeal) (hLossHeadRefIdeal := hLossHeadRefIdeal) (hPre_loss_head_finite := hPre_loss_head_finite)
    ∧ preserves_GateA_GateAIdeal
    ∧ algebraic_GateAIdeal_GateARefIdeal_pre_gate_a_finite (hGateAIdeal := hGateAIdeal) (hGateARefIdeal := hGateARefIdeal) (hPre_gate_a_finite := hPre_gate_a_finite)
    ∧ preserves_GateB_GateBIdeal
    ∧ algebraic_GateBIdeal_GateBRefIdeal_on_gate_half_pre_gate_b_finite (hGateBIdeal := hGateBIdeal) (hGateBRefIdeal := hGateBRefIdeal) (hPre_gate_b_finite := hPre_gate_b_finite) (hOn_gate_half := hOn_gate_half)
    ∧ preserves_NormsMid_NormsMidIdeal
    ∧ algebraic_NormsMidIdeal_NormsMidRefIdeal_pre_norms_mid_finite (hNormsMidIdeal := hNormsMidIdeal) (hNormsMidRefIdeal := hNormsMidRefIdeal) (hPre_norms_mid_finite := hPre_norms_mid_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_GateAFwd_GateAFwdIdeal
    ∧ algebraic_GateAFwdIdeal_GateAFwdRefIdeal_pre_gate_a_fwd_finite (hGateAFwdIdeal := hGateAFwdIdeal) (hGateAFwdRefIdeal := hGateAFwdRefIdeal) (hPre_gate_a_fwd_finite := hPre_gate_a_fwd_finite)
    ∧ preserves_GateBFwd_GateBFwdIdeal
    ∧ algebraic_GateBFwdIdeal_GateBFwdRefIdeal (hGateBFwdIdeal := hGateBFwdIdeal) (hGateBFwdRefIdeal := hGateBFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_PoolFwd_PoolFwdIdeal
    ∧ algebraic_PoolFwdIdeal_PoolFwdRefIdeal_pre_pool_fwd_finite (hPoolFwdIdeal := hPoolFwdIdeal) (hPoolFwdRefIdeal := hPoolFwdRefIdeal) (hPre_pool_fwd_finite := hPre_pool_fwd_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Grouped_GroupedIdeal
    ∧ algebraic_GroupedIdeal_GroupedRefIdeal (hGroupedIdeal := hGroupedIdeal) (hGroupedRefIdeal := hGroupedRefIdeal)
    ∧ preserves_DactOut_DactOutIdeal
    ∧ algebraic_DactOutIdeal_DactOutRefIdeal (hDactOutIdeal := hDactOutIdeal) (hDactOutRefIdeal := hDactOutRefIdeal)
    ∧ preserves_DactIn_DactInIdeal
    ∧ algebraic_DactInIdeal_DactInRefIdeal (hDactInIdeal := hDactInIdeal) (hDactInRefIdeal := hDactInRefIdeal)
    ∧ preserves_Dw_DwIdeal
    ∧ algebraic_DwIdeal_DwRefIdeal (hDwIdeal := hDwIdeal) (hDwRefIdeal := hDwRefIdeal)
    ∧ preserves_DwSharded_DwShardedIdeal
    ∧ algebraic_DwShardedIdeal_DwShardedRefIdeal (hDwShardedIdeal := hDwShardedIdeal) (hDwShardedRefIdeal := hDwShardedRefIdeal)
    ∧ preserves_DwGrouped_DwGroupedIdeal
    ∧ algebraic_DwGroupedIdeal_DwGroupedRefIdeal (hDwGroupedIdeal := hDwGroupedIdeal) (hDwGroupedRefIdeal := hDwGroupedRefIdeal)
    ∧ preserves_SmallAdamw_SmallAdamwIdeal
    ∧ algebraic_SmallAdamwIdeal_SmallAdamwRefIdeal (hSmallAdamwIdeal := hSmallAdamwIdeal) (hSmallAdamwRefIdeal := hSmallAdamwRefIdeal)
    ∧ preserves_DwClass_DwClassIdeal
    ∧ algebraic_DwClassIdeal_DwClassRefIdeal (hDwClassIdeal := hDwClassIdeal) (hDwClassRefIdeal := hDwClassRefIdeal) (hPre_class_is_a_core := hPre_class_is_a_core)
    ∧ preserves_ReduceAdamw_ReduceAdamwIdeal
    ∧ algebraic_ReduceAdamwIdeal_ReduceAdamwRefIdeal (hReduceAdamwIdeal := hReduceAdamwIdeal) (hReduceAdamwRefIdeal := hReduceAdamwRefIdeal) (hPre_class_chip_in_mesh := hPre_class_chip_in_mesh)
    ∧ preserves_ChipSums_ChipSumsIdeal
    ∧ algebraic_ChipSumsIdeal_ChipSumsRefIdeal (hChipSumsIdeal := hChipSumsIdeal) (hChipSumsRefIdeal := hChipSumsRefIdeal) (hPre_class_chips_in_mesh := hPre_class_chips_in_mesh)
-- ==== On_gate_half.lean ====
abbrev S4096x8192 : Shape := ⟨2, ![4096, 8192]⟩
abbrev S4096x16384 : Shape := ⟨2, ![4096, 16384]⟩
abbrev S1x4x2048 : Shape := ⟨3, ![1, 4, 2048]⟩
abbrev S1x8192 : Shape := ⟨2, ![1, 8192]⟩
abbrev S_ : Shape := ⟨0, ![]⟩

class Facts : Prop where
  bcast_S_S4096x8192 : S_.BroadcastsInDim S4096x8192 (![] : Fin 0 → Fin S4096x8192.rank)
  bcast_S_S4096x16384 : S_.BroadcastsInDim S4096x16384 (![] : Fin 0 → Fin S4096x16384.rank)
  bcast_S_S1x8192 : S_.BroadcastsInDim S1x8192 (![] : Fin 0 → Fin S1x8192.rank)

variable [Facts]

def fn {F : FTy → Type} [FloatOps F] (main_arg0 : FVec F S4096x8192 .bf16) (main_arg1 : FVec F S4096x8192 .bf16) (main_arg2 : FVec F S4096x16384 .bf16) (main_arg3 : FVec F S1x4x2048 .f32) (main_arg4 : FVec F S1x8192 .f32) : IVec S4096x8192 1 × IVec S4096x16384 1 × IVec S1x8192 1 × IVec S1x8192 1 :=
  let main_v0 : IVec S4096x16384 32 := iotaInDim S4096x16384 32 1
  let main_v1 : IVec S4096x8192 32 := iotaInDim S4096x8192 32 1
  let main_c : IVec S_ 32 := constantI S_ 32 0#32
  let main_v2 : IVec S4096x8192 32 := broadcastInDim S4096x8192 ![] bcast_S_S4096x8192 main_c
  let main_v3 : IVec S4096x8192 1 := cmpi .sge main_v1 main_v2
  let main_c_0 : IVec S_ 32 := constantI S_ 32 8192#32
  let main_v4 : IVec S4096x16384 32 := broadcastInDim S4096x16384 ![] bcast_S_S4096x16384 main_c_0
  let main_v5 : IVec S4096x16384 1 := cmpi .sge main_v0 main_v4
  let main_v6 : IVec S1x8192 32 := iotaInDim S1x8192 32 1
  let main_c_1 : IVec S_ 32 := constantI S_ 32 0#32
  let main_v7 : IVec S1x8192 32 := broadcastInDim S1x8192 ![] bcast_S_S1x8192 main_c_1
  let main_v8 : IVec S1x8192 1 := cmpi .sge main_v6 main_v7
  let main_v9 : IVec S1x8192 32 := iotaInDim S1x8192 32 1
  let main_c_2 : IVec S_ 32 := constantI S_ 32 0#32
  let main_v10 : IVec S1x8192 32 := broadcastInDim S1x8192 ![] bcast_S_S1x8192 main_c_2
  let main_v11 : IVec S1x8192 1 := cmpi .sge main_v9 main_v10
  (main_v3, main_v5, main_v8, main_v11)
-- ==== Pre_class_chip_in_mesh.lean ====
abbrev S8 : Shape := ⟨1, ![8]⟩
abbrev S4x4096x3072 : Shape := ⟨3, ![4, 4096, 3072]⟩
abbrev S3x4096x3072 : Shape := ⟨3, ![3, 4096, 3072]⟩
abbrev S4096x3072 : Shape := ⟨2, ![4096, 3072]⟩
abbrev S1 : Shape := ⟨1, ![1]⟩
abbrev S_ : Shape := ⟨0, ![]⟩

class Facts : Prop where
  slices_S8_S1_4 : S8.Slices ![4] S1
  shapeCasts_S1_S_ : S1.ShapeCasts S_

variable [Facts]

def fn {F : FTy → Type} [FloatOps F] (main_arg0 : IVec S8 32) (main_arg1 : FVec F S4x4096x3072 .bf16) (main_arg2 : FVec F S4x4096x3072 .bf16) (main_arg3 : FVec F S3x4096x3072 .bf16) (main_arg4 : FVec F S4096x3072 .f32) (main_arg5 : FVec F S4096x3072 .f32) (main_arg6 : FVec F S4096x3072 .f32) : IVec S_ 1 :=
  let main_v0 : IVec S1 32 := (extractStridedSlice S1 ![4] · slices_S8_S1_4) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![4] · slices_S8_S1_4) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_class_chips_in_mesh.lean ====
abbrev S8 : Shape := ⟨1, ![8]⟩
abbrev S4x4096x3072 : Shape := ⟨3, ![4, 4096, 3072]⟩
abbrev S3 : Shape := ⟨1, ![3]⟩
abbrev S_ : Shape := ⟨0, ![]⟩

class Facts : Prop where
  slices_S8_S3_0 : S8.Slices ![0] S3
  bcast_S_S3 : S_.BroadcastsInDim S3 (![] : Fin 0 → Fin S3.rank)

variable [Facts]

def fn {F : FTy → Type} [FloatOps F] (main_arg0 : IVec S8 32) (main_arg1 : FVec F S4x4096x3072 .bf16) (main_arg2 : FVec F S4x4096x3072 .bf16) : IVec S3 1 :=
  let main_v0 : IVec S3 32 := (extractStridedSlice S3 ![0] · slices_S8_S3_0) main_arg0
  let main_c : IVec S_ 32 := constantI S_ 32 0#32
  let main_v1 : IVec S3 32 := broadcastInDim S3 ![] bcast_S_S3 main_c
  let main_v2 : IVec S3 1 := cmpi .sge main_v0 main_v1
  let main_v3 : IVec S3 32 := (extractStridedSlice S3 ![0] · slices_S8_S3_0) main_arg0
  let main_c_0 : IVec S_ 32 := constantI S_ 32 4#32
  let main_v4 : IVec S3 32 := broadcastInDim S3 ![] bcast_S_S3 main_c_0
  let main_v5 : IVec S3 1 := cmpi .slt main_v3 main_v4
  let main_v6 : IVec S3 1 := andi main_v2 main_v5
  main_v6
-- ==== Pre_class_is_a_core.lean ====
abbrev S8 : Shape := ⟨1, ![8]⟩
abbrev S4096x4096 : Shape := ⟨2, ![4096, 4096]⟩
abbrev S4096x24576 : Shape := ⟨2, ![4096, 24576]⟩
abbrev S1 : Shape := ⟨1, ![1]⟩
abbrev S_ : Shape := ⟨0, ![]⟩

class Facts : Prop where
  slices_S8_S1_6 : S8.Slices ![6] S1
  shapeCasts_S1_S_ : S1.ShapeCasts S_

variable [Facts]

def fn {F : FTy → Type} [FloatOps F] (main_arg0 : IVec S8 32) (main_arg1 : FVec F S4096x4096 .bf16) (main_arg2 : FVec F S4096x24576 .bf16) : IVec S_ 1 :=
  let main_v0 : IVec S1 32 := (extractStridedSlice S1 ![6] · slices_S8_S1_6) main_arg0
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![6] · slices_S8_S1_6) main_arg0
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := ori main_v2 main_v5
  main_v6
-- ==== Pre_gate_a_finite.lean ====
abbrev S4096x24576 : Shape := ⟨2, ![4096, 24576]⟩
abbrev S4096x8192 : Shape := ⟨2, ![4096, 8192]⟩
abbrev S1x8192 : Shape := ⟨2, ![1, 8192]⟩
abbrev S1x16x128x128 : Shape := ⟨4, ![1, 16, 128, 128]⟩
abbrev S1x16x128 : Shape := ⟨3, ![1, 16, 128]⟩
abbrev S_ : Shape := ⟨0, ![]⟩

class Facts : Prop where
  bcast_S_S4096x24576 : S_.BroadcastsInDim S4096x24576 (![] : Fin 0 → Fin S4096x24576.rank)
  bcast_S_S4096x8192 : S_.BroadcastsInDim S4096x8192 (![] : Fin 0 → Fin S4096x8192.rank)
  bcast_S_S1x8192 : S_.BroadcastsInDim S1x8192 (![] : Fin 0 → Fin S1x8192.rank)
  bcast_S_S1x16x128x128 : S_.BroadcastsInDim S1x16x128x128 (![] : Fin 0 → Fin S1x16x128x128.rank)
  bcast_S_S1x16x128 : S_.BroadcastsInDim S1x16x128 (![] : Fin 0 → Fin S1x16x128.rank)

variable [Facts]

def fn {F : FTy → Type} [FloatOps F] (main_arg0 : FVec F S4096x24576 .bf16) (main_arg1 : FVec F S4096x8192 .bf16) (main_arg2 : FVec F S1x8192 .f32) (main_arg3 : FVec F S1x8192 .f32) (main_arg4 : FVec F S1x16x128x128 .f32) (main_arg5 : FVec F S1x16x128 .f32) : IVec S4096x24576 1 × IVec S4096x8192 1 × IVec S1x8192 1 × IVec S1x8192 1 × IVec S1x16x128x128 1 × IVec S1x16x128 1 :=
  let main_v0 : FVec F S4096x24576 .bf16 := Host.absf main_arg0
  let main_cst : FVec F S_ .bf16 := constant S_ .bf16 0x7F80#16
  let main_v1 : FVec F S4096x24576 .bf16 := broadcastInDim S4096x24576 ![] bcast_S_S4096x24576 main_cst
  let main_v2 : IVec S4096x24576 1 := cmpf .olt main_v0 main_v1
  let main_v3 : FVec F S4096x8192 .bf16 := Host.absf main_arg1
  let main_cst_0 : FVec F S_ .bf16 := constant S_ .bf16 0x7F80#16
  let main_v4 : FVec F S4096x8192 .bf16 := broadcastInDim S4096x8192 ![] bcast_S_S4096x8192 main_cst_0
  let main_v5 : IVec S4096x8192 1 := cmpf .olt main_v3 main_v4
  let main_v6 : FVec F S1x8192 .f32 := Host.absf main_arg2
  let main_cst_1 : FVec F S_ .f32 := constant S_ .f32 0x7F800000#32
  let main_v7 : FVec F S1x8192 .f32 := broadcastInDim S1x8192 ![] bcast_S_S1x8192 main_cst_1
  let main_v8 : IVec S1x8192 1 := cmpf .olt main_v6 main_v7
  let main_v9 : FVec F S1x8192 .f32 := Host.absf main_arg3
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_v12 : FVec F S1x16x128x128 .f32 := Host.absf main_arg4
  let main_cst_3 : FVec F S_ .f32 := constant S_ .f32 0x7F800000#32
  let main_v13 : FVec F S1x16x128x128 .f32 := broadcastInDim S1x16x128x128 ![] bcast_S_S1x16x128x128 main_cst_3
  let main_v14 : IVec S1x16x128x128 1 := cmpf .olt main_v12 main_v13
  let main_v15 : FVec F S1x16x128 .f32 := Host.absf main_arg5
  let main_cst_4 : FVec F S_ .f32 := constant S_ .f32 0x7F800000#32
  let main_v16 : FVec F S1x16x128 .f32 := broadcastInDim S1x16x128 ![] bcast_S_S1x16x128 main_cst_4
  let main_v17 : IVec S1x16x128 1 := cmpf .olt main_v15 main_v16
  (main_v2, main_v5, main_v8, main_v11, main_v14, main_v17)
-- ==== Pre_gate_a_fwd_finite.lean ====
abbrev S4096x24576 : Shape := ⟨2, ![4096, 24576]⟩
abbrev S1x8192 : Shape := ⟨2, ![1, 8192]⟩
abbrev S1x16x128x128 : Shape := ⟨4, ![1, 16, 128, 128]⟩
abbrev S1x16x128 : Shape := ⟨3, ![1, 16, 128]⟩
abbrev S_ : Shape := ⟨0, ![]⟩

class Facts : Prop where
  bcast_S_S4096x24576 : S_.BroadcastsInDim S4096x24576 (![] : Fin 0 → Fin S4096x24576.rank)
  bcast_S_S1x8192 : S_.BroadcastsInDim S1x8192 (![] : Fin 0 → Fin S1x8192.rank)
  bcast_S_S1x16x128x128 : S_.BroadcastsInDim S1x16x128x128 (![] : Fin 0 → Fin S1x16x128x128.rank)
  bcast_S_S1x16x128 : S_.BroadcastsInDim S1x16x128 (![] : Fin 0 → Fin S1x16x128.rank)

variable [Facts]

def fn {F : FTy → Type} [FloatOps F] (main_arg0 : FVec F S4096x24576 .bf16) (main_arg1 : FVec F S1x8192 .f32) (main_arg2 : FVec F S1x8192 .f32) (main_arg3 : FVec F S1x16x128x128 .f32) (main_arg4 : FVec F S1x16x128 .f32) : IVec S4096x24576 1 × IVec S1x8192 1 × IVec S1x8192 1 × IVec S1x16x128x128 1 × IVec S1x16x128 1 :=
  let main_v0 : FVec F S4096x24576 .bf16 := Host.absf main_arg0
  let main_cst : FVec F S_ .bf16 := constant S_ .bf16 0x7F80#16
  let main_v1 : FVec F S4096x24576 .bf16 := broadcastInDim S4096x24576 ![] bcast_S_S4096x24576 main_cst
  let main_v2 : IVec S4096x24576 1 := cmpf .olt main_v0 main_v1
  let main_v3 : FVec F S1x8192 .f32 := Host.absf main_arg1
  let main_cst_0 : FVec F S_ .f32 := constant S_ .f32 0x7F800000#32
  let main_v4 : FVec F S1x8192 .f32 := broadcastInDim S1x8192 ![] bcast_S_S1x8192 main_cst_0
  let main_v5 : IVec S1x8192 1 := cmpf .olt main_v3 main_v4
  let main_v6 : FVec F S1x8192 .f32 := Host.absf main_arg2
  let main_cst_1 : FVec F S_ .f32 := constant S_ .f32 0x7F800000#32
  let main_v7 : FVec F S1x8192 .f32 := broadcastInDim S1x8192 ![] bcast_S_S1x8192 main_cst_1
  let main_v8 : IVec S1x8192 1 := cmpf .olt main_v6 main_v7
  let main_v9 : FVec F S1x16x128x128 .f32 := Host.absf main_arg3
  let main_cst_2 : FVec F S_ .f32 := constant S_ .f32 0x7F800000#32
  let main_v10 : FVec F S1x16x128x128 .f32 := broadcastInDim S1x16x128x128 ![] bcast_S_S1x16x128x128 main_cst_2
  let main_v11 : IVec S1x16x128x128 1 := cmpf .olt main_v9 main_v10
  let main_v12 : FVec F S1x16x128 .f32 := Host.absf main_arg4
  let main_cst_3 : FVec F S_ .f32 := constant S_ .f32 0x7F800000#32
  let main_v13 : FVec F S1x16x128 .f32 := broadcastInDim S1x16x128 ![] bcast_S_S1x16x128 main_cst_3
  let main_v14 : IVec S1x16x128 1 := cmpf .olt main_v12 main_v13
  (main_v2, main_v5, main_v8, main_v11, main_v14)
-- ==== Pre_gate_b_finite.lean ====
abbrev S4096x8192 : Shape := ⟨2, ![4096, 8192]⟩
abbrev S4096x16384 : Shape := ⟨2, ![4096, 16384]⟩
abbrev S1x4x2048 : Shape := ⟨3, ![1, 4, 2048]⟩
abbrev S1x8192 : Shape := ⟨2, ![1, 8192]⟩
abbrev S_ : Shape := ⟨0, ![]⟩

class Facts : Prop where
  bcast_S_S4096x8192 : S_.BroadcastsInDim S4096x8192 (![] : Fin 0 → Fin S4096x8192.rank)
  bcast_S_S1x4x2048 : S_.BroadcastsInDim S1x4x2048 (![] : Fin 0 → Fin S1x4x2048.rank)
  bcast_S_S1x8192 : S_.BroadcastsInDim S1x8192 (![] : Fin 0 → Fin S1x8192.rank)

variable [Facts]

def fn {F : FTy → Type} [FloatOps F] (main_arg0 : FVec F S4096x8192 .bf16) (main_arg1 : FVec F S4096x8192 .bf16) (main_arg2 : FVec F S4096x16384 .bf16) (main_arg3 : FVec F S1x4x2048 .f32) (main_arg4 : FVec F S1x8192 .f32) : IVec S4096x8192 1 × IVec S4096x8192 1 × IVec S1x4x2048 1 × IVec S1x8192 1 :=
  let main_v0 : FVec F S4096x8192 .bf16 := Host.absf main_arg0
  let main_cst : FVec F S_ .bf16 := constant S_ .bf16 0x7F80#16
  let main_v1 : FVec F S4096x8192 .bf16 := broadcastInDim S4096x8192 ![] bcast_S_S4096x8192 main_cst
  let main_v2 : IVec S4096x8192 1 := cmpf .olt main_v0 main_v1
  let main_v3 : FVec F S4096x8192 .bf16 := Host.absf main_arg1
  let main_cst_0 : FVec F S_ .bf16 := constant S_ .bf16 0x7F80#16
  let main_v4 : FVec F S4096x8192 .bf16 := broadcastInDim S4096x8192 ![] bcast_S_S4096x8192 main_cst_0
  let main_v5 : IVec S4096x8192 1 := cmpf .olt main_v3 main_v4
  let main_v6 : FVec F S1x4x2048 .f32 := Host.absf main_arg3
  let main_cst_1 : FVec F S_ .f32 := constant S_ .f32 0x7F800000#32
  let main_v7 : FVec F S1x4x2048 .f32 := broadcastInDim S1x4x2048 ![] bcast_S_S1x4x2048 main_cst_1
  let main_v8 : IVec S1x4x2048 1 := cmpf .olt main_v6 main_v7
  let main_v9 : FVec F S1x8192 .f32 := Host.absf main_arg4
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  (main_v2, main_v5, main_v8, main_v11)
-- ==== Pre_loss_head_finite.lean ====
abbrev S2x2048x4096 : Shape := ⟨3, ![2, 2048, 4096]⟩
abbrev S4096x4096 : Shape := ⟨2, ![4096, 4096]⟩
abbrev S2x4096 : Shape := ⟨2, ![2, 4096]⟩
abbrev S_ : Shape := ⟨0, ![]⟩
abbrev S1x4096 : Shape := ⟨2, ![1, 4096]⟩
abbrev S4096 : Shape := ⟨1, ![4096]⟩

class Facts : Prop where
  bcast_S_S2x2048x4096 : S_.BroadcastsInDim S2x2048x4096 (![] : Fin 0 → Fin S2x2048x4096.rank)
  slices_S2x4096_S1x4096_1_0 : S2x4096.Slices ![1, 0] S1x4096
  shapeCasts_S1x4096_S4096 : S1x4096.ShapeCasts S4096
  bcast_S_S4096 : S_.BroadcastsInDim S4096 (![] : Fin 0 → Fin S4096.rank)

variable [Facts]

def fn {F : FTy → Type} [FloatOps F] (main_arg0 : FVec F S2x2048x4096 .f32) (main_arg1 : FVec F S4096x4096 .f32) (main_arg2 : FVec F S2x2048x4096 .f32) (main_arg3 : FVec F S2x4096 .f32) : IVec S2x2048x4096 1 × IVec S2x2048x4096 1 × IVec S4096 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_v3 : FVec F S2x2048x4096 .f32 := Host.absf main_arg2
  let main_cst_0 : FVec F S_ .f32 := constant S_ .f32 0x7F800000#32
  let main_v4 : FVec F S2x2048x4096 .f32 := broadcastInDim S2x2048x4096 ![] bcast_S_S2x2048x4096 main_cst_0
  let main_v5 : IVec S2x2048x4096 1 := cmpf .olt main_v3 main_v4
  let main_v6 : FVec F S1x4096 .f32 := (extractStridedSlice S1x4096 ![1, 0] · slices_S2x4096_S1x4096_1_0) main_arg3
  let main_v7 : FVec F S4096 .f32 := shapeCast S4096 main_v6 shapeCasts_S1x4096_S4096
  let main_v8 : FVec F S4096 .f32 := Host.absf main_v7
  let main_cst_1 : FVec F S_ .f32 := constant S_ .f32 0x7F800000#32
  let main_v9 : FVec F S4096 .f32 := broadcastInDim S4096 ![] bcast_S_S4096 main_cst_1
  let main_v10 : IVec S4096 1 := cmpf .olt main_v8 main_v9
  (main_v2, main_v5, main_v10)
-- ==== Pre_norm_first_finite.lean ====
abbrev S4096x4096 : Shape := ⟨2, ![4096, 4096]⟩
abbrev S2x2048x4096 : Shape := ⟨3, ![2, 2048, 4096]⟩
abbrev S2x4096 : Shape := ⟨2, ![2, 4096]⟩
abbrev S_ : Shape := ⟨0, ![]⟩
abbrev S1x4096 : Shape := ⟨2, ![1, 4096]⟩
abbrev S4096 : Shape := ⟨1, ![4096]⟩

class Facts : Prop where
  bcast_S_S4096x4096 : S_.BroadcastsInDim S4096x4096 (![] : Fin 0 → Fin S4096x4096.rank)
  slices_S2x4096_S1x4096_0_0 : S2x4096.Slices ![0, 0] S1x4096
  shapeCasts_S1x4096_S4096 : S1x4096.ShapeCasts S4096
  bcast_S_S4096 : S_.BroadcastsInDim S4096 (![] : Fin 0 → Fin S4096.rank)

variable [Facts]

def fn {F : FTy → Type} [FloatOps F] (main_arg0 : FVec F S4096x4096 .f32) (main_arg1 : FVec F S4096x4096 .f32) (main_arg2 : FVec F S2x2048x4096 .f32) (main_arg3 : FVec F S2x4096 .f32) : IVec S4096x4096 1 × IVec S4096 1 :=
  let main_v0 : FVec F S4096x4096 .f32 := Host.absf main_arg1
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1x4096 .f32 := (extractStridedSlice S1x4096 ![0, 0] · slices_S2x4096_S1x4096_0_0) main_arg3
  let main_v4 : FVec F S4096 .f32 := shapeCast S4096 main_v3 shapeCasts_S1x4096_S4096
  let main_v5 : FVec F S4096 .f32 := Host.absf main_v4
  let main_cst_0 : FVec F S_ .f32 := constant S_ .f32 0x7F800000#32
  let main_v6 : FVec F S4096 .f32 := broadcastInDim S4096 ![] bcast_S_S4096 main_cst_0
  let main_v7 : IVec S4096 1 := cmpf .olt main_v5 main_v6
  (main_v2, main_v7)
-- ==== Pre_norms_mid_finite.lean ====
abbrev S4096x4096 : Shape := ⟨2, ![4096, 4096]⟩
abbrev S2x2048x4096 : Shape := ⟨3, ![2, 2048, 4096]⟩
abbrev S2x4096 : Shape := ⟨2, ![2, 4096]⟩
abbrev S_ : Shape := ⟨0, ![]⟩
abbrev S1x4096 : Shape := ⟨2, ![1, 4096]⟩
abbrev S4096 : Shape := ⟨1, ![4096]⟩

class Facts : Prop where
  bcast_S_S4096x4096 : S_.BroadcastsInDim S4096x4096 (![] : Fin 0 → Fin S4096x4096.rank)
  slices_S2x4096_S1x4096_1_0 : S2x4096.Slices ![1, 0] S1x4096
  shapeCasts_S1x4096_S4096 : S1x4096.ShapeCasts S4096
  bcast_S_S4096 : S_.BroadcastsInDim S4096 (![] : Fin 0 → Fin S4096.rank)
  slices_S2x4096_S1x4096_0_0 : S2x4096.Slices ![0, 0] S1x4096

variable [Facts]

def fn {F : FTy → Type} [FloatOps F] (main_arg0 : FVec F S4096x4096 .f32) (main_arg1 : FVec F S4096x4096 .f32) (main_arg2 : FVec F S2x2048x4096 .f32) (main_arg3 : FVec F S4096x4096 .f32) (main_arg4 : FVec F S2x4096 .f32) (main_arg5 : FVec F S2x4096 .f32) : IVec S4096x4096 1 × IVec S4096x4096 1 × IVec S4096 1 × IVec S4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S1x4096 .f32 := (extractStridedSlice S1x4096 ![1, 0] · slices_S2x4096_S1x4096_1_0) main_arg4
  let main_v7 : FVec F S4096 .f32 := shapeCast S4096 main_v6 shapeCasts_S1x4096_S4096
  let main_v8 : FVec F S4096 .f32 := Host.absf main_v7
  let main_cst_1 : FVec F S_ .f32 := constant S_ .f32 0x7F800000#32
  let main_v9 : FVec F S4096 .f32 := broadcastInDim S4096 ![] bcast_S_S4096 main_cst_1
  let main_v10 : IVec S4096 1 := cmpf .olt main_v8 main_v9
  let main_v11 : FVec F S1x4096 .f32 := (extractStridedSlice S1x4096 ![0, 0] · slices_S2x4096_S1x4096_0_0) main_arg5
  let main_v12 : FVec F S4096 .f32 := shapeCast S4096 main_v11 shapeCasts_S1x4096_S4096
  let main_v13 : FVec F S4096 .f32 := Host.absf main_v12
  let main_cst_2 : FVec F S_ .f32 := constant S_ .f32 0x7F800000#32
  let main_v14 : FVec F S4096 .f32 := broadcastInDim S4096 ![] bcast_S_S4096 main_cst_2
  let main_v15 : IVec S4096 1 := cmpf .olt main_v13 main_v14
  (main_v2, main_v5, main_v10, main_v15)
-- ==== Pre_pool_finite.lean ====
abbrev S4096x8192 : Shape := ⟨2, ![4096, 8192]⟩
abbrev S4096x16384 : Shape := ⟨2, ![4096, 16384]⟩
abbrev S_ : Shape := ⟨0, ![]⟩

class Facts : Prop where
  bcast_S_S4096x8192 : S_.BroadcastsInDim S4096x8192 (![] : Fin 0 → Fin S4096x8192.rank)

variable [Facts]

def fn {F : FTy → Type} [FloatOps F] (main_arg0 : FVec F S4096x8192 .f32) (main_arg1 : FVec F S4096x16384 .bf16) : IVec S4096x8192 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  main_v2
-- ==== Pre_pool_fwd_finite.lean ====
abbrev S4096x16384 : Shape := ⟨2, ![4096, 16384]⟩
abbrev S4096x8192 : Shape := ⟨2, ![4096, 8192]⟩
abbrev S_ : Shape := ⟨0, ![]⟩

class Facts : Prop where
  slices_S4096x16384_S4096x8192_0_0 : S4096x16384.Slices ![0, 0] S4096x8192
  bcast_S_S4096x8192 : S_.BroadcastsInDim S4096x8192 (![] : Fin 0 → Fin S4096x8192.rank)

variable [Facts]

def fn {F : FTy → Type} [FloatOps F] (main_arg0 : FVec F S4096x16384 .bf16) : IVec S4096x8192 1 :=
  let main_v0 : FVec F S4096x8192 .bf16 := (extractStridedSlice S4096x8192 ![0, 0] · slices_S4096x16384_S4096x8192_0_0) main_arg0
  let main_v1 : FVec F S4096x8192 .bf16 := Host.absf main_v0
  let main_cst : FVec F S_ .bf16 := constant S_ .bf16 0x7F80#16
  let main_v2 : FVec F S4096x8192 .bf16 := broadcastInDim S4096x8192 ![] bcast_S_S4096x8192 main_cst
  let main_v3 : IVec S4096x8192 1 := cmpf .olt main_v1 main_v2
  main_v3
-- ==== NormFirst.lean ====
abbrev S4096x4096 : Shape := ⟨2, ![4096, 4096]⟩
abbrev S2x2048x4096 : Shape := ⟨3, ![2, 2048, 4096]⟩
abbrev S2x4096 : Shape := ⟨2, ![2, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 8
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S2x2048x4096, .f32⟩
  | .hbm, ⟨3, _⟩ => ⟨S2x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormFirstRefIdeal.lean ====
abbrev S4096x4096 : Shape := ⟨2, ![4096, 4096]⟩
abbrev S2x2048x4096 : Shape := ⟨3, ![2, 2048, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S2x2048x4096, .f32⟩
  | .hbm, ⟨3, _⟩ => ⟨S2x4096, .f32⟩
  | .hbm, ⟨4, _⟩ => ⟨S1x4096, .f32⟩
  | .hbm, ⟨5, _⟩ => ⟨S4096, .f32⟩
  | .hbm, ⟨6, _⟩ => ⟨S2x2048x4096, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x4096, .f32⟩
  | .hbm, ⟨22, _⟩ => ⟨S2x2048x4096, .f32⟩
  | .hbm, ⟨23, _⟩ => ⟨S1x1x4096, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S2x2048x4096, .f32⟩
  | .hbm, ⟨28, _⟩ => ⟨S2x2048x4096, .f32⟩
  | .hbm, ⟨29, _⟩ => ⟨S_, .f32⟩
  | .hbm, ⟨30, _⟩ => ⟨S4096, .f32⟩
  | .hbm, ⟨31, _⟩ => ⟨S1x1x4096, .f32⟩
  | .hbm, ⟨32, _⟩ => ⟨S2x2048x4096, .f32⟩
  | .hbm, ⟨33, _⟩ => ⟨S2x2048x4096, .f32⟩
  | .hbm, ⟨34, _⟩ => ⟨S_, .f32⟩
  | .hbm, ⟨35, _⟩ => ⟨S4096, .f32⟩
  | .hbm, ⟨36, _⟩ => ⟨S2x2048x4096, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S2x2048x4096, .f32⟩
  | .hbm, ⟨41, _⟩ => ⟨S2x2048x4096, .f32⟩
  | .hbm, ⟨42, _⟩ => ⟨S2x2048x4096, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048, .f32⟩
  | .hbm, ⟨49, _⟩ => ⟨S2x2048x4096, .f32⟩
  | .hbm, ⟨50, _⟩ => ⟨S2x2048x4096, .f32⟩
  | .hbm, ⟨51, _⟩ => ⟨S2x2048x4096, .f32⟩
  | .hbm, ⟨52, _⟩ => ⟨S2x2048x4096, .f32⟩
  | .hbm, ⟨53, _⟩ => ⟨S2x2048x4096, .f32⟩
  | .hbm, ⟨54, _⟩ => ⟨S4096x4096, .f32⟩
  | .hbm, ⟨55, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== LossHead.lean ====
abbrev S2x2048x4096 : Shape := ⟨3, ![2, 2048, 4096]⟩
abbrev S4096x4096 : Shape := ⟨2, ![4096, 4096]⟩
abbrev S2x4096 : Shape := ⟨2, ![2, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 11
  | .vmem => 13
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S2x2048x4096, .f32⟩
  | .hbm, ⟨3, _⟩ => ⟨S2x4096, .f32⟩
  | .hbm, ⟨4, _⟩ => ⟨S4096x4096, .f32⟩
  | .hbm, ⟨5, _⟩ => ⟨S4096x4096, .f32⟩
  | .hbm, ⟨6, _⟩ => ⟨S1x4096, .f32⟩
  | .hbm, ⟨7, _⟩ => ⟨S1x4096, .f32⟩
  | .hbm, ⟨8, _⟩ => ⟨S4096x4096, .f32⟩
  | .hbm, ⟨9, _⟩ => ⟨S4096x4096, .bf16⟩
  | .hbm, ⟨10, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S2x2048x4096 : Shape := ⟨3, ![2, 2048, 4096]⟩
abbrev S4096x4096 : Shape := ⟨2, ![4096, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩

abbrev nBuf : Space → Nat
  | .hbm => 105
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S2x2048x4096, .f32⟩
  | .hbm, ⟨3, _⟩ => ⟨S2x4096, .f32⟩
  | .hbm, ⟨4, _⟩ => ⟨S1x4096, .f32⟩
  | .hbm, ⟨5, _⟩ => ⟨S4096, .f32⟩
  | .hbm, ⟨6, _⟩ => ⟨S2x2048x4096, .f32⟩
  | .hbm, ⟨7, _⟩ => ⟨S2x2048x4096, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x4096, .f32⟩
  | .hbm, ⟨23, _⟩ => ⟨S2x2048x4096, .f32⟩
  | .hbm, ⟨24, _⟩ => ⟨S1x1x4096, .f32⟩
  | .hbm, ⟨25, _⟩ => ⟨S2x2048x4096, .f32⟩
  | .hbm, ⟨26, _⟩ => ⟨S2x2048x4096, .f32⟩
  | .hbm, ⟨27, _⟩ => ⟨S2x2048x4096, .f32⟩
  | .hbm, ⟨28, _⟩ => ⟨S2x2048x4096, .f32⟩
  | .hbm, ⟨29, _⟩ => ⟨S2x2048x4096, .f32⟩
  | .hbm, ⟨30, _⟩ => ⟨S_, .f32⟩
  | .hbm, ⟨31, _⟩ => ⟨S2x2048x4096, .f32⟩
  | .hbm, ⟨32, _⟩ => ⟨S2x2048x4096, .f32⟩
  | .hbm, ⟨33, _⟩ => ⟨S_, .f32⟩
  | .hbm, ⟨34, _⟩ => ⟨S2x2048, .f32⟩
  | .hbm, ⟨35, _⟩ => ⟨S_, .f32⟩
  | .hbm, ⟨36, _⟩ => ⟨S2x2048, .f32⟩
  | .hbm, ⟨37, _⟩ => ⟨S2x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048x4096, .f32⟩
  | .hbm, ⟨50, _⟩ => ⟨S2x2048x4096, .f32⟩
  | .hbm, ⟨51, _⟩ => ⟨S2x2048x4096, .f32⟩
  | .hbm, ⟨52, _⟩ => ⟨S_, .f32⟩
  | .hbm, ⟨53, _⟩ => ⟨S4096, .f32⟩
  | .hbm, ⟨54, _⟩ => ⟨S1x1x4096, .f32⟩
  | .hbm, ⟨55, _⟩ => ⟨S2x2048x4096, .f32⟩
  | .hbm, ⟨56, _⟩ => ⟨S2x2048x4096, .f32⟩
  | .hbm, ⟨57, _⟩ => ⟨S_, .f32⟩
  | .hbm, ⟨58, _⟩ => ⟨S4096, .f32⟩
  | .hbm, ⟨59, _⟩ => ⟨S2x2048x4096, .f32⟩
  | .hbm, ⟨60, _⟩ => ⟨S_, .f32⟩
  | .hbm, ⟨61, _⟩ => ⟨S2x2048, .f32⟩
  | .hbm, ⟨62, _⟩ => ⟨S2x2048x1, .f32⟩
  | .hbm, ⟨63, _⟩ => ⟨S2x2048x4096, .f32⟩
  | .hbm, ⟨64, _⟩ => ⟨S2x2048x4096, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x4096, .f32⟩
  | .hbm, ⟨72, _⟩ => ⟨S2x2048x4096, .f32⟩
  | .hbm, ⟨73, _⟩ => ⟨S2x2048x4096, .f32⟩
  | .hbm, ⟨74, _⟩ => ⟨S2x2048x4096, .f32⟩
  | .hbm, ⟨75, _⟩ => ⟨S2x2048x4096, .f32⟩
  | .hbm, ⟨76, _⟩ => ⟨S4096x4096, .f32⟩
  | .hbm, ⟨77, _⟩ => ⟨S1x4096, .f32⟩
  | .hbm, ⟨78, _⟩ => ⟨S4096, .f32⟩
  | .hbm, ⟨79, _⟩ => ⟨S2x2048x4096, .f32⟩
  | .hbm, ⟨80, _⟩ => ⟨S2x2048x4096, .f32⟩
  | .hbm, ⟨81, _⟩ => ⟨S_, .f32⟩
  | .hbm, ⟨82, _⟩ => ⟨S2x2048, .f32⟩
  | .hbm, ⟨83, _⟩ => ⟨S2x2048x1, .f32⟩
  | .hbm, ⟨84, _⟩ => ⟨S_, .f32⟩
  | .hbm, ⟨85, _⟩ => ⟨S2x2048x1, .f32⟩
  | .hbm, ⟨86, _⟩ => ⟨S2x2048x1, .f32⟩
  | .hbm, ⟨87, _⟩ => ⟨S_, .f32⟩
  | .hbm, ⟨88, _⟩ => ⟨S2x2048x1, .f32⟩
  | .hbm, ⟨89, _⟩ => ⟨S2x2048x1, .f32⟩
  | .hbm, ⟨90, _⟩ => ⟨S2x2048x1, .f32⟩
  | .hbm, ⟨91, _⟩ => ⟨S2x2048x4096, .f32⟩
  | .hbm, ⟨92, _⟩ => ⟨S2x2048x4096, .f32⟩
  | .hbm, ⟨93, _⟩ => ⟨S1x1x4096, .f32⟩
  | .hbm, ⟨94, _⟩ => ⟨S2x2048x4096, .f32⟩
  | .hbm, ⟨95, _⟩ => ⟨S2x2048x4096, .f32⟩
  | .hbm, ⟨96, _⟩ => ⟨S2x2048x4096, .f32⟩
  | .hbm, ⟨97, _⟩ => ⟨S2x2048x4096, .f32⟩
  | .hbm, ⟨98, _⟩ => ⟨S2x2048x4096, .f32⟩
  | .hbm, ⟨99, _⟩ => ⟨S_, .f32⟩
  | .hbm, ⟨100, _⟩ => ⟨S4096, .f32⟩
  | .hbm, ⟨101, _⟩ => ⟨S1x4096, .f32⟩
  | .hbm, ⟨102, _⟩ => ⟨S4096x4096, .f32⟩
  | .hbm, ⟨103, _⟩ => ⟨S4096x4096, .bf16⟩
  | .hbm, ⟨104, _⟩ => ⟨S1x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_14 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== GateA.lean ====
abbrev S4096x24576 : Shape := ⟨2, ![4096, 24576]⟩
abbrev S4096x8192 : Shape := ⟨2, ![4096, 8192]⟩
abbrev S1x8192 : Shape := ⟨2, ![1, 8192]⟩
abbrev S1x16x128x128 : Shape := ⟨4, ![1, 16, 128, 128]⟩
abbrev S1x16x128 : Shape := ⟨3, ![1, 16, 128]⟩
abbrev S16x128x128 : Shape := ⟨3, ![16, 128, 128]⟩
abbrev S128x128 : Shape := ⟨2, ![128, 128]⟩
abbrev S_ : Shape := ⟨0, ![]⟩
abbrev S16x128 : Shape := ⟨2, ![16, 128]⟩
abbrev S16x128x1 : Shape := ⟨3, ![16, 128, 1]⟩
abbrev S128x24576 : Shape := ⟨2, ![128, 24576]⟩
abbrev S128x8192 : Shape := ⟨2, ![128, 8192]⟩
abbrev S128x1 : Shape := ⟨2, ![128, 1]⟩
abbrev S128x512 : Shape := ⟨2, ![128, 512]⟩
abbrev S128 : Shape := ⟨1, ![128]⟩
abbrev S1x512 : Shape := ⟨2, ![1, 512]⟩
abbrev S1x128x128 : Shape := ⟨3, ![1, 128, 128]⟩
abbrev S1x128x1 : Shape := ⟨3, ![1, 128, 1]⟩
abbrev S512 : Shape := ⟨1, ![512]⟩

abbrev nBuf : Space → Nat
  | .hbm => 26
  | .vmem => 17
  | .smem => 0
  | _ => 0

abbrev bufTy : (tb : Table) → Fin (tcTables nBuf tb) → BufTy
  | .hbm, ⟨0, _⟩ => ⟨S4096x24576, .bf16⟩
  | .hbm, ⟨1, _⟩ => ⟨S4096x8192, .bf16⟩
  | .hbm, ⟨2, _⟩ => ⟨S1x8192, .f32⟩
  | .hbm, ⟨3, _⟩ => ⟨S1x8192, .f32⟩
  | .hbm, ⟨4, _⟩ => ⟨S1x16x128x128, .f32⟩
  | .hbm, ⟨5, _⟩ => ⟨S1x16x128, .f32⟩
  | .hbm, ⟨6, _⟩ => ⟨S16x128x128, .f32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S16x128x128, .i1⟩
  | .hbm, ⟨14, _⟩ => ⟨S_, .f32⟩
  | .hbm, ⟨15, _⟩ => ⟨S16x128x128, .f32⟩
  | .hbm, ⟨16, _⟩ => ⟨S16x128x128, .f32⟩
  | .hbm, ⟨17, _⟩ => ⟨S16x128x128, .bf16⟩
  | .hbm, ⟨18, _⟩ => ⟨S16x128x128, .bf16⟩
  | .hbm, ⟨19, _⟩ => ⟨S16x128, .f32⟩
  | .hbm, ⟨20, _⟩ => ⟨S16x128x1, .f32⟩
  | .hbm, ⟨21, _⟩ => ⟨S4096x24576, .bf16⟩
  | .hbm, ⟨22, _⟩ => ⟨S16x128x128, .f32⟩
  | .hbm, ⟨23, _⟩ => ⟨S16x128x1, .f32⟩
  | .hbm, ⟨24, _⟩ => ⟨S1x8192, .f32⟩
  | .hbm, ⟨25, _⟩ => ⟨S1x8192, .f32⟩
  | .local _ .vmem, ⟨0, _⟩ => ⟨S128x24576, .bf16⟩
  | .local _ .vmem, ⟨1, _⟩ => ⟨S128x24576, .bf16⟩
  | .local _ .vmem, ⟨2, _⟩ => ⟨S128x8192, .bf16⟩
  | .local _ .vmem, ⟨3, _⟩ => ⟨S128x8192, .bf16⟩
  | .local _ .vmem, ⟨4, _⟩ => ⟨S1x8192, .f32⟩
  | .local _ .vmem, ⟨5, _⟩ => ⟨S1x8192, .f32⟩
  | .local _ .vmem, ⟨6, _⟩ => ⟨S16x128x128, .bf16⟩
  | .local _ .vmem, ⟨7, _⟩ => ⟨S16x128x128, .bf16⟩
  | .local _ .vmem, ⟨8, _⟩ => ⟨S16x128x1, .f32⟩
  | .local _ .vmem, ⟨9, _⟩ => ⟨S128x24576, .bf16⟩
  | .local _ .vmem, ⟨10, _⟩ => ⟨S128x24576, .bf16⟩
  | .local _ .vmem, ⟨11, _⟩ => ⟨S16x128x128, .f32⟩
  | .local _ .vmem, ⟨12, _⟩ => ⟨S16x128x1, .f32⟩
  | .local _ .vmem, ⟨13, _⟩ => ⟨S1x8192, .f32⟩
  | .local _ .vmem, ⟨14, _⟩ => ⟨S1x8192, .f32⟩
  | .local _ .vmem, ⟨15, _⟩ => ⟨S128x8192, .f32⟩
  | .local _ .vmem, ⟨16, _⟩ => ⟨S128x8192, .f32⟩
  | _, _ => ⟨S4096x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_cst : Ref sig .tc := ⟨.hbm, 14, rfl⟩
abbrev main_call0_v6 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x24576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x24576 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GateAIdeal.lean ====
variable {F : FTy → Type} [FloatOps F] [Named F]
def κ : String → Option EReal := fun
  | "inv_sqrt2" => some (((Real.sqrt 2)⁻¹ : ℝ) : EReal)
  | "inv_sqrt_2pi" => some (((9465531 / 16777216) * (Real.sqrt 2)⁻¹ : ℝ) : EReal)
  | _ => none
-- ==== GateARefIdeal.lean ====
abbrev S4096x24576 : Shape := ⟨2, ![4096, 24576]⟩
abbrev S4096x8192 : Shape := ⟨2, ![4096, 8192]⟩
abbrev S1x8192 : Shape := ⟨2, ![1, 8192]⟩
abbrev S1x16x128x128 : Shape := ⟨4, ![1, 16, 128, 128]⟩
abbrev S1x16x128 : Shape := ⟨3, ![1, 16, 128]⟩
abbrev S2x2048x24576 : Shape := ⟨3, ![2, 2048, 24576]⟩
abbrev S2x2048x8192 : Shape := ⟨3, ![2, 2048, 8192]⟩
abbrev S16x128x128 : Shape := ⟨3, ![16, 128, 128]⟩
abbrev S128x128 : Shape := ⟨2, ![128, 128]⟩
abbrev S_ : Shape := ⟨0, ![]⟩
abbrev S8192 : Shape := ⟨1, ![8192]⟩
abbrev S16x128 : Shape := ⟨2, ![16, 128]⟩
abbrev S2x2048 : Shape := ⟨2, ![2, 2048]⟩
abbrev S2x2048x1 : Shape := ⟨3, ![2, 2048, 1]⟩
abbrev S1x1x8192 : Shape := ⟨3, ![1, 1, 8192]⟩
abbrev S2x16x128x16x512 : Shape := ⟨5, ![2, 16, 128, 16, 512]⟩
abbrev S16x2x16x512x128 : Shape := ⟨5, ![16, 2, 16, 512, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S16x128x1 : Shape := ⟨3, ![16, 128, 1]⟩

abbrev nBuf : Space → Nat
  | .hbm => 204
  | .vmem => 0
  | .smem => 0
  | _ => 0

abbrev hbmTy0_0 (i : Nat) : BufTy := match i % 128 with
  | 0 => ⟨S4096x24576, .bf16⟩
  | 1 => ⟨S4096x8192, .bf16⟩
  | 2 => ⟨S1x8192, .f32⟩
  | 3 => ⟨S1x8192, .f32⟩
  | 4 => ⟨S1x16x128x128, .f32⟩
  | 5 => ⟨S1x16x128, .f32⟩
  | 6 => ⟨S4096x24576, .f32⟩
  | 7 => ⟨S2x2048x24576, .f32⟩
  | 8 => ⟨S4096x8192, .f32⟩
  | 9 => ⟨S2x2048x8192, .f32⟩
  | 10 => ⟨S16x128x128, .f32⟩
  | 11 => ⟨S128x128, .i32⟩
  | 12 => ⟨S_, .i32⟩
  | 13 => ⟨S128x128, .i32⟩
  | 14 => ⟨S128x128, .i32⟩
  | 15 => ⟨S128x128, .i32⟩
  | 16 => ⟨S128x128, .i1⟩
  | 17 => ⟨S16x128x128, .i1⟩
  | 18 => ⟨S_, .f32⟩
  | 19 => ⟨S16x128x128, .f32⟩
  | 20 => ⟨S16x128x128, .f32⟩
  | 21 => ⟨S8192, .f32⟩
  | 22 => ⟨S8192, .f32⟩
  | 23 => ⟨S16x128, .f32⟩
  | 24 => ⟨S2x2048x8192, .f32⟩
  | 25 => ⟨S2x2048x8192, .f32⟩
  | 26 => ⟨S2x2048x8192, .f32⟩
  | 27 => ⟨S_, .f32⟩
  | 28 => ⟨S2x2048x8192, .f32⟩
  | 29 => ⟨S2x2048x8192, .f32⟩
  | 30 => ⟨S2x2048x8192, .f32⟩
  | 31 => ⟨S_, .f32⟩
  | 32 => ⟨S_, .f32⟩
  | 33 => ⟨S2x2048x8192, .f32⟩
  | 34 => ⟨S2x2048x8192, .f32⟩
  | 35 => ⟨S2x2048x8192, .f32⟩
  | 36 => ⟨S2x2048x8192, .f32⟩
  | 37 => ⟨S2x2048x8192, .f32⟩
  | 38 => ⟨S2x2048x8192, .f32⟩
  | 39 => ⟨S2x2048x8192, .f32⟩
  | 40 => ⟨S_, .f32⟩
  | 41 => ⟨S2x2048x8192, .f32⟩
  | 42 => ⟨S2x2048x8192, .f32⟩
  | 43 => ⟨S2x2048x8192, .f32⟩
  | 44 => ⟨S_, .f32⟩
  | 45 => ⟨S_, .f32⟩
  | 46 => ⟨S2x2048x8192, .f32⟩
  | 47 => ⟨S2x2048x8192, .f32⟩
  | 48 => ⟨S2x2048x8192, .f32⟩
  | 49 => ⟨S2x2048x8192, .f32⟩
  | 50 => ⟨S2x2048x8192, .f32⟩
  | 51 => ⟨S2x2048x8192, .f32⟩
  | 52 => ⟨S2x2048x8192, .f32⟩
  | 53 => ⟨S_, .f32⟩
  | 54 => ⟨S2x2048, .f32⟩
  | 55 => ⟨S2x2048x1, .f32⟩
  | 56 => ⟨S_, .f32⟩
  | 57 => ⟨S2x2048x1, .f32⟩
  | 58 => ⟨S2x2048x1, .f32⟩
  | 59 => ⟨S2x2048x8192, .f32⟩
  | 60 => ⟨S2x2048x8192, .f32⟩
  | 61 => ⟨S2x2048x8192, .f32⟩
  | 62 => ⟨S_, .f32⟩
  | 63 => ⟨S2x2048, .f32⟩
  | 64 => ⟨S2x2048x1, .f32⟩
  | 65 => ⟨S_, .f32⟩
  | 66 => ⟨S2x2048x1, .f32⟩
  | 67 => ⟨S2x2048x1, .f32⟩
  | 68 => ⟨S_, .f32⟩
  | 69 => ⟨S2x2048x1, .f32⟩
  | 70 => ⟨S2x2048x1, .f32⟩
  | 71 => ⟨S2x2048x1, .f32⟩
  | 72 => ⟨S2x2048x1, .f32⟩
  | 73 => ⟨S_, .f32⟩
  | 74 => ⟨S2x2048x1, .f32⟩
  | 75 => ⟨S2x2048x1, .f32⟩
  | 76 => ⟨S2x2048x8192, .f32⟩
  | 77 => ⟨S2x2048x8192, .f32⟩
  | 78 => ⟨S1x1x8192, .f32⟩
  | 79 => ⟨S2x2048x8192, .f32⟩
  | 80 => ⟨S2x2048x8192, .f32⟩
  | 81 => ⟨S1x1x8192, .f32⟩
  | 82 => ⟨S2x2048x8192, .f32⟩
  | 83 => ⟨S2x2048x8192, .f32⟩
  | 84 => ⟨S2x16x128x16x512, .f32⟩
  | 85 => ⟨S16x2x16x512x128, .f32⟩
  | 86 => ⟨S2x16x128x16x512, .f32⟩
  | 87 => ⟨S128x16, .f32⟩
  | 88 => ⟨S128x16x1, .f32⟩
  | 89 => ⟨S1x1x128x16x1, .f32⟩
  | 90 => ⟨S2x16x128x16x512, .f32⟩
  | 91 => ⟨S2x16x128x16x512, .f32⟩
  | 92 => ⟨S2x2048x8192, .f32⟩
  | 93 => ⟨S2x2048x8192, .f32⟩
  | 94 => ⟨S2x2048x8192, .f32⟩
  | 95 => ⟨S2x2048x8192, .f32⟩
  | 96 => ⟨S_, .f32⟩
  | 97 => ⟨S2x2048x8192, .f32⟩
  | 98 => ⟨S2x2048x8192, .f32⟩
  | 99 => ⟨S_, .f32⟩
  | 100 => ⟨S2x2048x8192, .f32⟩
  | 101 => ⟨S2x2048x8192, .f32⟩
  | 102 => ⟨S_, .f32⟩
  | 103 => ⟨S2x2048x8192, .f32⟩
  | 104 => ⟨S2x2048x8192, .f32⟩
  | 105 => ⟨S2x2048x8192, .f32⟩
  | 106 => ⟨S2x2048x8192, .f32⟩
  | 107 => ⟨S2x2048x8192, .f32⟩
  | 108 => ⟨S2x2048x8192, .f32⟩
  | 109 => ⟨S2x2048x8192, .f32⟩
  | 110 => ⟨S2x2048x8192, .f32⟩
  | 111 => ⟨S2x2048x8192, .f32⟩
  | 112 => ⟨S2x2048x8192, .f32⟩
  | 113 => ⟨S2x2048x8192, .f32⟩
  | 114 => ⟨S2x2048x8192, .f32⟩
  | 115 => ⟨S2x2048x8192, .f32⟩
  | 116 => ⟨S2x16x128x16x512, .f32⟩
  | 117 => ⟨S_, .f32⟩
  | 118 => ⟨S128x16, .f32⟩
  | 119 => ⟨S1x1x128x16x1, .f32⟩
  | 120 => ⟨S_, .f32⟩
  | 121 => ⟨S128x16, .f32⟩
  | 122 => ⟨S128x16x1, .f32⟩
  | 123 => ⟨S_, .f32⟩
  | 124 => ⟨S128x16, .f32⟩
  | 125 => ⟨S16x128, .f32⟩
  | 126 => ⟨S16x2x16x512x128, .f32⟩
  | 127 => ⟨S16x128x128, .f32⟩
  | _ => ⟨S4096x24576, .bf16⟩

abbrev hbmTy0_1 (i : Nat) : BufTy := match i % 128 with
  | 0 => ⟨S16x2x16x512x128, .f32⟩
  | 1 => ⟨S2x16x128x16x512, .f32⟩
  | 2 => ⟨S2x2048x8192, .f32⟩
  | 3 => ⟨S_, .f32⟩
  | 4 => ⟨S8192, .f32⟩
  | 5 => ⟨S1x1x8192, .f32⟩
  | 6 => ⟨S_, .f32⟩
  | 7 => ⟨S8192, .f32⟩
  | 8 => ⟨S2x2048x8192, .f32⟩
  | 9 => ⟨S_, .f32⟩
  | 10 => ⟨S8192, .f32⟩
  | 11 => ⟨S1x1x8192, .f32⟩
  | 12 => ⟨S2x2048x8192, .f32⟩
  | 13 => ⟨S2x2048x8192, .f32⟩
  | 14 => ⟨S_, .f32⟩
  | 15 => ⟨S8192, .f32⟩
  | 16 => ⟨S2x2048x8192, .f32⟩
  | 17 => ⟨S_, .f32⟩
  | 18 => ⟨S2x2048, .f32⟩
  | 19 => ⟨S2x2048x1, .f32⟩
  | 20 => ⟨S2x2048x8192, .f32⟩
  | 21 => ⟨S2x2048x8192, .f32⟩
  | 22 => ⟨S2x2048x1, .f32⟩
  | 23 => ⟨S_, .f32⟩
  | 24 => ⟨S2x2048x1, .f32⟩
  | 25 => ⟨S2x2048x1, .f32⟩
  | 26 => ⟨S_, .f32⟩
  | 27 => ⟨S2x2048, .f32⟩
  | 28 => ⟨S2x2048x8192, .f32⟩
  | 29 => ⟨S2x2048x8192, .f32⟩
  | 30 => ⟨S2x2048x8192, .f32⟩
  | 31 => ⟨S2x2048x8192, .f32⟩
  | 32 => ⟨S2x2048x8192, .f32⟩
  | 33 => ⟨S2x2048x8192, .f32⟩
  | 34 => ⟨S_, .f32⟩
  | 35 => ⟨S2x2048, .f32⟩
  | 36 => ⟨S2x2048x1, .f32⟩
  | 37 => ⟨S_, .f32⟩
  | 38 => ⟨S2x2048x1, .f32⟩
  | 39 => ⟨S2x2048x1, .f32⟩
  | 40 => ⟨S_, .f32⟩
  | 41 => ⟨S2x2048, .f32⟩
  | 42 => ⟨S2x2048x8192, .f32⟩
  | 43 => ⟨S2x2048x8192, .f32⟩
  | 44 => ⟨S2x2048x8192, .f32⟩
  | 45 => ⟨S2x2048x8192, .f32⟩
  | 46 => ⟨S_, .f32⟩
  | 47 => ⟨S2x2048x8192, .f32⟩
  | 48 => ⟨S2x2048x8192, .f32⟩
  | 49 => ⟨S2x2048x8192, .f32⟩
  | 50 => ⟨S2x2048x8192, .f32⟩
  | 51 => ⟨S2x2048x8192, .f32⟩
  | 52 => ⟨S2x2048x8192, .f32⟩
  | 53 => ⟨S_, .f32⟩
  | 54 => ⟨S2x2048x8192, .f32⟩
  | 55 => ⟨S2x2048x8192, .f32⟩
  | 56 => ⟨S2x2048x8192, .f32⟩
  | 57 => ⟨S2x2048x8192, .f32⟩
  | 58 => ⟨S2x2048x8192, .f32⟩
  | 59 => ⟨S_, .f32⟩
  | 60 => ⟨S2x2048x8192, .f32⟩
  | 61 => ⟨S2x2048x8192, .f32⟩
  | 62 => ⟨S2x2048x8192, .f32⟩
  | 63 => ⟨S2x2048x8192, .f32⟩
  | 64 => ⟨S2x2048x8192, .f32⟩
  | 65 => ⟨S2x2048x8192, .f32⟩
  | 66 => ⟨S_, .f32⟩
  | 67 => ⟨S2x2048x8192, .f32⟩
  | 68 => ⟨S2x2048x8192, .f32⟩
  | 69 => ⟨S2x2048x8192, .f32⟩
  | 70 => ⟨S2x2048x24576, .f32⟩
  | 71 => ⟨S4096x24576, .f32⟩
  | 72 => ⟨S4096x24576, .bf16⟩
  | 73 => ⟨S16x128x1, .f32⟩
  | 74 => ⟨S1x8192, .f32⟩
  | 75 => ⟨S1x8192, .f32⟩
  | _ => ⟨S4096x24576, .bf16⟩

abbrev hbmTy (i : Nat) : BufTy := match i / 128 with
  | 0 => hbmTy0_0 i
  | 1 => hbmTy0_1 i
  | _ => ⟨S4096x24576, .bf16⟩

abbrev bufTy : (tb : Table) → Fin (tcTables nBuf tb) → BufTy
  | .hbm, ⟨i, _⟩ => hbmTy i
  | _, _ => ⟨S4096x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_cst : Ref sig .tc := ⟨.hbm, 18, rfl⟩
abbrev main_call0_v6 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_v42 : Ref sig .tc := ⟨.hbm, 64, rfl⟩
abbrev main_cst_6 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_v0 : Ref sig .tc := ⟨.hbm, 94, rfl⟩
abbrev main_call1_v1 : Ref sig .tc := ⟨.hbm, 95, rfl⟩
abbrev main_call1_cst : Ref sig .tc := ⟨.hbm, 96, rfl⟩
abbrev main_call1_v2 : Ref sig .tc := ⟨.hbm, 97, rfl⟩
abbrev main_call1_v3 : Ref sig .tc := ⟨.hbm, 98, rfl⟩
abbrev main_call1_cst_0 : Ref sig .tc := ⟨.hbm, 99, rfl⟩
abbrev main_call1_v4 : Ref sig .tc := ⟨.hbm, 100, rfl⟩
abbrev main_v69_2 : Ref sig .tc := ⟨.hbm, 101, rfl⟩
abbrev main_call1_cst_1 : Ref sig .tc := ⟨.hbm, 102, rfl⟩
abbrev main_call1_v6 : Ref sig .tc := ⟨.hbm, 103, rfl⟩
abbrev main_call1_v7 : Ref sig .tc := ⟨.hbm, 104, rfl⟩
abbrev main_v69_1 : Ref sig .tc := ⟨.hbm, 105, rfl⟩
abbrev main_v69_0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_9 : Ref sig .tc := ⟨.hbm, 117, rfl⟩
abbrev main_v77 : Ref sig .tc := ⟨.hbm, 118, rfl⟩
abbrev main_v78 : Ref sig .tc := ⟨.hbm, 119, rfl⟩
abbrev main_cst_10 : Ref sig .tc := ⟨.hbm, 120, rfl⟩
abbrev main_v79 : Ref sig .tc := ⟨.hbm, 121, rfl⟩
abbrev main_v80 : Ref sig .tc := ⟨.hbm, 122, rfl⟩
abbrev main_cst_11 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_12 : Ref sig .tc := ⟨.hbm, 131, rfl⟩
abbrev main_v88 : Ref sig .tc := ⟨.hbm, 132, rfl⟩
abbrev main_v89 : Ref sig .tc := ⟨.hbm, 133, rfl⟩
abbrev main_cst_13 : Ref sig .tc := ⟨.hbm, 134, rfl⟩
abbrev main_v90 : Ref sig .tc := ⟨.hbm, 135, rfl⟩
abbrev main_v91 : Ref sig .tc := ⟨.hbm, 136, rfl⟩
abbrev main_cst_14 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_15 : Ref sig .tc := ⟨.hbm, 142, rfl⟩
abbrev main_v96 : Ref sig .tc := ⟨.hbm, 143, rfl⟩
abbrev main_v97 : Ref sig .tc := ⟨.hbm, 144, rfl⟩
abbrev main_cst_16 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_17 : Ref sig .tc := ⟨.hbm, 151, rfl⟩
abbrev main_v103 : Ref sig .tc := ⟨.hbm, 152, rfl⟩
abbrev main_v104 : Ref sig .tc := ⟨.hbm, 153, rfl⟩
abbrev main_cst_18 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_19 : Ref sig .tc := ⟨.hbm, 162, rfl⟩
abbrev main_v112 : Ref sig .tc := ⟨.hbm, 163, rfl⟩
abbrev main_v113 : Ref sig .tc := ⟨.hbm, 164, rfl⟩
abbrev main_cst_20 : Ref sig .tc := ⟨.hbm, 165, rfl⟩
abbrev main_v114 : Ref sig .tc := ⟨.hbm, 166, rfl⟩
abbrev main_v115 : Ref sig .tc := ⟨.hbm, 167, rfl⟩
abbrev main_cst_21 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_cst_22 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_23 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_24 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_25 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩

abbrev nD : Nat := 1
abbrev τ : Topo := Topo.v7x

variable {F : FTy → Type} [FloatOps F]
-- ==== GateB.lean ====
abbrev S4096x8192 : Shape := ⟨2, ![4096, 8192]⟩
abbrev S4096x16384 : Shape := ⟨2, ![4096, 16384]⟩
abbrev S1x4x2048 : Shape := ⟨3, ![1, 4, 2048]⟩
abbrev S1x8192 : Shape := ⟨2, ![1, 8192]⟩
abbrev S256x1024 : Shape := ⟨2, ![256, 1024]⟩
abbrev S1x1024 : Shape := ⟨2, ![1, 1024]⟩
abbrev S1024 : Shape := ⟨1, ![1024]⟩

abbrev nBuf : Space → Nat
  | .hbm => 10
  | .vmem => 18
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x16384, .bf16⟩
  | .hbm, ⟨3, _⟩ => ⟨S1x4x2048, .f32⟩
  | .hbm, ⟨4, _⟩ => ⟨S1x8192, .f32⟩
  | .hbm, ⟨5, _⟩ => ⟨S1x8192, .f32⟩
  | .hbm, ⟨6, _⟩ => ⟨S4096x8192, .bf16⟩
  | .hbm, ⟨7, _⟩ => ⟨S4096x16384, .bf16⟩
  | .hbm, ⟨8, _⟩ => ⟨S1x8192, .f32⟩
  | .hbm, ⟨9, _⟩ => ⟨S1x8192, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GateBRefIdeal.lean ====
abbrev S4096x8192 : Shape := ⟨2, ![4096, 8192]⟩
abbrev S4096x16384 : Shape := ⟨2, ![4096, 16384]⟩
abbrev S1x4x2048 : Shape := ⟨3, ![1, 4, 2048]⟩
abbrev S1x8192 : Shape := ⟨2, ![1, 8192]⟩
abbrev S2x2048x16384 : Shape := ⟨3, ![2, 2048, 16384]⟩
abbrev S2x2048x8192 : Shape := ⟨3, ![2, 2048, 8192]⟩
abbrev S4x2048 : Shape := ⟨2, ![4, 2048]⟩
abbrev S8192 : Shape := ⟨1, ![8192]⟩
abbrev S2x2048x4x2048 : Shape := ⟨4, ![2, 2048, 4, 2048]⟩
abbrev S1x1x4x2048 : Shape := ⟨4, ![1, 1, 4, 2048]⟩
abbrev S1x1x8192 : Shape := ⟨3, ![1, 1, 8192]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x16384, .bf16⟩
  | .hbm, ⟨3, _⟩ => ⟨S1x4x2048, .f32⟩
  | .hbm, ⟨4, _⟩ => ⟨S1x8192, .f32⟩
  | .hbm, ⟨5, _⟩ => ⟨S4096x16384, .f32⟩
  | .hbm, ⟨6, _⟩ => ⟨S2x2048x16384, .f32⟩
  | .hbm, ⟨7, _⟩ => ⟨S2x2048x8192, .f32⟩
  | .hbm, ⟨8, _⟩ => ⟨S4096x8192, .f32⟩
  | .hbm, ⟨9, _⟩ => ⟨S2x2048x8192, .f32⟩
  | .hbm, ⟨10, _⟩ => ⟨S4096x8192, .f32⟩
  | .hbm, ⟨11, _⟩ => ⟨S2x2048x8192, .f32⟩
  | .hbm, ⟨12, _⟩ => ⟨S4x2048, .f32⟩
  | .hbm, ⟨13, _⟩ => ⟨S8192, .f32⟩
  | .hbm, ⟨14, _⟩ => ⟨S2x2048x4x2048, .f32⟩
  | .hbm, ⟨15, _⟩ => ⟨S1x1x4x2048, .f32⟩
  | .hbm, ⟨16, _⟩ => ⟨S2x2048x4x2048, .f32⟩
  | .hbm, ⟨17, _⟩ => ⟨S2x2048x4x2048, .f32⟩
  | .hbm, ⟨18, _⟩ => ⟨S2x2048x8192, .f32⟩
  | .hbm, ⟨19, _⟩ => ⟨S1x1x8192, .f32⟩
  | .hbm, ⟨20, _⟩ => ⟨S2x2048x8192, .f32⟩
  | .hbm, ⟨21, _⟩ => ⟨S2x2048x8192, .f32⟩
  | .hbm, ⟨22, _⟩ => ⟨S2x2048x8192, .f32⟩
  | .hbm, ⟨23, _⟩ => ⟨S2x2048x8192, .f32⟩
  | .hbm, ⟨24, _⟩ => ⟨S_, .f32⟩
  | .hbm, ⟨25, _⟩ => ⟨S2x2048x8192, .f32⟩
  | .hbm, ⟨26, _⟩ => ⟨S2x2048x8192, .f32⟩
  | .hbm, ⟨27, _⟩ => ⟨S_, .f32⟩
  | .hbm, ⟨28, _⟩ => ⟨S2x2048x8192, .f32⟩
  | .hbm, ⟨29, _⟩ => ⟨S2x2048x8192, .f32⟩
  | .hbm, ⟨30, _⟩ => ⟨S_, .f32⟩
  | .hbm, ⟨31, _⟩ => ⟨S2x2048x8192, .f32⟩
  | .hbm, ⟨32, _⟩ => ⟨S2x2048x8192, .f32⟩
  | .hbm, ⟨33, _⟩ => ⟨S2x2048x8192, .f32⟩
  | .hbm, ⟨34, _⟩ => ⟨S2x2048x8192, .f32⟩
  | .hbm, ⟨35, _⟩ => ⟨S2x2048x8192, .f32⟩
  | .hbm, ⟨36, _⟩ => ⟨S2x2048x8192, .f32⟩
  | .hbm, ⟨37, _⟩ => ⟨S2x2048x8192, .f32⟩
  | .hbm, ⟨38, _⟩ => ⟨S2x2048x8192, .f32⟩
  | .hbm, ⟨39, _⟩ => ⟨S2x2048x8192, .f32⟩
  | .hbm, ⟨40, _⟩ => ⟨S2x2048x8192, .f32⟩
  | .hbm, ⟨41, _⟩ => ⟨S2x2048x8192, .f32⟩
  | .hbm, ⟨42, _⟩ => ⟨S2x2048x8192, .f32⟩
  | .hbm, ⟨43, _⟩ => ⟨S_, .f32⟩
  | .hbm, ⟨44, _⟩ => ⟨S8192, .f32⟩
  | .hbm, ⟨45, _⟩ => ⟨S1x1x8192, .f32⟩
  | .hbm, ⟨46, _⟩ => ⟨S2x2048x8192, .f32⟩
  | .hbm, ⟨47, _⟩ => ⟨S2x2048x8192, .f32⟩
  | .hbm, ⟨48, _⟩ => ⟨S_, .f32⟩
  | .hbm, ⟨49, _⟩ => ⟨S8192, .f32⟩
  | .hbm, ⟨50, _⟩ => ⟨S2x2048x4x2048, .f32⟩
  | .hbm, ⟨51, _⟩ => ⟨S_, .f32⟩
  | .hbm, ⟨52, _⟩ => ⟨S4x2048, .f32⟩
  | .hbm, ⟨53, _⟩ => ⟨S1x1x4x2048, .f32⟩
  | .hbm, ⟨54, _⟩ => ⟨S_, .f32⟩
  | .hbm, ⟨55, _⟩ => ⟨S4x2048, .f32⟩
  | .hbm, ⟨56, _⟩ => ⟨S2x2048x8192, .f32⟩
  | .hbm, ⟨57, _⟩ => ⟨S_, .f32⟩
  | .hbm, ⟨58, _⟩ => ⟨S4096x8192, .f32⟩
  | .hbm, ⟨59, _⟩ => ⟨S4096x8192, .f32⟩
  | .hbm, ⟨60, _⟩ => ⟨S4096x16384, .f32⟩
  | .hbm, ⟨61, _⟩ => ⟨S4096x8192, .f32⟩
  | .hbm, ⟨62, _⟩ => ⟨S4096x8192, .bf16⟩
  | .hbm, ⟨63, _⟩ => ⟨S4096x16384, .bf16⟩
  | .hbm, ⟨64, _⟩ => ⟨S1x8192, .f32⟩
  | .hbm, ⟨65, _⟩ => ⟨S1x8192, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v17_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v17_1 : Ref sig .tc := ⟨.hbm, 33, rfl⟩
abbrev main_v17_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_0 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_cst_2 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== NormsMid.lean ====
abbrev S4096x4096 : Shape := ⟨2, ![4096, 4096]⟩
abbrev S2x2048x4096 : Shape := ⟨3, ![2, 2048, 4096]⟩
abbrev S2x4096 : Shape := ⟨2, ![2, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 17
  | .vmem => 26
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S2x2048x4096, .f32⟩
  | .hbm, ⟨3, _⟩ => ⟨S4096x4096, .f32⟩
  | .hbm, ⟨4, _⟩ => ⟨S2x4096, .f32⟩
  | .hbm, ⟨5, _⟩ => ⟨S2x4096, .f32⟩
  | .hbm, ⟨6, _⟩ => ⟨S4096x4096, .f32⟩
  | .hbm, ⟨7, _⟩ => ⟨S1x4096, .f32⟩
  | .hbm, ⟨8, _⟩ => ⟨S1x4096, .f32⟩
  | .hbm, ⟨9, _⟩ => ⟨S4096x4096, .f32⟩
  | .hbm, ⟨10, _⟩ => ⟨S4096x4096, .bf16⟩
  | .hbm, ⟨11, _⟩ => ⟨S1x4096, .f32⟩
  | .hbm, ⟨12, _⟩ => ⟨S1x4096, .f32⟩
  | .hbm, ⟨13, _⟩ => ⟨S4096x4096, .f32⟩
  | .hbm, ⟨14, _⟩ => ⟨S4096x4096, .bf16⟩
  | .hbm, ⟨15, _⟩ => ⟨S1x4096, .f32⟩
  | .hbm, ⟨16, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S1x4096, .f32⟩
  | .local _ .vmem, ⟨17, _⟩ => ⟨S128x4096, .f32⟩
  | .local _ .vmem, ⟨18, _⟩ => ⟨S128x4096, .f32⟩
  | .local _ .vmem, ⟨19, _⟩ => ⟨S1x4096, .f32⟩
  | .local _ .vmem, ⟨20, _⟩ => ⟨S128x4096, .f32⟩
  | .local _ .vmem, ⟨21, _⟩ => ⟨S128x4096, .f32⟩
  | .local _ .vmem, ⟨22, _⟩ => ⟨S128x4096, .bf16⟩
  | .local _ .vmem, ⟨23, _⟩ => ⟨S128x4096, .bf16⟩
  | .local _ .vmem, ⟨24, _⟩ => ⟨S1x4096, .f32⟩
  | .local _ .vmem, ⟨25, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg9_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x4096 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== NormsMidRefIdeal.lean ====
abbrev S4096x4096 : Shape := ⟨2, ![4096, 4096]⟩
abbrev S2x2048x4096 : Shape := ⟨3, ![2, 2048, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩

abbrev nBuf : Space → Nat
  | .hbm => 113
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S2x2048x4096, .f32⟩
  | .hbm, ⟨3, _⟩ => ⟨S4096x4096, .f32⟩
  | .hbm, ⟨4, _⟩ => ⟨S2x4096, .f32⟩
  | .hbm, ⟨5, _⟩ => ⟨S2x4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S4096, .f32⟩
  | .hbm, ⟨10, _⟩ => ⟨S2x2048x4096, .f32⟩
  | .hbm, ⟨11, _⟩ => ⟨S2x2048x4096, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x4096, .f32⟩
  | .hbm, ⟨27, _⟩ => ⟨S2x2048x4096, .f32⟩
  | .hbm, ⟨28, _⟩ => ⟨S1x1x4096, .f32⟩
  | .hbm, ⟨29, _⟩ => ⟨S2x2048x4096, .f32⟩
  | .hbm, ⟨30, _⟩ => ⟨S2x2048x4096, .f32⟩
  | .hbm, ⟨31, _⟩ => ⟨S2x2048x4096, .f32⟩
  | .hbm, ⟨32, _⟩ => ⟨S2x2048x4096, .f32⟩
  | .hbm, ⟨33, _⟩ => ⟨S_, .f32⟩
  | .hbm, ⟨34, _⟩ => ⟨S2x2048, .f32⟩
  | .hbm, ⟨35, _⟩ => ⟨S2x2048x1, .f32⟩
  | .hbm, ⟨36, _⟩ => ⟨S_, .f32⟩
  | .hbm, ⟨37, _⟩ => ⟨S2x2048x1, .f32⟩
  | .hbm, ⟨38, _⟩ => ⟨S2x2048x1, .f32⟩
  | .hbm, ⟨39, _⟩ => ⟨S_, .f32⟩
  | .hbm, ⟨40, _⟩ => ⟨S2x2048x1, .f32⟩
  | .hbm, ⟨41, _⟩ => ⟨S2x2048x1, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x4096, .f32⟩
  | .hbm, ⟨48, _⟩ => ⟨S2x2048x4096, .f32⟩
  | .hbm, ⟨49, _⟩ => ⟨S1x1x4096, .f32⟩
  | .hbm, ⟨50, _⟩ => ⟨S2x2048x4096, .f32⟩
  | .hbm, ⟨51, _⟩ => ⟨S2x2048x4096, .f32⟩
  | .hbm, ⟨52, _⟩ => ⟨S2x2048x4096, .f32⟩
  | .hbm, ⟨53, _⟩ => ⟨S2x2048x4096, .f32⟩
  | .hbm, ⟨54, _⟩ => ⟨S2x2048x4096, .f32⟩
  | .hbm, ⟨55, _⟩ => ⟨S_, .f32⟩
  | .hbm, ⟨56, _⟩ => ⟨S4096, .f32⟩
  | .hbm, ⟨57, _⟩ => ⟨S1x1x4096, .f32⟩
  | .hbm, ⟨58, _⟩ => ⟨S2x2048x4096, .f32⟩
  | .hbm, ⟨59, _⟩ => ⟨S2x2048x4096, .f32⟩
  | .hbm, ⟨60, _⟩ => ⟨S_, .f32⟩
  | .hbm, ⟨61, _⟩ => ⟨S4096, .f32⟩
  | .hbm, ⟨62, _⟩ => ⟨S2x2048x4096, .f32⟩
  | .hbm, ⟨63, _⟩ => ⟨S_, .f32⟩
  | .hbm, ⟨64, _⟩ => ⟨S2x2048, .f32⟩
  | .hbm, ⟨65, _⟩ => ⟨S2x2048x1, .f32⟩
  | .hbm, ⟨66, _⟩ => ⟨S2x2048x4096, .f32⟩
  | .hbm, ⟨67, _⟩ => ⟨S2x2048x4096, .f32⟩
  | .hbm, ⟨68, _⟩ => ⟨S2x2048x4096, .f32⟩
  | .hbm, ⟨69, _⟩ => ⟨S2x2048x1, .f32⟩
  | .hbm, ⟨70, _⟩ => ⟨S_, .f32⟩
  | .hbm, ⟨71, _⟩ => ⟨S2x2048x1, .f32⟩
  | .hbm, ⟨72, _⟩ => ⟨S2x2048x1, .f32⟩
  | .hbm, ⟨73, _⟩ => ⟨S_, .f32⟩
  | .hbm, ⟨74, _⟩ => ⟨S2x2048, .f32⟩
  | .hbm, ⟨75, _⟩ => ⟨S2x2048x4096, .f32⟩
  | .hbm, ⟨76, _⟩ => ⟨S2x2048x4096, .f32⟩
  | .hbm, ⟨77, _⟩ => ⟨S2x2048x4096, .f32⟩
  | .hbm, ⟨78, _⟩ => ⟨S2x2048x4096, .f32⟩
  | .hbm, ⟨79, _⟩ => ⟨S2x2048x4096, .f32⟩
  | .hbm, ⟨80, _⟩ => ⟨S2x2048x4096, .f32⟩
  | .hbm, ⟨81, _⟩ => ⟨S_, .f32⟩
  | .hbm, ⟨82, _⟩ => ⟨S4096, .f32⟩
  | .hbm, ⟨83, _⟩ => ⟨S1x1x4096, .f32⟩
  | .hbm, ⟨84, _⟩ => ⟨S2x2048x4096, .f32⟩
  | .hbm, ⟨85, _⟩ => ⟨S2x2048x4096, .f32⟩
  | .hbm, ⟨86, _⟩ => ⟨S_, .f32⟩
  | .hbm, ⟨87, _⟩ => ⟨S4096, .f32⟩
  | .hbm, ⟨88, _⟩ => ⟨S2x2048x4096, .f32⟩
  | .hbm, ⟨89, _⟩ => ⟨S_, .f32⟩
  | .hbm, ⟨90, _⟩ => ⟨S2x2048, .f32⟩
  | .hbm, ⟨91, _⟩ => ⟨S2x2048x1, .f32⟩
  | .hbm, ⟨92, _⟩ => ⟨S2x2048x4096, .f32⟩
  | .hbm, ⟨93, _⟩ => ⟨S2x2048x4096, .f32⟩
  | .hbm, ⟨94, _⟩ => ⟨S2x2048x1, .f32⟩
  | .hbm, ⟨95, _⟩ => ⟨S_, .f32⟩
  | .hbm, ⟨96, _⟩ => ⟨S2x2048x1, .f32⟩
  | .hbm, ⟨97, _⟩ => ⟨S2x2048x1, .f32⟩
  | .hbm, ⟨98, _⟩ => ⟨S_, .f32⟩
  | .hbm, ⟨99, _⟩ => ⟨S2x2048, .f32⟩
  | .hbm, ⟨100, _⟩ => ⟨S2x2048x4096, .f32⟩
  | .hbm, ⟨101, _⟩ => ⟨S2x2048x4096, .f32⟩
  | .hbm, ⟨102, _⟩ => ⟨S2x2048x4096, .f32⟩
  | .hbm, ⟨103, _⟩ => ⟨S2x2048x4096, .f32⟩
  | .hbm, ⟨104, _⟩ => ⟨S2x2048x4096, .f32⟩
  | .hbm, ⟨105, _⟩ => ⟨S4096x4096, .f32⟩
  | .hbm, ⟨106, _⟩ => ⟨S4096x4096, .f32⟩
  | .hbm, ⟨107, _⟩ => ⟨S4096x4096, .f32⟩
  | .hbm, ⟨108, _⟩ => ⟨S4096x4096, .bf16⟩
  | .hbm, ⟨109, _⟩ => ⟨S4096x4096, .f32⟩
  | .hbm, ⟨110, _⟩ => ⟨S4096x4096, .bf16⟩
  | .hbm, ⟨111, _⟩ => ⟨S1x4096, .f32⟩
  | .hbm, ⟨112, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩

abbrev nD : Nat := 1
abbrev τ : Topo := Topo.v7x

variable {F : FTy → Type} [FloatOps F]
-- ==== Pool.lean ====
abbrev S4096x8192 : Shape := ⟨2, ![4096, 8192]⟩
abbrev S4096x16384 : Shape := ⟨2, ![4096, 16384]⟩
abbrev S512x1024 : Shape := ⟨2, ![512, 1024]⟩
abbrev S16x1024 : Shape := ⟨2, ![16, 1024]⟩
abbrev S512x1 : Shape := ⟨2, ![512, 1]⟩
abbrev S528x1024 : Shape := ⟨2, ![528, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x16384, .bf16⟩
  | .hbm, ⟨2, _⟩ => ⟨S4096x16384, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_19 : BitVec 32 := 0#32
  let v46 : BitVec 1 := Scalar.cmpi .eq v16 c0_i32_19
  let v47 : BitVec 32 := Scalar.extui v46
  let c0_i32_20 : BitVec 32 := 0#32
  let v48 : BitVec 1 := Scalar.cmpi .ne v47 c0_i32_20
  v48

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_21 : BitVec 32 := 1#32
  let v49 : BitVec 1 := Scalar.cmpi .eq v16 c1_i32_21
  let v50 : BitVec 32 := Scalar.extui v49
  let c0_i32_22 : BitVec 32 := 0#32
  let v51 : BitVec 1 := Scalar.cmpi .ne v50 c0_i32_22
  v51

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_23 : BitVec 32 := 2#32
  let v52 : BitVec 1 := Scalar.cmpi .eq v16 c2_i32_23
  let v53 : BitVec 32 := Scalar.extui v52
  let c0_i32_24 : BitVec 32 := 0#32
  let v54 : BitVec 1 := Scalar.cmpi .ne v53 c0_i32_24
  v54

def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c3_i32 : BitVec 32 := 3#32
  let v55 : BitVec 1 := Scalar.cmpi .eq v16 c3_i32
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolRefIdeal.lean ====
abbrev S4096x8192 : Shape := ⟨2, ![4096, 8192]⟩
abbrev S4096x16384 : Shape := ⟨2, ![4096, 16384]⟩
abbrev S_ : Shape := ⟨0, ![]⟩
abbrev S2x2048x4x2048 : Shape := ⟨4, ![2, 2048, 4, 2048]⟩
abbrev S2048 : Shape := ⟨1, ![2048]⟩
abbrev S2x2048x1x2048 : Shape := ⟨4, ![2, 2048, 1, 2048]⟩
abbrev S2x2048x2048 : Shape := ⟨3, ![2, 2048, 2048]⟩
abbrev S2x2x2048 : Shape := ⟨3, ![2, 2, 2048]⟩
abbrev S2x2046x2048 : Shape := ⟨3, ![2, 2046, 2048]⟩
abbrev S2048x1 : Shape := ⟨2, ![2048, 1]⟩
abbrev S1x2048x1 : Shape := ⟨3, ![1, 2048, 1]⟩
abbrev S2x4x2048 : Shape := ⟨3, ![2, 4, 2048]⟩
abbrev S2x2044x2048 : Shape := ⟨3, ![2, 2044, 2048]⟩
abbrev S2x8x2048 : Shape := ⟨3, ![2, 8, 2048]⟩
abbrev S2x2040x2048 : Shape := ⟨3, ![2, 2040, 2048]⟩
abbrev S2x16x2048 : Shape := ⟨3, ![2, 16, 2048]⟩
abbrev S2x2032x2048 : Shape := ⟨3, ![2, 2032, 2048]⟩

abbrev nBuf : Space → Nat
  | .hbm => 151
  | .vmem => 0
  | .smem => 0
  | _ => 0

abbrev hbmTy0_0 (i : Nat) : BufTy := match i % 128 with
  | 0 => ⟨S4096x8192, .f32⟩
  | 1 => ⟨S4096x16384, .bf16⟩
  | 2 => ⟨S_, .f32⟩
  | 3 => ⟨S4096x8192, .f32⟩
  | 4 => ⟨S2x2048x4x2048, .f32⟩
  | 5 => ⟨S_, .f32⟩
  | 6 => ⟨S_, .f32⟩
  | 7 => ⟨S2x2048x4x2048, .f32⟩
  | 8 => ⟨S2048, .f32⟩
  | 9 => ⟨S_, .f32⟩
  | 10 => ⟨S2048, .f32⟩
  | 11 => ⟨S2048, .f32⟩
  | 12 => ⟨S2x2048x1x2048, .f32⟩
  | 13 => ⟨S2x2048x2048, .f32⟩
  | 14 => ⟨S2x2x2048, .f32⟩
  | 15 => ⟨S_, .f32⟩
  | 16 => ⟨S2x2x2048, .f32⟩
  | 17 => ⟨S2x2046x2048, .f32⟩
  | 18 => ⟨S2x2048x2048, .f32⟩
  | 19 => ⟨S_, .f32⟩
  | 20 => ⟨S2x2x2048, .f32⟩
  | 21 => ⟨S_, .f32⟩
  | 22 => ⟨S2048, .f32⟩
  | 23 => ⟨S2048, .f32⟩
  | 24 => ⟨S2048x1, .f32⟩
  | 25 => ⟨S2x2048x2048, .f32⟩
  | 26 => ⟨S1x2048x1, .f32⟩
  | 27 => ⟨S2x2048x2048, .f32⟩
  | 28 => ⟨S2x2048x2048, .f32⟩
  | 29 => ⟨S2x2048x1x2048, .f32⟩
  | 30 => ⟨S2x2048x2048, .f32⟩
  | 31 => ⟨S2x4x2048, .f32⟩
  | 32 => ⟨S_, .f32⟩
  | 33 => ⟨S2x4x2048, .f32⟩
  | 34 => ⟨S2x2044x2048, .f32⟩
  | 35 => ⟨S2x2048x2048, .f32⟩
  | 36 => ⟨S_, .f32⟩
  | 37 => ⟨S2x4x2048, .f32⟩
  | 38 => ⟨S_, .f32⟩
  | 39 => ⟨S2048, .f32⟩
  | 40 => ⟨S2048, .f32⟩
  | 41 => ⟨S2048x1, .f32⟩
  | 42 => ⟨S2x2048x2048, .f32⟩
  | 43 => ⟨S1x2048x1, .f32⟩
  | 44 => ⟨S2x2048x2048, .f32⟩
  | 45 => ⟨S2x2048x2048, .f32⟩
  | 46 => ⟨S2x2048x1x2048, .f32⟩
  | 47 => ⟨S2x2048x2048, .f32⟩
  | 48 => ⟨S2x8x2048, .f32⟩
  | 49 => ⟨S_, .f32⟩
  | 50 => ⟨S2x8x2048, .f32⟩
  | 51 => ⟨S2x2040x2048, .f32⟩
  | 52 => ⟨S2x2048x2048, .f32⟩
  | 53 => ⟨S_, .f32⟩
  | 54 => ⟨S2x8x2048, .f32⟩
  | 55 => ⟨S_, .f32⟩
  | 56 => ⟨S2048, .f32⟩
  | 57 => ⟨S2048, .f32⟩
  | 58 => ⟨S2048x1, .f32⟩
  | 59 => ⟨S2x2048x2048, .f32⟩
  | 60 => ⟨S1x2048x1, .f32⟩
  | 61 => ⟨S2x2048x2048, .f32⟩
  | 62 => ⟨S2x2048x2048, .f32⟩
  | 63 => ⟨S2x2048x1x2048, .f32⟩
  | 64 => ⟨S2x2048x2048, .f32⟩
  | 65 => ⟨S2x16x2048, .f32⟩
  | 66 => ⟨S_, .f32⟩
  | 67 => ⟨S2x16x2048, .f32⟩
  | 68 => ⟨S2x2032x2048, .f32⟩
  | 69 => ⟨S2x2048x2048, .f32⟩
  | 70 => ⟨S_, .f32⟩
  | 71 => ⟨S2x16x2048, .f32⟩
  | 72 => ⟨S_, .f32⟩
  | 73 => ⟨S2048, .f32⟩
  | 74 => ⟨S2048, .f32⟩
  | 75 => ⟨S2048x1, .f32⟩
  | 76 => ⟨S2x2048x2048, .f32⟩
  | 77 => ⟨S1x2048x1, .f32⟩
  | 78 => ⟨S2x2048x2048, .f32⟩
  | 79 => ⟨S2x2048x2048, .f32⟩
  | 80 => ⟨S2x2048x1x2048, .f32⟩
  | 81 => ⟨S2x2048x1x2048, .f32⟩
  | 82 => ⟨S2x2048x1x2048, .f32⟩
  | 83 => ⟨S2x2048x1x2048, .f32⟩
  | 84 => ⟨S2x2048x4x2048, .f32⟩
  | 85 => ⟨S2x2048x4x2048, .f32⟩
  | 86 => ⟨S2x2048x4x2048, .f32⟩
  | 87 => ⟨S2x2048x4x2048, .f32⟩
  | 88 => ⟨S2x2048x1x2048, .f32⟩
  | 89 => ⟨S2x2048x2048, .f32⟩
  | 90 => ⟨S2x2048x1x2048, .f32⟩
  | 91 => ⟨S2x2048x2048, .f32⟩
  | 92 => ⟨S2x2048x1x2048, .f32⟩
  | 93 => ⟨S2x2048x2048, .f32⟩
  | 94 => ⟨S2x2048x1x2048, .f32⟩
  | 95 => ⟨S2x2048x2048, .f32⟩
  | 96 => ⟨S2x2048x2048, .f32⟩
  | 97 => ⟨S2x2048x2048, .f32⟩
  | 98 => ⟨S2x2048x2048, .f32⟩
  | 99 => ⟨S2x16x2048, .f32⟩
  | 100 => ⟨S2x2032x2048, .f32⟩
  | 101 => ⟨S_, .f32⟩
  | 102 => ⟨S2x2048x2048, .f32⟩
  | 103 => ⟨S2x2048x2048, .f32⟩
  | 104 => ⟨S2x2048x1x2048, .f32⟩
  | 105 => ⟨S_, .f32⟩
  | 106 => ⟨S2x2048x4x2048, .f32⟩
  | 107 => ⟨S2x2048x2048, .f32⟩
  | 108 => ⟨S2x2048x2048, .f32⟩
  | 109 => ⟨S2x2048x2048, .f32⟩
  | 110 => ⟨S2x8x2048, .f32⟩
  | 111 => ⟨S2x2040x2048, .f32⟩
  | 112 => ⟨S_, .f32⟩
  | 113 => ⟨S2x2048x2048, .f32⟩
  | 114 => ⟨S2x2048x2048, .f32⟩
  | 115 => ⟨S2x2048x1x2048, .f32⟩
  | 116 => ⟨S_, .f32⟩
  | 117 => ⟨S2x2048x4x2048, .f32⟩
  | 118 => ⟨S2x2048x4x2048, .f32⟩
  | 119 => ⟨S2x2048x2048, .f32⟩
  | 120 => ⟨S2x2048x2048, .f32⟩
  | 121 => ⟨S2x2048x2048, .f32⟩
  | 122 => ⟨S2x4x2048, .f32⟩
  | 123 => ⟨S2x2044x2048, .f32⟩
  | 124 => ⟨S_, .f32⟩
  | 125 => ⟨S2x2048x2048, .f32⟩
  | 126 => ⟨S2x2048x2048, .f32⟩
  | 127 => ⟨S2x2048x1x2048, .f32⟩
  | _ => ⟨S4096x8192, .f32⟩

abbrev hbmTy0_1 (i : Nat) : BufTy := match i % 128 with
  | 0 => ⟨S_, .f32⟩
  | 1 => ⟨S2x2048x4x2048, .f32⟩
  | 2 => ⟨S2x2048x4x2048, .f32⟩
  | 3 => ⟨S2x2048x2048, .f32⟩
  | 4 => ⟨S2x2048x2048, .f32⟩
  | 5 => ⟨S2x2048x2048, .f32⟩
  | 6 => ⟨S2x2x2048, .f32⟩
  | 7 => ⟨S2x2046x2048, .f32⟩
  | 8 => ⟨S_, .f32⟩
  | 9 => ⟨S2x2048x2048, .f32⟩
  | 10 => ⟨S2x2048x2048, .f32⟩
  | 11 => ⟨S2x2048x1x2048, .f32⟩
  | 12 => ⟨S_, .f32⟩
  | 13 => ⟨S2x2048x4x2048, .f32⟩
  | 14 => ⟨S2x2048x4x2048, .f32⟩
  | 15 => ⟨S_, .f32⟩
  | 16 => ⟨S_, .f32⟩
  | 17 => ⟨S2x2048x4x2048, .f32⟩
  | 18 => ⟨S2x2048x4x2048, .f32⟩
  | 19 => ⟨S4096x8192, .f32⟩
  | 20 => ⟨S4096x8192, .bf16⟩
  | 21 => ⟨S4096x8192, .bf16⟩
  | 22 => ⟨S4096x16384, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_call0_cst : Ref sig .tc := ⟨.hbm, 5, rfl⟩
abbrev main_call0_call0_v0 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_13 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_14 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_15 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_16 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_17 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_18 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_19 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_cst_20 : Ref sig .tc := ⟨.hbm, 140, rfl⟩
abbrev main_v115 : Ref sig .tc := ⟨.hbm, 141, rfl⟩
abbrev main_v116 : Ref sig .tc := ⟨.hbm, 142, rfl⟩
abbrev main_call1_call0_cst : Ref sig .tc := ⟨.hbm, 143, rfl⟩
abbrev main_call1_call0_v0 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩

abbrev nD : Nat := 1
abbrev τ : Topo := Topo.v7x

variable {F : FTy → Type} [FloatOps F]
-- ==== GateAFwd.lean ====
abbrev S4096x24576 : Shape := ⟨2, ![4096, 24576]⟩
abbrev S1x8192 : Shape := ⟨2, ![1, 8192]⟩
abbrev S1x16x128x128 : Shape := ⟨4, ![1, 16, 128, 128]⟩
abbrev S1x16x128 : Shape := ⟨3, ![1, 16, 128]⟩
abbrev S16x128x128 : Shape := ⟨3, ![16, 128, 128]⟩
abbrev S128x128 : Shape := ⟨2, ![128, 128]⟩
abbrev S_ : Shape := ⟨0, ![]⟩
abbrev S16x128 : Shape := ⟨2, ![16, 128]⟩
abbrev S16x128x1 : Shape := ⟨3, ![16, 128, 1]⟩
abbrev S4096x8192 : Shape := ⟨2, ![4096, 8192]⟩
abbrev S128x24576 : Shape := ⟨2, ![128, 24576]⟩
abbrev S128x8192 : Shape := ⟨2, ![128, 8192]⟩
abbrev S128x1 : Shape := ⟨2, ![128, 1]⟩
abbrev S128x512 : Shape := ⟨2, ![128, 512]⟩
abbrev S128 : Shape := ⟨1, ![128]⟩
abbrev S1x512 : Shape := ⟨2, ![1, 512]⟩
abbrev S1x128x128 : Shape := ⟨3, ![1, 128, 128]⟩
abbrev S1x128x1 : Shape := ⟨3, ![1, 128, 1]⟩

abbrev nBuf : Space → Nat
  | .hbm => 20
  | .vmem => 9
  | .smem => 0
  | _ => 0

abbrev bufTy : (tb : Table) → Fin (tcTables nBuf tb) → BufTy
  | .hbm, ⟨0, _⟩ => ⟨S4096x24576, .bf16⟩
  | .hbm, ⟨1, _⟩ => ⟨S1x8192, .f32⟩
  | .hbm, ⟨2, _⟩ => ⟨S1x8192, .f32⟩
  | .hbm, ⟨3, _⟩ => ⟨S1x16x128x128, .f32⟩
  | .hbm, ⟨4, _⟩ => ⟨S1x16x128, .f32⟩
  | .hbm, ⟨5, _⟩ => ⟨S16x128x128, .f32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S16x128x128, .i1⟩
  | .hbm, ⟨13, _⟩ => ⟨S_, .f32⟩
  | .hbm, ⟨14, _⟩ => ⟨S16x128x128, .f32⟩
  | .hbm, ⟨15, _⟩ => ⟨S16x128x128, .f32⟩
  | .hbm, ⟨16, _⟩ => ⟨S16x128x128, .bf16⟩
  | .hbm, ⟨17, _⟩ => ⟨S16x128, .f32⟩
  | .hbm, ⟨18, _⟩ => ⟨S16x128x1, .f32⟩
  | .hbm, ⟨19, _⟩ => ⟨S4096x8192, .bf16⟩
  | .local _ .vmem, ⟨0, _⟩ => ⟨S128x24576, .bf16⟩
  | .local _ .vmem, ⟨1, _⟩ => ⟨S128x24576, .bf16⟩
  | .local _ .vmem, ⟨2, _⟩ => ⟨S1x8192, .f32⟩
  | .local _ .vmem, ⟨3, _⟩ => ⟨S1x8192, .f32⟩
  | .local _ .vmem, ⟨4, _⟩ => ⟨S16x128x128, .bf16⟩
  | .local _ .vmem, ⟨5, _⟩ => ⟨S16x128x1, .f32⟩
  | .local _ .vmem, ⟨6, _⟩ => ⟨S128x8192, .bf16⟩
  | .local _ .vmem, ⟨7, _⟩ => ⟨S128x8192, .bf16⟩
  | .local _ .vmem, ⟨8, _⟩ => ⟨S128x8192, .f32⟩
  | _, _ => ⟨S4096x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_cst : Ref sig .tc := ⟨.hbm, 13, rfl⟩
abbrev main_call0_v6 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x24576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateAFwdIdeal.lean ====
variable {F : FTy → Type} [FloatOps F] [Named F]
def κ : String → Option EReal := fun
  | "inv_sqrt2" => some (((Real.sqrt 2)⁻¹ : ℝ) : EReal)
  | _ => none
-- ==== GateAFwdRefIdeal.lean ====
abbrev S4096x24576 : Shape := ⟨2, ![4096, 24576]⟩
abbrev S1x8192 : Shape := ⟨2, ![1, 8192]⟩
abbrev S1x16x128x128 : Shape := ⟨4, ![1, 16, 128, 128]⟩
abbrev S1x16x128 : Shape := ⟨3, ![1, 16, 128]⟩
abbrev S2x2048x24576 : Shape := ⟨3, ![2, 2048, 24576]⟩
abbrev S8192 : Shape := ⟨1, ![8192]⟩
abbrev S16x128x128 : Shape := ⟨3, ![16, 128, 128]⟩
abbrev S128x128 : Shape := ⟨2, ![128, 128]⟩
abbrev S_ : Shape := ⟨0, ![]⟩
abbrev S16x128 : Shape := ⟨2, ![16, 128]⟩
abbrev S2x2048x8192 : Shape := ⟨3, ![2, 2048, 8192]⟩
abbrev S2x2048 : Shape := ⟨2, ![2, 2048]⟩
abbrev S2x2048x1 : Shape := ⟨3, ![2, 2048, 1]⟩
abbrev S1x1x8192 : Shape := ⟨3, ![1, 1, 8192]⟩
abbrev S2x16x128x16x512 : Shape := ⟨5, ![2, 16, 128, 16, 512]⟩
abbrev S16x2x16x512x128 : Shape := ⟨5, ![16, 2, 16, 512, 128]⟩
abbrev S128x16 : Shape := ⟨2, ![128, 16]⟩
abbrev S128x16x1 : Shape := ⟨3, ![128, 16, 1]⟩
abbrev S1x1x128x16x1 : Shape := ⟨5, ![1, 1, 128, 16, 1]⟩
abbrev S4096x8192 : Shape := ⟨2, ![4096, 8192]⟩

abbrev nBuf : Space → Nat
  | .hbm => 93
  | .vmem => 0
  | .smem => 0
  | _ => 0

abbrev bufTy : (tb : Table) → Fin (tcTables nBuf tb) → BufTy
  | .hbm, ⟨0, _⟩ => ⟨S4096x24576, .bf16⟩
  | .hbm, ⟨1, _⟩ => ⟨S1x8192, .f32⟩
  | .hbm, ⟨2, _⟩ => ⟨S1x8192, .f32⟩
  | .hbm, ⟨3, _⟩ => ⟨S1x16x128x128, .f32⟩
  | .hbm, ⟨4, _⟩ => ⟨S1x16x128, .f32⟩
  | .hbm, ⟨5, _⟩ => ⟨S4096x24576, .f32⟩
  | .hbm, ⟨6, _⟩ => ⟨S2x2048x24576, .f32⟩
  | .hbm, ⟨7, _⟩ => ⟨S8192, .f32⟩
  | .hbm, ⟨8, _⟩ => ⟨S8192, .f32⟩
  | .hbm, ⟨9, _⟩ => ⟨S16x128x128, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S16x128x128, .i1⟩
  | .hbm, ⟨17, _⟩ => ⟨S_, .f32⟩
  | .hbm, ⟨18, _⟩ => ⟨S16x128x128, .f32⟩
  | .hbm, ⟨19, _⟩ => ⟨S16x128x128, .f32⟩
  | .hbm, ⟨20, _⟩ => ⟨S16x128, .f32⟩
  | .hbm, ⟨21, _⟩ => ⟨S2x2048x8192, .f32⟩
  | .hbm, ⟨22, _⟩ => ⟨S2x2048x8192, .f32⟩
  | .hbm, ⟨23, _⟩ => ⟨S2x2048x8192, .f32⟩
  | .hbm, ⟨24, _⟩ => ⟨S_, .f32⟩
  | .hbm, ⟨25, _⟩ => ⟨S2x2048x8192, .f32⟩
  | .hbm, ⟨26, _⟩ => ⟨S2x2048x8192, .f32⟩
  | .hbm, ⟨27, _⟩ => ⟨S2x2048x8192, .f32⟩
  | .hbm, ⟨28, _⟩ => ⟨S_, .f32⟩
  | .hbm, ⟨29, _⟩ => ⟨S_, .f32⟩
  | .hbm, ⟨30, _⟩ => ⟨S2x2048x8192, .f32⟩
  | .hbm, ⟨31, _⟩ => ⟨S2x2048x8192, .f32⟩
  | .hbm, ⟨32, _⟩ => ⟨S2x2048x8192, .f32⟩
  | .hbm, ⟨33, _⟩ => ⟨S2x2048x8192, .f32⟩
  | .hbm, ⟨34, _⟩ => ⟨S_, .f32⟩
  | .hbm, ⟨35, _⟩ => ⟨S2x2048x8192, .f32⟩
  | .hbm, ⟨36, _⟩ => ⟨S2x2048x8192, .f32⟩
  | .hbm, ⟨37, _⟩ => ⟨S2x2048x8192, .f32⟩
  | .hbm, ⟨38, _⟩ => ⟨S_, .f32⟩
  | .hbm, ⟨39, _⟩ => ⟨S_, .f32⟩
  | .hbm, ⟨40, _⟩ => ⟨S2x2048x8192, .f32⟩
  | .hbm, ⟨41, _⟩ => ⟨S2x2048x8192, .f32⟩
  | .hbm, ⟨42, _⟩ => ⟨S2x2048x8192, .f32⟩
  | .hbm, ⟨43, _⟩ => ⟨S2x2048x8192, .f32⟩
  | .hbm, ⟨44, _⟩ => ⟨S_, .f32⟩
  | .hbm, ⟨45, _⟩ => ⟨S2x2048, .f32⟩
  | .hbm, ⟨46, _⟩ => ⟨S2x2048x1, .f32⟩
  | .hbm, ⟨47, _⟩ => ⟨S_, .f32⟩
  | .hbm, ⟨48, _⟩ => ⟨S2x2048x1, .f32⟩
  | .hbm, ⟨49, _⟩ => ⟨S2x2048x1, .f32⟩
  | .hbm, ⟨50, _⟩ => ⟨S2x2048x8192, .f32⟩
  | .hbm, ⟨51, _⟩ => ⟨S2x2048x8192, .f32⟩
  | .hbm, ⟨52, _⟩ => ⟨S2x2048x8192, .f32⟩
  | .hbm, ⟨53, _⟩ => ⟨S_, .f32⟩
  | .hbm, ⟨54, _⟩ => ⟨S2x2048, .f32⟩
  | .hbm, ⟨55, _⟩ => ⟨S2x2048x1, .f32⟩
  | .hbm, ⟨56, _⟩ => ⟨S_, .f32⟩
  | .hbm, ⟨57, _⟩ => ⟨S2x2048x1, .f32⟩
  | .hbm, ⟨58, _⟩ => ⟨S2x2048x1, .f32⟩
  | .hbm, ⟨59, _⟩ => ⟨S_, .f32⟩
  | .hbm, ⟨60, _⟩ => ⟨S2x2048x1, .f32⟩
  | .hbm, ⟨61, _⟩ => ⟨S2x2048x1, .f32⟩
  | .hbm, ⟨62, _⟩ => ⟨S2x2048x1, .f32⟩
  | .hbm, ⟨63, _⟩ => ⟨S2x2048x8192, .f32⟩
  | .hbm, ⟨64, _⟩ => ⟨S2x2048x8192, .f32⟩
  | .hbm, ⟨65, _⟩ => ⟨S1x1x8192, .f32⟩
  | .hbm, ⟨66, _⟩ => ⟨S2x2048x8192, .f32⟩
  | .hbm, ⟨67, _⟩ => ⟨S2x2048x8192, .f32⟩
  | .hbm, ⟨68, _⟩ => ⟨S1x1x8192, .f32⟩
  | .hbm, ⟨69, _⟩ => ⟨S2x2048x8192, .f32⟩
  | .hbm, ⟨70, _⟩ => ⟨S2x2048x8192, .f32⟩
  | .hbm, ⟨71, _⟩ => ⟨S2x16x128x16x512, .f32⟩
  | .hbm, ⟨72, _⟩ => ⟨S16x2x16x512x128, .f32⟩
  | .hbm, ⟨73, _⟩ => ⟨S2x16x128x16x512, .f32⟩
  | .hbm, ⟨74, _⟩ => ⟨S128x16, .f32⟩
  | .hbm, ⟨75, _⟩ => ⟨S128x16x1, .f32⟩
  | .hbm, ⟨76, _⟩ => ⟨S1x1x128x16x1, .f32⟩
  | .hbm, ⟨77, _⟩ => ⟨S2x16x128x16x512, .f32⟩
  | .hbm, ⟨78, _⟩ => ⟨S2x16x128x16x512, .f32⟩
  | .hbm, ⟨79, _⟩ => ⟨S2x2048x8192, .f32⟩
  | .hbm, ⟨80, _⟩ => ⟨S2x2048x8192, .f32⟩
  | .hbm, ⟨81, _⟩ => ⟨S2x2048x8192, .f32⟩
  | .hbm, ⟨82, _⟩ => ⟨S2x2048x8192, .f32⟩
  | .hbm, ⟨83, _⟩ => ⟨S_, .f32⟩
  | .hbm, ⟨84, _⟩ => ⟨S2x2048x8192, .f32⟩
  | .hbm, ⟨85, _⟩ => ⟨S2x2048x8192, .f32⟩
  | .hbm, ⟨86, _⟩ => ⟨S_, .f32⟩
  | .hbm, ⟨87, _⟩ => ⟨S2x2048x8192, .f32⟩
  | .hbm, ⟨88, _⟩ => ⟨S2x2048x8192, .f32⟩
  | .hbm, ⟨89, _⟩ => ⟨S2x2048x8192, .f32⟩
  | .hbm, ⟨90, _⟩ => ⟨S2x2048x8192, .f32⟩
  | .hbm, ⟨91, _⟩ => ⟨S4096x8192, .f32⟩
  | .hbm, ⟨92, _⟩ => ⟨S4096x8192, .bf16⟩
  | _, _ => ⟨S4096x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_cst : Ref sig .tc := ⟨.hbm, 17, rfl⟩
abbrev main_call0_v6 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== GateBFwd.lean ====
abbrev S4096x8192 : Shape := ⟨2, ![4096, 8192]⟩
abbrev S4096x16384 : Shape := ⟨2, ![4096, 16384]⟩
abbrev S1x4x2048 : Shape := ⟨3, ![1, 4, 2048]⟩
abbrev S1x8192 : Shape := ⟨2, ![1, 8192]⟩
abbrev S256x1024 : Shape := ⟨2, ![256, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x8192, .bf16⟩
  | .hbm, ⟨1, _⟩ => ⟨S4096x16384, .bf16⟩
  | .hbm, ⟨2, _⟩ => ⟨S1x4x2048, .f32⟩
  | .hbm, ⟨3, _⟩ => ⟨S1x8192, .f32⟩
  | .hbm, ⟨4, _⟩ => ⟨S1x8192, .f32⟩
  | .hbm, ⟨5, _⟩ => ⟨S4096x8192, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateBFwdRefIdeal.lean ====
abbrev S4096x8192 : Shape := ⟨2, ![4096, 8192]⟩
abbrev S4096x16384 : Shape := ⟨2, ![4096, 16384]⟩
abbrev S1x4x2048 : Shape := ⟨3, ![1, 4, 2048]⟩
abbrev S1x8192 : Shape := ⟨2, ![1, 8192]⟩
abbrev S2x2048x16384 : Shape := ⟨3, ![2, 2048, 16384]⟩
abbrev S2x2048x8192 : Shape := ⟨3, ![2, 2048, 8192]⟩
abbrev S4x2048 : Shape := ⟨2, ![4, 2048]⟩
abbrev S8192 : Shape := ⟨1, ![8192]⟩
abbrev S2x2048x4x2048 : Shape := ⟨4, ![2, 2048, 4, 2048]⟩
abbrev S1x1x4x2048 : Shape := ⟨4, ![1, 1, 4, 2048]⟩
abbrev S1x1x8192 : Shape := ⟨3, ![1, 1, 8192]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x16384, .bf16⟩
  | .hbm, ⟨2, _⟩ => ⟨S1x4x2048, .f32⟩
  | .hbm, ⟨3, _⟩ => ⟨S1x8192, .f32⟩
  | .hbm, ⟨4, _⟩ => ⟨S4096x16384, .f32⟩
  | .hbm, ⟨5, _⟩ => ⟨S2x2048x16384, .f32⟩
  | .hbm, ⟨6, _⟩ => ⟨S2x2048x8192, .f32⟩
  | .hbm, ⟨7, _⟩ => ⟨S4096x8192, .f32⟩
  | .hbm, ⟨8, _⟩ => ⟨S2x2048x8192, .f32⟩
  | .hbm, ⟨9, _⟩ => ⟨S4x2048, .f32⟩
  | .hbm, ⟨10, _⟩ => ⟨S8192, .f32⟩
  | .hbm, ⟨11, _⟩ => ⟨S2x2048x4x2048, .f32⟩
  | .hbm, ⟨12, _⟩ => ⟨S1x1x4x2048, .f32⟩
  | .hbm, ⟨13, _⟩ => ⟨S2x2048x4x2048, .f32⟩
  | .hbm, ⟨14, _⟩ => ⟨S2x2048x4x2048, .f32⟩
  | .hbm, ⟨15, _⟩ => ⟨S2x2048x8192, .f32⟩
  | .hbm, ⟨16, _⟩ => ⟨S1x1x8192, .f32⟩
  | .hbm, ⟨17, _⟩ => ⟨S2x2048x8192, .f32⟩
  | .hbm, ⟨18, _⟩ => ⟨S2x2048x8192, .f32⟩
  | .hbm, ⟨19, _⟩ => ⟨S2x2048x8192, .f32⟩
  | .hbm, ⟨20, _⟩ => ⟨S2x2048x8192, .f32⟩
  | .hbm, ⟨21, _⟩ => ⟨S_, .f32⟩
  | .hbm, ⟨22, _⟩ => ⟨S2x2048x8192, .f32⟩
  | .hbm, ⟨23, _⟩ => ⟨S2x2048x8192, .f32⟩
  | .hbm, ⟨24, _⟩ => ⟨S_, .f32⟩
  | .hbm, ⟨25, _⟩ => ⟨S2x2048x8192, .f32⟩
  | .hbm, ⟨26, _⟩ => ⟨S2x2048x8192, .f32⟩
  | .hbm, ⟨27, _⟩ => ⟨S2x2048x8192, .f32⟩
  | .hbm, ⟨28, _⟩ => ⟨S2x2048x8192, .f32⟩
  | .hbm, ⟨29, _⟩ => ⟨S4096x8192, .f32⟩
  | .hbm, ⟨30, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== NormFwd.lean ====
abbrev S2x2048x4096 : Shape := ⟨3, ![2, 2048, 4096]⟩
abbrev S2x4096 : Shape := ⟨2, ![2, 4096]⟩
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x4096, .f32⟩
  | .hbm, ⟨1, _⟩ => ⟨S2x4096, .f32⟩
  | .hbm, ⟨2, _⟩ => ⟨S4096x4096, .f32⟩
  | .hbm, ⟨3, _⟩ => ⟨S1x4096, .f32⟩
  | .hbm, ⟨4, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2x2048x4096 : Shape := ⟨3, ![2, 2048, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S2x2048x4096, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x4096, .f32⟩
  | .hbm, ⟨16, _⟩ => ⟨S2x2048x4096, .f32⟩
  | .hbm, ⟨17, _⟩ => ⟨S1x1x4096, .f32⟩
  | .hbm, ⟨18, _⟩ => ⟨S2x2048x4096, .f32⟩
  | .hbm, ⟨19, _⟩ => ⟨S2x2048x4096, .f32⟩
  | .hbm, ⟨20, _⟩ => ⟨S4096x4096, .f32⟩
  | .hbm, ⟨21, _⟩ => ⟨S4096x4096, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== PoolFwd.lean ====
abbrev S4096x16384 : Shape := ⟨2, ![4096, 16384]⟩
abbrev S4096x8192 : Shape := ⟨2, ![4096, 8192]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩

abbrev nBuf : Space → Nat
  | .hbm => 2
  | .vmem => 6
  | .smem => 0
  | _ => 0

abbrev bufTy : (tb : Table) → Fin (tcTables nBuf tb) → BufTy
  | .hbm, ⟨0, _⟩ => ⟨S4096x16384, .bf16⟩
  | .hbm, ⟨1, _⟩ => ⟨S4096x8192, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_14 : BitVec 32 := 0#32
  let v41 : BitVec 1 := Scalar.cmpi .eq v16 c0_i32_14
  let v42 : BitVec 32 := Scalar.extui v41
  let c0_i32_15 : BitVec 32 := 0#32
  let v43 : BitVec 1 := Scalar.cmpi .ne v42 c0_i32_15
  v43

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_16 : BitVec 32 := 1#32
  let v44 : BitVec 1 := Scalar.cmpi .eq v16 c1_i32_16
  let v45 : BitVec 32 := Scalar.extui v44
  let c0_i32_17 : BitVec 32 := 0#32
  let v46 : BitVec 1 := Scalar.cmpi .ne v45 c0_i32_17
  v46

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_18 : BitVec 32 := 2#32
  let v47 : BitVec 1 := Scalar.cmpi .eq v16 c2_i32_18
  let v48 : BitVec 32 := Scalar.extui v47
  let c0_i32_19 : BitVec 32 := 0#32
  let v49 : BitVec 1 := Scalar.cmpi .ne v48 c0_i32_19
  v49

def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c3_i32 : BitVec 32 := 3#32
  let v50 : BitVec 1 := Scalar.cmpi .eq v16 c3_i32
  let v51 : BitVec 32 := Scalar.extui v50
  let c0_i32_20 : BitVec 32 := 0#32
  let v52 : BitVec 1 := Scalar.cmpi .ne v51 c0_i32_20
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PoolFwdRefIdeal.lean ====
abbrev S4096x16384 : Shape := ⟨2, ![4096, 16384]⟩
abbrev S4096x8192 : Shape := ⟨2, ![4096, 8192]⟩
abbrev S2x2048x4x2048 : Shape := ⟨4, ![2, 2048, 4, 2048]⟩
abbrev S_ : Shape := ⟨0, ![]⟩
abbrev S2048 : Shape := ⟨1, ![2048]⟩
abbrev S2x2048x1x2048 : Shape := ⟨4, ![2, 2048, 1, 2048]⟩
abbrev S2x2048x2048 : Shape := ⟨3, ![2, 2048, 2048]⟩
abbrev S2x2x2048 : Shape := ⟨3, ![2, 2, 2048]⟩
abbrev S2x2046x2048 : Shape := ⟨3, ![2, 2046, 2048]⟩
abbrev S2048x1 : Shape := ⟨2, ![2048, 1]⟩
abbrev S1x2048x1 : Shape := ⟨3, ![1, 2048, 1]⟩
abbrev S2x4x2048 : Shape := ⟨3, ![2, 4, 2048]⟩
abbrev S2x2044x2048 : Shape := ⟨3, ![2, 2044, 2048]⟩
abbrev S2x8x2048 : Shape := ⟨3, ![2, 8, 2048]⟩
abbrev S2x2040x2048 : Shape := ⟨3, ![2, 2040, 2048]⟩
abbrev S2x16x2048 : Shape := ⟨3, ![2, 16, 2048]⟩
abbrev S2x2032x2048 : Shape := ⟨3, ![2, 2032, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x8192, .bf16⟩
  | .hbm, ⟨2, _⟩ => ⟨S4096x8192, .f32⟩
  | .hbm, ⟨3, _⟩ => ⟨S2x2048x4x2048, .f32⟩
  | .hbm, ⟨4, _⟩ => ⟨S_, .f32⟩
  | .hbm, ⟨5, _⟩ => ⟨S_, .f32⟩
  | .hbm, ⟨6, _⟩ => ⟨S2x2048x4x2048, .f32⟩
  | .hbm, ⟨7, _⟩ => ⟨S2048, .f32⟩
  | .hbm, ⟨8, _⟩ => ⟨S_, .f32⟩
  | .hbm, ⟨9, _⟩ => ⟨S2048, .f32⟩
  | .hbm, ⟨10, _⟩ => ⟨S2048, .f32⟩
  | .hbm, ⟨11, _⟩ => ⟨S2x2048x1x2048, .f32⟩
  | .hbm, ⟨12, _⟩ => ⟨S2x2048x2048, .f32⟩
  | .hbm, ⟨13, _⟩ => ⟨S2x2x2048, .f32⟩
  | .hbm, ⟨14, _⟩ => ⟨S_, .f32⟩
  | .hbm, ⟨15, _⟩ => ⟨S2x2x2048, .f32⟩
  | .hbm, ⟨16, _⟩ => ⟨S2x2046x2048, .f32⟩
  | .hbm, ⟨17, _⟩ => ⟨S2x2048x2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048x1, .f32⟩
  | .hbm, ⟨22, _⟩ => ⟨S2x2048x2048, .f32⟩
  | .hbm, ⟨23, _⟩ => ⟨S1x2048x1, .f32⟩
  | .hbm, ⟨24, _⟩ => ⟨S2x2048x2048, .f32⟩
  | .hbm, ⟨25, _⟩ => ⟨S2x2048x2048, .f32⟩
  | .hbm, ⟨26, _⟩ => ⟨S2x2048x1x2048, .f32⟩
  | .hbm, ⟨27, _⟩ => ⟨S2x2048x2048, .f32⟩
  | .hbm, ⟨28, _⟩ => ⟨S2x4x2048, .f32⟩
  | .hbm, ⟨29, _⟩ => ⟨S_, .f32⟩
  | .hbm, ⟨30, _⟩ => ⟨S2x4x2048, .f32⟩
  | .hbm, ⟨31, _⟩ => ⟨S2x2044x2048, .f32⟩
  | .hbm, ⟨32, _⟩ => ⟨S2x2048x2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048x1, .f32⟩
  | .hbm, ⟨37, _⟩ => ⟨S2x2048x2048, .f32⟩
  | .hbm, ⟨38, _⟩ => ⟨S1x2048x1, .f32⟩
  | .hbm, ⟨39, _⟩ => ⟨S2x2048x2048, .f32⟩
  | .hbm, ⟨40, _⟩ => ⟨S2x2048x2048, .f32⟩
  | .hbm, ⟨41, _⟩ => ⟨S2x2048x1x2048, .f32⟩
  | .hbm, ⟨42, _⟩ => ⟨S2x2048x2048, .f32⟩
  | .hbm, ⟨43, _⟩ => ⟨S2x8x2048, .f32⟩
  | .hbm, ⟨44, _⟩ => ⟨S_, .f32⟩
  | .hbm, ⟨45, _⟩ => ⟨S2x8x2048, .f32⟩
  | .hbm, ⟨46, _⟩ => ⟨S2x2040x2048, .f32⟩
  | .hbm, ⟨47, _⟩ => ⟨S2x2048x2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1, .f32⟩
  | .hbm, ⟨52, _⟩ => ⟨S2x2048x2048, .f32⟩
  | .hbm, ⟨53, _⟩ => ⟨S1x2048x1, .f32⟩
  | .hbm, ⟨54, _⟩ => ⟨S2x2048x2048, .f32⟩
  | .hbm, ⟨55, _⟩ => ⟨S2x2048x2048, .f32⟩
  | .hbm, ⟨56, _⟩ => ⟨S2x2048x1x2048, .f32⟩
  | .hbm, ⟨57, _⟩ => ⟨S2x2048x2048, .f32⟩
  | .hbm, ⟨58, _⟩ => ⟨S2x16x2048, .f32⟩
  | .hbm, ⟨59, _⟩ => ⟨S_, .f32⟩
  | .hbm, ⟨60, _⟩ => ⟨S2x16x2048, .f32⟩
  | .hbm, ⟨61, _⟩ => ⟨S2x2032x2048, .f32⟩
  | .hbm, ⟨62, _⟩ => ⟨S2x2048x2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048x1, .f32⟩
  | .hbm, ⟨67, _⟩ => ⟨S2x2048x2048, .f32⟩
  | .hbm, ⟨68, _⟩ => ⟨S1x2048x1, .f32⟩
  | .hbm, ⟨69, _⟩ => ⟨S2x2048x2048, .f32⟩
  | .hbm, ⟨70, _⟩ => ⟨S2x2048x2048, .f32⟩
  | .hbm, ⟨71, _⟩ => ⟨S2x2048x1x2048, .f32⟩
  | .hbm, ⟨72, _⟩ => ⟨S2x2048x1x2048, .f32⟩
  | .hbm, ⟨73, _⟩ => ⟨S2x2048x1x2048, .f32⟩
  | .hbm, ⟨74, _⟩ => ⟨S2x2048x1x2048, .f32⟩
  | .hbm, ⟨75, _⟩ => ⟨S2x2048x4x2048, .f32⟩
  | .hbm, ⟨76, _⟩ => ⟨S2x2048x4x2048, .f32⟩
  | .hbm, ⟨77, _⟩ => ⟨S4096x8192, .f32⟩
  | .hbm, ⟨78, _⟩ => ⟨S4096x8192, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_call0_cst : Ref sig .tc := ⟨.hbm, 4, rfl⟩
abbrev main_call0_call0_v0 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_7 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩

abbrev nD : Nat := 1
abbrev τ : Topo := Topo.v7x

variable {F : FTy → Type} [FloatOps F]
-- ==== InProj.lean ====
abbrev S4096x4096 : Shape := ⟨2, ![4096, 4096]⟩
abbrev S8x4096x3072 : Shape := ⟨3, ![8, 4096, 3072]⟩
abbrev S4096x24576 : Shape := ⟨2, ![4096, 24576]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x3072, .bf16⟩
  | .hbm, ⟨2, _⟩ => ⟨S4096x24576, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4096x4096 : Shape := ⟨2, ![4096, 4096]⟩
abbrev S8x4096x3072 : Shape := ⟨3, ![8, 4096, 3072]⟩
abbrev S4096x8x3072 : Shape := ⟨3, ![4096, 8, 3072]⟩
abbrev S4096x24576 : Shape := ⟨2, ![4096, 24576]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x3072, .bf16⟩
  | .hbm, ⟨2, _⟩ => ⟨S4096x8x3072, .bf16⟩
  | .hbm, ⟨3, _⟩ => ⟨S4096x24576, .bf16⟩
  | .hbm, ⟨4, _⟩ => ⟨S4096x24576, .f32⟩
  | .hbm, ⟨5, _⟩ => ⟨S4096x24576, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x8192 : Shape := ⟨2, ![4096, 8192]⟩
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Grouped.lean ====
abbrev S4096x8192 : Shape := ⟨2, ![4096, 8192]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== GroupedRefIdeal.lean ====
abbrev S4096x8192 : Shape := ⟨2, ![4096, 8192]⟩
abbrev S4x2048x2048 : Shape := ⟨3, ![4, 2048, 2048]⟩
abbrev S4096x4x2048 : Shape := ⟨3, ![4096, 4, 2048]⟩
abbrev S4x4096x2048 : Shape := ⟨3, ![4, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x4x2048, .bf16⟩
  | .hbm, ⟨3, _⟩ => ⟨S4x4096x2048, .f32⟩
  | .hbm, ⟨4, _⟩ => ⟨S4096x4x2048, .f32⟩
  | .hbm, ⟨5, _⟩ => ⟨S4096x8192, .f32⟩
  | .hbm, ⟨6, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DactOut.lean ====
abbrev S4096x4096 : Shape := ⟨2, ![4096, 4096]⟩
abbrev S8192x4096 : Shape := ⟨2, ![8192, 4096]⟩
abbrev S4096x8192 : Shape := ⟨2, ![4096, 8192]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DactOutRefIdeal.lean ====
abbrev S4096x4096 : Shape := ⟨2, ![4096, 4096]⟩
abbrev S8192x4096 : Shape := ⟨2, ![8192, 4096]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x8192, .bf16⟩
  | .hbm, ⟨3, _⟩ => ⟨S4096x8192, .f32⟩
  | .hbm, ⟨4, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DactIn.lean ====
abbrev S4096x24576 : Shape := ⟨2, ![4096, 24576]⟩
abbrev S8x4096x3072 : Shape := ⟨3, ![8, 4096, 3072]⟩
abbrev S4096x4096 : Shape := ⟨2, ![4096, 4096]⟩
abbrev S1024x3072 : Shape := ⟨2, ![1024, 3072]⟩
abbrev S1x1024x3072 : Shape := ⟨3, ![1, 1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x24576, .bf16⟩
  | .hbm, ⟨1, _⟩ => ⟨S8x4096x3072, .bf16⟩
  | .hbm, ⟨2, _⟩ => ⟨S4096x4096, .f32⟩
  | .local _ .vmem, ⟨0, _⟩ => ⟨S1024x3072, .bf16⟩
  | .local _ .vmem, ⟨1, _⟩ => ⟨S1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v12 : BitVec 1 := Scalar.cmpi .eq arg2 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DactInRefIdeal.lean ====
abbrev S4096x24576 : Shape := ⟨2, ![4096, 24576]⟩
abbrev S8x4096x3072 : Shape := ⟨3, ![8, 4096, 3072]⟩
abbrev S4096x8x3072 : Shape := ⟨3, ![4096, 8, 3072]⟩
abbrev S24576x4096 : Shape := ⟨2, ![24576, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x24576, .bf16⟩
  | .hbm, ⟨1, _⟩ => ⟨S8x4096x3072, .bf16⟩
  | .hbm, ⟨2, _⟩ => ⟨S4096x8x3072, .bf16⟩
  | .hbm, ⟨3, _⟩ => ⟨S4096x24576, .bf16⟩
  | .hbm, ⟨4, _⟩ => ⟨S24576x4096, .bf16⟩
  | .hbm, ⟨5, _⟩ => ⟨S4096x4096, .f32⟩
  | _, _ => ⟨S4096x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dw.lean ====
abbrev S4096x8192 : Shape := ⟨2, ![4096, 8192]⟩
abbrev S4096x4096 : Shape := ⟨2, ![4096, 4096]⟩
abbrev S8192x4096 : Shape := ⟨2, ![8192, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S8192x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwRefIdeal.lean ====
abbrev S4096x8192 : Shape := ⟨2, ![4096, 8192]⟩
abbrev S4096x4096 : Shape := ⟨2, ![4096, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S8192x4096, .bf16⟩
  | .hbm, ⟨3, _⟩ => ⟨S8192x4096, .f32⟩
  | .hbm, ⟨4, _⟩ => ⟨S8192x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DwSharded.lean ====
abbrev S4096x4096 : Shape := ⟨2, ![4096, 4096]⟩
abbrev S4096x16384 : Shape := ⟨2, ![4096, 16384]⟩
abbrev S8x4096x2048 : Shape := ⟨3, ![8, 4096, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwShardedRefIdeal.lean ====
abbrev S4096x4096 : Shape := ⟨2, ![4096, 4096]⟩
abbrev S4096x16384 : Shape := ⟨2, ![4096, 16384]⟩
abbrev S4096x8x2048 : Shape := ⟨3, ![4096, 8, 2048]⟩
abbrev S8x4096x2048 : Shape := ⟨3, ![8, 4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .bf16⟩
  | .hbm, ⟨3, _⟩ => ⟨S4096x16384, .f32⟩
  | .hbm, ⟨4, _⟩ => ⟨S4096x16384, .bf16⟩
  | .hbm, ⟨5, _⟩ => ⟨S4096x8x2048, .bf16⟩
  | .hbm, ⟨6, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DwGrouped.lean ====
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== DwGroupedRefIdeal.lean ====
abbrev S4096x8192 : Shape := ⟨2, ![4096, 8192]⟩
abbrev S4096x4x2048 : Shape := ⟨3, ![4096, 4, 2048]⟩
abbrev S4x2048x2048 : Shape := ⟨3, ![4, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x4x2048, .bf16⟩
  | .hbm, ⟨3, _⟩ => ⟨S4096x4x2048, .bf16⟩
  | .hbm, ⟨4, _⟩ => ⟨S4x2048x2048, .f32⟩
  | .hbm, ⟨5, _⟩ => ⟨S4x2048x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SmallAdamw.lean ====
abbrev S8x2320x128 : Shape := ⟨3, ![8, 2320, 128]⟩
abbrev S2320x128 : Shape := ⟨2, ![2320, 128]⟩
abbrev S1x2320x128 : Shape := ⟨3, ![1, 2320, 128]⟩

abbrev nBuf : Space → Nat
  | .hbm => 9
  | .vmem => 9
  | .smem => 0
  | _ => 0

abbrev bufTy : (tb : Table) → Fin (tcTables nBuf tb) → BufTy
  | .hbm, ⟨0, _⟩ => ⟨S8x2320x128, .f32⟩
  | .hbm, ⟨1, _⟩ => ⟨S2320x128, .f32⟩
  | .hbm, ⟨2, _⟩ => ⟨S2320x128, .f32⟩
  | .hbm, ⟨3, _⟩ => ⟨S2320x128, .f32⟩
  | .hbm, ⟨4, _⟩ => ⟨S2320x128, .f32⟩
  | .hbm, ⟨5, _⟩ => ⟨S2320x128, .f32⟩
  | .hbm, ⟨6, _⟩ => ⟨S2320x128, .f32⟩
  | .hbm, ⟨7, _⟩ => ⟨S2320x128, .f32⟩
  | .hbm, ⟨8, _⟩ => ⟨S2320x128, .f32⟩
  | .local _ .vmem, ⟨0, _⟩ => ⟨S8x2320x128, .f32⟩
  | .local _ .vmem, ⟨1, _⟩ => ⟨S2320x128, .f32⟩
  | .local _ .vmem, ⟨2, _⟩ => ⟨S2320x128, .f32⟩
  | .local _ .vmem, ⟨3, _⟩ => ⟨S2320x128, .f32⟩
  | .local _ .vmem, ⟨4, _⟩ => ⟨S2320x128, .f32⟩
  | .local _ .vmem, ⟨5, _⟩ => ⟨S2320x128, .f32⟩
  | .local _ .vmem, ⟨6, _⟩ => ⟨S2320x128, .f32⟩
  | .local _ .vmem, ⟨7, _⟩ => ⟨S2320x128, .f32⟩
  | .local _ .vmem, ⟨8, _⟩ => ⟨S2320x128, .f32⟩
  | _, _ => ⟨S8x2320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x2320x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2320x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2320x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2320x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2320x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2320x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2320x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== SmallAdamwRefIdeal.lean ====
abbrev S8x2320x128 : Shape := ⟨3, ![8, 2320, 128]⟩
abbrev S2320x128 : Shape := ⟨2, ![2320, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2320x128, .f32⟩
  | .hbm, ⟨1, _⟩ => ⟨S2320x128, .f32⟩
  | .hbm, ⟨2, _⟩ => ⟨S2320x128, .f32⟩
  | .hbm, ⟨3, _⟩ => ⟨S2320x128, .f32⟩
  | .hbm, ⟨4, _⟩ => ⟨S2320x128, .f32⟩
  | .hbm, ⟨5, _⟩ => ⟨S_, .f32⟩
  | .hbm, ⟨6, _⟩ => ⟨S2320x128, .f32⟩
  | .hbm, ⟨7, _⟩ => ⟨S2320x128, .f32⟩
  | .hbm, ⟨8, _⟩ => ⟨S_, .f32⟩
  | .hbm, ⟨9, _⟩ => ⟨S2320x128, .f32⟩
  | .hbm, ⟨10, _⟩ => ⟨S2320x128, .f32⟩
  | .hbm, ⟨11, _⟩ => ⟨S_, .f32⟩
  | .hbm, ⟨12, _⟩ => ⟨S2320x128, .f32⟩
  | .hbm, ⟨13, _⟩ => ⟨S2320x128, .f32⟩
  | .hbm, ⟨14, _⟩ => ⟨S2320x128, .f32⟩
  | .hbm, ⟨15, _⟩ => ⟨S_, .f32⟩
  | .hbm, ⟨16, _⟩ => ⟨S2320x128, .f32⟩
  | .hbm, ⟨17, _⟩ => ⟨S2320x128, .f32⟩
  | .hbm, ⟨18, _⟩ => ⟨S2320x128, .f32⟩
  | .hbm, ⟨19, _⟩ => ⟨S_, .f32⟩
  | .hbm, ⟨20, _⟩ => ⟨S2320x128, .f32⟩
  | .hbm, ⟨21, _⟩ => ⟨S2320x128, .f32⟩
  | .hbm, ⟨22, _⟩ => ⟨S2320x128, .f32⟩
  | .hbm, ⟨23, _⟩ => ⟨S_, .f32⟩
  | .hbm, ⟨24, _⟩ => ⟨S2320x128, .f32⟩
  | .hbm, ⟨25, _⟩ => ⟨S2320x128, .f32⟩
  | .hbm, ⟨26, _⟩ => ⟨S_, .f32⟩
  | .hbm, ⟨27, _⟩ => ⟨S2320x128, .f32⟩
  | .hbm, ⟨28, _⟩ => ⟨S2320x128, .f32⟩
  | .hbm, ⟨29, _⟩ => ⟨S2320x128, .f32⟩
  | .hbm, ⟨30, _⟩ => ⟨S_, .f32⟩
  | .hbm, ⟨31, _⟩ => ⟨S2320x128, .f32⟩
  | .hbm, ⟨32, _⟩ => ⟨S2320x128, .f32⟩
  | .hbm, ⟨33, _⟩ => ⟨S2320x128, .f32⟩
  | .hbm, ⟨34, _⟩ => ⟨S_, .f32⟩
  | .hbm, ⟨35, _⟩ => ⟨S2320x128, .f32⟩
  | .hbm, ⟨36, _⟩ => ⟨S2320x128, .f32⟩
  | .hbm, ⟨37, _⟩ => ⟨S2320x128, .f32⟩
  | .hbm, ⟨38, _⟩ => ⟨S_, .f32⟩
  | .hbm, ⟨39, _⟩ => ⟨S2320x128, .f32⟩
  | .hbm, ⟨40, _⟩ => ⟨S2320x128, .f32⟩
  | _, _ => ⟨S8x2320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== DwClass.lean ====
abbrev S8 : Shape := ⟨1, ![8]⟩
abbrev S4096x4096 : Shape := ⟨2, ![4096, 4096]⟩
abbrev S4096x24576 : Shape := ⟨2, ![4096, 24576]⟩
abbrev S4x4096x3072 : Shape := ⟨3, ![4, 4096, 3072]⟩
abbrev S4096x1024 : Shape := ⟨2, ![4096, 1024]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x24576, .bf16⟩
  | .hbm, ⟨2, _⟩ => ⟨S4x4096x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | .local _ .smem, ⟨0, _⟩ => ⟨S8, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 12], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (inb_S8_S1_6 : ∀ a, (![6] : Fin 1 → Nat) a + S1.size a ≤ S8.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli c2_i32 v16
  let c6 : Index := 6#32
  let v18 : BitVec 32 := pf.at 0 (Rect.unit (s := S8) ![6] S1.size inb_S8_S1_6) numel1_S1
  let v19 : BitVec 32 := Scalar.addi v17 v18
  let c3_i32_4 : BitVec 32 := 3#32
  let v20 : BitVec 32 := Scalar.muli v19 c3_i32_4
  let c3_i32_5 : BitVec 32 := 3#32
  let c0_i32_6 : BitVec 32 := 0#32
  let v21 : BitVec 1 := Scalar.cmpi .eq c3_i32_5 c0_i32_6
  let c1_i32_7 : BitVec 32 := 1#32
  let v22 : BitVec 32 := Scalar.select v21 c1_i32_7 c3_i32_5
  let v23 : BitVec 32 := Scalar.remsi arg1 v22
  let c0_i32_8 : BitVec 32 := 0#32
  let v24 : BitVec 1 := Scalar.cmpi .ne v23 c0_i32_8
  let c0_i32_9 : BitVec 32 := 0#32
  let v25 : BitVec 1 := Scalar.cmpi .slt v23 c0_i32_9
  let c0_i32_10 : BitVec 32 := 0#32
  let v26 : BitVec 1 := Scalar.cmpi .slt v22 c0_i32_10
  let v27 : BitVec 1 := Scalar.xori v25 v26
  let v28 : BitVec 1 := Scalar.andi v27 v24
  let v29 : BitVec 32 := Scalar.addi v23 v22
  let v30 : BitVec 32 := Scalar.select v28 v29 v23
  let v31 : BitVec 32 := Scalar.addi v20 v30
  let c0_i32_11 : BitVec 32 := 0#32
  let c0_i32_12 : BitVec 32 := 0#32
  ![c0_i32_11.toNat, v31.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwClassRefIdeal.lean ====
abbrev S8 : Shape := ⟨1, ![8]⟩
abbrev S4096x4096 : Shape := ⟨2, ![4096, 4096]⟩
abbrev S4096x24576 : Shape := ⟨2, ![4096, 24576]⟩
abbrev S4096x4x2x3072 : Shape := ⟨4, ![4096, 4, 2, 3072]⟩
abbrev S2x4x4096x3072 : Shape := ⟨4, ![2, 4, 4096, 3072]⟩
abbrev S1 : Shape := ⟨1, ![1]⟩
abbrev S_ : Shape := ⟨0, ![]⟩
abbrev S1x4x4096x3072 : Shape := ⟨4, ![1, 4, 4096, 3072]⟩
abbrev S4x4096x3072 : Shape := ⟨3, ![4, 4096, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8, .i32⟩
  | .hbm, ⟨1, _⟩ => ⟨S4096x4096, .bf16⟩
  | .hbm, ⟨2, _⟩ => ⟨S4096x24576, .bf16⟩
  | .hbm, ⟨3, _⟩ => ⟨S4096x4096, .bf16⟩
  | .hbm, ⟨4, _⟩ => ⟨S4096x24576, .f32⟩
  | .hbm, ⟨5, _⟩ => ⟨S4096x24576, .bf16⟩
  | .hbm, ⟨6, _⟩ => ⟨S4096x4x2x3072, .bf16⟩
  | .hbm, ⟨7, _⟩ => ⟨S2x4x4096x3072, .bf16⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1x4x4096x3072, .bf16⟩
  | .hbm, ⟨13, _⟩ => ⟨S4x4096x3072, .bf16⟩
  | .hbm, ⟨14, _⟩ => ⟨S1x4x4096x3072, .bf16⟩
  | .hbm, ⟨15, _⟩ => ⟨S4x4096x3072, .bf16⟩
  | .hbm, ⟨16, _⟩ => ⟨S4x4096x3072, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== ReduceAdamw.lean ====
abbrev S8 : Shape := ⟨1, ![8]⟩
abbrev S4x4096x3072 : Shape := ⟨3, ![4, 4096, 3072]⟩
abbrev S3x4096x3072 : Shape := ⟨3, ![3, 4096, 3072]⟩
abbrev S4096x3072 : Shape := ⟨2, ![4096, 3072]⟩
abbrev S1x128x3072 : Shape := ⟨3, ![1, 128, 3072]⟩
abbrev S1 : Shape := ⟨1, ![1]⟩
abbrev S3x128x3072 : Shape := ⟨3, ![3, 128, 3072]⟩
abbrev S128x3072 : Shape := ⟨2, ![128, 3072]⟩

abbrev nBuf : Space → Nat
  | .hbm => 10
  | .vmem => 20
  | .smem => 1
  | _ => 0

abbrev bufTy : (tb : Table) → Fin (tcTables nBuf tb) → BufTy
  | .hbm, ⟨0, _⟩ => ⟨S4x4096x3072, .bf16⟩
  | .hbm, ⟨1, _⟩ => ⟨S4x4096x3072, .bf16⟩
  | .hbm, ⟨2, _⟩ => ⟨S3x4096x3072, .bf16⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .local _ .vmem, ⟨0, _⟩ => ⟨S1x128x3072, .bf16⟩
  | .local _ .vmem, ⟨1, _⟩ => ⟨S1x128x3072, .bf16⟩
  | .local _ .vmem, ⟨2, _⟩ => ⟨S1x128x3072, .bf16⟩
  | .local _ .vmem, ⟨3, _⟩ => ⟨S1x128x3072, .bf16⟩
  | .local _ .vmem, ⟨4, _⟩ => ⟨S3x128x3072, .bf16⟩
  | .local _ .vmem, ⟨5, _⟩ => ⟨S3x128x3072, .bf16⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | .local _ .vmem, ⟨17, _⟩ => ⟨S128x3072, .f32⟩
  | .local _ .vmem, ⟨18, _⟩ => ⟨S128x3072, .f32⟩
  | .local _ .vmem, ⟨19, _⟩ => ⟨S128x3072, .f32⟩
  | .local _ .smem, ⟨0, _⟩ => ⟨S8, .i32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReduceAdamwRefIdeal.lean ====
abbrev S8 : Shape := ⟨1, ![8]⟩
abbrev S4x4096x3072 : Shape := ⟨3, ![4, 4096, 3072]⟩
abbrev S3x4096x3072 : Shape := ⟨3, ![3, 4096, 3072]⟩
abbrev S4096x3072 : Shape := ⟨2, ![4096, 3072]⟩
abbrev S4 : Shape := ⟨1, ![4]⟩
abbrev S1 : Shape := ⟨1, ![1]⟩
abbrev S_ : Shape := ⟨0, ![]⟩
abbrev S4x1x1 : Shape := ⟨3, ![4, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S8, .i32⟩
  | .hbm, ⟨1, _⟩ => ⟨S4x4096x3072, .bf16⟩
  | .hbm, ⟨2, _⟩ => ⟨S4x4096x3072, .bf16⟩
  | .hbm, ⟨3, _⟩ => ⟨S3x4096x3072, .bf16⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4x4096x3072, .f32⟩
  | .hbm, ⟨8, _⟩ => ⟨S4x4096x3072, .f32⟩
  | .hbm, ⟨9, _⟩ => ⟨S4x4096x3072, .f32⟩
  | .hbm, ⟨10, _⟩ => ⟨S4, .i32⟩
  | .hbm, ⟨11, _⟩ => ⟨S1, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S4x1x1, .i1⟩
  | .hbm, ⟨16, _⟩ => ⟨S4x4096x3072, .i1⟩
  | .hbm, ⟨17, _⟩ => ⟨S_, .f32⟩
  | .hbm, ⟨18, _⟩ => ⟨S4x4096x3072, .f32⟩
  | .hbm, ⟨19, _⟩ => ⟨S4x4096x3072, .f32⟩
  | .hbm, ⟨20, _⟩ => ⟨S_, .f32⟩
  | .hbm, ⟨21, _⟩ => ⟨S4096x3072, .f32⟩
  | .hbm, ⟨22, _⟩ => ⟨S3x4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S4096x3072, .f32⟩
  | .hbm, ⟨33, _⟩ => ⟨S_, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S_, .f32⟩
  | .hbm, ⟨38, _⟩ => ⟨S4096x3072, .f32⟩
  | .hbm, ⟨39, _⟩ => ⟨S4096x3072, .f32⟩
  | .hbm, ⟨40, _⟩ => ⟨S4096x3072, .f32⟩
  | .hbm, ⟨41, _⟩ => ⟨S_, .f32⟩
  | .hbm, ⟨42, _⟩ => ⟨S4096x3072, .f32⟩
  | .hbm, ⟨43, _⟩ => ⟨S4096x3072, .f32⟩
  | .hbm, ⟨44, _⟩ => ⟨S_, .f32⟩
  | .hbm, ⟨45, _⟩ => ⟨S4096x3072, .f32⟩
  | .hbm, ⟨46, _⟩ => ⟨S4096x3072, .f32⟩
  | .hbm, ⟨47, _⟩ => ⟨S4096x3072, .f32⟩
  | .hbm, ⟨48, _⟩ => ⟨S_, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S_, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S_, .f32⟩
  | .hbm, ⟨57, _⟩ => ⟨S4096x3072, .f32⟩
  | .hbm, ⟨58, _⟩ => ⟨S4096x3072, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_9 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_10 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== ChipSums.lean ====
abbrev S8 : Shape := ⟨1, ![8]⟩
abbrev S4x4096x3072 : Shape := ⟨3, ![4, 4096, 3072]⟩
abbrev S3x4096x3072 : Shape := ⟨3, ![3, 4096, 3072]⟩
abbrev S1x128x3072 : Shape := ⟨3, ![1, 128, 3072]⟩
abbrev S1 : Shape := ⟨1, ![1]⟩
abbrev S128x3072 : Shape := ⟨2, ![128, 3072]⟩

abbrev nBuf : Space → Nat
  | .hbm => 3
  | .vmem => 6
  | .smem => 1
  | _ => 0

abbrev bufTy : (tb : Table) → Fin (tcTables nBuf tb) → BufTy
  | .hbm, ⟨0, _⟩ => ⟨S4x4096x3072, .bf16⟩
  | .hbm, ⟨1, _⟩ => ⟨S4x4096x3072, .bf16⟩
  | .hbm, ⟨2, _⟩ => ⟨S3x4096x3072, .bf16⟩
  | .local _ .vmem, ⟨0, _⟩ => ⟨S1x128x3072, .bf16⟩
  | .local _ .vmem, ⟨1, _⟩ => ⟨S1x128x3072, .bf16⟩
  | .local _ .vmem, ⟨2, _⟩ => ⟨S1x128x3072, .bf16⟩
  | .local _ .vmem, ⟨3, _⟩ => ⟨S1x128x3072, .bf16⟩
  | .local _ .vmem, ⟨4, _⟩ => ⟨S1x128x3072, .bf16⟩
  | .local _ .vmem, ⟨5, _⟩ => ⟨S1x128x3072, .bf16⟩
  | .local _ .smem, ⟨0, _⟩ => ⟨S8, .i32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ChipSumsRefIdeal.lean ====
abbrev S8 : Shape := ⟨1, ![8]⟩
abbrev S4x4096x3072 : Shape := ⟨3, ![4, 4096, 3072]⟩
abbrev S3 : Shape := ⟨1, ![3]⟩
abbrev S3x1 : Shape := ⟨2, ![3, 1]⟩
abbrev S4 : Shape := ⟨1, ![4]⟩
abbrev S1x4 : Shape := ⟨2, ![1, 4]⟩
abbrev S3x4 : Shape := ⟨2, ![3, 4]⟩
abbrev S3x4x1x1 : Shape := ⟨4, ![3, 4, 1, 1]⟩
abbrev S3x4x4096x3072 : Shape := ⟨4, ![3, 4, 4096, 3072]⟩
abbrev S1x4x4096x3072 : Shape := ⟨4, ![1, 4, 4096, 3072]⟩
abbrev S_ : Shape := ⟨0, ![]⟩
abbrev S3x4096x3072 : Shape := ⟨3, ![3, 4096, 3072]⟩

abbrev nBuf : Space → Nat
  | .hbm => 25
  | .vmem => 0
  | .smem => 0
  | _ => 0

abbrev bufTy : (tb : Table) → Fin (tcTables nBuf tb) → BufTy
  | .hbm, ⟨0, _⟩ => ⟨S8, .i32⟩
  | .hbm, ⟨1, _⟩ => ⟨S4x4096x3072, .bf16⟩
  | .hbm, ⟨2, _⟩ => ⟨S4x4096x3072, .bf16⟩
  | .hbm, ⟨3, _⟩ => ⟨S4x4096x3072, .f32⟩
  | .hbm, ⟨4, _⟩ => ⟨S4x4096x3072, .f32⟩
  | .hbm, ⟨5, _⟩ => ⟨S4x4096x3072, .f32⟩
  | .hbm, ⟨6, _⟩ => ⟨S4x4096x3072, .bf16⟩
  | .hbm, ⟨7, _⟩ => ⟨S3, .i32⟩
  | .hbm, ⟨8, _⟩ => ⟨S3x1, .i32⟩
  | .hbm, ⟨9, _⟩ => ⟨S4, .i32⟩
  | .hbm, ⟨10, _⟩ => ⟨S1x4, .i32⟩
  | .hbm, ⟨11, _⟩ => ⟨S3x4, .i32⟩
  | .hbm, ⟨12, _⟩ => ⟨S3x4, .i32⟩
  | .hbm, ⟨13, _⟩ => ⟨S3x4, .i1⟩
  | .hbm, ⟨14, _⟩ => ⟨S3x4x1x1, .i1⟩
  | .hbm, ⟨15, _⟩ => ⟨S3x4x4096x3072, .i1⟩
  | .hbm, ⟨16, _⟩ => ⟨S1x4x4096x3072, .bf16⟩
  | .hbm, ⟨17, _⟩ => ⟨S3x4x4096x3072, .bf16⟩
  | .hbm, ⟨18, _⟩ => ⟨S_, .bf16⟩
  | .hbm, ⟨19, _⟩ => ⟨S3x4x4096x3072, .bf16⟩
  | .hbm, ⟨20, _⟩ => ⟨S3x4x4096x3072, .bf16⟩
  | .hbm, ⟨21, _⟩ => ⟨S3x4x4096x3072, .f32⟩
  | .hbm, ⟨22, _⟩ => ⟨S_, .f32⟩
  | .hbm, ⟨23, _⟩ => ⟨S3x4096x3072, .f32⟩
  | .hbm, ⟨24, _⟩ => ⟨S3x4096x3072, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proof.Reals.lean ====
/- Facts about the extended reals that every value proof here uses: sums and constants that are real numbers, and
   what it means for an entry to be finite. -/
module

public import Idealize.ShloMosaic.Lib.IdealHost

@[expose] public section

noncomputable section

namespace Cert.Reals

open Idealize.ShloMosaic

/-- A sum of real numbers, taken among the extended reals, is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below `⊤` is a real number. -/
theorem real_of_abs_lt {x : EReal} (h : max x (-x) < ⊤) : ∃ r : ℝ, x = r := by
  induction x with
  | bot => simp at h
  | top => simp at h
  | coe r => exact ⟨r, rfl⟩

/-- A square is not negative. -/
theorem sq_nonneg (x : EReal) : 0 ≤ x * x := by
  rcases le_total 0 x with h | h
  · exact EReal.mul_nonneg h h
  · exact EReal.mul_nonneg_iff.mpr (.inr ⟨h, h⟩)

/-- If one term of a sum of squares is infinite, the sum is `⊤`. -/
theorem sum_sq_top {ι : Type*} [Fintype ι] (x : ι → EReal) (k : ι) (h : x k = ⊤ ∨ x k = ⊥) : ∑ i, x i * x i = ⊤ := by
  have hk : x k * x k = ⊤ := by rcases h with h | h <;> simp [h]
  have := Finset.single_le_sum (f := fun i => x i * x i) (fun i _ => sq_nonneg (x i)) (Finset.mem_univ k)
  rw [hk] at this
  exact top_le_iff.mp this

/-- The word of 4096. -/
theorem word_4096 : Ideal.ofBits .f32 0x45800000#32 = ((4096 : ℝ) : EReal) := by
  simp [Ideal.ofBits, Ideal.ieee, -EReal.coe_mul]; norm_num

/-- The word of −1/2. -/
theorem word_neg_half : Ideal.ofBits .f32 0xBF000000#32 = ((-(1 / 2) : ℝ) : EReal) := by
  simp [Ideal.ofBits, Ideal.ieee, -EReal.coe_mul, -EReal.coe_neg]; norm_num

/-- The word of the norms' small constant: a positive real. -/
theorem word_eps : ∃ e : ℝ, 0 < e ∧ Ideal.ofBits .f32 0x358637BD#32 = (e : EReal) := by
  refine ⟨_, ?_, by simp [Ideal.ofBits, Ideal.ieee, -EReal.coe_mul]; rfl⟩
  norm_num

/-- The words of 1/4096, one half, one and two. -/
theorem word_inv_4096 : Ideal.ofBits .f32 0x39800000#32 = ((1 / 4096 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

/-- The word of +∞. -/
theorem word_inf : Ideal.ofBits .f32 0x7F800000#32 = ⊤ := by
  simp [Ideal.ofBits, Ideal.ieee]

/-- The half-width word of +∞. -/
theorem half_inf : Ideal.ofBits .bf16 32640#16 = ⊤ := by
  simp [Ideal.ofBits, Ideal.ieee]

/-- A word that compares below +∞ in absolute value is a real number. -/
theorem real_of_word {x : EReal}
    (h : BitVec.ofBool (decide ((FloatOps.absf (F := Ideal) (φ := .f32) x : EReal) < Ideal.ofBits .f32 2139095040#32)) = 1#1) : ∃ r : ℝ, x = r := by
  rw [show Ideal.ofBits .f32 2139095040#32 = ⊤ from word_inf] at h
  by_cases hx : (FloatOps.absf (F := Ideal) (φ := .f32) x : EReal) < ⊤
  · exact real_of_abs_lt hx
  · rw [decide_eq_false hx] at h
    exact absurd h (by decide)

/-- The same for a half-width word. -/
theorem real_of_half {x : EReal}
    (h : BitVec.ofBool (decide ((FloatOps.absf (F := Ideal) (φ := .bf16) x : EReal) < Ideal.ofBits .bf16 32640#16)) = 1#1) : ∃ r : ℝ, x = r := by
  rw [half_inf] at h
  by_cases hx : (FloatOps.absf (F := Ideal) (φ := .bf16) x : EReal) < ⊤
  · exact real_of_abs_lt hx
  · rw [decide_eq_false hx] at h
    exact absurd h (by decide)

end Cert.Reals

end
-- ==== Proof.Rms.lean ====
/- The RMS norm of a row of 4096 entries and its derivative, over the extended reals: the kernels' way of writing the
   derivative and the one that differentiating the forward line gives are equal where the cotangent is finite. -/
module

public import proofs.«01_k».proof.Proof.Reals
public import Idealize.ShloMosaic.Lib.Pointwise

@[expose] public section

noncomputable section

namespace Cert.Rms

open Idealize.ShloMosaic Cert.Reals

/-- Row `p` of the flattened batch, as a row of the batched array. -/
abbrev row (x : FVec Ideal (⟨3, ![2, 2048, 4096]⟩ : Shape) .f32) (p : Fin 4096) (k : Fin 4096) : EReal :=
  x (ix3 ⟨p.val / 2048, by omega⟩ ⟨p.val % 2048, by omega⟩ k)

/-- A row's mean square plus the small constant. -/
def meanSq (x : Fin 4096 → EReal) : EReal :=
  Ideal.div (∑ k, x k * x k) (Ideal.ofBits .f32 0x45800000#32) + Ideal.ofBits .f32 0x358637BD#32

/-- The factor a row is scaled by. -/
def scale (x : Fin 4096 → EReal) : EReal := Ideal.rsqrt (meanSq x)

/-- The derivative as the kernels write it: `r · (b − (x·r) · mean(b · (x·r)))`, `b` the cotangent times the weight. -/
def bwdKernel (x b : Fin 4096 → EReal) (i : Fin 4096) : EReal :=
  scale x * (b i - x i * scale x *
    Ideal.div (∑ k, b k * (x k * scale x)) (Ideal.ofBits .f32 0x45800000#32))

/-- The factor that multiplies the row twice in the derivative of the forward line. -/
def slope (x b : Fin 4096 → EReal) : EReal :=
  Ideal.div ((∑ k, x k * b k) * (Ideal.ofBits .f32 0xBF000000#32 * Ideal.div (scale x) (meanSq x)))
    (Ideal.ofBits .f32 0x45800000#32)

/-- A row is either wholly real, its mean square then a positive real, or its mean square is `⊤`. -/
theorem meanSq_cases (x : Fin 4096 → EReal) :
    meanSq x = ⊤ ∨ ∃ (a : Fin 4096 → ℝ) (v : ℝ), x = (fun k => (a k : EReal)) ∧ 0 < v ∧ meanSq x = v := by
  obtain ⟨e, he, hw⟩ := word_eps
  by_cases h : ∃ k, x k = ⊤ ∨ x k = ⊥
  · obtain ⟨k, hk⟩ := h
    left
    rw [meanSq, sum_sq_top x k hk, word_4096, hw, Ideal.div_coe (by norm_num)]
    rw [EReal.top_mul_coe_of_pos (by norm_num), EReal.top_add_coe]
  · right
    have hx : ∀ k, ∃ r : ℝ, x k = r := by
      intro k
      have hk := not_exists.mp h k
      rw [not_or] at hk
      exact ⟨(x k).toReal, (EReal.coe_toReal hk.1 hk.2).symm⟩
    choose a ha using hx
    refine ⟨a, (∑ k, a k * a k) * (1 / 4096) + e, funext ha, ?_, ?_⟩
    · have : 0 ≤ ∑ k, a k * a k := Finset.sum_nonneg fun k _ => mul_self_nonneg _
      positivity
    · rw [meanSq, word_4096, hw, Ideal.div_coe (by norm_num)]
      simp only [ha]
      simp only [← EReal.coe_mul, ← coe_sum, ← EReal.coe_add]

/-- The two ways of writing the derivative agree wherever the weighted cotangent is finite. -/
theorem bwd_eq (x : Fin 4096 → EReal) (b : Fin 4096 → ℝ) (i : Fin 4096) (d : EReal) :
    d + bwdKernel x (fun k => (b k : EReal)) i
      = d + (b i : EReal) * scale x + x i * slope x (fun k => (b k : EReal))
        + slope x (fun k => (b k : EReal)) * x i := by
  rw [add_assoc, add_assoc]
  congr 1
  rcases meanSq_cases x with h | ⟨a, v, rfl, hv, h⟩
  · have hs : scale x = 0 := by rw [scale, h, Ideal.rsqrt_top]
    have h0 : slope x (fun k => (b k : EReal)) = 0 := by
      have : Ideal.div (0 : EReal) ⊤ = 0 := by simp [Ideal.div]
      rw [slope, hs, h, this, mul_zero, mul_zero, word_4096, Ideal.div_coe (by norm_num), zero_mul]
    rw [bwdKernel, hs, h0]
    simp
  · have hs : scale (fun k => (a k : EReal)) = (((Real.sqrt v)⁻¹ : ℝ) : EReal) := by
      rw [scale, h, Ideal.rsqrt_coe, if_neg (not_lt.mpr hv.le), if_neg hv.ne']
    have hq : Real.sqrt v ≠ 0 := (Real.sqrt_pos.mpr hv).ne'
    rw [bwdKernel, slope, hs, h, word_4096, word_neg_half, Ideal.div_coe hv.ne', Ideal.div_coe (by norm_num),
      Ideal.div_coe (by norm_num)]
    simp only [← EReal.coe_mul, ← coe_sum, ← EReal.coe_add, ← EReal.coe_sub]
    congr 1
    have e1 : ∑ k, b k * (a k * (Real.sqrt v)⁻¹) = (∑ k, a k * b k) * (Real.sqrt v)⁻¹ := by
      rw [Finset.sum_mul]; exact Finset.sum_congr rfl fun k _ => by ring
    have e2 : 1 / v = (Real.sqrt v)⁻¹ * (Real.sqrt v)⁻¹ := by
      rw [← mul_inv, Real.mul_self_sqrt hv.le, one_div]
    rw [e1, e2]
    ring

/-- Scaling by the factor of the row keeps a real derivative real: what the kernel adds is a real number. -/
theorem bwd_real (x : Fin 4096 → EReal) (b : Fin 4096 → ℝ) (i : Fin 4096) :
    ∃ r : ℝ, bwdKernel x (fun k => (b k : EReal)) i = r := by
  rcases meanSq_cases x with h | ⟨a, v, rfl, hv, h⟩
  · have hs : scale x = 0 := by rw [scale, h, Ideal.rsqrt_top]
    exact ⟨0, by rw [bwdKernel, hs]; simp⟩
  · have hs : scale (fun k => (a k : EReal)) = (((Real.sqrt v)⁻¹ : ℝ) : EReal) := by
      rw [scale, h, Ideal.rsqrt_coe, if_neg (not_lt.mpr hv.le), if_neg hv.ne']
    rw [bwdKernel, hs, word_4096, Ideal.div_coe (by norm_num)]
    simp only [← EReal.coe_mul, ← coe_sum, ← EReal.coe_sub]
    exact ⟨_, rfl⟩

/-- A normalised entry is a real number, whatever the row. -/
theorem norm_real (x : Fin 4096 → EReal) (i : Fin 4096) : ∃ r : ℝ, x i * scale x = r := by
  rcases meanSq_cases x with h | ⟨a, v, rfl, hv, h⟩
  · exact ⟨0, by rw [scale, h, Ideal.rsqrt_top]; simp⟩
  · exact ⟨a i * (Real.sqrt v)⁻¹, by
      rw [scale, h, Ideal.rsqrt_coe, if_neg (not_lt.mpr hv.le), if_neg hv.ne', EReal.coe_mul]⟩

/-- The derivative without an addend. -/
theorem bwd_eq_zero (x : Fin 4096 → EReal) (b : Fin 4096 → ℝ) (i : Fin 4096) :
    (b i : EReal) * scale x + x i * slope x (fun k => (b k : EReal)) + slope x (fun k => (b k : EReal)) * x i
      = bwdKernel x (fun k => (b k : EReal)) i := by
  have h := bwd_eq x b i 0
  rw [zero_add, zero_add] at h
  exact h.symm

end Cert.Rms

end
-- ==== Proof.Sums.lean ====
/- Sums the reference takes over the leading two axes of an array, and the batch and position of a row. -/
module

public import Idealize.ShloMosaic.Lib.Pointwise

@[expose] public section

noncomputable section

namespace Cert.Sums

open Idealize.ShloMosaic

variable {n0 n1 n2 : Nat}

/-- The entries of a three-axis array that a sum over its two leading axes adds into entry `j`. -/
theorem fiber_leading_two (h : (⟨3, ![n0, n1, n2]⟩ : Shape).ReducesTo [0, 1] ⟨1, ![n2]⟩) (j : (⟨1, ![n2]⟩ : Shape).Idx)
    (i : (⟨3, ![n0, n1, n2]⟩ : Shape).Idx) : h.drop i = j ↔ ∃ k : Fin n0 × Fin n1, ix3 k.1 k.2 (j 0) = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

/-- The host's sum over the two leading axes of a three-axis array. -/
theorem reduceAdd_leading_two (h : (⟨3, ![n0, n1, n2]⟩ : Shape).ReducesTo [0, 1] ⟨1, ![n2]⟩)
    (v : (⟨3, ![n0, n1, n2]⟩ : Shape).Idx → EReal) (init : EReal) (j : (⟨1, ![n2]⟩ : Shape).Idx) :
    Ideal.hostReduceAdd h v init j = init + ∑ k0 : Fin n0, ∑ k1 : Fin n1, v (ix3 k0 k1 (j 0)) := by
  refine congrArg (init + ·) ((Finset.sum_filter_eq_sum_of_fiber (κ := Fin n0 × Fin n1) (fun i => h.drop i = j)
    (fun k => ix3 k.1 k.2 (j 0)) (fun k k' e => Prod.ext (congrFun e 0) (congrFun e 1)) (fiber_leading_two h j) v).trans ?_)
  exact Fintype.sum_prod_type _

variable {n3 n4 : Nat}

/-- The entries of a four-axis array that a sum over its two leading axes adds into entry `j`. -/
theorem fiber_0_1 (h : (⟨4, ![n0, n1, n2, n3]⟩ : Shape).ReducesTo [0, 1] ⟨2, ![n2, n3]⟩)
    (j : (⟨2, ![n2, n3]⟩ : Shape).Idx) (i : (⟨4, ![n0, n1, n2, n3]⟩ : Shape).Idx) :
    h.drop i = j ↔ ∃ k : Fin n0 × Fin n1, ix4 k.1 k.2 (j 0) (j 1) = i := by
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    apply Fin.ext
    match b with
    | ⟨0, _⟩ => rfl
    | ⟨1, _⟩ => rfl

/-- The host's sum over the two leading axes of a four-axis array. -/
theorem reduceAdd_0_1 (h : (⟨4, ![n0, n1, n2, n3]⟩ : Shape).ReducesTo [0, 1] ⟨2, ![n2, n3]⟩)
    (v : (⟨4, ![n0, n1, n2, n3]⟩ : Shape).Idx → EReal) (init : EReal) (j : (⟨2, ![n2, n3]⟩ : Shape).Idx) :
    Ideal.hostReduceAdd h v init j = init + ∑ k0 : Fin n0, ∑ k1 : Fin n1, v (ix4 k0 k1 (j 0) (j 1)) := by
  refine congrArg (init + ·) ((Finset.sum_filter_eq_sum_of_fiber (κ := Fin n0 × Fin n1) (fun i => h.drop i = j)
    (fun k => ix4 k.1 k.2 (j 0) (j 1)) (fun k k' e => Prod.ext (congrFun e 0) (congrFun e 1)) (fiber_0_1 h j) v).trans ?_)
  exact Fintype.sum_prod_type _

/-- The entries of a five-axis array that a sum over its axes 0, 1 and 4 adds into entry `j`. -/
theorem fiber_0_1_4 (h : (⟨5, ![n0, n1, n2, n3, n4]⟩ : Shape).ReducesTo [0, 1, 4] ⟨2, ![n2, n3]⟩)
    (j : (⟨2, ![n2, n3]⟩ : Shape).Idx) (i : (⟨5, ![n0, n1, n2, n3, n4]⟩ : Shape).Idx) :
    h.drop i = j ↔ ∃ k : Fin n0 × Fin n1 × Fin n4, ix5 k.1 k.2.1 (j 0) (j 1) k.2.2 = i := by
  constructor
  · intro e
    refine ⟨(i 0, i 1, i 4), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
  · rintro ⟨k, rfl⟩
    funext b
    apply Fin.ext
    match b with
    | ⟨0, _⟩ => rfl
    | ⟨1, _⟩ => rfl

/-- The host's sum over the axes 0, 1 and 4 of a five-axis array. -/
theorem reduceAdd_0_1_4 (h : (⟨5, ![n0, n1, n2, n3, n4]⟩ : Shape).ReducesTo [0, 1, 4] ⟨2, ![n2, n3]⟩)
    (v : (⟨5, ![n0, n1, n2, n3, n4]⟩ : Shape).Idx → EReal) (init : EReal) (j : (⟨2, ![n2, n3]⟩ : Shape).Idx) :
    Ideal.hostReduceAdd h v init j = init + ∑ k0 : Fin n0, ∑ k1 : Fin n1, ∑ k4 : Fin n4, v (ix5 k0 k1 (j 0) (j 1) k4) := by
  refine congrArg (init + ·) ((Finset.sum_filter_eq_sum_of_fiber (κ := Fin n0 × Fin n1 × Fin n4) (fun i => h.drop i = j)
    (fun k => ix5 k.1 k.2.1 (j 0) (j 1) k.2.2)
    (fun k k' e => Prod.ext (congrFun e 0) (Prod.ext (congrFun e 1) (congrFun e 4))) (fiber_0_1_4 h j) v).trans ?_)
  simp only [Fintype.sum_prod_type]

/-- The batch entry of a row of the flattened batch. -/
abbrev batchOf (p : Fin 4096) : Fin 2 := ⟨p.val / 2048, by omega⟩

/-- The position of a row of the flattened batch. -/
abbrev posOf (p : Fin 4096) : Fin 2048 := ⟨p.val % 2048, by omega⟩

/-- A row's batch entry and position. -/
theorem split_row (p : Fin 4096) (b : Fin 2) (s : Fin 2048) (hp : p.val = b.val * 2048 + s.val) :
    b = batchOf p ∧ s = posOf p :=
  ⟨Fin.ext (by simp only [batchOf]; omega), Fin.ext (by simp only [posOf]; omega)⟩

end Cert.Sums

end
-- ==== Proof.NormFirstBlock.lean ====
/- The first norm's backward call, block by block: what one block of 128 rows computes, and the reference's derivative
   at one entry, both in the words of the row facts. -/
module

public import proofs.«01_k».proof.Proof.Rms
public import proofs.«01_k».proof.Proof.Sums
public import proofs.«01_k».proof.Proof.Gen.NormFirstIdeal.Value
public import proofs.«01_k».proof.Proof.Gen.NormFirstRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.NormFirstIdeal.Block

open Cert.NormFirstIdeal Cert.NormFirstIdeal.Gen Cert.Rms

/-- One entry of the block's input gradient. -/
theorem dx_at (dh x : FVec Ideal S128x4096 .f32) (g : FVec Ideal S1x4096 .f32) (d : FVec Ideal S128x4096 .f32)
    (r : Fin 128) (e : Fin 4096) :
    k0_pay5 (F := Ideal) dh x g d (ix2 r e)
      = d (ix2 r e) + bwdKernel (fun k => x (ix2 r k)) (fun k => dh (ix2 r k) * g (ix2 0 k)) e := by
  pointwise [k0_pay5, k0_pay4, k0_pay3, k0_pay2, bwdKernel, scale, meanSq]

/-- One entry of the block's part of the weight gradient, added to what was there. -/
theorem dg_at (dh x : FVec Ideal S128x4096 .f32) (acc : FVec Ideal S1x4096 .f32) (e : Fin 4096) :
    k0_pay1 (F := Ideal) (k0_pay7 acc) (k0_pay8 dh x) (ix2 0 e)
      = acc (ix2 0 e) + ∑ r : Fin 128, dh (ix2 r e) * (x (ix2 r e) * scale (fun k => x (ix2 r k))) := by
  pointwise [k0_pay1, k0_pay7, k0_pay8, k0_pay4, k0_pay3, k0_pay2, scale, meanSq]

/-- The accumulator starts at zero. -/
theorem zero_at (e : Fin 4096) : k0_pay6 (F := Ideal) (ix2 0 e) = 0 := by pointwise [k0_pay6]

end Cert.NormFirstIdeal.Block

namespace Cert.NormFirstRefIdeal.Entry

open Cert.NormFirstRefIdeal Cert.NormFirstRefIdeal.Read Cert.Rms

/-- One entry of the reference's input gradient. -/
theorem dx_at (d dh : FVec Ideal S4096x4096 .f32) (x : FVec Ideal S2x2048x4096 .f32) (g : FVec Ideal S2x4096 .f32)
    (p e : Fin 4096) :
    val_main_v41 (F := Ideal) d dh x g (ix2 p e)
      = d (ix2 p e) + dh (ix2 p e) * g (ix2 0 e) * scale (row x p)
        + row x p e * slope (row x p) (fun k => dh (ix2 p k) * g (ix2 0 k))
        + slope (row x p) (fun k => dh (ix2 p k) * g (ix2 0 k)) * row x p e := by
  pointwise [val_main_v41, val_main_v40, val_main_v39, val_main_v38, val_main_v37, val_main_v36, val_main_v35, val_main_v34,
    val_main_v33, val_main_v32, val_main_v31, val_main_v30, val_main_v29, val_main_v28, val_main_v27, val_main_v26,
    val_main_v24, val_main_v23, val_main_v19, val_main_v18, val_main_v15, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_5, val_main_cst_6,
    val_main_cst_7, Rms.slope, scale, meanSq]
  simp only [Fin.sum_univ_one]

/-- One entry of the reference's weight gradient. -/
theorem dg_at (dh : FVec Ideal S4096x4096 .f32) (x : FVec Ideal S2x2048x4096 .f32) (e : Fin 4096) :
    val_main_v42 (F := Ideal) dh x (ix2 0 e)
      = ∑ p : Fin 4096, row x p e * scale (row x p) * dh (ix2 p e) := by
  pointwise [val_main_v42, val_main_v25, val_main_v22, val_main_v21, val_main_v20, val_main_v19, val_main_v14, val_main_v13,
    val_main_v9, val_main_v8, val_main_v7, val_main_v6, val_main_v5, val_main_v4, val_main_v3, val_main_v2,
    val_main_cst, val_main_cst_0, val_main_cst_1, val_main_cst_3, val_main_cst_4, scale, meanSq, Cert.Sums.reduceAdd_leading_two]
  simp only [Fin.sum_univ_one]
  refine (Fin.sum_divmod_congr (S := 2048) fun p ha hs => ?_).symm
  have hp : (⟨p.val / 2048 * 2048 + p.val % 2048, by omega⟩ : Fin 4096) = p := Fin.ext (Nat.div_add_mod' p.val 2048)
  rw [hp]

end Cert.NormFirstRefIdeal.Entry

end
-- ==== Proof.NormFirst.lean ====
/- The first norm's backward call: what the result arrays hold after the run, and that it is the reference's derivative
   where the cotangent and the weight are finite. -/
module

public import proofs.«01_k».proof.Proof.NormFirstBlock

@[expose] public section

set_option maxRecDepth 16384

noncomputable section

open Idealize.ShloMosaic Idealize.ShloMosaic.TcCoe Idealize.SL.Sem
open Idealize.ShloMosaic.Pipeline (Dat)

namespace Cert.NormFirstIdeal.Whole

open Cert.NormFirstIdeal Cert.NormFirstIdeal.Gen Cert.Rms

/-- The input gradient, as the kernel writes it, at every entry of the whole array. -/
def dx (d dh : FVec Ideal S4096x4096 .f32) (x : FVec Ideal S2x2048x4096 .f32) (g : FVec Ideal S2x4096 .f32) :
    FVec Ideal S4096x4096 .f32 :=
  fun j => d j + bwdKernel (row x (j 0)) (fun k => dh (ix2 (j 0) k) * g (ix2 0 k)) (j 1)

/-- What row `p` adds to the weight gradient's entry `e`. -/
def dgRow (dh : FVec Ideal S4096x4096 .f32) (x : FVec Ideal S2x2048x4096 .f32) (p e : Fin 4096) : EReal :=
  dh (ix2 p e) * (row x p e * scale (row x p))

/-- The weight gradient, as the kernel sums it. -/
def dg (dh : FVec Ideal S4096x4096 .f32) (x : FVec Ideal S2x2048x4096 .f32) : FVec Ideal S1x4096 .f32 :=
  fun j => ∑ p : Fin 4096, dgRow dh x p (j 1)

variable (m : (ℓ : Loc nD τ sig) → Buf (Elt Ideal) ℓ)

/-- Which block each window holds at a point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

section Blocks

variable (c : Dev nD) (t : Fin cfg0.N) (r : Fin 128) (k p : Fin 4096) (hp : p.val = t.val * 128 + r.val)
include hp

/-- A row of the residual's gradient, as block `t` stages it. -/
theorem d_at : iblk m c 0 t (ix2 r k) = m ((c : Thread nD τ).loc main_arg0) (ix2 p k) := by
  blk_ext [iblk, V, idx t]

/-- A row of the cotangent, as block `t` stages it. -/
theorem dh_at : iblk m c 1 t (ix2 r k) = m ((c : Thread nD τ).loc main_arg1) (ix2 p k) := by
  blk_ext [iblk, V, idx t]

/-- A row of the input, as block `t` stages it. -/
theorem x_at : iblk m c 2 t (ix2 r k) = row (m ((c : Thread nD τ).loc main_arg2)) p k := by
  blk_simp [iblk, idx t]
  entry_read
  pointwise
  blk_ext [idx t]

end Blocks

/-- The weight, as every point stages it. -/
theorem g_at (c : Dev nD) (t : Fin cfg0.N) (k : Fin 4096) :
    iblk m c 3 t (ix2 0 k) = m ((c : Thread nD τ).loc main_arg3) (ix2 0 k) := by
  blk_simp [iblk, idx t]
  entry_read
  pointwise
  blk_ext [idx t]

/-- What a point stores into the input gradient's block. -/
theorem dx_point (c : Dev nD) (t : Fin cfg0.N) (y : S128x4096.Idx) :
    k0_pay5 (F := Ideal) (iblk m c 1 t) (iblk m c 2 t) (iblk m c 3 t) (iblk m c 0 t) y
      = dx (m ((c : Thread nD τ).loc main_arg0)) (m ((c : Thread nD τ).loc main_arg1)) (m ((c : Thread nD τ).loc main_arg2))
          (m ((c : Thread nD τ).loc main_arg3)) (((cfg0.win 4).blk t).view.emb y) := by
  obtain ⟨r, e, rfl⟩ : ∃ (r : Fin 128) (e : Fin 4096), y = ix2 r e := ⟨y 0, y 1, eq_ix2 y⟩
  have ht : t.val < 32 := t.isLt
  obtain ⟨p, hp⟩ : ∃ p : Fin 4096, p.val = t.val * 128 + r.val := ⟨⟨t.val * 128 + r.val, by omega⟩, rfl⟩
  have hj : ((cfg0.win 4).blk t).view.emb (ix2 r e) = ix2 p e := by blk_ext [idx t]
  rw [hj]
  refine (Block.dx_at _ _ _ _ r e).trans ?_
  simp only [dx, ix2_0, ix2_1, d_at m c t r _ p hp, dh_at m c t r _ p hp, x_at m c t r _ p hp, g_at]

/-- Row `r` of block `t`. -/
abbrev rowOf (t : Fin cfg0.N) (r : Fin 128) : Fin 4096 := ⟨t.val * 128 + r.val, by have : t.val < 32 := t.isLt; omega⟩

/-- The input gradient's array after the run. -/
theorem dx_final (c : Dev nD) : (dats m 0 c).arrAt 4 (cfgs 0).N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  by_cases h : t.val % 32 = 0
  · rw [outsAt0_A m c t h]
    frame_out
    exact dx_point m c t y
  · rw [outsAt0_B m c t h]
    frame_out
    exact dx_point m c t y

/-- What block `t` adds to the weight gradient. -/
theorem dg_point (c : Dev nD) (t : Fin cfg0.N) (acc : FVec Ideal S1x4096 .f32) (e : Fin 4096) :
    k0_pay1 (F := Ideal) (k0_pay7 acc) (k0_pay8 (iblk m c 1 t) (iblk m c 2 t)) (ix2 0 e)
      = acc (ix2 0 e) + ∑ r : Fin 128, dgRow (m ((c : Thread nD τ).loc main_arg1)) (m ((c : Thread nD τ).loc main_arg2)) (rowOf t r) e := by
  refine (Block.dg_at _ _ _ e).trans ?_
  refine congrArg _ (Finset.sum_congr rfl fun r _ => ?_)
  simp only [dgRow, dh_at m c t r _ (rowOf t r) rfl, x_at m c t r _ (rowOf t r) rfl]

/-- The weight gradient's array after the run. -/
theorem dg_final (c : Dev nD) : (dats m 0 c).arrAt 5 (cfgs 0).N
    = dg (m ((c : Thread nD τ).loc main_arg1)) (m ((c : Thread nD τ).loc main_arg2)) := by
  refine (dats m 0 c).arrAt_eq_of_covers 5 _ (by decide +kernel) fun t hf y => ?_
  obtain ⟨u, e, rfl⟩ : ∃ (u : Fin 1) (e : Fin 4096), y = ix2 u e := ⟨y 0, y 1, eq_ix2 y⟩
  obtain rfl : u = 0 := Subsingleton.elim _ _
  have hj : ((cfg0.win 5).blk t).view.emb (ix2 0 e) = ix2 0 e := by blk_ext [idx t]
  have ht : t.val + 1 = cfg0.N := by
    have h := (flush0_5 t).mp hf; have h2 : t.val < 32 := t.isLt; show t.val + 1 = 32; omega
  rw [hj]
  blk_simp
  rw [after0_5, Pipeline.eq_sum_fin_of_reset_step_apply_last (fun n h => (outsAt0 m c n h).2) 32 (fun _ => 0)
    (fun p j => ∑ r : Fin 128, dgRow (m ((c : Thread nD τ).loc main_arg1)) (m ((c : Thread nD τ).loc main_arg2)) (rowOf p r) (j 1))
    (fun t h j => by
      obtain ⟨u, e, rfl⟩ : ∃ (u : Fin 1) (e : Fin 4096), j = ix2 u e := ⟨j 0, j 1, eq_ix2 j⟩
      obtain rfl : u = 0 := Subsingleton.elim _ _
      rw [outsAt0_A m c t h]; frame_out; exact (dg_point m c t _ e).trans (by rw [Block.zero_at, ix2_1]))
    (fun t h j => by
      obtain ⟨u, e, rfl⟩ : ∃ (u : Fin 1) (e : Fin 4096), j = ix2 u e := ⟨j 0, j 1, eq_ix2 j⟩
      obtain rfl : u = 0 := Subsingleton.elim _ _
      rw [outsAt0_B m c t h]; frame_out; exact (dg_point m c t _ e).trans (by rw [ix2_1]))
    (le_refl 32) t ht _, zero_add]
  exact Fin.sum_mul_add_congr (fun s k hl => rfl)

end Cert.NormFirstIdeal.Whole

end
-- ==== Proof.NormFirstRef.lean ====
/- The first norm's backward call: the kernel's two gradients are the reference's. -/
module

public import proofs.«01_k».proof.Proof.NormFirst
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.NormFirstIdeal.Whole

open Cert.Rms Cert.Reals

variable (d dh : FVec Ideal ⟨2, ![4096, 4096]⟩ .f32) (x : FVec Ideal ⟨3, ![2, 2048, 4096]⟩ .f32) (g : FVec Ideal ⟨2, ![2, 4096]⟩ .f32)

/-- What the precondition says of the cotangent and of the first weight: every entry is a real number. -/
theorem finite [Cert.Pre_norm_first_finite.Facts]
    (h : (Cert.Pre_norm_first_finite.fn (F := Ideal) d dh x g).1 = (fun _ => 1#1)
      ∧ (Cert.Pre_norm_first_finite.fn (F := Ideal) d dh x g).2 = (fun _ => 1#1)) :
    (∀ p k, ∃ r : ℝ, dh (ix2 p k) = r) ∧ (∀ k, ∃ r : ℝ, g (ix2 0 k) = r) := by
  refine ⟨fun p k => ?_, fun k => ?_⟩
  · have := congrFun h.1 (ix2 p k)
    pointwise [Cert.Pre_norm_first_finite.fn] at this
    exact real_of_word this
  · have := congrFun h.2 (ix1 k)
    pointwise [Cert.Pre_norm_first_finite.fn] at this
    exact real_of_word this

/-- The kernel's input gradient is the derivative the reference takes. -/
theorem dx_ref (hdh : ∀ p k, ∃ r : ℝ, dh (ix2 p k) = r) (hg : ∀ k, ∃ r : ℝ, g (ix2 0 k) = r) :
    Cert.NormFirstRefIdeal.Read.val_main_v41 (F := Ideal) d dh x g = dx d dh x g := by
  funext j
  obtain ⟨p, e, rfl⟩ : ∃ (p e : Fin 4096), j = ix2 p e := ⟨j 0, j 1, eq_ix2 j⟩
  choose a ha using hdh
  choose b hb using hg
  have hu : (fun k => dh (ix2 p k) * g (ix2 0 k)) = fun k => ((a p k * b k : ℝ) : EReal) := by
    funext k; rw [ha, hb, EReal.coe_mul]
  rw [Cert.NormFirstRefIdeal.Entry.dx_at]
  simp only [dx, ix2_0, ix2_1, hu]
  rw [bwd_eq, ha, hb, EReal.coe_mul]

/-- The kernel's weight gradient is the derivative the reference takes. -/
theorem dg_ref : Cert.NormFirstRefIdeal.Read.val_main_v42 (F := Ideal) dh x = dg dh x := by
  funext j
  obtain ⟨u, e, rfl⟩ : ∃ (u : Fin 1) (e : Fin 4096), j = ix2 u e := ⟨j 0, j 1, eq_ix2 j⟩
  obtain rfl : u = 0 := Subsingleton.elim _ _
  rw [Cert.NormFirstRefIdeal.Entry.dg_at]
  exact Finset.sum_congr rfl fun p _ => by simp only [dgRow, ix2_1]; rw [mul_comm]

/-- The first norm's backward call computes the reference's two gradients. -/
theorem claim [Cert.Pre_norm_first_finite.Facts] :
    Cert.algebraic_NormFirstIdeal_NormFirstRefIdeal_pre_norm_first_finite := by
  pair_intro
  · run_from Cert.NormFirstIdeal.Value.run_blocks m g
  · run_from Cert.NormFirstRefIdeal.Value.run m' g'
    · obtain ⟨hdh, hg⟩ := finite _ _ _ _ (hpre c)
      refine (Cert.NormFirstRefIdeal.Read.val_main_v41_eq m' c).trans ?_
      rw [(hagree c).1, (hagree c).2.1, (hagree c).2.2.1, (hagree c).2.2.2,
        dx_ref _ _ _ _ hdh hg]
      exact (dx_final m c).symm
    · refine (Cert.NormFirstRefIdeal.Read.val_main_v42_eq _ _).trans ?_
      rw [dg_ref]
      exact (dg_final m c).symm

end Cert.NormFirstIdeal.Whole

namespace Cert.NormFirstRefIdeal.Entry

/-- The reference of the first norm runs, leaves its arguments and ends with every counter at zero. -/
theorem frame : Cert.quiescent_NormFirstRefIdeal := fun m ρ _ =>
  (θ_run Cert.NormFirstRefIdeal.defs _ _).mono (fun r h => ⟨fun c => (h c).2.2, sem_eq_zero_of_no_sems rfl _⟩)
    (Cert.NormFirstRefIdeal.Value.run m ρ)

end Cert.NormFirstRefIdeal.Entry

end
-- ==== Proof.LossHeadBlock.lean ====
/- The loss head, block by block: what one block of 128 rows computes, and the reference's results at one entry, both in
   the words of the row facts. -/
module

public import proofs.«01_k».proof.Proof.Rms
public import proofs.«01_k».proof.Proof.Sums
public import proofs.«01_k».proof.Proof.Gen.LossHeadIdeal.Value
public import proofs.«01_k».proof.Proof.Gen.LossHeadRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Rms

/-- How far a row's output is from its target. -/
def miss (x m g t : Fin 4096 → EReal) (k : Fin 4096) : EReal := x k + m k * scale m * g k - t k

end Cert.Rms

namespace Cert.LossHeadIdeal.Block

open Cert.LossHeadIdeal Cert.LossHeadIdeal.Gen Cert.Rms

variable (m x t : FVec Ideal S128x4096 .f32) (g acc : FVec Ideal S1x4096 .f32) (r : Fin 128) (e : Fin 4096)

/-- One entry of the block's difference between output and target. -/
theorem miss_at : k0_pay7 (F := Ideal) m g x t (ix2 r e)
    = miss (fun k => x (ix2 r k)) (fun k => m (ix2 r k)) (fun k => g (ix2 0 k)) (fun k => t (ix2 r k)) e := by
  pointwise [k0_pay7, k0_pay6, miss, scale, meanSq]

/-- One entry of the output's gradient. -/
theorem dout_at : k0_pay8 (F := Ideal) m g x t (ix2 r e)
    = miss (fun k => x (ix2 r k)) (fun k => m (ix2 r k)) (fun k => g (ix2 0 k)) (fun k => t (ix2 r k)) e
      * Ideal.ofBits .f32 0x39800000#32 := by
  rw [← miss_at]
  pointwise [k0_pay8]

/-- One entry of the gradient of what the norm takes. -/
theorem dm_at : k0_pay1 (F := Ideal) (k0_pay9 m) (k0_pay11 m g x t) (k0_pay12 m g x t) (ix2 r e)
    = bwdKernel (fun k => m (ix2 r k)) (fun k => k0_pay8 (F := Ideal) m g x t (ix2 r k) * g (ix2 0 k)) e := by
  pointwise [k0_pay1, k0_pay12, k0_pay11, k0_pay10, k0_pay9, k0_pay6, bwdKernel, scale, meanSq]

/-- The block's part of the squared differences, added to what was there. -/
theorem sq_at : k0_pay4 (F := Ideal) (k0_pay7 m g x t) acc (ix2 0 e)
    = acc (ix2 0 e) + ∑ r : Fin 128, k0_pay7 (F := Ideal) m g x t (ix2 r e) * k0_pay7 (F := Ideal) m g x t (ix2 r e) := by
  pointwise [k0_pay4]

/-- The block's part of the weight gradient, added to what was there. -/
theorem dg_at : k0_pay5 (F := Ideal) (k0_pay8 m g x t) (k0_pay10 m) acc (ix2 0 e)
    = acc (ix2 0 e) + ∑ r : Fin 128, k0_pay8 (F := Ideal) m g x t (ix2 r e)
        * (m (ix2 r e) * scale (fun k => m (ix2 r k))) := by
  pointwise [k0_pay5, k0_pay10, k0_pay9, scale, meanSq]

/-- The accumulators start at zero. -/
theorem zero_at : k0_pay2 (F := Ideal) (ix2 0 e) = 0 ∧ k0_pay3 (F := Ideal) (ix2 0 e) = 0 := by
  constructor
  · pointwise [k0_pay2]
  · pointwise [k0_pay3]

end Cert.LossHeadIdeal.Block

namespace Cert.LossHeadRefIdeal.Entry

open Cert.LossHeadRefIdeal Cert.LossHeadRefIdeal.Read Cert.Rms

variable (x : FVec Ideal S2x2048x4096 .f32) (m : FVec Ideal S4096x4096 .f32) (t : FVec Ideal S2x2048x4096 .f32)
  (g : FVec Ideal S2x4096 .f32) (p e : Fin 4096)

/-- The difference between output and target, in row `p`. -/
abbrev err (k : Fin 4096) : EReal := miss (row x p) (fun k => m (ix2 p k)) (fun k => g (ix2 1 k)) (row t p) k

/-- One entry of the output's gradient, as differentiating the loss gives it. -/
def ct (k : Fin 4096) : EReal :=
  Ideal.div (Ideal.ofBits .f32 0x3F000000#32 * Ideal.ofBits .f32 0x3F800000#32) (Ideal.ofBits .f32 0x45800000#32)
    * (Ideal.ofBits .f32 0x40000000#32 * err x m t g p k)

/-- One entry of the reference's difference, both times it takes it. -/
theorem miss_at (b : Fin 2) (s : Fin 2048) (hp : p.val = b.val * 2048 + s.val) :
    val_main_v20 (F := Ideal) x m t g (ix3 b s e) = err x m t g p e
      ∧ val_main_v73 (F := Ideal) x m t g (ix3 b s e) = err x m t g p e := by
  obtain ⟨rfl, rfl⟩ := Cert.Sums.split_row p b s hp
  constructor
  · pointwise [val_main_v20, val_main_v19, val_main_v18, val_main_v17, val_main_v16, val_main_v15, val_main_v14, val_main_v10,
      val_main_v9, val_main_v8, val_main_v7, val_main_v6, val_main_v5, val_main_v4, val_main_v3, val_main_v2, val_main_v1,
      val_main_v0, val_main_cst, val_main_cst_0, val_main_cst_1, miss, scale, meanSq]
    simp only [Nat.div_add_mod']
  · pointwise [val_main_v73, val_main_v72, val_main_v71, val_main_v70, val_main_v69, val_main_v68, val_main_v67, val_main_v66,
      val_main_v65, val_main_v64, val_main_v63, val_main_v62, val_main_v61, val_main_v60, val_main_v59, val_main_v58,
      val_main_v57, val_main_v56, val_main_cst_16, val_main_cst_17, val_main_cst_18, miss, scale, meanSq]
    simp only [Nat.div_add_mod']

/-- One entry of the cotangent of the output. -/
theorem ct_at (b : Fin 2) (s : Fin 2048) (hp : p.val = b.val * 2048 + s.val) :
    val_main_v34 (F := Ideal) x m t g (ix3 b s e) = ct x m t g p e := by
  rw [ct, ← (miss_at x m t g p e b s hp).1]
  pointwise [val_main_v34, val_main_v33, val_main_v32, val_main_v31, val_main_v30, val_main_v29, val_main_v23, val_main_v22,
    val_main_cst_3, val_main_cst_8, val_main_cst_9, val_main_cst_10]

/-- One entry of the first result: the squared differences of a column. -/
theorem sq_at : val_main_v76 (F := Ideal) x m t g (ix2 0 e) = ∑ p : Fin 4096, err x m t g p e * err x m t g p e := by
  pointwise [val_main_v76, val_main_v75, val_main_v74, val_main_cst_19, Cert.Sums.reduceAdd_leading_two]
  exact Fin.sum_mul_add_congr fun b s hl => by rw [(miss_at x m t g ⟨_, hl⟩ e b s rfl).2]

/-- One entry of the second result. -/
theorem dout_at : val_main_v77 (F := Ideal) x m t g (ix2 p e) = ct x m t g p e := by
  rw [← ct_at x m t g p e ⟨p.val / 2048, by omega⟩ ⟨p.val % 2048, by omega⟩ (by simp only []; omega)]
  pointwise [val_main_v77]

/-- One entry of the third result. -/
theorem dm_at : val_main_v78 (F := Ideal) x m t g (ix2 p e)
    = ct x m t g p e * g (ix2 1 e) * scale (fun k => m (ix2 p k))
      + m (ix2 p e) * slope (fun k => m (ix2 p k)) (fun k => ct x m t g p k * g (ix2 1 k))
      + slope (fun k => m (ix2 p k)) (fun k => ct x m t g p k * g (ix2 1 k)) * m (ix2 p e) := by
  pointwise [val_main_v78, val_main_v55, val_main_v54, val_main_v53, val_main_v52, val_main_v51, val_main_v50, val_main_v49,
    val_main_v48, val_main_v47, val_main_v46, val_main_v45, val_main_v44, val_main_v43, val_main_v42, val_main_v41,
    val_main_v39, val_main_v38, val_main_v16, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2, val_main_cst_13, val_main_cst_14,
    val_main_cst_15, Rms.slope, scale, meanSq]
  simp only [Fin.sum_univ_one, ct_at x m t g p _ ⟨p.val / 2048, by omega⟩ ⟨p.val % 2048, by omega⟩ (by simp only []; omega)]

/-- One entry of the fourth result. -/
theorem dg_at : val_main_v79 (F := Ideal) x m t g (ix2 0 e)
    = ∑ p : Fin 4096, m (ix2 p e) * scale (fun k => m (ix2 p k)) * ct x m t g p e := by
  pointwise [val_main_v79, val_main_v40, val_main_v37, val_main_v36, val_main_v35, val_main_v15, val_main_v14, val_main_v10,
    val_main_v9, val_main_v8, val_main_v7, val_main_v6, val_main_v5, val_main_v4, val_main_v3, val_main_v2,
    val_main_cst, val_main_cst_0, val_main_cst_1, val_main_cst_11, val_main_cst_12, scale, meanSq, Cert.Sums.reduceAdd_leading_two]
  simp only [Fin.sum_univ_one]
  exact Fin.sum_mul_add_congr fun b s hl => by rw [ct_at x m t g ⟨_, hl⟩ e b s rfl]

end Cert.LossHeadRefIdeal.Entry

end
-- ==== Proof.LossHead.lean ====
/- The loss head: what the result arrays hold after the run. -/
module

public import proofs.«01_k».proof.Proof.LossHeadBlock

@[expose] public section

set_option maxRecDepth 16384

noncomputable section

open Idealize.ShloMosaic Idealize.ShloMosaic.TcCoe Idealize.SL.Sem
open Idealize.ShloMosaic.Pipeline (Dat)

namespace Cert.LossHeadIdeal.Whole

open Cert.LossHeadIdeal Cert.LossHeadIdeal.Gen Cert.Rms

section Results

variable (x : FVec Ideal S2x2048x4096 .f32) (w : FVec Ideal S4096x4096 .f32) (t : FVec Ideal S2x2048x4096 .f32)
  (g : FVec Ideal S2x4096 .f32)

/-- The difference between output and target, in row `p`. -/
abbrev err (p k : Fin 4096) : EReal := miss (row x p) (fun k => w (ix2 p k)) (fun k => g (ix2 1 k)) (row t p) k

/-- The output's gradient as the kernel writes it. -/
def out (p k : Fin 4096) : EReal := err x w t g p k * Ideal.ofBits .f32 0x39800000#32

/-- The squared differences summed over the rows. -/
def sq : FVec Ideal S1x4096 .f32 := fun j => ∑ p : Fin 4096, err x w t g p (j 1) * err x w t g p (j 1)

/-- The gradient of the output, at every entry. -/
def dout : FVec Ideal S4096x4096 .f32 := fun j => out x w t g (j 0) (j 1)

/-- The gradient of what the norm takes, as the kernel writes it. -/
def dm : FVec Ideal S4096x4096 .bf16 :=
  fun j => bwdKernel (fun k => w (ix2 (j 0) k)) (fun k => out x w t g (j 0) k * g (ix2 1 k)) (j 1)

/-- What row `p` adds to the weight gradient's entry `e`. -/
def dgRow (p e : Fin 4096) : EReal := out x w t g p e * (w (ix2 p e) * scale (fun k => w (ix2 p k)))

/-- The weight gradient, as the kernel sums it. -/
def dg : FVec Ideal S1x4096 .f32 := fun j => ∑ p : Fin 4096, dgRow x w t g p (j 1)

end Results

variable (m : (ℓ : Loc nD τ sig) → Buf (Elt Ideal) ℓ) (c : Dev nD)

/-- Which block each window holds at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] :=
  (by decide +kernel : ∀ t : Fin grid0.N, _)

/-- Row `r` of block `t`. -/
abbrev rowOf (t : Fin cfg0.N) (r : Fin 128) : Fin 4096 := ⟨t.val * 128 + r.val, by have : t.val < 32 := t.isLt; omega⟩

section Blocks

variable (t : Fin cfg0.N) (r : Fin 128) (k : Fin 4096)

/-- A row of the residual, as block `t` stages it. -/
theorem x_at : iblk m c 0 t (ix2 r k) = row (m ((c : Thread nD τ).loc main_arg0)) (rowOf t r) k := by
  blk_simp [iblk, idx t]
  entry_read
  pointwise
  blk_ext [idx t]

/-- A row of what the norm takes, as block `t` stages it. -/
theorem w_at : iblk m c 1 t (ix2 r k) = m ((c : Thread nD τ).loc main_arg1) (ix2 (rowOf t r) k) := by
  blk_ext [iblk, V, idx t]

/-- A row of the target, as block `t` stages it. -/
theorem t_at : iblk m c 2 t (ix2 r k) = row (m ((c : Thread nD τ).loc main_arg2)) (rowOf t r) k := by
  blk_simp [iblk, idx t]
  entry_read
  pointwise
  blk_ext [idx t]

/-- The weight, as every point stages it. -/
theorem g_at : iblk m c 3 t (ix2 0 k) = m ((c : Thread nD τ).loc main_arg3) (ix2 1 k) := by
  blk_simp [iblk, idx t]
  entry_read
  pointwise
  blk_ext [idx t]

/-- The difference a point computes. -/
theorem miss_point : k0_pay7 (F := Ideal) (iblk m c 1 t) (iblk m c 3 t) (iblk m c 0 t) (iblk m c 2 t) (ix2 r k)
    = err (m ((c : Thread nD τ).loc main_arg0)) (m ((c : Thread nD τ).loc main_arg1)) (m ((c : Thread nD τ).loc main_arg2))
        (m ((c : Thread nD τ).loc main_arg3)) (rowOf t r) k := by
  refine (Block.miss_at _ _ _ _ r k).trans ?_
  simp only [x_at, w_at, t_at, g_at]

/-- The output's gradient a point computes. -/
theorem out_point : k0_pay8 (F := Ideal) (iblk m c 1 t) (iblk m c 3 t) (iblk m c 0 t) (iblk m c 2 t) (ix2 r k)
    = out (m ((c : Thread nD τ).loc main_arg0)) (m ((c : Thread nD τ).loc main_arg1)) (m ((c : Thread nD τ).loc main_arg2))
        (m ((c : Thread nD τ).loc main_arg3)) (rowOf t r) k := by
  refine (Block.dout_at _ _ _ _ r k).trans ?_
  simp only [x_at, w_at, t_at, g_at, out]

end Blocks

variable (t : Fin cfg0.N)

/-- What a point stores into the output gradient's block. -/
theorem dout_point (y : S128x4096.Idx) :
    k0_pay8 (F := Ideal) (iblk m c 1 t) (iblk m c 3 t) (iblk m c 0 t) (iblk m c 2 t) y
      = dout (m ((c : Thread nD τ).loc main_arg0)) (m ((c : Thread nD τ).loc main_arg1)) (m ((c : Thread nD τ).loc main_arg2))
          (m ((c : Thread nD τ).loc main_arg3)) (((cfg0.win 5).blk t).view.emb y) := by
  obtain ⟨r, e, rfl⟩ : ∃ (r : Fin 128) (e : Fin 4096), y = ix2 r e := ⟨y 0, y 1, eq_ix2 y⟩
  have hj : ((cfg0.win 5).blk t).view.emb (ix2 r e) = ix2 (rowOf t r) e := by blk_ext [idx t]
  rw [hj, out_point]
  simp only [dout, ix2_0, ix2_1]

/-- What a point stores into the block of the norm's gradient. -/
theorem dm_point (y : S128x4096.Idx) :
    k0_pay1 (F := Ideal) (k0_pay9 (iblk m c 1 t)) (k0_pay11 (iblk m c 1 t) (iblk m c 3 t) (iblk m c 0 t) (iblk m c 2 t))
        (k0_pay12 (iblk m c 1 t) (iblk m c 3 t) (iblk m c 0 t) (iblk m c 2 t)) y
      = dm (m ((c : Thread nD τ).loc main_arg0)) (m ((c : Thread nD τ).loc main_arg1)) (m ((c : Thread nD τ).loc main_arg2))
          (m ((c : Thread nD τ).loc main_arg3)) (((cfg0.win 6).blk t).view.emb y) := by
  obtain ⟨r, e, rfl⟩ : ∃ (r : Fin 128) (e : Fin 4096), y = ix2 r e := ⟨y 0, y 1, eq_ix2 y⟩
  have hj : ((cfg0.win 6).blk t).view.emb (ix2 r e) = ix2 (rowOf t r) e := by blk_ext [idx t]
  rw [hj]
  refine (Block.dm_at _ _ _ _ r e).trans ?_
  simp only [dm, ix2_0, ix2_1, out_point, w_at, g_at]

/-- What a point adds to the squared differences. -/
theorem sq_point (acc : FVec Ideal S1x4096 .f32) (e : Fin 4096) :
    k0_pay4 (F := Ideal) (k0_pay7 (iblk m c 1 t) (iblk m c 3 t) (iblk m c 0 t) (iblk m c 2 t)) acc (ix2 0 e)
      = acc (ix2 0 e) + ∑ r : Fin 128, err (m ((c : Thread nD τ).loc main_arg0)) (m ((c : Thread nD τ).loc main_arg1))
            (m ((c : Thread nD τ).loc main_arg2)) (m ((c : Thread nD τ).loc main_arg3)) (rowOf t r) e
          * err (m ((c : Thread nD τ).loc main_arg0)) (m ((c : Thread nD τ).loc main_arg1))
            (m ((c : Thread nD τ).loc main_arg2)) (m ((c : Thread nD τ).loc main_arg3)) (rowOf t r) e := by
  refine (Block.sq_at _ _ _ _ _ e).trans ?_
  exact congrArg _ (Finset.sum_congr rfl fun r _ => by rw [miss_point])

/-- What a point adds to the weight gradient. -/
theorem dg_point (acc : FVec Ideal S1x4096 .f32) (e : Fin 4096) :
    k0_pay5 (F := Ideal) (k0_pay8 (iblk m c 1 t) (iblk m c 3 t) (iblk m c 0 t) (iblk m c 2 t)) (k0_pay10 (iblk m c 1 t)) acc (ix2 0 e)
      = acc (ix2 0 e) + ∑ r : Fin 128, dgRow (m ((c : Thread nD τ).loc main_arg0)) (m ((c : Thread nD τ).loc main_arg1))
          (m ((c : Thread nD τ).loc main_arg2)) (m ((c : Thread nD τ).loc main_arg3)) (rowOf t r) e := by
  refine (Block.dg_at _ _ _ _ _ e).trans ?_
  refine congrArg _ (Finset.sum_congr rfl fun r _ => ?_)
  rw [out_point]
  simp only [dgRow, w_at]

/-- The output gradient's array after the run. -/
theorem dout_final : (dats m 0 c).arrAt 5 (cfgs 0).N
    = dout (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  by_cases h : t.val % 32 = 0
  · rw [outsAt0_A m c t h]
    frame_out
    exact dout_point m c t y
  · rw [outsAt0_B m c t h]
    frame_out
    exact dout_point m c t y

/-- The array of the norm's gradient after the run. -/
theorem dm_final : (dats m 0 c).arrAt 6 (cfgs 0).N
    = dm (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  by_cases h : t.val % 32 = 0
  · rw [outsAt0_A m c t h]
    frame_out
    exact dm_point m c t y
  · rw [outsAt0_B m c t h]
    frame_out
    exact dm_point m c t y

/-- The last point is the only one at which an accumulated row is written back. -/
theorem last (h : t.val % 32 = 31) : t.val + 1 = cfg0.N := by
  have h2 : t.val < 32 := t.isLt
  show t.val + 1 = 32
  omega

/-- The array of squared differences after the run. -/
theorem sq_final : (dats m 0 c).arrAt 4 (cfgs 0).N
    = sq (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨u, e, rfl⟩ : ∃ (u : Fin 1) (e : Fin 4096), y = ix2 u e := ⟨y 0, y 1, eq_ix2 y⟩
  obtain rfl : u = 0 := Subsingleton.elim _ _
  have hj : ((cfg0.win 4).blk t).view.emb (ix2 0 e) = ix2 0 e := by blk_ext [idx t]
  rw [hj]
  blk_simp
  rw [after0_4, Pipeline.eq_sum_fin_of_reset_step_apply_last (fun n h => (outsAt0 m c n h).1) 32 (fun _ => 0)
    (fun p j => ∑ r : Fin 128, err (m ((c : Thread nD τ).loc main_arg0)) (m ((c : Thread nD τ).loc main_arg1))
            (m ((c : Thread nD τ).loc main_arg2)) (m ((c : Thread nD τ).loc main_arg3)) (rowOf p r) (j 1)
          * err (m ((c : Thread nD τ).loc main_arg0)) (m ((c : Thread nD τ).loc main_arg1))
            (m ((c : Thread nD τ).loc main_arg2)) (m ((c : Thread nD τ).loc main_arg3)) (rowOf p r) (j 1))
    (fun t h j => by
      obtain ⟨u, e, rfl⟩ : ∃ (u : Fin 1) (e : Fin 4096), j = ix2 u e := ⟨j 0, j 1, eq_ix2 j⟩
      obtain rfl : u = 0 := Subsingleton.elim _ _
      rw [outsAt0_A m c t h]; frame_out; exact (sq_point m c t _ e).trans (by rw [(Block.zero_at e).1, ix2_1]))
    (fun t h j => by
      obtain ⟨u, e, rfl⟩ : ∃ (u : Fin 1) (e : Fin 4096), j = ix2 u e := ⟨j 0, j 1, eq_ix2 j⟩
      obtain rfl : u = 0 := Subsingleton.elim _ _
      rw [outsAt0_B m c t h]; frame_out; exact (sq_point m c t _ e).trans (by rw [ix2_1]))
    (le_refl 32) t (last t ((flush0_4 t).mp hf)) _, zero_add]
  exact Fin.sum_mul_add_congr (fun s k hl => rfl)

/-- The weight gradient's array after the run. -/
theorem dg_final : (dats m 0 c).arrAt 7 (cfgs 0).N
    = dg (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  obtain ⟨u, e, rfl⟩ : ∃ (u : Fin 1) (e : Fin 4096), y = ix2 u e := ⟨y 0, y 1, eq_ix2 y⟩
  obtain rfl : u = 0 := Subsingleton.elim _ _
  have hj : ((cfg0.win 7).blk t).view.emb (ix2 0 e) = ix2 0 e := by blk_ext [idx t]
  rw [hj]
  blk_simp
  rw [after0_7, Pipeline.eq_sum_fin_of_reset_step_apply_last (fun n h => (outsAt0 m c n h).2.2.2) 32 (fun _ => 0)
    (fun p j => ∑ r : Fin 128, dgRow (m ((c : Thread nD τ).loc main_arg0)) (m ((c : Thread nD τ).loc main_arg1))
            (m ((c : Thread nD τ).loc main_arg2)) (m ((c : Thread nD τ).loc main_arg3)) (rowOf p r) (j 1))
    (fun t h j => by
      obtain ⟨u, e, rfl⟩ : ∃ (u : Fin 1) (e : Fin 4096), j = ix2 u e := ⟨j 0, j 1, eq_ix2 j⟩
      obtain rfl : u = 0 := Subsingleton.elim _ _
      rw [outsAt0_A m c t h]; frame_out; exact (dg_point m c t _ e).trans (by rw [(Block.zero_at e).2, ix2_1]))
    (fun t h j => by
      obtain ⟨u, e, rfl⟩ : ∃ (u : Fin 1) (e : Fin 4096), j = ix2 u e := ⟨j 0, j 1, eq_ix2 j⟩
      obtain rfl : u = 0 := Subsingleton.elim _ _
      rw [outsAt0_B m c t h]; frame_out; exact (dg_point m c t _ e).trans (by rw [ix2_1]))
    (le_refl 32) t (last t ((flush0_7 t).mp hf)) _, zero_add]
  exact Fin.sum_mul_add_congr (fun s k hl => rfl)

end Cert.LossHeadIdeal.Whole

end
-- ==== Proof.LossHeadRef.lean ====
/- The loss head: the kernel's four results are the reference's. -/
module

public import proofs.«01_k».proof.Proof.LossHead
public import proofs.«01_k».proof.Proof.Gen.LossHeadRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.LossHeadRefIdeal.Entry

open Cert.LossHeadRefIdeal

/-- What the reference leaves, in the names of its lines. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76) = Read.val_main_v76 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v77) = Read.val_main_v77 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v78) = Read.val_main_v78 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v79) = Read.val_main_v79 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (Read.val_main_v76_eq _ _ _ _), (h c).2.1.trans (Read.val_main_v77_eq _ _ _ _),
    (h c).2.2.1.trans (Read.val_main_v78_eq m c), (h c).2.2.2.1.trans (Read.val_main_v79_eq _ _ _ _), (h c).2.2.2.2⟩)
    (Value.run m ρ)

/-- The reference of the loss head runs, leaves its arguments and ends with every counter at zero. -/
theorem frame : Cert.quiescent_LossHeadRefIdeal := fun m ρ _ =>
  (θ_run defs _ _).mono (fun r h => ⟨fun c => (h c).2.2.2.2, sem_eq_zero_of_no_sems rfl _⟩) (run m ρ)

end Cert.LossHeadRefIdeal.Entry

namespace Cert.LossHeadIdeal.Whole

open Cert.Rms Cert.Reals

variable (x : FVec Ideal ⟨3, ![2, 2048, 4096]⟩ .f32) (w : FVec Ideal ⟨2, ![4096, 4096]⟩ .f32)
  (t : FVec Ideal ⟨3, ![2, 2048, 4096]⟩ .f32) (g : FVec Ideal ⟨2, ![2, 4096]⟩ .f32)

/-- What the precondition says: the residual, the target and the second weight are real numbers. -/
theorem finite [Cert.Pre_loss_head_finite.Facts]
    (h : (Cert.Pre_loss_head_finite.fn (F := Ideal) x w t g).1 = (fun _ => 1#1)
      ∧ (Cert.Pre_loss_head_finite.fn (F := Ideal) x w t g).2.1 = (fun _ => 1#1)
      ∧ (Cert.Pre_loss_head_finite.fn (F := Ideal) x w t g).2.2 = (fun _ => 1#1)) :
    (∀ p k, ∃ r : ℝ, row x p k = r) ∧ (∀ p k, ∃ r : ℝ, row t p k = r) ∧ (∀ k, ∃ r : ℝ, g (ix2 1 k) = r) := by
  refine ⟨fun p k => ?_, fun p k => ?_, fun k => ?_⟩
  · have := congrFun h.1 (ix3 (Cert.Sums.batchOf p) (Cert.Sums.posOf p) k)
    pointwise [Cert.Pre_loss_head_finite.fn] at this
    exact real_of_word this
  · have := congrFun h.2.1 (ix3 (Cert.Sums.batchOf p) (Cert.Sums.posOf p) k)
    pointwise [Cert.Pre_loss_head_finite.fn] at this
    exact real_of_word this
  · have := congrFun h.2.2 (ix1 k)
    pointwise [Cert.Pre_loss_head_finite.fn] at this
    exact real_of_word this

section Real

variable {x w t g} (hx : ∀ p k, ∃ r : ℝ, row x p k = r) (ht : ∀ p k, ∃ r : ℝ, row t p k = r) (hg : ∀ k, ∃ r : ℝ, g (ix2 1 k) = r)
include hx ht hg

/-- The difference of output and target is a real number. -/
theorem err_real (p k : Fin 4096) : ∃ r : ℝ, err x w t g p k = r := by
  obtain ⟨a, ha⟩ := hx p k
  obtain ⟨b, hb⟩ := ht p k
  obtain ⟨d, hd⟩ := hg k
  obtain ⟨n, hn⟩ := norm_real (fun k => w (ix2 p k)) k
  exact ⟨a + n * d - b, by rw [err, miss, ha, hb, hd, hn, EReal.coe_sub, EReal.coe_add, EReal.coe_mul]⟩

/-- The loss's derivative by the output is the kernel's gradient of the output. -/
theorem ct_eq (p k : Fin 4096) : Cert.LossHeadRefIdeal.Entry.ct x w t g p k = out x w t g p k := by
  obtain ⟨r, hr⟩ := err_real (w := w) hx ht hg p k
  rw [Cert.LossHeadRefIdeal.Entry.ct, out]
  rw [show Cert.LossHeadRefIdeal.Entry.err x w t g p k = err x w t g p k from rfl, hr, word_half, word_one, word_two,
    word_4096, word_inv_4096, ← EReal.coe_mul, Ideal.div_coe (by norm_num)]
  simp only [← EReal.coe_mul]
  congr 1
  ring

/-- The kernel's gradient of the output is a real number. -/
theorem out_real (p k : Fin 4096) : ∃ r : ℝ, out x w t g p k = r := by
  obtain ⟨r, hr⟩ := err_real (w := w) hx ht hg p k
  exact ⟨r * (1 / 4096), by rw [out, hr, word_inv_4096, EReal.coe_mul]⟩

/-- The gradient of the output is the reference's. -/
theorem dout_ref : Cert.LossHeadRefIdeal.Read.val_main_v77 (F := Ideal) x w t g = dout x w t g := by
  funext j
  obtain ⟨p, e, rfl⟩ : ∃ (p e : Fin 4096), j = ix2 p e := ⟨j 0, j 1, eq_ix2 j⟩
  rw [Cert.LossHeadRefIdeal.Entry.dout_at, ct_eq hx ht hg]
  simp only [dout, ix2_0, ix2_1]

/-- The gradient of what the norm takes is the derivative the reference takes. -/
theorem dm_ref : Cert.LossHeadRefIdeal.Read.val_main_v78 (F := Ideal) x w t g = dm x w t g := by
  funext j
  obtain ⟨p, e, rfl⟩ : ∃ (p e : Fin 4096), j = ix2 p e := ⟨j 0, j 1, eq_ix2 j⟩
  have ho := out_real (w := w) hx ht hg
  choose a ha using ho
  choose b hb using hg
  have hu : (fun k => out x w t g p k * g (ix2 1 k)) = fun k => ((a p k * b k : ℝ) : EReal) := by
    funext k; rw [ha, hb, EReal.coe_mul]
  rw [Cert.LossHeadRefIdeal.Entry.dm_at]
  simp only [ct_eq hx ht (fun k => ⟨b k, hb k⟩), dm, ix2_0, ix2_1, hu]
  rw [← bwd_eq_zero, ha, hb, EReal.coe_mul]

/-- The weight gradient is the derivative the reference takes. -/
theorem dg_ref : Cert.LossHeadRefIdeal.Read.val_main_v79 (F := Ideal) x w t g = dg x w t g := by
  funext j
  obtain ⟨u, e, rfl⟩ : ∃ (u : Fin 1) (e : Fin 4096), j = ix2 u e := ⟨j 0, j 1, eq_ix2 j⟩
  obtain rfl : u = 0 := Subsingleton.elim _ _
  rw [Cert.LossHeadRefIdeal.Entry.dg_at]
  exact Finset.sum_congr rfl fun p _ => by rw [ct_eq hx ht hg]; simp only [dgRow, ix2_1]; rw [mul_comm]

end Real

/-- The squared differences are the reference's. -/
theorem sq_ref : Cert.LossHeadRefIdeal.Read.val_main_v76 (F := Ideal) x w t g = sq x w t g := by
  funext j
  obtain ⟨u, e, rfl⟩ : ∃ (u : Fin 1) (e : Fin 4096), j = ix2 u e := ⟨j 0, j 1, eq_ix2 j⟩
  obtain rfl : u = 0 := Subsingleton.elim _ _
  exact Cert.LossHeadRefIdeal.Entry.sq_at x w t g e

/-- The loss head computes the reference's squared differences and gradients. -/
theorem claim [Cert.Pre_loss_head_finite.Facts] :
    Cert.algebraic_LossHeadIdeal_LossHeadRefIdeal_pre_loss_head_finite := by
  pair_intro
  · run_from Cert.LossHeadIdeal.Value.run_blocks m g
  · run_from Cert.LossHeadRefIdeal.Entry.run m' g'
    all_goals obtain ⟨hx, ht, hg⟩ := finite _ _ _ _ (hpre c)
    · exact (sq_ref _ _ _ _).trans (sq_final m c).symm
    · exact (dout_ref hx ht hg).trans (dout_final m c).symm
    · exact (dm_ref hx ht hg).trans (dm_final m c).symm
    · exact (dg_ref hx ht hg).trans (dg_final m c).symm

end Cert.LossHeadIdeal.Whole

end
-- ==== Proof.GateAReal.lean ====
/- One chunk of mixer A's gate over the real numbers: 128 rows of 16 heads of 512 channels, the forward lines' intermediate
   values and the gradients, with the two identities that join the kernel's way of writing them to the derivative of the
   forward lines. -/
module

public import proofs.«01_k».proof.Proof.Reals

@[expose] public section

noncomputable section

namespace Cert.Gating

open Idealize.ShloMosaic Cert.Reals

/-- The error function. -/
def erf (x : ℝ) : ℝ := (Ideal.erf (x : EReal)).toReal

theorem erf_coe (x : ℝ) : Ideal.erf (x : EReal) = (erf x : EReal) := by
  rw [erf, Ideal.erf_coe, EReal.toReal_coe]

/-- The complementary error function at a negated argument. -/
theorem erfc_neg_coe (x : ℝ) : Ideal.erfc ((-x : ℝ) : EReal) = ((1 + erf x : ℝ) : EReal) := by
  rw [EReal.coe_neg, Ideal.erfc_neg, erf_coe, EReal.coe_add, EReal.coe_one]

/-- The gelu and its derivative; `9465531 / 8388608` is the single-precision number that the derivative of the error
    function is written with, for two over the root of π. -/
def gelu (x : ℝ) : ℝ := 1 / 2 * x * (1 + erf (x * (Real.sqrt 2)⁻¹))
def geluGrad (x : ℝ) : ℝ :=
  1 / 2 * (1 + erf (x * (Real.sqrt 2)⁻¹)) + x * Real.exp (-(1 / 2) * x * x) * (9465531 / 16777216 * (Real.sqrt 2)⁻¹)

/-- The logistic function. -/
def sig (x : ℝ) : ℝ := (1 + Real.exp (-x))⁻¹

/-- The constant under the layer norm's root. -/
def eps : ℝ := (Ideal.ofBits .f32 0x358637BD#32).toReal

theorem eps_coe : Ideal.ofBits .f32 0x358637BD#32 = (eps : EReal) := by
  obtain ⟨e, -, h⟩ := word_eps
  rw [eps, h, EReal.toReal_coe]

theorem eps_pos : 0 < eps := by
  obtain ⟨e, he, h⟩ := word_eps
  rwa [eps, h, EReal.toReal_coe]

/-- What one chunk reads. -/
structure Chunk where
  u : Fin 128 → Fin 16 → Fin 512 → ℝ
  v : Fin 128 → Fin 16 → Fin 512 → ℝ
  z : Fin 128 → Fin 16 → Fin 512 → ℝ
  dy : Fin 128 → Fin 16 → Fin 512 → ℝ
  g : Fin 16 → Fin 512 → ℝ
  b : Fin 16 → Fin 512 → ℝ
  w : Fin 16 → Fin 128 → Fin 128 → ℝ
  bs : Fin 16 → Fin 128 → ℝ

namespace Chunk

variable (C : Chunk) (r : Fin 128) (h : Fin 16) (k : Fin 512)

/-- A row's sum over all channels, and its mean. -/
def sum (f : Fin 16 → Fin 512 → ℝ) : ℝ := ∑ h, ∑ k, f h k
def avg (f : Fin 16 → Fin 512 → ℝ) : ℝ := sum f * (1 / 8192)

def vg : ℝ := gelu (C.v r h k)
def mean : ℝ := avg (C.vg r)
def xc : ℝ := C.vg r h k - C.mean r
def var : ℝ := avg fun h k => C.xc r h k * C.xc r h k
def rs : ℝ := (Real.sqrt (C.var r + eps))⁻¹
def vh : ℝ := C.xc r h k * C.rs r
def vn : ℝ := C.vh r h k * C.g h k + C.b h k
def mix : ℝ := ∑ s, C.w h r s * C.vn s h k
def sv : ℝ := C.mix r h k + C.bs h r
def ug : ℝ := gelu (C.u r h k)
def dsgu : ℝ := C.dy r h k * (C.z r h k * sig (C.z r h k))
def dz : ℝ := C.dy r h k * (C.ug r h k * C.sv r h k) * (sig (C.z r h k) * (1 + C.z r h k * (1 - sig (C.z r h k))))
def du : ℝ := C.dsgu r h k * C.sv r h k * geluGrad (C.u r h k)
def dsv : ℝ := C.dsgu r h k * C.ug r h k
def dbs : ℝ := ∑ k, C.dsv r h k
def dw (s : Fin 128) : ℝ := ∑ k, C.dsv r h k * C.vn s h k
def dvn : ℝ := ∑ s, C.w h s r * C.dsv s h k
def dg : ℝ := ∑ r, C.dvn r h k * C.vh r h k
def db : ℝ := ∑ r, C.dvn r h k
def dvh : ℝ := C.dvn r h k * C.g h k
def m1 : ℝ := avg (C.dvh r)
def m2 : ℝ := avg fun h k => C.dvh r h k * C.vh r h k
def dvg : ℝ := C.rs r * (C.dvh r h k - C.m1 r - C.vh r h k * C.m2 r)
def dv : ℝ := C.dvg r h k * geluGrad (C.v r h k)

/-- The centred row sums to zero. -/
theorem sum_xc : sum (C.xc r) = 0 := by
  have h1 : sum (C.xc r) = sum (C.vg r) - 8192 * C.mean r := by
    simp only [sum, xc, Finset.sum_sub_distrib, Finset.sum_const, Finset.card_univ, Fintype.card_fin, nsmul_eq_mul]
    push_cast; ring
  rw [h1, mean, avg]; ring

/-- The mean square of the centred row is the mean square of the row less the squared mean. -/
theorem var_eq : (avg fun h k => C.vg r h k * C.vg r h k) - C.mean r * C.mean r = C.var r := by
  have h1 : ∀ h k, C.xc r h k * C.xc r h k
      = C.vg r h k * C.vg r h k - 2 * C.mean r * C.xc r h k - C.mean r * C.mean r := by
    intro h k; rw [xc]; ring
  have h2 : (sum fun h k => C.xc r h k * C.xc r h k)
      = (sum fun h k => C.vg r h k * C.vg r h k) - 2 * C.mean r * sum (C.xc r) - 8192 * (C.mean r * C.mean r) := by
    simp only [sum, h1, Finset.sum_sub_distrib, Finset.sum_const, Finset.card_univ, Fintype.card_fin, nsmul_eq_mul,
      Finset.mul_sum]
    push_cast; ring
  rw [var, avg, avg, h2, sum_xc]; ring

theorem var_pos : 0 < C.var r + eps := by
  have : 0 ≤ C.var r := mul_nonneg
    (Finset.sum_nonneg fun _ _ => Finset.sum_nonneg fun _ _ => mul_self_nonneg _) (by norm_num)
  linarith [eps_pos]

/-- The factor that the derivative of the forward lines has twice. -/
def slope : ℝ :=
  (sum fun h k => C.xc r h k * C.dvh r h k) * (-(1 / 2) * (C.rs r * (1 / (C.var r + eps)))) * (1 / 8192)

/-- The derivative by the centred row. -/
def dxc : ℝ := C.dvh r h k * C.rs r + C.xc r h k * C.slope r + C.slope r * C.xc r h k

/-- The layer norm's derivative, taken line by line, is the kernel's. -/
theorem dvg_eq : C.dxc r h k + avg (fun h k => -C.dxc r h k) = C.dvg r h k := by
  have hr : 1 / (C.var r + eps) = C.rs r * C.rs r := by
    rw [rs, ← mul_inv, Real.mul_self_sqrt (C.var_pos r).le, one_div]
  have hs : (sum fun h k => C.xc r h k * C.dvh r h k) * C.rs r = sum fun h k => C.dvh r h k * C.vh r h k := by
    simp only [sum, Finset.sum_mul]
    exact Finset.sum_congr rfl fun h _ => Finset.sum_congr rfl fun k _ => by rw [vh]; ring
  have hx : (sum fun h k => -C.dxc r h k) = -(sum (C.dvh r) * C.rs r) - 2 * C.slope r * sum (C.xc r) := by
    simp only [sum, Finset.sum_mul, Finset.mul_sum, ← Finset.sum_neg_distrib, ← Finset.sum_sub_distrib]
    exact Finset.sum_congr rfl fun h _ => Finset.sum_congr rfl fun k _ => by rw [dxc]; ring
  rw [avg, hx, sum_xc, dxc, slope, hr, dvg, m1, m2, avg, avg, ← hs, vh]
  ring

end Chunk

/-- The gelu's derivative as differentiating `erfc` writes it. -/
theorem geluGrad_eq (x d : ℝ) :
    -(-(9465531 / 8388608) * (1 / 2 * x * d) * Real.exp (-((-x * (Real.sqrt 2)⁻¹) * (-x * (Real.sqrt 2)⁻¹)))
        * (Real.sqrt 2)⁻¹) + 1 / 2 * (d * (1 + erf (x * (Real.sqrt 2)⁻¹))) = d * geluGrad x := by
  have h2 : (Real.sqrt 2)⁻¹ * (Real.sqrt 2)⁻¹ = (1 / 2 : ℝ) := by
    rw [← mul_inv, Real.mul_self_sqrt (by norm_num)]; norm_num
  have he : -((-x * (Real.sqrt 2)⁻¹) * (-x * (Real.sqrt 2)⁻¹)) = -(1 / 2) * x * x := by
    rw [show (-x * (Real.sqrt 2)⁻¹) * (-x * (Real.sqrt 2)⁻¹) = x * x * ((Real.sqrt 2)⁻¹ * (Real.sqrt 2)⁻¹) by ring, h2]; ring
  rw [he, geluGrad]
  ring

end Cert.Gating

end
-- ==== Proof.GateAHead.lean ====
/- One chunk of the mixer A gate's backward call: what the kernel computes for one head of 512 channels, as a function of
   the head's number, and what a grid point stores into each result as a list of one or two pieces per head. -/
module

public import proofs.«01_k».proof.Proof.Gen.GateAIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.GateAIdeal.Head

open Cert.GateAIdeal Cert.GateAIdeal.Gen

/-- A stretch of columns lies in the block. -/
theorem in_cols {R C w o : Nat} (hw : o + w ≤ C) (a : Fin 2) :
    (![0, o] : Fin 2 → Nat) a + (![R, w] : Fin 2 → Nat) a ≤ (⟨2, ![R, C]⟩ : Shape).size a := by
  match a with
  | ⟨0, _⟩ => exact (Nat.zero_add R).le
  | ⟨1, _⟩ => exact hw

/-- A member of a stack lies in it. -/
theorem in_member {N R C k : Nat} (hk : k + 1 ≤ N) (a : Fin 3) :
    (![k, 0, 0] : Fin 3 → Nat) a + (![1, R, C] : Fin 3 → Nat) a ≤ (⟨3, ![N, R, C]⟩ : Shape).size a := by
  match a with
  | ⟨0, _⟩ => exact hk
  | ⟨1, _⟩ => exact (Nat.zero_add R).le
  | ⟨2, _⟩ => exact (Nat.zero_add C).le

/-- The seven blocks that a grid point reads. -/
structure Ins where
  /-- the chunk's projection: `u`, then `v`, then `z`, 8192 channels each -/
  p : FVec Ideal S128x24576 .bf16
  /-- the chunk's cotangent -/
  dy : FVec Ideal S128x8192 .bf16
  /-- the layer norm's weight -/
  g : FVec Ideal S1x8192 .f32
  /-- the layer norm's bias -/
  b : FVec Ideal S1x8192 .f32
  /-- the causal weights -/
  w : FVec Ideal S16x128x128 .bf16
  /-- the causal weights, each transposed -/
  wt : FVec Ideal S16x128x128 .bf16
  /-- the heads' biases -/
  bs : FVec Ideal S16x128x1 .f32

variable (I : Ins) (h : Fin 16)

/-- The head's part of `u`, of `v`, of `z`, and of the other blocks. -/
abbrev uAt : FVec Ideal S128x512 .bf16 := View.ld (Val := Elt Ideal) (e' := .bf16) I.p (Rect.unit ![0, 512 * h.val] ![128, 512] (in_cols (by omega)))
abbrev vAt : FVec Ideal S128x512 .bf16 := View.ld (Val := Elt Ideal) (e' := .bf16) I.p (Rect.unit ![0, 8192 + 512 * h.val] ![128, 512] (in_cols (by omega)))
abbrev zAt : FVec Ideal S128x512 .bf16 := View.ld (Val := Elt Ideal) (e' := .bf16) I.p (Rect.unit ![0, 16384 + 512 * h.val] ![128, 512] (in_cols (by omega)))
abbrev dyAt : FVec Ideal S128x512 .bf16 := View.ld (Val := Elt Ideal) (e' := .bf16) I.dy (Rect.unit ![0, 512 * h.val] ![128, 512] (in_cols (by omega)))
abbrev gAt : FVec Ideal S1x512 .f32 := View.ld (Val := Elt Ideal) (e' := .f32) I.g (Rect.unit ![0, 512 * h.val] ![1, 512] (in_cols (by omega)))
abbrev bAt : FVec Ideal S1x512 .f32 := View.ld (Val := Elt Ideal) (e' := .f32) I.b (Rect.unit ![0, 512 * h.val] ![1, 512] (in_cols (by omega)))
abbrev wAt : FVec Ideal S1x128x128 .bf16 := View.ld (Val := Elt Ideal) (e' := .bf16) I.w (Rect.unit ![h.val, 0, 0] ![1, 128, 128] (in_member (by omega)))
abbrev wtAt : FVec Ideal S1x128x128 .bf16 := View.ld (Val := Elt Ideal) (e' := .bf16) I.wt (Rect.unit ![h.val, 0, 0] ![1, 128, 128] (in_member (by omega)))
abbrev bsAt : FVec Ideal S1x128x1 .f32 := View.ld (Val := Elt Ideal) (e' := .f32) I.bs (Rect.unit ![h.val, 0, 0] ![1, 128, 1] (in_member (by omega)))

/-- Sums over the channels of the first `n` heads, head by head, from zero. -/
def tot (f : Fin 16 → FVec Ideal S128x512 .f32) : (n : Nat) → n ≤ 16 → FVec Ideal S128x1 .f32
  | 0, _ => k0_pay56
  | n + 1, hn => addf (tot f n (by omega)) (shapeCast S128x1
      (multiReduction .add [1] S128 (f ⟨n, hn⟩) 0x00000000#32 reduces_S128x512_S128 (.inl rfl) rfl) shapeCasts_S128_S128x1)

/-- The gelu of the head's `v`. -/
def vg : FVec Ideal S128x512 .f32 := k0_pay6 (vAt I h)

/-- The rows' mean and the factor they are scaled by. -/
def mu : FVec Ideal S128x1 .f32 :=
  mulf (tot (vg I) 16 (le_refl _)) (broadcast S128x1 (Scalar.ofBits .f32 0x39000000#32))
def rstd : FVec Ideal S128x1 .f32 :=
  rsqrt (addf (subf (mulf (tot (fun h => mulf (vg I h) (vg I h)) 16 (le_refl _)) (broadcast S128x1 (Scalar.ofBits .f32 0x39000000#32)))
    (mulf (mu I) (mu I))) (broadcast S128x1 (Scalar.ofBits .f32 0x358637BD#32)))

/-- The normalised rows, and with weight and bias. -/
def vhat : FVec Ideal S128x512 .f32 :=
  mulf (subf (shapeCast S128x512 (vg I h) shapeCasts_S128x512_S128x512) (broadcastTo S128x512 (mu I) broadcasts_S128x1_S128x512))
    (broadcastTo S128x512 (rstd I) broadcasts_S128x1_S128x512)
def vn : FVec Ideal S128x512 .bf16 :=
  truncf .bf16 (addf (mulf (vhat I h) (broadcastTo S128x512 (gAt I h) broadcasts_S1x512_S128x512))
    (broadcastTo S128x512 (bAt I h) broadcasts_S1x512_S128x512)) bitsLt_bf16_f32

/-- The head's causal mix of the chunk's rows, before its bias. -/
def mix : FVec Ideal S128x512 .f32 :=
  matmul dot_S128x128_S128x512_S128x512_1_0_0_1_n_n none (shapeCast S128x128 (wAt I h) shapeCasts_S1x128x128_S128x128) (vn I h)
    (constant S128x512 .f32 0x00000000#32)

/-- The gradients of `z` and of `u`. -/
def dz : FVec Ideal S128x512 .bf16 := k0_pay69 (mix I h) (bsAt I h) (uAt I h) (zAt I h) (dyAt I h)
def du : FVec Ideal S128x512 .bf16 :=
  k0_pay73 (k0_pay63 (uAt I h)) (k0_pay70 (mix I h) (bsAt I h) (zAt I h) (dyAt I h)) (k0_pay71 (uAt I h)) k0_pay72

/-- The gelu of the head's `u`, and the cotangent of what it is multiplied with. -/
abbrev ug : FVec Ideal S128x512 .f32 := k0_pay64 (uAt I h)
abbrev dsgu : FVec Ideal S128x512 .f32 := k0_pay68 (zAt I h) (dyAt I h)

/-- The cotangent of the normalised rows with weight and bias, and of the normalised rows. -/
def dvn : FVec Ideal S128x512 .f32 := k0_pay78 (ug I h) (dsgu I h) (wtAt I h)
def dvhat : FVec Ideal S128x512 .f32 := mulf (dvn I h) (broadcastTo S128x512 (gAt I h) broadcasts_S1x512_S128x512)

/-- The rows' mean of that cotangent, and of it times the normalised row. -/
def m1 : FVec Ideal S128x1 .f32 :=
  mulf (tot (dvhat I) 16 (le_refl _)) (broadcast S128x1 (Scalar.ofBits .f32 0x39000000#32))
def m2 : FVec Ideal S128x1 .f32 :=
  mulf (tot (fun h => mulf (dvhat I h) (vhat I h)) 16 (le_refl _)) (broadcast S128x1 (Scalar.ofBits .f32 0x39000000#32))

/-- The gradient of `v`. -/
def dv : FVec Ideal S128x512 .bf16 :=
  k0_pay1 (rstd I) (m1 I) (m2 I) (shapeCast S128x512 (dvn I h) shapeCasts_S128x512_S128x512) (gAt I h)
    (shapeCast S128x512 (vhat I h) shapeCasts_S128x512_S128x512) (vAt I h)

/-- The pieces a point stores into the projection's gradient: the newest first. -/
abbrev duPiece : View.Piece (Elt Ideal) S128x24576 .bf16 :=
  ⟨Rect.unit ![0, 512 * h.val] ![128, 512] (in_cols (by omega)), du I h⟩
abbrev dvPiece : View.Piece (Elt Ideal) S128x24576 .bf16 :=
  ⟨Rect.unit ![0, 8192 + 512 * h.val] ![128, 512] (in_cols (by omega)), dv I h⟩
abbrev dzPiece : View.Piece (Elt Ideal) S128x24576 .bf16 :=
  ⟨Rect.unit ![0, 16384 + 512 * h.val] ![128, 512] (in_cols (by omega)), dz I h⟩
def dpPieces : List (View.Piece (Elt Ideal) S128x24576 .bf16) :=
  (List.ofFn fun k : Fin 16 => dvPiece I k.rev) ++ (List.ofFn fun k : Fin 16 => [duPiece I k.rev, dzPiece I k.rev]).flatten

/-- The pieces a point stores into an accumulated result that held `acc`. -/
def dwPieces (acc : FVec Ideal S16x128x128 .f32) : List (View.Piece (Elt Ideal) S16x128x128 .f32) :=
  List.ofFn fun k : Fin 16 => ⟨Rect.unit ![k.rev.val, 0, 0] ![1, 128, 128] (in_member (by omega)),
    k0_pay77 (vn I k.rev) (ug I k.rev) (dsgu I k.rev)
      (View.ld (Val := Elt Ideal) (e' := .f32) acc (Rect.unit ![k.rev.val, 0, 0] ![1, 128, 128] (in_member (by omega))))⟩
def dbsPieces (acc : FVec Ideal S16x128x1 .f32) : List (View.Piece (Elt Ideal) S16x128x1 .f32) :=
  List.ofFn fun k : Fin 16 => ⟨Rect.unit ![k.rev.val, 0, 0] ![1, 128, 1] (in_member (by omega)),
    k0_pay76 (ug I k.rev) (dsgu I k.rev)
      (View.ld (Val := Elt Ideal) (e' := .f32) acc (Rect.unit ![k.rev.val, 0, 0] ![1, 128, 1] (in_member (by omega))))⟩
def dgPieces (acc : FVec Ideal S1x8192 .f32) : List (View.Piece (Elt Ideal) S1x8192 .f32) :=
  List.ofFn fun k : Fin 16 => ⟨Rect.unit ![0, 512 * k.rev.val] ![1, 512] (in_cols (by omega)),
    k0_pay80 (vhat I k.rev) (dvn I k.rev)
      (View.ld (Val := Elt Ideal) (e' := .f32) acc (Rect.unit ![0, 512 * k.rev.val] ![1, 512] (in_cols (by omega))))⟩
def dbPieces (acc : FVec Ideal S1x8192 .f32) : List (View.Piece (Elt Ideal) S1x8192 .f32) :=
  List.ofFn fun k : Fin 16 => ⟨Rect.unit ![0, 512 * k.rev.val] ![1, 512] (in_cols (by omega)),
    k0_pay81 (dvn I k.rev)
      (View.ld (Val := Elt Ideal) (e' := .f32) acc (Rect.unit ![0, 512 * k.rev.val] ![1, 512] (in_cols (by omega))))⟩

end Cert.GateAIdeal.Head

end
-- ==== Proof.GateABlock.lean ====
/- One chunk of the mixer A gate's backward call over real inputs: every value that the kernel computes for a head is the
   real number that the chunk's formulas give. -/
module

public import proofs.«01_k».proof.Proof.GateAReal
public import proofs.«01_k».proof.Proof.GateAHead

@[expose] public section

set_option maxRecDepth 16384

noncomputable section

open Idealize.ShloMosaic Idealize.ShloMosaic.TcCoe Idealize.SL.Sem

namespace Cert.Gating

/-- Channel `k` of head `h`, and its place among the projection's `u`, `v` and `z`. -/
abbrev ch (h : Fin 16) (k : Fin 512) : Fin 8192 := ⟨h.val * 512 + k.val, by omega⟩
abbrev colU (h : Fin 16) (k : Fin 512) : Fin 24576 := ⟨h.val * 512 + k.val, by omega⟩
abbrev colV (h : Fin 16) (k : Fin 512) : Fin 24576 := ⟨8192 + (h.val * 512 + k.val), by omega⟩
abbrev colZ (h : Fin 16) (k : Fin 512) : Fin 24576 := ⟨16384 + (h.val * 512 + k.val), by omega⟩

end Cert.Gating

namespace Cert.GateAIdeal.Head

open Cert.GateAIdeal Cert.GateAIdeal.Gen Cert.Gating Cert.Reals

/-- The blocks hold the chunk's real numbers. -/
structure Ins.Holds (I : Ins) (C : Chunk) : Prop where
  u : ∀ r h k, I.p (ix2 r (colU h k)) = (C.u r h k : EReal)
  v : ∀ r h k, I.p (ix2 r (colV h k)) = (C.v r h k : EReal)
  z : ∀ r h k, I.p (ix2 r (colZ h k)) = (C.z r h k : EReal)
  dy : ∀ r h k, I.dy (ix2 r (ch h k)) = (C.dy r h k : EReal)
  g : ∀ h k, I.g (ix2 0 (ch h k)) = (C.g h k : EReal)
  b : ∀ h k, I.b (ix2 0 (ch h k)) = (C.b h k : EReal)
  w : ∀ h r s, I.w (ix3 h r s) = (C.w h r s : EReal)
  wt : ∀ h r s, I.wt (ix3 h s r) = (C.w h r s : EReal)
  bs : ∀ h r, I.bs (ix3 h r 0) = (C.bs h r : EReal)

/-- The values of the two named constants, and of the reciprocal of the number of channels. -/
theorem inv_sqrt2 : (Named.named κ "inv_sqrt2" 0x3F3504F3#32 : Ideal .f32) = (((Real.sqrt 2)⁻¹ : ℝ) : EReal) :=
  IdealRules.named_const.ideal_named_scalar _ _ _ _ rfl
theorem inv_sqrt_2pi : (Named.named κ "inv_sqrt_2pi" 0x3ECC422A#32 : Ideal .f32) = ((9465531 / 16777216 * (Real.sqrt 2)⁻¹ : ℝ) : EReal) :=
  IdealRules.named_const.ideal_named_scalar _ _ _ _ rfl
theorem word_inv_8192 : Ideal.ofBits .f32 0x39000000#32 = ((1 / 8192 : ℝ) : EReal) := by
  simp [Ideal.ofBits, Ideal.ieee, -EReal.coe_mul]; norm_num

variable {I : Ins} {C : Chunk} (H : I.Holds C) (r : Fin 128) (h : Fin 16) (k : Fin 512)
include H

theorem u_at : uAt I h (ix2 r k) = (C.u r h k : EReal) := by
  exact (View.ld_unit_apply_of _ _ _ _ _ _ (fun a => by fin_cases a <;> simp <;> omega)).trans (H.u r h k)
theorem v_at : vAt I h (ix2 r k) = (C.v r h k : EReal) := by
  exact (View.ld_unit_apply_of _ _ _ _ _ _ (fun a => by fin_cases a <;> simp <;> omega)).trans (H.v r h k)
theorem z_at : zAt I h (ix2 r k) = (C.z r h k : EReal) := by
  exact (View.ld_unit_apply_of _ _ _ _ _ _ (fun a => by fin_cases a <;> simp <;> omega)).trans (H.z r h k)
theorem dy_at : dyAt I h (ix2 r k) = (C.dy r h k : EReal) := by
  exact (View.ld_unit_apply_of _ _ _ _ _ _ (fun a => by fin_cases a <;> simp <;> omega)).trans (H.dy r h k)
theorem g_at : gAt I h (ix2 0 k) = (C.g h k : EReal) := by
  exact (View.ld_unit_apply_of _ _ _ _ _ _ (fun a => by fin_cases a <;> simp <;> omega)).trans (H.g h k)
theorem b_at : bAt I h (ix2 0 k) = (C.b h k : EReal) := by
  exact (View.ld_unit_apply_of _ _ _ _ _ _ (fun a => by fin_cases a <;> simp <;> omega)).trans (H.b h k)
theorem w_at (s : Fin 128) : wAt I h (ix3 0 r s) = (C.w h r s : EReal) := by
  exact (View.ld_unit_apply_of _ _ _ _ _ _ (fun a => by fin_cases a <;> simp <;> omega)).trans (H.w h r s)
theorem wt_at (s : Fin 128) : wtAt I h (ix3 0 s r) = (C.w h r s : EReal) := by
  exact (View.ld_unit_apply_of _ _ _ _ _ _ (fun a => by fin_cases a <;> simp <;> omega)).trans (H.wt h r s)
theorem bs_at : bsAt I h (ix3 0 r 0) = (C.bs h r : EReal) := by
  exact (View.ld_unit_apply_of _ _ _ _ _ _ (fun a => by fin_cases a <;> simp <;> omega)).trans (H.bs h r)

omit H in
/-- A sum over the channels of the first heads. -/
theorem tot_at {f : Fin 16 → FVec Ideal S128x512 .f32} {a : Fin 128 → Fin 16 → Fin 512 → ℝ}
    (hf : ∀ h r k, f h (ix2 r k) = (a r h k : EReal)) : ∀ (n : Nat) (hn : n ≤ 16),
    tot f n hn (ix2 r 0) = ((∑ h : Fin n, ∑ k, a r (h.castLE hn) k : ℝ) : EReal)
  | 0, _ => by
    rw [tot]
    pointwise [k0_pay56]
    simp
  | n + 1, hn => by
    rw [tot]
    pointwise
    rw [tot_at hf n, Fin.sum_univ_castSucc (n := n), EReal.coe_add]
    simp only [hf, coe_sum]
    rfl

omit H in
/-- A row's mean over all channels. -/
theorem avg_at {f : Fin 16 → FVec Ideal S128x512 .f32} {a : Fin 128 → Fin 16 → Fin 512 → ℝ}
    (hf : ∀ h r k, f h (ix2 r k) = (a r h k : EReal)) :
    tot f 16 (le_refl _) (ix2 r 0) * Ideal.ofBits .f32 0x39000000#32 = (Chunk.avg (a r) : EReal) := by
  rw [tot_at r hf, word_inv_8192, ← EReal.coe_mul]
  rfl

theorem vg_at : vg I h (ix2 r k) = (C.vg r h k : EReal) := by
  pointwise [vg, k0_pay6]
  rw [v_at H, inv_sqrt2, word_half]
  simp only [← EReal.coe_mul, FloatOps.erf, erf_coe, ← EReal.coe_one, ← EReal.coe_add]
  rfl

theorem ug_at : k0_pay64 (F := Ideal) (uAt I h) (ix2 r k) = (C.ug r h k : EReal) := by
  pointwise [k0_pay64, k0_pay63]
  rw [u_at H, inv_sqrt2, word_half]
  simp only [← EReal.coe_mul, FloatOps.erf, erf_coe, ← EReal.coe_one, ← EReal.coe_add]
  rfl

theorem mu_at : mu I (ix2 r 0) = (C.mean r : EReal) := by
  pointwise [mu]
  exact avg_at r (fun h r k => vg_at H r h k)

theorem rstd_at : rstd I (ix2 r 0) = (C.rs r : EReal) := by
  pointwise [rstd]
  rw [mu_at H, avg_at (a := fun r h k => C.vg r h k * C.vg r h k) r (fun h r k => by
    pointwise
    rw [vg_at H, ← EReal.coe_mul]), eps_coe, ← EReal.coe_mul, ← EReal.coe_sub, C.var_eq, ← EReal.coe_add, Ideal.rsqrt_coe,
    if_neg (C.var_pos r).not_gt, if_neg (C.var_pos r).ne']
  rfl

theorem vhat_at : vhat I h (ix2 r k) = (C.vh r h k : EReal) := by
  pointwise [vhat]
  rw [vg_at H, mu_at H, rstd_at H, ← EReal.coe_sub, ← EReal.coe_mul]
  rfl

theorem vn_at : vn I h (ix2 r k) = (C.vn r h k : EReal) := by
  pointwise [vn]
  rw [vhat_at H, g_at H, b_at H, ← EReal.coe_mul, ← EReal.coe_add]
  rfl

theorem mix_at : mix I h (ix2 r k) = (C.mix r h k : EReal) := by
  pointwise [mix]
  simp only [vn_at H, w_at H, ← EReal.coe_mul, ← coe_sum]
  rfl

/-- The mix with the head's bias. -/
theorem sv_at : k0_pay62 (mix I h) (bsAt I h) (ix2 r k) = (C.sv r h k : EReal) := by
  pointwise [k0_pay62]
  rw [mix_at H, bs_at H, ← EReal.coe_add]
  rfl

theorem dsgu_at : k0_pay68 (F := Ideal) (zAt I h) (dyAt I h) (ix2 r k) = (C.dsgu r h k : EReal) := by
  pointwise [k0_pay68, k0_pay67, k0_pay65, k0_pay66]
  rw [dy_at H, z_at H]
  rw [Ideal.logistic_coe]
  simp only [← EReal.coe_mul]
  rfl

theorem dz_at : dz I h (ix2 r k) = (C.dz r h k : EReal) := by
  pointwise [dz, k0_pay69]
  rw [ug_at H, sv_at H]
  pointwise [k0_pay67, k0_pay65, k0_pay66]
  rw [dy_at H, z_at H, Ideal.logistic_coe]
  simp only [← EReal.coe_mul, ← EReal.coe_one, ← EReal.coe_add, ← EReal.coe_sub]
  rfl

theorem du_at : du I h (ix2 r k) = (C.du r h k : EReal) := by
  pointwise [du, k0_pay73, k0_pay70, k0_pay71, k0_pay72, k0_pay63]
  rw [dsgu_at H, sv_at H, u_at H, inv_sqrt2, inv_sqrt_2pi, word_half, word_neg_half]
  simp only [FloatOps.erf, erf_coe, Ideal.exp_coe, ← EReal.coe_mul, ← EReal.coe_one, ← EReal.coe_add]
  rfl

theorem dsv_at : k0_pay74 (ug I h) (dsgu I h) (ix2 r k) = (C.dsv r h k : EReal) := by
  pointwise [k0_pay74]
  rw [show ug I h (ix2 r k) = _ from ug_at H r h k, show dsgu I h (ix2 r k) = _ from dsgu_at H r h k, ← EReal.coe_mul]
  rfl

theorem dvn_at : dvn I h (ix2 r k) = (C.dvn r h k : EReal) := by
  pointwise [dvn, k0_pay78, k0_pay75]
  simp only [dsv_at H, wt_at H, ← EReal.coe_mul, ← coe_sum]
  rfl

theorem dvhat_at : dvhat I h (ix2 r k) = (C.dvh r h k : EReal) := by
  pointwise [dvhat]
  rw [dvn_at H, g_at H, ← EReal.coe_mul]
  rfl

theorem m1_at : m1 I (ix2 r 0) = (C.m1 r : EReal) := by
  pointwise [m1]
  exact avg_at r (fun h r k => dvhat_at H r h k)

theorem m2_at : m2 I (ix2 r 0) = (C.m2 r : EReal) := by
  pointwise [m2]
  exact avg_at (a := fun r h k => C.dvh r h k * C.vh r h k) r (fun h r k => by
    pointwise
    rw [dvhat_at H, vhat_at H, ← EReal.coe_mul])

theorem dv_at : dv I h (ix2 r k) = (C.dv r h k : EReal) := by
  pointwise [dv, k0_pay1]
  rw [dvn_at H, g_at H, m1_at H, m2_at H, vhat_at H, rstd_at H, v_at H, inv_sqrt2, inv_sqrt_2pi, word_half, word_neg_half]
  simp only [FloatOps.erf, erf_coe, Ideal.exp_coe, ← EReal.coe_mul, ← EReal.coe_one, ← EReal.coe_add, ← EReal.coe_sub]
  rfl

theorem dw_at (acc : FVec Ideal S1x128x128 .f32) (s : Fin 128) :
    k0_pay77 (vn I h) (ug I h) (dsgu I h) acc (ix3 0 r s) = acc (ix3 0 r s) + (C.dw r h s : EReal) := by
  pointwise [k0_pay77, k0_pay75]
  simp only [dsv_at H, vn_at H, ← EReal.coe_mul, ← coe_sum]
  rfl

theorem dbs_at (acc : FVec Ideal S1x128x1 .f32) :
    k0_pay76 (ug I h) (dsgu I h) acc (ix3 0 r 0) = acc (ix3 0 r 0) + (C.dbs r h : EReal) := by
  pointwise [k0_pay76]
  simp only [dsv_at H, ← coe_sum]
  rfl

theorem dg_at (acc : FVec Ideal S1x512 .f32) :
    k0_pay80 (vhat I h) (dvn I h) acc (ix2 0 k) = acc (ix2 0 k) + (C.dg h k : EReal) := by
  pointwise [k0_pay80]
  simp only [dvn_at H, vhat_at H, ← EReal.coe_mul, ← coe_sum]
  rfl

theorem db_at (acc : FVec Ideal S1x512 .f32) :
    k0_pay81 (dvn I h) acc (ix2 0 k) = acc (ix2 0 k) + (C.db h k : EReal) := by
  pointwise [k0_pay81]
  simp only [dvn_at H, ← coe_sum]
  rfl

end Cert.GateAIdeal.Head

end
-- ==== Proof.GateAStores.lean ====
/- What a grid point of the mixer A gate's backward call leaves in its five results: the pieces of the sixteen heads. -/
module

public import proofs.«01_k».proof.Proof.GateAHead
public import Idealize.ShloMosaic.Lib.Pipeline.ReadBack

@[expose] public section

set_option maxRecDepth 16384

noncomputable section

open Idealize.ShloMosaic Idealize.ShloMosaic.TcCoe Idealize.SL.Sem

namespace Cert.GateAIdeal.Whole

open Cert.GateAIdeal Cert.GateAIdeal.Gen Cert.GateAIdeal.Head

variable (m : (ℓ : Loc nD τ sig) → Buf (Elt Ideal) ℓ) (c : Dev nD) (t : Fin cfg0.N)

/-- The blocks a point reads. -/
abbrev ins : Ins := ⟨iblk m c 0 t, iblk m c 1 t, iblk m c 2 t, iblk m c 3 t, iblk m c 4 t, iblk m c 5 t, iblk m c 6 t⟩

/-- The first points' pieces of the projection's gradient. -/
theorem dp_A (h : t.val % 32 = 0) (y : S128x24576.Idx) :
    (outsAt0 m c t.val t.isLt).1 y = View.canon (dpPieces (ins m c t)) y := by
  rw [outsAt0_A m c t h]
  frame_open
  simp (disch := decide) only [↓ View.readCov_skip, ↓ View.readCov_cons_toLoadRect, ↓ View.readCov_fill]
  frame_out
  sl_kernel_rfl

/-- The later points' pieces of the projection's gradient. -/
theorem dp_B (h : ¬t.val % 32 = 0) (y : S128x24576.Idx) :
    (outsAt0 m c t.val t.isLt).1 y = View.canon (dpPieces (ins m c t)) y := by
  rw [outsAt0_B m c t h]
  frame_open
  simp (disch := decide) only [↓ View.readCov_skip, ↓ View.readCov_cons_toLoadRect, ↓ View.readCov_fill]
  frame_out
  sl_kernel_rfl

/-- The first points' pieces of the weights' gradient. -/
theorem dw_A (h : t.val % 32 = 0) (y : S16x128x128.Idx) :
    (outsAt0 m c t.val t.isLt).2.1 y = View.canon (dwPieces (ins m c t) k0_pay2 ++ [⟨Rect.unit ![0, 0, 0] ![16, 128, 128] (by decide), k0_pay2 (F := Ideal)⟩]) y := by
  rw [outsAt0_A m c t h]
  frame_open
  simp (disch := decide) only [↓ View.readCov_skip, ↓ View.readCov_cons_toLoadRect, ↓ View.readCov_fill]
  frame_out
  sl_kernel_rfl

/-- The later points' pieces of the weights' gradient. -/
theorem dw_B (h : ¬t.val % 32 = 0) (y : S16x128x128.Idx) :
    (outsAt0 m c t.val t.isLt).2.1 y = View.canon (dwPieces (ins m c t) (outsAt0 m c (t.val - 1) (by omega)).2.1) y := by
  rw [outsAt0_B m c t h]
  frame_open
  simp (disch := decide) only [↓ View.readCov_skip, ↓ View.readCov_cons_toLoadRect, ↓ View.readCov_fill]
  frame_out
  sl_kernel_rfl

/-- The first points' pieces of the head biases' gradient. -/
theorem dbs_A (h : t.val % 32 = 0) (y : S16x128x1.Idx) :
    (outsAt0 m c t.val t.isLt).2.2.1 y = View.canon (dbsPieces (ins m c t) k0_pay3 ++ [⟨Rect.unit ![0, 0, 0] ![16, 128, 1] (by decide), k0_pay3 (F := Ideal)⟩]) y := by
  rw [outsAt0_A m c t h]
  frame_open
  simp (disch := decide) only [↓ View.readCov_skip, ↓ View.readCov_cons_toLoadRect, ↓ View.readCov_fill]
  frame_out
  sl_kernel_rfl

/-- The later points' pieces of the head biases' gradient. -/
theorem dbs_B (h : ¬t.val % 32 = 0) (y : S16x128x1.Idx) :
    (outsAt0 m c t.val t.isLt).2.2.1 y = View.canon (dbsPieces (ins m c t) (outsAt0 m c (t.val - 1) (by omega)).2.2.1) y := by
  rw [outsAt0_B m c t h]
  frame_open
  simp (disch := decide) only [↓ View.readCov_skip, ↓ View.readCov_cons_toLoadRect, ↓ View.readCov_fill]
  frame_out
  sl_kernel_rfl

/-- The first points' pieces of the layer norm weight's gradient. -/
theorem dg_A (h : t.val % 32 = 0) (y : S1x8192.Idx) :
    (outsAt0 m c t.val t.isLt).2.2.2.1 y = View.canon (dgPieces (ins m c t) k0_pay4 ++ [⟨Rect.unit ![0, 0] ![1, 8192] (by decide), k0_pay4 (F := Ideal)⟩]) y := by
  rw [outsAt0_A m c t h]
  frame_open
  simp (disch := decide) only [↓ View.readCov_skip, ↓ View.readCov_cons_toLoadRect, ↓ View.readCov_fill]
  frame_out
  sl_kernel_rfl

/-- The later points' pieces of the layer norm weight's gradient. -/
theorem dg_B (h : ¬t.val % 32 = 0) (y : S1x8192.Idx) :
    (outsAt0 m c t.val t.isLt).2.2.2.1 y = View.canon (dgPieces (ins m c t) (outsAt0 m c (t.val - 1) (by omega)).2.2.2.1) y := by
  rw [outsAt0_B m c t h]
  frame_open
  simp (disch := decide) only [↓ View.readCov_skip, ↓ View.readCov_cons_toLoadRect, ↓ View.readCov_fill]
  frame_out
  sl_kernel_rfl

/-- The first points' pieces of the layer norm bias's gradient. -/
theorem db_A (h : t.val % 32 = 0) (y : S1x8192.Idx) :
    (outsAt0 m c t.val t.isLt).2.2.2.2 y = View.canon (dbPieces (ins m c t) k0_pay5 ++ [⟨Rect.unit ![0, 0] ![1, 8192] (by decide), k0_pay5 (F := Ideal)⟩]) y := by
  rw [outsAt0_A m c t h]
  frame_open
  simp (disch := decide) only [↓ View.readCov_skip, ↓ View.readCov_cons_toLoadRect, ↓ View.readCov_fill]
  frame_out
  sl_kernel_rfl

/-- The later points' pieces of the layer norm bias's gradient. -/
theorem db_B (h : ¬t.val % 32 = 0) (y : S1x8192.Idx) :
    (outsAt0 m c t.val t.isLt).2.2.2.2 y = View.canon (dbPieces (ins m c t) (outsAt0 m c (t.val - 1) (by omega)).2.2.2.2) y := by
  rw [outsAt0_B m c t h]
  frame_open
  simp (disch := decide) only [↓ View.readCov_skip, ↓ View.readCov_cons_toLoadRect, ↓ View.readCov_fill]
  frame_out
  sl_kernel_rfl

end Cert.GateAIdeal.Whole

end
-- ==== Proof.GateARefBlock.lean ====
/- Mixer A's gate, the reference's lines one by one over real inputs: every line's entry is the real number that the
   chunk's formulas give. -/
module

public import proofs.«01_k».proof.Proof.GateABlock
public import proofs.«01_k».proof.Proof.Sums
public import proofs.«01_k».proof.Proof.Gen.GateARefIdeal.Read

@[expose] public section

set_option maxRecDepth 16384

noncomputable section

open Idealize.ShloMosaic Idealize.ShloMosaic.TcCoe Idealize.SL.Sem

namespace Cert.Gating

/-- Row `r` of chunk `n` of a batch entry, and that row of the flattened batch. -/
abbrev pos (n : Fin 16) (r : Fin 128) : Fin 2048 := ⟨n.val * 128 + r.val, by omega⟩
abbrev rowAt (b : Fin 2) (n : Fin 16) (r : Fin 128) : Fin 4096 := ⟨b.val * 2048 + (n.val * 128 + r.val), by omega⟩

/-- A causal weight: zero above the diagonal. -/
def causal (w : FVec Ideal ⟨4, ![1, 16, 128, 128]⟩ .f32) (h : Fin 16) (t s : Fin 128) : EReal :=
  if s ≤ t then w (ix4 0 h t s) else 0

/-- A sum over all channels, head by head; over a batch entry's rows, chunk by chunk. -/
theorem sum_channels {M : Type*} [AddCommMonoid M] (f : Fin 8192 → M) : ∑ e, f e = ∑ h, ∑ k, f (ch h k) := by
  rw [← Fintype.sum_prod_type' (fun h k => f (ch h k))]
  exact (Fintype.sum_equiv (finProdFinEquiv (m := 16) (n := 512)) _ _ fun p => congrArg f (Fin.ext (by
    simp [finProdFinEquiv]; omega))).symm
theorem sum_rows {M : Type*} [AddCommMonoid M] (f : Fin 2048 → M) : ∑ q, f q = ∑ n, ∑ r, f (pos n r) := by
  rw [← Fintype.sum_prod_type' (fun n r => f (pos n r))]
  exact (Fintype.sum_equiv (finProdFinEquiv (m := 16) (n := 128)) _ _ fun p => congrArg f (Fin.ext (by
    simp [finProdFinEquiv]; omega))).symm

theorem chunk_of (n : Fin 16) (r : Fin 128) (hb : (n.val * 128 + r.val) / 128 < 16) : (⟨(n.val * 128 + r.val) / 128, hb⟩ : Fin 16) = n :=
  Fin.ext (by simp only []; omega)
theorem row_of (n : Fin 16) (r : Fin 128) (hb : (n.val * 128 + r.val) % 128 < 128) : (⟨(n.val * 128 + r.val) % 128, hb⟩ : Fin 128) = r :=
  Fin.ext (by simp only []; omega)
theorem head_of (h : Fin 16) (k : Fin 512) (hb : (h.val * 512 + k.val) / 512 < 16) : (⟨(h.val * 512 + k.val) / 512, hb⟩ : Fin 16) = h :=
  Fin.ext (by simp only []; omega)
theorem channel_of (h : Fin 16) (k : Fin 512) (hb : (h.val * 512 + k.val) % 512 < 512) : (⟨(h.val * 512 + k.val) % 512, hb⟩ : Fin 512) = k :=
  Fin.ext (by simp only []; omega)

theorem word_8192 : Ideal.ofBits .f32 0x46000000#32 = ((8192 : ℝ) : EReal) := by
  simp [Ideal.ofBits, Ideal.ieee, -EReal.coe_mul]; norm_num

/-- A real number divided by 8192. -/
theorem div_8192 (x : ℝ) : Ideal.div (x : EReal) (Ideal.ofBits .f32 0x46000000#32) = ((x * (1 / 8192) : ℝ) : EReal) := by
  rw [word_8192, Ideal.div_coe (by norm_num), ← EReal.coe_mul]

end Cert.Gating

namespace Cert.GateARefIdeal.Entry

open Cert.GateARefIdeal Cert.GateARefIdeal.Read Cert.Gating Cert.Reals

/-- The arguments hold the chunks' real numbers. -/
structure Holds (x0 : FVec Ideal S4096x24576 .bf16) (x1 : FVec Ideal S4096x8192 .bf16) (x2 x3 : FVec Ideal S1x8192 .f32)
    (x4 : FVec Ideal S1x16x128x128 .f32) (x5 : FVec Ideal S1x16x128 .f32) (C : Fin 2 → Fin 16 → Chunk) : Prop where
  u : ∀ b n r h k, x0 (ix2 (rowAt b n r) (colU h k)) = ((C b n).u r h k : EReal)
  v : ∀ b n r h k, x0 (ix2 (rowAt b n r) (colV h k)) = ((C b n).v r h k : EReal)
  z : ∀ b n r h k, x0 (ix2 (rowAt b n r) (colZ h k)) = ((C b n).z r h k : EReal)
  dy : ∀ b n r h k, x1 (ix2 (rowAt b n r) (ch h k)) = ((C b n).dy r h k : EReal)
  g : ∀ b n h k, x2 (ix2 0 (ch h k)) = ((C b n).g h k : EReal)
  b : ∀ b n h k, x3 (ix2 0 (ch h k)) = ((C b n).b h k : EReal)
  w : ∀ b n h t s, causal x4 h t s = ((C b n).w h t s : EReal)
  bs : ∀ b n h r, x5 (ix3 0 h r) = ((C b n).bs h r : EReal)

/-- The root of one half. -/
theorem sqrt_half : Ideal.sqrt (Ideal.ofBits .f32 0x3F000000#32) = (((Real.sqrt 2)⁻¹ : ℝ) : EReal) := by
  rw [word_half, Ideal.sqrt_coe, if_neg (by norm_num), ← Real.sqrt_inv, one_div]

/-- The comparison that the causal mask makes. -/
theorem mask : ∀ r s : Fin 128, IntOp.cmpi .sge (IntOp.addi (BitVec.ofNat 32 r.val) 0#32) (BitVec.ofNat 32 s.val)
    = if s ≤ r then 1#1 else 0#1 := by
  decide +kernel

variable {x0 : FVec Ideal S4096x24576 .bf16} {x1 : FVec Ideal S4096x8192 .bf16} {x2 x3 : FVec Ideal S1x8192 .f32}
  {x4 : FVec Ideal S1x16x128x128 .f32} {x5 : FVec Ideal S1x16x128 .f32} {C : Fin 2 → Fin 16 → Chunk}
  (H : Holds x0 x1 x2 x3 x4 x5 C) (b : Fin 2) (n : Fin 16) (r s : Fin 128) (h : Fin 16) (k : Fin 512)
include H

theorem u_at : val_main_v9 (F := Ideal) x0 (ix3 b (pos n r) (ch h k)) = ((C b n).u r h k : EReal) := by
  refine Eq.trans ?_ (H.u b n r h k)
  pointwise [val_main_v9, val_main_v1, val_main_v0]
theorem v_at : val_main_v10 (F := Ideal) x0 (ix3 b (pos n r) (ch h k)) = ((C b n).v r h k : EReal) := by
  refine Eq.trans ?_ (H.v b n r h k)
  pointwise [val_main_v10, val_main_v1, val_main_v0]
theorem z_at : val_main_v11 (F := Ideal) x0 (ix3 b (pos n r) (ch h k)) = ((C b n).z r h k : EReal) := by
  refine Eq.trans ?_ (H.z b n r h k)
  pointwise [val_main_v11, val_main_v1, val_main_v0]
theorem dy_at : val_main_v3 (F := Ideal) x1 (ix3 b (pos n r) (ch h k)) = ((C b n).dy r h k : EReal) := by
  refine Eq.trans ?_ (H.dy b n r h k)
  pointwise [val_main_v3, val_main_v2]

/-- The causal weights. -/
theorem w_at : val_main_v5 (F := Ideal) x4 (ix3 h r s) = ((C b n).w h r s : EReal) := by
  refine Eq.trans ?_ (H.w b n h r s)
  pointwise [val_main_v5, val_main_v4, val_main_call0_v5, val_main_call0_v6, val_main_call0_v4, val_main_call0_v3, val_main_call0_v2,
    val_main_call0_v1, val_main_call0_v0, val_main_call0_c, val_main_call0_cst]
  rw [mask, causal]
  split <;> rfl

/-- The gelu of `v` and of `u`. -/
theorem vg_at : val_main_v33 (F := Ideal) x0 (ix3 b (pos n r) (ch h k)) = ((C b n).vg r h k : EReal) := by
  pointwise [val_main_v33, val_main_v29, val_main_v28, val_main_v27, val_main_v26, val_main_v25, val_main_v24, val_main_v23, val_main_cst_1, val_main_cst_2]
  rw [v_at H, sqrt_half, word_half]
  simp only [← EReal.coe_mul, ← EReal.coe_neg, neg_mul, erfc_neg_coe]
  rfl
theorem ug_at : val_main_v22 (F := Ideal) x0 (ix3 b (pos n r) (ch h k)) = ((C b n).ug r h k : EReal) := by
  pointwise [val_main_v22, val_main_v13, val_main_v18, val_main_v17, val_main_v16, val_main_v15, val_main_v14, val_main_v12, val_main_cst, val_main_cst_0]
  rw [u_at H, sqrt_half, word_half]
  simp only [← EReal.coe_mul, ← EReal.coe_neg, neg_mul, erfc_neg_coe]
  rfl

/-- The layer norm: the mean, the centred row, the variance, the factor, the normalised row, and with weight and bias. -/
theorem mean_at : val_main_v37 (F := Ideal) x0 (ix3 b (pos n r) 0) = ((C b n).mean r : EReal) := by
  pointwise [val_main_v37, val_main_v36, val_main_v35, val_main_v34, val_main_cst_3, val_main_cst_4]
  rw [sum_channels]
  simp only [vg_at H, ← coe_sum]
  rw [div_8192]
  rfl
theorem xc_at : val_main_v39 (F := Ideal) x0 (ix3 b (pos n r) (ch h k)) = ((C b n).xc r h k : EReal) := by
  pointwise [val_main_v39, val_main_v38]
  rw [vg_at H, mean_at H, ← EReal.coe_sub]
  rfl
theorem var_at : val_main_v46 (F := Ideal) x0 (ix3 b (pos n r) 0) = (((C b n).var r + eps : ℝ) : EReal) := by
  pointwise [val_main_v46, val_main_v45, val_main_v44, val_main_v43, val_main_v42, val_main_v41, val_main_v40, val_main_cst_5, val_main_cst_6, val_main_cst_7]
  rw [sum_channels]
  simp only [xc_at H, ← EReal.coe_mul, ← coe_sum]
  rw [div_8192, eps_coe, ← EReal.coe_add]
  rfl
theorem rs_at : val_main_v47 (F := Ideal) x0 (ix3 b (pos n r) 0) = ((C b n).rs r : EReal) := by
  pointwise [val_main_v47]
  rw [var_at H, Ideal.rsqrt_coe, if_neg ((C b n).var_pos r).not_gt, if_neg ((C b n).var_pos r).ne']
  rfl
theorem vh_at : val_main_v52 (F := Ideal) x0 (ix3 b (pos n r) (ch h k)) = ((C b n).vh r h k : EReal) := by
  pointwise [val_main_v52, val_main_v51]
  rw [xc_at H, rs_at H, ← EReal.coe_mul]
  rfl
theorem vn_at : val_main_v58 (F := Ideal) x0 x2 x3 (ix3 b (pos n r) (ch h k)) = ((C b n).vn r h k : EReal) := by
  pointwise [val_main_v58, val_main_v57, val_main_v56, val_main_v55, val_main_v54, val_main_v53, val_main_v6, val_main_v7]
  rw [vh_at H, H.g b n, H.b b n, ← EReal.coe_mul, ← EReal.coe_add]
  rfl

/-- The normalised rows with weight and bias, head by head. -/
theorem vn_head : val_main_v59 (F := Ideal) x0 x2 x3 (ix5 b n r h k) = ((C b n).vn r h k : EReal) := by
  refine Eq.trans ?_ (vn_at H b n r h k)
  pointwise [val_main_v59]

/-- The causal mix with its bias. -/
theorem sv_at : val_main_v67 (F := Ideal) x0 x2 x3 x4 x5 (ix3 b (pos n r) (ch h k)) = ((C b n).sv r h k : EReal) := by
  pointwise [val_main_v67, val_main_v66, val_main_v65, val_main_v64, val_main_v63, val_main_v62, val_main_v61, val_main_v60, val_main_v8]
  simp only [chunk_of, row_of, head_of, channel_of]
  simp only [vn_head H, w_at H b n, H.bs b n, ← EReal.coe_mul, ← coe_sum, ← EReal.coe_add]
  rw [Chunk.sv, Chunk.mix]
  simp only [mul_comm]

/-- The logistic of `z`, the cotangent of what it is multiplied with, and the gradient of `z`. -/
theorem sig_at : val_main_v69_2 (F := Ideal) x0 (ix3 b (pos n r) (ch h k)) = (Gating.sig ((C b n).z r h k) : EReal) := by
  pointwise [val_main_v69_2, val_main_call1_v4, val_main_call1_v3, val_main_call1_v2, val_main_call1_v1, val_main_call1_v0,
    val_main_call1_cst, val_main_call1_cst_0]
  rw [z_at H, ← EReal.coe_neg, Ideal.exp_coe, ← EReal.coe_one, ← EReal.coe_add, Ideal.div_coe (by positivity), ← EReal.coe_mul]
  rw [Gating.sig, one_mul, one_div]
theorem dsgu_at : val_main_v72 (F := Ideal) x0 x1 (ix3 b (pos n r) (ch h k)) = ((C b n).dsgu r h k : EReal) := by
  pointwise [val_main_v72, val_main_v69_0]
  rw [sig_at H, z_at H, dy_at H, ← EReal.coe_mul, ← EReal.coe_mul]
  rfl
theorem dz_at : val_main_v73 (F := Ideal) x0 x1 x2 x3 x4 x5 (ix3 b (pos n r) (ch h k)) = ((C b n).dz r h k : EReal) := by
  pointwise [val_main_v73, val_main_call2_v2, val_main_call2_v1, val_main_call2_v0, val_main_v71, val_main_v68, val_main_v69_1,
    val_main_call1_v7, val_main_call1_v6, val_main_call1_cst_1]
  rw [sig_at H, z_at H, dy_at H, ug_at H, sv_at H]
  simp only [← EReal.coe_mul, ← EReal.coe_one, ← EReal.coe_sub, ← EReal.coe_add]
  rw [Chunk.dz]
  congr 1
  ring

/-- The cotangents of the gelu of `u` and of the mix with its bias, and the gradient of the bias. -/
theorem dug_at : val_main_v75 (F := Ideal) x0 x1 x2 x3 x4 x5 (ix3 b (pos n r) (ch h k)) = ((C b n).dsgu r h k * (C b n).sv r h k : ℝ) := by
  pointwise [val_main_v75]
  rw [dsgu_at H, sv_at H, ← EReal.coe_mul]
theorem dsv_at : val_main_v74 (F := Ideal) x0 x1 (ix3 b (pos n r) (ch h k)) = ((C b n).dsv r h k : EReal) := by
  pointwise [val_main_v74]
  rw [dsgu_at H, ug_at H, ← EReal.coe_mul, Chunk.dsv, mul_comm]
theorem dsv_head : val_main_v76 (F := Ideal) x0 x1 (ix5 b n r h k) = ((C b n).dsv r h k : EReal) := by
  pointwise [val_main_v76]
  exact dsv_at H b n r h k
theorem dbs_at (u : Fin 1) : val_main_v144 (F := Ideal) x0 x1 (ix3 h r u) = ∑ b, ∑ n, ((C b n).dbs r h : EReal) := by
  pointwise [val_main_v144, val_main_v82, val_main_v81, val_main_v80, val_main_v79, val_main_v78, val_main_v77,
    val_main_cst_9, val_main_cst_10, val_main_cst_11, Cert.Sums.reduceAdd_0_1_4]
  simp only [dsv_head H, Chunk.dbs, coe_sum, Fin.sum_univ_one]

/-- The contraction of the weights' gradient runs over the batch, the chunks and the channels. -/
abbrev dims := dot_S16x2x16x512x128_S2x16x128x16x512_S16x128x128_123_014_4_2_0_3

/-- The index of the contraction with the given coordinates. -/
def at3 (b : Fin 2) (n : Fin 16) (k : Fin 512) : dims.contr.Idx :=
  show ∀ p : Fin 3, Fin (dims.contr.size p) from fun p => match p with
    | ⟨0, _⟩ => b
    | ⟨1, _⟩ => n
    | ⟨2, _⟩ => k

omit H in
theorem sum_contr (f : dims.contr.Idx → EReal) : ∑ i, f i = ∑ b : Fin 2, ∑ n : Fin 16, ∑ k : Fin 512, f (at3 b n k) := by
  rw [← Fintype.sum_equiv ⟨fun p : Fin 2 × Fin 16 × Fin 512 => at3 p.1 p.2.1 p.2.2,
    fun i => ((i (0 : Fin 3) : Fin 2), (i (1 : Fin 3) : Fin 16), (i (2 : Fin 3) : Fin 512)), fun _ => rfl,
    fun i => funext (show ∀ p : Fin 3, _ from fun p => match p with | ⟨0, _⟩ => rfl | ⟨1, _⟩ => rfl | ⟨2, _⟩ => rfl)⟩
    (fun p => f (at3 p.1 p.2.1 p.2.2)) f fun _ => rfl]
  simp only [Fintype.sum_prod_type]

/-- The gradient of the causal weights. -/
theorem dw_at : val_main_v84 (F := Ideal) x0 x1 x2 x3 (ix3 h r s) = ∑ b, ∑ n, ((C b n).dw r h s : EReal) := by
  rw [val_main_v84]
  refine (Ideal.dotGeneral_apply _ _ _ _ _ _).trans ((sum_contr _).trans ?_)
  refine Finset.sum_congr rfl fun b _ => Finset.sum_congr rfl fun n _ => ?_
  rw [Chunk.dw, coe_sum]
  refine Finset.sum_congr rfl fun k _ => ?_
  rw [show dims.lhsIdx (ix3 h r s) (at3 b n k) = ix5 h b n k r from funext fun p => by fin_cases p <;> rfl,
    show dims.rhsIdx (ix3 h r s) (at3 b n k) = ix5 b n s h k from funext fun p => by fin_cases p <;> rfl]
  pointwise [val_main_v83]
  rw [dsv_head H, vn_head H, ← EReal.coe_mul]

/-- The cotangent of the normalised rows with weight and bias, and the gradients of the two. -/
theorem dvn_at : val_main_v87 (F := Ideal) x0 x1 x4 (ix3 b (pos n r) (ch h k)) = ((C b n).dvn r h k : EReal) := by
  pointwise [val_main_v87, val_main_v86, val_main_v85, val_main_v83]
  simp only [chunk_of, row_of, head_of, channel_of, dsv_head H, w_at H b n, ← EReal.coe_mul, ← coe_sum]
  rw [Chunk.dvn]
  simp only [mul_comm]
theorem db_at (u : Fin 1) : val_main_v146 (F := Ideal) x0 x1 x4 (ix2 u (ch h k)) = ∑ b, ∑ n, ((C b n).db h k : EReal) := by
  pointwise [val_main_v146, val_main_v90, val_main_v89, val_main_v88, val_main_cst_12, val_main_cst_13, Cert.Sums.reduceAdd_leading_two]
  simp only [sum_rows, dvn_at H, Chunk.db, coe_sum, Fin.sum_univ_one]
theorem dg_at (u : Fin 1) : val_main_v145 (F := Ideal) x0 x1 x4 (ix2 u (ch h k)) = ∑ b, ∑ n, ((C b n).dg h k : EReal) := by
  pointwise [val_main_v145, val_main_v96, val_main_v93, val_main_v92, val_main_v91, val_main_cst_14, val_main_cst_15, Cert.Sums.reduceAdd_leading_two]
  simp only [sum_rows, dvn_at H, vh_at H, Chunk.dg, coe_sum, EReal.coe_mul, Fin.sum_univ_one, mul_comm]

/-- The derivative by the normalised rows, by the centred rows, and by the gelu of `v`. -/
theorem dvh_at : val_main_v95 (F := Ideal) x0 x1 x2 x4 (ix3 b (pos n r) (ch h k)) = ((C b n).dvh r h k : EReal) := by
  pointwise [val_main_v95, val_main_v94, val_main_v53, val_main_v6]
  rw [dvn_at H, H.g b n, ← EReal.coe_mul]
  rfl
theorem slope_at : val_main_v104 (F := Ideal) x0 x1 x2 x4 (ix3 b (pos n r) 0) = ((C b n).slope r : EReal) := by
  pointwise [val_main_v104, val_main_v103, val_main_v102, val_main_v99, val_main_v98, val_main_v97, val_main_v50, val_main_v49,
    val_main_v48, val_main_cst_8, val_main_cst_16, val_main_cst_17]
  rw [sum_channels]
  simp only [xc_at H, dvh_at H, ← EReal.coe_mul, ← coe_sum]
  rw [rs_at H, var_at H, Ideal.div_coe ((C b n).var_pos r).ne', word_neg_half]
  simp only [← EReal.coe_mul]
  rw [div_8192]
  rfl
theorem dxc_at : val_main_v110 (F := Ideal) x0 x1 x2 x4 (ix3 b (pos n r) (ch h k)) = ((C b n).dxc r h k : EReal) := by
  pointwise [val_main_v110, val_main_v109, val_main_v108, val_main_v107, val_main_v106, val_main_v105, val_main_v101, val_main_v100,
    val_main_cst_18]
  simp only [Fin.sum_univ_one]
  rw [slope_at H, dvh_at H, xc_at H, rs_at H]
  simp only [← EReal.coe_mul, ← EReal.coe_add]
  rfl
theorem dvg_at : val_main_v118 (F := Ideal) x0 x1 x2 x4 (ix3 b (pos n r) (ch h k)) = ((C b n).dvg r h k : EReal) := by
  pointwise [val_main_v118, val_main_v117, val_main_v116, val_main_v115, val_main_v114, val_main_v113, val_main_v112, val_main_v111,
    val_main_cst_19, val_main_cst_20, val_main_cst_21]
  rw [sum_channels]
  simp only [dxc_at H, ← EReal.coe_neg, ← coe_sum, Fin.sum_univ_one]
  rw [div_8192, ← EReal.coe_add, ← Chunk.dvg_eq]
  rfl

omit H in
/-- The word that the derivative of the error function is written with. -/
theorem word_erf : Ideal.ofBits .f32 0xBF906EBB#32 = ((-(9465531 / 8388608) : ℝ) : EReal) := by
  simp [Ideal.ofBits, Ideal.ieee, -EReal.coe_mul, -EReal.coe_neg]; norm_num

/-- The gradients of `v` and of `u`. -/
theorem dv_at : val_main_v129 (F := Ideal) x0 x1 x2 x4 (ix3 b (pos n r) (ch h k)) = ((C b n).dv r h k : EReal) := by
  pointwise [val_main_v129, val_main_v128, val_main_v127, val_main_v126, val_main_v125, val_main_v124, val_main_v123, val_main_v122, val_main_v121,
    val_main_v120, val_main_v119, val_main_v32, val_main_v31, val_main_v30, val_main_v29, val_main_v28, val_main_v27, val_main_v26,
    val_main_v25, val_main_v24, val_main_v23, val_main_cst_1, val_main_cst_2, val_main_cst_22, val_main_cst_23]
  rw [dvg_at H, v_at H, sqrt_half, word_half, word_erf]
  simp only [← EReal.coe_mul, ← EReal.coe_neg, neg_mul, erfc_neg_coe, Ideal.exp_coe, ← EReal.coe_add]
  rw [Chunk.dv, ← geluGrad_eq]
  simp only [neg_mul]
theorem du_at : val_main_v140 (F := Ideal) x0 x1 x2 x3 x4 x5 (ix3 b (pos n r) (ch h k)) = ((C b n).du r h k : EReal) := by
  pointwise [val_main_v140, val_main_v139, val_main_v138, val_main_v137, val_main_v136, val_main_v135, val_main_v134, val_main_v133, val_main_v132,
    val_main_v131, val_main_v130, val_main_v21, val_main_v20, val_main_v19, val_main_v18, val_main_v17, val_main_v16, val_main_v15,
    val_main_v14, val_main_v13, val_main_v12, val_main_cst, val_main_cst_0, val_main_cst_24, val_main_cst_25]
  rw [dug_at H, u_at H, sqrt_half, word_half, word_erf]
  simp only [← EReal.coe_mul, ← EReal.coe_neg, neg_mul, erfc_neg_coe, Ideal.exp_coe, ← EReal.coe_add]
  rw [Chunk.du, ← geluGrad_eq]
  simp only [neg_mul]

omit H in
/-- Equal coordinates name the same entry. -/
theorem at_congr {n0 n1 n2 : Nat} (f : (⟨3, ![n0, n1, n2]⟩ : Shape).Idx → EReal) {a a' : Fin n0} {b b' : Fin n1} {c c' : Fin n2}
    (ha : a.val = a'.val) (hb : b.val = b'.val) (hc : c.val = c'.val) : f (ix3 a b c) = f (ix3 a' b' c') := by
  rw [Fin.ext ha, Fin.ext hb, Fin.ext hc]

/-- The projection's gradient. -/
theorem dp_u : val_main_v143 (F := Ideal) x0 x1 x2 x3 x4 x5 (ix2 (rowAt b n r) (colU h k)) = ((C b n).du r h k : EReal) := by
  refine Eq.trans ?_ (du_at H b n r h k)
  pointwise [val_main_v143, val_main_v142, val_main_v141]
  rw [dif_pos (by omega)]
  exact at_congr (val_main_v140 (F := Ideal) x0 x1 x2 x3 x4 x5) (by dsimp only; omega)
    (by dsimp only; omega) rfl
theorem dp_v : val_main_v143 (F := Ideal) x0 x1 x2 x3 x4 x5 (ix2 (rowAt b n r) (colV h k)) = ((C b n).dv r h k : EReal) := by
  refine Eq.trans ?_ (dv_at H b n r h k)
  pointwise [val_main_v143, val_main_v142, val_main_v141]
  rw [dif_pos (by omega)]
  exact at_congr (val_main_v129 (F := Ideal) x0 x1 x2 x4) (by dsimp only; omega)
    (by dsimp only; omega) rfl
theorem dp_z : val_main_v143 (F := Ideal) x0 x1 x2 x3 x4 x5 (ix2 (rowAt b n r) (colZ h k)) = ((C b n).dz r h k : EReal) := by
  refine Eq.trans ?_ (dz_at H b n r h k)
  pointwise [val_main_v143, val_main_v142, val_main_v141]
  rw [dif_neg (by omega), dif_neg (by omega)]
  exact at_congr (val_main_v73 (F := Ideal) x0 x1 x2 x3 x4 x5) (by dsimp only; omega)
    (by dsimp only; omega) (by dsimp only; omega)

end Cert.GateARefIdeal.Entry

end
-- ==== Proof.GateA.lean ====
/- The mixer A gate's backward call: what the five result arrays hold after the run. -/
module

public import proofs.«01_k».proof.Proof.GateABlock
public import proofs.«01_k».proof.Proof.GateAStores
public import proofs.«01_k».proof.Proof.GateARefBlock

@[expose] public section

set_option maxRecDepth 16384

noncomputable section

open Idealize.ShloMosaic Idealize.ShloMosaic.TcCoe Idealize.SL.Sem
open Idealize.ShloMosaic.Pipeline (Dat)

namespace Cert.GateAIdeal.Whole

open Cert.GateAIdeal Cert.GateAIdeal.Gen Cert.GateAIdeal.Head Cert.Gating Cert.Reals

/-! ## Pieces read back -/

/-- Where a stretch of 512 columns lies. -/
theorem emb_cols {R C w : Nat} {o : Nat} (inb) (x : (⟨2, ![R, w]⟩ : Shape).Idx) (e : Fin C) (he : e.val = o + (x 1).val) :
    (Rect.unit (s := ⟨2, ![R, C]⟩) ![0, o] ![R, w] inb).emb x = ix2 (x 0) e :=
  funext fun a => Fin.ext <| by
    refine (Rect.idx_unit_val _ _ inb x a).trans ?_
    match a with
    | ⟨0, _⟩ => exact Nat.zero_add _
    | ⟨1, _⟩ => exact he.symm

/-- Where a member of a stack lies. -/
theorem emb_member {N R C : Nat} (h : Fin N) (inb) (r : Fin R) (s : Fin C) :
    (Rect.unit (s := ⟨3, ![N, R, C]⟩) ![h.val, 0, 0] ![1, R, C] inb).emb (ix3 0 r s) = ix3 h r s :=
  funext fun a => Fin.ext <| by
    refine (Rect.idx_unit_val _ _ inb _ a).trans ?_
    match a with
    | ⟨0, _⟩ => rfl
    | ⟨1, _⟩ => exact Nat.zero_add _
    | ⟨2, _⟩ => exact Nat.zero_add _

/-- A stack's members, each adding to what it held. -/
theorem members_at {C : Nat} (pay : Fin 16 → FVec Ideal ⟨3, ![1, 128, C]⟩ .f32 → FVec Ideal ⟨3, ![1, 128, C]⟩ .f32) (d : Fin 16 → Fin 128 → Fin C → ℝ)
    (hp : ∀ h acc r s, pay h acc (ix3 0 r s) = acc (ix3 0 r s) + (d h r s : EReal)) (acc : FVec Ideal ⟨3, ![16, 128, C]⟩ .f32)
    (L : List (View.Piece (Elt Ideal) ⟨3, ![16, 128, C]⟩ .f32)) (h : Fin 16) (r : Fin 128) (s : Fin C) :
    View.canon ((List.ofFn fun k : Fin 16 => (⟨Rect.unit ![k.rev.val, 0, 0] ![1, 128, C] (in_member (by omega)),
      pay k.rev (View.ld (Val := Elt Ideal) (e' := .f32) acc (Rect.unit ![k.rev.val, 0, 0] ![1, 128, C] (in_member (by omega))))⟩ :
        View.Piece (Elt Ideal) ⟨3, ![16, 128, C]⟩ .f32)) ++ L) (ix3 h r s) = acc (ix3 h r s) + (d h r s : EReal) := by
  refine (View.canon_append_of_pieces (fun y => acc y + (d (y 0) (y 1) (y 2) : EReal)) L _ ?_ _ ?_)
  · intro p hm x
    obtain ⟨q, rfl⟩ := List.mem_ofFn.mp hm
    obtain ⟨u, r, s, rfl⟩ : ∃ (u : Fin 1) (r : Fin 128) (s : Fin C), x = ix3 u r s := ⟨x 0, x 1, x 2, eq_ix3 x⟩
    obtain rfl : u = 0 := Subsingleton.elim _ _
    refine (hp q.rev _ r s).trans ?_
    dsimp only
    rw [emb_member]
    exact congrArg (· + _) (congrArg acc (emb_member q.rev _ r s))
  · refine ⟨_, List.mem_ofFn.mpr ⟨h.rev, rfl⟩, ?_⟩
    simp only [Fin.rev_rev]
    exact Rect.mem_set_unit.mpr fun a => by
      match a with
      | ⟨0, _⟩ => exact ⟨le_refl _, Nat.lt_succ_self _⟩
      | ⟨1, _⟩ => exact ⟨Nat.zero_le _, by show r.val < 0 + 128; omega⟩
      | ⟨2, _⟩ => exact ⟨Nat.zero_le _, by show s.val < 0 + C; omega⟩

/-- Stretches of 512 columns that each add to what the row held. -/
theorem cols_at (pay : Fin 16 → FVec Ideal S1x512 .f32 → FVec Ideal S1x512 .f32) (d : Fin 16 → Fin 512 → ℝ)
    (hp : ∀ h acc k, pay h acc (ix2 0 k) = acc (ix2 0 k) + (d h k : EReal)) (acc : FVec Ideal S1x8192 .f32)
    (L : List (View.Piece (Elt Ideal) S1x8192 .f32)) (h : Fin 16) (k : Fin 512) :
    View.canon ((List.ofFn fun k : Fin 16 => (⟨Rect.unit ![0, 512 * k.rev.val] ![1, 512] (in_cols (by omega)),
      pay k.rev (View.ld (Val := Elt Ideal) (e' := .f32) acc (Rect.unit ![0, 512 * k.rev.val] ![1, 512] (in_cols (by omega))))⟩ :
        View.Piece (Elt Ideal) S1x8192 .f32)) ++ L) (ix2 0 (ch h k)) = acc (ix2 0 (ch h k)) + (d h k : EReal) := by
  have hemb : ∀ (h : Fin 16) (inb) (k : Fin 512), (Rect.unit (s := S1x8192) ![0, 512 * h.val] ![1, 512] inb).emb (ix2 0 k) = ix2 0 (ch h k) :=
    fun h inb k => emb_cols inb (ix2 0 k) (ch h k) (by show h.val * 512 + k.val = 512 * h.val + k.val; omega)
  refine (View.canon_append_of_pieces (fun y : S1x8192.Idx => acc y +
    (d ⟨(y 1).val / 512, by have : (y 1).val < 8192 := (y 1).isLt; omega⟩ ⟨(y 1).val % 512, by omega⟩ : EReal)) L _ ?_ _ ?_).trans ?_
  · intro p hm x
    obtain ⟨q, rfl⟩ := List.mem_ofFn.mp hm
    obtain ⟨u, e, rfl⟩ : ∃ (u : Fin 1) (e : Fin 512), x = ix2 u e := ⟨x 0, x 1, eq_ix2 x⟩
    obtain rfl : u = 0 := Subsingleton.elim _ _
    refine (hp q.rev _ e).trans ?_
    dsimp only
    rw [hemb]
    simp only [ix2_1, head_of, channel_of]
    exact congrArg (· + _) (congrArg acc (hemb q.rev _ e))
  · refine ⟨_, List.mem_ofFn.mpr ⟨h.rev, rfl⟩, ?_⟩
    simp only [Fin.rev_rev]
    exact Rect.mem_set_unit.mpr fun a => by
      match a with
      | ⟨0, _⟩ => exact ⟨le_refl _, Nat.lt_succ_self _⟩
      | ⟨1, _⟩ => exact ⟨by show 512 * h.val ≤ h.val * 512 + k.val; omega, by show h.val * 512 + k.val < 512 * h.val + 512; omega⟩
  · simp only [ix2_1, head_of, channel_of]

/-- The two thirty-secondths of the batch are sixteen chunks each. -/
theorem sum_points {M : Type*} [AddCommMonoid M] (f : Fin 2 → Fin 16 → M) :
    ∑ t : Fin 32, f ⟨t.val / 16, by omega⟩ ⟨t.val % 16, by omega⟩ = ∑ b, ∑ n, f b n :=
  (Fin.sum_mul_add_congr (F := f) (f := fun t : Fin 32 => f ⟨t.val / 16, by omega⟩ ⟨t.val % 16, by omega⟩)
    fun b n hl => congrArg₂ f (Fin.ext (by show b.val = (b.val * 16 + n.val) / 16; omega))
    (Fin.ext (by show n.val = (b.val * 16 + n.val) % 16; omega))).symm

/-! ## What a point reads -/

variable (m : (ℓ : Loc nD τ sig) → Buf (Elt Ideal) ℓ) (c : Dev nD) (t : Fin cfg0.N)

/-- Which block each window holds at a point. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0, 0] ∧ win0_6.index t = ![0, 0, 0]
    ∧ win0_7.index t = ![t.val, 0] ∧ win0_8.index t = ![0, 0, 0] ∧ win0_9.index t = ![0, 0, 0] ∧ win0_10.index t = ![0, 0]
    ∧ win0_11.index t = ![0, 0] :=
  (by decide +kernel : ∀ t : Fin grid0.N, _)

/-- The batch entry and the chunk of a point, and the row of the flattened batch. -/
abbrev bOf (t : Fin cfg0.N) : Fin 2 := ⟨t.val / 16, by have : t.val < 32 := t.isLt; omega⟩
abbrev nOf (t : Fin cfg0.N) : Fin 16 := ⟨t.val % 16, by omega⟩
abbrev rowOf (t : Fin cfg0.N) (r : Fin 128) : Fin 4096 := ⟨t.val * 128 + r.val, by have : t.val < 32 := t.isLt; omega⟩

theorem rowOf_eq (r : Fin 128) : rowOf t r = rowAt (bOf t) (nOf t) r :=
  Fin.ext (by show t.val * 128 + r.val = t.val / 16 * 2048 + (t.val % 16 * 128 + r.val); omega)

/-- The host's causal weights, their transposes and the biases, as the call takes them. -/
theorem w_entry (h : Fin 16) (r s : Fin 128) : V m c main_v2 (ix3 h r s) = causal (m ((c : Thread nD τ).loc main_arg4)) h r s := by
  unfold V
  simp only [List.flatten_cons, List.flatten_nil, List.append_nil, List.cons_append, List.nil_append]
  after_results
  pointwise
  show Scalar.select (IntOp.cmpi .sge (IntOp.addi (BitVec.ofNat 32 r.val) 0#32) (BitVec.ofNat 32 s.val))
    (m ((c : Thread nD τ).loc main_arg4) (ix4 0 h r s)) (Ideal.ofBits .f32 0x00000000#32) = _
  rw [Cert.GateARefIdeal.Entry.mask, causal, Ideal.ofBits_zero_f32]
  split <;> rfl

theorem wt_entry (h : Fin 16) (r s : Fin 128) : V m c main_v3 (ix3 h s r) = causal (m ((c : Thread nD τ).loc main_arg4)) h r s := by
  refine Eq.trans ?_ (w_entry m c h r s)
  unfold V
  simp only [List.flatten_cons, List.flatten_nil, List.append_nil, List.cons_append, List.nil_append]
  after_results
  rfl

theorem bs_entry (h : Fin 16) (r : Fin 128) : V m c main_v5 (ix3 h r 0) = m ((c : Thread nD τ).loc main_arg5) (ix3 0 h r) := by
  unfold V
  simp only [List.flatten_cons, List.flatten_nil, List.append_nil, List.cons_append, List.nil_append]
  after_results
  pointwise
theorem p_at (r : Fin 128) (e : Fin 24576) : (ins m c t).p (ix2 r e) = m ((c : Thread nD τ).loc main_arg0) (ix2 (rowOf t r) e) := by
  show iblk m c 0 t (ix2 r e) = _
  blk_ext [iblk, V, idx t]
theorem dy_at (r : Fin 128) (e : Fin 8192) : (ins m c t).dy (ix2 r e) = m ((c : Thread nD τ).loc main_arg1) (ix2 (rowOf t r) e) := by
  show iblk m c 1 t (ix2 r e) = _
  blk_ext [iblk, V, idx t]
theorem g_at (e : Fin 8192) : (ins m c t).g (ix2 0 e) = m ((c : Thread nD τ).loc main_arg2) (ix2 0 e) := by
  show iblk m c 2 t (ix2 0 e) = _
  blk_ext [iblk, V, idx t]
theorem b_at (e : Fin 8192) : (ins m c t).b (ix2 0 e) = m ((c : Thread nD τ).loc main_arg3) (ix2 0 e) := by
  show iblk m c 3 t (ix2 0 e) = _
  blk_ext [iblk, V, idx t]
theorem w_at (h : Fin 16) (r s : Fin 128) : (ins m c t).w (ix3 h r s) = causal (m ((c : Thread nD τ).loc main_arg4)) h r s := by
  have e : ((cfg0.win 4).blk t).view.emb (ix3 h r s) = (ix3 h r s) := by blk_ext [idx t]
  show V m c main_v2 (((cfg0.win 4).blk t).view.emb (ix3 h r s)) = _
  rw [e, w_entry]

theorem wt_block (y : S16x128x128.Idx) : (ins m c t).wt y = V m c main_v3 (((cfg0.win 5).blk t).view.emb y) := by sl_kernel_rfl
theorem wt_at (h : Fin 16) (r s : Fin 128) : (ins m c t).wt (ix3 h s r) = causal (m ((c : Thread nD τ).loc main_arg4)) h r s := by
  have e : ((cfg0.win 5).blk t).view.emb (ix3 h s r) = ix3 h s r := by
    funext a
    apply Fin.ext
    refine (Pipeline.Window.rect_emb_val win0_5 t (ix3 h s r) a rfl).trans ?_
    have e : win0_5.index t a = 0 := (congrFun (idx t).2.2.2.2.2.1 a).trans (by fin_cases a <;> rfl)
    refine (congrArg (· * _ + _) e).trans ?_
    rw [Nat.zero_mul, Nat.zero_add]
  rw [wt_block, e, wt_entry]
theorem bs_at (h : Fin 16) (r : Fin 128) : (ins m c t).bs (ix3 h r 0) = m ((c : Thread nD τ).loc main_arg5) (ix3 0 h r) := by
  have e : ((cfg0.win 6).blk t).view.emb (ix3 h r 0) = (ix3 h r 0) := by blk_ext [idx t]
  show V m c main_v5 (((cfg0.win 6).blk t).view.emb (ix3 h r 0)) = _
  rw [e, bs_entry]

/-- The arguments hold real numbers: `C` chunk by chunk. -/
abbrev Args (C : Fin 2 → Fin 16 → Chunk) : Prop :=
  Cert.GateARefIdeal.Entry.Holds (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) C

variable {m c} {C : Fin 2 → Fin 16 → Chunk} (H : Args m c C)
include H

/-- A point's blocks hold its chunk. -/
theorem holds : (ins m c t).Holds (C (bOf t) (nOf t)) where
  u r h k := (p_at m c t r _).trans (by rw [rowOf_eq]; exact H.u _ _ r h k)
  v r h k := (p_at m c t r _).trans (by rw [rowOf_eq]; exact H.v _ _ r h k)
  z r h k := (p_at m c t r _).trans (by rw [rowOf_eq]; exact H.z _ _ r h k)
  dy r h k := (dy_at m c t r _).trans (by rw [rowOf_eq]; exact H.dy _ _ r h k)
  g h k := (g_at m c t _).trans (H.g _ _ h k)
  b h k := (b_at m c t _).trans (H.b _ _ h k)
  w h r s := (w_at m c t h r s).trans (H.w _ _ h r s)
  wt h r s := (wt_at m c t h r s).trans (H.w _ _ h r s)
  bs h r := (bs_at m c t h r).trans (H.bs _ _ h r)

/-! ## What the run leaves -/

/-- The projection's gradient as a point stores it. -/
theorem dp_point (y : S128x24576.Idx) : View.canon (dpPieces (ins m c t)) y
    = Cert.GateARefIdeal.Read.val_main_v143 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 (rowOf t (y 0)) (y 1)) := by
  have piece : ∀ (o : Nat) (inb) (v : FVec Ideal S128x512 .bf16) (col : Fin 512 → Fin 24576) (_ : ∀ k, (col k).val = o + k.val)
      (_ : ∀ r k, v (ix2 r k) = Cert.GateARefIdeal.Read.val_main_v143 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 (rowAt (bOf t) (nOf t) r) (col k))) (x : S128x512.Idx),
      v x = Cert.GateARefIdeal.Read.val_main_v143 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (ix2 (rowOf t ((Rect.unit (s := S128x24576) ![0, o] ![128, 512] inb).emb x 0))
          ((Rect.unit (s := S128x24576) ![0, o] ![128, 512] inb).emb x 1)) := by
    intro o inb v col hcol hv x
    obtain ⟨r, k, rfl⟩ : ∃ (r : Fin 128) (k : Fin 512), x = ix2 r k := ⟨x 0, x 1, eq_ix2 x⟩
    rw [emb_cols inb (ix2 r k) (col k) (hcol k)]
    refine (hv r k).trans ?_
    rw [← rowOf_eq]
    rfl
  refine View.canon_apply_of_pieces (fun y : S128x24576.Idx => Cert.GateARefIdeal.Read.val_main_v143 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (ix2 (rowOf t (y 0)) (y 1))) _ ?_ y ?_
  · intro p hp
    rcases List.mem_append.mp hp with hp | hp
    · obtain ⟨q, rfl⟩ := List.mem_ofFn.mp hp
      exact piece _ (in_cols (by omega)) _ (colV q.rev) (fun k => by show 8192 + (q.rev.val * 512 + k.val) = 8192 + 512 * q.rev.val + k.val; omega)
        fun r k => (Head.dv_at (holds t H) r q.rev k).trans (Cert.GateARefIdeal.Entry.dp_v H _ _ r q.rev k).symm
    · obtain ⟨l, hl, hp⟩ := List.mem_flatten.mp hp
      obtain ⟨q, rfl⟩ := List.mem_ofFn.mp hl
      rcases List.mem_cons.mp hp with rfl | hp
      · exact piece _ (in_cols (by omega)) _ (colU q.rev) (fun k => by show q.rev.val * 512 + k.val = 512 * q.rev.val + k.val; omega)
          fun r k => (Head.du_at (holds t H) r q.rev k).trans (Cert.GateARefIdeal.Entry.dp_u H _ _ r q.rev k).symm
      · obtain rfl := List.mem_singleton.mp hp
        exact piece _ (in_cols (by omega)) _ (colZ q.rev) (fun k => by show 16384 + (q.rev.val * 512 + k.val) = 16384 + 512 * q.rev.val + k.val; omega)
          fun r k => (Head.dz_at (holds t H) r q.rev k).trans (Cert.GateARefIdeal.Entry.dp_z H _ _ r q.rev k).symm
  · obtain ⟨r, e, rfl⟩ : ∃ (r : Fin 128) (e : Fin 24576), y = ix2 r e := ⟨y 0, y 1, eq_ix2 y⟩
    have inside : ∀ (o : Nat) (inb) (_ : o ≤ e.val) (_ : e.val < o + 512),
        (ix2 r e : S128x24576.Idx) ∈ (Rect.unit (s := S128x24576) ![0, o] ![128, 512] inb).set := fun o inb h1 h2 =>
      Rect.mem_set_unit.mpr fun a => by
        match a with
        | ⟨0, _⟩ => exact ⟨Nat.zero_le _, by show r.val < 0 + 128; omega⟩
        | ⟨1, _⟩ => exact ⟨h1, h2⟩
    have he := e.isLt
    rcases Nat.lt_or_ge e.val 8192 with hu | hu
    · let q : Fin 16 := ⟨e.val / 512, by omega⟩
      refine ⟨duPiece (ins m c t) q, List.mem_append.mpr (.inr (List.mem_flatten.mpr ⟨_, List.mem_ofFn.mpr ⟨q.rev, rfl⟩, ?_⟩)), ?_⟩
      · rw [Fin.rev_rev]; exact List.mem_cons_self
      · exact inside _ (in_cols (by omega)) (by show 512 * (e.val / 512) ≤ _; omega) (by show _ < 512 * (e.val / 512) + 512; omega)
    · rcases Nat.lt_or_ge e.val 16384 with hv | hv
      · let q : Fin 16 := ⟨(e.val - 8192) / 512, by omega⟩
        refine ⟨dvPiece (ins m c t) q, List.mem_append.mpr (.inl (List.mem_ofFn.mpr ⟨q.rev, by rw [Fin.rev_rev]⟩)), ?_⟩
        exact inside _ (in_cols (by omega)) (by show 8192 + 512 * ((e.val - 8192) / 512) ≤ _; omega) (by show _ < 8192 + 512 * ((e.val - 8192) / 512) + 512; omega)
      · let q : Fin 16 := ⟨(e.val - 16384) / 512, by omega⟩
        refine ⟨dzPiece (ins m c t) q, List.mem_append.mpr (.inr (List.mem_flatten.mpr ⟨_, List.mem_ofFn.mpr ⟨q.rev, rfl⟩, ?_⟩)), ?_⟩
        · rw [Fin.rev_rev]; exact List.mem_cons_of_mem _ List.mem_cons_self
        · exact inside _ (in_cols (by omega)) (by show 16384 + 512 * ((e.val - 16384) / 512) ≤ _; omega) (by show _ < 16384 + 512 * ((e.val - 16384) / 512) + 512; omega)

/-- The projection's gradient after the run. -/
theorem dp_final : (dats m 0 c).arrAt 7 (cfgs 0).N
    = Cert.GateARefIdeal.Read.val_main_v143 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t _ y => ?_
  have hj : ((cfg0.win 7).blk t).view.emb y = ix2 (rowOf t (y 0)) (y 1) := by
    obtain ⟨r, e, rfl⟩ : ∃ (r : Fin 128) (e : Fin 24576), y = ix2 r e := ⟨y 0, y 1, eq_ix2 y⟩
    show _ = ix2 (rowOf t r) e
    blk_ext [idx t]
  rw [hj]
  blk_simp
  rw [after0_7]
  by_cases h : t.val % 32 = 0
  · exact (dp_A m c t h y).trans (dp_point t H y)
  · exact (dp_B m c t h y).trans (dp_point t H y)

omit H in
/-- The last point is the only one at which an accumulated result is written back. -/
theorem last (h : t.val % 32 = 31) : t.val + 1 = cfg0.N := by
  have h2 : t.val < 32 := t.isLt
  show t.val + 1 = 32
  omega

omit H in
/-- The accumulated results start from zero. -/
theorem zeros : (∀ y, k0_pay2 (F := Ideal) y = 0) ∧ (∀ y, k0_pay3 (F := Ideal) y = 0) ∧ (∀ y, k0_pay4 (F := Ideal) y = 0)
    ∧ (∀ y, k0_pay5 (F := Ideal) y = 0) := by
  refine ⟨fun y => ?_, fun y => ?_, fun y => ?_, fun y => ?_⟩
  · pointwise [k0_pay2]
  · pointwise [k0_pay3]
  · pointwise [k0_pay4]
  · pointwise [k0_pay5]

/-- The gradient of the causal weights after the run. -/
theorem dw_final : (dats m 0 c).arrAt 8 (cfgs 0).N
    = Cert.GateARefIdeal.Read.val_main_v84 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 8 _ (by decide +kernel) fun t hf y => ?_
  obtain ⟨h, r, s, rfl⟩ : ∃ (h : Fin 16) (r s : Fin 128), y = ix3 h r s := ⟨y 0, y 1, y 2, eq_ix3 y⟩
  have hj : ((cfg0.win 8).blk t).view.emb (ix3 h r s) = ix3 h r s := by blk_ext [idx t]
  rw [hj, Cert.GateARefIdeal.Entry.dw_at H]
  blk_simp
  rw [after0_8, Pipeline.eq_sum_fin_of_reset_step_apply_last (fun n h => (outsAt0 m c n h).2.1) 32 (fun _ => 0)
    (fun p (j : S16x128x128.Idx) => ((C (bOf p) (nOf p)).dw (j 1) (j 0) (j 2) : EReal))
    (fun t h j => by
      obtain ⟨q, r, s, rfl⟩ : ∃ (q : Fin 16) (r s : Fin 128), j = ix3 q r s := ⟨j 0, j 1, j 2, eq_ix3 j⟩
      refine (dw_A m c t h _).trans ((members_at _ _ (fun q acc r s => Head.dw_at (holds t H) r q acc s) _ _ q r s).trans ?_)
      rw [zeros.1]; rfl)
    (fun t h j => by
      obtain ⟨q, r, s, rfl⟩ : ∃ (q : Fin 16) (r s : Fin 128), j = ix3 q r s := ⟨j 0, j 1, j 2, eq_ix3 j⟩
      rw [dw_B m c t h, ← List.append_nil (dwPieces _ _)]
      exact members_at _ _ (fun q acc r s => Head.dw_at (holds t H) r q acc s) _ _ q r s)
    (le_refl 32) t (last t ((flush0_8 t).mp hf)) _, zero_add]
  exact sum_points fun b n => ((C b n).dw r h s : EReal)

set_option maxHeartbeats 2000000 in
/-- The gradient of the heads' biases after the run. -/
theorem dbs_final : (dats m 0 c).arrAt 9 (cfgs 0).N
    = Cert.GateARefIdeal.Read.val_main_v144 (F := Ideal) (m ((c : Thread nD τ).loc main_arg0)) (m ((c : Thread nD τ).loc main_arg1)) := by
  refine (dats m 0 c).arrAt_eq_of_covers 9 _ (by decide +kernel) fun t hf y => ?_
  obtain ⟨h, r, s, rfl⟩ : ∃ (h : Fin 16) (r : Fin 128) (s : Fin 1), y = ix3 h r s := ⟨y 0, y 1, y 2, eq_ix3 y⟩
  have hj : ((cfg0.win 9).blk t).view.emb (ix3 h r s) = ix3 h r s := by blk_ext [idx t]
  rw [hj, Cert.GateARefIdeal.Entry.dbs_at H]
  blk_simp
  rw [after0_9, Pipeline.eq_sum_fin_of_reset_step_apply_last (fun n h => (outsAt0 m c n h).2.2.1) 32 (fun _ => 0)
    (fun p (j : S16x128x1.Idx) => ((C (bOf p) (nOf p)).dbs (j 1) (j 0) : EReal))
    (fun t h j => by
      obtain ⟨q, r, s, rfl⟩ : ∃ (q : Fin 16) (r : Fin 128) (s : Fin 1), j = ix3 q r s := ⟨j 0, j 1, j 2, eq_ix3 j⟩
      obtain rfl : s = 0 := Subsingleton.elim _ _
      refine (dbs_A m c t h _).trans ((members_at (C := 1) _ (fun q r _ => (C (bOf t) (nOf t)).dbs r q) (fun q acc r s => by
        rw [Subsingleton.elim s 0]
        exact Head.dbs_at (holds t H) r q acc) _ _ q r 0).trans ?_)
      rw [zeros.2.1]; rfl)
    (fun t h j => by
      obtain ⟨q, r, s, rfl⟩ : ∃ (q : Fin 16) (r : Fin 128) (s : Fin 1), j = ix3 q r s := ⟨j 0, j 1, j 2, eq_ix3 j⟩
      obtain rfl : s = 0 := Subsingleton.elim _ _
      rw [dbs_B m c t h, ← List.append_nil (dbsPieces _ _)]
      exact members_at (C := 1) _ (fun q r _ => (C (bOf t) (nOf t)).dbs r q) (fun q acc r s => by
        rw [Subsingleton.elim s 0]
        exact Head.dbs_at (holds t H) r q acc) _ _ q r 0)
    (le_refl 32) t (last t ((flush0_9 t).mp hf)) _, zero_add]
  exact sum_points fun b n => ((C b n).dbs r h : EReal)

omit H in
/-- A column of the row by its head and channel. -/
theorem col_of (j : S1x8192.Idx) : ∃ (h : Fin 16) (k : Fin 512), j = ix2 0 (ch h k) := by
  have hj : (j 1).val < 8192 := (j 1).isLt
  refine ⟨⟨(j 1).val / 512, by omega⟩, ⟨(j 1).val % 512, by omega⟩, (eq_ix2 j).trans ?_⟩
  exact congrArg₂ ix2 (Subsingleton.elim _ _) (Fin.ext (by show (j 1).val = (j 1).val / 512 * 512 + (j 1).val % 512; omega))

omit H in
/-- A row that every point adds its chunk's part to. -/
theorem accumulated (f : (n : Nat) → n < cfg0.N → S1x8192.Idx → EReal) (d : Fin 2 → Fin 16 → Fin 16 → Fin 512 → ℝ)
    (h0 : ∀ t : Fin cfg0.N, t.val % 32 = 0 → ∀ q k, f t.val t.isLt (ix2 0 (ch q k)) = (d (bOf t) (nOf t) q k : EReal))
    (hs : ∀ t : Fin cfg0.N, ¬t.val % 32 = 0 → ∀ q k, f t.val t.isLt (ix2 0 (ch q k))
      = f (t.val - 1) (Nat.lt_of_le_of_lt (Nat.sub_le _ _) t.isLt) (ix2 0 (ch q k)) + (d (bOf t) (nOf t) q k : EReal))
    (t : Fin cfg0.N) (hl : t.val % 32 = 31) (h : Fin 16) (k : Fin 512) :
    f t.val t.isLt (ix2 0 (ch h k)) = ∑ b, ∑ n, (d b n h k : EReal) := by
  rw [Pipeline.eq_sum_fin_of_reset_step_apply_last (fun n hn (i : Fin 16 × Fin 512) => f n hn (ix2 0 (ch i.1 i.2))) 32 (fun _ => 0)
    (fun p i => (d (bOf p) (nOf p) i.1 i.2 : EReal)) (fun t h i => (h0 t h i.1 i.2).trans (zero_add _).symm)
    (fun t h i => hs t h i.1 i.2) (le_refl 32) t (last t hl) (h, k), zero_add]
  exact sum_points fun b n => (d b n h k : EReal)

/-- The gradient of the layer norm's weight after the run. -/
theorem dg_final : (dats m 0 c).arrAt 10 (cfgs 0).N
    = Cert.GateARefIdeal.Read.val_main_v145 (F := Ideal) (m ((c : Thread nD τ).loc main_arg0)) (m ((c : Thread nD τ).loc main_arg1))
        (m ((c : Thread nD τ).loc main_arg4)) := by
  refine (dats m 0 c).arrAt_eq_of_covers 10 _ (by decide +kernel) fun t hf y => ?_
  obtain ⟨h, k, rfl⟩ := col_of y
  have hj : ((cfg0.win 10).blk t).view.emb (ix2 0 (ch h k)) = ix2 0 (ch h k) := by blk_ext [idx t]
  rw [hj, Cert.GateARefIdeal.Entry.dg_at H]
  blk_simp
  rw [after0_10]
  refine (accumulated (fun n h => (outsAt0 m c n h).2.2.2.1) (fun b n h k => (C b n).dg h k) (fun t h q k => ?_) (fun t h q k => ?_) t
    ((flush0_10 t).mp hf) h k)
  · refine (dg_A m c t h _).trans ((cols_at _ _ (fun q acc k => Head.dg_at (holds t H) q k acc) _ _ q k).trans ?_)
    rw [zeros.2.2.1, zero_add]
  · rw [dg_B m c t h, ← List.append_nil (dgPieces _ _)]
    exact cols_at _ _ (fun q acc k => Head.dg_at (holds t H) q k acc) _ _ q k

/-- The gradient of the layer norm's bias after the run. -/
theorem db_final : (dats m 0 c).arrAt 11 (cfgs 0).N
    = Cert.GateARefIdeal.Read.val_main_v146 (F := Ideal) (m ((c : Thread nD τ).loc main_arg0)) (m ((c : Thread nD τ).loc main_arg1))
        (m ((c : Thread nD τ).loc main_arg4)) := by
  refine (dats m 0 c).arrAt_eq_of_covers 11 _ (by decide +kernel) fun t hf y => ?_
  obtain ⟨h, k, rfl⟩ := col_of y
  have hj : ((cfg0.win 11).blk t).view.emb (ix2 0 (ch h k)) = ix2 0 (ch h k) := by blk_ext [idx t]
  rw [hj, Cert.GateARefIdeal.Entry.db_at H]
  blk_simp
  rw [after0_11]
  refine (accumulated (fun n h => (outsAt0 m c n h).2.2.2.2) (fun b n h k => (C b n).db h k) (fun t h q k => ?_) (fun t h q k => ?_) t
    ((flush0_11 t).mp hf) h k)
  · refine (db_A m c t h _).trans ((cols_at _ _ (fun q acc k => Head.db_at (holds t H) q k acc) _ _ q k).trans ?_)
    rw [zeros.2.2.2, zero_add]
  · rw [db_B m c t h, ← List.append_nil (dbPieces _ _)]
    exact cols_at _ _ (fun q acc k => Head.db_at (holds t H) q k acc) _ _ q k

end Cert.GateAIdeal.Whole

end
-- ==== Proof.GateARef.lean ====
/- The spatial gate's backward: the kernel's five results are the derivative of the reference. -/
module

public import proofs.«01_k».proof.Proof.GateA
public import proofs.«01_k».proof.Proof.Gen.GateARefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.GateARefIdeal.Entry

open Cert.GateARefIdeal

/-- What the reference leaves, in the names of its lines. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v143) = Read.val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v84) = Read.val_main_v84 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v144) = Read.val_main_v144 (F := Ideal) (m ((c.tc : Thread nD τ).loc main_arg0)) (m ((c.tc : Thread nD τ).loc main_arg1))
      ∧ r.2.mem ((c.tc : Thread nD τ).loc main_v145) = Read.val_main_v145 (F := Ideal) (m ((c.tc : Thread nD τ).loc main_arg0)) (m ((c.tc : Thread nD τ).loc main_arg1)) (m ((c.tc : Thread nD τ).loc main_arg4))
      ∧ r.2.mem ((c.tc : Thread nD τ).loc main_v146) = Read.val_main_v146 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (Read.val_main_v143_eq _), (h c).2.1.trans (Read.val_main_v84_eq _),
    (h c).2.2.1.trans (Read.val_main_v144_eq _), (h c).2.2.2.1.trans (Read.val_main_v145_eq _),
    (h c).2.2.2.2.1.trans (Read.val_main_v146_eq _), (h c).2.2.2.2.2⟩) (Value.run m ρ)

/-- The reference of the spatial gate's backward runs, leaves its arguments and ends with every counter at zero. -/
theorem frame : Cert.quiescent_GateARefIdeal := fun m ρ _ =>
  (θ_run defs _ _).mono (fun r h => ⟨fun c => (h c).2.2.2.2.2, sem_eq_zero_of_no_sems rfl _⟩) (run m ρ)

end Cert.GateARefIdeal.Entry

namespace Cert.GateAIdeal.Whole

open Cert.Gating Cert.Reals

variable {x0 : FVec Ideal ⟨2, ![4096, 24576]⟩ .bf16} {x1 : FVec Ideal ⟨2, ![4096, 8192]⟩ .bf16}
  {x2 x3 : FVec Ideal ⟨2, ![1, 8192]⟩ .f32} {x4 : FVec Ideal ⟨4, ![1, 16, 128, 128]⟩ .f32}
  {x5 : FVec Ideal ⟨3, ![1, 16, 128]⟩ .f32}

/-- Arguments that hold real numbers hold chunks of them. -/
theorem chunks (f0 : ∀ j, ∃ r : ℝ, x0 j = r) (f1 : ∀ j, ∃ r : ℝ, x1 j = r) (f2 : ∀ j, ∃ r : ℝ, x2 j = r)
    (f3 : ∀ j, ∃ r : ℝ, x3 j = r) (f4 : ∀ j, ∃ r : ℝ, x4 j = r) (f5 : ∀ j, ∃ r : ℝ, x5 j = r) :
    ∃ C : Fin 2 → Fin 16 → Chunk, Cert.GateARefIdeal.Entry.Holds x0 x1 x2 x3 x4 x5 C := by
  choose p hp using f0
  choose d hd using f1
  choose g hg using f2
  choose b hb using f3
  choose w hw using f4
  choose s hs using f5
  refine ⟨fun i n => ⟨fun r h k => p (ix2 (rowAt i n r) (colU h k)), fun r h k => p (ix2 (rowAt i n r) (colV h k)),
    fun r h k => p (ix2 (rowAt i n r) (colZ h k)), fun r h k => d (ix2 (rowAt i n r) (ch h k)), fun h k => g (ix2 0 (ch h k)),
    fun h k => b (ix2 0 (ch h k)), fun h t q => if q ≤ t then w (ix4 0 h t q) else 0, fun h r => s (ix3 0 h r)⟩,
    fun _ _ _ _ _ => hp _, fun _ _ _ _ _ => hp _, fun _ _ _ _ _ => hp _, fun _ _ _ _ _ => hd _, fun _ _ _ _ => hg _,
    fun _ _ _ _ => hb _, fun _ _ h t q => ?_, fun _ _ _ _ => hs _⟩
  show (if q ≤ t then x4 (ix4 0 h t q) else 0) = ((if q ≤ t then w (ix4 0 h t q) else 0 : ℝ) : EReal)
  split
  · exact hw _
  · rfl

/-- What the precondition says: every argument holds real numbers, so each chunk of 128 positions is one of real numbers. -/
theorem finite [Cert.Pre_gate_a_finite.Facts]
    (h : (Cert.Pre_gate_a_finite.fn (F := Ideal) x0 x1 x2 x3 x4 x5).1 = (fun _ => 1#1)
      ∧ (Cert.Pre_gate_a_finite.fn (F := Ideal) x0 x1 x2 x3 x4 x5).2.1 = (fun _ => 1#1)
      ∧ (Cert.Pre_gate_a_finite.fn (F := Ideal) x0 x1 x2 x3 x4 x5).2.2.1 = (fun _ => 1#1)
      ∧ (Cert.Pre_gate_a_finite.fn (F := Ideal) x0 x1 x2 x3 x4 x5).2.2.2.1 = (fun _ => 1#1)
      ∧ (Cert.Pre_gate_a_finite.fn (F := Ideal) x0 x1 x2 x3 x4 x5).2.2.2.2.1 = (fun _ => 1#1)
      ∧ (Cert.Pre_gate_a_finite.fn (F := Ideal) x0 x1 x2 x3 x4 x5).2.2.2.2.2 = (fun _ => 1#1)) :
    ∃ C : Fin 2 → Fin 16 → Chunk, Cert.GateARefIdeal.Entry.Holds x0 x1 x2 x3 x4 x5 C := by
  obtain ⟨h0, h1, h2, h3, h4, h5⟩ := h
  have f0 : ∀ j, ∃ r : ℝ, x0 j = r := fun j => by
    have := congrFun h0 j
    pointwise [Cert.Pre_gate_a_finite.fn] at this
    exact real_of_half this
  have f1 : ∀ j, ∃ r : ℝ, x1 j = r := fun j => by
    have := congrFun h1 j
    pointwise [Cert.Pre_gate_a_finite.fn] at this
    exact real_of_half this
  have f2 : ∀ j, ∃ r : ℝ, x2 j = r := fun j => by
    have := congrFun h2 j
    pointwise [Cert.Pre_gate_a_finite.fn] at this
    exact real_of_word this
  have f3 : ∀ j, ∃ r : ℝ, x3 j = r := fun j => by
    have := congrFun h3 j
    pointwise [Cert.Pre_gate_a_finite.fn] at this
    exact real_of_word this
  have f4 : ∀ j, ∃ r : ℝ, x4 j = r := fun j => by
    have := congrFun h4 j
    pointwise [Cert.Pre_gate_a_finite.fn] at this
    exact real_of_word this
  have f5 : ∀ j, ∃ r : ℝ, x5 j = r := fun j => by
    have := congrFun h5 j
    pointwise [Cert.Pre_gate_a_finite.fn] at this
    exact real_of_word this
  exact chunks f0 f1 f2 f3 f4 f5

/-- The spatial gate's backward computes the reference's five gradients. -/
theorem claim [Cert.Pre_gate_a_finite.Facts] :
    Cert.algebraic_GateAIdeal_GateARefIdeal_pre_gate_a_finite := by
  pair_intro
  · run_from Cert.GateAIdeal.Value.run_blocks m g
  · refine θ_run_mono (Cert.GateARefIdeal.Entry.run m' g') fun r hr c => ?_
    obtain ⟨C, H⟩ := finite (hpre c)
    obtain ⟨a0, a1, a2, a3, a4, a5⟩ := hagree c
    obtain ⟨h1, h2, h3, h4, h5, hargs⟩ := hr c
    rw [a0, a1, a2, a3, a4, a5] at h1
    rw [a0, a1, a2, a3] at h2
    rw [a0, a1] at h3
    rw [a0, a1, a4] at h4 h5
    exact ⟨h1.trans (dp_final H).symm, h2.trans (dw_final H).symm, h3.trans (dbs_final H).symm, h4.trans (dg_final H).symm,
      h5.trans (db_final H).symm, hargs⟩

end Cert.GateAIdeal.Whole

end
-- ==== Proof.GateBBlock.lean ====
/- The gate of the pooling mixer, backward: what one block of 256 rows and 1024 columns computes, and the reference's
   results at one entry. -/
module

public import proofs.«01_k».proof.Proof.Reals
public import proofs.«01_k».proof.Proof.Sums
public import proofs.«01_k».proof.Proof.Gen.GateBIdeal.Value
public import proofs.«01_k».proof.Proof.Gen.GateBRefIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Silu

/-- The gate function at `z`. -/
def silu (z : EReal) : EReal := z * Ideal.logistic z

/-- The gate's gradient as the kernel writes it: `u` is the gated value times the cotangent's factor. -/
def dz (dy q b s z : EReal) : EReal :=
  dy * ((q + b) * s) * (Ideal.logistic z * (1 + z * (1 - Ideal.logistic z)))

/-- The gate's gradient as differentiating the product gives it. -/
def dzRef (dy q b s z : EReal) : EReal :=
  (q + b) * s * dy * Ideal.logistic z + z * ((q + b) * s * dy) * (Ideal.logistic z * (1 - Ideal.logistic z))

/-- The reference's quotient is the logistic function. -/
theorem logistic_eq (z : EReal) : Ideal.div 1 (1 + Ideal.exp (-z)) = Ideal.logistic z := rfl

/-- The two forms of the gate's gradient agree where all but the gate's own argument are real numbers. -/
theorem dz_eq {dy q b s : EReal} (z : EReal) (hdy : ∃ r : ℝ, dy = r) (hq : ∃ r : ℝ, q = r) (hb : ∃ r : ℝ, b = r)
    (hs : ∃ r : ℝ, s = r) : dzRef dy q b s z = dz dy q b s z := by
  obtain ⟨dy, rfl⟩ := hdy
  obtain ⟨q, rfl⟩ := hq
  obtain ⟨b, rfl⟩ := hb
  obtain ⟨s, rfl⟩ := hs
  rw [dz, dzRef]
  induction z using EReal.rec with
  | bot =>
    have h : Ideal.logistic ⊥ = 0 := by
      rw [← logistic_eq, EReal.neg_bot, show Ideal.exp ⊤ = ⊤ from rfl, show (1 : EReal) + ⊤ = ⊤ from rfl]
      simp [Ideal.div]
    simp [h]
  | coe z =>
    rw [Ideal.logistic_coe]
    norm_cast
    ring
  | top =>
    have h : Ideal.logistic ⊤ = 1 := by
      rw [← logistic_eq, EReal.neg_top, show Ideal.exp ⊥ = 0 from rfl, add_zero]
      simp [Ideal.div]
    have h0 : (1 : EReal) - 1 = 0 := by rw [← EReal.coe_one, ← EReal.coe_sub, sub_self, EReal.coe_zero]
    rw [h, h0]
    simp only [mul_zero, add_zero, mul_one]
    norm_cast
    ring

end Cert.Silu

namespace Cert.GateBIdeal.Block

open Cert.GateBIdeal Cert.GateBIdeal.Gen Cert.Silu

variable (z dy q : FVec Ideal S256x1024 .bf16) (b s acc : FVec Ideal S1x1024 .f32) (r : Fin 256) (e : Fin 1024)

/-- One entry of the gradient of the mixed value. -/
theorem dq_at : k0_pay9 (F := Ideal) z dy s (ix2 r e)
    = dy (ix2 r e) * silu (z (ix2 r e)) * s (ix2 0 e) := by
  pointwise [k0_pay9, k0_pay8, k0_pay7, k0_pay5, k0_pay4, k0_pay3, silu]

/-- One entry of the gate's gradient. -/
theorem dz_at : k0_pay10 (F := Ideal) z dy q b s (ix2 r e)
    = dz (dy (ix2 r e)) (q (ix2 r e)) (b (ix2 0 e)) (s (ix2 0 e)) (z (ix2 r e)) := by
  pointwise [k0_pay10, k0_pay6, k0_pay5, k0_pay4, k0_pay3, dz, Cert.Reals.word_one, EReal.coe_one]

/-- The block's part of the scale's gradient, added to what was there. -/
theorem ds_at : k0_pay1 (F := Ideal) (k0_pay6 q b) (k0_pay7 z dy) (k0_pay13 acc) (ix2 0 e)
    = acc (ix2 0 e) + ∑ r : Fin 256, dy (ix2 r e) * silu (z (ix2 r e)) * (q (ix2 r e) + b (ix2 0 e)) := by
  pointwise [k0_pay1, k0_pay13, k0_pay7, k0_pay6, k0_pay5, k0_pay4, k0_pay3, silu]

/-- The block's part of the offset's gradient, added to what was there. -/
theorem db_at : k0_pay2 (F := Ideal) (k0_pay8 z dy s) acc (ix2 0 e)
    = acc (ix2 0 e) + ∑ r : Fin 256, dy (ix2 r e) * silu (z (ix2 r e)) * s (ix2 0 e) := by
  pointwise [k0_pay2, k0_pay8, k0_pay7, k0_pay5, k0_pay4, k0_pay3, silu]

/-- The accumulators start at zero. -/
theorem zero_at : k0_pay11 (F := Ideal) (ix2 0 e) = 0 ∧ k0_pay12 (F := Ideal) (ix2 0 e) = 0 := by
  constructor
  · pointwise [k0_pay11]
  · pointwise [k0_pay12]

end Cert.GateBIdeal.Block

namespace Cert.GateBRefIdeal.Entry

open Cert.GateBRefIdeal Cert.GateBRefIdeal.Read Cert.Silu

variable (dy q : FVec Ideal S4096x8192 .bf16) (pr : FVec Ideal S4096x16384 .bf16) (b : FVec Ideal S1x4x2048 .f32)
  (s : FVec Ideal S1x8192 .f32) (p : Fin 4096) (e : Fin 8192)

/-- The gate's argument in row `p` and column `e`. -/
abbrev zOf : EReal := pr (ix2 p ⟨8192 + e.val, by omega⟩)

/-- The offset of column `e`. -/
abbrev bOf : EReal := b (ix3 0 ⟨e.val / 2048, by omega⟩ ⟨e.val % 2048, by omega⟩)

/-- The reference's gate value and its logistic factor at one entry. -/
theorem sig_at (i : Fin 2) (j : Fin 2048) (hp : p.val = i.val * 2048 + j.val) :
    val_main_v17_2 (F := Ideal) pr (ix3 i j e) = Ideal.logistic (zOf pr p e)
      ∧ val_main_v17_0 (F := Ideal) pr (ix3 i j e) = silu (zOf pr p e) := by
  obtain ⟨rfl, rfl⟩ := Cert.Sums.split_row p i j hp
  constructor
  · rw [← logistic_eq]
    pointwise [val_main_v17_2, val_main_call0_v4, val_main_call0_v3, val_main_call0_v2, val_main_call0_v1, val_main_call0_v0,
      val_main_v2, val_main_v1, val_main_v0, val_main_call0_cst, val_main_call0_cst_0, Cert.Reals.word_one, EReal.coe_one]
  · rw [silu, ← logistic_eq]
    pointwise [val_main_v17_0, val_main_v17_2, val_main_call0_v4, val_main_call0_v3, val_main_call0_v2, val_main_call0_v1,
      val_main_call0_v0, val_main_v2, val_main_v1, val_main_v0, val_main_call0_cst, val_main_call0_cst_0, Cert.Reals.word_one, EReal.coe_one]

/-- The cotangent times the gate, at one entry. -/
theorem gated_at (i : Fin 2) (j : Fin 2048) (hp : p.val = i.val * 2048 + j.val) :
    val_main_v20 (F := Ideal) dy pr (ix3 i j e) = dy (ix2 p e) * silu (zOf pr p e) := by
  rw [← (sig_at pr p e i j hp).2]
  obtain ⟨rfl, rfl⟩ := Cert.Sums.split_row p i j hp
  pointwise [val_main_v20, val_main_v4, val_main_v3]
  simp only [Nat.div_add_mod']

/-- The mixed value with its offset, at one entry. -/
theorem mixed_at (i : Fin 2) (j : Fin 2048) (hp : p.val = i.val * 2048 + j.val) :
    val_main_v13 (F := Ideal) q b (ix3 i j e) = q (ix2 p e) + bOf b e := by
  obtain ⟨rfl, rfl⟩ := Cert.Sums.split_row p i j hp
  pointwise [val_main_v13, val_main_v12, val_main_v11, val_main_v10, val_main_v9, val_main_v7, val_main_v6, val_main_v5]
  simp only [Nat.div_add_mod']

/-- One entry of the gradient of the mixed value, before it is stored. -/
theorem dq_row (i : Fin 2) (j : Fin 2048) (hp : p.val = i.val * 2048 + j.val) :
    val_main_v26 (F := Ideal) dy pr s (ix3 i j e) = dy (ix2 p e) * silu (zOf pr p e) * s (ix2 0 e) := by
  rw [← gated_at dy pr p e i j hp]
  pointwise [val_main_v26, val_main_v25, val_main_v14, val_main_v8]

/-- One entry of the gate's gradient, before it is stored. -/
theorem dz_row (i : Fin 2) (j : Fin 2048) (hp : p.val = i.val * 2048 + j.val) :
    val_main_v21 (F := Ideal) dy q pr b s (ix3 i j e)
      = dzRef (dy (ix2 p e)) (q (ix2 p e)) (bOf b e) (s (ix2 0 e)) (zOf pr p e) := by
  rw [dzRef, ← mixed_at q b p e i j hp, ← (sig_at pr p e i j hp).1]
  obtain ⟨rfl, rfl⟩ := Cert.Sums.split_row p i j hp
  pointwise [val_main_v21, val_main_call1_v2, val_main_call1_v1, val_main_call1_v0, val_main_v19, val_main_v17_1, val_main_v16,
    val_main_v15, val_main_v14, val_main_v8, val_main_v4, val_main_v3, val_main_call0_v7, val_main_call0_v6, val_main_v2,
    val_main_v1, val_main_v0, val_main_call0_cst_1, Cert.Reals.word_one, EReal.coe_one]
  simp only [Nat.div_add_mod']

/-- One entry of the first result. -/
theorem dq_at : val_main_v37 (F := Ideal) dy pr s (ix2 p e) = dy (ix2 p e) * silu (zOf pr p e) * s (ix2 0 e) := by
  rw [← dq_row dy pr s p e ⟨p.val / 2048, by omega⟩ ⟨p.val % 2048, by omega⟩ (by simp only []; omega)]
  pointwise [val_main_v37, val_main_v36, val_main_v32, val_main_v28]

/-- One entry of the second result, in the gate's columns. -/
theorem dz_at : val_main_v38 (F := Ideal) dy q pr b s (ix2 p ⟨8192 + e.val, by omega⟩)
    = dzRef (dy (ix2 p e)) (q (ix2 p e)) (bOf b e) (s (ix2 0 e)) (zOf pr p e) := by
  rw [← dz_row dy q pr b s p e ⟨p.val / 2048, by omega⟩ ⟨p.val % 2048, by omega⟩ (by simp only []; omega)]
  pointwise [val_main_v38, val_main_v35, val_main_v34]

/-- One entry of the third result. -/
theorem ds_at : val_main_v39 (F := Ideal) dy q pr b (ix2 0 e)
    = ∑ p : Fin 4096, (q (ix2 p e) + bOf b e) * (dy (ix2 p e) * silu (zOf pr p e)) := by
  pointwise [val_main_v39, val_main_v27, val_main_v24, val_main_v23, val_main_v22, val_main_cst, val_main_cst_0,
    Cert.Sums.reduceAdd_leading_two]
  simp only [Fin.sum_univ_one]
  exact Fin.sum_mul_add_congr fun i j hl => by
    rw [mixed_at q b ⟨_, hl⟩ e i j rfl, gated_at dy pr ⟨_, hl⟩ e i j rfl]

/-- One entry of the fourth result. -/
theorem db_at : val_main_v40 (F := Ideal) dy pr s (ix2 0 e)
    = ∑ p : Fin 4096, dy (ix2 p e) * silu (zOf pr p e) * s (ix2 0 e) := by
  pointwise [val_main_v40, val_main_v31, val_main_v30, val_main_v29, val_main_v28, val_main_cst_1, val_main_cst_2,
    Cert.Sums.reduceAdd_0_1]
  simp only [Fin.sum_univ_one]
  exact Fin.sum_mul_add_congr fun i j hl => by
    rw [← dq_row dy pr s ⟨_, hl⟩ e i j rfl]

end Cert.GateBRefIdeal.Entry

end
-- ==== Proof.GateB.lean ====
/- The gate of the pooling mixer, backward: what the result arrays hold after the run. -/
module

public import proofs.«01_k».proof.Proof.GateBBlock

@[expose] public section

set_option maxRecDepth 16384

noncomputable section

open Idealize.ShloMosaic Idealize.ShloMosaic.TcCoe Idealize.SL.Sem
open Idealize.ShloMosaic.Pipeline (Dat)

namespace Cert.GateBIdeal.Whole

open Cert.GateBIdeal Cert.GateBIdeal.Gen Cert.Silu

section Results

variable (dy q : FVec Ideal S4096x8192 .bf16) (pr : FVec Ideal S4096x16384 .bf16) (b : FVec Ideal S1x4x2048 .f32)
  (s : FVec Ideal S1x8192 .f32)

/-- The gate's argument in row `p` and column `e`. -/
abbrev zOf (p : Fin 4096) (e : Fin 8192) : EReal := pr (ix2 p ⟨8192 + e.val, by omega⟩)

/-- The offset of column `e`. -/
abbrev bOf (e : Fin 8192) : EReal := b (ix3 0 ⟨e.val / 2048, by omega⟩ ⟨e.val % 2048, by omega⟩)

/-- The cotangent times the gate. -/
def gated (p : Fin 4096) (e : Fin 8192) : EReal := dy (ix2 p e) * silu (zOf pr p e)

/-- The gradient of the mixed value. -/
def dq : FVec Ideal S4096x8192 .bf16 := fun j => gated dy pr (j 0) (j 1) * s (ix2 0 (j 1))

/-- The gate's gradient, as the kernel writes it, in the columns that hold the gate. -/
def dzOut : FVec Ideal S4096x16384 .bf16 := fun j =>
  if h : (j 1).val < 8192 then 0
  else dz (dy (ix2 (j 0) ⟨(j 1).val - 8192, by have : (j 1).val < 16384 := (j 1).isLt; omega⟩))
    (q (ix2 (j 0) ⟨(j 1).val - 8192, by have : (j 1).val < 16384 := (j 1).isLt; omega⟩))
    (bOf b ⟨(j 1).val - 8192, by have : (j 1).val < 16384 := (j 1).isLt; omega⟩)
    (s (ix2 0 ⟨(j 1).val - 8192, by have : (j 1).val < 16384 := (j 1).isLt; omega⟩)) (pr (ix2 (j 0) (j 1)))

/-- The gate's gradient at the column of the gate `e`. -/
theorem dzOut_at (p : Fin 4096) (e : Fin 8192) : dzOut dy q pr b s (ix2 p ⟨8192 + e.val, by omega⟩)
    = dz (dy (ix2 p e)) (q (ix2 p e)) (bOf b e) (s (ix2 0 e)) (zOf pr p e) := by
  have he : (⟨8192 + e.val - 8192, by omega⟩ : Fin 8192) = e := Fin.ext (by simp only []; omega)
  rw [dzOut, dif_neg (by simp only [ix2_1]; omega)]
  simp only [ix2_0, ix2_1, he]

/-- What row `p` adds to the scale's gradient. -/
def dsRow (p : Fin 4096) (e : Fin 8192) : EReal := gated dy pr p e * (q (ix2 p e) + bOf b e)

/-- The scale's gradient. -/
def ds : FVec Ideal S1x8192 .f32 := fun j => ∑ p : Fin 4096, dsRow dy q pr b p (j 1)

/-- The offset's gradient. -/
def db : FVec Ideal S1x8192 .f32 := fun j => ∑ p : Fin 4096, gated dy pr p (j 1) * s (ix2 0 (j 1))

end Results

variable (m : (ℓ : Loc nD τ sig) → Buf (Elt Ideal) ℓ) (c : Dev nD)

/-- Which block each window holds at a point. -/
theorem idx : ∀ t : Fin cfg0.N, win0_0.index t = ![t.val % 16, t.val / 16] ∧ win0_1.index t = ![t.val % 16, t.val / 16]
    ∧ win0_2.index t = ![t.val % 16, 8 + t.val / 16] ∧ win0_3.index t = ![0, t.val / 16] ∧ win0_4.index t = ![0, t.val / 16]
    ∧ win0_5.index t = ![t.val % 16, t.val / 16] ∧ win0_6.index t = ![t.val % 16, 8 + t.val / 16]
    ∧ win0_7.index t = ![0, t.val / 16] ∧ win0_8.index t = ![0, t.val / 16] :=
  (by decide +kernel : ∀ t : Fin grid0.N, _)

/-- Row `r` of block `t`. -/
abbrev rowOf (t : Fin cfg0.N) (r : Fin 256) : Fin 4096 := ⟨t.val % 16 * 256 + r.val, by omega⟩

/-- Column `e` of block `t`. -/
abbrev colOf (t : Fin cfg0.N) (e : Fin 1024) : Fin 8192 :=
  ⟨t.val / 16 * 1024 + e.val, by have : t.val < 128 := t.isLt; omega⟩

section Blocks

variable (t : Fin cfg0.N) (r : Fin 256) (e : Fin 1024)

/-- The cotangent, as block `t` stages it. -/
theorem dy_at : iblk m c 0 t (ix2 r e) = m ((c : Thread nD τ).loc main_arg0) (ix2 (rowOf t r) (colOf t e)) := by
  blk_ext [iblk, V, idx t]

/-- The mixed value, as block `t` stages it. -/
theorem q_at : iblk m c 1 t (ix2 r e) = m ((c : Thread nD τ).loc main_arg1) (ix2 (rowOf t r) (colOf t e)) := by
  blk_ext [iblk, V, idx t]

/-- The gate's argument, as block `t` stages it. -/
theorem z_at : iblk m c 2 t (ix2 r e) = zOf (m ((c : Thread nD τ).loc main_arg2)) (rowOf t r) (colOf t e) := by
  blk_ext [iblk, V, idx t]

/-- The offset, as block `t` stages it. -/
theorem b_at : iblk m c 3 t (ix2 0 e) = bOf (m ((c : Thread nD τ).loc main_arg3)) (colOf t e) := by
  blk_simp [iblk, idx t]
  entry_read
  pointwise
  blk_ext [idx t]

/-- The scale, as block `t` stages it. -/
theorem s_at : iblk m c 4 t (ix2 0 e) = m ((c : Thread nD τ).loc main_arg4) (ix2 0 (colOf t e)) := by
  blk_ext [iblk, V, idx t]

end Blocks

variable (t : Fin cfg0.N)

/-- What a point stores into the block of the mixed value's gradient. -/
theorem dq_point (y : S256x1024.Idx) :
    k0_pay9 (F := Ideal) (iblk m c 2 t) (iblk m c 0 t) (iblk m c 4 t) y
      = dq (m ((c : Thread nD τ).loc main_arg0)) (m ((c : Thread nD τ).loc main_arg2)) (m ((c : Thread nD τ).loc main_arg4))
          (((cfg0.win 5).blk t).view.emb y) := by
  obtain ⟨r, e, rfl⟩ : ∃ (r : Fin 256) (e : Fin 1024), y = ix2 r e := ⟨y 0, y 1, eq_ix2 y⟩
  have hj : ((cfg0.win 5).blk t).view.emb (ix2 r e) = ix2 (rowOf t r) (colOf t e) := by blk_ext [idx t]
  rw [hj]
  refine (Block.dq_at _ _ _ r e).trans ?_
  simp only [dq, gated, ix2_0, ix2_1, dy_at, z_at, s_at]

/-- What a point stores into the block of the gate's gradient. -/
theorem dz_point (y : S256x1024.Idx) :
    k0_pay10 (F := Ideal) (iblk m c 2 t) (iblk m c 0 t) (iblk m c 1 t) (iblk m c 3 t) (iblk m c 4 t) y
      = dzOut (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  obtain ⟨r, e, rfl⟩ : ∃ (r : Fin 256) (e : Fin 1024), y = ix2 r e := ⟨y 0, y 1, eq_ix2 y⟩
  have hj : ((cfg0.win 6).blk t).view.emb (ix2 r e)
      = ix2 (rowOf t r) ⟨8192 + (colOf t e).val, by have := (colOf t e).isLt; omega⟩ := by blk_ext [idx t]
  rw [hj, dzOut_at]
  refine (Block.dz_at _ _ _ _ _ r e).trans ?_
  simp only [dy_at, q_at, z_at, b_at, s_at]

/-- What a point adds to the scale's gradient. -/
theorem ds_point (acc : FVec Ideal S1x1024 .f32) (e : Fin 1024) :
    k0_pay1 (F := Ideal) (k0_pay6 (iblk m c 1 t) (iblk m c 3 t)) (k0_pay7 (iblk m c 2 t) (iblk m c 0 t)) (k0_pay13 acc) (ix2 0 e)
      = acc (ix2 0 e) + ∑ r : Fin 256, dsRow (m ((c : Thread nD τ).loc main_arg0)) (m ((c : Thread nD τ).loc main_arg1))
          (m ((c : Thread nD τ).loc main_arg2)) (m ((c : Thread nD τ).loc main_arg3)) (rowOf t r) (colOf t e) := by
  refine (Block.ds_at _ _ _ _ _ e).trans ?_
  refine congrArg _ (Finset.sum_congr rfl fun r _ => ?_)
  simp only [dsRow, gated, dy_at, q_at, z_at, b_at]

/-- What a point adds to the offset's gradient. -/
theorem db_point (acc : FVec Ideal S1x1024 .f32) (e : Fin 1024) :
    k0_pay2 (F := Ideal) (k0_pay8 (iblk m c 2 t) (iblk m c 0 t) (iblk m c 4 t)) acc (ix2 0 e)
      = acc (ix2 0 e) + ∑ r : Fin 256, gated (m ((c : Thread nD τ).loc main_arg0)) (m ((c : Thread nD τ).loc main_arg2))
          (rowOf t r) (colOf t e) * m ((c : Thread nD τ).loc main_arg4) (ix2 0 (colOf t e)) := by
  refine (Block.db_at _ _ _ _ e).trans ?_
  refine congrArg _ (Finset.sum_congr rfl fun r _ => ?_)
  simp only [gated, dy_at, z_at, s_at]

/-- The array of the mixed value's gradient after the run. -/
theorem dq_final : (dats m 0 c).arrAt 5 (cfgs 0).N
    = dq (m ((c : Thread nD τ).loc main_arg0)) (m ((c : Thread nD τ).loc main_arg2)) (m ((c : Thread nD τ).loc main_arg4)) := by
  refine (dats m 0 c).arrAt_eq_of_covers 5 _ (by decide +kernel) fun t _ y => ?_
  blk_simp
  rw [after0_5]
  by_cases h : t.val % 16 = 0
  · rw [outsAt0_A m c t h]
    frame_out
    exact dq_point m c t y
  · rw [outsAt0_B m c t h]
    frame_out
    exact dq_point m c t y

/-- The array that holds the gate's gradient, after the run, in the columns of the gate. -/
theorem dz_final (i : S4096x16384.Idx) (hi : 8192 ≤ (i 1).val) : (dats m 0 c).arrAt 6 (cfgs 0).N i
    = dzOut (m ((c : Thread nD τ).loc main_arg0)) (m ((c : Thread nD τ).loc main_arg1)) (m ((c : Thread nD τ).loc main_arg2))
        (m ((c : Thread nD τ).loc main_arg3)) (m ((c : Thread nD τ).loc main_arg4)) i := by
  refine ((dats m 0 c).arrAt_apply_of_coversWhere (P := fun i : S4096x16384.Idx => 8192 ≤ (i 1).val) 6 _
    (fun β => 8 ≤ β (1 : Fin _)) (by decide +kernel) (fun t _ y => ?_)
    (fun j => by blk_simp [Pipeline.Window.cell_apply]; omega) i).trans (if_pos hi)
  blk_simp
  rw [after0_6]
  by_cases h : t.val % 16 = 0
  · rw [outsAt0_A m c t h]
    frame_out
    exact dz_point m c t y
  · rw [outsAt0_B m c t h]
    frame_out
    exact dz_point m c t y

/-- The rows of one column of blocks, taken block by block, are all the rows, at the run's columns. -/
theorem sum_run (f : Fin 4096 → Fin 8192 → EReal) (e : Fin 1024) (hr : t.val % 16 = 16 - 1) :
    ∑ s : Fin 16, ∑ r : Fin 256, f (rowOf ⟨16 * (t.val / 16) + s.val, Pipeline.run_point_lt_of_flush t hr s⟩ r)
        (colOf ⟨16 * (t.val / 16) + s.val, Pipeline.run_point_lt_of_flush t hr s⟩ e)
      = ∑ p : Fin 4096, f p (colOf t e) :=
  Fin.sum_mul_add_congr (f := fun p => f p (colOf t e)) (fun s r hl => by
    congr 1 <;> apply Fin.ext <;> simp only [rowOf, colOf] <;> omega)

/-- The scale's gradient after the run. -/
theorem ds_final : (dats m 0 c).arrAt 7 (cfgs 0).N
    = ds (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t hf y => ?_
  obtain ⟨u, e, rfl⟩ : ∃ (u : Fin 1) (e : Fin 1024), y = ix2 u e := ⟨y 0, y 1, eq_ix2 y⟩
  obtain rfl : u = 0 := Subsingleton.elim _ _
  have hj : ((cfg0.win 7).blk t).view.emb (ix2 0 e) = ix2 0 (colOf t e) := by blk_ext [idx t]
  rw [hj]
  blk_simp
  rw [after0_7, Pipeline.eq_sum_fin_of_reset_step_apply_of_flush (fun n h => (outsAt0 m c n h).2.2.1) 16 (fun _ => 0)
    (fun p j => ∑ r : Fin 256, dsRow (m ((c : Thread nD τ).loc main_arg0)) (m ((c : Thread nD τ).loc main_arg1))
      (m ((c : Thread nD τ).loc main_arg2)) (m ((c : Thread nD τ).loc main_arg3)) (rowOf p r) (colOf p (j 1)))
    (fun t h j => by
      obtain ⟨u, e, rfl⟩ : ∃ (u : Fin 1) (e : Fin 1024), j = ix2 u e := ⟨j 0, j 1, eq_ix2 j⟩
      obtain rfl : u = 0 := Subsingleton.elim _ _
      rw [outsAt0_A m c t h]; frame_out; exact (ds_point m c t _ e).trans (by rw [(Block.zero_at e).1, ix2_1]))
    (fun t h j => by
      obtain ⟨u, e, rfl⟩ : ∃ (u : Fin 1) (e : Fin 1024), j = ix2 u e := ⟨j 0, j 1, eq_ix2 j⟩
      obtain rfl : u = 0 := Subsingleton.elim _ _
      rw [outsAt0_B m c t h]; frame_out; exact (ds_point m c t _ e).trans (by rw [ix2_1]))
    t ((flush0_7 t).mp hf) _, zero_add]
  exact sum_run t _ e ((flush0_7 t).mp hf)

/-- The offset's gradient after the run. -/
theorem db_final : (dats m 0 c).arrAt 8 (cfgs 0).N
    = db (m ((c : Thread nD τ).loc main_arg0)) (m ((c : Thread nD τ).loc main_arg2)) (m ((c : Thread nD τ).loc main_arg4)) := by
  refine (dats m 0 c).arrAt_eq_of_covers 8 _ (by decide +kernel) fun t hf y => ?_
  obtain ⟨u, e, rfl⟩ : ∃ (u : Fin 1) (e : Fin 1024), y = ix2 u e := ⟨y 0, y 1, eq_ix2 y⟩
  obtain rfl : u = 0 := Subsingleton.elim _ _
  have hj : ((cfg0.win 8).blk t).view.emb (ix2 0 e) = ix2 0 (colOf t e) := by blk_ext [idx t]
  rw [hj]
  blk_simp
  rw [after0_8, Pipeline.eq_sum_fin_of_reset_step_apply_of_flush (fun n h => (outsAt0 m c n h).2.2.2) 16 (fun _ => 0)
    (fun p j => ∑ r : Fin 256, gated (m ((c : Thread nD τ).loc main_arg0)) (m ((c : Thread nD τ).loc main_arg2)) (rowOf p r)
      (colOf p (j 1)) * m ((c : Thread nD τ).loc main_arg4) (ix2 0 (colOf p (j 1))))
    (fun t h j => by
      obtain ⟨u, e, rfl⟩ : ∃ (u : Fin 1) (e : Fin 1024), j = ix2 u e := ⟨j 0, j 1, eq_ix2 j⟩
      obtain rfl : u = 0 := Subsingleton.elim _ _
      rw [outsAt0_A m c t h]; frame_out; exact (db_point m c t _ e).trans (by rw [(Block.zero_at e).2, ix2_1]))
    (fun t h j => by
      obtain ⟨u, e, rfl⟩ : ∃ (u : Fin 1) (e : Fin 1024), j = ix2 u e := ⟨j 0, j 1, eq_ix2 j⟩
      obtain rfl : u = 0 := Subsingleton.elim _ _
      rw [outsAt0_B m c t h]; frame_out; exact (db_point m c t _ e).trans (by rw [ix2_1]))
    t ((flush0_8 t).mp hf) _, zero_add]
  exact sum_run t (fun p e => gated (m ((c : Thread nD τ).loc main_arg0)) (m ((c : Thread nD τ).loc main_arg2)) p e
    * m ((c : Thread nD τ).loc main_arg4) (ix2 0 e)) e ((flush0_8 t).mp hf)

end Cert.GateBIdeal.Whole

end
-- ==== Proof.GateBRef.lean ====
/- The gate of the pooling mixer, backward: the kernel's results are the reference's, the gate's gradient in the gate's
   columns. -/
module

public import proofs.«01_k».proof.Proof.GateB
public import proofs.«01_k».proof.Proof.Gen.GateBRefIdeal.Run
public import proofs.«01_k».proof.Defs
public import Idealize.ShloMosaic.Lib.Affine
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.GateBRefIdeal.Entry

open Cert.GateBRefIdeal

/-- What the reference leaves, in the names of its lines. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = Read.val_main_v37 (F := Ideal) (m ((c.tc : Thread nD τ).loc main_arg0))
          (m ((c.tc : Thread nD τ).loc main_arg2)) (m ((c.tc : Thread nD τ).loc main_arg4))
      ∧ r.2.mem ((c.tc : Thread nD τ).loc main_v38) = Read.val_main_v38 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_v39) = Read.val_main_v39 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v40) = Read.val_main_v40 (F := Ideal) (m ((c.tc : Thread nD τ).loc main_arg0))
          (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Read.val_main_v37_eq _ _ _), (h c).2.1.trans (Read.val_main_v38_eq _ _ _ _ _),
    (h c).2.2.1.trans (Read.val_main_v39_eq _ _ _ _), (h c).2.2.2.1.trans (Read.val_main_v40_eq _ _ _), (h c).2.2.2.2⟩)
    (Value.run m ρ)

/-- The reference of the gate's backward call runs, leaves its arguments and ends with every counter at zero. -/
theorem frame : Cert.quiescent_GateBRefIdeal := fun m ρ _ =>
  (θ_run defs _ _).mono (fun r h => ⟨fun c => (h c).2.2.2.2, sem_eq_zero_of_no_sems rfl _⟩) (run m ρ)

end Cert.GateBRefIdeal.Entry

namespace Cert.GateBIdeal.Whole

open Cert.Silu Cert.Reals

variable {dy q : FVec Ideal ⟨2, ![4096, 8192]⟩ .bf16} {pr : FVec Ideal ⟨2, ![4096, 16384]⟩ .bf16}
  {b : FVec Ideal ⟨3, ![1, 4, 2048]⟩ .f32} {s : FVec Ideal ⟨2, ![1, 8192]⟩ .f32}

/-- What the precondition says: the cotangent, the mixed value, the offset and the scale are real numbers. -/
theorem finite [Cert.Pre_gate_b_finite.Facts]
    (h : (Cert.Pre_gate_b_finite.fn (F := Ideal) dy q pr b s).1 = (fun _ => 1#1)
      ∧ (Cert.Pre_gate_b_finite.fn (F := Ideal) dy q pr b s).2.1 = (fun _ => 1#1)
      ∧ (Cert.Pre_gate_b_finite.fn (F := Ideal) dy q pr b s).2.2.1 = (fun _ => 1#1)
      ∧ (Cert.Pre_gate_b_finite.fn (F := Ideal) dy q pr b s).2.2.2 = (fun _ => 1#1)) :
    (∀ j, ∃ r : ℝ, dy j = r) ∧ (∀ j, ∃ r : ℝ, q j = r) ∧ (∀ j, ∃ r : ℝ, b j = r) ∧ (∀ j, ∃ r : ℝ, s j = r) := by
  refine ⟨fun j => ?_, fun j => ?_, fun j => ?_, fun j => ?_⟩
  · have := congrFun h.1 j
    pointwise [Cert.Pre_gate_b_finite.fn] at this
    exact real_of_half this
  · have := congrFun h.2.1 j
    pointwise [Cert.Pre_gate_b_finite.fn] at this
    exact real_of_half this
  · have := congrFun h.2.2.1 j
    pointwise [Cert.Pre_gate_b_finite.fn] at this
    exact real_of_word this
  · have := congrFun h.2.2.2 j
    pointwise [Cert.Pre_gate_b_finite.fn] at this
    exact real_of_word this

/-- A column number below the array's width, compared as a word. -/
theorem column_le {n : Nat} (hn : n < 16384) (h : (8192#32).toInt ≤ (BitVec.ofNat 32 n).toInt) : 8192 ≤ n := by
  rw [show (8192#32).toInt = 8192 from rfl, BitVec.toInt_eq_toNat_cond, BitVec.toNat_ofNat] at h
  omega

/-- The mask picks the columns that hold the gate. -/
theorem mask [Cert.On_gate_half.Facts] {i : (⟨2, ![4096, 16384]⟩ : Shape).Idx}
    (h : (Cert.On_gate_half.fn (F := Ideal) dy q pr b s).2.1 i = 1#1) : 8192 ≤ (i 1).val := by
  pointwise [Cert.On_gate_half.fn] at h
  have h1 : (i 1).val < 16384 := (i 1).isLt
  exact column_le h1 (IntOp.cmpi_sge.mp h)

/-- The gradient of the mixed value is the derivative the reference takes. -/
theorem dq_ref : Cert.GateBRefIdeal.Read.val_main_v37 (F := Ideal) dy pr s = dq dy pr s := by
  funext j
  obtain ⟨p, e, rfl⟩ : ∃ (p : Fin 4096) (e : Fin 8192), j = ix2 p e := ⟨j 0, j 1, eq_ix2 j⟩
  rw [Cert.GateBRefIdeal.Entry.dq_at]
  simp only [dq, gated, ix2_0, ix2_1]

/-- The gate's gradient is the derivative the reference takes, in the gate's columns. -/
theorem dz_ref (hdy : ∀ j, ∃ r : ℝ, dy j = r) (hq : ∀ j, ∃ r : ℝ, q j = r) (hb : ∀ j, ∃ r : ℝ, b j = r)
    (hs : ∀ j, ∃ r : ℝ, s j = r) (i : (⟨2, ![4096, 16384]⟩ : Shape).Idx) (hi : 8192 ≤ (i 1).val) :
    Cert.GateBRefIdeal.Read.val_main_v38 (F := Ideal) dy q pr b s i = dzOut dy q pr b s i := by
  have h1 : (i 1).val < 16384 := (i 1).isLt
  obtain ⟨p, e, he⟩ : ∃ (p : Fin 4096) (e : Fin 8192), i = ix2 p ⟨8192 + e.val, by omega⟩ :=
    ⟨i 0, ⟨(i 1).val - 8192, by omega⟩, (eq_ix2 i).trans (congrArg (ix2 (i 0)) (Fin.ext (by simp only []; omega)))⟩
  rw [he, Cert.GateBRefIdeal.Entry.dz_at, dzOut_at]
  exact dz_eq _ (hdy _) (hq _) (hb _) (hs _)

/-- The scale's gradient is the derivative the reference takes. -/
theorem ds_ref : Cert.GateBRefIdeal.Read.val_main_v39 (F := Ideal) dy q pr b = ds dy q pr b := by
  funext j
  obtain ⟨u, e, rfl⟩ : ∃ (u : Fin 1) (e : Fin 8192), j = ix2 u e := ⟨j 0, j 1, eq_ix2 j⟩
  obtain rfl : u = 0 := Subsingleton.elim _ _
  rw [Cert.GateBRefIdeal.Entry.ds_at]
  exact Finset.sum_congr rfl fun p _ => by simp only [dsRow, gated, ix2_1]; rw [mul_comm]

/-- The offset's gradient is the derivative the reference takes. -/
theorem db_ref : Cert.GateBRefIdeal.Read.val_main_v40 (F := Ideal) dy pr s = db dy pr s := by
  funext j
  obtain ⟨u, e, rfl⟩ : ∃ (u : Fin 1) (e : Fin 8192), j = ix2 u e := ⟨j 0, j 1, eq_ix2 j⟩
  obtain rfl : u = 0 := Subsingleton.elim _ _
  rw [Cert.GateBRefIdeal.Entry.db_at]
  exact Finset.sum_congr rfl fun p _ => by simp only [gated, ix2_1]

/-- The gate's backward call computes the reference's gradients. -/
theorem claim [Cert.Pre_gate_b_finite.Facts] [Cert.On_gate_half.Facts] :
    Cert.algebraic_GateBIdeal_GateBRefIdeal_on_gate_half_pre_gate_b_finite := by
  intro m g m' g' hpre hagree
  refine ⟨fun c => dq (m ((c.tc : Thread nD τ).loc main_arg0)) (m ((c.tc : Thread nD τ).loc main_arg2))
      (m ((c.tc : Thread nD τ).loc main_arg4)),
    fun c => dzOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)),
    fun c => ds (m ((c.tc : Thread nD τ).loc main_arg0)) (m ((c.tc : Thread nD τ).loc main_arg1))
      (m ((c.tc : Thread nD τ).loc main_arg2)) (m ((c.tc : Thread nD τ).loc main_arg3)),
    fun c => db (m ((c.tc : Thread nD τ).loc main_arg0)) (m ((c.tc : Thread nD τ).loc main_arg2))
      (m ((c.tc : Thread nD τ).loc main_arg4)), ?_, ?_⟩
  · refine θ_run_mono (Cert.GateBIdeal.Value.run_blocks m g) fun r hr c => ?_
    obtain ⟨h1, h2, h3, h4, hargs⟩ := hr c
    exact ⟨fun i _ => congrFun (h1.trans (dq_final m c)) i, fun i hi => (congrFun h2 i).trans (dz_final m c i (mask hi)),
      fun i _ => congrFun (h3.trans (ds_final m c)) i, fun i _ => congrFun (h4.trans (db_final m c)) i, hargs⟩
  · refine θ_run_mono (Cert.GateBRefIdeal.Entry.run m' g') fun r hr c => ?_
    obtain ⟨hdy, hq, hb, hs⟩ := finite (hpre c)
    obtain ⟨a0, a1, a2, a3, a4⟩ := hagree c
    obtain ⟨h1, h2, h3, h4, hargs⟩ := hr c
    rw [a0, a2, a4] at h1 h4
    rw [a0, a1, a2, a3, a4] at h2
    rw [a0, a1, a2, a3] at h3
    exact ⟨fun i _ => congrFun (h1.trans dq_ref) i, fun i hi => (congrFun h2 i).trans (dz_ref hdy hq hb hs i (mask hi)),
      fun i _ => congrFun (h3.trans ds_ref) i, fun i _ => congrFun (h4.trans db_ref) i, hargs⟩

end Cert.GateBIdeal.Whole

end
-- ==== Proof.NormsMidBlock.lean ====
/- The norms between the two mixers, forward and backward: the mathematics of one row, and what one block of 128 rows
   computes in its words. -/
module

public import proofs.«01_k».proof.Proof.Rms
public import proofs.«01_k».proof.Proof.Gen.NormsMidIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Mid

open Cert.Rms

variable (dres dh : FVec Ideal ⟨2, ![4096, 4096]⟩ .f32) (x : FVec Ideal ⟨3, ![2, 2048, 4096]⟩ .f32)
  (m : FVec Ideal ⟨2, ![4096, 4096]⟩ .f32) (pre post : FVec Ideal ⟨2, ![2, 4096]⟩ .f32) (p k : Fin 4096)

/-- The first mixer's output in row `p`. -/
abbrev mix : EReal := m (ix2 p k)

/-- The residual stream behind the first mixer: the input plus the normed output. -/
def stream : EReal := row x p k + mix m p k * scale (mix m p) * post (ix2 0 k)

/-- The second mixer's input: the residual stream, normed. -/
def normedStream : EReal := stream x m post p k * scale (stream x m post p) * pre (ix2 1 k)

/-- The cotangent of the normed residual stream before its weight. -/
abbrev hiddenCt : EReal := dh (ix2 p k) * pre (ix2 1 k)

/-- The gradient of the residual stream. -/
def streamGrad : EReal := dres (ix2 p k) + bwdKernel (stream x m post p) (hiddenCt dh pre p) k

/-- The gradient of the first mixer's output. -/
def mixGrad : EReal := bwdKernel (mix m p) (fun i => streamGrad dres dh x m pre post p i * post (ix2 0 i)) k

/-- What row `p` adds to the gradient of the second mixer's weight. -/
def preRow : EReal := dh (ix2 p k) * (stream x m post p k * scale (stream x m post p))

/-- What row `p` adds to the gradient of the first mixer's weight. -/
def postRow : EReal := streamGrad dres dh x m pre post p k * (mix m p k * scale (mix m p))

end Cert.Mid

namespace Cert.NormsMidIdeal.Block

open Cert.NormsMidIdeal Cert.NormsMidIdeal.Gen Cert.Rms

variable (m x d dh : FVec Ideal S128x4096 .f32) (g h acc : FVec Ideal S1x4096 .f32) (r : Fin 128) (e : Fin 4096)

/-- The word the kernel divides a row's sum by. -/
abbrev width : Ideal .f32 := Scalar.ofBits (F := Ideal) .f32 0x45800000#32

/-- One entry of the forward call's residual stream. -/
theorem stream_at : k0_pay1 (F := Ideal) m x g (ix2 r e)
    = x (ix2 r e) + m (ix2 r e) * scale (fun k => m (ix2 r k)) * g (ix2 0 e) := by
  pointwise [k0_pay1, scale, meanSq]

/-- One entry of the forward call's normed stream. -/
theorem hidden_at : k0_pay2 (F := Ideal) m x g h (ix2 r e)
    = k0_pay1 (F := Ideal) m x g (ix2 r e) * scale (fun k => k0_pay1 (F := Ideal) m x g (ix2 r k)) * h (ix2 0 e) := by
  pointwise [k0_pay2, scale, meanSq]

/-- One entry of the gradient of the residual stream. -/
theorem streamGrad_at : k1_pay12 (F := Ideal) dh x g d (ix2 r e)
    = d (ix2 r e) + bwdKernel (fun k => x (ix2 r k)) (fun k => dh (ix2 r k) * g (ix2 0 k)) e := by
  pointwise [k1_pay12, k1_pay10, k1_pay9, k1_pay8, bwdKernel, scale, meanSq]

/-- One entry of the gradient of the mixer's output. -/
theorem mixGrad_at : k1_pay3 (F := Ideal) d m (k1_pay13 g) (k1_pay14 m) width (ix2 r e)
    = bwdKernel (fun k => m (ix2 r k)) (fun k => d (ix2 r k) * g (ix2 0 k)) e := by
  pointwise [k1_pay3, k1_pay2, k1_pay1, k1_pay13, k1_pay14, width, bwdKernel, scale, meanSq]

/-- The block's part of the second mixer's weight gradient, added to what was there. -/
theorem pre_at : k1_pay6 (F := Ideal) (k1_pay11 dh x) acc (ix2 0 e)
    = acc (ix2 0 e) + ∑ r : Fin 128, dh (ix2 r e) * (x (ix2 r e) * scale (fun k => x (ix2 r k))) := by
  pointwise [k1_pay6, k1_pay11, k1_pay10, k1_pay9, k1_pay8, scale, meanSq]

/-- The block's part of the first mixer's weight gradient, added to what was there. -/
theorem post_at : k1_pay7 (F := Ideal) d m (k1_pay14 m) width acc (ix2 0 e)
    = acc (ix2 0 e) + ∑ r : Fin 128, d (ix2 r e) * (m (ix2 r e) * scale (fun k => m (ix2 r k))) := by
  pointwise [k1_pay7, k1_pay2, k1_pay1, k1_pay14, width, scale, meanSq]

/-- The accumulators start at zero. -/
theorem zero_at : k1_pay4 (F := Ideal) (ix2 0 e) = 0 ∧ k1_pay5 (F := Ideal) (ix2 0 e) = 0 := by
  constructor
  · pointwise [k1_pay4]
  · pointwise [k1_pay5]

end Cert.NormsMidIdeal.Block

end
-- ==== Proof.NormsMidRun.lean ====
/- The norms between the two mixers: the run of the two calls, with what every result array holds at the end in terms of
   what each call's grid leaves. -/
module

public import proofs.«01_k».proof.Proof.Gen.NormsMidIdeal.Frame

@[expose] public section

set_option maxRecDepth 16384

noncomputable section

namespace Cert.NormsMidIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.NormsMidIdeal Cert.NormsMidIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the forward call leaves in an array that the backward call only reads, or does not touch, is there at the end. -/
theorem forward_kept (c : Dev nD) (w : Fin cfg0.W)
    (h : ∀ v : Fin cfg1.W, Pipeline.arrRef spec1 v = Pipeline.arrRef spec0 w → (cfg1.win v).isOut = false)
    (hh : Pipeline.arrRef spec0 w ∉ hostOps1_W) :
    W4 m ρ c (Proc.devRef .tc (Pipeline.arrRef spec0 w)) = (dat0 (V1 m ρ) c).arrAt w cfg0.N :=
  (W4_of m ρ c _ h).trans ((W3_of m ρ c _ hh).trans (W2_arr m ρ c w))

set_option backward.isDefEq.respectTransparency.types false in
/-- The run of the two calls. -/
theorem run : θ_run defs (onTc (τ := τ) (main (F := F))) ⟨m, fun _ => 0, ρ⟩ (fun r => ∀ c : Dev nD,
      r.2.mem ((c.tc : Thread nD τ).loc main_v3_0) = (dat0 (V1 m ρ) c).arrAt 4 cfg0.N
      ∧ r.2.mem ((c.tc : Thread nD τ).loc main_v3_1) = (dat0 (V1 m ρ) c).arrAt 5 cfg0.N
      ∧ r.2.mem ((c.tc : Thread nD τ).loc main_v6_0) = (dat1 (V3 m ρ) c).arrAt 6 cfg1.N
      ∧ r.2.mem ((c.tc : Thread nD τ).loc main_v6_1) = (dat1 (V3 m ρ) c).arrAt 7 cfg1.N
      ∧ r.2.mem ((c.tc : Thread nD τ).loc main_v6_2) = (dat1 (V3 m ρ) c).arrAt 8 cfg1.N
      ∧ r.2.mem ((c.tc : Thread nD τ).loc main_v6_3) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v3_0 (by decide))).trans (forward_kept m ρ c 4 (by decide) (by decide)),
       (h c _ (mem_uc main_v3_1 (by decide))).trans (forward_kept m ρ c 5 (by decide) (by decide)),
       (h c _ (mem_uc main_v6_0 (by decide))).trans (W4_arr m ρ c 6),
       (h c _ (mem_uc main_v6_1 (by decide))).trans (W4_arr m ρ c 7),
       (h c _ (mem_uc main_v6_2 (by decide))).trans (W4_arr m ρ c 8),
       (h c _ (mem_uc main_v6_3 (by decide))).trans (W4_arr m ρ c 9),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.NormsMidIdeal.Whole

end
-- ==== Proof.NormsMid.lean ====
/- The norms between the two mixers: what the six result arrays hold after the run. -/
module

public import proofs.«01_k».proof.Proof.NormsMidBlock
public import proofs.«01_k».proof.Proof.NormsMidRun

@[expose] public section

set_option maxRecDepth 16384

noncomputable section

open Idealize.ShloMosaic Idealize.ShloMosaic.TcCoe Idealize.SL.Sem
open Idealize.ShloMosaic.Pipeline (Dat)

namespace Cert.NormsMidIdeal.Whole

open Cert.NormsMidIdeal Cert.NormsMidIdeal.Gen Cert.Rms Cert.Mid

variable (m : (ℓ : Loc nD τ sig) → Buf (Elt Ideal) ℓ) (ρ : Dev nD → PrngReg) (c : Dev nD)

/-- The arguments as the run finds them. -/
abbrev aDres : FVec Ideal S4096x4096 .f32 := m ((c : Thread nD τ).loc main_arg0)
abbrev aDh : FVec Ideal S4096x4096 .f32 := m ((c : Thread nD τ).loc main_arg1)
abbrev aX : FVec Ideal S2x2048x4096 .f32 := m ((c : Thread nD τ).loc main_arg2)
abbrev aM : FVec Ideal S4096x4096 .f32 := m ((c : Thread nD τ).loc main_arg3)
abbrev aPre : FVec Ideal S2x4096 .f32 := m ((c : Thread nD τ).loc main_arg4)
abbrev aPost : FVec Ideal S2x4096 .f32 := m ((c : Thread nD τ).loc main_arg5)

/-- Which block each window of the forward call holds at a point. -/
theorem idx0 : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- Which block each window of the backward call holds at a point. -/
theorem idx1 : ∀ t : Fin cfg1.N, win1_0.index t = ![t.val, 0] ∧ win1_1.index t = ![t.val, 0] ∧ win1_2.index t = ![t.val, 0]
    ∧ win1_3.index t = ![0, 0] ∧ win1_4.index t = ![t.val, 0] ∧ win1_5.index t = ![0, 0] ∧ win1_6.index t = ![t.val, 0]
    ∧ win1_7.index t = ![t.val, 0] ∧ win1_8.index t = ![0, 0] ∧ win1_9.index t = ![0, 0] :=
  (by decide +kernel : ∀ t : Fin grid1.N, _)

/-! ### What the calls find in the arrays the host prepares -/

theorem x_entry (p k : Fin 4096) : V1 m ρ c main_v0 (ix2 p k) = row (aX m c) p k := by
  show StableHlo.after hostOps0 (W0 m ρ c) (Proc.devRef .tc main_v0) (ix2 p k) = _
  after_results
  pointwise
theorem post_entry (k : Fin 4096) : V1 m ρ c main_v1 (ix2 0 k) = aPost m c (ix2 0 k) := by
  show StableHlo.after hostOps0 (W0 m ρ c) (Proc.devRef .tc main_v1) (ix2 0 k) = _
  after_results
  pointwise
theorem pre_entry (k : Fin 4096) : V1 m ρ c main_v2 (ix2 0 k) = aPre m c (ix2 1 k) := by
  show StableHlo.after hostOps0 (W0 m ρ c) (Proc.devRef .tc main_v2) (ix2 0 k) = _
  after_results
  pointwise
theorem m_entry : V1 m ρ c main_arg3 = aM m c := W1_args m ρ c main_arg3 (by decide)

/-! ### The forward call -/

section Forward

variable (t : Fin cfg0.N) (r : Fin 128) (k p : Fin 4096) (hp : p.val = t.val * 128 + r.val)
include hp

theorem x_at : iblk0 (V1 m ρ) c 0 t (ix2 r k) = row (aX m c) p k := by
  rw [← x_entry m ρ c]
  blk_ext [iblk0, idx0 t]
theorem m_at : iblk0 (V1 m ρ) c 1 t (ix2 r k) = mix (aM m c) p k := by
  rw [mix, ← m_entry m ρ c]
  blk_ext [iblk0, idx0 t]

end Forward

theorem post_at (t : Fin cfg0.N) (k : Fin 4096) : iblk0 (V1 m ρ) c 2 t (ix2 0 k) = aPost m c (ix2 0 k) := by
  rw [← post_entry m ρ c]
  blk_ext [iblk0, idx0 t]
theorem pre_at (t : Fin cfg0.N) (k : Fin 4096) : iblk0 (V1 m ρ) c 3 t (ix2 0 k) = aPre m c (ix2 1 k) := by
  rw [← pre_entry m ρ c]
  blk_ext [iblk0, idx0 t]

/-- The residual stream as a whole array. -/
def streamArr : FVec Ideal S4096x4096 .f32 := fun j => stream (aX m c) (aM m c) (aPost m c) (j 0) (j 1)

/-- The normed residual stream as a whole array. -/
def normedArr : FVec Ideal S4096x4096 .bf16 := fun j => normedStream (aX m c) (aM m c) (aPre m c) (aPost m c) (j 0) (j 1)

/-- A block's entry of the residual stream. -/
theorem stream_point (t : Fin cfg0.N) (r : Fin 128) (k p : Fin 4096) (hp : p.val = t.val * 128 + r.val) :
    k0_pay1 (F := Ideal) (iblk0 (V1 m ρ) c 1 t) (iblk0 (V1 m ρ) c 0 t) (iblk0 (V1 m ρ) c 2 t) (ix2 r k)
      = stream (aX m c) (aM m c) (aPost m c) p k := by
  refine (Block.stream_at _ _ _ r k).trans ?_
  simp only [stream, x_at m ρ c t r _ p hp, m_at m ρ c t r _ p hp, post_at]

theorem stream_final : (dat0 (V1 m ρ) c).arrAt 4 cfg0.N = streamArr m c := by
  refine (dat0 (V1 m ρ) c).arrAt_eq_of_covers 4 _ (by decide +kernel) fun t _ y => ?_
  obtain ⟨r, e, rfl⟩ : ∃ (r : Fin 128) (e : Fin 4096), y = ix2 r e := ⟨y 0, y 1, eq_ix2 y⟩
  have ht : t.val < 32 := t.isLt
  obtain ⟨p, hp⟩ : ∃ p : Fin 4096, p.val = t.val * 128 + r.val := ⟨⟨t.val * 128 + r.val, by omega⟩, rfl⟩
  have hj : ((cfg0.win 4).blk t).view.emb (ix2 r e) = ix2 p e := by blk_ext [idx0 t]
  rw [hj]
  blk_simp
  rw [after0_4, out0_4]
  frame_out
  exact stream_point m ρ c t r e p hp

theorem normed_final : (dat0 (V1 m ρ) c).arrAt 5 cfg0.N = normedArr m c := by
  refine (dat0 (V1 m ρ) c).arrAt_eq_of_covers 5 _ (by decide +kernel) fun t _ y => ?_
  obtain ⟨r, e, rfl⟩ : ∃ (r : Fin 128) (e : Fin 4096), y = ix2 r e := ⟨y 0, y 1, eq_ix2 y⟩
  have ht : t.val < 32 := t.isLt
  obtain ⟨p, hp⟩ : ∃ p : Fin 4096, p.val = t.val * 128 + r.val := ⟨⟨t.val * 128 + r.val, by omega⟩, rfl⟩
  have hj : ((cfg0.win 5).blk t).view.emb (ix2 r e) = ix2 p e := by blk_ext [idx0 t]
  rw [hj]
  blk_simp
  rw [after0_5, out0_5]
  frame_out
  refine (Block.hidden_at _ _ _ _ r e).trans ?_
  simp only [normedArr, normedStream, ix2_0, ix2_1, stream_point m ρ c t r _ p hp, pre_at]

/-! ### What the backward call finds -/

theorem arg_entry (a : Ref sig .tc) (h : a ∈ argRefs) : V3 m ρ c a = m ((c : Thread nD τ).loc a) := W3_args m ρ c a h

theorem stream_entry : V3 m ρ c main_v3_0 = streamArr m c :=
  (W3_of m ρ c main_v3_0 (by decide)).trans ((W2_arr m ρ c 4).trans (stream_final m ρ c))
theorem pre_entry' (k : Fin 4096) : V3 m ρ c main_v4 (ix2 0 k) = aPre m c (ix2 1 k) := by
  show StableHlo.after hostOps1 (W2 m ρ c) (Proc.devRef .tc main_v4) (ix2 0 k) = _
  after_results
  rw [W2_args m ρ c main_arg4 (by decide)]
  pointwise
theorem post_entry' (k : Fin 4096) : V3 m ρ c main_v5 (ix2 0 k) = aPost m c (ix2 0 k) := by
  show StableHlo.after hostOps1 (W2 m ρ c) (Proc.devRef .tc main_v5) (ix2 0 k) = _
  after_results
  rw [W2_args m ρ c main_arg5 (by decide)]
  pointwise

/-! ### The backward call -/

section Backward

variable (t : Fin cfg1.N) (r : Fin 128) (k p : Fin 4096) (hp : p.val = t.val * 128 + r.val)
include hp

theorem dres_at : iblk1 (V3 m ρ) c 0 t (ix2 r k) = aDres m c (ix2 p k) := by
  rw [show aDres m c = V3 m ρ c main_arg0 from (arg_entry m ρ c _ (by decide)).symm]
  blk_ext [iblk1, idx1 t]
theorem dh_at : iblk1 (V3 m ρ) c 1 t (ix2 r k) = aDh m c (ix2 p k) := by
  rw [show aDh m c = V3 m ρ c main_arg1 from (arg_entry m ρ c _ (by decide)).symm]
  blk_ext [iblk1, idx1 t]
theorem s_at : iblk1 (V3 m ρ) c 2 t (ix2 r k) = stream (aX m c) (aM m c) (aPost m c) p k := by
  rw [show stream (aX m c) (aM m c) (aPost m c) p k = streamArr m c (ix2 p k) from rfl, ← stream_entry m ρ c]
  blk_ext [iblk1, idx1 t]
theorem m_at' : iblk1 (V3 m ρ) c 4 t (ix2 r k) = mix (aM m c) p k := by
  rw [mix, show aM m c = V3 m ρ c main_arg3 from (arg_entry m ρ c _ (by decide)).symm]
  blk_ext [iblk1, idx1 t]

end Backward

theorem pre_at' (t : Fin cfg1.N) (k : Fin 4096) : iblk1 (V3 m ρ) c 3 t (ix2 0 k) = aPre m c (ix2 1 k) := by
  rw [← pre_entry' m ρ c]
  blk_ext [iblk1, idx1 t]
theorem post_at' (t : Fin cfg1.N) (k : Fin 4096) : iblk1 (V3 m ρ) c 5 t (ix2 0 k) = aPost m c (ix2 0 k) := by
  rw [← post_entry' m ρ c]
  blk_ext [iblk1, idx1 t]

/-- The four results of the backward call as whole arrays. -/
def streamGradArr : FVec Ideal S4096x4096 .f32 :=
  fun j => streamGrad (aDres m c) (aDh m c) (aX m c) (aM m c) (aPre m c) (aPost m c) (j 0) (j 1)
def mixGradArr : FVec Ideal S4096x4096 .bf16 :=
  fun j => mixGrad (aDres m c) (aDh m c) (aX m c) (aM m c) (aPre m c) (aPost m c) (j 0) (j 1)
def preGradArr : FVec Ideal S1x4096 .f32 :=
  fun j => ∑ p : Fin 4096, preRow (aDh m c) (aX m c) (aM m c) (aPost m c) p (j 1)
def postGradArr : FVec Ideal S1x4096 .f32 :=
  fun j => ∑ p : Fin 4096, postRow (aDres m c) (aDh m c) (aX m c) (aM m c) (aPre m c) (aPost m c) p (j 1)

/-- The block of the residual stream's gradient that a point computes. -/
abbrev gradBlk (t : Fin cfg1.N) : FVec Ideal S128x4096 .f32 :=
  k1_pay12 (F := Ideal) (iblk1 (V3 m ρ) c 1 t) (iblk1 (V3 m ρ) c 2 t) (iblk1 (V3 m ρ) c 3 t) (iblk1 (V3 m ρ) c 0 t)

theorem streamGrad_point (t : Fin cfg1.N) (r : Fin 128) (k p : Fin 4096) (hp : p.val = t.val * 128 + r.val) :
    gradBlk m ρ c t (ix2 r k) = streamGrad (aDres m c) (aDh m c) (aX m c) (aM m c) (aPre m c) (aPost m c) p k := by
  refine (Block.streamGrad_at _ _ _ _ r k).trans ?_
  simp only [streamGrad, hiddenCt, dres_at m ρ c t r _ p hp, dh_at m ρ c t r _ p hp, s_at m ρ c t r _ p hp, pre_at']

theorem streamGrad_final : (dat1 (V3 m ρ) c).arrAt 6 cfg1.N = streamGradArr m c := by
  refine (dat1 (V3 m ρ) c).arrAt_eq_of_covers 6 _ (by decide +kernel) fun t _ y => ?_
  obtain ⟨r, e, rfl⟩ : ∃ (r : Fin 128) (e : Fin 4096), y = ix2 r e := ⟨y 0, y 1, eq_ix2 y⟩
  have ht : t.val < 32 := t.isLt
  obtain ⟨p, hp⟩ : ∃ p : Fin 4096, p.val = t.val * 128 + r.val := ⟨⟨t.val * 128 + r.val, by omega⟩, rfl⟩
  have hj : ((cfg1.win 6).blk t).view.emb (ix2 r e) = ix2 p e := by blk_ext [idx1 t]
  rw [hj]
  blk_simp
  rw [after1_6]
  by_cases h : t.val % 32 = 0
  · rw [outsAt1_A (V3 m ρ) c t h]
    frame_out
    exact streamGrad_point m ρ c t r e p hp
  · rw [outsAt1_B (V3 m ρ) c t h]
    frame_out
    exact streamGrad_point m ρ c t r e p hp

theorem mixGrad_point (t : Fin cfg1.N) (r : Fin 128) (k p : Fin 4096) (hp : p.val = t.val * 128 + r.val) :
    k1_pay3 (F := Ideal) (gradBlk m ρ c t) (iblk1 (V3 m ρ) c 4 t) (k1_pay13 (iblk1 (V3 m ρ) c 5 t))
        (k1_pay14 (iblk1 (V3 m ρ) c 4 t)) Block.width (ix2 r k)
      = mixGrad (aDres m c) (aDh m c) (aX m c) (aM m c) (aPre m c) (aPost m c) p k := by
  refine (Block.mixGrad_at _ _ _ r k).trans ?_
  simp only [mixGrad, m_at' m ρ c t r _ p hp, streamGrad_point m ρ c t r _ p hp, post_at']

theorem mixGrad_final : (dat1 (V3 m ρ) c).arrAt 7 cfg1.N = mixGradArr m c := by
  refine (dat1 (V3 m ρ) c).arrAt_eq_of_covers 7 _ (by decide +kernel) fun t _ y => ?_
  obtain ⟨r, e, rfl⟩ : ∃ (r : Fin 128) (e : Fin 4096), y = ix2 r e := ⟨y 0, y 1, eq_ix2 y⟩
  have ht : t.val < 32 := t.isLt
  obtain ⟨p, hp⟩ : ∃ p : Fin 4096, p.val = t.val * 128 + r.val := ⟨⟨t.val * 128 + r.val, by omega⟩, rfl⟩
  have hj : ((cfg1.win 7).blk t).view.emb (ix2 r e) = ix2 p e := by blk_ext [idx1 t]
  rw [hj]
  blk_simp
  rw [after1_7]
  by_cases h : t.val % 32 = 0
  · rw [outsAt1_A (V3 m ρ) c t h]
    frame_out
    exact mixGrad_point m ρ c t r e p hp
  · rw [outsAt1_B (V3 m ρ) c t h]
    frame_out
    exact mixGrad_point m ρ c t r e p hp

/-- Row `r` of block `t`. -/
abbrev rowOf (t : Fin cfg1.N) (r : Fin 128) : Fin 4096 := ⟨t.val * 128 + r.val, by have : t.val < 32 := t.isLt; omega⟩

theorem pre_point (t : Fin cfg1.N) (acc : FVec Ideal S1x4096 .f32) (e : Fin 4096) :
    k1_pay6 (F := Ideal) (k1_pay11 (iblk1 (V3 m ρ) c 1 t) (iblk1 (V3 m ρ) c 2 t)) acc (ix2 0 e)
      = acc (ix2 0 e) + ∑ r : Fin 128, preRow (aDh m c) (aX m c) (aM m c) (aPost m c) (rowOf t r) e := by
  refine (Block.pre_at _ _ _ e).trans (congrArg _ (Finset.sum_congr rfl fun r _ => ?_))
  simp only [preRow, dh_at m ρ c t r _ (rowOf t r) rfl, s_at m ρ c t r _ (rowOf t r) rfl]

theorem post_point (t : Fin cfg1.N) (acc : FVec Ideal S1x4096 .f32) (e : Fin 4096) :
    k1_pay7 (F := Ideal) (gradBlk m ρ c t) (iblk1 (V3 m ρ) c 4 t) (k1_pay14 (iblk1 (V3 m ρ) c 4 t)) Block.width acc (ix2 0 e)
      = acc (ix2 0 e) + ∑ r : Fin 128,
          postRow (aDres m c) (aDh m c) (aX m c) (aM m c) (aPre m c) (aPost m c) (rowOf t r) e := by
  refine (Block.post_at _ _ _ e).trans (congrArg _ (Finset.sum_congr rfl fun r _ => ?_))
  simp only [postRow, m_at' m ρ c t r _ (rowOf t r) rfl, streamGrad_point m ρ c t r _ (rowOf t r) rfl]

/-- The last point is the only one at which an accumulated row is written back. -/
theorem last (t : Fin cfg1.N) (h : t.val % 32 = 31) : t.val + 1 = cfg1.N := by
  have h2 : t.val < 32 := t.isLt
  show t.val + 1 = 32
  omega

theorem pre_final : (dat1 (V3 m ρ) c).arrAt 8 cfg1.N = preGradArr m c := by
  refine (dat1 (V3 m ρ) c).arrAt_eq_of_covers 8 _ (by decide +kernel) fun t hf y => ?_
  obtain ⟨u, e, rfl⟩ : ∃ (u : Fin 1) (e : Fin 4096), y = ix2 u e := ⟨y 0, y 1, eq_ix2 y⟩
  obtain rfl : u = 0 := Subsingleton.elim _ _
  have hj : ((cfg1.win 8).blk t).view.emb (ix2 0 e) = ix2 0 e := by blk_ext [idx1 t]
  rw [hj]
  blk_simp
  rw [after1_8, Pipeline.eq_sum_fin_of_reset_step_apply_last (fun n h => (outsAt1 (V3 m ρ) c n h).2.2.1) 32 (fun _ => 0)
    (fun t j => ∑ r : Fin 128, preRow (aDh m c) (aX m c) (aM m c) (aPost m c) (rowOf t r) (j 1))
    (fun t h j => by
      obtain ⟨u, e, rfl⟩ : ∃ (u : Fin 1) (e : Fin 4096), j = ix2 u e := ⟨j 0, j 1, eq_ix2 j⟩
      obtain rfl : u = 0 := Subsingleton.elim _ _
      rw [outsAt1_A (V3 m ρ) c t h]; frame_out; exact (pre_point m ρ c t _ e).trans (by rw [(Block.zero_at e).1, ix2_1]))
    (fun t h j => by
      obtain ⟨u, e, rfl⟩ : ∃ (u : Fin 1) (e : Fin 4096), j = ix2 u e := ⟨j 0, j 1, eq_ix2 j⟩
      obtain rfl : u = 0 := Subsingleton.elim _ _
      rw [outsAt1_B (V3 m ρ) c t h]; frame_out; exact (pre_point m ρ c t _ e).trans (by rw [ix2_1]))
    (le_refl 32) t (last t ((flush1_8 t).mp hf)) _, zero_add]
  exact Fin.sum_mul_add_congr (fun s k hl => rfl)

theorem post_final : (dat1 (V3 m ρ) c).arrAt 9 cfg1.N = postGradArr m c := by
  refine (dat1 (V3 m ρ) c).arrAt_eq_of_covers 9 _ (by decide +kernel) fun t hf y => ?_
  obtain ⟨u, e, rfl⟩ : ∃ (u : Fin 1) (e : Fin 4096), y = ix2 u e := ⟨y 0, y 1, eq_ix2 y⟩
  obtain rfl : u = 0 := Subsingleton.elim _ _
  have hj : ((cfg1.win 9).blk t).view.emb (ix2 0 e) = ix2 0 e := by blk_ext [idx1 t]
  rw [hj]
  blk_simp
  rw [after1_9, Pipeline.eq_sum_fin_of_reset_step_apply_last (fun n h => (outsAt1 (V3 m ρ) c n h).2.2.2) 32 (fun _ => 0)
    (fun t j => ∑ r : Fin 128,
      postRow (aDres m c) (aDh m c) (aX m c) (aM m c) (aPre m c) (aPost m c) (rowOf t r) (j 1))
    (fun t h j => by
      obtain ⟨u, e, rfl⟩ : ∃ (u : Fin 1) (e : Fin 4096), j = ix2 u e := ⟨j 0, j 1, eq_ix2 j⟩
      obtain rfl : u = 0 := Subsingleton.elim _ _
      rw [outsAt1_A (V3 m ρ) c t h]; frame_out; exact (post_point m ρ c t _ e).trans (by rw [(Block.zero_at e).2, ix2_1]))
    (fun t h j => by
      obtain ⟨u, e, rfl⟩ : ∃ (u : Fin 1) (e : Fin 4096), j = ix2 u e := ⟨j 0, j 1, eq_ix2 j⟩
      obtain rfl : u = 0 := Subsingleton.elim _ _
      rw [outsAt1_B (V3 m ρ) c t h]; frame_out; exact (post_point m ρ c t _ e).trans (by rw [ix2_1]))
    (le_refl 32) t (last t ((flush1_9 t).mp hf)) _, zero_add]
  exact Fin.sum_mul_add_congr (fun s k hl => rfl)

end Cert.NormsMidIdeal.Whole

end
-- ==== Proof.NormsMidRefBlock.lean ====
/- The norms between the two mixers: the reference's results at one entry, in the words of the row facts. -/
module

public import proofs.«01_k».proof.Proof.NormsMidBlock
public import proofs.«01_k».proof.Proof.Sums
public import proofs.«01_k».proof.Proof.Gen.NormsMidRefIdeal.Read

@[expose] public section

set_option maxRecDepth 16384

noncomputable section

open Idealize.ShloMosaic Idealize.ShloMosaic.TcCoe Idealize.SL.Sem

namespace Cert.NormsMidRefIdeal.Entry

open Cert.NormsMidRefIdeal Cert.NormsMidRefIdeal.Read Cert.Rms Cert.Mid Cert.Sums

variable (dres dh : FVec Ideal S4096x4096 .f32) (x : FVec Ideal S2x2048x4096 .f32) (m : FVec Ideal S4096x4096 .f32)
  (pre post : FVec Ideal S2x4096 .f32) (p e : Fin 4096)

/-- One entry of the residual stream. -/
theorem stream_at : val_main_v21 (F := Ideal) x m post (ix3 (batchOf p) (posOf p) e) = stream x m post p e := by
  pointwise [val_main_v21, val_main_v20, val_main_v19, val_main_v18, val_main_v17, val_main_v16, val_main_v12, val_main_v11,
    val_main_v10, val_main_v9, val_main_v8, val_main_v7, val_main_v6, val_main_v5, val_main_v4, val_main_v3, val_main_v2,
    val_main_cst, val_main_cst_0, val_main_cst_1, stream, mix, row, scale, meanSq]
  simp only [Nat.div_add_mod']

/-- The scale of a row of the residual stream. -/
theorem streamScale_at : val_main_v29 (F := Ideal) x m post (ix3 (batchOf p) (posOf p) 0) = scale (stream x m post p) := by
  simp only [scale, meanSq, ← stream_at]
  pointwise [val_main_v29, val_main_v28, val_main_v27, val_main_v26, val_main_v25, val_main_v24, val_main_v23, val_main_v22,
    val_main_cst_3, val_main_cst_4, val_main_cst_5]

/-- One entry of the normed residual stream before its weight. -/
theorem normed_at : val_main_v34 (F := Ideal) x m post (ix3 (batchOf p) (posOf p) e)
    = stream x m post p e * scale (stream x m post p) := by
  rw [← stream_at, ← streamScale_at]
  pointwise [val_main_v34, val_main_v33]

/-- One entry of the second mixer's input. -/
theorem hidden_at : val_main_v84 (F := Ideal) x m pre post (ix2 p e) = normedStream x m pre post p e := by
  rw [normedStream, ← normed_at]
  pointwise [val_main_v84, val_main_v83, val_main_v37, val_main_v36, val_main_v35, val_main_v1, val_main_v0]

/-- The first result is the residual stream. -/
theorem x1_at : val_main_v82 (F := Ideal) x m post (ix2 p e) = stream x m post p e := by
  rw [← stream_at]
  pointwise [val_main_v82]

/-- The factor of a row of the residual stream in the derivative of its norm. -/
theorem streamSlope_at : val_main_v56 (F := Ideal) dh x m pre post (ix3 (batchOf p) (posOf p) e)
    = slope (stream x m post p) (hiddenCt dh pre p) := by
  simp only [Rms.slope, ← streamScale_at, ← stream_at, meanSq]
  pointwise [val_main_v56, val_main_v55, val_main_v54, val_main_v53, val_main_v52, val_main_v48, val_main_v47, val_main_v46,
    val_main_v44, val_main_v43, val_main_v39, val_main_v35, val_main_v1, val_main_v0, val_main_v32, val_main_v31,
    val_main_v30, val_main_v28, val_main_v27, val_main_v26, val_main_v25, val_main_v24, val_main_v23, val_main_v22,
    val_main_cst_3, val_main_cst_4, val_main_cst_5, val_main_cst_6, val_main_cst_9, val_main_cst_10, val_main_cst_11, hiddenCt]
  simp only [Fin.sum_univ_one, Nat.div_add_mod']

/-- One entry of the gradient of the residual stream, as differentiating the forward lines gives it. -/
def refStreamGrad : EReal :=
  dres (ix2 p e) + hiddenCt dh pre p e * scale (stream x m post p)
    + stream x m post p e * slope (stream x m post p) (hiddenCt dh pre p)
    + slope (stream x m post p) (hiddenCt dh pre p) * stream x m post p e

/-- One entry of the gradient of the residual stream. -/
theorem streamGrad_at : val_main_v60 (F := Ideal) dres dh x m pre post (ix3 (batchOf p) (posOf p) e)
    = refStreamGrad dres dh x m pre post p e := by
  simp only [refStreamGrad, ← streamSlope_at (e := e), ← streamScale_at, ← stream_at]
  pointwise [val_main_v60, val_main_v59, val_main_v58, val_main_v57, val_main_v51, val_main_v50, val_main_v49, val_main_v44,
    val_main_v43, val_main_v39, val_main_v38, val_main_v35, val_main_v1, val_main_v0, hiddenCt]
  simp only [Nat.div_add_mod']

/-- The third result is that gradient. -/
theorem dx_at : val_main_v85 (F := Ideal) dres dh x m pre post (ix2 p e) = refStreamGrad dres dh x m pre post p e := by
  rw [← streamGrad_at]
  pointwise [val_main_v85]

/-- One entry of the fourth result: the gradient of the first mixer's output. -/
theorem dm_at : val_main_v86 (F := Ideal) dres dh x m pre post (ix2 p e)
    = refStreamGrad dres dh x m pre post p e * post (ix2 0 e) * scale (mix m p)
      + mix m p e * slope (mix m p) (fun k => refStreamGrad dres dh x m pre post p k * post (ix2 0 k))
      + slope (mix m p) (fun k => refStreamGrad dres dh x m pre post p k * post (ix2 0 k)) * mix m p e := by
  simp only [← streamGrad_at]
  pointwise [val_main_v86, val_main_v81, val_main_v80, val_main_v79, val_main_v78, val_main_v77, val_main_v76, val_main_v75,
    val_main_v74, val_main_v73, val_main_v72, val_main_v71, val_main_v70, val_main_v69, val_main_v68, val_main_v67,
    val_main_v65, val_main_v64, val_main_v18, val_main_v15, val_main_v14, val_main_v13, val_main_v12, val_main_v11,
    val_main_v10, val_main_v9, val_main_v8, val_main_v7, val_main_v6, val_main_v5, val_main_v4, val_main_v3, val_main_v2,
    val_main_cst, val_main_cst_0, val_main_cst_1, val_main_cst_2, val_main_cst_14, val_main_cst_15, val_main_cst_16, mix,
    Rms.slope, scale, meanSq]
  simp only [Fin.sum_univ_one, Nat.div_add_mod']

/-- One entry of the fifth result: the second mixer's weight gradient. -/
theorem dpre_at : val_main_v87 (F := Ideal) dh x m post (ix2 0 e)
    = ∑ p : Fin 4096, stream x m post p e * scale (stream x m post p) * dh (ix2 p e) := by
  pointwise [val_main_v87, val_main_v45, val_main_v42, val_main_v41, val_main_v40, val_main_v39, val_main_cst_7, val_main_cst_8,
    reduceAdd_leading_two]
  simp only [Fin.sum_univ_one]
  refine Fin.sum_mul_add_congr fun b s hl => ?_
  obtain ⟨hb, hs⟩ := split_row ⟨_, hl⟩ b s rfl
  rw [← normed_at, ← hb, ← hs]

/-- One entry of the sixth result: the first mixer's weight gradient. -/
theorem dpost_at : val_main_v88 (F := Ideal) dres dh x m pre post (ix2 0 e)
    = ∑ p : Fin 4096, mix m p e * scale (mix m p) * refStreamGrad dres dh x m pre post p e := by
  pointwise [val_main_v88, val_main_v66, val_main_v63, val_main_v62, val_main_v61, val_main_v17, val_main_v16, val_main_v12,
    val_main_v11, val_main_v10, val_main_v9, val_main_v8, val_main_v7, val_main_v6, val_main_v5, val_main_v4, val_main_cst,
    val_main_cst_0, val_main_cst_1, val_main_cst_12, val_main_cst_13, mix, scale, meanSq, reduceAdd_leading_two]
  simp only [Fin.sum_univ_one]
  refine Fin.sum_mul_add_congr fun b s hl => ?_
  obtain ⟨hb, hs⟩ := split_row ⟨_, hl⟩ b s rfl
  rw [← streamGrad_at, ← hb, ← hs]

end Cert.NormsMidRefIdeal.Entry

end
-- ==== Proof.NormsMidRef.lean ====
/- The norms between the two mixers: the kernels' two forward results and four gradients are the reference's where the
   cotangents and the two weights are finite. -/
module

public import proofs.«01_k».proof.Proof.NormsMid
public import proofs.«01_k».proof.Proof.NormsMidRefBlock
public import proofs.«01_k».proof.Proof.Gen.NormsMidRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.NormsMidRefIdeal.Entry

open Cert.NormsMidRefIdeal Cert.NormsMidRefIdeal.Read

/-- The reference's run, its results by their names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = val_main_v82 (F := Ideal) (m ((c.tc : Thread nD τ).loc main_arg2))
          (m ((c.tc : Thread nD τ).loc main_arg3)) (m ((c.tc : Thread nD τ).loc main_arg5))
      ∧ r.2.mem ((c.tc : Thread nD τ).loc main_v84) = val_main_v84 (F := Ideal) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_v85) = val_main_v85 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v86) = val_main_v86 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_v87) = val_main_v87 (F := Ideal) (m ((c.tc : Thread nD τ).loc main_arg1))
          (m ((c.tc : Thread nD τ).loc main_arg2)) (m ((c.tc : Thread nD τ).loc main_arg3)) (m ((c.tc : Thread nD τ).loc main_arg5))
      ∧ r.2.mem ((c.tc : Thread nD τ).loc main_v88) = val_main_v88 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (Cert.NormsMidRefIdeal.Value.run m ρ) fun r h c =>
    ⟨(h c).1.trans (val_main_v82_eq _ _ _), (h c).2.1.trans (val_main_v84_eq _ _ _ _), (h c).2.2.1.trans (val_main_v85_eq m c),
      (h c).2.2.2.1.trans (val_main_v86_eq m c), (h c).2.2.2.2.1.trans (val_main_v87_eq _ _ _ _),
      (h c).2.2.2.2.2.1.trans (val_main_v88_eq m c), (h c).2.2.2.2.2.2⟩

/-- The reference runs, leaves its arguments and ends with every counter at zero. -/
theorem frame : Cert.quiescent_NormsMidRefIdeal := fun m ρ _ =>
  θ_run_mono (run m ρ) fun r h => ⟨fun c => (h c).2.2.2.2.2.2, sem_eq_zero_of_no_sems rfl _⟩

end Cert.NormsMidRefIdeal.Entry

namespace Cert.NormsMidIdeal.Whole

open Cert.NormsMidIdeal Cert.Rms Cert.Reals Cert.Mid

section Equal

variable (dres dh : FVec Ideal ⟨2, ![4096, 4096]⟩ .f32) (x : FVec Ideal ⟨3, ![2, 2048, 4096]⟩ .f32)
  (m : FVec Ideal ⟨2, ![4096, 4096]⟩ .f32) (pre post : FVec Ideal ⟨2, ![2, 4096]⟩ .f32)

/-- What the precondition says: the cotangents and the two weights in use are real numbers. -/
theorem finite [Cert.Pre_norms_mid_finite.Facts]
    (h : (Cert.Pre_norms_mid_finite.fn (F := Ideal) dres dh x m pre post).1 = (fun _ => 1#1)
      ∧ (Cert.Pre_norms_mid_finite.fn (F := Ideal) dres dh x m pre post).2.1 = (fun _ => 1#1)
      ∧ (Cert.Pre_norms_mid_finite.fn (F := Ideal) dres dh x m pre post).2.2.1 = (fun _ => 1#1)
      ∧ (Cert.Pre_norms_mid_finite.fn (F := Ideal) dres dh x m pre post).2.2.2 = (fun _ => 1#1)) :
    (∀ p k, ∃ r : ℝ, dres (ix2 p k) = r) ∧ (∀ p k, ∃ r : ℝ, dh (ix2 p k) = r)
      ∧ (∀ k, ∃ r : ℝ, pre (ix2 1 k) = r) ∧ (∀ k, ∃ r : ℝ, post (ix2 0 k) = r) := by
  refine ⟨fun p k => ?_, fun p k => ?_, fun k => ?_, fun k => ?_⟩
  · have := congrFun h.1 (ix2 p k)
    pointwise [Cert.Pre_norms_mid_finite.fn] at this
    exact real_of_word this
  · have := congrFun h.2.1 (ix2 p k)
    pointwise [Cert.Pre_norms_mid_finite.fn] at this
    exact real_of_word this
  · have := congrFun h.2.2.1 (ix1 k)
    pointwise [Cert.Pre_norms_mid_finite.fn] at this
    exact real_of_word this
  · have := congrFun h.2.2.2 (ix1 k)
    pointwise [Cert.Pre_norms_mid_finite.fn] at this
    exact real_of_word this

variable (hdres : ∀ p k, ∃ r : ℝ, dres (ix2 p k) = r) (hdh : ∀ p k, ∃ r : ℝ, dh (ix2 p k) = r)
  (hpre : ∀ k, ∃ r : ℝ, pre (ix2 1 k) = r) (hpost : ∀ k, ∃ r : ℝ, post (ix2 0 k) = r) (p e : Fin 4096)

include hdh hpre in
/-- The cotangent of the normed stream is real. -/
theorem hiddenCt_real : ∃ b : Fin 4096 → ℝ, hiddenCt dh pre p = fun k => (b k : EReal) := by
  choose a ha using hdh
  choose b hb using hpre
  exact ⟨fun k => a p k * b k, funext fun k => by rw [hiddenCt, ha, hb, EReal.coe_mul]⟩

include hdh hpre in
/-- The gradient of the residual stream is the derivative the reference takes. -/
theorem streamGrad_eq : Cert.NormsMidRefIdeal.Entry.refStreamGrad dres dh x m pre post p e = streamGrad dres dh x m pre post p e := by
  obtain ⟨b, hb⟩ := hiddenCt_real dh pre hdh hpre p
  rw [Cert.NormsMidRefIdeal.Entry.refStreamGrad, streamGrad, hb, bwd_eq]

include hdres hdh hpre in
/-- It is a real number. -/
theorem streamGrad_real : ∃ r : ℝ, streamGrad dres dh x m pre post p e = r := by
  obtain ⟨b, hb⟩ := hiddenCt_real dh pre hdh hpre p
  obtain ⟨d, hd⟩ := hdres p e
  obtain ⟨g, hg⟩ := bwd_real (stream x m post p) b e
  exact ⟨d + g, by rw [streamGrad, hb, hd, hg, EReal.coe_add]⟩

include hdres hdh hpre hpost in
/-- The gradient of the first mixer's output is the derivative the reference takes. -/
theorem mixGrad_eq : Cert.NormsMidRefIdeal.Read.val_main_v86 (F := Ideal) dres dh x m pre post (ix2 p e)
    = mixGrad dres dh x m pre post p e := by
  rw [Cert.NormsMidRefIdeal.Entry.dm_at]
  simp only [streamGrad_eq dres dh x m pre post hdh hpre]
  choose a ha using fun k => streamGrad_real dres dh x m pre post hdres hdh hpre p k
  choose b hb using hpost
  have hu : (fun k => streamGrad dres dh x m pre post p k * post (ix2 0 k)) = fun k => ((a k * b k : ℝ) : EReal) := by
    funext k; rw [ha, hb, EReal.coe_mul]
  rw [mixGrad, hu, congrFun hu e]
  exact bwd_eq_zero (mix m p) (fun k => a k * b k) e

end Equal

/-- The calls between the two mixers compute the reference's two forward results and four gradients. -/
theorem claim [Cert.Pre_norms_mid_finite.Facts] :
    Cert.algebraic_NormsMidIdeal_NormsMidRefIdeal_pre_norms_mid_finite := by
  intro m g m' g' hpre hagree
  refine ⟨fun c => streamArr m c, fun c => normedArr m c, fun c => streamGradArr m c, fun c => mixGradArr m c,
    fun c => preGradArr m c, fun c => postGradArr m c, ?_, ?_⟩
  · refine θ_run_mono (run m g) fun r hr c => ?_
    obtain ⟨h1, h2, h3, h4, h5, h6, hargs⟩ := hr c
    exact ⟨h1.trans (stream_final m g c), h2.trans (normed_final m g c), h3.trans (streamGrad_final m g c),
      h4.trans (mixGrad_final m g c), h5.trans (pre_final m g c), h6.trans (post_final m g c), hargs⟩
  · refine θ_run_mono (Cert.NormsMidRefIdeal.Entry.run m' g') fun r hr c => ?_
    obtain ⟨hdres, hdh, hg, hq⟩ := finite _ _ _ _ _ _ (hpre c)
    obtain ⟨a0, a1, a2, a3, a4, a5⟩ := hagree c
    obtain ⟨h1, h2, h3, h4, h5, h6, hargs⟩ := hr c
    rw [a2, a3, a5] at h1
    rw [a2, a3, a4, a5] at h2
    rw [a0, a1, a2, a3, a4, a5] at h3 h4 h6
    rw [a1, a2, a3, a5] at h5
    refine ⟨h1.trans (funext fun j => ?_), h2.trans (funext fun j => ?_), h3.trans (funext fun j => ?_),
      h4.trans (funext fun j => ?_), h5.trans (funext fun j => ?_), h6.trans (funext fun j => ?_), hargs⟩
    · obtain ⟨p, e, rfl⟩ : ∃ (p e : Fin 4096), j = ix2 p e := ⟨j 0, j 1, eq_ix2 j⟩
      exact Cert.NormsMidRefIdeal.Entry.x1_at _ _ _ p e
    · obtain ⟨p, e, rfl⟩ : ∃ (p e : Fin 4096), j = ix2 p e := ⟨j 0, j 1, eq_ix2 j⟩
      exact Cert.NormsMidRefIdeal.Entry.hidden_at _ _ _ _ p e
    · obtain ⟨p, e, rfl⟩ : ∃ (p e : Fin 4096), j = ix2 p e := ⟨j 0, j 1, eq_ix2 j⟩
      exact (Cert.NormsMidRefIdeal.Entry.dx_at _ _ _ _ _ _ p e).trans (streamGrad_eq _ _ _ _ _ _ hdh hg p e)
    · obtain ⟨p, e, rfl⟩ : ∃ (p e : Fin 4096), j = ix2 p e := ⟨j 0, j 1, eq_ix2 j⟩
      exact mixGrad_eq _ _ _ _ _ _ hdres hdh hg hq p e
    · obtain ⟨u, e, rfl⟩ : ∃ (u : Fin 1) (e : Fin 4096), j = ix2 u e := ⟨j 0, j 1, eq_ix2 j⟩
      obtain rfl : u = 0 := Subsingleton.elim _ _
      exact (Cert.NormsMidRefIdeal.Entry.dpre_at _ _ _ _ e).trans (Finset.sum_congr rfl fun p _ => mul_comm _ _)
    · obtain ⟨u, e, rfl⟩ : ∃ (u : Fin 1) (e : Fin 4096), j = ix2 u e := ⟨j 0, j 1, eq_ix2 j⟩
      obtain rfl : u = 0 := Subsingleton.elim _ _
      refine (Cert.NormsMidRefIdeal.Entry.dpost_at _ _ _ _ _ _ e).trans (Finset.sum_congr rfl fun p _ => ?_)
      rw [streamGrad_eq _ _ _ _ _ _ hdh hg, mul_comm]
      rfl

end Cert.NormsMidIdeal.Whole

end
-- ==== Proof.Pooling.lean ====
/- The gradient of a mean over the last `w` positions of a sequence: position `s` divides its cotangent among the
   positions it averaged, so an entry collects the shares of the `w` positions from its own on. -/
module

public import proofs.«01_k».proof.Proof.Reals
public import Idealize.ShloMosaic.Lib.Pointwise
public import Idealize.ShloMosaic.Lib.KernelVsHost

@[expose] public section

noncomputable section

namespace Cert.Pooling

open Idealize.ShloMosaic

/-- How many positions the mean at position `s` is over. -/
def count (w s : ℕ) : EReal := ((min (s + 1) w : ℕ) : ℝ)

/-- The part of position `s`'s cotangent that each averaged position gets. -/
def share (x : ℕ → EReal) (w s : ℕ) : EReal := Ideal.div (x s) (count w s)

/-- The shares position `s` collects in a sequence of 2048 positions. -/
def ahead (x : ℕ → EReal) (w s : ℕ) : EReal := ∑ u ∈ Finset.range w, if s + u < 2048 then share x w (s + u) else 0

/-- The count, as the programs compute it. -/
theorem count_eq (w s : ℕ) : min (((s : ℝ) : EReal) + 1) ((w : ℝ) : EReal) = count w s := by
  rw [count, Nat.cast_min, Nat.cast_add, Nat.cast_one, EReal.coe_strictMono.monotone.map_min, EReal.coe_add, EReal.coe_one]

/-- From position `w - 1` on, the mean is over `w` positions. -/
theorem share_full (x : ℕ → EReal) {w s : ℕ} (hw : 0 < w) (h : w ≤ s + 1) : share x w s = x s * ((1 / (w : ℝ) : ℝ) : EReal) := by
  have hc : (w : ℝ) ≠ 0 := by exact_mod_cast hw.ne'
  rw [share, count, min_eq_right h, Ideal.div_coe hc]

/-- The share of a real cotangent is real. -/
theorem share_real (X : ℕ → ℝ) {w s : ℕ} (hw : 0 < w) :
    share (fun n => (X n : EReal)) w s = ((X s * (1 / (((min (s + 1) w : ℕ) : ℕ) : ℝ)) : ℝ) : EReal) := by
  have hc : (((min (s + 1) w : ℕ) : ℕ) : ℝ) ≠ 0 := by
    have : 0 < min (s + 1) w := lt_min (Nat.succ_pos s) hw
    exact_mod_cast this.ne'
  rw [share, count, Ideal.div_coe hc, EReal.coe_mul]

/-- A sum of differences `w` apart leaves the first `w` terms and takes off the `w` terms after the last. -/
theorem sum_lagged (R : ℕ → ℝ) (w n : ℕ) : ∑ j ∈ Finset.range n, (R j - R (j + w))
    = ∑ u ∈ Finset.range w, R u - ∑ u ∈ Finset.range w, R (n + u) := by
  induction n with
  | zero => simp
  | succ n ih =>
    have h : ∑ u ∈ Finset.range w, R (n + u) + R (n + w) = ∑ u ∈ Finset.range w, R (n + 1 + u) + R n := by
      rw [← Finset.sum_range_succ (fun u => R (n + u)), Finset.sum_range_succ' (fun u => R (n + u)), Nat.add_zero]
      exact congrArg (· + R n) (Finset.sum_congr rfl fun u _ => by rw [Nat.add_assoc, Nat.add_comm 1 u])
    rw [Finset.sum_range_succ, ih]
    linarith

/-- The running sum, from the end, of a share less the share `w` positions on. -/
theorem telescope (X : ℕ → ℝ) {w : ℕ} (hw : 0 < w) (s : ℕ) (hs : s < 2048) :
    (∑ j ∈ Finset.range 2048, if s + j < 2048 then share (fun n => (X n : EReal)) w (s + j)
        + (if s + j + w < 2048 then -share (fun n => (X n : EReal)) w (s + j + w) else 0) else 0)
      = ahead (fun n => (X n : EReal)) w s := by
  let R : ℕ → ℝ := fun j => if s + j < 2048 then X (s + j) * (1 / (((min (s + j + 1) w : ℕ) : ℕ) : ℝ)) else 0
  have e1 : ahead (fun n => (X n : EReal)) w s = ((∑ u ∈ Finset.range w, R u : ℝ) : EReal) := by
    rw [ahead, Reals.coe_sum]
    refine Finset.sum_congr rfl fun u _ => ?_
    by_cases h : s + u < 2048
    · simp only [R, if_pos h, share_real X hw]
    · simp only [R, if_neg h, EReal.coe_zero]
  have e2 : ∀ j, (if s + j < 2048 then share (fun n => (X n : EReal)) w (s + j)
      + (if s + j + w < 2048 then -share (fun n => (X n : EReal)) w (s + j + w) else 0) else 0)
      = ((R j - R (j + w) : ℝ) : EReal) := fun j => by
    by_cases h : s + j < 2048
    · rw [if_pos h, EReal.coe_sub, sub_eq_add_neg, share_real X hw]
      by_cases h' : s + j + w < 2048
      · simp only [R, if_pos h, if_pos h', ← Nat.add_assoc, share_real X hw]
      · simp only [R, if_pos h, if_neg h', ← Nat.add_assoc, EReal.coe_zero, neg_zero]
    · rw [if_neg h]
      simp only [R, if_neg h, if_neg (show ¬(s + (j + w) < 2048) by omega), sub_zero, EReal.coe_zero]
  rw [e1, Finset.sum_congr rfl fun j _ => e2 j, ← Reals.coe_sum, sum_lagged]
  refine congrArg _ ?_
  have : ∑ u ∈ Finset.range w, R (2048 + u) = 0 := Finset.sum_eq_zero fun u _ => if_neg (by omega)
  rw [this, sub_zero]

section Arrays

/-- The window length of group `g`. -/
def lengthOf (g : ℕ) : ℕ := 2 ^ (g + 1)

variable (d : (⟨2, ![4096, 8192]⟩ : Shape).Idx → EReal)

/-- Column `e` of the sequence `b`. -/
def column (b : Fin 2) (e : Fin 8192) (s : ℕ) : EReal :=
  if h : s < 2048 then d (ix2 ⟨b.val * 2048 + s, by omega⟩ e) else 0

/-- The gradient of the pooled value less the value: the four groups of columns have four window lengths. -/
def grad (p : Fin 4096) (e : Fin 8192) : EReal :=
  ahead (column d ⟨p.val / 2048, by omega⟩ e) (lengthOf (e.val / 2048)) (p.val % 2048)
    - column d ⟨p.val / 2048, by omega⟩ e (p.val % 2048)

/-- The gradient beside the columns that were there. -/
def result (pr : (⟨2, ![4096, 16384]⟩ : Shape).Idx → EReal) : (⟨2, ![4096, 16384]⟩ : Shape).Idx → EReal := fun j =>
  if h : (j 1).val < 8192 then grad d (j 0) ⟨(j 1).val, h⟩ else pr j

variable (pr : (⟨2, ![4096, 16384]⟩ : Shape).Idx → EReal) (p : Fin 4096) (k : Fin 16384)

/-- The result in the columns of the gradient, and in the others. -/
theorem result_left (h : k.val < 8192) : result d pr (ix2 p k) = grad d p ⟨k.val, h⟩ := dif_pos h
theorem result_right (h : ¬k.val < 8192) : result d pr (ix2 p k) = pr (ix2 p k) := dif_neg h

end Arrays

section Forward

/-- The sum of the last `w` positions up to position `s`. -/
def behind (x : ℕ → EReal) (w s : ℕ) : EReal := ∑ u ∈ Finset.range w, if u ≤ s then x (s - u) else 0

/-- The mean over those positions, less the position's own value. -/
def pooledOf (x : ℕ → EReal) (w s : ℕ) : EReal := Ideal.div (behind x w s) (count w s) - x s

/-- A running sum less the running sum `w` positions before. -/
theorem running_sub (X : ℕ → ℝ) (w s : ℕ) :
    (∑ j ∈ Finset.range (s + 1), X j) - (if w ≤ s then ∑ j ∈ Finset.range (s - w + 1), X j else 0)
      = ∑ u ∈ Finset.range w, if u ≤ s then X (s - u) else 0 := by
  induction w with
  | zero => simp
  | succ w ih =>
    rw [Finset.sum_range_succ (fun u => if u ≤ s then X (s - u) else 0), ← ih]
    by_cases h : w + 1 ≤ s
    · rw [if_pos h, if_pos (show w ≤ s by omega), if_pos (show w ≤ s by omega), Finset.sum_range_succ _ (s - w),
        show s - (w + 1) + 1 = s - w by omega]
      ring
    · by_cases h' : w ≤ s
      · obtain rfl : w = s := by omega
        simp
      · rw [if_neg h, if_neg h', if_neg h']
        ring

/-- A running sum, as a sum over a window of 2048 places that ends with the position. -/
theorem running_window (x : ℕ → EReal) (s : ℕ) (hs : s < 2048) :
    (∑ j ∈ Finset.range 2048, if 2047 ≤ s + j then x (s + j - 2047) else 0) = ∑ j ∈ Finset.range (s + 1), x j := by
  rw [show 2048 = (2047 - s) + (s + 1) by omega, Finset.sum_range_add, Finset.sum_eq_zero, zero_add]
  · refine Finset.sum_congr rfl fun j _ => ?_
    rw [if_pos (by omega), show s + (2047 - s + j) - 2047 = j by omega]
  · intro j hj
    rw [if_neg (by have := Finset.mem_range.mp hj; omega)]

/-- The difference of the two running sums is the sum of the last `w` positions. -/
theorem running_behind (X : ℕ → ℝ) (w s : ℕ) :
    (∑ j ∈ Finset.range (s + 1), ((X j : ℝ) : EReal)) - (if w ≤ s then ∑ j ∈ Finset.range (s - w + 1), ((X j : ℝ) : EReal) else 0)
      = behind (fun n => (X n : EReal)) w s := by
  have h : behind (fun n => (X n : EReal)) w s = ((∑ u ∈ Finset.range w, if u ≤ s then X (s - u) else 0 : ℝ) : EReal) := by
    rw [behind, Reals.coe_sum]
    refine Finset.sum_congr rfl fun u _ => ?_
    split <;> rfl
  rw [h, ← running_sub, EReal.coe_sub]
  split <;> simp only [Reals.coe_sum, EReal.coe_zero]

end Forward

end Cert.Pooling
-- ==== Proof.PoolBlock.lean ====
/- The gradient of the pooling mixer's means: what one block of 512 rows and 1024 columns computes. -/
module

public import proofs.«01_k».proof.Proof.Pooling
public import proofs.«01_k».proof.Proof.Gen.PoolIdeal.Value
public import Idealize.ShloMosaic.Lib.Pipeline.ValueKit
public import Idealize.ShloMosaic.Lib.Affine

@[expose] public section

set_option maxRecDepth 16384

noncomputable section

open Idealize.ShloMosaic Idealize.ShloMosaic.TcCoe

namespace Cert.PoolIdeal.Block

open Cert.PoolIdeal Cert.PoolIdeal.Gen Cert.Pooling

/-- One step of the ladder: a rotation back by `n` rows, added. -/
def climb (s : BitVec 32) (x : FVec Ideal S528x1024 .f32) : FVec Ideal S528x1024 .f32 :=
  addf x (dynamicRotate 0 s none x rotates_S528x1024_d0)

/-- Column `e` of `y` holds the sums of `w` rows of `g`, as far as the rows reach. -/
def Holds (y : FVec Ideal S528x1024 .f32) (e : Fin 1024) (g : ℕ → EReal) (w : ℕ) : Prop :=
  ∀ k (h : k < 528), k + w ≤ 528 → y (ix2 ⟨k, h⟩ e) = ∑ u ∈ Finset.range w, g (k + u)

/-- A step of the ladder doubles the number of rows summed. -/
theorem climb_holds {s : BitVec 32} {y : FVec Ideal S528x1024 .f32} {e : Fin 1024} {g : ℕ → EReal} {w : ℕ}
    (h : Holds y e g w) (hw : 0 < w) (hs : s.toNat + w = 528) : Holds (climb s y) e g (w + w) := by
  intro k hk hkw
  have hrot : dynamicRotate 0 s none y rotates_S528x1024_d0 (ix2 ⟨k, hk⟩ e) = y (ix2 ⟨k + w, by omega⟩ e) :=
    dynamicRotate_apply _ _ _ _ _ _ fun b => by
      match b with
      | ⟨0, _⟩ =>
        show k + w = (k + 528 - s.toNat % 528) % 528
        omega
      | ⟨1, _⟩ => rfl
  show y (ix2 ⟨k, hk⟩ e) + dynamicRotate 0 s none y rotates_S528x1024_d0 (ix2 ⟨k, hk⟩ e) = _
  rw [hrot, h k hk (by omega), h (k + w) (by omega) (by omega), Finset.sum_range_add]
  simp only [Nat.add_assoc]

section Ladders

variable {y : FVec Ideal S528x1024 .f32} {e : Fin 1024} {g : ℕ → EReal}

/-- Ladders of one to four steps. -/
theorem two (h : Holds y e g 1) : Holds (climb 527#32 y) e g 2 := climb_holds (w := 1) h (by decide) rfl
theorem four (h : Holds y e g 1) : Holds (climb 526#32 (climb 527#32 y)) e g 4 := climb_holds (w := 2) (two h) (by decide) rfl
theorem eight (h : Holds y e g 1) : Holds (climb 524#32 (climb 526#32 (climb 527#32 y))) e g 8 :=
  climb_holds (w := 4) (four h) (by decide) rfl
theorem sixteen (h : Holds y e g 1) : Holds (climb 520#32 (climb 524#32 (climb 526#32 (climb 527#32 y)))) e g 16 :=
  climb_holds (w := 8) (eight h) (by decide) rfl

end Ladders

/-- The rows of the block over the rows of the halo. -/
abbrev stack (a : FVec Ideal S512x1024 .f32) (b : FVec Ideal S16x1024 .f32) : FVec Ideal S528x1024 .f32 :=
  concatenate S528x1024 0 [⟨S512x1024, a⟩, ⟨S16x1024, b⟩] concatenates_S512x1024_S16x1024_S528x1024_d0

/-- One row of the stack. -/
theorem stack_at (a : FVec Ideal S512x1024 .f32) (b : FVec Ideal S16x1024 .f32) (k : Fin 528) (e : Fin 1024) :
    stack a b (ix2 k e) = if h : k.val < 512 then a (ix2 ⟨k.val, h⟩ e) else b (ix2 ⟨k.val - 512, by omega⟩ e) := by
  pointwise [stack]

/-- The block's result from a ladder. -/
def out (y : FVec Ideal S528x1024 .f32) (d : FVec Ideal S512x1024 .f32) : FVec Ideal S512x1024 .bf16 :=
  truncf .bf16 (subf (extractStridedSlice S512x1024 ![0, 0] y slices_S528x1024_o0_0_S512x1024) d) bitsLt_bf16_f32

/-- The block's result at an entry. -/
theorem out_at (y : FVec Ideal S528x1024 .f32) (d : FVec Ideal S512x1024 .f32) (r : Fin 512) (e : Fin 1024) :
    out y d (ix2 r e) = y (ix2 ⟨r.val, by omega⟩ e) - d (ix2 r e) := by
  pointwise [out]

/-- Whether the row block `v34` begins with is the start of a sequence: the word both programs' blocks compute. -/
def atEnd (v34 v36 : BitVec 32) : BitVec 1 :=
  Scalar.cmpi .eq (Scalar.select (Scalar.andi (Scalar.xori (Scalar.cmpi .slt (Scalar.remsi v34 v36) 0#32)
    (Scalar.cmpi .slt v36 0#32)) (Scalar.cmpi .ne (Scalar.remsi v34 v36) 0#32))
    (Scalar.addi (Scalar.remsi v34 v36) v36) (Scalar.remsi v34 v36)) 0#32

variable (d : FVec Ideal S512x1024 .f32) (pos : FVec Ideal S512x1 .f32) (v34 v36 : BitVec 32)
  (halo : FVec Ideal S16x1024 .f32)

/-- The block's shares over the halo's, with the window's two words. -/
def shares (w q : BitVec 32) : FVec Ideal S528x1024 .f32 :=
  stack
    (divf d (broadcastTo S512x1024
      (minimumf (addf pos (broadcast S512x1 (Scalar.ofBits .f32 0x3F800000#32))) (broadcast S512x1 (Scalar.ofBits .f32 w)))
      broadcasts_S512x1_S512x1024))
    (mulf halo (broadcast S16x1024 (Scalar.select (atEnd v34 v36) (Scalar.ofBits .f32 0x00000000#32) (Scalar.ofBits .f32 q))))

/-- The four windows' results are ladders of one to four steps. -/
theorem pay1_eq : k0_pay1 (F := Ideal) d pos v34 v36 halo
    = out (climb 527#32 (shares d pos v34 v36 halo 0x40000000#32 0x3F000000#32)) d := rfl
theorem pay2_eq : k0_pay2 (F := Ideal) d pos v34 v36 halo
    = out (climb 526#32 (climb 527#32 (shares d pos v34 v36 halo 0x40800000#32 0x3E800000#32))) d := rfl
theorem pay3_eq : k0_pay3 (F := Ideal) d pos v34 v36 halo
    = out (climb 524#32 (climb 526#32 (climb 527#32 (shares d pos v34 v36 halo 0x41000000#32 0x3E000000#32)))) d := rfl
theorem pay4_eq : k0_pay4 (F := Ideal) d pos v34 v36 halo
    = out (climb 520#32 (climb 524#32 (climb 526#32 (climb 527#32
        (shares d pos v34 v36 halo 0x41800000#32 0x3D800000#32))))) d := rfl

/-- The words of the window lengths and of their reciprocals. -/
theorem word_4 : Ideal.ofBits .f32 0x40800000#32 = ((4 : ℝ) : EReal) := by
  simp [Ideal.ofBits, Ideal.ieee, -EReal.coe_mul]; norm_num
theorem word_8 : Ideal.ofBits .f32 0x41000000#32 = ((8 : ℝ) : EReal) := by
  simp [Ideal.ofBits, Ideal.ieee, -EReal.coe_mul]; norm_num
theorem word_16 : Ideal.ofBits .f32 0x41800000#32 = ((16 : ℝ) : EReal) := by
  simp [Ideal.ofBits, Ideal.ieee, -EReal.coe_mul]; norm_num
theorem word_quarter : Ideal.ofBits .f32 0x3E800000#32 = ((1 / 4 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num
theorem word_sixteenth : Ideal.ofBits .f32 0x3D800000#32 = ((1 / 16 : ℝ) : EReal) := by
  simp [Ideal.ofBits, Ideal.ieee, -EReal.coe_mul]; norm_num

variable {d pos v34 v36 halo}

/-- The rows a block reads, in a sequence: `x` is the sequence's column, `s0` the position of the block's first row. -/
structure Reads (d : FVec Ideal S512x1024 .f32) (pos : FVec Ideal S512x1 .f32) (v34 v36 : BitVec 32)
    (halo : FVec Ideal S16x1024 .f32) (e : Fin 1024) (x : ℕ → EReal) (s0 : ℕ) : Prop where
  /-- the block lies in the sequence -/
  le : s0 + 512 ≤ 2048
  /-- at a block's place -/
  whole : s0 % 512 = 0
  /-- the block's rows -/
  rows : ∀ k : Fin 512, d (ix2 k e) = x (s0 + k.val)
  /-- their positions -/
  place : ∀ k : Fin 512, pos (ix2 k 0) = (((s0 + k.val : ℕ) : ℝ) : EReal)
  /-- whether the sequence ends with the block -/
  ends : atEnd v34 v36 = if s0 + 512 < 2048 then 0#1 else 1#1
  /-- the rows after the block, if the sequence goes on -/
  next : s0 + 512 < 2048 → ∀ k : Fin 16, halo (ix2 k e) = x (s0 + 512 + k.val)

/-- A row's share. -/
theorem rows_at (wb : BitVec 32) (k : Fin 512) (e : Fin 1024) :
    divf d (broadcastTo S512x1024
      (minimumf (addf pos (broadcast S512x1 (Scalar.ofBits .f32 0x3F800000#32))) (broadcast S512x1 (Scalar.ofBits .f32 wb)))
      broadcasts_S512x1_S512x1024) (ix2 k e)
      = Ideal.div (d (ix2 k e)) (min (pos (ix2 k 0) + 1) (Ideal.ofBits .f32 wb)) := by
  pointwise

/-- A halo row's share. -/
theorem halo_at (b : BitVec 1) (q : BitVec 32) (k : Fin 16) (e : Fin 1024) :
    mulf halo (broadcast S16x1024 (Scalar.select b (Scalar.ofBits .f32 0x00000000#32) (Scalar.ofBits .f32 q))) (ix2 k e)
      = halo (ix2 k e) * if b = 1#1 then 0 else Ideal.ofBits .f32 q := by
  show _ * Scalar.select b (Ideal.ofBits .f32 0x00000000#32) (Ideal.ofBits .f32 q) = _
  rw [Scalar.select, Ideal.ofBits_zero_f32]
  rfl

/-- The stacked shares, in the sequence. -/
theorem shares_hold {e : Fin 1024} {x : ℕ → EReal} {s0 w : ℕ} (R : Reads d pos v34 v36 halo e x s0) {wb q : BitVec 32}
    (hw : 0 < w) (hw' : w ≤ 16) {W : ℝ} (hW : (w : ℝ) = W) (hwb : Ideal.ofBits .f32 wb = (W : EReal))
    (hq : Ideal.ofBits .f32 q = ((1 / W : ℝ) : EReal)) :
    Holds (shares d pos v34 v36 halo wb q) e (fun k => if s0 + k < 2048 then share x w (s0 + k) else 0) 1 := by
  intro k hk _
  subst hW
  rw [Finset.sum_range_one, Nat.add_zero, shares, stack_at]
  show _ = if s0 + k < 2048 then share x w (s0 + k) else 0
  by_cases h : k < 512
  · rw [dif_pos h, if_pos (show s0 + k < 2048 by have := R.le; omega), share, ← count_eq, ← hwb, rows_at, R.rows, R.place]
  · rw [dif_neg h, halo_at, R.ends]
    by_cases hs : s0 + 512 < 2048
    · have e1 : s0 + 512 + (k - 512) = s0 + k := by omega
      have hlt : s0 + k < 2048 := by have := R.whole; omega
      rw [if_pos hs, if_neg (by decide), if_pos hlt, share_full x hw (by omega), R.next hs, hq]
      simp only [e1]
    · rw [if_neg hs, if_pos rfl, mul_zero, if_neg (by omega)]

/-- A ladder's result in the sequence. -/
theorem out_eq {e : Fin 1024} {x : ℕ → EReal} {s0 w : ℕ} (R : Reads d pos v34 v36 halo e x s0) (hw' : w ≤ 16)
    {y : FVec Ideal S528x1024 .f32} (h : Holds y e (fun k => if s0 + k < 2048 then share x w (s0 + k) else 0) w) (r : Fin 512) :
    out y d (ix2 r e) = ahead x w (s0 + r.val) - x (s0 + r.val) := by
  rw [out_at, h r.val (by omega) (by omega), R.rows, ahead]
  simp only [Nat.add_assoc]

section Entries

variable {e : Fin 1024} {x : ℕ → EReal} {s0 : ℕ} (R : Reads d pos v34 v36 halo e x s0) (r : Fin 512)

include R

/-- The four windows' blocks at an entry. -/
theorem pay1_at : k0_pay1 (F := Ideal) d pos v34 v36 halo (ix2 r e) = ahead x 2 (s0 + r.val) - x (s0 + r.val) :=
  (congrFun (pay1_eq d pos v34 v36 halo) _).trans (out_eq R (by decide)
    (two (shares_hold R (w := 2) (by decide) (by decide) Nat.cast_ofNat Reals.word_two Reals.word_half)) r)
theorem pay2_at : k0_pay2 (F := Ideal) d pos v34 v36 halo (ix2 r e) = ahead x 4 (s0 + r.val) - x (s0 + r.val) :=
  (congrFun (pay2_eq d pos v34 v36 halo) _).trans (out_eq R (by decide)
    (four (shares_hold R (w := 4) (by decide) (by decide) Nat.cast_ofNat word_4 word_quarter)) r)
theorem pay3_at : k0_pay3 (F := Ideal) d pos v34 v36 halo (ix2 r e) = ahead x 8 (s0 + r.val) - x (s0 + r.val) :=
  (congrFun (pay3_eq d pos v34 v36 halo) _).trans (out_eq R (by decide)
    (eight (shares_hold R (w := 8) (by decide) (by decide) Nat.cast_ofNat word_8 word_eighth)) r)
theorem pay4_at : k0_pay4 (F := Ideal) d pos v34 v36 halo (ix2 r e) = ahead x 16 (s0 + r.val) - x (s0 + r.val) :=
  (congrFun (pay4_eq d pos v34 v36 halo) _).trans (out_eq R (by decide)
    (sixteen (shares_hold R (w := 16) (by decide) (by decide) Nat.cast_ofNat word_16 word_sixteenth)) r)

end Entries

end Cert.PoolIdeal.Block
-- ==== Proof.Pool.lean ====
/- The gradient of the pooling mixer's means: what the result array holds after the run. -/
module

public import proofs.«01_k».proof.Proof.PoolBlock

@[expose] public section

set_option maxRecDepth 16384

noncomputable section

open Idealize.ShloMosaic Idealize.ShloMosaic.TcCoe Idealize.SL.Sem
open Idealize.ShloMosaic.Pipeline (Dat)

namespace Cert.PoolIdeal.Whole

open Cert.PoolIdeal Cert.PoolIdeal.Gen Cert.Pooling

variable (m : (ℓ : Loc nD τ sig) → Buf (Elt Ideal) ℓ) (c : Dev nD)

/-- Which block each window holds at a point. -/
theorem idx : ∀ t : Fin cfg0.N, win0_0.index t = ![t.val / 8, t.val % 8]
    ∧ win0_1.index t = ![min ((t.val / 8 + 1) * 32) 255, t.val % 8] ∧ win0_2.index t = ![t.val / 8, t.val % 8] :=
  (by decide +kernel : ∀ t : Fin grid0.N, _)

/-- The position of a block's first row in its sequence. -/
abbrev startOf (t : Fin cfg0.N) : ℕ := t.val / 8 % 4 * 512

/-- The word of that position, as a block computes it. -/
theorem start_word : ∀ t : Fin cfg0.N,
    Scalar.select
      (Scalar.andi
        (Scalar.xori
          (Scalar.cmpi .slt (Scalar.remsi (Scalar.muli (BitVec.ofNat 32 (grid0.coords t 0).val) 512#32)
            (Scalar.select (Scalar.cmpi .eq 2048#32 0#32) 1#32 2048#32)) 0#32)
          (Scalar.cmpi .slt (Scalar.select (Scalar.cmpi .eq 2048#32 0#32) 1#32 2048#32) 0#32))
        (Scalar.cmpi .ne (Scalar.remsi (Scalar.muli (BitVec.ofNat 32 (grid0.coords t 0).val) 512#32)
          (Scalar.select (Scalar.cmpi .eq 2048#32 0#32) 1#32 2048#32)) 0#32))
      (Scalar.addi (Scalar.remsi (Scalar.muli (BitVec.ofNat 32 (grid0.coords t 0).val) 512#32)
        (Scalar.select (Scalar.cmpi .eq 2048#32 0#32) 1#32 2048#32)) (Scalar.select (Scalar.cmpi .eq 2048#32 0#32) 1#32 2048#32))
      (Scalar.remsi (Scalar.muli (BitVec.ofNat 32 (grid0.coords t 0).val) 512#32)
        (Scalar.select (Scalar.cmpi .eq 2048#32 0#32) 1#32 2048#32)) = BitVec.ofNat 32 (startOf t) :=
  (by decide +kernel : ∀ t : Fin grid0.N, _)

/-- Whether a block ends its sequence, as a block computes it. -/
theorem end_word : ∀ t : Fin cfg0.N,
    Block.atEnd (Scalar.muli (Scalar.addi (BitVec.ofNat 32 (grid0.coords t 0).val) 1#32) 512#32)
      (Scalar.select (Scalar.cmpi .eq 2048#32 0#32) 1#32 2048#32) = if startOf t + 512 < 2048 then 0#1 else 1#1 :=
  (by decide +kernel : ∀ t : Fin grid0.N, _)

/-- The positions of a block's rows. -/
theorem place_at (t : Fin cfg0.N) (r : Fin 512) :
    k0_pay5 (F := Ideal) (grid0.coords t) (ix2 r 0) = (((startOf t + r.val : ℕ) : ℝ) : EReal) := by
  have h : (BitVec.ofNat 32 (startOf t) + BitVec.ofNat 32 r.val).toInt = ((startOf t + r.val : ℕ) : ℤ) := by
    have : startOf t ≤ 1536 := by unfold startOf; omega
    rw [← BitVec.ofNat_add, BitVec.toInt_eq_toNat_cond, BitVec.toNat_ofNat]
    omega
  pointwise [k0_pay5]
  rw [start_word t]
  show (((BitVec.ofNat 32 (startOf t) + BitVec.ofNat 32 r.val).toInt : ℝ) : EReal) = _
  rw [h, Int.cast_natCast]

/-- A block's rows, their positions and the rows after it. -/
theorem reads (t : Fin cfg0.N) (e : Fin 1024) :
    Block.Reads (iblk m c 0 t) (k0_pay5 (grid0.coords t))
      (Scalar.muli (Scalar.addi (BitVec.ofNat 32 (grid0.coords t 0).val) 1#32) 512#32)
      (Scalar.select (Scalar.cmpi .eq 2048#32 0#32) 1#32 2048#32) (iblk m c 1 t) e
      (column (m ((c : Thread nD τ).loc main_arg0)) ⟨t.val / 8 / 4, by have : t.val < 64 := t.isLt; omega⟩
        ⟨t.val % 8 * 1024 + e.val, by omega⟩) (startOf t) where
  le := by unfold startOf; omega
  whole := Nat.mul_mod_left _ _
  rows k := by
    have ht : t.val < 64 := t.isLt
    have h : (⟨t.val / 8 * 512 + k.val, by omega⟩ : Fin 4096) = ⟨t.val / 8 / 4 * 2048 + (startOf t + k.val), by unfold startOf; omega⟩ :=
      Fin.ext (by simp only [startOf]; omega)
    rw [column, dif_pos (by unfold startOf; omega), ← h]
    blk_ext [iblk, V, idx t]
  place := place_at t
  ends := end_word t
  next hs k := by
    have ht : t.val < 64 := t.isLt
    have hs' : t.val / 8 % 4 * 512 + 512 < 2048 := hs
    have h : (⟨min ((t.val / 8 + 1) * 32) 255 * 16 + k.val, by omega⟩ : Fin 4096)
        = ⟨t.val / 8 / 4 * 2048 + (startOf t + 512 + k.val), by unfold startOf; omega⟩ :=
      Fin.ext (by simp only [startOf]; omega)
    rw [column, dif_pos (by unfold startOf; omega), ← h]
    blk_ext [iblk, V, idx t]

/-- What a block's entry is in the result. -/
theorem point_of (t : Fin cfg0.N) {y : FVec Ideal S512x1024 .bf16} {w : ℕ} (hw : lengthOf (t.val % 8 / 2) = w)
    (h : ∀ (r : Fin 512) (e : Fin 1024), y (ix2 r e)
      = ahead (column (m ((c : Thread nD τ).loc main_arg0)) ⟨t.val / 8 / 4, by have : t.val < 64 := t.isLt; omega⟩
          ⟨t.val % 8 * 1024 + e.val, by omega⟩) w (startOf t + r.val)
        - column (m ((c : Thread nD τ).loc main_arg0)) ⟨t.val / 8 / 4, by have : t.val < 64 := t.isLt; omega⟩
          ⟨t.val % 8 * 1024 + e.val, by omega⟩ (startOf t + r.val)) (z : S512x1024.Idx) :
    y z = result (m ((c : Thread nD τ).loc main_arg0)) (m ((c : Thread nD τ).loc main_arg1)) (((cfg0.win 2).blk t).view.emb z) := by
  obtain ⟨r, e, rfl⟩ : ∃ (r : Fin 512) (e : Fin 1024), z = ix2 r e := ⟨z 0, z 1, eq_ix2 z⟩
  have ht : t.val < 64 := t.isLt
  have hj : ((cfg0.win 2).blk t).view.emb (ix2 r e)
      = ix2 ⟨t.val / 8 * 512 + r.val, by omega⟩ ⟨t.val % 8 * 1024 + e.val, by omega⟩ := by blk_ext [idx t]
  have h1 : (⟨(t.val / 8 * 512 + r.val) / 2048, by omega⟩ : Fin 2) = ⟨t.val / 8 / 4, by omega⟩ := Fin.ext (by simp only []; omega)
  have h2 : (t.val / 8 * 512 + r.val) % 2048 = startOf t + r.val := by simp only [startOf]; omega
  have h3 : (t.val % 8 * 1024 + e.val) / 2048 = t.val % 8 / 2 := by omega
  rw [hj, result_left _ _ _ _ (show t.val % 8 * 1024 + e.val < 8192 by omega), grad, h r e]
  simp only [h1, h2, h3, hw]

/-- What the result array holds before the run: the argument it takes the place of. -/
theorem entry : V m c main_v0 = m ((c : Thread nD τ).loc main_arg1) := by
  unfold V
  after_results
  try rfl

/-- The result after the run: the gradient in the left columns, the others as they were. -/
theorem final : (dats m 0 c).arrAt 2 (cfgs 0).N
    = result (m ((c : Thread nD τ).loc main_arg0)) (m ((c : Thread nD τ).loc main_arg1)) := by
  have hcov := (dats m 0 c).arrAt_eq_of_coversWhere (P := fun i : S4096x16384.Idx => (i 1).val < 8192) 2
    (result (m ((c : Thread nD τ).loc main_arg0)) (m ((c : Thread nD τ).loc main_arg1)))
    (fun β => β (1 : Fin _) < 8) (by decide +kernel) (fun t _ y => ?_)
    (fun j => by blk_simp [Pipeline.Window.cell_apply]; omega)
  · refine hcov.trans (funext fun i => ?_)
    by_cases hi : (i 1).val < 8192
    · exact if_pos hi
    · refine (if_neg hi).trans ?_
      obtain ⟨p, k, rfl⟩ : ∃ (p : Fin 4096) (k : Fin 16384), i = ix2 p k := ⟨i 0, i 1, eq_ix2 i⟩
      rw [result_right _ _ p k hi]
      exact congrFun ((A_eq m c 2).trans (entry m c)) _
  · blk_simp
    rw [after0_2]
    by_cases h0 : t.val % 8 ≤ 1
    · rw [outsAt0_A m c t h0 (by omega) (by omega) (by omega)]
      frame_out
      exact point_of m c t (w := 2) (by rw [show t.val % 8 / 2 = 0 by omega]; rfl) (fun r e => Block.pay1_at (reads m c t e) r) y
    by_cases h1 : 2 ≤ t.val % 8 ∧ t.val % 8 ≤ 3
    · rw [outsAt0_B m c t h0 h1 (by omega) (by omega)]
      frame_out
      exact point_of m c t (w := 4) (by rw [show t.val % 8 / 2 = 1 by omega]; rfl) (fun r e => Block.pay2_at (reads m c t e) r) y
    by_cases h2 : 4 ≤ t.val % 8 ∧ t.val % 8 ≤ 5
    · rw [outsAt0_C m c t h0 h1 h2 (by omega)]
      frame_out
      exact point_of m c t (w := 8) (by rw [show t.val % 8 / 2 = 2 by omega]; rfl) (fun r e => Block.pay3_at (reads m c t e) r) y
    · rw [outsAt0_D m c t h0 h1 h2 (by omega)]
      frame_out
      exact point_of m c t (w := 16) (by rw [show t.val % 8 / 2 = 3 by omega]; rfl) (fun r e => Block.pay4_at (reads m c t e) r) y

end Cert.PoolIdeal.Whole

end
-- ==== Proof.PoolRefBlock.lean ====
/- The gradient of the pooling mixer's means: the reference's result at one entry. -/
module

public import proofs.«01_k».proof.Proof.Pooling
public import proofs.«01_k».proof.Proof.PoolBlock
public import proofs.«01_k».proof.Proof.Gen.PoolRefIdeal.Read

@[expose] public section

set_option maxRecDepth 16384

noncomputable section

open Idealize.ShloMosaic Idealize.ShloMosaic.TcCoe

namespace Cert.Pooling

section Operations

variable {n0 n1 n2 : Nat}

/-- A sum by folding, from a start. -/
theorem foldl_add {α : Type} (h : α → EReal) (l : List α) (v : EReal) : l.foldl (fun r n => r + h n) v = v + (l.map h).sum := by
  induction l generalizing v with
  | nil => simp
  | cons a l ih => rw [List.foldl_cons, ih, List.map_cons, List.sum_cons, add_assoc]

/-- A running sum along axis 1, as a sum over the window's 2048 places: `lo` of them lie before the position. -/
theorem runningSum_at (lo hi : ℕ) {v : EReal} (hv : v = 0) (x : (⟨4, ![2, 2048, 4, 2048]⟩ : Shape).Idx → EReal)
    (h : (⟨4, ![2, 2048, 4, 2048]⟩ : Shape).ReduceWindows (![1, 2048, 1, 1] : Fin 4 → Nat) ![1, 1, 1, 1] ![0, lo, 0, 0] ![0, hi, 0, 0]
      ⟨4, ![2, 2048, 4, 2048]⟩) (b : Fin 2) (s : Fin 2048) (g : Fin 4) (q : Fin 2048) :
    Ideal.hostReduceWindowAdd ![1, 2048, 1, 1] ![1, 1, 1, 1] ![0, lo, 0, 0] ![0, hi, 0, 0] h x v (ix4 b s g q)
      = ∑ j ∈ Finset.range 2048, if hj : lo ≤ s.val + j ∧ s.val + j - lo < 2048 then x (ix4 b ⟨s.val + j - lo, hj.2⟩ g q) else 0 := by
  subst hv
  unfold Ideal.hostReduceWindowAdd Host.reduceWindow
  refine (foldl_add _ _ _).trans ?_
  rw [zero_add, ← List.ofFn_eq_map, List.sum_ofFn]
  have key : ∀ i : (⟨4, ![1, 2048, 1, 1]⟩ : Shape).Idx,
      (if hin : ∀ a : Fin 4, (![0, lo, 0, 0] : Fin 4 → Nat) a ≤ (ix4 b s g q a).val * (![1, 1, 1, 1] : Fin 4 → Nat) a + (i a).val
          ∧ (ix4 b s g q a).val * (![1, 1, 1, 1] : Fin 4 → Nat) a + (i a).val - (![0, lo, 0, 0] : Fin 4 → Nat) a
            < (![2, 2048, 4, 2048] : Fin 4 → Nat) a
        then x (fun a => ⟨(ix4 b s g q a).val * (![1, 1, 1, 1] : Fin 4 → Nat) a + (i a).val - (![0, lo, 0, 0] : Fin 4 → Nat) a,
          (hin a).2⟩) else 0)
      = if hj : lo ≤ s.val + (i 1).val ∧ s.val + (i 1).val - lo < 2048 then x (ix4 b ⟨s.val + (i 1).val - lo, hj.2⟩ g q) else 0 :=
    fun i => by
    have h0 : (i 0).val < 1 := (i 0).isLt
    have h2 : (i 2).val < 1 := (i 2).isLt
    have h3 : (i 3).val < 1 := (i 3).isLt
    by_cases hj : lo ≤ s.val + (i 1).val ∧ s.val + (i 1).val - lo < 2048
    · rw [dif_pos hj, dif_pos fun a => by
        match a with
        | ⟨0, _⟩ => exact ⟨Nat.zero_le _, show b.val * 1 + (i 0).val - 0 < 2 by omega⟩
        | ⟨1, _⟩ => exact ⟨show lo ≤ s.val * 1 + (i 1).val by omega, show s.val * 1 + (i 1).val - lo < 2048 by omega⟩
        | ⟨2, _⟩ => exact ⟨Nat.zero_le _, show g.val * 1 + (i 2).val - 0 < 4 by omega⟩
        | ⟨3, _⟩ => exact ⟨Nat.zero_le _, show q.val * 1 + (i 3).val - 0 < 2048 by omega⟩]
      refine congrArg x (funext fun a => Fin.ext ?_)
      match a with
      | ⟨0, _⟩ => show b.val * 1 + (i 0).val - 0 = b.val; omega
      | ⟨1, _⟩ => show s.val * 1 + (i 1).val - lo = s.val + (i 1).val - lo; omega
      | ⟨2, _⟩ => show g.val * 1 + (i 2).val - 0 = g.val; omega
      | ⟨3, _⟩ => show q.val * 1 + (i 3).val - 0 = q.val; omega
    · rw [dif_neg hj, dif_neg fun hin => hj (by
        have h1 : lo ≤ s.val * 1 + (i 1).val := (hin 1).1
        have h2 : s.val * 1 + (i 1).val - lo < 2048 := (hin 1).2
        omega)]
  refine (Finset.sum_congr rfl fun n _ => (dite_congr rfl (fun _ => rfl) fun _ => rfl).trans
    (key ((Shape.rowMajor ⟨4, ![1, 2048, 1, 1]⟩).symm n))).trans ?_
  refine (Equiv.sum_comp (Shape.rowMajor ⟨4, ![1, 2048, 1, 1]⟩).symm (fun i : (⟨4, ![1, 2048, 1, 1]⟩ : Shape).Idx =>
    if hj : lo ≤ s.val + (i 1).val ∧ s.val + (i 1).val - lo < 2048 then x (ix4 b ⟨s.val + (i 1).val - lo, hj.2⟩ g q)
      else 0)).trans ?_
  rw [Finset.sum_range]
  refine Fintype.sum_equiv ⟨fun i => i 1, fun n => ix4 0 n 0 0, fun i => ?_, fun n => rfl⟩ _ _ fun i => rfl
  funext a
  match a with
  | ⟨0, _⟩ => exact Fin.ext (by have : (i 0).val < 1 := (i 0).isLt; show 0 = (i 0).val; omega)
  | ⟨1, _⟩ => rfl
  | ⟨2, _⟩ => exact Fin.ext (by have : (i 2).val < 1 := (i 2).isLt; show 0 = (i 2).val; omega)
  | ⟨3, _⟩ => exact Fin.ext (by have : (i 3).val < 1 := (i 3).isLt; show 0 = (i 3).val; omega)

end Operations

end Cert.Pooling

namespace Cert.PoolRefIdeal.Block

open Cert.PoolRefIdeal Cert.PoolRefIdeal.Gen Cert.PoolRefIdeal.Read Cert.Pooling

/-- A slice of the later positions, padded with zeros. -/
theorem later_at {w n : ℕ} (hw : n + w = 2048) (y : FVec Ideal S2x2048x2048 .f32) (z : FVec Ideal S_ .f32) (hz : ∀ i, z i = 0)
    (hs : S2x2048x2048.Slices ![0, w, 0] ⟨3, ![2, n, 2048]⟩)
    (hp : (⟨3, ![2, n, 2048]⟩ : Shape).Pads ![0, 0, 0] ![0, w, 0] ![0, 0, 0] S2x2048x2048) (hu : 0 < S_.numel)
    (b : Fin 2) (s q : Fin 2048) :
    pad S2x2048x2048 ![0, 0, 0] ![0, w, 0] ![0, 0, 0] (extractStridedSlice ⟨3, ![2, n, 2048]⟩ ![0, w, 0] y hs) z hp hu (ix3 b s q)
      = if h : s.val + w < 2048 then y (ix3 b ⟨s.val + w, h⟩ q) else 0 := by
  by_cases h : s.val + w < 2048
  · rw [dif_pos h]
    refine (pad_apply_of_inside _ _ _ _ _ _ _ _ (ix3 b (⟨s.val, by omega⟩ : Fin n) q) fun a => ?_).trans ?_
    · match a with
      | ⟨0, _⟩ => show b.val = 0 + b.val * 1; omega
      | ⟨1, _⟩ => show s.val = 0 + s.val * 1; omega
      | ⟨2, _⟩ => show q.val = 0 + q.val * 1; omega
    · exact extractStridedSlice_apply _ _ _ _ _ fun a => by
        match a with
        | ⟨0, _⟩ => show b.val = 0 + b.val; omega
        | ⟨1, _⟩ => show s.val + w = w + s.val; omega
        | ⟨2, _⟩ => show q.val = 0 + q.val; omega
  · rw [dif_neg h]
    refine (pad_apply_of_not_inside _ _ _ _ _ _ _ _ (1 : Fin 3) fun hin => ?_).trans (hz _)
    have h2 : (s.val - 0) / (0 + 1) < n := hin.2.2
    rw [Nat.sub_zero, Nat.div_one] at h2
    omega

/-- A group put among the four, the others zero. -/
theorem group_at (k : ℕ) (y : FVec Ideal S2x2048x2048 .f32) (z : FVec Ideal S_ .f32) (hz : ∀ i, z i = 0)
    (hb : S2x2048x2048.BroadcastsInDim S2x2048x1x2048 ![0, 1, 3]) (l : ℕ)
    (hp : S2x2048x1x2048.Pads ![0, 0, k, 0] ![0, 0, l, 0] ![0, 0, 0, 0] S2x2048x4x2048) (hu : 0 < S_.numel)
    (b : Fin 2) (s : Fin 2048) (g : Fin 4) (q : Fin 2048) :
    pad S2x2048x4x2048 ![0, 0, k, 0] ![0, 0, l, 0] ![0, 0, 0, 0] (broadcastInDim S2x2048x1x2048 ![0, 1, 3] hb y) z hp hu
      (ix4 b s g q) = if g.val = k then y (ix3 b s q) else 0 := by
  by_cases h : g.val = k
  · rw [if_pos h]
    refine (pad_apply_of_inside _ _ _ _ _ _ _ _ (ix4 b s (0 : Fin 1) q) fun a => ?_).trans ?_
    · match a with
      | ⟨0, _⟩ => show b.val = 0 + b.val * 1; omega
      | ⟨1, _⟩ => show s.val = 0 + s.val * 1; omega
      | ⟨2, _⟩ => show g.val = k + 0 * 1; omega
      | ⟨3, _⟩ => show q.val = 0 + q.val * 1; omega
    · exact broadcastInDim_apply _ _ _ _ _ fun a => by
        match a with
        | ⟨0, _⟩ => rfl
        | ⟨1, _⟩ => rfl
        | ⟨2, _⟩ => rfl
  · rw [if_neg h]
    refine (pad_apply_of_not_inside _ _ _ _ _ _ _ _ (2 : Fin 4) fun hin => ?_).trans (hz _)
    have h1 : k ≤ g.val := hin.1
    have h2 : (g.val - k) / (0 + 1) < 1 := hin.2.2
    rw [Nat.div_one] at h2
    omega

variable (d : FVec Ideal S4096x8192 .f32)

/-- The word of a position. -/
theorem place_eq (s : Fin 2048) : (1 : EReal) + FloatOps.sitofp (F := Ideal) FTy.f32 (BitVec.ofNat 32 s.val) = ((s.val : ℝ) : EReal) + 1 := by
  have h : (BitVec.ofNat 32 s.val).toInt = s.val := by
    rw [BitVec.toInt_eq_toNat_cond, BitVec.toNat_ofNat]; omega
  show (1 : EReal) + (((BitVec.ofNat 32 s.val).toInt : ℝ) : EReal) = _
  rw [h, add_comm]
  rfl

/-- The share of an entry of the column. -/
theorem share_eq (b : Fin 2) (s : Fin 2048) (e : Fin 8192) (w : ℕ) {W : ℝ} (hW : (w : ℝ) = W) {wb : BitVec 32}
    (hwb : Ideal.ofBits .f32 wb = (W : EReal)) :
    Ideal.div (d (ix2 ⟨b.val * 2048 + s.val, by omega⟩ e))
      (min (1 + FloatOps.sitofp (F := Ideal) FTy.f32 (BitVec.ofNat 32 s.val)) (Ideal.ofBits .f32 wb)) = share (column d b e) w s.val := by
  subst hW
  rw [share, ← count_eq, place_eq, hwb, column, dif_pos s.isLt]

section Shares

variable (b : Fin 2) (s q : Fin 2048)

/-- The four groups' shares. -/
theorem share0_at : val_main_v108 (F := Ideal) d (ix3 b s q) = share (column d b ⟨q.val, by omega⟩) 2 s.val := by
  pointwise [val_main_v108, val_main_v71, val_main_v70, val_main_v68, val_main_v107, val_main_v17, val_main_v15, val_main_v14,
    val_main_v5, val_main_v4, val_main_v3, val_main_cst_0, val_main_v13, val_main_cst_3]
  exact share_eq d b s _ 2 Nat.cast_ofNat Reals.word_two
theorem share1_at : val_main_v98 (F := Ideal) d (ix3 b s q) = share (column d b ⟨2048 + q.val, by omega⟩) 4 s.val := by
  pointwise [val_main_v98, val_main_v73, val_main_v72, val_main_v68, val_main_v97, val_main_v31, val_main_v29, val_main_v28,
    val_main_v5, val_main_v4, val_main_v3, val_main_cst_0, val_main_v27, val_main_cst_6]
  exact share_eq d b s _ 4 Nat.cast_ofNat PoolIdeal.Block.word_4
theorem share2_at : val_main_v88 (F := Ideal) d (ix3 b s q) = share (column d b ⟨4096 + q.val, by omega⟩) 8 s.val := by
  pointwise [val_main_v88, val_main_v75, val_main_v74, val_main_v68, val_main_v87, val_main_v45, val_main_v43, val_main_v42,
    val_main_v5, val_main_v4, val_main_v3, val_main_cst_0, val_main_v41, val_main_cst_9]
  exact share_eq d b s _ 8 Nat.cast_ofNat PoolIdeal.Block.word_8
theorem share3_at : val_main_v79 (F := Ideal) d (ix3 b s q) = share (column d b ⟨6144 + q.val, by omega⟩) 16 s.val := by
  pointwise [val_main_v79, val_main_v77, val_main_v76, val_main_v68, val_main_v78, val_main_v59, val_main_v57, val_main_v56,
    val_main_v5, val_main_v4, val_main_v3, val_main_cst_0, val_main_v55, val_main_cst_12]
  exact share_eq d b s _ 16 Nat.cast_ofNat PoolIdeal.Block.word_16

/-- A share less the share `w` positions on. -/
def lagged (x : ℕ → EReal) (w s : ℕ) : EReal := share x w s + if s + w < 2048 then -share x w (s + w) else 0

/-- The zeros of the paddings. -/
theorem zero_word (i : S_.Idx) : constant (F := Ideal) S_ .f32 0x00000000#32 i = 0 := Ideal.ofBits_zero_f32

/-- A group's share and its padded later share make the difference. -/
theorem lagged_of {w n : ℕ} (hw : n + w = 2048) {e : Fin 8192} {r y : FVec Ideal S2x2048x2048 .f32}
    (hr : ∀ s : Fin 2048, r (ix3 b s q) = share (column d b e) w s.val) (hy : y = Host.negf r)
    (hs : S2x2048x2048.Slices ![0, w, 0] ⟨3, ![2, n, 2048]⟩)
    (hp : (⟨3, ![2, n, 2048]⟩ : Shape).Pads ![0, 0, 0] ![0, w, 0] ![0, 0, 0] S2x2048x2048) (hu : 0 < S_.numel) :
    addf r (pad S2x2048x2048 ![0, 0, 0] ![0, w, 0] ![0, 0, 0] (extractStridedSlice ⟨3, ![2, n, 2048]⟩ ![0, w, 0] y hs)
      (constant S_ .f32 0x00000000#32) hp hu) (ix3 b s q) = lagged (column d b e) w s.val := by
  subst hy
  refine congrArg₂ (· + ·) (hr s) ((later_at hw _ _ zero_word _ _ _ b s q).trans ?_)
  by_cases h : s.val + w < 2048
  · rw [dif_pos h, if_pos h]; exact congrArg (- ·) (hr ⟨s.val + w, h⟩)
  · rw [dif_neg h, if_neg h]

/-- The four groups' differences. -/
theorem lagged0_at : val_main_v113 (F := Ideal) d (ix3 b s q) = lagged (column d b ⟨q.val, by omega⟩) 2 s.val :=
  lagged_of d b s q rfl (share0_at d b · q) rfl _ _ _
theorem lagged1_at : val_main_v103 (F := Ideal) d (ix3 b s q) = lagged (column d b ⟨2048 + q.val, by omega⟩) 4 s.val :=
  lagged_of d b s q rfl (share1_at d b · q) rfl _ _ _
theorem lagged2_at : val_main_v93 (F := Ideal) d (ix3 b s q) = lagged (column d b ⟨4096 + q.val, by omega⟩) 8 s.val :=
  lagged_of d b s q rfl (share2_at d b · q) rfl _ _ _
theorem lagged3_at : val_main_v84 (F := Ideal) d (ix3 b s q) = lagged (column d b ⟨6144 + q.val, by omega⟩) 16 s.val :=
  lagged_of d b s q rfl (share3_at d b · q) rfl _ _ _

end Shares

/-- The four groups together. -/
theorem all_at (b : Fin 2) (s : Fin 2048) (g : Fin 4) (q : Fin 2048) : val_main_v116 (F := Ideal) d (ix4 b s g q)
    = lagged (column d b ⟨g.val * 2048 + q.val, by omega⟩) (lengthOf g.val) s.val := by
  have e3 : val_main_v86 (F := Ideal) d (ix4 b s g q) = if g.val = 3 then _ else 0 := group_at 3 _ _ zero_word _ 0 _ _ b s g q
  have e2 : val_main_v95 (F := Ideal) d (ix4 b s g q) = if g.val = 2 then _ else 0 := group_at 2 _ _ zero_word _ 1 _ _ b s g q
  have e1 : val_main_v105 (F := Ideal) d (ix4 b s g q) = if g.val = 1 then _ else 0 := group_at 1 _ _ zero_word _ 2 _ _ b s g q
  have e0 : val_main_v115 (F := Ideal) d (ix4 b s g q) = if g.val = 0 then _ else 0 := group_at 0 _ _ zero_word _ 3 _ _ b s g q
  show ((_ + _) + _) + _ = _
  refine (congrArg₂ (· + ·) (congrArg₂ (· + ·) (congrArg₂ (· + ·) e3 e2) e1) e0).trans ?_
  rw [lagged0_at, lagged1_at, lagged2_at, lagged3_at]
  match g with
  | ⟨0, _⟩ => simp [lengthOf]
  | ⟨1, _⟩ => simp [lengthOf]
  | ⟨2, _⟩ => simp [lengthOf]
  | ⟨3, _⟩ => simp [lengthOf]

/-- The running sum from the end. -/
theorem window_at (b : Fin 2) (s : Fin 2048) (g : Fin 4) (q : Fin 2048) : val_main_v117 (F := Ideal) d (ix4 b s g q)
    = ∑ j ∈ Finset.range 2048, if hj : s.val + j < 2048 then val_main_v116 (F := Ideal) d (ix4 b ⟨s.val + j, hj⟩ g q) else 0 := by
  unfold val_main_v117
  generalize val_main_v116 (F := Ideal) d = x
  have hv : ∀ i, val_main_call1_call0_v0 (F := Ideal) i = 0 := fun i => (val_main_call1_call0_v0_apply i).trans (zero_word _)
  generalize val_main_call1_call0_v0 (F := Ideal) = z at hv ⊢
  unfold Host.reduceWindowAdd
  rw [Ideal.hostReduceWindowAdd_def]
  refine (runningSum_at 0 2047 (hv _) x _ b s g q).trans (Finset.sum_congr rfl fun j _ => ?_)
  by_cases hj : s.val + j < 2048
  · rw [dif_pos hj, dif_pos ⟨Nat.zero_le _, hj⟩]
    rfl
  · rw [dif_neg hj, dif_neg fun h => hj h.2]

/-- The reference's gradient before the cast, where the cotangent is real. -/
theorem grad_at (hd : ∀ j, ∃ x : ℝ, d j = x) (b : Fin 2) (s : Fin 2048) (g : Fin 4) (q : Fin 2048) :
    val_main_v118 (F := Ideal) d (ix4 b s g q)
      = ahead (column d b ⟨g.val * 2048 + q.val, by omega⟩) (lengthOf g.val) s.val
        - column d b ⟨g.val * 2048 + q.val, by omega⟩ s.val := by
  set e : Fin 8192 := ⟨g.val * 2048 + q.val, by omega⟩ with he
  obtain ⟨X, hX⟩ : ∃ X : ℕ → ℝ, column d b e = fun n => (X n : EReal) := by
    choose f hf using hd
    refine ⟨fun n => if h : n < 2048 then f (ix2 ⟨b.val * 2048 + n, by omega⟩ e) else 0, funext fun n => ?_⟩
    by_cases h : n < 2048
    · simp only [column, dif_pos h]; exact hf _
    · simp only [column, dif_neg h]; rfl
  have h68 : val_main_v68 (F := Ideal) d (ix4 b s g q) = column d b e s.val := by
    rw [column, dif_pos s.isLt]
    pointwise [val_main_v68]
    rfl
  have h117 : val_main_v117 (F := Ideal) d (ix4 b s g q) = ahead (column d b e) (lengthOf g.val) s.val := by
    refine (window_at d b s g q).trans ?_
    rw [hX, ← telescope X (w := lengthOf g.val) (Nat.pow_pos (by decide)) s.val s.isLt, ← hX]
    refine Finset.sum_congr rfl fun j _ => ?_
    by_cases hj : s.val + j < 2048
    · rw [dif_pos hj, if_pos hj, all_at]
      rfl
    · rw [dif_neg hj, if_neg hj]
  refine (congrArg₂ (fun y z => -y + z) h68 h117).trans ?_
  rw [sub_eq_add_neg, add_comm]

/-- The reference's result, where the cotangent is real. -/
theorem result_eq (pr : FVec Ideal S4096x16384 .bf16) (hd : ∀ j, ∃ x : ℝ, d j = x) :
    val_main_v122 (F := Ideal) d pr = result d pr := by
  funext j
  obtain ⟨p, k, rfl⟩ : ∃ (p : Fin 4096) (k : Fin 16384), j = ix2 p k := ⟨j 0, j 1, eq_ix2 j⟩
  by_cases h : k.val < 8192
  · have e := grad_at d hd ⟨p.val / 2048, by omega⟩ ⟨p.val % 2048, by omega⟩ ⟨k.val / 2048, by omega⟩ ⟨k.val % 2048, by omega⟩
    rw [result_left d pr p k h]
    refine Eq.trans ?_ (e.trans ?_)
    · pointwise [val_main_v122, val_main_v120, val_main_v119]
      exact dif_pos h
    · rw [grad]
      have h1 : (⟨k.val / 2048 * 2048 + k.val % 2048, by omega⟩ : Fin 8192) = ⟨k.val, h⟩ := Fin.ext (by simp only []; omega)
      simp only [h1]
  · rw [result_right d pr p k h]
    pointwise [val_main_v122, val_main_v121]
    have h1 : (⟨8192 + (k.val - 8192), by omega⟩ : Fin 16384) = k := Fin.ext (by simp only []; omega)
    exact (dif_neg h).trans (by rw [h1])

end Cert.PoolRefIdeal.Block
-- ==== Proof.PoolRef.lean ====
/- The gradient of the pooling mixer's means: the kernel's result is the reference's. -/
module

public import proofs.«01_k».proof.Proof.Pool
public import proofs.«01_k».proof.Proof.PoolRefBlock
public import proofs.«01_k».proof.Proof.Gen.PoolRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.PoolRefIdeal.Entry

open Cert.PoolRefIdeal

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v122) = Read.val_main_v122 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Read.val_main_v122_eq _ _), (h c).2⟩) (Value.run m ρ)

/-- The reference of the means' backward call runs, leaves its arguments and ends with every counter at zero. -/
theorem frame : Cert.quiescent_PoolRefIdeal := fun m ρ _ =>
  (θ_run defs _ _).mono (fun r h => ⟨fun c => (h c).2, sem_eq_zero_of_no_sems rfl _⟩) (run m ρ)

end Cert.PoolRefIdeal.Entry

namespace Cert.PoolIdeal.Whole

open Cert.Pooling Cert.Reals

/-- What the precondition says: the cotangent is real. -/
theorem finite [Cert.Pre_pool_finite.Facts] {d : FVec Ideal ⟨2, ![4096, 8192]⟩ .f32} {pr : FVec Ideal ⟨2, ![4096, 16384]⟩ .bf16}
    (h : Cert.Pre_pool_finite.fn (F := Ideal) d pr = fun _ => 1#1) (j) : ∃ r : ℝ, d j = r := by
  have := congrFun h j
  pointwise [Cert.Pre_pool_finite.fn] at this
  exact real_of_word this

/-- The means' backward call computes the reference's gradient. -/
theorem claim [Cert.Pre_pool_finite.Facts] : Cert.algebraic_PoolIdeal_PoolRefIdeal_pre_pool_finite := by
  intro m g m' g' hpre hagree
  refine ⟨fun c => result (m ((c.tc : Thread nD τ).loc main_arg0)) (m ((c.tc : Thread nD τ).loc main_arg1)), ?_, ?_⟩
  · refine θ_run_mono (Cert.PoolIdeal.Value.run_blocks m g) fun r hr c => ?_
    obtain ⟨h1, hargs⟩ := hr c
    exact ⟨h1.trans (final m c), hargs⟩
  · refine θ_run_mono (Cert.PoolRefIdeal.Entry.run m' g') fun r hr c => ?_
    obtain ⟨a0, a1⟩ := hagree c
    obtain ⟨h1, hargs⟩ := hr c
    rw [a0, a1] at h1
    exact ⟨h1.trans (Cert.PoolRefIdeal.Block.result_eq _ _ (finite (hpre c))), hargs⟩

end Cert.PoolIdeal.Whole

end
-- ==== Proof.GateAFwd.lean ====
/- Mixer A's gate, forward: what a grid point of the call leaves in the gated output, in the values that the backward call
   computes anew for each head, and what the result array holds after the run. -/
module

public import proofs.«01_k».proof.Proof.GateA
public import proofs.«01_k».proof.Proof.Gen.GateAFwdIdeal.Value
public import proofs.«01_k».proof.Proof.Gen.GateAFwdRefIdeal.Read

@[expose] public section

set_option maxRecDepth 16384

noncomputable section

open Idealize.ShloMosaic Idealize.ShloMosaic.TcCoe Idealize.SL.Sem
open Idealize.ShloMosaic.Pipeline (Dat)

namespace Cert.Gating

/-- The gated output. -/
def Chunk.y (C : Chunk) (r : Fin 128) (h : Fin 16) (k : Fin 512) : ℝ :=
  C.ug r h k * C.sv r h k * (C.z r h k * sig (C.z r h k))

end Cert.Gating

namespace Cert.GateAFwdIdeal.Whole

open Cert.GateAFwdIdeal Cert.GateAFwdIdeal.Gen Cert.Gating Cert.Reals
open Cert.GateAIdeal.Head (Ins)

/-! ## One head -/

/-- A head's gated output, from the values that the backward call computes too. -/
def gated (I : Ins) (h : Fin 16) : FVec Ideal S128x512 .bf16 :=
  truncf .bf16 (mulf (mulf (Cert.GateAIdeal.Head.ug I h)
      (Cert.GateAIdeal.Gen.k0_pay62 (Cert.GateAIdeal.Head.mix I h) (Cert.GateAIdeal.Head.bsAt I h)))
    (mulf (extf .f32 (Cert.GateAIdeal.Head.zAt I h) bitsLt_bf16_f32)
      (logistic (extf .f32 (Cert.GateAIdeal.Head.zAt I h) bitsLt_bf16_f32)))) bitsLt_bf16_f32

theorem gated_at {I : Ins} {C : Chunk} (H : I.Holds C) (r : Fin 128) (h : Fin 16) (k : Fin 512) :
    gated I h (ix2 r k) = (C.y r h k : EReal) := by
  pointwise [gated]
  rw [show Cert.GateAIdeal.Head.ug I h (ix2 r k) = _ from Cert.GateAIdeal.Head.ug_at H r h k, Cert.GateAIdeal.Head.sv_at H, Cert.GateAIdeal.Head.z_at H, Ideal.logistic_coe]
  simp only [← EReal.coe_mul]
  rfl

/-- The pieces a point stores into the gated output: the newest first. -/
def pieces (I : Ins) : List (View.Piece (Elt Ideal) S128x8192 .bf16) :=
  List.ofFn fun k : Fin 16 => ⟨Rect.unit ![0, 512 * k.rev.val] ![128, 512] (Cert.GateAIdeal.Head.in_cols (by omega)), gated I k.rev⟩

/-- The pieces read back. -/
theorem pieces_at {I : Ins} {C : Chunk} (H : I.Holds C) (r : Fin 128) (h : Fin 16) (k : Fin 512) :
    View.canon (pieces I) (ix2 r (ch h k)) = (C.y r h k : EReal) := by
  have hemb : ∀ (h : Fin 16) (inb) (r : Fin 128) (k : Fin 512),
      (Rect.unit (s := S128x8192) ![0, 512 * h.val] ![128, 512] inb).emb (ix2 r k) = ix2 r (ch h k) :=
    fun h inb r k => Cert.GateAIdeal.Whole.emb_cols inb (ix2 r k) (ch h k) (by show h.val * 512 + k.val = 512 * h.val + k.val; omega)
  refine (View.canon_apply_of_pieces (fun y : S128x8192.Idx =>
    (C.y (y 0) ⟨(y 1).val / 512, by have : (y 1).val < 8192 := (y 1).isLt; omega⟩ ⟨(y 1).val % 512, by omega⟩ : EReal)) _ ?_ _ ?_).trans ?_
  · intro p hm x
    obtain ⟨q, rfl⟩ := List.mem_ofFn.mp hm
    obtain ⟨r, e, rfl⟩ : ∃ (r : Fin 128) (e : Fin 512), x = ix2 r e := ⟨x 0, x 1, eq_ix2 x⟩
    refine (gated_at H r q.rev e).trans ?_
    dsimp only
    rw [hemb]
    simp only [ix2_0, ix2_1, head_of, channel_of]
  · refine ⟨_, List.mem_ofFn.mpr ⟨h.rev, rfl⟩, ?_⟩
    simp only [Fin.rev_rev]
    exact Rect.mem_set_unit.mpr fun a => by
      match a with
      | ⟨0, _⟩ => exact ⟨Nat.zero_le _, by show r.val < 0 + 128; omega⟩
      | ⟨1, _⟩ => exact ⟨by show 512 * h.val ≤ h.val * 512 + k.val; omega, by show h.val * 512 + k.val < 512 * h.val + 512; omega⟩
  · simp only [ix2_0, ix2_1, head_of, channel_of]

/-! ## What a point reads and stores -/

variable (m : (ℓ : Loc nD τ sig) → Buf (Elt Ideal) ℓ) (c : Dev nD) (t : Fin cfg0.N)

/-- The blocks a point reads; the two that only the backward call reads are a zero cotangent and the same weights with rows
    and columns exchanged. -/
abbrev ins : Ins := ⟨iblk m c 0 t, fun _ => 0, iblk m c 1 t, iblk m c 2 t, iblk m c 3 t,
  fun j => (iblk m c 3 t : FVec Ideal S16x128x128 .bf16) (ix3 (j 0) (j 2) (j 1)), iblk m c 4 t⟩

theorem stores (y : S128x8192.Idx) : outsAt0 m c t y = View.canon (pieces (ins m c t)) y := by
  unfold outsAt0
  frame_open
  simp (disch := decide) only [↓ View.readCov_skip, ↓ View.readCov_cons_toLoadRect, ↓ View.readCov_fill]
  frame_out
  sl_kernel_rfl

end Cert.GateAFwdIdeal.Whole

end
-- ==== Proof.GateAFwdRef.lean ====
/- The spatial gate, forward: the kernel's result is the reference's. -/
module

public import proofs.«01_k».proof.Proof.GateAFwd
public import proofs.«01_k».proof.Proof.GateARef
public import proofs.«01_k».proof.Proof.Gen.GateAFwdRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateAFwdRefIdeal.Entry

open Cert.GateAFwdRefIdeal Cert.GateAFwdRefIdeal.Read Cert.Gating Cert.Reals

variable {x0 : FVec Ideal S4096x24576 .bf16} {x1 x2 : FVec Ideal S1x8192 .f32} {x3 : FVec Ideal S1x16x128x128 .f32}
  {x4 : FVec Ideal S1x16x128 .f32} {C : Fin 2 → Fin 16 → Chunk}

/-- The lines before the gates are the ones that the derivative starts from. -/
theorem ug_eq : val_main_v17 (F := Ideal) x0 = Cert.GateARefIdeal.Read.val_main_v22 (F := Ideal) x0 := rfl
theorem sv_eq : val_main_v56 (F := Ideal) x0 x1 x2 x3 x4 = Cert.GateARefIdeal.Read.val_main_v67 (F := Ideal) x0 x1 x2 x3 x4 := rfl
theorem z_eq : val_main_v9 (F := Ideal) x0 = Cert.GateARefIdeal.Read.val_main_v11 (F := Ideal) x0 := rfl

/-- The arguments hold the chunks' real numbers, with a zero cotangent. -/
abbrev Holds (x0 : FVec Ideal S4096x24576 .bf16) (x1 x2 : FVec Ideal S1x8192 .f32) (x3 : FVec Ideal S1x16x128x128 .f32)
    (x4 : FVec Ideal S1x16x128 .f32) (C : Fin 2 → Fin 16 → Chunk) : Prop :=
  Cert.GateARefIdeal.Entry.Holds x0 (fun _ => 0) x1 x2 x3 x4 C

/-- The reference's result. -/
theorem y_at (H : Holds x0 x1 x2 x3 x4 C) (b : Fin 2) (n : Fin 16) (r : Fin 128) (h : Fin 16) (k : Fin 512) :
    val_main_v61 (F := Ideal) x0 x1 x2 x3 x4 (ix2 (rowAt b n r) (ch h k)) = ((C b n).y r h k : EReal) := by
  have h59 : val_main_v59 (F := Ideal) x0 x1 x2 x3 x4 (ix3 b (pos n r) (ch h k)) = ((C b n).y r h k : EReal) := by
    pointwise [val_main_v59, val_main_v58, val_main_v57, val_main_call1_v5, val_main_call1_v4, val_main_call1_v3, val_main_call1_v2,
      val_main_call1_v1, val_main_call1_v0, val_main_call1_cst, val_main_call1_cst_0]
    rw [ug_eq, sv_eq, z_eq, Cert.GateARefIdeal.Entry.ug_at H, Cert.GateARefIdeal.Entry.sv_at H, Cert.GateARefIdeal.Entry.z_at H,
      ← EReal.coe_neg, Ideal.exp_coe, ← EReal.coe_one, ← EReal.coe_add, Ideal.div_coe (by positivity)]
    simp only [← EReal.coe_mul]
    rw [Chunk.y, Gating.sig, one_mul, one_div]
  refine Eq.trans ?_ h59
  pointwise [val_main_v61, val_main_v60]
  exact Cert.GateARefIdeal.Entry.at_congr (val_main_v59 (F := Ideal) x0 x1 x2 x3 x4) (by dsimp only; omega) (by dsimp only; omega) rfl

/-- What the reference leaves, in the names of its lines. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v61_eq m c), (h c).2⟩) (Value.run m ρ)

/-- The reference runs, leaves its arguments and ends with every counter at zero. -/
theorem frame : Cert.quiescent_GateAFwdRefIdeal := fun m ρ _ =>
  (θ_run defs _ _).mono (fun r h => ⟨fun c => (h c).2, sem_eq_zero_of_no_sems rfl _⟩) (run m ρ)

end Cert.GateAFwdRefIdeal.Entry

namespace Cert.GateAFwdIdeal.Whole

open Cert.GateAFwdIdeal Cert.GateAFwdIdeal.Gen Cert.Gating Cert.Reals

variable (m : (ℓ : Loc nD τ sig) → Buf (Elt Ideal) ℓ) (c : Dev nD) (t : Fin cfg0.N)

/-- Which block each window holds at a point. -/
theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] :=
  (by decide +kernel : ∀ t : Fin grid0.N, _)

/-- The batch entry and the chunk of a point, and the row of the flattened batch. -/
abbrev bOf (t : Fin cfg0.N) : Fin 2 := ⟨t.val / 16, by have : t.val < 32 := t.isLt; omega⟩
abbrev nOf (t : Fin cfg0.N) : Fin 16 := ⟨t.val % 16, by omega⟩
abbrev rowOf (t : Fin cfg0.N) (r : Fin 128) : Fin 4096 := ⟨t.val * 128 + r.val, by have : t.val < 32 := t.isLt; omega⟩

theorem rowOf_eq (r : Fin 128) : rowOf t r = rowAt (bOf t) (nOf t) r :=
  Fin.ext (by show t.val * 128 + r.val = t.val / 16 * 2048 + (t.val % 16 * 128 + r.val); omega)

/-- The host's causal weights and the biases, as the call takes them. -/
theorem w_entry (h : Fin 16) (r s : Fin 128) : V m c main_v2 (ix3 h r s) = causal (m ((c : Thread nD τ).loc main_arg3)) h r s := by
  unfold V
  simp only [List.flatten_cons, List.flatten_nil, List.append_nil, List.cons_append, List.nil_append]
  after_results
  pointwise
  show Scalar.select (IntOp.cmpi .sge (IntOp.addi (BitVec.ofNat 32 r.val) 0#32) (BitVec.ofNat 32 s.val))
    (m ((c : Thread nD τ).loc main_arg3) (ix4 0 h r s)) (Ideal.ofBits .f32 0x00000000#32) = _
  rw [Cert.GateARefIdeal.Entry.mask, causal, Ideal.ofBits_zero_f32]
  split <;> rfl
theorem bs_entry (h : Fin 16) (r : Fin 128) : V m c main_v4 (ix3 h r 0) = m ((c : Thread nD τ).loc main_arg4) (ix3 0 h r) := by
  unfold V
  simp only [List.flatten_cons, List.flatten_nil, List.append_nil, List.cons_append, List.nil_append]
  after_results
  pointwise

theorem p_at (r : Fin 128) (e : Fin 24576) : iblk m c 0 t (ix2 r e) = m ((c : Thread nD τ).loc main_arg0) (ix2 (rowOf t r) e) := by
  blk_ext [iblk, V, idx t]
theorem g_at (e : Fin 8192) : iblk m c 1 t (ix2 0 e) = m ((c : Thread nD τ).loc main_arg1) (ix2 0 e) := by
  blk_ext [iblk, V, idx t]
theorem b_at (e : Fin 8192) : iblk m c 2 t (ix2 0 e) = m ((c : Thread nD τ).loc main_arg2) (ix2 0 e) := by
  blk_ext [iblk, V, idx t]
theorem w_at (h : Fin 16) (r s : Fin 128) : iblk m c 3 t (ix3 h r s) = causal (m ((c : Thread nD τ).loc main_arg3)) h r s := by
  have e : ((cfg0.win 3).blk t).view.emb (ix3 h r s) = (ix3 h r s) := by blk_ext [idx t]
  show V m c main_v2 (((cfg0.win 3).blk t).view.emb (ix3 h r s)) = _
  rw [e, w_entry]
theorem bs_at (h : Fin 16) (r : Fin 128) : iblk m c 4 t (ix3 h r 0) = m ((c : Thread nD τ).loc main_arg4) (ix3 0 h r) := by
  have e : ((cfg0.win 4).blk t).view.emb (ix3 h r 0) = (ix3 h r 0) := by blk_ext [idx t]
  show V m c main_v4 (((cfg0.win 4).blk t).view.emb (ix3 h r 0)) = _
  rw [e, bs_entry]

/-- The arguments hold real numbers: `C` chunk by chunk. -/
abbrev Args (C : Fin 2 → Fin 16 → Chunk) : Prop :=
  Cert.GateAFwdRefIdeal.Entry.Holds (m ((c : Thread nD τ).loc main_arg0)) (m ((c : Thread nD τ).loc main_arg1))
    (m ((c : Thread nD τ).loc main_arg2)) (m ((c : Thread nD τ).loc main_arg3)) (m ((c : Thread nD τ).loc main_arg4)) C

variable {m c} {C : Fin 2 → Fin 16 → Chunk} (H : Args m c C)
include H

/-- A point's blocks hold its chunk. -/
theorem holds : (ins m c t).Holds (C (bOf t) (nOf t)) where
  u r h k := (p_at m c t r _).trans (by rw [rowOf_eq]; exact H.u _ _ r h k)
  v r h k := (p_at m c t r _).trans (by rw [rowOf_eq]; exact H.v _ _ r h k)
  z r h k := (p_at m c t r _).trans (by rw [rowOf_eq]; exact H.z _ _ r h k)
  dy r h k := H.dy _ _ r h k
  g h k := (g_at m c t _).trans (H.g _ _ h k)
  b h k := (b_at m c t _).trans (H.b _ _ h k)
  w h r s := (w_at m c t h r s).trans (H.w _ _ h r s)
  wt h r s := (w_at m c t h r s).trans (H.w _ _ h r s)
  bs h r := (bs_at m c t h r).trans (H.bs _ _ h r)

/-- The gated output after the run. -/
theorem final : (dats m 0 c).arrAt 5 (cfgs 0).N
    = Cert.GateAFwdRefIdeal.Read.val_main_v61 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  obtain ⟨r, e, rfl⟩ : ∃ (r : Fin 128) (e : Fin 8192), y = ix2 r e := ⟨y 0, y 1, eq_ix2 y⟩
  obtain ⟨h, k, rfl⟩ : ∃ (h : Fin 16) (k : Fin 512), e = ch h k :=
    ⟨⟨e.val / 512, by omega⟩, ⟨e.val % 512, by omega⟩, Fin.ext (Nat.div_add_mod' _ _).symm⟩
  have hj : ((cfg0.win 5).blk t).view.emb (ix2 r (ch h k)) = ix2 (rowOf t r) (ch h k) := by blk_ext [idx t]
  rw [hj, rowOf_eq, Cert.GateAFwdRefIdeal.Entry.y_at H]
  blk_simp
  rw [after0_5]
  exact (stores m c t _).trans (pieces_at (holds t H) r h k)

end Cert.GateAFwdIdeal.Whole

namespace Cert.GateAFwdIdeal.Whole

open Cert.Gating Cert.Reals

variable {x0 : FVec Ideal ⟨2, ![4096, 24576]⟩ .bf16} {x1 x2 : FVec Ideal ⟨2, ![1, 8192]⟩ .f32}
  {x3 : FVec Ideal ⟨4, ![1, 16, 128, 128]⟩ .f32} {x4 : FVec Ideal ⟨3, ![1, 16, 128]⟩ .f32}

/-- What the precondition says: every argument holds real numbers, so each chunk of 128 positions is one of real numbers. -/
theorem finite [Cert.Pre_gate_a_fwd_finite.Facts]
    (h : (Cert.Pre_gate_a_fwd_finite.fn (F := Ideal) x0 x1 x2 x3 x4).1 = (fun _ => 1#1)
      ∧ (Cert.Pre_gate_a_fwd_finite.fn (F := Ideal) x0 x1 x2 x3 x4).2.1 = (fun _ => 1#1)
      ∧ (Cert.Pre_gate_a_fwd_finite.fn (F := Ideal) x0 x1 x2 x3 x4).2.2.1 = (fun _ => 1#1)
      ∧ (Cert.Pre_gate_a_fwd_finite.fn (F := Ideal) x0 x1 x2 x3 x4).2.2.2.1 = (fun _ => 1#1)
      ∧ (Cert.Pre_gate_a_fwd_finite.fn (F := Ideal) x0 x1 x2 x3 x4).2.2.2.2 = (fun _ => 1#1)) :
    ∃ C : Fin 2 → Fin 16 → Chunk, Cert.GateAFwdRefIdeal.Entry.Holds x0 x1 x2 x3 x4 C := by
  obtain ⟨h0, h1, h2, h3, h4⟩ := h
  refine Cert.GateAIdeal.Whole.chunks (fun j => ?_) (fun j => ⟨0, rfl⟩) (fun j => ?_) (fun j => ?_) (fun j => ?_) (fun j => ?_)
  · have := congrFun h0 j
    pointwise [Cert.Pre_gate_a_fwd_finite.fn] at this
    exact real_of_half this
  · have := congrFun h1 j
    pointwise [Cert.Pre_gate_a_fwd_finite.fn] at this
    exact real_of_word this
  · have := congrFun h2 j
    pointwise [Cert.Pre_gate_a_fwd_finite.fn] at this
    exact real_of_word this
  · have := congrFun h3 j
    pointwise [Cert.Pre_gate_a_fwd_finite.fn] at this
    exact real_of_word this
  · have := congrFun h4 j
    pointwise [Cert.Pre_gate_a_fwd_finite.fn] at this
    exact real_of_word this

/-- The spatial gate's forward call computes the reference's gated output. -/
theorem claim [Cert.Pre_gate_a_fwd_finite.Facts] :
    Cert.algebraic_GateAFwdIdeal_GateAFwdRefIdeal_pre_gate_a_fwd_finite := by
  pair_intro
  · run_from Cert.GateAFwdIdeal.Value.run_blocks m g
  · refine θ_run_mono (Cert.GateAFwdRefIdeal.Entry.run m' g') fun r hr c => ?_
    obtain ⟨C, H⟩ := finite (hpre c)
    obtain ⟨a0, a1, a2, a3, a4⟩ := hagree c
    obtain ⟨h1, hargs⟩ := hr c
    rw [a0, a1, a2, a3, a4] at h1
    exact ⟨h1.trans (final H).symm, hargs⟩

end Cert.GateAFwdIdeal.Whole

end
-- ==== Proof.GateBFwd.lean ====
/- The gate of the pooling mixer, forward: the kernel's gated output is the reference's. -/
module

public import proofs.«01_k».proof.Proof.GateBBlock
public import proofs.«01_k».proof.Proof.Gen.GateBFwdIdeal.Value
public import proofs.«01_k».proof.Proof.Gen.GateBFwdRefIdeal.Read
public import proofs.«01_k».proof.Proof.Gen.GateBFwdRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GateBFwdRefIdeal.Entry

open Cert.GateBFwdRefIdeal Cert.GateBFwdRefIdeal.Read Cert.Silu
open Cert.GateBRefIdeal.Entry (zOf bOf)

variable (q : FVec Ideal S4096x8192 .bf16) (pr : FVec Ideal S4096x16384 .bf16) (b : FVec Ideal S1x4x2048 .f32)
  (s : FVec Ideal S1x8192 .f32) (p : Fin 4096) (e : Fin 8192)

/-- One entry of the gated output. -/
theorem y_at : val_main_v18 (F := Ideal) q pr b s (ix2 p e)
    = (q (ix2 p e) + bOf b e) * s (ix2 0 e) * silu (zOf pr p e) := by
  rw [silu, ← logistic_eq]
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_call0_v5, val_main_call0_v4, val_main_call0_v3, val_main_call0_v2, val_main_call0_v1,
    val_main_call0_v0, val_main_call0_cst, val_main_call0_cst_0, Cert.Reals.word_one, EReal.coe_one]

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = val_main_v18 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (val_main_v18_eq _ _ _ _), (h c).2⟩) (Value.run m ρ)

/-- The reference of the gate's forward call runs, leaves its arguments and ends with every counter at zero. -/
theorem frame : Cert.quiescent_GateBFwdRefIdeal := fun m ρ _ =>
  (θ_run defs _ _).mono (fun r h => ⟨fun c => (h c).2, sem_eq_zero_of_no_sems rfl _⟩) (run m ρ)

end Cert.GateBFwdRefIdeal.Entry

namespace Cert.GateBFwdIdeal.Whole

open Cert.GateBFwdIdeal Cert.GateBFwdIdeal.Gen Cert.Silu
open Cert.GateBRefIdeal.Entry (zOf bOf)

/-- What a block computes at an entry. -/
theorem block_at (z q : FVec Ideal S256x1024 .bf16) (b s : FVec Ideal S1x1024 .f32) (r : Fin 256) (e : Fin 1024) :
    k0_pay1 (F := Ideal) z q b s (ix2 r e) = (q (ix2 r e) + b (ix2 0 e)) * s (ix2 0 e) * silu (z (ix2 r e)) := by
  pointwise [k0_pay1, silu]

variable (m : (ℓ : Loc nD τ sig) → Buf (Elt Ideal) ℓ) (c : Dev nD) (t : Fin cfg0.N)

/-- Which block each window holds at a point. -/
theorem idx : ∀ t : Fin cfg0.N, win0_0.index t = ![t.val / 8, t.val % 8] ∧ win0_1.index t = ![t.val / 8, 8 + t.val % 8]
    ∧ win0_2.index t = ![0, t.val % 8] ∧ win0_3.index t = ![0, t.val % 8] ∧ win0_4.index t = ![t.val / 8, t.val % 8] :=
  (by decide +kernel : ∀ t : Fin grid0.N, _)

/-- Row `r` and column `e` of block `t`. -/
abbrev rowOf (t : Fin cfg0.N) (r : Fin 256) : Fin 4096 := ⟨t.val / 8 * 256 + r.val, by have : t.val < 128 := t.isLt; omega⟩
abbrev colOf (t : Fin cfg0.N) (e : Fin 1024) : Fin 8192 := ⟨t.val % 8 * 1024 + e.val, by omega⟩

section Blocks

variable (r : Fin 256) (e : Fin 1024)

/-- The pooled projection, the gate's argument, the offset and the scale, as block `t` stages them. -/
theorem q_at : iblk m c 0 t (ix2 r e) = m ((c : Thread nD τ).loc main_arg0) (ix2 (rowOf t r) (colOf t e)) := by
  blk_ext [iblk, V, idx t]
theorem z_at : iblk m c 1 t (ix2 r e) = zOf (m ((c : Thread nD τ).loc main_arg1)) (rowOf t r) (colOf t e) := by
  blk_ext [iblk, V, idx t]
theorem b_at : iblk m c 2 t (ix2 0 e) = bOf (m ((c : Thread nD τ).loc main_arg2)) (colOf t e) := by
  blk_simp [iblk, idx t]
  entry_read
  pointwise
  blk_ext [idx t]
theorem s_at : iblk m c 3 t (ix2 0 e) = m ((c : Thread nD τ).loc main_arg3) (ix2 0 (colOf t e)) := by
  blk_ext [iblk, V, idx t]

end Blocks

/-- The gated output after the run. -/
theorem final : (dats m 0 c).arrAt 4 (cfgs 0).N = Cert.GateBFwdRefIdeal.Read.val_main_v18 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t _ y => ?_
  obtain ⟨r, e, rfl⟩ : ∃ (r : Fin 256) (e : Fin 1024), y = ix2 r e := ⟨y 0, y 1, eq_ix2 y⟩
  have hj : ((cfg0.win 4).blk t).view.emb (ix2 r e) = ix2 (rowOf t r) (colOf t e) := by blk_ext [idx t]
  rw [hj, Cert.GateBFwdRefIdeal.Entry.y_at]
  blk_simp
  rw [after0_4]
  unfold out0_4
  frame_out
  refine (block_at _ _ _ _ r e).trans ?_
  simp only [q_at, z_at, b_at, s_at]

/-- The gate's forward call computes the reference's gated output. -/
theorem claim : Cert.algebraic_GateBFwdIdeal_GateBFwdRefIdeal := by
  pair_intro
  · run_from Cert.GateBFwdIdeal.Value.run_blocks m g
  · refine θ_run_mono (Cert.GateBFwdRefIdeal.Entry.run m' g') fun r hr c => ?_
    obtain ⟨a0, a1, a2, a3⟩ := hagree c
    obtain ⟨h1, hargs⟩ := hr c
    rw [a0, a1, a2, a3] at h1
    exact ⟨h1.trans (final m c).symm, hargs⟩

end Cert.GateBFwdIdeal.Whole

end
-- ==== Proof.NormFwd.lean ====
/- The first norm's forward call: the kernel's normed rows are the reference's. -/
module

public import proofs.«01_k».proof.Proof.Rms
public import proofs.«01_k».proof.Proof.Gen.NormFwdIdeal.Value
public import proofs.«01_k».proof.Proof.Gen.NormFwdRefIdeal.Read
public import proofs.«01_k».proof.Proof.Gen.NormFwdRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormFwdRefIdeal.Entry

open Cert.NormFwdRefIdeal Cert.NormFwdRefIdeal.Read Cert.Rms

variable (x : FVec Ideal S2x2048x4096 .f32) (g : FVec Ideal S2x4096 .f32)

/-- The scale of a row, as the reference computes it. -/
theorem scale_at (p : Fin 4096) :
    val_main_v9 (F := Ideal) x (ix3 ⟨p.val / 2048, by omega⟩ ⟨p.val % 2048, by omega⟩ 0) = scale (row x p) := by
  pointwise [val_main_v9, val_main_v8, val_main_v7, val_main_v6, val_main_v5, val_main_v4, val_main_v3, val_main_v2,
    val_main_cst, val_main_cst_0, val_main_cst_1, scale, meanSq, row]

/-- One entry of the normed rows. -/
theorem normed_at (p k : Fin 4096) :
    val_main_v16 (F := Ideal) x g (ix2 p k) = row x p k * scale (row x p) * g (ix2 0 k) := by
  rw [← scale_at]
  pointwise [val_main_v16, val_main_v15, val_main_v14, val_main_v13, val_main_v12, val_main_v11, val_main_v10, val_main_v1,
    val_main_v0, row]

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = val_main_v16 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v16_eq _ _), (h c).2⟩) (Value.run m ρ)

/-- The reference of the norm runs, leaves its arguments and ends with every counter at zero. -/
theorem frame : Cert.quiescent_NormFwdRefIdeal := fun m ρ _ =>
  (θ_run defs _ _).mono (fun r h => ⟨fun c => (h c).2, sem_eq_zero_of_no_sems rfl _⟩) (run m ρ)

end Cert.NormFwdRefIdeal.Entry

namespace Cert.NormFwdIdeal.Whole

open Cert.NormFwdIdeal Cert.NormFwdIdeal.Gen Cert.Rms

/-- What a block computes at an entry. -/
theorem block_at (x : FVec Ideal S128x4096 .f32) (g : FVec Ideal S1x4096 .f32) (r : Fin 128) (k : Fin 4096) :
    k0_pay1 (F := Ideal) x g (ix2 r k) = x (ix2 r k) * scale (fun k => x (ix2 r k)) * g (ix2 0 k) := by
  pointwise [k0_pay1, scale, meanSq]

variable (m : (ℓ : Loc nD τ sig) → Buf (Elt Ideal) ℓ) (c : Dev nD) (t : Fin cfg0.N)

/-- Which block each window holds at a point. -/
theorem idx : ∀ t : Fin cfg0.N, win0_0.index t = ![t.val, 0] ∧ win0_1.index t = ![0, 0] ∧ win0_2.index t = ![t.val, 0] :=
  (by decide +kernel : ∀ t : Fin grid0.N, _)

/-- Row `r` of block `t` in the flattened batch. -/
abbrev rowOf (t : Fin cfg0.N) (r : Fin 128) : Fin 4096 := ⟨t.val * 128 + r.val, by have : t.val < 32 := t.isLt; omega⟩

/-- A row of the input, and the weight, as block `t` stages them. -/
theorem x_at (r : Fin 128) (k : Fin 4096) : iblk m c 0 t (ix2 r k) = row (m ((c : Thread nD τ).loc main_arg0)) (rowOf t r) k := by
  blk_simp [iblk, idx t]
  entry_read
  pointwise
  blk_ext [idx t]
theorem g_at (k : Fin 4096) : iblk m c 1 t (ix2 0 k) = m ((c : Thread nD τ).loc main_arg1) (ix2 0 k) := by
  blk_simp [iblk, idx t]
  entry_read
  pointwise
  blk_ext [idx t]

/-- The normed rows after the run. -/
theorem final : (dats m 0 c).arrAt 2 (cfgs 0).N = Cert.NormFwdRefIdeal.Read.val_main_v16 (F := Ideal)
    (m ((c : Thread nD τ).loc main_arg0)) (m ((c : Thread nD τ).loc main_arg1)) := by
  refine (dats m 0 c).arrAt_eq_of_covers 2 _ (by decide +kernel) fun t _ y => ?_
  obtain ⟨r, k, rfl⟩ : ∃ (r : Fin 128) (k : Fin 4096), y = ix2 r k := ⟨y 0, y 1, eq_ix2 y⟩
  have hj : ((cfg0.win 2).blk t).view.emb (ix2 r k) = ix2 (rowOf t r) k := by blk_ext [idx t]
  rw [hj, Cert.NormFwdRefIdeal.Entry.normed_at]
  blk_simp
  rw [after0_2]
  unfold out0_2
  frame_out
  refine (block_at _ _ r k).trans ?_
  simp only [x_at, g_at]

/-- The first norm's forward call computes the reference's normed rows. -/
theorem claim : Cert.algebraic_NormFwdIdeal_NormFwdRefIdeal := by
  pair_intro
  · run_from Cert.NormFwdIdeal.Value.run_blocks m g
  · refine θ_run_mono (Cert.NormFwdRefIdeal.Entry.run m' g') fun r hr c => ?_
    obtain ⟨a0, a1⟩ := hagree c
    obtain ⟨h1, hargs⟩ := hr c
    rw [a0, a1] at h1
    exact ⟨h1.trans (final m c).symm, hargs⟩

end Cert.NormFwdIdeal.Whole

end
-- ==== Proof.PoolFwd.lean ====
/- The pooling mixer's means, forward: what one block of 512 rows and 1024 columns computes, and what the result array
   holds after the run. -/
module

public import proofs.«01_k».proof.Proof.Pooling
public import proofs.«01_k».proof.Proof.PoolBlock
public import proofs.«01_k».proof.Proof.Gen.PoolFwdIdeal.Value
public import Idealize.ShloMosaic.Lib.Pipeline.ValueKit
public import Idealize.ShloMosaic.Lib.Affine

@[expose] public section

set_option maxRecDepth 16384

noncomputable section

open Idealize.ShloMosaic Idealize.ShloMosaic.TcCoe Idealize.SL.Sem
open Idealize.ShloMosaic.Pipeline (Dat)

namespace Cert.PoolFwdIdeal.Block

open Cert.PoolFwdIdeal Cert.PoolFwdIdeal.Gen Cert.Pooling

/-- One step of the ladder: a rotation on by `n` rows, added. -/
def climb (s : BitVec 32) (x : FVec Ideal S528x1024 .f32) : FVec Ideal S528x1024 .f32 :=
  addf x (dynamicRotate 0 s none x rotates_S528x1024_d0)

/-- Column `e` of `y` holds the sums of the last `w` rows of `g`, as far as the rows reach back. -/
def Holds (y : FVec Ideal S528x1024 .f32) (e : Fin 1024) (g : ℕ → EReal) (w : ℕ) : Prop :=
  ∀ k (h : k < 528), w ≤ k + 1 → y (ix2 ⟨k, h⟩ e) = ∑ u ∈ Finset.range w, g (k - u)

/-- A step of the ladder doubles the number of rows summed. -/
theorem climb_holds {s : BitVec 32} {y : FVec Ideal S528x1024 .f32} {e : Fin 1024} {g : ℕ → EReal} {w : ℕ}
    (h : Holds y e g w) (hw : 0 < w) (hs : s.toNat = w) : Holds (climb s y) e g (w + w) := by
  intro k hk hkw
  have hrot : dynamicRotate 0 s none y rotates_S528x1024_d0 (ix2 ⟨k, hk⟩ e) = y (ix2 ⟨k - w, by omega⟩ e) :=
    dynamicRotate_apply _ _ _ _ _ _ fun b => by
      match b with
      | ⟨0, _⟩ =>
        show k - w = (k + 528 - s.toNat % 528) % 528
        omega
      | ⟨1, _⟩ => rfl
  show y (ix2 ⟨k, hk⟩ e) + dynamicRotate 0 s none y rotates_S528x1024_d0 (ix2 ⟨k, hk⟩ e) = _
  rw [hrot, h k hk (by omega), h (k - w) (by omega) (by omega), Finset.sum_range_add]
  simp only [Nat.sub_sub]

section Ladders

variable {y : FVec Ideal S528x1024 .f32} {e : Fin 1024} {g : ℕ → EReal}

/-- Ladders of one to four steps. -/
theorem two (h : Holds y e g 1) : Holds (climb 1#32 y) e g 2 := climb_holds (w := 1) h (by decide) rfl
theorem four (h : Holds y e g 1) : Holds (climb 2#32 (climb 1#32 y)) e g 4 := climb_holds (w := 2) (two h) (by decide) rfl
theorem eight (h : Holds y e g 1) : Holds (climb 4#32 (climb 2#32 (climb 1#32 y))) e g 8 :=
  climb_holds (w := 4) (four h) (by decide) rfl
theorem sixteen (h : Holds y e g 1) : Holds (climb 8#32 (climb 4#32 (climb 2#32 (climb 1#32 y)))) e g 16 :=
  climb_holds (w := 8) (eight h) (by decide) rfl

end Ladders

/-- The position of row block `a` in its sequence, as the block computes it. -/
def startWord (a : BitVec 32) : BitVec 32 :=
  let n : BitVec 32 := Scalar.muli a 512#32
  let l : BitVec 32 := Scalar.select (Scalar.cmpi .eq 2048#32 0#32) 1#32 2048#32
  let r : BitVec 32 := Scalar.remsi n l
  Scalar.select (Scalar.andi (Scalar.xori (Scalar.cmpi .slt r 0#32) (Scalar.cmpi .slt l 0#32)) (Scalar.cmpi .ne r 0#32))
    (Scalar.addi r l) r

/-- The halo's rows, or zeros at the start of a sequence, over the rows of the block. -/
def stack (s : BitVec 32) (halo : FVec Ideal S16x1024 .bf16) (x : FVec Ideal S512x1024 .bf16) : FVec Ideal S528x1024 .f32 :=
  concatenate S528x1024 0
    [⟨S16x1024, mulf (extf .f32 halo bitsLt_bf16_f32) (broadcast S16x1024
      (Scalar.select (Scalar.cmpi .eq s 0#32) (Scalar.ofBits .f32 0x00000000#32) (Scalar.ofBits .f32 0x3F800000#32)))⟩,
      ⟨S512x1024, extf .f32 x bitsLt_bf16_f32⟩] concatenates_S16x1024_S512x1024_S528x1024_d0

/-- The block's stack, in these words. -/
theorem stack_eq (i : grid0.Coords) (x : FVec Ideal S512x1024 .bf16) (halo : FVec Ideal S16x1024 .bf16) :
    k0_pay7 (F := Ideal) i x halo = stack (startWord (BitVec.ofNat 32 (i 0).val)) halo x := rfl

/-- One row of the stack. -/
theorem stack_at (s : BitVec 32) (halo : FVec Ideal S16x1024 .bf16) (x : FVec Ideal S512x1024 .bf16) (k : Fin 528) (e : Fin 1024) :
    stack s halo x (ix2 k e) = if h : k.val < 16 then halo (ix2 ⟨k.val, h⟩ e) * (if s = 0#32 then 0 else 1)
      else x (ix2 ⟨k.val - 16, by omega⟩ e) := by
  have hs : Scalar.select (Scalar.cmpi .eq s 0#32) (Scalar.ofBits (F := Ideal) .f32 0x00000000#32) (Scalar.ofBits .f32 0x3F800000#32)
      = if s = 0#32 then 0 else 1 := by
    show Scalar.select _ (Ideal.ofBits .f32 0x00000000#32) (Ideal.ofBits .f32 0x3F800000#32) = _
    rw [Ideal.ofBits_zero_f32, Reals.word_one, EReal.coe_one, Scalar.select]
    by_cases h : s = 0#32
    · subst h; rfl
    · rw [if_neg h, if_neg]
      show ¬BitVec.ofBool (s == 0#32) = 1#1
      rw [beq_false_of_ne h]
      decide
  rw [← hs]
  pointwise [stack]

/-- The positions of a block's rows. -/
theorem place_at {s : BitVec 32} {s0 : ℕ} (hs : s = BitVec.ofNat 32 s0) (h0 : s0 ≤ 1536) (r : Fin 512) :
    k0_pay1 (F := Ideal) s (ix2 r 0) = (((s0 + r.val : ℕ) : ℝ) : EReal) := by
  subst hs
  have h : (BitVec.ofNat 32 s0 + BitVec.ofNat 32 r.val).toInt = ((s0 + r.val : ℕ) : ℤ) := by
    rw [← BitVec.ofNat_add, BitVec.toInt_eq_toNat_cond, BitVec.toNat_ofNat]
    omega
  pointwise [k0_pay1]
  show (((BitVec.ofNat 32 s0 + BitVec.ofNat 32 r.val).toInt : ℝ) : EReal) = _
  rw [h, Int.cast_natCast]

/-- The block's result from a ladder. -/
def out (y : FVec Ideal S528x1024 .f32) (s wb : BitVec 32) (x : FVec Ideal S512x1024 .f32) : FVec Ideal S512x1024 .bf16 :=
  truncf .bf16 (subf (divf (extractStridedSlice S512x1024 ![16, 0] y slices_S528x1024_o16_0_S512x1024)
    (broadcastTo S512x1024 (minimumf (addf (k0_pay1 (F := Ideal) s) (broadcast S512x1 (Scalar.ofBits .f32 0x3F800000#32)))
      (broadcast S512x1 (Scalar.ofBits .f32 wb))) broadcasts_S512x1_S512x1024)) x) bitsLt_bf16_f32

/-- The block's result at an entry. -/
theorem out_at (y : FVec Ideal S528x1024 .f32) (s wb : BitVec 32) (x : FVec Ideal S512x1024 .f32) (r : Fin 512) (e : Fin 1024) :
    out y s wb x (ix2 r e) = Ideal.div (y (ix2 ⟨16 + r.val, by omega⟩ e))
      (min (k0_pay1 (F := Ideal) s (ix2 r 0) + 1) (Ideal.ofBits .f32 wb)) - x (ix2 r e) := by
  pointwise [out]

/-- The four windows' results are ladders of one to four steps. -/
theorem pay2_eq (s : BitVec 32) (x : FVec Ideal S512x1024 .f32) (y : FVec Ideal S528x1024 .f32) :
    k0_pay2 (F := Ideal) s x y = out (climb 1#32 y) s 0x40000000#32 x := rfl
theorem pay3_eq (s : BitVec 32) (x : FVec Ideal S512x1024 .f32) (y : FVec Ideal S528x1024 .f32) :
    k0_pay3 (F := Ideal) s x y = out (climb 2#32 (climb 1#32 y)) s 0x40800000#32 x := rfl
theorem pay4_eq (s : BitVec 32) (x : FVec Ideal S512x1024 .f32) (y : FVec Ideal S528x1024 .f32) :
    k0_pay4 (F := Ideal) s x y = out (climb 4#32 (climb 2#32 (climb 1#32 y))) s 0x41000000#32 x := rfl
theorem pay5_eq (s : BitVec 32) (x : FVec Ideal S512x1024 .f32) (y : FVec Ideal S528x1024 .f32) :
    k0_pay5 (F := Ideal) s x y = out (climb 8#32 (climb 4#32 (climb 2#32 (climb 1#32 y)))) s 0x41800000#32 x := rfl

/-- The rows a block reads, in a sequence: `x` is the sequence's column, `s0` the position of the block's first row. -/
structure Reads (d : FVec Ideal S512x1024 .bf16) (halo : FVec Ideal S16x1024 .bf16) (s : BitVec 32) (e : Fin 1024)
    (x : ℕ → EReal) (s0 : ℕ) : Prop where
  /-- the block lies in the sequence, at a block's place -/
  le : s0 ≤ 1536
  whole : s0 % 512 = 0
  /-- the word of its first position -/
  word : s = BitVec.ofNat 32 s0
  /-- the block's rows -/
  rows : ∀ k : Fin 512, d (ix2 k e) = x (s0 + k.val)
  /-- the rows before the block, unless the sequence begins with it -/
  before : 16 ≤ s0 → ∀ k : Fin 16, halo (ix2 k e) = x (s0 + k.val - 16)

section Entries

variable {d : FVec Ideal S512x1024 .bf16} {halo : FVec Ideal S16x1024 .bf16} {s : BitVec 32} {e : Fin 1024} {x : ℕ → EReal}
  {s0 : ℕ} (R : Reads d halo s e x s0)
include R

/-- The stack, in the sequence. -/
theorem stack_holds : Holds (stack s halo d) e (fun k => if 16 ≤ s0 + k then x (s0 + k - 16) else 0) 1 := by
  intro k hk _
  rw [Finset.sum_range_one, Nat.sub_zero, stack_at]
  show _ = if 16 ≤ s0 + k then x (s0 + k - 16) else 0
  have hw := R.whole
  have hz : s = 0#32 ↔ s0 = 0 := by
    rw [R.word, ← BitVec.toNat_inj, BitVec.toNat_ofNat]
    have := R.le
    show s0 % 2 ^ 32 = 0 ↔ s0 = 0
    omega
  by_cases h : k < 16
  · rw [dif_pos h]
    by_cases h0 : s0 = 0
    · rw [if_pos (hz.mpr h0), mul_zero, if_neg (by omega)]
    · rw [if_neg (fun hs => h0 (hz.mp hs)), mul_one, if_pos (by omega), R.before (by omega)]
  · rw [dif_neg h, if_pos (by omega), R.rows]
    exact congrArg x (by show s0 + (k - 16) = s0 + k - 16; omega)

/-- A ladder's result in the sequence. -/
theorem out_eq {y : FVec Ideal S528x1024 .f32} {w : ℕ} (hw : w ≤ 16) {W : ℝ} (hW : (w : ℝ) = W) {wb : BitVec 32}
    (hwb : Ideal.ofBits .f32 wb = (W : EReal))
    (h : Holds y e (fun k => if 16 ≤ s0 + k then x (s0 + k - 16) else 0) w) (r : Fin 512) :
    out y s wb (k0_pay6 d) (ix2 r e) = pooledOf x w (s0 + r.val) := by
  subst hW
  have hd : k0_pay6 (F := Ideal) d (ix2 r e) = d (ix2 r e) := rfl
  rw [out_at, hd, h (16 + r.val) (by omega) (by omega), R.rows, place_at R.word R.le, hwb, count_eq, pooledOf, behind]
  refine congrArg (fun b => Ideal.div b _ - _) (Finset.sum_congr rfl fun u hu => ?_)
  have hu' : u < w := Finset.mem_range.mp hu
  show (if 16 ≤ s0 + (16 + r.val - u) then x (s0 + (16 + r.val - u) - 16) else 0) = _
  by_cases h : u ≤ s0 + r.val
  · rw [if_pos h, if_pos (by omega), show s0 + (16 + r.val - u) - 16 = s0 + r.val - u by omega]
  · rw [if_neg h, if_neg (by omega)]

/-- The four windows' blocks at an entry. -/
theorem pay2_at (r : Fin 512) : k0_pay2 (F := Ideal) s (k0_pay6 d) (stack s halo d) (ix2 r e) = pooledOf x 2 (s0 + r.val) :=
  (congrFun (pay2_eq _ _ _) _).trans (out_eq R (w := 2) (by decide) Nat.cast_ofNat Reals.word_two (two (stack_holds R)) r)
theorem pay3_at (r : Fin 512) : k0_pay3 (F := Ideal) s (k0_pay6 d) (stack s halo d) (ix2 r e) = pooledOf x 4 (s0 + r.val) :=
  (congrFun (pay3_eq _ _ _) _).trans (out_eq R (w := 4) (by decide) Nat.cast_ofNat PoolIdeal.Block.word_4 (four (stack_holds R)) r)
theorem pay4_at (r : Fin 512) : k0_pay4 (F := Ideal) s (k0_pay6 d) (stack s halo d) (ix2 r e) = pooledOf x 8 (s0 + r.val) :=
  (congrFun (pay4_eq _ _ _) _).trans (out_eq R (w := 8) (by decide) Nat.cast_ofNat PoolIdeal.Block.word_8 (eight (stack_holds R)) r)
theorem pay5_at (r : Fin 512) : k0_pay5 (F := Ideal) s (k0_pay6 d) (stack s halo d) (ix2 r e) = pooledOf x 16 (s0 + r.val) :=
  (congrFun (pay5_eq _ _ _) _).trans (out_eq R (w := 16) (by decide) Nat.cast_ofNat PoolIdeal.Block.word_16 (sixteen (stack_holds R)) r)

end Entries

end Cert.PoolFwdIdeal.Block

namespace Cert.PoolFwdIdeal.Whole

open Cert.PoolFwdIdeal Cert.PoolFwdIdeal.Gen Cert.Pooling

/-- The columns the means are taken of. -/
def left (pr : FVec Ideal S4096x16384 .bf16) : (⟨2, ![4096, 8192]⟩ : Shape).Idx → EReal :=
  fun j => pr (ix2 (j 0) ⟨(j 1).val, by have : (j 1).val < 8192 := (j 1).isLt; omega⟩)

/-- The means less the values: the four groups of columns have four window lengths. -/
def pooled (pr : FVec Ideal S4096x16384 .bf16) : FVec Ideal S4096x8192 .bf16 := fun j =>
  pooledOf (column (left pr) ⟨(j 0).val / 2048, by have : (j 0).val < 4096 := (j 0).isLt; omega⟩ (j 1))
    (lengthOf ((j 1).val / 2048)) ((j 0).val % 2048)

variable (m : (ℓ : Loc nD τ sig) → Buf (Elt Ideal) ℓ) (c : Dev nD)

/-- Which block each window holds at a point. -/
theorem idx : ∀ t : Fin cfg0.N, win0_0.index t = ![t.val / 8, t.val % 8]
    ∧ win0_1.index t = ![t.val / 8 * 32 - 1, t.val % 8] ∧ win0_2.index t = ![t.val / 8, t.val % 8] :=
  (by decide +kernel : ∀ t : Fin grid0.N, _)

/-- The position of a block's first row in its sequence. -/
abbrev startOf (t : Fin cfg0.N) : ℕ := t.val / 8 % 4 * 512

/-- The word of that position, as a block computes it. -/
theorem start_word : ∀ t : Fin cfg0.N, Block.startWord (BitVec.ofNat 32 (grid0.coords t 0).val) = BitVec.ofNat 32 (startOf t) :=
  (by decide +kernel : ∀ t : Fin grid0.N, _)

/-- A block's rows and the rows before it. -/
theorem reads (t : Fin cfg0.N) (e : Fin 1024) :
    Block.Reads (iblk m c 0 t) (iblk m c 1 t) (Block.startWord (BitVec.ofNat 32 (grid0.coords t 0).val)) e
      (column (left (m ((c : Thread nD τ).loc main_arg0))) ⟨t.val / 8 / 4, by have : t.val < 64 := t.isLt; omega⟩
        ⟨t.val % 8 * 1024 + e.val, by omega⟩) (startOf t) where
  le := by unfold startOf; omega
  whole := Nat.mul_mod_left _ _
  word := start_word t
  rows k := by
    have ht : t.val < 64 := t.isLt
    have h : (⟨t.val / 8 * 512 + k.val, by omega⟩ : Fin 4096) = ⟨t.val / 8 / 4 * 2048 + (startOf t + k.val), by unfold startOf; omega⟩ :=
      Fin.ext (by simp only [startOf]; omega)
    rw [column, dif_pos (by unfold startOf; omega), ← h]
    blk_ext [iblk, V, idx t, left]
  before hs k := by
    have ht : t.val < 64 := t.isLt
    have hs' : 16 ≤ t.val / 8 % 4 * 512 := hs
    have h : (⟨(t.val / 8 * 32 - 1) * 16 + k.val, by omega⟩ : Fin 4096)
        = ⟨t.val / 8 / 4 * 2048 + (startOf t + k.val - 16), by unfold startOf; omega⟩ :=
      Fin.ext (by simp only [startOf]; omega)
    rw [column, dif_pos (by unfold startOf; omega), ← h]
    blk_ext [iblk, V, idx t, left]

/-- What a block's entry is in the result. -/
theorem point_of (t : Fin cfg0.N) {y : FVec Ideal S512x1024 .bf16} {w : ℕ} (hw : lengthOf (t.val % 8 / 2) = w)
    (h : ∀ (r : Fin 512) (e : Fin 1024), y (ix2 r e)
      = pooledOf (column (left (m ((c : Thread nD τ).loc main_arg0))) ⟨t.val / 8 / 4, by have : t.val < 64 := t.isLt; omega⟩
          ⟨t.val % 8 * 1024 + e.val, by omega⟩) w (startOf t + r.val)) (z : S512x1024.Idx) :
    y z = pooled (m ((c : Thread nD τ).loc main_arg0)) (((cfg0.win 2).blk t).view.emb z) := by
  obtain ⟨r, e, rfl⟩ : ∃ (r : Fin 512) (e : Fin 1024), z = ix2 r e := ⟨z 0, z 1, eq_ix2 z⟩
  have ht : t.val < 64 := t.isLt
  have hj : ((cfg0.win 2).blk t).view.emb (ix2 r e)
      = ix2 ⟨t.val / 8 * 512 + r.val, by omega⟩ ⟨t.val % 8 * 1024 + e.val, by omega⟩ := by blk_ext [idx t]
  have h1 : (⟨(t.val / 8 * 512 + r.val) / 2048, by omega⟩ : Fin 2) = ⟨t.val / 8 / 4, by omega⟩ := Fin.ext (by simp only []; omega)
  have h2 : (t.val / 8 * 512 + r.val) % 2048 = startOf t + r.val := by simp only [startOf]; omega
  have h3 : (t.val % 8 * 1024 + e.val) / 2048 = t.val % 8 / 2 := by omega
  rw [hj, h r e, pooled]
  simp only [ix2_0, ix2_1, h1, h2, h3, hw]

/-- The means less the values, after the run. -/
theorem final : (dats m 0 c).arrAt 2 (cfgs 0).N = pooled (m ((c : Thread nD τ).loc main_arg0)) := by
  refine (dats m 0 c).arrAt_eq_of_covers 2 _ (by decide +kernel) fun t _ y => ?_
  blk_simp
  rw [after0_2]
  by_cases h0 : t.val % 8 ≤ 1
  · rw [outsAt0_A m c t h0 (by omega) (by omega) (by omega)]
    frame_out
    exact point_of m c t (w := 2) (by rw [show t.val % 8 / 2 = 0 by omega]; rfl) (fun r e => Block.pay2_at (reads m c t e) r) y
  by_cases h1 : 2 ≤ t.val % 8 ∧ t.val % 8 ≤ 3
  · rw [outsAt0_B m c t h0 h1 (by omega) (by omega)]
    frame_out
    exact point_of m c t (w := 4) (by rw [show t.val % 8 / 2 = 1 by omega]; rfl) (fun r e => Block.pay3_at (reads m c t e) r) y
  by_cases h2 : 4 ≤ t.val % 8 ∧ t.val % 8 ≤ 5
  · rw [outsAt0_C m c t h0 h1 h2 (by omega)]
    frame_out
    exact point_of m c t (w := 8) (by rw [show t.val % 8 / 2 = 2 by omega]; rfl) (fun r e => Block.pay4_at (reads m c t e) r) y
  · rw [outsAt0_D m c t h0 h1 h2 (by omega)]
    frame_out
    exact point_of m c t (w := 16) (by rw [show t.val % 8 / 2 = 3 by omega]; rfl) (fun r e => Block.pay5_at (reads m c t e) r) y

end Cert.PoolFwdIdeal.Whole

end
-- ==== Proof.PoolFwdRef.lean ====
/- The pooling mixer's means, forward: the reference's result at one entry, and the kernel's result is the reference's. -/
module

public import proofs.«01_k».proof.Proof.PoolFwd
public import proofs.«01_k».proof.Proof.PoolRefBlock
public import proofs.«01_k».proof.Proof.Gen.PoolFwdRefIdeal.Read
public import proofs.«01_k».proof.Proof.Gen.PoolFwdRefIdeal.Run
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.PoolFwdRefIdeal.Entry

open Cert.PoolFwdRefIdeal Cert.PoolFwdRefIdeal.Gen Cert.PoolFwdRefIdeal.Read Cert.Pooling
open Cert.PoolFwdIdeal.Whole (left pooled)

variable (pr : FVec Ideal S4096x16384 .bf16)

/-- Column `e` of the sequence `b`, up to position `s`, summed. -/
def runningOf (b : Fin 2) (e : Fin 8192) (s : ℕ) : EReal := ∑ j ∈ Finset.range (s + 1), column (left pr) b e j

/-- The value the means are taken of, at one entry. -/
theorem value_at (b : Fin 2) (s : Fin 2048) (g : Fin 4) (q : Fin 2048) :
    val_main_v2 (F := Ideal) pr (ix4 b s g q) = column (left pr) b ⟨g.val * 2048 + q.val, by omega⟩ s.val := by
  rw [column, dif_pos s.isLt]
  pointwise [val_main_v2, val_main_v1, val_main_v0, left]

/-- The running sum at one entry. -/
theorem running_at (b : Fin 2) (s : Fin 2048) (g : Fin 4) (q : Fin 2048) :
    val_main_v3 (F := Ideal) pr (ix4 b s g q) = runningOf pr b ⟨g.val * 2048 + q.val, by omega⟩ s.val := by
  have hx : ∀ (t : ℕ) (ht : t < 2048), val_main_v2 (F := Ideal) pr (ix4 b ⟨t, ht⟩ g q)
      = column (left pr) b ⟨g.val * 2048 + q.val, by omega⟩ t := fun t ht => value_at pr b ⟨t, ht⟩ g q
  unfold val_main_v3
  generalize val_main_v2 (F := Ideal) pr = x at hx ⊢
  have hv : ∀ i, val_main_call0_call0_v0 (F := Ideal) i = 0 := fun i =>
    (val_main_call0_call0_v0_apply i).trans (PoolRefIdeal.Block.zero_word _)
  generalize val_main_call0_call0_v0 (F := Ideal) = z at hv ⊢
  unfold Host.reduceWindowAdd
  rw [Ideal.hostReduceWindowAdd_def]
  refine (runningSum_at 2047 0 (hv _) x _ b s g q).trans ?_
  rw [runningOf, ← running_window _ s.val s.isLt]
  refine Finset.sum_congr rfl fun j hj => ?_
  have hj' := Finset.mem_range.mp hj
  by_cases h : 2047 ≤ s.val + j
  · rw [dif_pos ⟨h, by omega⟩, if_pos h, hx]
  · rw [dif_neg fun h' => h h'.1, if_neg h]

/-- A mean from the running sums, as the reference writes it. -/
def meanOf (b : Fin 2) (e : Fin 8192) (w s : ℕ) : EReal :=
  Ideal.div (runningOf pr b e s - if w ≤ s then runningOf pr b e (s - w) else 0) (count w s)

/-- A group's mean: the running sum less its lagged copy, over the count. -/
theorem mean_of {b : Fin 2} {s q : Fin 2048} {e : Fin 8192} {w : ℕ} {W : ℝ} (hW : (w : ℝ) = W) {wb : BitVec 32}
    (hwb : Ideal.ofBits .f32 wb = (W : EReal)) {y : FVec Ideal S2x2048x2048 .f32}
    (hy : ∀ s : Fin 2048, y (ix3 b s q) = runningOf pr b e s.val) {l : EReal}
    (hl : l = if h : w ≤ s.val then y (ix3 b ⟨s.val - w, by omega⟩ q) else 0) :
    Ideal.div (y (ix3 b s q) - l) (min (1 + FloatOps.sitofp (F := Ideal) FTy.f32 (BitVec.ofNat 32 s.val)) (Ideal.ofBits .f32 wb))
      = meanOf pr b e w s.val := by
  subst hW
  rw [meanOf, ← count_eq, PoolRefIdeal.Block.place_eq, hwb, hl, hy]
  by_cases h : w ≤ s.val
  · rw [dif_pos h, if_pos h, hy]
  · rw [dif_neg h, if_neg h]

/-- The lagged copy at one entry: zeros, then the running sum. -/
theorem lag_at {w n : ℕ} (hw : w + n = 2048) (y : FVec Ideal S2x2048x2048 .f32) (z : FVec Ideal ⟨3, ![2, w, 2048]⟩ .f32)
    (hz : ∀ i, z i = 0) (hs : S2x2048x2048.Slices ![0, 0, 0] ⟨3, ![2, n, 2048]⟩)
    (hc : Shape.Concatenates [⟨3, ![2, w, 2048]⟩, ⟨3, ![2, n, 2048]⟩] S2x2048x2048 1) (b : Fin 2) (s q : Fin 2048) :
    concatenate S2x2048x2048 1 [⟨⟨3, ![2, w, 2048]⟩, z⟩, ⟨⟨3, ![2, n, 2048]⟩, extractStridedSlice ⟨3, ![2, n, 2048]⟩ ![0, 0, 0] y hs⟩]
      hc (ix3 b s q) = if h : w ≤ s.val then y (ix3 b ⟨s.val - w, by omega⟩ q) else 0 := by
  by_cases h : w ≤ s.val
  · rw [dif_pos h]
    refine (concatenate_pair_apply_right (s₁ := ⟨3, ![2, w, 2048]⟩) (s₂ := ⟨3, ![2, n, 2048]⟩) _ _ _ _ (ix3 b s q) rfl rfl
      (ix3 b (⟨s.val - w, by omega⟩ : Fin n) q) (fun a ha => ?_) ?_).trans ?_
    · match a with
      | ⟨0, _⟩ => rfl
      | ⟨1, _⟩ => exact absurd rfl ha
      | ⟨2, _⟩ => rfl
    · show s.val - w + w = s.val
      omega
    · exact extractStridedSlice_apply _ _ _ _ _ fun a => by
        match a with
        | ⟨0, _⟩ => show b.val = 0 + b.val; omega
        | ⟨1, _⟩ => show s.val - w = 0 + (s.val - w); omega
        | ⟨2, _⟩ => show q.val = 0 + q.val; omega
  · rw [dif_neg h]
    refine (concatenate_pair_apply_left (s₁ := ⟨3, ![2, w, 2048]⟩) (s₂ := ⟨3, ![2, n, 2048]⟩) _ _ _ _ (ix3 b s q) rfl
      (ix3 b (⟨s.val, by omega⟩ : Fin w) q) fun a => ?_).trans (hz _)
    match a with
    | ⟨0, _⟩ => rfl
    | ⟨1, _⟩ => rfl
    | ⟨2, _⟩ => rfl

section Means

variable (b : Fin 2) (s q : Fin 2048)

/-- The four groups' running sums. -/
theorem group0_at : val_main_v8 (F := Ideal) pr (ix3 b s q) = runningOf pr b ⟨q.val, by omega⟩ s.val := by
  refine Eq.trans ?_ ((running_at pr b s 0 q).trans (by simp only [Fin.val_zero, Nat.zero_mul, Nat.zero_add]))
  pointwise [val_main_v8, val_main_v7]
theorem group1_at : val_main_v21 (F := Ideal) pr (ix3 b s q) = runningOf pr b ⟨2048 + q.val, by omega⟩ s.val := by
  refine Eq.trans ?_ (running_at pr b s 1 q)
  pointwise [val_main_v21, val_main_v20]
theorem group2_at : val_main_v34 (F := Ideal) pr (ix3 b s q) = runningOf pr b ⟨4096 + q.val, by omega⟩ s.val := by
  refine Eq.trans ?_ (running_at pr b s 2 q)
  pointwise [val_main_v34, val_main_v33]
theorem group3_at : val_main_v47 (F := Ideal) pr (ix3 b s q) = runningOf pr b ⟨6144 + q.val, by omega⟩ s.val := by
  refine Eq.trans ?_ (running_at pr b s 3 q)
  pointwise [val_main_v47, val_main_v46]

/-- The four groups' lagged copies. -/
theorem lag0_at : val_main_v12 (F := Ideal) pr (ix3 b s q)
    = if h : 2 ≤ s.val then val_main_v8 (F := Ideal) pr (ix3 b ⟨s.val - 2, by omega⟩ q) else 0 := by
  unfold val_main_v12 val_main_v11
  generalize val_main_v8 (F := Ideal) pr = y
  have hz : ∀ i, val_main_v10 (F := Ideal) i = 0 := fun i =>
    (val_main_v10_apply i).trans (PoolRefIdeal.Block.zero_word _)
  generalize val_main_v10 (F := Ideal) = z at hz ⊢
  exact lag_at (w := 2) (n := 2046) (by decide) y z hz slices_S2x2048x2048_S2x2046x2048_0_0_0
    concatenates_S2x2x2048_S2x2046x2048_S2x2048x2048_d1 b s q
theorem lag1_at : val_main_v25 (F := Ideal) pr (ix3 b s q)
    = if h : 4 ≤ s.val then val_main_v21 (F := Ideal) pr (ix3 b ⟨s.val - 4, by omega⟩ q) else 0 := by
  unfold val_main_v25 val_main_v24
  generalize val_main_v21 (F := Ideal) pr = y
  have hz : ∀ i, val_main_v23 (F := Ideal) i = 0 := fun i =>
    (val_main_v23_apply i).trans (PoolRefIdeal.Block.zero_word _)
  generalize val_main_v23 (F := Ideal) = z at hz ⊢
  exact lag_at (w := 4) (n := 2044) (by decide) y z hz slices_S2x2048x2048_S2x2044x2048_0_0_0
    concatenates_S2x4x2048_S2x2044x2048_S2x2048x2048_d1 b s q
theorem lag2_at : val_main_v38 (F := Ideal) pr (ix3 b s q)
    = if h : 8 ≤ s.val then val_main_v34 (F := Ideal) pr (ix3 b ⟨s.val - 8, by omega⟩ q) else 0 := by
  unfold val_main_v38 val_main_v37
  generalize val_main_v34 (F := Ideal) pr = y
  have hz : ∀ i, val_main_v36 (F := Ideal) i = 0 := fun i =>
    (val_main_v36_apply i).trans (PoolRefIdeal.Block.zero_word _)
  generalize val_main_v36 (F := Ideal) = z at hz ⊢
  exact lag_at (w := 8) (n := 2040) (by decide) y z hz slices_S2x2048x2048_S2x2040x2048_0_0_0
    concatenates_S2x8x2048_S2x2040x2048_S2x2048x2048_d1 b s q
theorem lag3_at : val_main_v51 (F := Ideal) pr (ix3 b s q)
    = if h : 16 ≤ s.val then val_main_v47 (F := Ideal) pr (ix3 b ⟨s.val - 16, by omega⟩ q) else 0 := by
  unfold val_main_v51 val_main_v50
  generalize val_main_v47 (F := Ideal) pr = y
  have hz : ∀ i, val_main_v49 (F := Ideal) i = 0 := fun i =>
    (val_main_v49_apply i).trans (PoolRefIdeal.Block.zero_word _)
  generalize val_main_v49 (F := Ideal) = z at hz ⊢
  exact lag_at (w := 16) (n := 2032) (by decide) y z hz slices_S2x2048x2048_S2x2032x2048_0_0_0
    concatenates_S2x16x2048_S2x2032x2048_S2x2048x2048_d1 b s q

/-- A position's place, counted from one. -/
theorem place_at : val_main_v6 (F := Ideal) (ix1 s) = 1 + FloatOps.sitofp (F := Ideal) FTy.f32 (BitVec.ofNat 32 s.val) := by
  rw [val_main_v6_apply, val_main_v5_apply]
  exact congrArg₂ (· + ·) (Reals.word_one.trans EReal.coe_one) rfl

/-- The four groups' means. -/
theorem mean0_at : val_main_v19 (F := Ideal) pr (ix3 b s q) = meanOf pr b ⟨q.val, by omega⟩ 2 s.val := by
  have hy := fun s => group0_at pr b s q
  have hl := lag0_at pr b s q
  rw [val_main_v19_apply, val_main_v16_apply]
  generalize val_main_v8 (F := Ideal) pr = y at hy hl ⊢
  generalize val_main_v12 (F := Ideal) pr = l at hl ⊢
  refine Eq.trans ?_ (mean_of pr (W := 2) Nat.cast_ofNat Reals.word_two hy hl)
  rw [← place_at s, val_main_v18_apply, val_main_v17_apply, val_main_v15_apply, val_main_v14_apply, val_main_v13_apply,
    show idx_main_v15 (idx_main_v17 (idx_main_v18 (ix3 b s q))) = ix1 s from funext fun a => match a with | ⟨0, _⟩ => rfl]
  generalize val_main_v6 (F := Ideal) (ix1 s) = c
  rfl
theorem mean1_at : val_main_v32 (F := Ideal) pr (ix3 b s q) = meanOf pr b ⟨2048 + q.val, by omega⟩ 4 s.val := by
  have hy := fun s => group1_at pr b s q
  have hl := lag1_at pr b s q
  rw [val_main_v32_apply, val_main_v29_apply]
  generalize val_main_v21 (F := Ideal) pr = y at hy hl ⊢
  generalize val_main_v25 (F := Ideal) pr = l at hl ⊢
  refine Eq.trans ?_ (mean_of pr (W := 4) Nat.cast_ofNat PoolIdeal.Block.word_4 hy hl)
  rw [← place_at s, val_main_v31_apply, val_main_v30_apply, val_main_v28_apply, val_main_v27_apply, val_main_v26_apply,
    show idx_main_v28 (idx_main_v30 (idx_main_v31 (ix3 b s q))) = ix1 s from funext fun a => match a with | ⟨0, _⟩ => rfl]
  generalize val_main_v6 (F := Ideal) (ix1 s) = c
  rfl
theorem mean2_at : val_main_v45 (F := Ideal) pr (ix3 b s q) = meanOf pr b ⟨4096 + q.val, by omega⟩ 8 s.val := by
  have hy := fun s => group2_at pr b s q
  have hl := lag2_at pr b s q
  rw [val_main_v45_apply, val_main_v42_apply]
  generalize val_main_v34 (F := Ideal) pr = y at hy hl ⊢
  generalize val_main_v38 (F := Ideal) pr = l at hl ⊢
  refine Eq.trans ?_ (mean_of pr (W := 8) Nat.cast_ofNat PoolIdeal.Block.word_8 hy hl)
  rw [← place_at s, val_main_v44_apply, val_main_v43_apply, val_main_v41_apply, val_main_v40_apply, val_main_v39_apply,
    show idx_main_v41 (idx_main_v43 (idx_main_v44 (ix3 b s q))) = ix1 s from funext fun a => match a with | ⟨0, _⟩ => rfl]
  generalize val_main_v6 (F := Ideal) (ix1 s) = c
  rfl
theorem mean3_at : val_main_v58 (F := Ideal) pr (ix3 b s q) = meanOf pr b ⟨6144 + q.val, by omega⟩ 16 s.val := by
  have hy := fun s => group3_at pr b s q
  have hl := lag3_at pr b s q
  rw [val_main_v58_apply, val_main_v55_apply]
  generalize val_main_v47 (F := Ideal) pr = y at hy hl ⊢
  generalize val_main_v51 (F := Ideal) pr = l at hl ⊢
  refine Eq.trans ?_ (mean_of pr (W := 16) Nat.cast_ofNat PoolIdeal.Block.word_16 hy hl)
  rw [← place_at s, val_main_v57_apply, val_main_v56_apply, val_main_v54_apply, val_main_v53_apply, val_main_v52_apply,
    show idx_main_v54 (idx_main_v56 (idx_main_v57 (ix3 b s q))) = ix1 s from funext fun a => match a with | ⟨0, _⟩ => rfl]
  generalize val_main_v6 (F := Ideal) (ix1 s) = c
  rfl

end Means

/-- The four groups together. -/
theorem all_at (b : Fin 2) (s : Fin 2048) (g : Fin 4) (q : Fin 2048) : val_main_v63 (F := Ideal) pr (ix4 b s g q)
    = meanOf pr b ⟨g.val * 2048 + q.val, by omega⟩ (lengthOf g.val) s.val := by
  match g with
  | ⟨0, _⟩ =>
    refine Eq.trans ?_ ((mean0_at pr b s q).trans (by simp only [lengthOf, Nat.zero_mul, Nat.zero_add]; rfl))
    pointwise [val_main_v63, val_main_v59]
  | ⟨1, _⟩ =>
    refine Eq.trans ?_ (mean1_at pr b s q)
    pointwise [val_main_v63, val_main_v60]
  | ⟨2, _⟩ =>
    refine Eq.trans ?_ (mean2_at pr b s q)
    pointwise [val_main_v63, val_main_v61]
  | ⟨3, _⟩ =>
    refine Eq.trans ?_ (mean3_at pr b s q)
    pointwise [val_main_v63, val_main_v62]

/-- The reference's result, where the columns are real. -/
theorem result_eq (hd : ∀ j, ∃ x : ℝ, left pr j = x) : val_main_v66 (F := Ideal) pr = pooled pr := by
  funext j
  obtain ⟨p, e, rfl⟩ : ∃ (p : Fin 4096) (e : Fin 8192), j = ix2 p e := ⟨j 0, j 1, eq_ix2 j⟩
  have he : (⟨e.val / 2048 * 2048 + e.val % 2048, by omega⟩ : Fin 8192) = e := Fin.ext (Nat.div_add_mod' _ _)
  have h63 := all_at pr ⟨p.val / 2048, by omega⟩ ⟨p.val % 2048, by omega⟩ ⟨e.val / 2048, by omega⟩ ⟨e.val % 2048, by omega⟩
  have h2 := value_at pr ⟨p.val / 2048, by omega⟩ ⟨p.val % 2048, by omega⟩ ⟨e.val / 2048, by omega⟩ ⟨e.val % 2048, by omega⟩
  simp only [he] at h63 h2
  obtain ⟨X, hX⟩ : ∃ X : ℕ → ℝ, column (left pr) ⟨p.val / 2048, by omega⟩ e = fun n => (X n : EReal) := by
    choose f hf using hd
    refine ⟨fun n => if h : n < 2048 then f (ix2 ⟨p.val / 2048 * 2048 + n, by omega⟩ e) else 0, funext fun n => ?_⟩
    by_cases h : n < 2048
    · simp only [column, dif_pos h]; exact hf _
    · simp only [column, dif_neg h]; rfl
  refine Eq.trans ?_ ((congrArg₂ (· - ·) h63 h2).trans ?_)
  · pointwise [val_main_v66, val_main_v65, val_main_v64]
  · simp only [pooled, ix2_0, ix2_1, pooledOf, meanOf, runningOf, hX]
    rw [running_behind]

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66) = val_main_v66 (F := Ideal) (m ((c.tc : Thread nD τ).loc main_arg0))
      ∧ r.2.mem ((c.tc : Thread nD τ).loc main_arg0) = m ((c.tc : Thread nD τ).loc main_arg0) :=
  (θ_run defs _ _).mono (fun r h c => ⟨(h c).1.trans (val_main_v66_eq m c), (h c).2⟩) (Value.run m ρ)

/-- The reference of the means runs, leaves its argument and ends with every counter at zero. -/
theorem frame : Cert.quiescent_PoolFwdRefIdeal := fun m ρ _ =>
  (θ_run defs _ _).mono (fun r h => ⟨fun c => (h c).2, sem_eq_zero_of_no_sems rfl _⟩) (run m ρ)

end Cert.PoolFwdRefIdeal.Entry

namespace Cert.PoolFwdIdeal.Whole

open Cert.Pooling Cert.Reals

/-- What the precondition says: the columns the means are taken of are real. -/
theorem finite [Cert.Pre_pool_fwd_finite.Facts] {pr : FVec Ideal ⟨2, ![4096, 16384]⟩ .bf16}
    (h : Cert.Pre_pool_fwd_finite.fn (F := Ideal) pr = fun _ => 1#1) (j) : ∃ r : ℝ, left pr j = r := by
  obtain ⟨p, e, rfl⟩ : ∃ (p : Fin 4096) (e : Fin 8192), j = ix2 p e := ⟨j 0, j 1, eq_ix2 j⟩
  have := congrFun h (ix2 p e)
  pointwise [Cert.Pre_pool_fwd_finite.fn] at this
  exact real_of_half this

/-- The means' forward call computes the reference's pooled values. -/
theorem claim [Cert.Pre_pool_fwd_finite.Facts] : Cert.algebraic_PoolFwdIdeal_PoolFwdRefIdeal_pre_pool_fwd_finite := by
  intro m g m' g' hpre hagree
  refine ⟨fun c => pooled (m ((c.tc : Thread nD τ).loc main_arg0)), ?_, ?_⟩
  · refine θ_run_mono (Cert.PoolFwdIdeal.Value.run_blocks m g) fun r hr c => ?_
    obtain ⟨h1, hargs⟩ := hr c
    exact ⟨h1.trans (final m c), hargs⟩
  · refine θ_run_mono (Cert.PoolFwdRefIdeal.Entry.run m' g') fun r hr c => ?_
    obtain ⟨h1, hargs⟩ := hr c
    rw [hagree c] at h1
    exact ⟨h1.trans (Cert.PoolFwdRefIdeal.Entry.result_eq _ (finite (hpre c))), hargs⟩

end Cert.PoolFwdIdeal.Whole

end
-- ==== Proof.InProj.lean ====
/- An input projection: the kernel's product with the weight gathered in eight parts is the reference's. -/
module

public import proofs.«01_k».proof.Proof.Gen.InProjIdeal.Value
public import proofs.«01_k».proof.Proof.Gen.InProjRefIdeal.Read
public import proofs.«01_k».proof.Proof.Gen.InProjRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjRefIdeal.Entry

open Cert.InProjRefIdeal Cert.InProjRefIdeal.Read

/-- An entry of the projection: the sum over the model's channels, the weight's column in the device's part. -/
theorem proj_at (h : FVec Ideal S4096x4096 .bf16) (w : FVec Ideal S8x4096x3072 .bf16) (i : Fin 4096) (j : Fin 24576) :
    val_main_v3 (F := Ideal) h w (ix2 i j) = ∑ k : Fin 4096, h (ix2 i k)
      * w (ix3 ⟨j.val / 3072, by omega⟩ k ⟨j.val % 3072, by omega⟩) := by
  refine (val_main_v2_apply h w _).trans (Finset.sum_congr rfl fun k _ => ?_)
  rw [val_main_v1_apply, val_main_v0_apply]
  congr 1
  · congr 1
    funext a; match a with | ⟨0, _⟩ => rfl | ⟨1, _⟩ => rfl
  · congr 1
    funext a
    match a with
    | ⟨0, _⟩ => exact Fin.ext (show (k.val * 24576 + j.val) / 3072 % 8 = j.val / 3072 by omega)
    | ⟨1, _⟩ => exact Fin.ext (show (k.val * 24576 + j.val) / 24576 = k.val by omega)
    | ⟨2, _⟩ => exact Fin.ext (show (k.val * 24576 + j.val) % 3072 = j.val % 3072 by omega)

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v3_eq _ _), (h c).2⟩) (Value.run m ρ)

/-- The reference runs, leaves its arguments and ends with every counter at zero. -/
theorem frame : Cert.quiescent_InProjRefIdeal := fun m ρ _ =>
  (θ_run defs _ _).mono (fun r h => ⟨fun c => (h c).2, sem_eq_zero_of_no_sems rfl _⟩) (run m ρ)

end Cert.InProjRefIdeal.Entry

namespace Cert.InProjIdeal.Whole

open Cert.InProjIdeal Cert.InProjIdeal.Gen

/-- What a block computes at an entry. -/
theorem block_at (h : FVec Ideal S1024x4096 .bf16) (w : FVec Ideal S1x4096x1024 .bf16) (r s : Fin 1024) :
    k0_pay1 (F := Ideal) h w (ix2 r s) = ∑ k : Fin 4096, h (ix2 r k) * w (ix3 0 k s) := by
  pointwise [k0_pay1]

variable (m : (ℓ : Loc nD τ sig) → Buf (Elt Ideal) ℓ) (c : Dev nD) (t : Fin cfg0.N)

/-- Which block each window holds at a point. -/
theorem idx : ∀ t : Fin cfg0.N, win0_0.index t = ![t.val / 24, 0] ∧ win0_1.index t = ![t.val % 24 / 3, 0, t.val % 3]
    ∧ win0_2.index t = ![t.val / 24, t.val % 24] :=
  (by decide +kernel : ∀ t : Fin grid0.N, _)

/-- Row `r` and column `s` of block `t` in the result. -/
abbrev rowOf (t : Fin cfg0.N) (r : Fin 1024) : Fin 4096 :=
  ⟨t.val / 24 * 1024 + r.val, by have : t.val < 96 := t.isLt; omega⟩
abbrev colOf (t : Fin cfg0.N) (s : Fin 1024) : Fin 24576 := ⟨t.val % 24 * 1024 + s.val, by omega⟩

/-- The rows and the weight's columns, as block `t` stages them. -/
theorem h_at (r : Fin 1024) (k : Fin 4096) :
    iblk m c 0 t (ix2 r k) = m ((c : Thread nD τ).loc main_arg0) (ix2 (rowOf t r) k) := by
  blk_ext [iblk, V, idx t]
theorem w_at (k : Fin 4096) (s : Fin 1024) :
    iblk m c 1 t (ix3 0 k s) = m ((c : Thread nD τ).loc main_arg1)
      (ix3 ⟨(colOf t s).val / 3072, by omega⟩ k ⟨(colOf t s).val % 3072, by omega⟩) := by
  have h0 : (colOf t s).val / 3072 = t.val % 24 / 3 := by show (t.val % 24 * 1024 + s.val) / 3072 = _; omega
  have h2 : (colOf t s).val % 3072 = t.val % 3 * 1024 + s.val := by show (t.val % 24 * 1024 + s.val) % 3072 = _; omega
  simp only [h0, h2]
  blk_ext [iblk, V, idx t]

/-- The projection after the run. -/
theorem final : (dats m 0 c).arrAt 2 (cfgs 0).N = Cert.InProjRefIdeal.Read.val_main_v3 (F := Ideal)
    (m ((c : Thread nD τ).loc main_arg0)) (m ((c : Thread nD τ).loc main_arg1)) := by
  refine (dats m 0 c).arrAt_eq_of_covers 2 _ (by decide +kernel) fun t _ y => ?_
  obtain ⟨r, s, rfl⟩ : ∃ (r s : Fin 1024), y = ix2 r s := ⟨y 0, y 1, eq_ix2 y⟩
  have hj : ((cfg0.win 2).blk t).view.emb (ix2 r s) = ix2 (rowOf t r) (colOf t s) := by blk_ext [idx t]
  rw [hj, Cert.InProjRefIdeal.Entry.proj_at]
  blk_simp
  rw [after0_2]
  unfold out0_2
  frame_out
  refine (block_at _ _ r s).trans ?_
  simp only [h_at, w_at]

/-- The call computes the reference's product. -/
theorem claim : Cert.algebraic_InProjIdeal_InProjRefIdeal := by
  pair_intro
  · run_from Cert.InProjIdeal.Value.run_blocks m g
  · refine θ_run_mono (Cert.InProjRefIdeal.Entry.run m' g') fun r hr c => ?_
    obtain ⟨a0, a1⟩ := hagree c
    obtain ⟨h1, hargs⟩ := hr c
    rw [a0, a1] at h1
    exact ⟨h1.trans (final m c).symm, hargs⟩

end Cert.InProjIdeal.Whole

end
-- ==== Proof.OutProj.lean ====
/- An output projection: the kernel's product, accumulated over the two halves of the channels, is the reference's. -/
module

public import proofs.«01_k».proof.Proof.Gen.OutProjIdeal.Value
public import proofs.«01_k».proof.Proof.Gen.OutProjRefIdeal.Read
public import proofs.«01_k».proof.Proof.Gen.OutProjRefIdeal.Run
public import proofs.«01_k».proof.Defs
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjRefIdeal.Entry

open Cert.OutProjRefIdeal Cert.OutProjRefIdeal.Read

/-- An entry of the product: the sum over the mixer's channels. -/
theorem proj_at (y : FVec Ideal S4096x8192 .bf16) (w : FVec Ideal S8192x4096 .bf16) (i j : Fin 4096) :
    val_main_v0 (F := Ideal) y w (ix2 i j) = ∑ k : Fin 8192, y (ix2 i k) * w (ix2 k j) := by
  refine (val_main_v0_apply y w _).trans (Finset.sum_congr rfl fun k _ => ?_)
  congr 1 <;> congr 1 <;> (funext a; match a with | ⟨0, _⟩ => rfl | ⟨1, _⟩ => rfl)

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = val_main_v0 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v0_eq _ _), (h c).2⟩) (Value.run m ρ)

/-- The reference runs, leaves its arguments and ends with every counter at zero. -/
theorem frame : Cert.quiescent_OutProjRefIdeal := fun m ρ _ =>
  (θ_run defs _ _).mono (fun r h => ⟨fun c => (h c).2, sem_eq_zero_of_no_sems rfl _⟩) (run m ρ)

end Cert.OutProjRefIdeal.Entry

namespace Cert.OutProjIdeal.Whole

open Cert.OutProjIdeal Cert.OutProjIdeal.Gen

/-- What a block's product holds at an entry; the first one is stored and the second one added. -/
theorem part_at (y : FVec Ideal S1024x4096 .bf16) (w : FVec Ideal S4096x1024 .bf16) (r s : Fin 1024) :
    k0_pay1 (F := Ideal) y w (ix2 r s) = ∑ k : Fin 4096, y (ix2 r k) * w (ix2 k s) := by
  pointwise [k0_pay1]
theorem first_at (y : FVec Ideal S1024x4096 .bf16) (w : FVec Ideal S4096x1024 .bf16) (r s : Fin 1024) :
    k0_pay2 (F := Ideal) y w (ix2 r s) = ∑ k : Fin 4096, y (ix2 r k) * w (ix2 k s) := by
  pointwise [k0_pay2, k0_pay1]
theorem last_at (y : FVec Ideal S1024x4096 .bf16) (w : FVec Ideal S4096x1024 .bf16) (acc : FVec Ideal S1024x1024 .f32)
    (r s : Fin 1024) : k0_pay4 (F := Ideal) y w acc (ix2 r s) = acc (ix2 r s) + ∑ k : Fin 4096, y (ix2 r k) * w (ix2 k s) := by
  rw [← part_at]
  rfl

variable (m : (ℓ : Loc nD τ sig) → Buf (Elt Ideal) ℓ) (c : Dev nD) (t : Fin cfg0.N)

/-- Which block each window holds at a point. -/
theorem idx : ∀ t : Fin cfg0.N, win0_0.index t = ![t.val / 8, t.val % 2] ∧ win0_1.index t = ![t.val % 2, t.val / 2 % 4]
    ∧ win0_2.index t = ![t.val / 8, t.val / 2 % 4] :=
  (by decide +kernel : ∀ t : Fin grid0.N, _)

/-- Row `r` and column `s` of block `t` in the result, and channel `k` of the half it takes. -/
abbrev rowOf (t : Fin cfg0.N) (r : Fin 1024) : Fin 4096 :=
  ⟨t.val / 8 * 1024 + r.val, by have : t.val < 32 := t.isLt; omega⟩
abbrev colOf (t : Fin cfg0.N) (s : Fin 1024) : Fin 4096 := ⟨t.val / 2 % 4 * 1024 + s.val, by omega⟩
abbrev chanOf (t : Fin cfg0.N) (k : Fin 4096) : Fin 8192 := ⟨t.val % 2 * 4096 + k.val, by omega⟩

/-- The operands' halves, as block `t` stages them. -/
theorem y_at (r : Fin 1024) (k : Fin 4096) :
    iblk m c 0 t (ix2 r k) = m ((c : Thread nD τ).loc main_arg0) (ix2 (rowOf t r) (chanOf t k)) := by
  blk_ext [iblk, V, idx t]
theorem w_at (k : Fin 4096) (s : Fin 1024) :
    iblk m c 1 t (ix2 k s) = m ((c : Thread nD τ).loc main_arg1) (ix2 (chanOf t k) (colOf t s)) := by
  blk_ext [iblk, V, idx t]

/-- What the accumulator holds after a point, or the result's block after the last point of its run. -/
def held (n : ℕ) (h : n < cfg0.N) : FVec Ideal S1024x1024 .f32 :=
  if n % 2 = 1 then (outsAt0 m c n h).1 else (outsAt0 m c n h).2

/-- What a point adds to it. -/
def term (y : FVec Ideal S4096x8192 .bf16) (w : FVec Ideal S8192x4096 .bf16) (p : Fin cfg0.N) (j : S1024x1024.Idx) : EReal :=
  ∑ k : Fin 4096, y (ix2 (rowOf p (j 0)) (chanOf p k)) * w (ix2 (chanOf p k) (colOf p (j 1)))

theorem held_first (h : t.val % 2 = 0) (j : S1024x1024.Idx) :
    held m c t.val t.isLt j = 0 + term (m ((c : Thread nD τ).loc main_arg0)) (m ((c : Thread nD τ).loc main_arg1)) t j := by
  obtain ⟨r, s, rfl⟩ : ∃ (r s : Fin 1024), j = ix2 r s := ⟨j 0, j 1, eq_ix2 j⟩
  rw [held, if_neg (by omega), outsAt0_A m c t h (by omega)]
  frame_out
  refine (first_at _ _ r s).trans ?_
  simp only [y_at, w_at, term, ix2_0, ix2_1, zero_add]
theorem held_next (h : ¬t.val % 2 = 0) (j : S1024x1024.Idx) : held m c t.val t.isLt j
    = held m c (t.val - 1) (Nat.lt_of_le_of_lt (Nat.sub_le _ _) t.isLt) j
      + term (m ((c : Thread nD τ).loc main_arg0)) (m ((c : Thread nD τ).loc main_arg1)) t j := by
  obtain ⟨r, s, rfl⟩ : ∃ (r s : Fin 1024), j = ix2 r s := ⟨j 0, j 1, eq_ix2 j⟩
  rw [held, if_pos (by omega), held, if_neg (by omega), outsAt0_B m c t h (by omega)]
  frame_out
  refine (last_at _ _ _ r s).trans ?_
  simp only [y_at, w_at, term, ix2_0, ix2_1, read_unread_whole]

/-- The product after the run. -/
theorem final : (dats m 0 c).arrAt 2 (cfgs 0).N = Cert.OutProjRefIdeal.Read.val_main_v0 (F := Ideal)
    (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  obtain ⟨r, s, rfl⟩ : ∃ (r s : Fin 1024), y = ix2 r s := ⟨y 0, y 1, eq_ix2 y⟩
  have hj : ((cfg0.win 2).blk t).view.emb (ix2 r s) = ix2 (rowOf t r) (colOf t s) := by blk_ext [idx t]
  rw [hj, Cert.OutProjRefIdeal.Entry.proj_at]
  blk_simp
  rw [after0_2]
  have e := Pipeline.eq_sum_fin_of_reset_step_apply_of_flush (held m c) 2 (fun _ => 0)
    (term (m ((c : Thread nD τ).loc main_arg0)) (m ((c : Thread nD τ).loc main_arg1)))
    (fun t h j => held_first m c t h j) (fun t h j => held_next m c t h j) t ht (ix2 r s)
  rw [held, if_pos ht] at e
  refine e.trans ((zero_add _).trans ?_)
  refine Fin.sum_mul_add_congr fun q k hl => ?_
  have hp : (2 * (t.val / 2) + q.val) / 8 = t.val / 8 := by omega
  have hc : (2 * (t.val / 2) + q.val) / 2 % 4 = t.val / 2 % 4 := by omega
  have hh : (2 * (t.val / 2) + q.val) % 2 = q.val := by omega
  simp only [rowOf, colOf, chanOf, hp, hc, hh, ix2_0, ix2_1]

/-- The call computes the reference's product. -/
theorem claim : Cert.algebraic_OutProjIdeal_OutProjRefIdeal := by
  pair_intro
  · run_from Cert.OutProjIdeal.Value.run_blocks m g
  · refine θ_run_mono (Cert.OutProjRefIdeal.Entry.run m' g') fun r hr c => ?_
    obtain ⟨a0, a1⟩ := hagree c
    obtain ⟨h1, hargs⟩ := hr c
    rw [a0, a1] at h1
    exact ⟨h1.trans (final m c).symm, hargs⟩

end Cert.OutProjIdeal.Whole

end
-- ==== Proof.Grouped.lean ====
/- The grouped projection: the kernel's products, a group at a time, are the reference's. -/
module

public import proofs.«01_k».proof.Proof.Gen.GroupedIdeal.Value
public import proofs.«01_k».proof.Proof.Gen.GroupedRefIdeal.Read
public import proofs.«01_k».proof.Proof.Gen.GroupedRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GroupedRefIdeal.Entry

open Cert.GroupedRefIdeal Cert.GroupedRefIdeal.Read

/-- An entry of the grouped product: the sum over the channels of the column's group. -/
theorem grouped_at (a : FVec Ideal S4096x8192 .bf16) (w : FVec Ideal S4x2048x2048 .bf16) (i : Fin 4096) (g : Fin 4)
    (j : Fin 2048) : val_main_v4 (F := Ideal) a w (ix2 i ⟨g.val * 2048 + j.val, by omega⟩)
      = ∑ k : Fin 2048, a (ix2 i ⟨g.val * 2048 + k.val, by omega⟩) * w (ix3 g k j) := by
  refine Eq.trans (show _ = val_main_v3 (F := Ideal) a w _ from rfl) ?_
  rw [val_main_v3_apply, val_main_v2_apply, val_main_v1_apply]
  refine Finset.sum_congr rfl fun k _ => ?_
  rw [val_main_v0_apply]
  have h0 : (i.val * 8192 + (g.val * 2048 + j.val)) / 8192 = i.val := by omega
  have h1 : (i.val * 8192 + (g.val * 2048 + j.val)) / 2048 % 4 = g.val := by omega
  have h2 : (i.val * 8192 + (g.val * 2048 + j.val)) % 2048 = j.val := by omega
  have e0 : ((i.val * 4 + g.val) * 2048 + k.val) / 8192 = i.val := by omega
  have e1 : ((i.val * 4 + g.val) * 2048 + k.val) % 8192 = g.val * 2048 + k.val := by omega
  congr 1
  · congr 1
    funext b
    match b with
    | ⟨0, _⟩ => exact Fin.ext (Eq.trans (by
        show ((((i.val * 8192 + (g.val * 2048 + j.val)) / 8192) * 4 + (i.val * 8192 + (g.val * 2048 + j.val)) / 2048 % 4) * 2048
          + k.val) / 8192 = ((i.val * 4 + g.val) * 2048 + k.val) / 8192
        rw [h0, h1]) e0)
    | ⟨1, _⟩ => exact Fin.ext (Eq.trans (by
        show ((((i.val * 8192 + (g.val * 2048 + j.val)) / 8192) * 4 + (i.val * 8192 + (g.val * 2048 + j.val)) / 2048 % 4) * 2048
          + k.val) % 8192 = ((i.val * 4 + g.val) * 2048 + k.val) % 8192
        rw [h0, h1]) e1)
  · congr 1
    funext b
    match b with
    | ⟨0, _⟩ => exact Fin.ext h1
    | ⟨1, _⟩ => rfl
    | ⟨2, _⟩ => exact Fin.ext h2

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v4_eq _ _), (h c).2⟩) (Value.run m ρ)

/-- The reference runs, leaves its arguments and ends with every counter at zero. -/
theorem frame : Cert.quiescent_GroupedRefIdeal := fun m ρ _ =>
  (θ_run defs _ _).mono (fun r h => ⟨fun c => (h c).2, sem_eq_zero_of_no_sems rfl _⟩) (run m ρ)

end Cert.GroupedRefIdeal.Entry

namespace Cert.GroupedIdeal.Whole

open Cert.GroupedIdeal Cert.GroupedIdeal.Gen

/-- What a block computes at an entry. -/
theorem block_at (a : FVec Ideal S1024x2048 .bf16) (w : FVec Ideal S1x2048x1024 .bf16) (r s : Fin 1024) :
    k0_pay1 (F := Ideal) a w (ix2 r s) = ∑ k : Fin 2048, a (ix2 r k) * w (ix3 0 k s) := by
  pointwise [k0_pay1]

variable (m : (ℓ : Loc nD τ sig) → Buf (Elt Ideal) ℓ) (c : Dev nD) (t : Fin cfg0.N)

/-- Which block each window holds at a point. -/
theorem idx : ∀ t : Fin cfg0.N, win0_0.index t = ![t.val / 2 % 4, t.val / 8] ∧ win0_1.index t = ![t.val / 8, 0, t.val % 2]
    ∧ win0_2.index t = ![t.val / 2 % 4, t.val / 8 * 2 + t.val % 2] :=
  (by decide +kernel : ∀ t : Fin grid0.N, _)

/-- The group of block `t`, and its row `r` and column `s` in the group. -/
abbrev groupOf (t : Fin cfg0.N) : Fin 4 := ⟨t.val / 8, by have : t.val < 32 := t.isLt; omega⟩
abbrev rowOf (t : Fin cfg0.N) (r : Fin 1024) : Fin 4096 := ⟨t.val / 2 % 4 * 1024 + r.val, by omega⟩
abbrev colOf (t : Fin cfg0.N) (s : Fin 1024) : Fin 2048 := ⟨t.val % 2 * 1024 + s.val, by omega⟩

/-- The rows and the weight's columns, as block `t` stages them. -/
theorem a_at (r : Fin 1024) (k : Fin 2048) : iblk m c 0 t (ix2 r k) = m ((c : Thread nD τ).loc main_arg0)
    (ix2 (rowOf t r) ⟨(groupOf t).val * 2048 + k.val, by have := (groupOf t).isLt; omega⟩) := by
  blk_ext [iblk, V, idx t]
theorem w_at (k : Fin 2048) (s : Fin 1024) :
    iblk m c 1 t (ix3 0 k s) = m ((c : Thread nD τ).loc main_arg1) (ix3 (groupOf t) k (colOf t s)) := by
  blk_ext [iblk, V, idx t]

/-- The product after the run. -/
theorem final : (dats m 0 c).arrAt 2 (cfgs 0).N = Cert.GroupedRefIdeal.Read.val_main_v4 (F := Ideal)
    (m ((c : Thread nD τ).loc main_arg0)) (m ((c : Thread nD τ).loc main_arg1)) := by
  refine (dats m 0 c).arrAt_eq_of_covers 2 _ (by decide +kernel) fun t _ y => ?_
  obtain ⟨r, s, rfl⟩ : ∃ (r s : Fin 1024), y = ix2 r s := ⟨y 0, y 1, eq_ix2 y⟩
  have hj : ((cfg0.win 2).blk t).view.emb (ix2 r s) = ix2 (rowOf t r)
      ⟨(groupOf t).val * 2048 + (colOf t s).val, by have := (groupOf t).isLt; have := (colOf t s).isLt; omega⟩ := by
    blk_ext [idx t]
  rw [hj, Cert.GroupedRefIdeal.Entry.grouped_at]
  blk_simp
  rw [after0_2]
  unfold out0_2
  frame_out
  refine (block_at _ _ r s).trans ?_
  simp only [a_at, w_at]

/-- The call computes the reference's product. -/
theorem claim : Cert.algebraic_GroupedIdeal_GroupedRefIdeal := by
  pair_intro
  · run_from Cert.GroupedIdeal.Value.run_blocks m g
  · refine θ_run_mono (Cert.GroupedRefIdeal.Entry.run m' g') fun r hr c => ?_
    obtain ⟨a0, a1⟩ := hagree c
    obtain ⟨h1, hargs⟩ := hr c
    rw [a0, a1] at h1
    exact ⟨h1.trans (final m c).symm, hargs⟩

end Cert.GroupedIdeal.Whole

end
-- ==== Proof.DactOut.lean ====
/- The cotangent of an output projection's input: the kernel's product with the transposed weight is the reference's. -/
module

public import proofs.«01_k».proof.Proof.Gen.DactOutIdeal.Value
public import proofs.«01_k».proof.Proof.Gen.DactOutRefIdeal.Read
public import proofs.«01_k».proof.Proof.Gen.DactOutRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DactOutRefIdeal.Entry

open Cert.DactOutRefIdeal Cert.DactOutRefIdeal.Read

/-- An entry of the product with the transposed weight: the sum over the model's channels. -/
theorem dact_at (dm : FVec Ideal S4096x4096 .bf16) (w : FVec Ideal S8192x4096 .bf16) (i : Fin 4096) (j : Fin 8192) :
    val_main_v2 (F := Ideal) dm w (ix2 i j) = ∑ k : Fin 4096, dm (ix2 i k) * w (ix2 j k) := by
  refine (val_main_v1_apply dm w _).trans (Finset.sum_congr rfl fun k _ => ?_)
  rw [val_main_v0_apply]
  congr 1 <;> congr 1 <;> (funext a; match a with | ⟨0, _⟩ => rfl | ⟨1, _⟩ => rfl)

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v2_eq _ _), (h c).2⟩) (Value.run m ρ)

/-- The reference runs, leaves its arguments and ends with every counter at zero. -/
theorem frame : Cert.quiescent_DactOutRefIdeal := fun m ρ _ =>
  (θ_run defs _ _).mono (fun r h => ⟨fun c => (h c).2, sem_eq_zero_of_no_sems rfl _⟩) (run m ρ)

end Cert.DactOutRefIdeal.Entry

namespace Cert.DactOutIdeal.Whole

open Cert.DactOutIdeal Cert.DactOutIdeal.Gen

/-- What a block computes at an entry. -/
theorem block_at (dm : FVec Ideal S1024x4096 .bf16) (w : FVec Ideal S1024x4096 .bf16) (r s : Fin 1024) :
    k0_pay1 (F := Ideal) dm w (ix2 r s) = ∑ k : Fin 4096, dm (ix2 r k) * w (ix2 s k) := by
  pointwise [k0_pay1]

variable (m : (ℓ : Loc nD τ sig) → Buf (Elt Ideal) ℓ) (c : Dev nD) (t : Fin cfg0.N)

/-- Which block each window holds at a point. -/
theorem idx : ∀ t : Fin cfg0.N, win0_0.index t = ![t.val / 8, 0] ∧ win0_1.index t = ![t.val % 8, 0]
    ∧ win0_2.index t = ![t.val / 8, t.val % 8] :=
  (by decide +kernel : ∀ t : Fin grid0.N, _)

/-- Row `r` and column `s` of block `t` in the result. -/
abbrev rowOf (t : Fin cfg0.N) (r : Fin 1024) : Fin 4096 :=
  ⟨t.val / 8 * 1024 + r.val, by have : t.val < 32 := t.isLt; omega⟩
abbrev colOf (t : Fin cfg0.N) (s : Fin 1024) : Fin 8192 := ⟨t.val % 8 * 1024 + s.val, by omega⟩

/-- The rows of the two operands, as block `t` stages them. -/
theorem dm_at (r : Fin 1024) (k : Fin 4096) :
    iblk m c 0 t (ix2 r k) = m ((c : Thread nD τ).loc main_arg0) (ix2 (rowOf t r) k) := by
  blk_ext [iblk, V, idx t]
theorem w_at (s : Fin 1024) (k : Fin 4096) :
    iblk m c 1 t (ix2 s k) = m ((c : Thread nD τ).loc main_arg1) (ix2 (colOf t s) k) := by
  blk_ext [iblk, V, idx t]

/-- The product after the run. -/
theorem final : (dats m 0 c).arrAt 2 (cfgs 0).N = Cert.DactOutRefIdeal.Read.val_main_v2 (F := Ideal)
    (m ((c : Thread nD τ).loc main_arg0)) (m ((c : Thread nD τ).loc main_arg1)) := by
  refine (dats m 0 c).arrAt_eq_of_covers 2 _ (by decide +kernel) fun t _ y => ?_
  obtain ⟨r, s, rfl⟩ : ∃ (r s : Fin 1024), y = ix2 r s := ⟨y 0, y 1, eq_ix2 y⟩
  have hj : ((cfg0.win 2).blk t).view.emb (ix2 r s) = ix2 (rowOf t r) (colOf t s) := by blk_ext [idx t]
  rw [hj, Cert.DactOutRefIdeal.Entry.dact_at]
  blk_simp
  rw [after0_2]
  unfold out0_2
  frame_out
  refine (block_at _ _ r s).trans ?_
  simp only [dm_at, w_at]

/-- The call computes the reference's product. -/
theorem claim : Cert.algebraic_DactOutIdeal_DactOutRefIdeal := by
  pair_intro
  · run_from Cert.DactOutIdeal.Value.run_blocks m g
  · refine θ_run_mono (Cert.DactOutRefIdeal.Entry.run m' g') fun r hr c => ?_
    obtain ⟨a0, a1⟩ := hagree c
    obtain ⟨h1, hargs⟩ := hr c
    rw [a0, a1] at h1
    exact ⟨h1.trans (final m c).symm, hargs⟩

end Cert.DactOutIdeal.Whole

end
-- ==== Proof.DactIn.lean ====
/- The cotangent of an input projection's input: the kernel's product, accumulated over the devices' eight parts, is the reference's. -/
module

public import proofs.«01_k».proof.Proof.Gen.DactInIdeal.Value
public import proofs.«01_k».proof.Proof.Gen.DactInRefIdeal.Read
public import proofs.«01_k».proof.Proof.Gen.DactInRefIdeal.Run
public import proofs.«01_k».proof.Defs
public import Idealize.ShloMosaic.Lib.Claim
public import Idealize.ShloMosaic.Lib.Quiescent
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DactInRefIdeal.Entry

open Cert.DactInRefIdeal Cert.DactInRefIdeal.Read

/-- An entry of the product with the transposed weight: the sum over the projection's columns, each in a device's part. -/
theorem dact_at (dp : FVec Ideal S4096x24576 .bf16) (w : FVec Ideal S8x4096x3072 .bf16) (i j : Fin 4096) :
    val_main_v3 (F := Ideal) dp w (ix2 i j) = ∑ k : Fin 24576, dp (ix2 i k)
      * w (ix3 ⟨k.val / 3072, by omega⟩ j ⟨k.val % 3072, by omega⟩) := by
  refine (val_main_v3_apply dp w _).trans (Finset.sum_congr rfl fun k _ => ?_)
  rw [val_main_v2_apply, val_main_v1_apply, val_main_v0_apply]
  congr 1
  · congr 1
    funext a; match a with | ⟨0, _⟩ => rfl | ⟨1, _⟩ => rfl
  · congr 1
    funext a
    match a with
    | ⟨0, _⟩ => exact Fin.ext (show (j.val * 24576 + k.val) / 3072 % 8 = k.val / 3072 by omega)
    | ⟨1, _⟩ => exact Fin.ext (show (j.val * 24576 + k.val) / 24576 = j.val by omega)
    | ⟨2, _⟩ => exact Fin.ext (show (j.val * 24576 + k.val) % 3072 = k.val % 3072 by omega)

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v3_eq _ _), (h c).2⟩) (Value.run m ρ)

/-- The reference runs, leaves its arguments and ends with every counter at zero. -/
theorem frame : Cert.quiescent_DactInRefIdeal := fun m ρ _ =>
  (θ_run defs _ _).mono (fun r h => ⟨fun c => (h c).2, sem_eq_zero_of_no_sems rfl _⟩) (run m ρ)

end Cert.DactInRefIdeal.Entry

namespace Cert.DactInIdeal.Whole

open Cert.DactInIdeal Cert.DactInIdeal.Gen

/-- What a block's product holds at an entry; the first one is stored and the later ones added. -/
theorem part_at (a : FVec Ideal S1024x3072 .bf16) (w : FVec Ideal S1x1024x3072 .bf16) (r s : Fin 1024) :
    k0_pay1 (F := Ideal) a w (ix2 r s) = ∑ k : Fin 3072, a (ix2 r k) * w (ix3 0 s k) := by
  pointwise [k0_pay1]
theorem first_at (a : FVec Ideal S1024x3072 .bf16) (w : FVec Ideal S1x1024x3072 .bf16) (r s : Fin 1024) :
    k0_pay2 (F := Ideal) a w (ix2 r s) = ∑ k : Fin 3072, a (ix2 r k) * w (ix3 0 s k) := by
  pointwise [k0_pay2, k0_pay1]
theorem last_at (a : FVec Ideal S1024x3072 .bf16) (w : FVec Ideal S1x1024x3072 .bf16) (acc : FVec Ideal S1024x1024 .f32)
    (r s : Fin 1024) : k0_pay4 (F := Ideal) a w acc (ix2 r s) = acc (ix2 r s) + ∑ k : Fin 3072, a (ix2 r k) * w (ix3 0 s k) := by
  rw [← part_at]
  rfl
theorem next_at (a : FVec Ideal S1024x3072 .bf16) (w : FVec Ideal S1x1024x3072 .bf16) (acc : FVec Ideal S1024x1024 .f32)
    (r s : Fin 1024) : k0_pay3 (F := Ideal) a w acc (ix2 r s) = acc (ix2 r s) + ∑ k : Fin 3072, a (ix2 r k) * w (ix3 0 s k) := by
  rw [← last_at]
  pointwise [k0_pay3, k0_pay4]

variable (m : (ℓ : Loc nD τ sig) → Buf (Elt Ideal) ℓ) (c : Dev nD) (t : Fin cfg0.N)

/-- Which block each window holds at a point. -/
theorem idx : ∀ t : Fin cfg0.N, win0_0.index t = ![t.val / 32, t.val % 8] ∧ win0_1.index t = ![t.val % 8, t.val / 8 % 4, 0]
    ∧ win0_2.index t = ![t.val / 32, t.val / 8 % 4] :=
  (by decide +kernel : ∀ t : Fin grid0.N, _)

/-- Row `r` and column `s` of block `t` in the result, and the device's part that it takes. -/
abbrev rowOf (t : Fin cfg0.N) (r : Fin 1024) : Fin 4096 :=
  ⟨t.val / 32 * 1024 + r.val, by have : t.val < 128 := t.isLt; omega⟩
abbrev colOf (t : Fin cfg0.N) (s : Fin 1024) : Fin 4096 := ⟨t.val / 8 % 4 * 1024 + s.val, by omega⟩
abbrev partOf (t : Fin cfg0.N) : Fin 8 := ⟨t.val % 8, by omega⟩
abbrev chanOf (t : Fin cfg0.N) (k : Fin 3072) : Fin 24576 := ⟨t.val % 8 * 3072 + k.val, by omega⟩

/-- The operands' parts, as block `t` stages them. -/
theorem a_at (r : Fin 1024) (k : Fin 3072) :
    iblk m c 0 t (ix2 r k) = m ((c : Thread nD τ).loc main_arg0) (ix2 (rowOf t r) (chanOf t k)) := by
  blk_ext [iblk, V, idx t]
theorem w_at (s : Fin 1024) (k : Fin 3072) :
    iblk m c 1 t (ix3 0 s k) = m ((c : Thread nD τ).loc main_arg1) (ix3 (partOf t) (colOf t s) k) := by
  blk_ext [iblk, V, idx t]

/-- What the accumulator holds after a point, or the result's block after the last point of its run. -/
def held (n : ℕ) (h : n < cfg0.N) : FVec Ideal S1024x1024 .f32 :=
  if n % 8 = 7 then (outsAt0 m c n h).1 else (outsAt0 m c n h).2

/-- What a point adds to it. -/
def term (a : FVec Ideal S4096x24576 .bf16) (w : FVec Ideal S8x4096x3072 .bf16) (p : Fin cfg0.N) (j : S1024x1024.Idx) : EReal :=
  ∑ k : Fin 3072, a (ix2 (rowOf p (j 0)) (chanOf p k)) * w (ix3 (partOf p) (colOf p (j 1)) k)

theorem held_first (h : t.val % 8 = 0) (j : S1024x1024.Idx) : held m c t.val t.isLt j
    = 0 + term (m ((c : Thread nD τ).loc main_arg0)) (m ((c : Thread nD τ).loc main_arg1)) t j := by
  obtain ⟨r, s, rfl⟩ : ∃ (r s : Fin 1024), j = ix2 r s := ⟨j 0, j 1, eq_ix2 j⟩
  rw [held, if_neg (by omega), outsAt0_A m c t h (by omega) (by omega)]
  frame_out
  refine (first_at _ _ r s).trans ?_
  simp only [a_at, w_at, term, ix2_0, ix2_1, zero_add]
theorem held_next (h : ¬t.val % 8 = 0) (j : S1024x1024.Idx) : held m c t.val t.isLt j
    = held m c (t.val - 1) (Nat.lt_of_le_of_lt (Nat.sub_le _ _) t.isLt) j
      + term (m ((c : Thread nD τ).loc main_arg0)) (m ((c : Thread nD τ).loc main_arg1)) t j := by
  obtain ⟨r, s, rfl⟩ : ∃ (r s : Fin 1024), j = ix2 r s := ⟨j 0, j 1, eq_ix2 j⟩
  by_cases hl : t.val % 8 = 7
  · rw [held, if_pos hl, held, if_neg (by omega), outsAt0_C m c t h (by omega) hl]
    frame_out
    refine (last_at _ _ _ r s).trans ?_
    simp only [a_at, w_at, term, ix2_0, ix2_1, read_unread_whole]
  · rw [held, if_neg hl, held, if_neg (by omega), outsAt0_B m c t h (by omega) hl]
    frame_out
    refine (next_at _ _ _ r s).trans ?_
    simp only [a_at, w_at, term, ix2_0, ix2_1, read_unread_whole]

/-- The product after the run. -/
theorem final : (dats m 0 c).arrAt 2 (cfgs 0).N = Cert.DactInRefIdeal.Read.val_main_v3 (F := Ideal)
    (m ((c : Thread nD τ).loc main_arg0)) (m ((c : Thread nD τ).loc main_arg1)) := by
  refine (dats m 0 c).arrAt_eq_of_covers 2 _ (by decide +kernel) fun t hf y => ?_
  have ht : t.val % 8 = 7 := (flush0_2 t).mp hf
  obtain ⟨r, s, rfl⟩ : ∃ (r s : Fin 1024), y = ix2 r s := ⟨y 0, y 1, eq_ix2 y⟩
  have hj : ((cfg0.win 2).blk t).view.emb (ix2 r s) = ix2 (rowOf t r) (colOf t s) := by blk_ext [idx t]
  rw [hj, Cert.DactInRefIdeal.Entry.dact_at]
  blk_simp
  rw [after0_2]
  have e := Pipeline.eq_sum_fin_of_reset_step_apply_of_flush (held m c) 8 (fun _ => 0)
    (term (m ((c : Thread nD τ).loc main_arg0)) (m ((c : Thread nD τ).loc main_arg1)))
    (fun t h j => held_first m c t h j) (fun t h j => held_next m c t h j) t ht (ix2 r s)
  rw [held, if_pos ht] at e
  refine e.trans ((zero_add _).trans ?_)
  refine Fin.sum_mul_add_congr fun q k hl => ?_
  have hp : (8 * (t.val / 8) + q.val) / 32 = t.val / 32 := by omega
  have hc : (8 * (t.val / 8) + q.val) / 8 % 4 = t.val / 8 % 4 := by omega
  have hh : (8 * (t.val / 8) + q.val) % 8 = q.val := by omega
  have h0 : (q.val * 3072 + k.val) / 3072 = q.val := by omega
  have h1 : (q.val * 3072 + k.val) % 3072 = k.val := by omega
  simp only [rowOf, colOf, chanOf, partOf, hp, hc, hh, h0, h1, ix2_0, ix2_1]

/-- The call computes the reference's product. -/
theorem claim : Cert.algebraic_DactInIdeal_DactInRefIdeal := by
  pair_intro
  · run_from Cert.DactInIdeal.Value.run_blocks m g
  · refine θ_run_mono (Cert.DactInRefIdeal.Entry.run m' g') fun r hr c => ?_
    obtain ⟨a0, a1⟩ := hagree c
    obtain ⟨h1, hargs⟩ := hr c
    rw [a0, a1] at h1
    exact ⟨h1.trans (final m c).symm, hargs⟩

end Cert.DactInIdeal.Whole

end
-- ==== Proof.Dw.lean ====
/- The gradient of a projection's weight: the kernel's product, a block at a time, is the reference's. -/
module

public import proofs.«01_k».proof.Proof.Gen.DwIdeal.Value
public import proofs.«01_k».proof.Proof.Gen.DwRefIdeal.Read
public import proofs.«01_k».proof.Proof.Gen.DwRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwRefIdeal.Entry

open Cert.DwRefIdeal Cert.DwRefIdeal.Read

/-- An entry of the product: the sum over the tokens. -/
theorem dw_at (a : FVec Ideal S4096x8192 .bf16) (b : FVec Ideal S4096x4096 .bf16) (i : Fin 8192) (j : Fin 4096) :
    val_main_v2 (F := Ideal) a b (ix2 i j) = ∑ k : Fin 4096, a (ix2 k i) * b (ix2 k j) := by
  refine (val_main_v1_apply a b _).trans (Finset.sum_congr rfl fun k _ => ?_)
  rw [val_main_v0_apply]
  congr 1 <;> congr 1 <;> (funext a; match a with | ⟨0, _⟩ => rfl | ⟨1, _⟩ => rfl)

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = val_main_v2 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v2_eq _ _), (h c).2⟩) (Value.run m ρ)

/-- The reference runs, leaves its arguments and ends with every counter at zero. -/
theorem frame : Cert.quiescent_DwRefIdeal := fun m ρ _ =>
  (θ_run defs _ _).mono (fun r h => ⟨fun c => (h c).2, sem_eq_zero_of_no_sems rfl _⟩) (run m ρ)

end Cert.DwRefIdeal.Entry

namespace Cert.DwIdeal.Whole

open Cert.DwIdeal Cert.DwIdeal.Gen

/-- What a block computes at an entry. -/
theorem block_at (a : FVec Ideal S4096x1024 .bf16) (b : FVec Ideal S4096x1024 .bf16) (r : Fin 1024) (s : Fin 1024) :
    k0_pay1 (F := Ideal) a b (ix2 r s) = ∑ k : Fin 4096, a (ix2 k r) * b (ix2 k s) := by
  pointwise [k0_pay1]

variable (m : (ℓ : Loc nD τ sig) → Buf (Elt Ideal) ℓ) (c : Dev nD) (t : Fin cfg0.N)

/-- Which block each window holds at a point. -/
theorem idx : ∀ t : Fin cfg0.N, win0_0.index t = ![0, t.val / 4] ∧ win0_1.index t = ![0, t.val % 4]
    ∧ win0_2.index t = ![t.val / 4, t.val % 4] :=
  (by decide +kernel : ∀ t : Fin grid0.N, _)

/-- Row `r` and column `s` of block `t` in the result. -/
abbrev rowOf (t : Fin cfg0.N) (r : Fin 1024) : Fin 8192 :=
  ⟨t.val / 4 * 1024 + r.val, by have : t.val < 32 := t.isLt; omega⟩
abbrev colOf (t : Fin cfg0.N) (s : Fin 1024) : Fin 4096 := ⟨t.val % 4 * 1024 + s.val, by omega⟩

/-- The columns of the two operands, as block `t` stages them. -/
theorem a_at (k : Fin 4096) (r : Fin 1024) :
    iblk m c 0 t (ix2 k r) = m ((c : Thread nD τ).loc main_arg0) (ix2 k (rowOf t r)) := by
  blk_ext [iblk, V, idx t]
theorem b_at (k : Fin 4096) (s : Fin 1024) :
    iblk m c 1 t (ix2 k s) = m ((c : Thread nD τ).loc main_arg1) (ix2 k (colOf t s)) := by
  blk_ext [iblk, V, idx t]

/-- The product after the run. -/
theorem final : (dats m 0 c).arrAt 2 (cfgs 0).N = Cert.DwRefIdeal.Read.val_main_v2 (F := Ideal)
    (m ((c : Thread nD τ).loc main_arg0)) (m ((c : Thread nD τ).loc main_arg1)) := by
  refine (dats m 0 c).arrAt_eq_of_covers 2 _ (by decide +kernel) fun t _ y => ?_
  obtain ⟨r, s, rfl⟩ : ∃ (r : Fin 1024) (s : Fin 1024), y = ix2 r s := ⟨y 0, y 1, eq_ix2 y⟩
  have hj : ((cfg0.win 2).blk t).view.emb (ix2 r s) = ix2 (rowOf t r) (colOf t s) := by blk_ext [idx t]
  rw [hj, Cert.DwRefIdeal.Entry.dw_at]
  blk_simp
  rw [after0_2]
  unfold out0_2
  frame_out
  refine (block_at _ _ r s).trans ?_
  simp only [a_at, b_at]

/-- The call computes the reference's gradient. -/
theorem claim : Cert.algebraic_DwIdeal_DwRefIdeal := by
  pair_intro
  · run_from Cert.DwIdeal.Value.run_blocks m g
  · refine θ_run_mono (Cert.DwRefIdeal.Entry.run m' g') fun r hr c => ?_
    obtain ⟨a0, a1⟩ := hagree c
    obtain ⟨h1, hargs⟩ := hr c
    rw [a0, a1] at h1
    exact ⟨h1.trans (final m c).symm, hargs⟩

end Cert.DwIdeal.Whole

end
-- ==== Proof.DwSharded.lean ====
/- The gradient of an input projection's weight in the devices' eight parts: the kernel's product is the reference's. -/
module

public import proofs.«01_k».proof.Proof.Gen.DwShardedIdeal.Value
public import proofs.«01_k».proof.Proof.Gen.DwShardedRefIdeal.Read
public import proofs.«01_k».proof.Proof.Gen.DwShardedRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwShardedRefIdeal.Entry

open Cert.DwShardedRefIdeal Cert.DwShardedRefIdeal.Read

/-- An entry of a device's part of the product: the sum over the tokens. -/
theorem dw_at (a : FVec Ideal S4096x4096 .bf16) (b : FVec Ideal S4096x16384 .bf16) (g : Fin 8) (i : Fin 4096) (j : Fin 2048) :
    val_main_v4 (F := Ideal) a b (ix3 g i j) = ∑ k : Fin 4096, a (ix2 k i) * b (ix2 k ⟨g.val * 2048 + j.val, by omega⟩) := by
  rw [val_main_v4_apply, val_main_v3_apply]
  refine (val_main_v1_apply a b _).trans (Finset.sum_congr rfl fun k _ => ?_)
  rw [val_main_v0_apply]
  congr 1
  · congr 1
    funext e
    match e with
    | ⟨0, _⟩ => rfl
    | ⟨1, _⟩ => exact Fin.ext (show ((i.val * 8 + g.val) * 2048 + j.val) / 16384 = i.val by omega)
  · congr 1
    funext e
    match e with
    | ⟨0, _⟩ => rfl
    | ⟨1, _⟩ => exact Fin.ext (show ((i.val * 8 + g.val) * 2048 + j.val) % 16384 = g.val * 2048 + j.val by omega)

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v4_eq _ _), (h c).2⟩) (Value.run m ρ)

/-- The reference runs, leaves its arguments and ends with every counter at zero. -/
theorem frame : Cert.quiescent_DwShardedRefIdeal := fun m ρ _ =>
  (θ_run defs _ _).mono (fun r h => ⟨fun c => (h c).2, sem_eq_zero_of_no_sems rfl _⟩) (run m ρ)

end Cert.DwShardedRefIdeal.Entry

namespace Cert.DwShardedIdeal.Whole

open Cert.DwShardedIdeal Cert.DwShardedIdeal.Gen

/-- What a block computes at an entry. -/
theorem block_at (a : FVec Ideal S4096x1024 .bf16) (b : FVec Ideal S4096x1024 .bf16) (r s : Fin 1024) :
    k0_pay1 (F := Ideal) a b (ix3 0 r s) = ∑ k : Fin 4096, a (ix2 k r) * b (ix2 k s) := by
  pointwise [k0_pay1]

variable (m : (ℓ : Loc nD τ sig) → Buf (Elt Ideal) ℓ) (c : Dev nD) (t : Fin cfg0.N)

/-- Which block each window holds at a point. -/
theorem idx : ∀ t : Fin cfg0.N, win0_0.index t = ![0, t.val / 16] ∧ win0_1.index t = ![0, t.val % 16]
    ∧ win0_2.index t = ![t.val % 16 / 2, t.val / 16, t.val % 2] :=
  (by decide +kernel : ∀ t : Fin grid0.N, _)

/-- The device's part that block `t` lies in, and its row `r` and column `s` there. -/
abbrev partOf (t : Fin cfg0.N) : Fin 8 := ⟨t.val % 16 / 2, by omega⟩
abbrev rowOf (t : Fin cfg0.N) (r : Fin 1024) : Fin 4096 :=
  ⟨t.val / 16 * 1024 + r.val, by have : t.val < 64 := t.isLt; omega⟩
abbrev colOf (t : Fin cfg0.N) (s : Fin 1024) : Fin 2048 := ⟨t.val % 2 * 1024 + s.val, by omega⟩

/-- The columns of the two operands, as block `t` stages them. -/
theorem a_at (k : Fin 4096) (r : Fin 1024) :
    iblk m c 0 t (ix2 k r) = m ((c : Thread nD τ).loc main_arg0) (ix2 k (rowOf t r)) := by
  blk_ext [iblk, V, idx t]
theorem b_at (k : Fin 4096) (s : Fin 1024) : iblk m c 1 t (ix2 k s) = m ((c : Thread nD τ).loc main_arg1)
    (ix2 k ⟨(partOf t).val * 2048 + (colOf t s).val, by have := (partOf t).isLt; have := (colOf t s).isLt; omega⟩) := by
  have h : (partOf t).val * 2048 + (colOf t s).val = t.val % 16 * 1024 + s.val := by
    show t.val % 16 / 2 * 2048 + (t.val % 2 * 1024 + s.val) = _; omega
  simp only [h]
  blk_ext [iblk, V, idx t]

/-- The product after the run. -/
theorem final : (dats m 0 c).arrAt 2 (cfgs 0).N = Cert.DwShardedRefIdeal.Read.val_main_v4 (F := Ideal)
    (m ((c : Thread nD τ).loc main_arg0)) (m ((c : Thread nD τ).loc main_arg1)) := by
  refine (dats m 0 c).arrAt_eq_of_covers 2 _ (by decide +kernel) fun t _ y => ?_
  obtain ⟨o, r, s, rfl⟩ : ∃ (o : Fin 1) (r s : Fin 1024), y = ix3 o r s := ⟨y 0, y 1, y 2, eq_ix3 y⟩
  obtain rfl : o = 0 := Subsingleton.elim _ _
  have hj : ((cfg0.win 2).blk t).view.emb (ix3 0 r s) = ix3 (partOf t) (rowOf t r) (colOf t s) := by blk_ext [idx t]
  rw [hj, Cert.DwShardedRefIdeal.Entry.dw_at]
  blk_simp
  rw [after0_2]
  unfold out0_2
  frame_out
  refine (block_at _ _ r s).trans ?_
  simp only [a_at, b_at]

/-- The call computes the reference's product. -/
theorem claim : Cert.algebraic_DwShardedIdeal_DwShardedRefIdeal := by
  pair_intro
  · run_from Cert.DwShardedIdeal.Value.run_blocks m g
  · refine θ_run_mono (Cert.DwShardedRefIdeal.Entry.run m' g') fun r hr c => ?_
    obtain ⟨a0, a1⟩ := hagree c
    obtain ⟨h1, hargs⟩ := hr c
    rw [a0, a1] at h1
    exact ⟨h1.trans (final m c).symm, hargs⟩

end Cert.DwShardedIdeal.Whole

end
-- ==== Proof.DwGrouped.lean ====
/- The gradient of the grouped projection's weight: the kernel's products are the reference's. -/
module

public import proofs.«01_k».proof.Proof.Gen.DwGroupedIdeal.Value
public import proofs.«01_k».proof.Proof.Gen.DwGroupedRefIdeal.Read
public import proofs.«01_k».proof.Proof.Gen.DwGroupedRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwGroupedRefIdeal.Entry

open Cert.DwGroupedRefIdeal Cert.DwGroupedRefIdeal.Read

/-- An entry of a group's gradient: the sum over the tokens. -/
theorem dw_at (a b : FVec Ideal S4096x8192 .bf16) (g : Fin 4) (i j : Fin 2048) :
    val_main_v3 (F := Ideal) a b (ix3 g i j) = ∑ k : Fin 4096, a (ix2 k ⟨g.val * 2048 + i.val, by omega⟩)
      * b (ix2 k ⟨g.val * 2048 + j.val, by omega⟩) := by
  refine (val_main_v2_apply a b _).trans (Finset.sum_congr rfl fun k _ => ?_)
  rw [val_main_v0_apply, val_main_v1_apply]
  congr 1
  · congr 1
    funext e
    match e with
    | ⟨0, _⟩ => exact Fin.ext (show ((k.val * 4 + g.val) * 2048 + i.val) / 8192 = k.val by omega)
    | ⟨1, _⟩ => exact Fin.ext (show ((k.val * 4 + g.val) * 2048 + i.val) % 8192 = g.val * 2048 + i.val by omega)
  · congr 1
    funext e
    match e with
    | ⟨0, _⟩ => exact Fin.ext (show ((k.val * 4 + g.val) * 2048 + j.val) / 8192 = k.val by omega)
    | ⟨1, _⟩ => exact Fin.ext (show ((k.val * 4 + g.val) * 2048 + j.val) % 8192 = g.val * 2048 + j.val by omega)

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg0))
          (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (val_main_v3_eq _ _), (h c).2⟩) (Value.run m ρ)

/-- The reference runs, leaves its arguments and ends with every counter at zero. -/
theorem frame : Cert.quiescent_DwGroupedRefIdeal := fun m ρ _ =>
  (θ_run defs _ _).mono (fun r h => ⟨fun c => (h c).2, sem_eq_zero_of_no_sems rfl _⟩) (run m ρ)

end Cert.DwGroupedRefIdeal.Entry

namespace Cert.DwGroupedIdeal.Whole

open Cert.DwGroupedIdeal Cert.DwGroupedIdeal.Gen

/-- What a block computes at an entry. -/
theorem block_at (a : FVec Ideal S4096x1024 .bf16) (b : FVec Ideal S4096x1024 .bf16) (r s : Fin 1024) :
    k0_pay1 (F := Ideal) a b (ix3 0 r s) = ∑ k : Fin 4096, a (ix2 k r) * b (ix2 k s) := by
  pointwise [k0_pay1]

variable (m : (ℓ : Loc nD τ sig) → Buf (Elt Ideal) ℓ) (c : Dev nD) (t : Fin cfg0.N)

/-- Which block each window holds at a point. -/
theorem idx : ∀ t : Fin cfg0.N, win0_0.index t = ![0, t.val / 2] ∧ win0_1.index t = ![0, t.val / 4 * 2 + t.val % 2]
    ∧ win0_2.index t = ![t.val / 4, t.val / 2 % 2, t.val % 2] :=
  (by decide +kernel : ∀ t : Fin grid0.N, _)

/-- The group of block `t`, and its row `r` and column `s` there. -/
abbrev groupOf (t : Fin cfg0.N) : Fin 4 := ⟨t.val / 4, by have : t.val < 16 := t.isLt; omega⟩
abbrev rowOf (t : Fin cfg0.N) (r : Fin 1024) : Fin 2048 := ⟨t.val / 2 % 2 * 1024 + r.val, by omega⟩
abbrev colOf (t : Fin cfg0.N) (s : Fin 1024) : Fin 2048 := ⟨t.val % 2 * 1024 + s.val, by omega⟩

/-- The columns of the two operands, as block `t` stages them. -/
theorem a_at (k : Fin 4096) (r : Fin 1024) : iblk m c 0 t (ix2 k r) = m ((c : Thread nD τ).loc main_arg0)
    (ix2 k ⟨(groupOf t).val * 2048 + (rowOf t r).val, by have := (groupOf t).isLt; have := (rowOf t r).isLt; omega⟩) := by
  have h : (groupOf t).val * 2048 + (rowOf t r).val = t.val / 2 * 1024 + r.val := by
    show t.val / 4 * 2048 + (t.val / 2 % 2 * 1024 + r.val) = _; omega
  simp only [h]
  blk_ext [iblk, V, idx t]
theorem b_at (k : Fin 4096) (s : Fin 1024) : iblk m c 1 t (ix2 k s) = m ((c : Thread nD τ).loc main_arg1)
    (ix2 k ⟨(groupOf t).val * 2048 + (colOf t s).val, by have := (groupOf t).isLt; have := (colOf t s).isLt; omega⟩) := by
  blk_ext [iblk, V, idx t]

/-- The product after the run. -/
theorem final : (dats m 0 c).arrAt 2 (cfgs 0).N = Cert.DwGroupedRefIdeal.Read.val_main_v3 (F := Ideal)
    (m ((c : Thread nD τ).loc main_arg0)) (m ((c : Thread nD τ).loc main_arg1)) := by
  refine (dats m 0 c).arrAt_eq_of_covers 2 _ (by decide +kernel) fun t _ y => ?_
  obtain ⟨o, r, s, rfl⟩ : ∃ (o : Fin 1) (r s : Fin 1024), y = ix3 o r s := ⟨y 0, y 1, y 2, eq_ix3 y⟩
  obtain rfl : o = 0 := Subsingleton.elim _ _
  have hj : ((cfg0.win 2).blk t).view.emb (ix3 0 r s) = ix3 (groupOf t) (rowOf t r) (colOf t s) := by blk_ext [idx t]
  rw [hj, Cert.DwGroupedRefIdeal.Entry.dw_at]
  blk_simp
  rw [after0_2]
  unfold out0_2
  frame_out
  refine (block_at _ _ r s).trans ?_
  simp only [a_at, b_at]

/-- The call computes the reference's product. -/
theorem claim : Cert.algebraic_DwGroupedIdeal_DwGroupedRefIdeal := by
  pair_intro
  · run_from Cert.DwGroupedIdeal.Value.run_blocks m g
  · refine θ_run_mono (Cert.DwGroupedRefIdeal.Entry.run m' g') fun r hr c => ?_
    obtain ⟨a0, a1⟩ := hagree c
    obtain ⟨h1, hargs⟩ := hr c
    rw [a0, a1] at h1
    exact ⟨h1.trans (final m c).symm, hargs⟩

end Cert.DwGroupedIdeal.Whole

end
-- ==== Proof.SmallAdamw.lean ====
/- The optimiser step of the small weights: the sum of the eight devices' gradients, masked, and one AdamW step of it. -/
module

public import proofs.«01_k».proof.Proof.Gen.SmallAdamwIdeal.Value
public import proofs.«01_k».proof.Proof.Gen.SmallAdamwRefIdeal.Read
public import proofs.«01_k».proof.Proof.Gen.SmallAdamwRefIdeal.Run
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem

namespace Cert.SmallAdamwRefIdeal.Entry

open Cert.SmallAdamwRefIdeal Cert.SmallAdamwRefIdeal.Read

/-- What the reference leaves, in the names of its lines: the gradient, the change, and the two new moments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = val_main_v1 (F := Ideal) (m ((c.tc : Thread nD τ).loc main_arg0))
          (m ((c.tc : Thread nD τ).loc main_arg1))
      ∧ r.2.mem ((c.tc : Thread nD τ).loc main_v25) = val_main_v25 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v6) = val_main_v6 (F := Ideal) (m ((c.tc : Thread nD τ).loc main_arg0))
          (m ((c.tc : Thread nD τ).loc main_arg1)) (m ((c.tc : Thread nD τ).loc main_arg3))
      ∧ r.2.mem ((c.tc : Thread nD τ).loc main_v12) = val_main_v12 (F := Ideal) (m ((c.tc : Thread nD τ).loc main_arg0))
          (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (val_main_v1_eq _ _), (h c).2.1.trans (val_main_v25_eq _ _ _ _ _),
    (h c).2.2.1.trans (val_main_v6_eq _ _ _), (h c).2.2.2.1.trans (val_main_v12_eq _ _ _), (h c).2.2.2.2⟩) (Value.run m ρ)

/-- The reference runs, leaves its arguments and ends with every counter at zero. -/
theorem frame : Cert.quiescent_SmallAdamwRefIdeal := fun m ρ _ =>
  (θ_run defs _ _).mono (fun r h => ⟨fun c => (h c).2.2.2.2, sem_eq_zero_of_no_sems rfl _⟩) (run m ρ)

end Cert.SmallAdamwRefIdeal.Entry

namespace Cert.SmallAdamwIdeal.Whole

open Cert.SmallAdamwIdeal Cert.SmallAdamwIdeal.Gen Cert.SmallAdamwRefIdeal.Read

variable (g : FVec Ideal S8x2320x128 .f32) (k w p q : FVec Ideal S2320x128 .f32)

/-- The gradient of an entry: the kernel adds the eight blocks one after the other, the reference takes their sum. -/
theorem grad_eq : k0_pay4 (F := Ideal) (View.ld g r0_0) (View.ld g r0_1) (View.ld g r0_2) (View.ld g r0_3) (View.ld g r0_4)
    (View.ld g r0_5) (View.ld g r0_6) (View.ld g r0_7) k = val_main_v1 (F := Ideal) g k := by
  funext y
  obtain ⟨r, s, rfl⟩ : ∃ (r : Fin 2320) (s : Fin 128), y = ix2 r s := ⟨y 0, y 1, eq_ix2 y⟩
  pointwise [k0_pay4, val_main_v1, val_main_v0_apply, val_main_cst, Fin.sum_univ_eight]
  have e (i : Fin 8) : idx_main_v0 (ix2 r s) i = ix3 i r s := by
    funext a; match a with | ⟨0, _⟩ => rfl | ⟨1, _⟩ => rfl | ⟨2, _⟩ => rfl
  simp only [e]

/-- The same gradient, as the other three results name it. -/
theorem grad_eq' (k w p q : Vec Ideal S2320x128 .f32) : k0_pay5 (F := Ideal) g k w p q = val_main_v1 (F := Ideal) g k := by
  unfold k0_pay5
  rw [View.ld_unit_zero (S := S2320x128) Value.hz1 _ k]
  exact grad_eq g k

/-- The new moments and the change, from the same gradient: the reference's lines entry for entry. -/
theorem mean_eq (d : FVec Ideal S2320x128 .f32) (h : d = val_main_v1 (F := Ideal) g k) :
    k0_pay1 (F := Ideal) d p = val_main_v6 (F := Ideal) g k p := by subst h; rfl
theorem square_eq (d : FVec Ideal S2320x128 .f32) (h : d = val_main_v1 (F := Ideal) g k) :
    k0_pay2 (F := Ideal) d q = val_main_v12 (F := Ideal) g k q := by subst h; rfl
theorem change_eq (d : FVec Ideal S2320x128 .f32) (h : d = val_main_v1 (F := Ideal) g k) :
    k0_pay3 (F := Ideal) d w p q = val_main_v25 (F := Ideal) g k w p q := by
  unfold k0_pay3
  rw [mean_eq g k p d h, square_eq g k q d h]
  rfl

/-- The call computes the reference's gradient and AdamW step. -/
theorem claim : Cert.algebraic_SmallAdamwIdeal_SmallAdamwRefIdeal := by
  pair_intro
  · run_from Cert.SmallAdamwIdeal.Value.run m g
  · refine θ_run_mono (Cert.SmallAdamwRefIdeal.Entry.run m' g') fun r hr c => ?_
    obtain ⟨a0, a1, a2, a3, a4⟩ := hagree c
    obtain ⟨h1, h2, h3, h4, hargs⟩ := hr c
    rw [a0, a1] at h1
    rw [a0, a1, a2, a3, a4] at h2
    rw [a0, a1, a3] at h3
    rw [a0, a1, a4] at h4
    exact ⟨h1.trans (grad_eq _ _).symm, h2.trans (change_eq _ _ _ _ _ _ (grad_eq' _ _ _ _ _)).symm,
      h3.trans (mean_eq _ _ _ _ (grad_eq' _ _ _ _ _)).symm, h4.trans (square_eq _ _ _ _ (grad_eq' _ _ _ _ _)).symm, hargs⟩

end Cert.SmallAdamwIdeal.Whole

end
-- ==== Proof.DwClass.lean ====
/- One core's half of the gradient of the concatenated weight: the half is named by a word of the table the call is handed, and the
   kernel's blocks are the reference's. -/
module

public import proofs.«01_k».proof.Proof.Gen.DwClass.Frame
public import proofs.«01_k».proof.Proof.Gen.DwClassIdeal.Frame
public import proofs.«01_k».proof.Proof.Gen.DwClassIdeal.Points
public import proofs.«01_k».proof.Proof.Gen.DwClassRefIdeal.Read
public import proofs.«01_k».proof.Proof.Gen.DwClassRefIdeal.Run
public import proofs.«01_k».proof.Proof.Gen.Pre_class_is_a_core
public import proofs.«01_k».proof.Defs
public import Idealize.ShloMosaic.Lib.Claim
public import Idealize.ShloMosaic.Lib.Quiescent
public import Idealize.ShloMosaic.Lib.StableHlo.Predicate
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The word that names the core -/

namespace Cert.Pre_class_is_a_core.Word

open Cert.Pre_class_is_a_core Facts

/-- The word, sliced out of the table and reshaped to a scalar. -/
theorem scalar (ids : IVec S8 32) (h : S8.Slices ![6] S1) (h' : S1.ShapeCasts S_) :
    shapeCast S_ (extractStridedSlice S1 ![6] ids h) h' = fun _ => ids (ix1 6) := by
  funext i
  refine (shapeCast_apply _ _ i (ix1 0) rfl).trans ?_
  exact extractStridedSlice_apply ![6] ids h (ix1 0) (ix1 6) (fun a => match a with | ⟨0, _⟩ => rfl)

/-- The precondition says that the word is 0 or 1. -/
theorem of_pre {F : FTy → Type} [FloatOps F] (ids : IVec S8 32) (a : FVec F S4096x4096 .bf16) (b : FVec F S4096x24576 .bf16)
    (h : fn (F := F) ids a b = fun _ => 1#1) : ∃ w : Fin 2, ids (ix1 6) = BitVec.ofNat 32 w.val := by
  have e := congrFun h fun a => a.elim0
  unfold fn at e
  simp only [scalar] at e
  have e' : IntOp.ori (IntOp.cmpi .eq (ids (ix1 6)) 0#32) (IntOp.cmpi .eq (ids (ix1 6)) 1#32) = 1#1 := e
  by_cases h0 : ids (ix1 6) = 0#32
  · exact ⟨0, h0⟩
  by_cases h1 : ids (ix1 6) = 1#32
  · exact ⟨1, h1⟩
  exfalso
  have c0 := mt StableHlo.Predicate.cmpi_eq_iff.1 h0
  have c1 := mt StableHlo.Predicate.cmpi_eq_iff.1 h1
  revert e' c0 c1
  generalize IntOp.cmpi .eq (ids (ix1 6)) 0#32 = x
  generalize IntOp.cmpi .eq (ids (ix1 6)) 1#32 = y
  revert x y
  decide

end Cert.Pre_class_is_a_core.Word

/-! ## The reference -/

namespace Cert.DwClassRefIdeal.Entry

open Cert.DwClassRefIdeal Cert.DwClassRefIdeal.Read

variable (ids : IVec S8 32) (a : FVec Ideal S4096x4096 .bf16) (b : FVec Ideal S4096x24576 .bf16)

/-- An entry of the product of the two whole arrays. -/
theorem product_at (i : Fin 4096) (j : Fin 24576) :
    val_main_v2 (F := Ideal) a b (ix2 i j) = ∑ k : Fin 4096, a (ix2 k i) * b (ix2 k j) := by
  refine (val_main_v1_apply a b _).trans (Finset.sum_congr rfl fun k _ => ?_)
  rw [val_main_v0_apply]
  congr 1
  · exact congrArg a (funext fun e => match e with | ⟨0, _⟩ => rfl | ⟨1, _⟩ => rfl)
  · exact congrArg b (funext fun e => match e with | ⟨0, _⟩ => rfl | ⟨1, _⟩ => rfl)

/-- An entry of the stack of the two cores' halves. -/
theorem halves_at (w : Fin 2) (g : Fin 4) (i : Fin 4096) (j : Fin 3072) :
    val_main_v4 (F := Ideal) a b (ix4 w g i j)
      = val_main_v2 (F := Ideal) a b (ix2 i ⟨(g.val * 2 + w.val) * 3072 + j.val, by omega⟩) := by
  rw [val_main_v4_apply, val_main_v3_apply]
  congr 1
  funext e
  match e with
  | ⟨0, _⟩ => exact Fin.ext (show (((i.val * 4 + g.val) * 2 + w.val) * 3072 + j.val) / 24576 = i.val by omega)
  | ⟨1, _⟩ => exact Fin.ext (show (((i.val * 4 + g.val) * 2 + w.val) * 3072 + j.val) % 24576
      = (g.val * 2 + w.val) * 3072 + j.val by omega)

/-- The first core's half and the second's. -/
theorem first_at (g : Fin 4) (i : Fin 4096) (j : Fin 3072) :
    val_main_v9 (F := Ideal) a b (ix3 g i j) = val_main_v4 (F := Ideal) a b (ix4 0 g i j) := by
  rw [val_main_v9_apply, val_main_v8_apply]
  congr 1
  funext e
  match e with
  | ⟨0, _⟩ => rfl
  | ⟨1, _⟩ => exact Fin.ext (show ((g.val * 4096 + i.val) * 3072 + j.val) / 12582912 % 4 = g.val by omega)
  | ⟨2, _⟩ => exact Fin.ext (show ((g.val * 4096 + i.val) * 3072 + j.val) / 3072 % 4096 = i.val by omega)
  | ⟨3, _⟩ => exact Fin.ext (show ((g.val * 4096 + i.val) * 3072 + j.val) % 3072 = j.val by omega)
theorem second_at (g : Fin 4) (i : Fin 4096) (j : Fin 3072) :
    val_main_v11 (F := Ideal) a b (ix3 g i j) = val_main_v4 (F := Ideal) a b (ix4 1 g i j) := by
  rw [val_main_v11_apply, val_main_v10_apply]
  congr 1
  funext e
  match e with
  | ⟨0, _⟩ => rfl
  | ⟨1, _⟩ => exact Fin.ext (show ((g.val * 4096 + i.val) * 3072 + j.val) / 12582912 % 4 = g.val by omega)
  | ⟨2, _⟩ => exact Fin.ext (show ((g.val * 4096 + i.val) * 3072 + j.val) / 3072 % 4096 = i.val by omega)
  | ⟨3, _⟩ => exact Fin.ext (show ((g.val * 4096 + i.val) * 3072 + j.val) % 3072 = j.val by omega)

/-- An entry of the half that core `w` computes. -/
theorem dw_at (w : Fin 2) (hw : ids (ix1 6) = BitVec.ofNat 32 w.val) (g : Fin 4) (i : Fin 4096) (j : Fin 3072) :
    val_main_v12 (F := Ideal) ids a b (ix3 g i j)
      = ∑ k : Fin 4096, a (ix2 k i) * b (ix2 k ⟨(g.val * 2 + w.val) * 3072 + j.val, by omega⟩) := by
  refine Eq.trans ?_ ((halves_at a b w g i j).trans (product_at a b _ _))
  have hc : val_main_v7 (F := Ideal) ids = fun _ => IntOp.cmpi .eq (BitVec.ofNat 32 w.val) 0#32 := by
    funext x
    refine (val_main_v7_apply (F := Ideal) ids x).trans (congrArg (IntOp.cmpi .eq · 0#32) ?_)
    exact (congrFun (Cert.Pre_class_is_a_core.Word.scalar ids _ _) x).trans hw
  unfold val_main_v12
  rw [hc]
  match w with
  | 0 => exact first_at a b g i j
  | 1 => exact second_at a b g i j

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v12_eq _ _ _), (h c).2⟩) (Value.run m ρ)

/-- The reference runs, leaves its arguments and ends with every counter at zero. -/
theorem frame : Cert.quiescent_DwClassRefIdeal := fun m ρ _ =>
  (θ_run defs _ _).mono (fun r h => ⟨fun c => (h c).2, sem_eq_zero_of_no_sems rfl _⟩) (run m ρ)

end Cert.DwClassRefIdeal.Entry

/-! ## The kernel -/

namespace Cert.DwClassIdeal.Whole

open Cert.DwClassIdeal Cert.DwClassIdeal.Gen

/-- A table of equal words. -/
def constant (w : BitVec 32) : pre0.Contents (Elt Bits) := fun
  | ⟨0, _⟩ => fun _ => w
  | ⟨_ + 1, h⟩ => absurd h (by simp)

section
variable {F : FTy → Type} [FloatOps F] (pf : pre0.Contents (Elt F)) (w : Fin 2) (h : pf 0 (ix1 6 : S8.Idx) = BitVec.ofNat 32 w.val)

include h in
/-- Where the second operand's block lies depends on the core's word alone. -/
theorem place (i : grid0.Coords) : cc0_transform_1 inb_S8_S1_6 numel1_S1 pf i
    = cc0_transform_1 inb_S8_S1_6 numel1_S1 (constant (BitVec.ofNat 32 w.val)) i := by
  have e : pf.at 0 (Rect.unit (s := S8) ![6] S1.size inb_S8_S1_6) numel1_S1 = BitVec.ofNat 32 w.val := by
    refine (congrArg (pf 0) (funext fun a => ?_)).trans h
    match a with
    | ⟨0, _⟩ => rfl
  unfold cc0_transform_1
  simp only [e]
  rfl

/-- Where it lies, for either word. -/
theorem place_at : ∀ (w : Fin 2) (t : Fin grid0.N),
    cc0_transform_1 inb_S8_S1_6 numel1_S1 (constant (BitVec.ofNat 32 w.val)) (grid0.coords t)
      = ![0, (t.val % 12 / 3 * 2 + w.val) * 3 + t.val % 3] := by decide +kernel

/-- For either word every block lies inside its array. -/
theorem ok_at : ∀ w : Fin 2, ok0 (constant (BitVec.ofNat 32 w.val)) := by decide +kernel

include h in
theorem ok : ok0 pf := by
  have := ok_at w
  unfold ok0 at this ⊢
  intro i
  rw [place pf w h i]
  exact this i
end

theorem ok_of_pre (m : (ℓ : Loc nD τ sig) → Buf (Elt Ideal) ℓ) (h : Cert.Pre_DwClassIdeal m) : Ok (F := Ideal) m :=
  (Cert.Pre_class_is_a_core.Word.of_pre _ _ _ (h 0)).elim fun w hw => ok (tbl m) w hw

/-- What a block computes at an entry. -/
theorem block_at (a b : FVec Ideal S4096x1024 .bf16) (r s : Fin 1024) :
    k0_pay1 (F := Ideal) a b (ix3 0 r s) = ∑ k : Fin 4096, a (ix2 k r) * b (ix2 k s) := by
  pointwise [k0_pay1]

variable (m : (ℓ : Loc nD τ sig) → Buf (Elt Ideal) ℓ) (hO : Ok m) (c : Dev nD) (w : Fin 2)
  (hw : m ((c : Thread nD τ).loc main_arg0) (ix1 6 : S8.Idx) = BitVec.ofNat 32 w.val) (t : Fin (cfgM m hO).N)

/-- Which block the windows of the first operand and of the result hold at a point. -/
theorem idx_ac : ∀ t : Fin grid0.N, cc0_transform_0 (grid0.coords t) = ![0, t.val / 12]
    ∧ cc0_transform_2 (grid0.coords t) = ![t.val % 12 / 3, t.val / 12, t.val % 3] := by decide +kernel
theorem idx0 : ((cfgM m hO).win 0).index t = ![0, t.val / 12] := (idx_ac t).1
theorem idx2 : ((cfgM m hO).win 2).index t = ![t.val % 12 / 3, t.val / 12, t.val % 3] := (idx_ac t).2
include hw in
/-- And the second operand's, in the core's columns. -/
theorem idx1 : ((cfgM m hO).win 1).index t = ![0, (t.val % 12 / 3 * 2 + w.val) * 3 + t.val % 3] := by
  obtain rfl : c = 0 := Subsingleton.elim _ _
  exact (place (tbl m) w hw (grid0.coords t)).trans (place_at w t)

/-- The member of block `t`, and its row `r` and column `s` there. -/
abbrev memOf (t : Fin (cfgM m hO).N) : Fin 4 := ⟨t.val % 12 / 3, by omega⟩
abbrev rowOf (t : Fin (cfgM m hO).N) (r : Fin 1024) : Fin 4096 := ⟨t.val / 12 * 1024 + r.val, by have : t.val < 48 := t.isLt; omega⟩
abbrev colOf (t : Fin (cfgM m hO).N) (s : Fin 1024) : Fin 3072 := ⟨t.val % 3 * 1024 + s.val, by omega⟩

/-- The columns of the two operands, as block `t` stages them. -/
theorem a_at (k : Fin 4096) (r : Fin 1024) : iblk m hO c 0 t (ix2 k r) = m ((c : Thread nD τ).loc main_arg1) (ix2 k (rowOf m hO t r)) := by
  blk_ext [iblk, V, idx0 m hO t]
include hw in
theorem b_at (k : Fin 4096) (s : Fin 1024) : iblk m hO c 1 t (ix2 k s) = m ((c : Thread nD τ).loc main_arg2)
    (ix2 k ⟨((memOf m hO t).val * 2 + w.val) * 3072 + (colOf m hO t s).val, by have := (memOf m hO t).isLt; have := (colOf m hO t s).isLt; omega⟩) := by
  blk_ext [iblk, V, idx1 m hO c w hw t]

/-- The result's blocks cover it, whatever the table holds. -/
theorem covers : ((cfg0 (⟨constant 0#32, ok_at 0⟩ : (pcfg0 (F := Bits)).Adm)).win 2).Covers := by decide +kernel

include hw in
/-- The half after the run. -/
theorem final : (dats m hO 0 c).arrAt 2 (cfgM m hO).N = Cert.DwClassRefIdeal.Read.val_main_v12 (F := Ideal)
    (m ((c : Thread nD τ).loc main_arg0)) (m ((c : Thread nD τ).loc main_arg1)) (m ((c : Thread nD τ).loc main_arg2)) := by
  refine (dats m hO 0 c).arrAt_eq_of_covers 2 _ covers fun t _ y => ?_
  obtain ⟨o, r, s, rfl⟩ : ∃ (o : Fin 1) (r s : Fin 1024), y = ix3 o r s :=
    ⟨_, _, _, eq_ix3 (show S1x1024x1024.Idx from y)⟩
  obtain rfl : o = 0 := Subsingleton.elim _ _
  have hj : (((cfgM m hO).win 2).blk t).view.emb (ix3 0 r s) = ix3 (memOf m hO t) (rowOf m hO t r) (colOf m hO t s) := by
    blk_ext [idx2 m hO t]
  rw [hj, Cert.DwClassRefIdeal.Entry.dw_at _ _ _ w hw]
  blk_simp
  rw [after0_2]
  unfold outsAt0 out0_A_2
  frame_out
  refine (block_at _ _ r s).trans ?_
  refine Finset.sum_congr rfl fun k _ => ?_
  exact congrArg₂ (· * ·) ((congrFun ((hs0_0 m hO t).read_unread _) _).trans (a_at m hO c t k r))
    ((congrFun ((hs0_1 m hO t).read_unread _) _).trans (b_at m hO c w hw t k s))

/-- What the call leaves. -/
theorem run (ρ : Dev nD → PrngReg) : θ_run defs (onTc (τ := τ) (main (F := Ideal))) ⟨m, fun _ => 0, ρ⟩ fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 2, h.2 c⟩) (θ_run_and (run_main m ρ hO) (unchanged m ρ hO))

/-- The call computes the core's half of the reference's product. -/
theorem claim : Cert.algebraic_DwClassIdeal_DwClassRefIdeal := by
  intro m g m' g' hpre hagree
  refine ⟨fun c => (dats m (ok_of_pre m hpre) 0 c).arrAt 2 (cfgM m (ok_of_pre m hpre)).N, run m (ok_of_pre m hpre) g, ?_⟩
  refine θ_run_mono (Cert.DwClassRefIdeal.Entry.run m' g') fun r hr c => ?_
  obtain ⟨a0, a1, a2⟩ := hagree c
  obtain ⟨h1, hargs⟩ := hr c
  rw [a0, a1, a2] at h1
  obtain ⟨w, hw⟩ := Cert.Pre_class_is_a_core.Word.of_pre _ _ _ (hpre c)
  exact ⟨h1.trans (final m (ok_of_pre m hpre) c w hw).symm, hargs⟩

end Cert.DwClassIdeal.Whole

namespace Cert.DwClass.Whole

open Cert.DwClass Cert.DwClass.Gen

/-- The same of the program before idealization. -/
theorem ok_of_pre (m : (ℓ : Loc nD τ sig) → Buf (Elt Bits) ℓ) (h : Cert.Pre_DwClass m) : Ok (F := Bits) m :=
  (Cert.Pre_class_is_a_core.Word.of_pre _ _ _ (h 0)).elim fun w hw => Cert.DwClassIdeal.Whole.ok (tbl m) w hw

end Cert.DwClass.Whole

end
-- ==== Proof.Words.lean ====
/- A word between 0 and 3 picks one member of a stack of four: how a precondition says so, and how a sum picks it. -/
module

public import Idealize.ShloMosaic.Lib.Pointwise
public import Idealize.ShloMosaic.Lib.StableHlo.Predicate

@[expose] public section

noncomputable section

namespace Cert.Words

open Idealize.ShloMosaic

/-- A word that compares as at least 0 and below 4 is one of 0 to 3. -/
theorem in_range (x : BitVec 32) (e : IntOp.andi (IntOp.cmpi .sge x 0#32) (IntOp.cmpi .slt x 4#32) = 1#1) :
    ∃ w : Fin 4, x = BitVec.ofNat 32 w.val := by
  by_cases hx : x.toNat < 4
  · exact ⟨⟨x.toNat, hx⟩, (BitVec.ofNat_toNat 32 x).symm ▸ (BitVec.setWidth_eq x).symm⟩
  exfalso
  have both : ((0#32).sle x && x.slt 4#32) = true := by
    revert e
    show BitVec.ofBool ((0#32).sle x) &&& BitVec.ofBool (x.slt 4#32) = 1#1 → _
    generalize (0#32).sle x = p
    generalize x.slt 4#32 = q
    revert p q
    decide
  simp only [Bool.and_eq_true, BitVec.sle_iff_toInt_le, BitVec.slt_iff_toInt_lt] at both
  have h0 : (0#32).toInt = 0 := by decide
  have h4 : (4#32).toInt = 4 := by decide
  rw [h0, h4] at both
  rw [BitVec.toInt_eq_toNat_cond] at both
  have := x.isLt
  omega

/-- Two such words compare as equal when they are the same. -/
theorem same : ∀ k w : Fin 4, IntOp.cmpi .eq (BitVec.ofNat 32 k.val) (BitVec.ofNat 32 w.val) = if k = w then 1#1 else 0#1 := by decide
theorem same_comm : ∀ k w : Fin 4, IntOp.cmpi .eq (BitVec.ofNat 32 w.val) (BitVec.ofNat 32 k.val)
    = IntOp.cmpi .eq (BitVec.ofNat 32 k.val) (BitVec.ofNat 32 w.val) := by decide

/-- The sum over a stack of four in which all but the named member are put to zero is that member. -/
theorem own_sum (x : Fin 4 → EReal) (w : Fin 4) :
    ∑ k : Fin 4, Scalar.select (IntOp.cmpi .eq (BitVec.ofNat 32 k.val) (BitVec.ofNat 32 w.val)) (x k) 0 = x w := by
  refine (Finset.sum_eq_single w (fun k _ hk => ?_) fun h => absurd (Finset.mem_univ w) h).trans ?_
  · rw [same, if_neg hk]
    rfl
  · rw [same, if_pos rfl]
    rfl

end Cert.Words

end
-- ==== Proof.ReduceAdamw.lean ====
/- The optimiser step of a large weight's gradient: the chip's member of the two cores' halves, named by a word of the table the call is
   handed, the sum with the three other chips' members, and one AdamW step of it. -/
module

public import proofs.«01_k».proof.Proof.Words
public import proofs.«01_k».proof.Proof.Gen.ReduceAdamw.Frame
public import proofs.«01_k».proof.Proof.Gen.ReduceAdamwIdeal.Frame
public import proofs.«01_k».proof.Proof.Gen.ReduceAdamwIdeal.Points
public import proofs.«01_k».proof.Proof.Gen.ReduceAdamwRefIdeal.Read
public import proofs.«01_k».proof.Proof.Gen.ReduceAdamwRefIdeal.Run
public import proofs.«01_k».proof.Proof.Gen.Pre_class_chip_in_mesh
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The word that names the chip -/

namespace Cert.Pre_class_chip_in_mesh.Word

open Cert.Pre_class_chip_in_mesh Facts

/-- The word, sliced out of the table and reshaped to a scalar. -/
theorem scalar (ids : IVec S8 32) (h : S8.Slices ![4] S1) (h' : S1.ShapeCasts S_) :
    shapeCast S_ (extractStridedSlice S1 ![4] ids h) h' = fun _ => ids (ix1 4) := by
  funext i
  refine (shapeCast_apply _ _ i (ix1 0) rfl).trans ?_
  exact extractStridedSlice_apply ![4] ids h (ix1 0) (ix1 4) (fun a => match a with | ⟨0, _⟩ => rfl)

/-- The precondition says that the word is one of 0 to 3. -/
theorem of_pre {F : FTy → Type} [FloatOps F] (ids : IVec S8 32) (a b : FVec F S4x4096x3072 .bf16) (d : FVec F S3x4096x3072 .bf16)
    (w p q : FVec F S4096x3072 .f32) (h : fn (F := F) ids a b d w p q = fun _ => 1#1) :
    ∃ w : Fin 4, ids (ix1 4) = BitVec.ofNat 32 w.val := by
  have e := congrFun h fun a => a.elim0
  unfold fn at e
  simp only [scalar] at e
  exact Cert.Words.in_range _ e

end Cert.Pre_class_chip_in_mesh.Word

/-! ## One step, entry by entry -/

namespace Cert.ReduceAdamwIdeal.Step

/-- The new mean, the new square and the change of one entry, from its gradient `d`, weight `w` and moments `p`, `q`. -/
def mean (d p : Ideal .f32) : Ideal .f32 :=
  FloatOps.addf (FloatOps.mulf (FloatOps.ofBits .f32 0x3F666666#32) p) (FloatOps.mulf (FloatOps.ofBits .f32 0x3DCCCCCD#32) d)
def square (d q : Ideal .f32) : Ideal .f32 :=
  FloatOps.addf (FloatOps.mulf (FloatOps.ofBits .f32 0x3F7FBE77#32) q)
    (FloatOps.mulf (FloatOps.ofBits .f32 0x3A83126F#32) (FloatOps.mulf d d))
def change (w mean square : Ideal .f32) : Ideal .f32 :=
  FloatOps.mulf (FloatOps.ofBits .f32 0xBA83126F#32) (FloatOps.addf
    (FloatOps.divf (FloatOps.divf mean (FloatOps.ofBits .f32 0x3F26BD02#32))
      (FloatOps.addf (FloatOps.sqrt (FloatOps.divf square (FloatOps.ofBits .f32 0x3C231ACC#32))) (FloatOps.ofBits .f32 0x322BCC77#32)))
    (FloatOps.mulf (FloatOps.ofBits .f32 0x3C23D70A#32) w))

end Cert.ReduceAdamwIdeal.Step

/-! ## The reference -/

namespace Cert.ReduceAdamwRefIdeal.Entry

open Cert.ReduceAdamwRefIdeal Cert.ReduceAdamwRefIdeal.Read Cert.ReduceAdamwIdeal

variable (ids : IVec S8 32) (a b : FVec Ideal S4x4096x3072 .bf16) (d : FVec Ideal S3x4096x3072 .bf16)
  (w p q : FVec Ideal S4096x3072 .f32) (k : Fin 4) (hk : ids (ix1 4) = BitVec.ofNat 32 k.val)

include hk in
/-- The chip's member of the sum of the two cores' halves. -/
theorem member_at (i : Fin 4096) (j : Fin 3072) :
    val_main_v12 (F := Ideal) ids a b (ix2 i j) = (a (ix3 k i j) : EReal) + b (ix3 k i j) := by
  rw [val_main_v12_apply]
  refine (congrArg₂ (fun x y : EReal => x + y) Ideal.ofBits_zero_f32 (Finset.sum_congr rfl fun x _ => ?_)).trans
    ((zero_add _).trans (Cert.Words.own_sum (fun x => (a (ix3 x i j) : EReal) + b (ix3 x i j)) k))
  have e : idx_main_v12 (ix2 i j) x = ix3 x i j := by
    funext y; match y with | ⟨0, _⟩ => rfl | ⟨1, _⟩ => rfl | ⟨2, _⟩ => rfl
  have hs : val_main_v5 (F := Ideal) ids = fun _ => BitVec.ofNat 32 k.val :=
    (Cert.Pre_class_chip_in_mesh.Word.scalar ids _ _).trans (funext fun _ => hk)
  have hc : val_main_v9 (F := Ideal) ids (ix3 x i j) = IntOp.cmpi .eq (BitVec.ofNat 32 x.val) (BitVec.ofNat 32 k.val) := by
    rw [val_main_v9_apply, val_main_v8_apply, val_main_v7_apply, val_main_v6_apply, hs]
    rfl
  have h0 : val_main_v10 (F := Ideal) (ix3 x i j) = (0 : EReal) := by
    rw [val_main_v10_apply]
    exact Ideal.ofBits_zero_f32
  rw [e]
  show Scalar.select (val_main_v9 (F := Ideal) ids (ix3 x i j)) _ (val_main_v10 (F := Ideal) (ix3 x i j)) = _
  rw [hc, h0]
  rfl

include hk in
/-- The gradient of an entry. -/
theorem grad_at (i : Fin 4096) (j : Fin 3072) : val_main_v15 (F := Ideal) ids a b d (ix2 i j)
    = (a (ix3 k i j) : EReal) + b (ix3 k i j) + d (ix3 0 i j) + d (ix3 1 i j) + d (ix3 2 i j) := by
  have e (x : Fin 3) : idx_main_v14 (ix2 i j) x = ix3 x i j := by
    funext y; match y with | ⟨0, _⟩ => rfl | ⟨1, _⟩ => rfl | ⟨2, _⟩ => rfl
  have s : val_main_v14 (F := Ideal) d (ix2 i j) = (d (ix3 0 i j) : EReal) + d (ix3 1 i j) + d (ix3 2 i j) := by
    rw [val_main_v14_apply, Fin.sum_univ_three, e, e, e]
    refine (congrArg (fun x : EReal => x + _) Ideal.ofBits_zero_f32).trans ?_
    exact zero_add _
  refine (congrArg₂ (fun x y : EReal => x + y) (member_at ids a b k hk i j) s).trans ?_
  show (a (ix3 k i j) : EReal) + b (ix3 k i j) + (_ + _ + _) = _
  rw [← add_assoc, ← add_assoc]

/-- The new moments and the change, from the gradient. -/
theorem mean_at (i : Fin 4096) (j : Fin 3072) : val_main_v20 (F := Ideal) ids a b d p (ix2 i j)
    = Step.mean (val_main_v15 (F := Ideal) ids a b d (ix2 i j)) (p (ix2 i j)) := rfl
theorem square_at (i : Fin 4096) (j : Fin 3072) : val_main_v26 (F := Ideal) ids a b d q (ix2 i j)
    = Step.square (val_main_v15 (F := Ideal) ids a b d (ix2 i j)) (q (ix2 i j)) := rfl
theorem change_at (i : Fin 4096) (j : Fin 3072) : val_main_v39 (F := Ideal) ids a b d w p q (ix2 i j)
    = Step.change (w (ix2 i j)) (val_main_v20 (F := Ideal) ids a b d p (ix2 i j)) (val_main_v26 (F := Ideal) ids a b d q (ix2 i j)) := rfl

/-- What the reference leaves, in the names of its lines: the gradient, the change, and the two new moments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = val_main_v15 (F := Ideal) (m ((c.tc : Thread nD τ).loc main_arg0))
          (m ((c.tc : Thread nD τ).loc main_arg1)) (m ((c.tc : Thread nD τ).loc main_arg2)) (m ((c.tc : Thread nD τ).loc main_arg3))
      ∧ r.2.mem ((c.tc : Thread nD τ).loc main_v39) = val_main_v39 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
      ∧ r.2.mem ((c.tc : Thread nD τ).loc main_v20) = val_main_v20 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg5))
      ∧ r.2.mem ((c.tc : Thread nD τ).loc main_v26) = val_main_v26 (F := Ideal) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (val_main_v15_eq _ _ _ _), (h c).2.1.trans (val_main_v39_eq _ _ _ _ _ _ _),
    (h c).2.2.1.trans (val_main_v20_eq _ _ _ _ _), (h c).2.2.2.1.trans (val_main_v26_eq _ _ _ _ _), (h c).2.2.2.2⟩) (Value.run m ρ)

/-- The reference runs, leaves its arguments and ends with every counter at zero. -/
theorem frame : Cert.quiescent_ReduceAdamwRefIdeal := fun m ρ _ =>
  (θ_run defs _ _).mono (fun r h => ⟨fun c => (h c).2.2.2.2, sem_eq_zero_of_no_sems rfl _⟩) (run m ρ)

end Cert.ReduceAdamwRefIdeal.Entry

/-! ## The kernel -/

namespace Cert.ReduceAdamwIdeal.Whole

open Cert.ReduceAdamwIdeal Cert.ReduceAdamwIdeal.Gen

/-- A table of equal words. -/
def constant (w : BitVec 32) : pre0.Contents (Elt Bits) := fun
  | ⟨0, _⟩ => fun _ => w
  | ⟨_ + 1, h⟩ => absurd h (by simp)

section
variable {F : FTy → Type} [FloatOps F] (pf : pre0.Contents (Elt F)) (w : Fin 4) (h : pf 0 (ix1 4 : S8.Idx) = BitVec.ofNat 32 w.val)

include h in
/-- Where the blocks of the two halves lie depends on the chip's word alone. -/
theorem place (i : grid0.Coords) : cc0_transform_0 inb_S8_S1_4 numel1_S1 pf i
    = cc0_transform_0 inb_S8_S1_4 numel1_S1 (constant (BitVec.ofNat 32 w.val)) i := by
  have e : pf.at 0 (Rect.unit (s := S8) ![4] S1.size inb_S8_S1_4) numel1_S1 = BitVec.ofNat 32 w.val := by
    refine (congrArg (pf 0) (funext fun a => ?_)).trans h
    match a with
    | ⟨0, _⟩ => rfl
  unfold cc0_transform_0
  simp only [e]
  rfl

/-- Where they lie, for any of the four words. -/
theorem place_at : ∀ (w : Fin 4) (t : Fin grid0.N),
    cc0_transform_0 inb_S8_S1_4 numel1_S1 (constant (BitVec.ofNat 32 w.val)) (grid0.coords t) = ![w.val, t.val, 0] := by
  decide +kernel

/-- For any of the four words every block lies inside its array. -/
theorem ok_at : ∀ w : Fin 4, ok0 (constant (BitVec.ofNat 32 w.val)) := by decide +kernel

include h in
theorem ok : ok0 pf := by
  have := ok_at w
  unfold ok0 at this ⊢
  constructor
  · intro i
    rw [place pf w h i]
    exact this.1 i
  · intro i
    rw [show cc0_transform_1 inb_S8_S1_4 numel1_S1 pf i = _ from place pf w h i]
    exact this.2 i
end

theorem ok_of_pre (m : (ℓ : Loc nD τ sig) → Buf (Elt Ideal) ℓ) (h : Cert.Pre_ReduceAdamwIdeal m) : Ok (F := Ideal) m :=
  (Cert.Pre_class_chip_in_mesh.Word.of_pre _ _ _ _ _ _ _ (h 0)).elim fun w hw => ok (tbl m) w hw

/-- What a block computes at an entry. -/
theorem grad_block (a b d0 d1 d2 : FVec Ideal S1x128x3072 .bf16) (r : Fin 128) (s : Fin 3072) :
    k0_pay3 (F := Ideal) a b d0 d1 d2 (ix2 r s)
      = (a (ix3 0 r s) : EReal) + b (ix3 0 r s) + d0 (ix3 0 r s) + d1 (ix3 0 r s) + d2 (ix3 0 r s) := by
  pointwise [k0_pay3]
theorem mean_block (a b d0 d1 d2 : FVec Ideal S1x128x3072 .bf16) (p : FVec Ideal S128x3072 .f32) (r : Fin 128) (s : Fin 3072) :
    k0_pay4 (F := Ideal) a b d0 d1 d2 p (ix2 r s) = Step.mean (k0_pay3 (F := Ideal) a b d0 d1 d2 (ix2 r s)) (p (ix2 r s)) := rfl
theorem square_block (a b d0 d1 d2 : FVec Ideal S1x128x3072 .bf16) (q : FVec Ideal S128x3072 .f32) (r : Fin 128) (s : Fin 3072) :
    k0_pay1 (F := Ideal) (k0_pay5 q) (k0_pay6 a b d0 d1 d2) (Scalar.ofBits .f32 0x3A83126F#32) (ix2 r s)
      = Step.square (k0_pay3 (F := Ideal) a b d0 d1 d2 (ix2 r s)) (q (ix2 r s)) := rfl
theorem change_block (w mean square d2 : FVec Ideal S128x3072 .f32) (x : Ideal .f32) (r : Fin 128) (s : Fin 3072) :
    k0_pay2 (F := Ideal) w mean square d2 x (ix2 r s)
      = Step.change (w (ix2 r s)) (mean (ix2 r s)) (k0_pay1 (F := Ideal) square d2 x (ix2 r s)) := rfl

variable (m : (ℓ : Loc nD τ sig) → Buf (Elt Ideal) ℓ) (hO : Ok m) (c : Dev nD) (w : Fin 4)
  (hw : m ((c : Thread nD τ).loc main_arg0) (ix1 4 : S8.Idx) = BitVec.ofNat 32 w.val) (t : Fin (cfgM m hO).N)

/-- Which block each window holds at a point. -/
theorem idx_rows : ∀ t : Fin grid0.N, cc0_transform_2 (grid0.coords t) = ![0, t.val, 0] ∧ cc0_transform_3 (grid0.coords t) = ![t.val, 0] := by
  decide +kernel
theorem idx2 : ((cfgM m hO).win 2).index t = ![0, t.val, 0] := (idx_rows t).1
theorem idx3 : ((cfgM m hO).win 3).index t = ![t.val, 0] := (idx_rows t).2
theorem idx4 : ((cfgM m hO).win 4).index t = ![t.val, 0] := (idx_rows t).2
theorem idx5 : ((cfgM m hO).win 5).index t = ![t.val, 0] := (idx_rows t).2
theorem idx6 : ((cfgM m hO).win 6).index t = ![t.val, 0] := (idx_rows t).2
theorem idx7 : ((cfgM m hO).win 7).index t = ![t.val, 0] := (idx_rows t).2
theorem idx8 : ((cfgM m hO).win 8).index t = ![t.val, 0] := (idx_rows t).2
theorem idx9 : ((cfgM m hO).win 9).index t = ![t.val, 0] := (idx_rows t).2
include hw in
theorem idx0 : ((cfgM m hO).win 0).index t = ![w.val, t.val, 0] := by
  obtain rfl : c = 0 := Subsingleton.elim _ _
  exact (place (tbl m) w hw (grid0.coords t)).trans (place_at w t)
include hw in
theorem idx1 : ((cfgM m hO).win 1).index t = ![w.val, t.val, 0] := idx0 m hO c w hw t

/-- The row of the whole arrays that row `r` of block `t` is. -/
abbrev rowOf (t : Fin (cfgM m hO).N) (r : Fin 128) : Fin 4096 := ⟨t.val * 128 + r.val, by have : t.val < 32 := t.isLt; omega⟩

include hw in
/-- The arrays' entries, as block `t` stages them. -/
theorem a_at (r : Fin 128) (s : Fin 3072) : iblk m hO c 0 t (ix3 0 r s) = m ((c : Thread nD τ).loc main_arg1) (ix3 w (rowOf m hO t r) s) := by
  blk_ext [iblk, V, idx0 m hO c w hw t]
include hw in
theorem b_at (r : Fin 128) (s : Fin 3072) : iblk m hO c 1 t (ix3 0 r s) = m ((c : Thread nD τ).loc main_arg2) (ix3 w (rowOf m hO t r) s) := by
  blk_ext [iblk, V, idx1 m hO c w hw t]
theorem d_at (k : Fin 3) (r : Fin 128) (s : Fin 3072) : iblk m hO c 2 t (ix3 k r s) = m ((c : Thread nD τ).loc main_arg3) (ix3 k (rowOf m hO t r) s) := by
  blk_ext [iblk, V, idx2 m hO t]
theorem w_at (r : Fin 128) (s : Fin 3072) : iblk m hO c 3 t (ix2 r s) = m ((c : Thread nD τ).loc main_arg4) (ix2 (rowOf m hO t r) s) := by
  blk_ext [iblk, V, idx3 m hO t]
theorem p_at (r : Fin 128) (s : Fin 3072) : iblk m hO c 4 t (ix2 r s) = m ((c : Thread nD τ).loc main_arg5) (ix2 (rowOf m hO t r) s) := by
  blk_ext [iblk, V, idx4 m hO t]
theorem q_at (r : Fin 128) (s : Fin 3072) : iblk m hO c 5 t (ix2 r s) = m ((c : Thread nD τ).loc main_arg6) (ix2 (rowOf m hO t r) s) := by
  blk_ext [iblk, V, idx5 m hO t]

/-- The members of the other chips' block that the kernel loads one by one. -/
abbrev chip0 (d : Vec Ideal S3x128x3072 .bf16) : Vec Ideal S1x128x3072 .bf16 :=
  View.ld d (Rect.unit (s := S3x128x3072) ![0, 0, 0] S1x128x3072.size inb_S3x128x3072_S1x128x3072_0_0_0)
abbrev chip1 (d : Vec Ideal S3x128x3072 .bf16) : Vec Ideal S1x128x3072 .bf16 :=
  View.ld d (Rect.unit (s := S3x128x3072) ![1, 0, 0] S1x128x3072.size inb_S3x128x3072_S1x128x3072_1_0_0)
abbrev chip2 (d : Vec Ideal S3x128x3072 .bf16) : Vec Ideal S1x128x3072 .bf16 :=
  View.ld d (Rect.unit (s := S3x128x3072) ![2, 0, 0] S1x128x3072.size inb_S3x128x3072_S1x128x3072_2_0_0)
theorem chip0_at (d : Vec Ideal S3x128x3072 .bf16) (r : Fin 128) (s : Fin 3072) : chip0 d (ix3 0 r s) = d (ix3 0 r s) :=
  congrArg d (funext fun a => Fin.ext (match a with
    | ⟨0, _⟩ => rfl
    | ⟨1, _⟩ => by show 0 + 1 * r.val = r.val; omega
    | ⟨2, _⟩ => by show 0 + 1 * s.val = s.val; omega))
theorem chip1_at (d : Vec Ideal S3x128x3072 .bf16) (r : Fin 128) (s : Fin 3072) : chip1 d (ix3 0 r s) = d (ix3 1 r s) :=
  congrArg d (funext fun a => Fin.ext (match a with
    | ⟨0, _⟩ => rfl
    | ⟨1, _⟩ => by show 0 + 1 * r.val = r.val; omega
    | ⟨2, _⟩ => by show 0 + 1 * s.val = s.val; omega))
theorem chip2_at (d : Vec Ideal S3x128x3072 .bf16) (r : Fin 128) (s : Fin 3072) : chip2 d (ix3 0 r s) = d (ix3 2 r s) :=
  congrArg d (funext fun a => Fin.ext (match a with
    | ⟨0, _⟩ => rfl
    | ⟨1, _⟩ => by show 0 + 1 * r.val = r.val; omega
    | ⟨2, _⟩ => by show 0 + 1 * s.val = s.val; omega))

/-! The four results of block `t`, from the arrays it stages. -/

section
variable (a b : Vec Ideal S1x128x3072 .bf16) (d : Vec Ideal S3x128x3072 .bf16) (wt p q : Vec Ideal S128x3072 .f32)
  (ha : a = iblk m hO c 0 t) (hb : b = iblk m hO c 1 t) (hd : d = iblk m hO c 2 t)
  (ht : wt = iblk m hO c 3 t) (hp : p = iblk m hO c 4 t) (hq : q = iblk m hO c 5 t) (r : Fin 128) (s : Fin 3072)

include hw ha hb hd in
theorem grad_of : k0_pay3 (F := Ideal) a b (chip0 d) (chip1 d) (chip2 d) (ix2 r s)
    = Cert.ReduceAdamwRefIdeal.Read.val_main_v15 (F := Ideal) (m ((c : Thread nD τ).loc main_arg0)) (m ((c : Thread nD τ).loc main_arg1)) (m ((c : Thread nD τ).loc main_arg2)) (m ((c : Thread nD τ).loc main_arg3)) (ix2 (rowOf m hO t r) s) := by
  rw [grad_block, chip0_at, chip1_at, chip2_at, Cert.ReduceAdamwRefIdeal.Entry.grad_at _ _ _ _ w hw, ha, hb, hd,
    a_at m hO c w hw t r s, b_at m hO c w hw t r s, d_at m hO c t, d_at m hO c t, d_at m hO c t]
include hw ha hb hd hp in
theorem mean_of : k0_pay4 (F := Ideal) a b (chip0 d) (chip1 d) (chip2 d) p (ix2 r s)
    = Cert.ReduceAdamwRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (ix2 (rowOf m hO t r) s) := by
  rw [mean_block, grad_of m hO c w hw t a b d ha hb hd r s, Cert.ReduceAdamwRefIdeal.Entry.mean_at, hp, p_at m hO c t r s]
include hw ha hb hd hq in
theorem square_of : k0_pay1 (F := Ideal) (k0_pay5 q) (k0_pay6 a b (chip0 d) (chip1 d) (chip2 d)) (Scalar.ofBits .f32 0x3A83126F#32) (ix2 r s)
    = Cert.ReduceAdamwRefIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (ix2 (rowOf m hO t r) s) := by
  rw [square_block, grad_of m hO c w hw t a b d ha hb hd r s, Cert.ReduceAdamwRefIdeal.Entry.square_at, hq, q_at m hO c t r s]
include hw ha hb hd ht hp hq in
theorem change_of : k0_pay2 (F := Ideal) wt (k0_pay4 a b (chip0 d) (chip1 d) (chip2 d) p) (k0_pay5 q)
      (k0_pay6 a b (chip0 d) (chip1 d) (chip2 d)) (Scalar.ofBits .f32 0x3A83126F#32) (ix2 r s)
    = Cert.ReduceAdamwRefIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (rowOf m hO t r) s) := by
  rw [change_block, mean_of m hO c w hw t a b d p ha hb hd hp r s, square_of m hO c w hw t a b d q ha hb hd hq r s,
    Cert.ReduceAdamwRefIdeal.Entry.change_at, ht, w_at m hO c t r s]
end

/-- The results' blocks cover them, whatever the table holds. -/
theorem covers6 : ((cfg0 (⟨constant 0#32, ok_at 0⟩ : (pcfg0 (F := Bits)).Adm)).win 6).Covers := by decide +kernel
theorem covers7 : ((cfg0 (⟨constant 0#32, ok_at 0⟩ : (pcfg0 (F := Bits)).Adm)).win 7).Covers := by decide +kernel
theorem covers8 : ((cfg0 (⟨constant 0#32, ok_at 0⟩ : (pcfg0 (F := Bits)).Adm)).win 8).Covers := by decide +kernel
theorem covers9 : ((cfg0 (⟨constant 0#32, ok_at 0⟩ : (pcfg0 (F := Bits)).Adm)).win 9).Covers := by decide +kernel

include hw in
/-- The gradient after the run. -/
theorem final6 : (dats m hO 0 c).arrAt 6 (cfgM m hO).N = Cert.ReduceAdamwRefIdeal.Read.val_main_v15 (F := Ideal)
    (m ((c : Thread nD τ).loc main_arg0)) (m ((c : Thread nD τ).loc main_arg1)) (m ((c : Thread nD τ).loc main_arg2)) (m ((c : Thread nD τ).loc main_arg3)) := by
  refine (dats m hO 0 c).arrAt_eq_of_covers 6 _ covers6 fun t _ y => ?_
  obtain ⟨r, s, rfl⟩ : ∃ (r : Fin 128) (s : Fin 3072), y = ix2 r s := ⟨_, _, eq_ix2 (show S128x3072.Idx from y)⟩
  have hj : (((cfgM m hO).win 6).blk t).view.emb (ix2 r s) = ix2 (rowOf m hO t r) s := by
    blk_ext [idx6 m hO t]
  rw [hj]
  blk_simp
  rw [after0_6]
  unfold outsAt0 out0_A_6
  frame_out
  exact grad_of m hO c w hw t _ _ _ ((hs0_0 m hO t).read_unread _) ((hs0_1 m hO t).read_unread _) ((hs0_2 m hO t).read_unread _) r s

include hw in
/-- The change after the run. -/
theorem final7 : (dats m hO 0 c).arrAt 7 (cfgM m hO).N = Cert.ReduceAdamwRefIdeal.Read.val_main_v39 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m hO 0 c).arrAt_eq_of_covers 7 _ covers7 fun t _ y => ?_
  obtain ⟨r, s, rfl⟩ : ∃ (r : Fin 128) (s : Fin 3072), y = ix2 r s := ⟨_, _, eq_ix2 (show S128x3072.Idx from y)⟩
  have hj : (((cfgM m hO).win 7).blk t).view.emb (ix2 r s) = ix2 (rowOf m hO t r) s := by
    blk_ext [idx7 m hO t]
  rw [hj]
  blk_simp
  rw [after0_7]
  unfold outsAt0 out0_A_7
  frame_out
  exact change_of m hO c w hw t _ _ _ _ _ _ ((hs0_0 m hO t).read_unread _) ((hs0_1 m hO t).read_unread _) ((hs0_2 m hO t).read_unread _) ((hs0_3 m hO t).read_unread _) ((hs0_4 m hO t).read_unread _) ((hs0_5 m hO t).read_unread _) r s

include hw in
/-- The new mean after the run. -/
theorem final8 : (dats m hO 0 c).arrAt 8 (cfgM m hO).N = Cert.ReduceAdamwRefIdeal.Read.val_main_v20 (F := Ideal)
    (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m hO 0 c).arrAt_eq_of_covers 8 _ covers8 fun t _ y => ?_
  obtain ⟨r, s, rfl⟩ : ∃ (r : Fin 128) (s : Fin 3072), y = ix2 r s := ⟨_, _, eq_ix2 (show S128x3072.Idx from y)⟩
  have hj : (((cfgM m hO).win 8).blk t).view.emb (ix2 r s) = ix2 (rowOf m hO t r) s := by
    blk_ext [idx8 m hO t]
  rw [hj]
  blk_simp
  rw [after0_8]
  unfold outsAt0 out0_A_8
  frame_out
  exact mean_of m hO c w hw t _ _ _ _ ((hs0_0 m hO t).read_unread _) ((hs0_1 m hO t).read_unread _) ((hs0_2 m hO t).read_unread _) ((hs0_4 m hO t).read_unread _) r s

include hw in
/-- The new square after the run. -/
theorem final9 : (dats m hO 0 c).arrAt 9 (cfgM m hO).N = Cert.ReduceAdamwRefIdeal.Read.val_main_v26 (F := Ideal)
    (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m hO 0 c).arrAt_eq_of_covers 9 _ covers9 fun t _ y => ?_
  obtain ⟨r, s, rfl⟩ : ∃ (r : Fin 128) (s : Fin 3072), y = ix2 r s := ⟨_, _, eq_ix2 (show S128x3072.Idx from y)⟩
  have hj : (((cfgM m hO).win 9).blk t).view.emb (ix2 r s) = ix2 (rowOf m hO t r) s := by
    blk_ext [idx9 m hO t]
  rw [hj]
  blk_simp
  rw [after0_9]
  unfold outsAt0 out0_A_9
  frame_out
  exact square_of m hO c w hw t _ _ _ _ ((hs0_0 m hO t).read_unread _) ((hs0_1 m hO t).read_unread _) ((hs0_2 m hO t).read_unread _) ((hs0_5 m hO t).read_unread _) r s

/-- What the call leaves. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (dats m hO 0 c).arrAt 6 (cfgM m hO).N
      ∧ r.2.mem ((c.tc : Thread nD τ).loc main_v0_1) = (dats m hO 0 c).arrAt 7 (cfgM m hO).N
      ∧ r.2.mem ((c.tc : Thread nD τ).loc main_v0_2) = (dats m hO 0 c).arrAt 8 (cfgM m hO).N
      ∧ r.2.mem ((c.tc : Thread nD τ).loc main_v0_3) = (dats m hO 0 c).arrAt 9 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h.1 c).1 6, (h.1 c).1 7, (h.1 c).1 8, (h.1 c).1 9, h.2 c⟩)
    (θ_run_and (run_main m ρ hO) (unchanged m ρ hO))

/-- The call computes the reference's gradient and AdamW step. -/
theorem claim : Cert.algebraic_ReduceAdamwIdeal_ReduceAdamwRefIdeal := by
  intro m g m' g' hpre hagree
  refine ⟨fun c => (dats m (ok_of_pre m hpre) 0 c).arrAt 6 (cfgM m (ok_of_pre m hpre)).N,
    fun c => (dats m (ok_of_pre m hpre) 0 c).arrAt 7 (cfgM m (ok_of_pre m hpre)).N,
    fun c => (dats m (ok_of_pre m hpre) 0 c).arrAt 8 (cfgM m (ok_of_pre m hpre)).N,
    fun c => (dats m (ok_of_pre m hpre) 0 c).arrAt 9 (cfgM m (ok_of_pre m hpre)).N, run m (ok_of_pre m hpre) g, ?_⟩
  refine θ_run_mono (Cert.ReduceAdamwRefIdeal.Entry.run m' g') fun r hr c => ?_
  obtain ⟨a0, a1, a2, a3, a4, a5, a6⟩ := hagree c
  obtain ⟨h1, h2, h3, h4, hargs⟩ := hr c
  rw [a0, a1, a2, a3] at h1
  rw [a0, a1, a2, a3, a4, a5, a6] at h2
  rw [a0, a1, a2, a3, a5] at h3
  rw [a0, a1, a2, a3, a6] at h4
  obtain ⟨w, hw⟩ := Cert.Pre_class_chip_in_mesh.Word.of_pre _ _ _ _ _ _ _ (hpre c)
  exact ⟨h1.trans (final6 m (ok_of_pre m hpre) c w hw).symm, h2.trans (final7 m (ok_of_pre m hpre) c w hw).symm,
    h3.trans (final8 m (ok_of_pre m hpre) c w hw).symm, h4.trans (final9 m (ok_of_pre m hpre) c w hw).symm, hargs⟩

end Cert.ReduceAdamwIdeal.Whole

namespace Cert.ReduceAdamw.Whole

open Cert.ReduceAdamw Cert.ReduceAdamw.Gen

/-- The same of the program before idealization. -/
theorem ok_of_pre (m : (ℓ : Loc nD τ sig) → Buf (Elt Bits) ℓ) (h : Cert.Pre_ReduceAdamw m) : Ok (F := Bits) m :=
  (Cert.Pre_class_chip_in_mesh.Word.of_pre _ _ _ _ _ _ _ (h 0)).elim fun w hw => Cert.ReduceAdamwIdeal.Whole.ok (tbl m) w hw

end Cert.ReduceAdamw.Whole

end
-- ==== Proof.ChipSums.lean ====
/- The sums a chip sends: for each of the three other chips, the member that a word of the table the call is handed names, of the sum of
   the two cores' halves. -/
module

public import proofs.«01_k».proof.Proof.Words
public import proofs.«01_k».proof.Proof.Gen.ChipSums.Frame
public import proofs.«01_k».proof.Proof.Gen.ChipSumsIdeal.Frame
public import proofs.«01_k».proof.Proof.Gen.ChipSumsIdeal.Points
public import proofs.«01_k».proof.Proof.Gen.ChipSumsRefIdeal.Read
public import proofs.«01_k».proof.Proof.Gen.ChipSumsRefIdeal.Run
public import proofs.«01_k».proof.Proof.Gen.Pre_class_chips_in_mesh
public import proofs.«01_k».proof.Defs
public import Idealize.ShloMosaic.Lib.Claim
public import Idealize.ShloMosaic.Lib.Quiescent
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The words that name the chips -/

namespace Cert.Pre_class_chips_in_mesh.Word

open Cert.Pre_class_chips_in_mesh Facts

/-- Where the table holds the word of send `j`. -/
abbrev slot (j : Fin 3) : (⟨1, ![8]⟩ : Shape).Idx := ix1 ⟨j.val, by omega⟩

/-- That word, among the table's first three. -/
theorem first_at (ids : IVec S8 32) (h : S8.Slices ![0] S3) (j : Fin 3) :
    extractStridedSlice S3 ![0] ids h (ix1 j) = ids (slot j) :=
  extractStridedSlice_apply ![0] ids h (ix1 j) (slot j) (fun a => match a with | ⟨0, _⟩ => (Nat.zero_add _).symm)

/-- The precondition says that each of the three words is one of 0 to 3. -/
theorem of_pre {F : FTy → Type} [FloatOps F] (ids : IVec S8 32) (a b : FVec F S4x4096x3072 .bf16)
    (h : fn (F := F) ids a b = fun _ => 1#1) : ∃ w : Fin 3 → Fin 4, ∀ j, ids (slot j) = BitVec.ofNat 32 (w j).val := by
  refine Classical.axiomOfChoice (r := fun (j : Fin 3) (w : Fin 4) => ids (slot j) = BitVec.ofNat 32 w.val) fun j => ?_
  have e : IntOp.andi (IntOp.cmpi .sge (extractStridedSlice S3 ![0] ids slices_S8_S3_0 (ix1 j)) 0#32)
      (IntOp.cmpi .slt (extractStridedSlice S3 ![0] ids slices_S8_S3_0 (ix1 j)) 4#32) = 1#1 := congrFun h (ix1 j)
  rw [first_at] at e
  exact Cert.Words.in_range _ e

end Cert.Pre_class_chips_in_mesh.Word

/-! ## The reference -/

namespace Cert.ChipSumsRefIdeal.Entry

open Cert.ChipSumsRefIdeal Cert.ChipSumsRefIdeal.Read Cert.Pre_class_chips_in_mesh.Word

variable (ids : IVec S8 32) (a b : FVec Ideal S4x4096x3072 .bf16) (w : Fin 3 → Fin 4)
  (hw : ∀ j, ids (slot j) = BitVec.ofNat 32 (w j).val)

include hw in
/-- Which members of the stack a send takes. -/
theorem named_at (j : Fin 3) (k : Fin 4) (r : Fin 4096) (s : Fin 3072) : val_main_v12 (F := Ideal) ids (ix4 j k r s)
    = IntOp.cmpi .eq (BitVec.ofNat 32 k.val) (BitVec.ofNat 32 (w j).val) := by
  rw [val_main_v12_apply, val_main_v11_apply, val_main_v10_apply, val_main_v8_apply, val_main_v9_apply, val_main_v5_apply,
    val_main_v4_apply, val_main_v7_apply, val_main_v6_apply, ← Cert.Words.same_comm]
  have e : idx_main_v4 (idx_main_v5 (idx_main_v8 (idx_main_v11 (idx_main_v12 (ix4 j k r s))))) = slot j := by
    funext a; match a with | ⟨0, _⟩ => rfl
  rw [e, hw]
  rfl

/-- The sum of the two halves, repeated for every send. -/
theorem total_at (j : Fin 3) (k : Fin 4) (r : Fin 4096) (s : Fin 3072) : val_main_v14 (F := Ideal) a b (ix4 j k r s)
    = (a (ix3 k r s) : EReal) + b (ix3 k r s) := by
  rw [val_main_v14_apply, val_main_v13_apply]
  have e : idx_main_v13 (idx_main_v14 (ix4 j k r s)) = ix3 k r s := by
    funext y; match y with | ⟨0, _⟩ => rfl | ⟨1, _⟩ => rfl | ⟨2, _⟩ => rfl
  rw [e]
  rfl

include hw in
/-- An entry of what is sent. -/
theorem sum_at (j : Fin 3) (r : Fin 4096) (s : Fin 3072) : val_main_v19 (F := Ideal) ids a b (ix3 j r s)
    = (a (ix3 (w j) r s) : EReal) + b (ix3 (w j) r s) := by
  refine Eq.trans (b := val_main_v18 (F := Ideal) ids a b (ix3 j r s)) rfl ?_
  rw [val_main_v18_apply]
  refine (congrArg₂ (fun x y : EReal => x + y) Ideal.ofBits_zero_f32 (Finset.sum_congr rfl fun k _ => ?_)).trans
    ((zero_add _).trans (Cert.Words.own_sum (fun k => (a (ix3 k r s) : EReal) + b (ix3 k r s)) (w j)))
  have e : idx_main_v18 (ix3 j r s) k = ix4 j k r s := by
    funext y; match y with | ⟨0, _⟩ => rfl | ⟨1, _⟩ => rfl | ⟨2, _⟩ => rfl | ⟨3, _⟩ => rfl
  have h0 : val_main_v15 (F := Ideal) (ix4 j k r s) = (0 : EReal) := by
    rw [val_main_v15_apply]
    exact Ideal.ofBits_zero_bf16
  rw [e]
  show Scalar.select (val_main_v12 (F := Ideal) ids (ix4 j k r s)) (val_main_v14 (F := Ideal) a b (ix4 j k r s))
    (val_main_v15 (F := Ideal) (ix4 j k r s)) = _
  rw [named_at ids w hw, total_at, h0]

/-- What the reference leaves, in the name of its last line. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = val_main_v19 (F := Ideal) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (val_main_v19_eq _ _ _), (h c).2⟩) (Value.run m ρ)

/-- The reference runs, leaves its arguments and ends with every counter at zero. -/
theorem frame : Cert.quiescent_ChipSumsRefIdeal := fun m ρ _ =>
  (θ_run defs _ _).mono (fun r h => ⟨fun c => (h c).2, sem_eq_zero_of_no_sems rfl _⟩) (run m ρ)

end Cert.ChipSumsRefIdeal.Entry

/-! ## The kernel -/

namespace Cert.ChipSumsIdeal.Whole

open Cert.ChipSumsIdeal Cert.ChipSumsIdeal.Gen
open Cert.Pre_class_chips_in_mesh.Word (slot)

/-- A table of equal words. -/
def constant (w : BitVec 32) : pre0.Contents (Elt Bits) := fun
  | ⟨0, _⟩ => fun _ => w
  | ⟨_ + 1, h⟩ => absurd h (by simp)

/-- The word a point reads lies at its send's place. -/
theorem word_at : ∀ j : Fin 3, (Scalar.indexCast (BitVec.ofNat 32 j.val)).toNat = j.val := by decide

section
variable {F : FTy → Type} [FloatOps F] (pf : pre0.Contents (Elt F)) (w : Fin 3 → Fin 4)
  (h : ∀ j, pf 0 (slot j : S8.Idx) = BitVec.ofNat 32 (w j).val)

include h in
/-- Where the blocks of the two halves lie depends on the send's word alone. -/
theorem place (i : grid0.Coords) : cc0_transform_0 k0_off1_inb numel1_S1 pf i
    = cc0_transform_0 k0_off1_inb numel1_S1 (constant (BitVec.ofNat 32 (w (i 0)).val)) i := by
  have e : pf.at 0 (Rect.unit (s := S8) ![(Scalar.indexCast (BitVec.ofNat 32 (i 0).val)).toNat] S1.size (k0_off1_inb i)) numel1_S1
      = BitVec.ofNat 32 (w (i 0)).val := by
    refine (congrArg (pf 0) (funext fun a => ?_)).trans (h (i 0))
    match a with
    | ⟨0, _⟩ => exact Fin.ext (word_at (i 0))
  unfold cc0_transform_0
  simp only [e]
  rfl

/-- Where they lie, for any of the four words. -/
theorem place_at : ∀ (w : Fin 4) (t : Fin grid0.N),
    cc0_transform_0 k0_off1_inb numel1_S1 (constant (BitVec.ofNat 32 w.val)) (grid0.coords t) = ![w.val, t.val % 32, 0] := by
  decide +kernel

/-- For any of the four words every block lies inside its array. -/
theorem ok_at : ∀ w : Fin 4, ok0 (constant (BitVec.ofNat 32 w.val)) := by decide +kernel

include h in
theorem ok : ok0 pf := by
  have this (i : grid0.Coords) := ok_at (w (i 0))
  unfold ok0 at this ⊢
  constructor
  · intro i
    rw [place pf w h i]
    exact (this i).1 i
  · intro i
    rw [show cc0_transform_1 k0_off1_inb numel1_S1 pf i = _ from place pf w h i]
    exact (this i).2 i
end

theorem ok_of_pre (m : (ℓ : Loc nD τ sig) → Buf (Elt Ideal) ℓ) (h : Cert.Pre_ChipSumsIdeal m) : Ok (F := Ideal) m :=
  (Cert.Pre_class_chips_in_mesh.Word.of_pre _ _ _ (h 0)).elim fun w hw => ok (tbl m) w hw

/-- What a block computes at an entry. -/
theorem block_at (a b : FVec Ideal S1x128x3072 .bf16) (r : Fin 128) (s : Fin 3072) :
    k0_pay1 (F := Ideal) a b (ix3 0 r s) = (a (ix3 0 r s) : EReal) + b (ix3 0 r s) := by
  pointwise [k0_pay1]

variable (m : (ℓ : Loc nD τ sig) → Buf (Elt Ideal) ℓ) (hO : Ok m) (c : Dev nD) (w : Fin 3 → Fin 4)
  (hw : ∀ j, m ((c : Thread nD τ).loc main_arg0) (slot j : S8.Idx) = BitVec.ofNat 32 (w j).val) (t : Fin (cfgM m hO).N)

/-- The send of block `t`, and its row `r` there. -/
abbrev sendOf (t : Fin (cfgM m hO).N) : Fin 3 := ⟨t.val / 32, by have : t.val < 96 := t.isLt; omega⟩
abbrev rowOf (t : Fin (cfgM m hO).N) (r : Fin 128) : Fin 4096 := ⟨t.val % 32 * 128 + r.val, by omega⟩

/-- Which block each window holds at a point. -/
theorem idx_out : ∀ t : Fin grid0.N, cc0_transform_2 (grid0.coords t) = ![t.val / 32, t.val % 32, 0]
    ∧ ((grid0.coords t) 0).val = t.val / 32 := by decide +kernel
theorem idx2 : ((cfgM m hO).win 2).index t = ![t.val / 32, t.val % 32, 0] := (idx_out t).1
include hw in
theorem idx0 : ((cfgM m hO).win 0).index t = ![(w (sendOf m hO t)).val, t.val % 32, 0] := by
  obtain rfl : c = 0 := Subsingleton.elim _ _
  have e : (grid0.coords t) 0 = sendOf m hO t := Fin.ext (idx_out t).2
  refine (place (tbl m) w hw (grid0.coords t)).trans ((place_at _ t).trans ?_)
  rw [e]
include hw in
theorem idx1 : ((cfgM m hO).win 1).index t = ![(w (sendOf m hO t)).val, t.val % 32, 0] := idx0 m hO c w hw t

include hw in
/-- The halves' entries, as block `t` stages them. -/
theorem a_at (r : Fin 128) (s : Fin 3072) : iblk m hO c 0 t (ix3 0 r s)
    = m ((c : Thread nD τ).loc main_arg1) (ix3 (w (sendOf m hO t)) (rowOf m hO t r) s) := by
  blk_ext [iblk, V, idx0 m hO c w hw t]
include hw in
theorem b_at (r : Fin 128) (s : Fin 3072) : iblk m hO c 1 t (ix3 0 r s)
    = m ((c : Thread nD τ).loc main_arg2) (ix3 (w (sendOf m hO t)) (rowOf m hO t r) s) := by
  blk_ext [iblk, V, idx1 m hO c w hw t]

/-- The result's blocks cover it, whatever the table holds. -/
theorem covers : ((cfg0 (⟨constant 0#32, ok_at 0⟩ : (pcfg0 (F := Bits)).Adm)).win 2).Covers := by decide +kernel

include hw in
/-- What is sent, after the run. -/
theorem final : (dats m hO 0 c).arrAt 2 (cfgM m hO).N = Cert.ChipSumsRefIdeal.Read.val_main_v19 (F := Ideal)
    (m ((c : Thread nD τ).loc main_arg0)) (m ((c : Thread nD τ).loc main_arg1)) (m ((c : Thread nD τ).loc main_arg2)) := by
  refine (dats m hO 0 c).arrAt_eq_of_covers 2 _ covers fun t _ y => ?_
  obtain ⟨o, r, s, rfl⟩ : ∃ (o : Fin 1) (r : Fin 128) (s : Fin 3072), y = ix3 o r s :=
    ⟨_, _, _, eq_ix3 (show S1x128x3072.Idx from y)⟩
  obtain rfl : o = 0 := Subsingleton.elim _ _
  have hj : (((cfgM m hO).win 2).blk t).view.emb (ix3 0 r s) = ix3 (sendOf m hO t) (rowOf m hO t r) s := by
    blk_ext [idx2 m hO t]
  rw [hj, Cert.ChipSumsRefIdeal.Entry.sum_at _ _ _ w hw]
  blk_simp
  rw [after0_2]
  unfold outsAt0 out0_A_2
  frame_out
  refine (block_at _ _ r s).trans ?_
  exact congrArg₂ (fun x y : EReal => x + y) ((congrFun ((hs0_0 m hO t).read_unread _) _).trans (a_at m hO c w hw t r s))
    ((congrFun ((hs0_1 m hO t).read_unread _) _).trans (b_at m hO c w hw t r s))

/-- What the call leaves. -/
theorem run (ρ : Dev nD → PrngReg) : θ_run defs (onTc (τ := τ) (main (F := Ideal))) ⟨m, fun _ => 0, ρ⟩ fun r => ∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 2, h.2 c⟩) (θ_run_and (run_main m ρ hO) (unchanged m ρ hO))

/-- The call computes the sums the reference names. -/
theorem claim : Cert.algebraic_ChipSumsIdeal_ChipSumsRefIdeal := by
  intro m g m' g' hpre hagree
  refine ⟨fun c => (dats m (ok_of_pre m hpre) 0 c).arrAt 2 (cfgM m (ok_of_pre m hpre)).N, run m (ok_of_pre m hpre) g, ?_⟩
  refine θ_run_mono (Cert.ChipSumsRefIdeal.Entry.run m' g') fun r hr c => ?_
  obtain ⟨a0, a1, a2⟩ := hagree c
  obtain ⟨h1, hargs⟩ := hr c
  rw [a0, a1, a2] at h1
  obtain ⟨w, hw⟩ := Cert.Pre_class_chips_in_mesh.Word.of_pre _ _ _ (hpre c)
  exact ⟨h1.trans (final m (ok_of_pre m hpre) c w hw).symm, hargs⟩

end Cert.ChipSumsIdeal.Whole

namespace Cert.ChipSums.Whole

open Cert.ChipSums Cert.ChipSums.Gen

/-- The same of the program before idealization. -/
theorem ok_of_pre (m : (ℓ : Loc nD τ sig) → Buf (Elt Bits) ℓ) (h : Cert.Pre_ChipSums m) : Ok (F := Bits) m :=
  (Cert.Pre_class_chips_in_mesh.Word.of_pre _ _ _ (h 0)).elim fun w hw => Cert.ChipSumsIdeal.Whole.ok (tbl m) w hw

end Cert.ChipSums.Whole

end
-- ==== Proof.lean ====
/- The claims of the calls of the training step on one device: the programs' stated facts, the frames, and each call's equation with
   its reference. -/
module

public import proofs.«01_k».proof.Defs
public import proofs.«01_k».proof.Proof.Gen.NormFirst
public import proofs.«01_k».proof.Proof.Gen.NormFirst.Skeleton
public import proofs.«01_k».proof.Proof.Gen.NormFirst.Launch
public import proofs.«01_k».proof.Proof.Gen.NormFirst.Points
public import proofs.«01_k».proof.Proof.Gen.NormFirst.Frame
public import proofs.«01_k».proof.Proof.Gen.NormFirstIdeal
public import proofs.«01_k».proof.Proof.Gen.NormFirstIdeal.Skeleton
public import proofs.«01_k».proof.Proof.Gen.NormFirstIdeal.Launch
public import proofs.«01_k».proof.Proof.Gen.NormFirstIdeal.Points
public import proofs.«01_k».proof.Proof.Gen.NormFirstIdeal.Frame
public import proofs.«01_k».proof.Proof.Gen.NormFirstIdeal.Value
public import proofs.«01_k».proof.Proof.Gen.NormFirstRefIdeal
public import proofs.«01_k».proof.Proof.Gen.NormFirstRefIdeal.Run
public import proofs.«01_k».proof.Proof.Gen.NormFirstRefIdeal.Read
public import proofs.«01_k».proof.Proof.Gen.Pre_norm_first_finite
public import proofs.«01_k».proof.Proof.NormFirstRef
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Pre_loss_head_finite
public import proofs.«01_k».proof.Proof.LossHeadRef
public import proofs.«01_k».proof.Proof.Gen.GateA
public import proofs.«01_k».proof.Proof.Gen.GateA.Skeleton
public import proofs.«01_k».proof.Proof.Gen.GateA.Launch
public import proofs.«01_k».proof.Proof.Gen.GateA.Points
public import proofs.«01_k».proof.Proof.Gen.GateA.Frame
public import proofs.«01_k».proof.Proof.Gen.GateAIdeal
public import proofs.«01_k».proof.Proof.Gen.GateAIdeal.Skeleton
public import proofs.«01_k».proof.Proof.Gen.GateAIdeal.Launch
public import proofs.«01_k».proof.Proof.Gen.GateAIdeal.Points
public import proofs.«01_k».proof.Proof.Gen.GateAIdeal.Frame
public import proofs.«01_k».proof.Proof.Gen.GateAIdeal.Value
public import proofs.«01_k».proof.Proof.Gen.GateARefIdeal
public import proofs.«01_k».proof.Proof.Gen.GateARefIdeal.Run
public import proofs.«01_k».proof.Proof.Gen.GateARefIdeal.Read
public import proofs.«01_k».proof.Proof.Gen.Pre_gate_a_finite
public import proofs.«01_k».proof.Proof.GateARef
public import proofs.«01_k».proof.Proof.Gen.GateB
public import proofs.«01_k».proof.Proof.Gen.GateB.Skeleton
public import proofs.«01_k».proof.Proof.Gen.GateB.Launch
public import proofs.«01_k».proof.Proof.Gen.GateB.Points
public import proofs.«01_k».proof.Proof.Gen.GateB.Frame
public import proofs.«01_k».proof.Proof.Gen.GateBIdeal
public import proofs.«01_k».proof.Proof.Gen.GateBIdeal.Skeleton
public import proofs.«01_k».proof.Proof.Gen.GateBIdeal.Launch
public import proofs.«01_k».proof.Proof.Gen.GateBIdeal.Points
public import proofs.«01_k».proof.Proof.Gen.GateBIdeal.Frame
public import proofs.«01_k».proof.Proof.Gen.GateBIdeal.Value
public import proofs.«01_k».proof.Proof.Gen.On_gate_half
public import proofs.«01_k».proof.Proof.Gen.GateBRefIdeal
public import proofs.«01_k».proof.Proof.Gen.GateBRefIdeal.Run
public import proofs.«01_k».proof.Proof.Gen.GateBRefIdeal.Read
public import proofs.«01_k».proof.Proof.Gen.Pre_gate_b_finite
public import proofs.«01_k».proof.Proof.GateBRef
public import proofs.«01_k».proof.Proof.Gen.NormsMid
public import proofs.«01_k».proof.Proof.Gen.NormsMid.Skeleton
public import proofs.«01_k».proof.Proof.Gen.NormsMid.Launch
public import proofs.«01_k».proof.Proof.Gen.NormsMid.Points
public import proofs.«01_k».proof.Proof.Gen.NormsMid.Frame
public import proofs.«01_k».proof.Proof.Gen.NormsMidIdeal
public import proofs.«01_k».proof.Proof.Gen.NormsMidIdeal.Skeleton
public import proofs.«01_k».proof.Proof.Gen.NormsMidIdeal.Launch
public import proofs.«01_k».proof.Proof.Gen.NormsMidIdeal.Points
public import proofs.«01_k».proof.Proof.Gen.NormsMidIdeal.Frame
public import proofs.«01_k».proof.Proof.Gen.NormsMidRefIdeal
public import proofs.«01_k».proof.Proof.Gen.NormsMidRefIdeal.Run
public import proofs.«01_k».proof.Proof.Gen.NormsMidRefIdeal.Read
public import proofs.«01_k».proof.Proof.Gen.Pre_norms_mid_finite
public import proofs.«01_k».proof.Proof.NormsMidRef
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Pre_pool_finite
public import proofs.«01_k».proof.Proof.PoolRef
public import proofs.«01_k».proof.Proof.Gen.GateAFwd
public import proofs.«01_k».proof.Proof.Gen.GateAFwd.Skeleton
public import proofs.«01_k».proof.Proof.Gen.GateAFwd.Launch
public import proofs.«01_k».proof.Proof.Gen.GateAFwd.Points
public import proofs.«01_k».proof.Proof.Gen.GateAFwd.Frame
public import proofs.«01_k».proof.Proof.Gen.GateAFwdIdeal
public import proofs.«01_k».proof.Proof.Gen.GateAFwdIdeal.Skeleton
public import proofs.«01_k».proof.Proof.Gen.GateAFwdIdeal.Launch
public import proofs.«01_k».proof.Proof.Gen.GateAFwdIdeal.Points
public import proofs.«01_k».proof.Proof.Gen.GateAFwdIdeal.Frame
public import proofs.«01_k».proof.Proof.Gen.GateAFwdIdeal.Value
public import proofs.«01_k».proof.Proof.Gen.GateAFwdRefIdeal
public import proofs.«01_k».proof.Proof.Gen.GateAFwdRefIdeal.Run
public import proofs.«01_k».proof.Proof.Gen.GateAFwdRefIdeal.Read
public import proofs.«01_k».proof.Proof.Gen.Pre_gate_a_fwd_finite
public import proofs.«01_k».proof.Proof.GateAFwdRef
public import proofs.«01_k».proof.Proof.Gen.GateBFwd
public import proofs.«01_k».proof.Proof.Gen.GateBFwd.Skeleton
public import proofs.«01_k».proof.Proof.Gen.GateBFwd.Launch
public import proofs.«01_k».proof.Proof.Gen.GateBFwd.Points
public import proofs.«01_k».proof.Proof.Gen.GateBFwd.Frame
public import proofs.«01_k».proof.Proof.Gen.GateBFwdIdeal
public import proofs.«01_k».proof.Proof.Gen.GateBFwdIdeal.Skeleton
public import proofs.«01_k».proof.Proof.Gen.GateBFwdIdeal.Launch
public import proofs.«01_k».proof.Proof.Gen.GateBFwdIdeal.Points
public import proofs.«01_k».proof.Proof.Gen.GateBFwdIdeal.Frame
public import proofs.«01_k».proof.Proof.Gen.GateBFwdIdeal.Value
public import proofs.«01_k».proof.Proof.Gen.GateBFwdRefIdeal
public import proofs.«01_k».proof.Proof.Gen.GateBFwdRefIdeal.Run
public import proofs.«01_k».proof.Proof.Gen.GateBFwdRefIdeal.Read
public import proofs.«01_k».proof.Proof.GateBFwd
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.NormFwd
public import proofs.«01_k».proof.Proof.Gen.PoolFwd
public import proofs.«01_k».proof.Proof.Gen.PoolFwd.Skeleton
public import proofs.«01_k».proof.Proof.Gen.PoolFwd.Launch
public import proofs.«01_k».proof.Proof.Gen.PoolFwd.Points
public import proofs.«01_k».proof.Proof.Gen.PoolFwd.Frame
public import proofs.«01_k».proof.Proof.Gen.PoolFwdIdeal
public import proofs.«01_k».proof.Proof.Gen.PoolFwdIdeal.Skeleton
public import proofs.«01_k».proof.Proof.Gen.PoolFwdIdeal.Launch
public import proofs.«01_k».proof.Proof.Gen.PoolFwdIdeal.Points
public import proofs.«01_k».proof.Proof.Gen.PoolFwdIdeal.Frame
public import proofs.«01_k».proof.Proof.Gen.PoolFwdIdeal.Value
public import proofs.«01_k».proof.Proof.Gen.PoolFwdRefIdeal
public import proofs.«01_k».proof.Proof.Gen.PoolFwdRefIdeal.Run
public import proofs.«01_k».proof.Proof.Gen.PoolFwdRefIdeal.Read
public import proofs.«01_k».proof.Proof.Gen.Pre_pool_fwd_finite
public import proofs.«01_k».proof.Proof.PoolFwdRef
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.InProj
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProj
public import proofs.«01_k».proof.Proof.Gen.Grouped
public import proofs.«01_k».proof.Proof.Gen.Grouped.Skeleton
public import proofs.«01_k».proof.Proof.Gen.Grouped.Launch
public import proofs.«01_k».proof.Proof.Gen.Grouped.Points
public import proofs.«01_k».proof.Proof.Gen.Grouped.Frame
public import proofs.«01_k».proof.Proof.Gen.GroupedIdeal
public import proofs.«01_k».proof.Proof.Gen.GroupedIdeal.Skeleton
public import proofs.«01_k».proof.Proof.Gen.GroupedIdeal.Launch
public import proofs.«01_k».proof.Proof.Gen.GroupedIdeal.Points
public import proofs.«01_k».proof.Proof.Gen.GroupedIdeal.Frame
public import proofs.«01_k».proof.Proof.Gen.GroupedIdeal.Value
public import proofs.«01_k».proof.Proof.Gen.GroupedRefIdeal
public import proofs.«01_k».proof.Proof.Gen.GroupedRefIdeal.Run
public import proofs.«01_k».proof.Proof.Gen.GroupedRefIdeal.Read
public import proofs.«01_k».proof.Proof.Grouped
public import proofs.«01_k».proof.Proof.Gen.DactOut
public import proofs.«01_k».proof.Proof.Gen.DactOut.Skeleton
public import proofs.«01_k».proof.Proof.Gen.DactOut.Launch
public import proofs.«01_k».proof.Proof.Gen.DactOut.Points
public import proofs.«01_k».proof.Proof.Gen.DactOut.Frame
public import proofs.«01_k».proof.Proof.Gen.DactOutIdeal
public import proofs.«01_k».proof.Proof.Gen.DactOutIdeal.Skeleton
public import proofs.«01_k».proof.Proof.Gen.DactOutIdeal.Launch
public import proofs.«01_k».proof.Proof.Gen.DactOutIdeal.Points
public import proofs.«01_k».proof.Proof.Gen.DactOutIdeal.Frame
public import proofs.«01_k».proof.Proof.Gen.DactOutIdeal.Value
public import proofs.«01_k».proof.Proof.Gen.DactOutRefIdeal
public import proofs.«01_k».proof.Proof.Gen.DactOutRefIdeal.Run
public import proofs.«01_k».proof.Proof.Gen.DactOutRefIdeal.Read
public import proofs.«01_k».proof.Proof.DactOut
public import proofs.«01_k».proof.Proof.Gen.DactIn
public import proofs.«01_k».proof.Proof.Gen.DactIn.Skeleton
public import proofs.«01_k».proof.Proof.Gen.DactIn.Launch
public import proofs.«01_k».proof.Proof.Gen.DactIn.Points
public import proofs.«01_k».proof.Proof.Gen.DactIn.Frame
public import proofs.«01_k».proof.Proof.Gen.DactInIdeal
public import proofs.«01_k».proof.Proof.Gen.DactInIdeal.Skeleton
public import proofs.«01_k».proof.Proof.Gen.DactInIdeal.Launch
public import proofs.«01_k».proof.Proof.Gen.DactInIdeal.Points
public import proofs.«01_k».proof.Proof.Gen.DactInIdeal.Frame
public import proofs.«01_k».proof.Proof.Gen.DactInIdeal.Value
public import proofs.«01_k».proof.Proof.Gen.DactInRefIdeal
public import proofs.«01_k».proof.Proof.Gen.DactInRefIdeal.Run
public import proofs.«01_k».proof.Proof.Gen.DactInRefIdeal.Read
public import proofs.«01_k».proof.Proof.DactIn
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwIdeal.Value
public import proofs.«01_k».proof.Proof.Gen.DwRefIdeal
public import proofs.«01_k».proof.Proof.Gen.DwRefIdeal.Run
public import proofs.«01_k».proof.Proof.Gen.DwRefIdeal.Read
public import proofs.«01_k».proof.Proof.Dw
public import proofs.«01_k».proof.Proof.Gen.DwSharded
public import proofs.«01_k».proof.Proof.Gen.DwSharded.Skeleton
public import proofs.«01_k».proof.Proof.Gen.DwSharded.Launch
public import proofs.«01_k».proof.Proof.Gen.DwSharded.Points
public import proofs.«01_k».proof.Proof.Gen.DwSharded.Frame
public import proofs.«01_k».proof.Proof.Gen.DwShardedIdeal
public import proofs.«01_k».proof.Proof.Gen.DwShardedIdeal.Skeleton
public import proofs.«01_k».proof.Proof.Gen.DwShardedIdeal.Launch
public import proofs.«01_k».proof.Proof.Gen.DwShardedIdeal.Points
public import proofs.«01_k».proof.Proof.Gen.DwShardedIdeal.Frame
public import proofs.«01_k».proof.Proof.Gen.DwShardedIdeal.Value
public import proofs.«01_k».proof.Proof.Gen.DwShardedRefIdeal
public import proofs.«01_k».proof.Proof.Gen.DwShardedRefIdeal.Run
public import proofs.«01_k».proof.Proof.Gen.DwShardedRefIdeal.Read
public import proofs.«01_k».proof.Proof.DwSharded
public import proofs.«01_k».proof.Proof.Gen.DwGrouped
public import proofs.«01_k».proof.Proof.Gen.DwGrouped.Skeleton
public import proofs.«01_k».proof.Proof.Gen.DwGrouped.Launch
public import proofs.«01_k».proof.Proof.Gen.DwGrouped.Points
public import proofs.«01_k».proof.Proof.Gen.DwGrouped.Frame
public import proofs.«01_k».proof.Proof.Gen.DwGroupedIdeal
public import proofs.«01_k».proof.Proof.Gen.DwGroupedIdeal.Skeleton
public import proofs.«01_k».proof.Proof.Gen.DwGroupedIdeal.Launch
public import proofs.«01_k».proof.Proof.Gen.DwGroupedIdeal.Points
public import proofs.«01_k».proof.Proof.Gen.DwGroupedIdeal.Frame
public import proofs.«01_k».proof.Proof.Gen.DwGroupedIdeal.Value
public import proofs.«01_k».proof.Proof.Gen.DwGroupedRefIdeal
public import proofs.«01_k».proof.Proof.Gen.DwGroupedRefIdeal.Run
public import proofs.«01_k».proof.Proof.Gen.DwGroupedRefIdeal.Read
public import proofs.«01_k».proof.Proof.DwGrouped
public import proofs.«01_k».proof.Proof.Gen.SmallAdamw
public import proofs.«01_k».proof.Proof.Gen.SmallAdamw.Skeleton
public import proofs.«01_k».proof.Proof.Gen.SmallAdamw.Launch
public import proofs.«01_k».proof.Proof.Gen.SmallAdamw.Points
public import proofs.«01_k».proof.Proof.Gen.SmallAdamw.Frame
public import proofs.«01_k».proof.Proof.Gen.SmallAdamwIdeal
public import proofs.«01_k».proof.Proof.Gen.SmallAdamwIdeal.Skeleton
public import proofs.«01_k».proof.Proof.Gen.SmallAdamwIdeal.Launch
public import proofs.«01_k».proof.Proof.Gen.SmallAdamwIdeal.Points
public import proofs.«01_k».proof.Proof.Gen.SmallAdamwIdeal.Frame
public import proofs.«01_k».proof.Proof.Gen.SmallAdamwIdeal.Value
public import proofs.«01_k».proof.Proof.Gen.SmallAdamwRefIdeal
public import proofs.«01_k».proof.Proof.Gen.SmallAdamwRefIdeal.Run
public import proofs.«01_k».proof.Proof.Gen.SmallAdamwRefIdeal.Read
public import proofs.«01_k».proof.Proof.SmallAdamw
public import proofs.«01_k».proof.Proof.Gen.DwClass
public import proofs.«01_k».proof.Proof.Gen.DwClass.Skeleton
public import proofs.«01_k».proof.Proof.Gen.DwClass.Launch
public import proofs.«01_k».proof.Proof.Gen.DwClass.Points
public import proofs.«01_k».proof.Proof.Gen.DwClass.Frame
public import proofs.«01_k».proof.Proof.Gen.DwClassIdeal
public import proofs.«01_k».proof.Proof.Gen.DwClassIdeal.Skeleton
public import proofs.«01_k».proof.Proof.Gen.DwClassIdeal.Launch
public import proofs.«01_k».proof.Proof.Gen.DwClassIdeal.Points
public import proofs.«01_k».proof.Proof.Gen.DwClassIdeal.Frame
public import proofs.«01_k».proof.Proof.Gen.DwClassRefIdeal
public import proofs.«01_k».proof.Proof.Gen.DwClassRefIdeal.Run
public import proofs.«01_k».proof.Proof.Gen.DwClassRefIdeal.Read
public import proofs.«01_k».proof.Proof.Gen.Pre_class_is_a_core
public import proofs.«01_k».proof.Proof.DwClass
public import proofs.«01_k».proof.Proof.Gen.ReduceAdamw
public import proofs.«01_k».proof.Proof.Gen.ReduceAdamw.Skeleton
public import proofs.«01_k».proof.Proof.Gen.ReduceAdamw.Launch
public import proofs.«01_k».proof.Proof.Gen.ReduceAdamw.Points
public import proofs.«01_k».proof.Proof.Gen.ReduceAdamw.Frame
public import proofs.«01_k».proof.Proof.Gen.ReduceAdamwIdeal
public import proofs.«01_k».proof.Proof.Gen.ReduceAdamwIdeal.Skeleton
public import proofs.«01_k».proof.Proof.Gen.ReduceAdamwIdeal.Launch
public import proofs.«01_k».proof.Proof.Gen.ReduceAdamwIdeal.Points
public import proofs.«01_k».proof.Proof.Gen.ReduceAdamwIdeal.Frame
public import proofs.«01_k».proof.Proof.Gen.ReduceAdamwRefIdeal
public import proofs.«01_k».proof.Proof.Gen.ReduceAdamwRefIdeal.Run
public import proofs.«01_k».proof.Proof.Gen.ReduceAdamwRefIdeal.Read
public import proofs.«01_k».proof.Proof.Gen.Pre_class_chip_in_mesh
public import proofs.«01_k».proof.Proof.ReduceAdamw
public import proofs.«01_k».proof.Proof.Gen.ChipSums
public import proofs.«01_k».proof.Proof.Gen.ChipSums.Skeleton
public import proofs.«01_k».proof.Proof.Gen.ChipSums.Launch
public import proofs.«01_k».proof.Proof.Gen.ChipSums.Points
public import proofs.«01_k».proof.Proof.Gen.ChipSums.Frame
public import proofs.«01_k».proof.Proof.Gen.ChipSumsIdeal
public import proofs.«01_k».proof.Proof.Gen.ChipSumsIdeal.Skeleton
public import proofs.«01_k».proof.Proof.Gen.ChipSumsIdeal.Launch
public import proofs.«01_k».proof.Proof.Gen.ChipSumsIdeal.Points
public import proofs.«01_k».proof.Proof.Gen.ChipSumsIdeal.Frame
public import proofs.«01_k».proof.Proof.Gen.ChipSumsRefIdeal
public import proofs.«01_k».proof.Proof.Gen.ChipSumsRefIdeal.Run
public import proofs.«01_k».proof.Proof.Gen.ChipSumsRefIdeal.Read
public import proofs.«01_k».proof.Proof.Gen.Pre_class_chips_in_mesh
public import proofs.«01_k».proof.Proof.ChipSums
public import Idealize.ShloMosaic.Adequacy
public import Idealize.ShloMosaic.Init

@[expose] public section

noncomputable section

namespace Cert.Proof

open Idealize.ShloMosaic Idealize.SL.Sem

/-- A conjunct per claim, each proved in the module of its call. -/
theorem claim : Cert.Claim := ⟨Cert.NormFirst.Gen.facts, Cert.NormFirstIdeal.Gen.facts, Cert.NormFirstRefIdeal.Gen.facts, Cert.LossHead.Gen.facts, Cert.LossHeadIdeal.Gen.facts, Cert.LossHeadRefIdeal.Gen.facts, Cert.GateA.Gen.facts, Cert.GateAIdeal.Gen.facts, Cert.GateARefIdeal.Gen.facts, Cert.GateB.Gen.facts, Cert.GateBIdeal.Gen.facts, Cert.GateBRefIdeal.Gen.facts, Cert.NormsMid.Gen.facts, Cert.NormsMidIdeal.Gen.facts, Cert.NormsMidRefIdeal.Gen.facts, Cert.Pool.Gen.facts, Cert.PoolIdeal.Gen.facts, Cert.PoolRefIdeal.Gen.facts, Cert.GateAFwd.Gen.facts, Cert.GateAFwdIdeal.Gen.facts, Cert.GateAFwdRefIdeal.Gen.facts, Cert.GateBFwd.Gen.facts, Cert.GateBFwdIdeal.Gen.facts, Cert.GateBFwdRefIdeal.Gen.facts, Cert.NormFwd.Gen.facts, Cert.NormFwdIdeal.Gen.facts, Cert.NormFwdRefIdeal.Gen.facts, Cert.PoolFwd.Gen.facts, Cert.PoolFwdIdeal.Gen.facts, Cert.PoolFwdRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Grouped.Gen.facts, Cert.GroupedIdeal.Gen.facts, Cert.GroupedRefIdeal.Gen.facts, Cert.DactOut.Gen.facts, Cert.DactOutIdeal.Gen.facts, Cert.DactOutRefIdeal.Gen.facts, Cert.DactIn.Gen.facts, Cert.DactInIdeal.Gen.facts, Cert.DactInRefIdeal.Gen.facts, Cert.Dw.Gen.facts, Cert.DwIdeal.Gen.facts, Cert.DwRefIdeal.Gen.facts, Cert.DwSharded.Gen.facts, Cert.DwShardedIdeal.Gen.facts, Cert.DwShardedRefIdeal.Gen.facts, Cert.DwGrouped.Gen.facts, Cert.DwGroupedIdeal.Gen.facts, Cert.DwGroupedRefIdeal.Gen.facts, Cert.SmallAdamw.Gen.facts, Cert.SmallAdamwIdeal.Gen.facts, Cert.SmallAdamwRefIdeal.Gen.facts, Cert.DwClass.Gen.facts, Cert.DwClassIdeal.Gen.facts, Cert.DwClassRefIdeal.Gen.facts, Cert.ReduceAdamw.Gen.facts, Cert.ReduceAdamwIdeal.Gen.facts, Cert.ReduceAdamwRefIdeal.Gen.facts, Cert.ChipSums.Gen.facts, Cert.ChipSumsIdeal.Gen.facts, Cert.ChipSumsRefIdeal.Gen.facts, Cert.Pre_norm_first_finite.Gen.facts, Cert.Pre_loss_head_finite.Gen.facts, Cert.Pre_gate_a_finite.Gen.facts, Cert.Pre_gate_b_finite.Gen.facts, Cert.Pre_norms_mid_finite.Gen.facts, Cert.Pre_pool_finite.Gen.facts, Cert.Pre_gate_a_fwd_finite.Gen.facts, Cert.Pre_pool_fwd_finite.Gen.facts, Cert.Pre_class_is_a_core.Gen.facts, Cert.Pre_class_chip_in_mesh.Gen.facts, Cert.Pre_class_chips_in_mesh.Gen.facts, Cert.On_gate_half.Gen.facts,
  fun m ρ _ => Cert.NormFirst.Gen.frame m ρ, fun m ρ _ => Cert.NormFirstIdeal.Gen.frame m ρ, fun m ρ _ => Cert.NormFirstIdeal.Gen.frame m ρ, fun m ρ _ => Cert.NormFirstRefIdeal.Entry.frame m ρ trivial, fun m ρ _ => Cert.NormFirstRefIdeal.Entry.frame m ρ trivial,
  fun m ρ _ => Cert.LossHead.Gen.frame m ρ, fun m ρ _ => Cert.LossHeadIdeal.Gen.frame m ρ, fun m ρ _ => Cert.LossHeadIdeal.Gen.frame m ρ, fun m ρ _ => Cert.LossHeadRefIdeal.Entry.frame m ρ trivial, fun m ρ _ => Cert.LossHeadRefIdeal.Entry.frame m ρ trivial,
  fun m ρ _ => Cert.GateA.Gen.frame m ρ, fun m ρ _ => Cert.GateAIdeal.Gen.frame m ρ, fun m ρ _ => Cert.GateAIdeal.Gen.frame m ρ, fun m ρ _ => Cert.GateARefIdeal.Entry.frame m ρ trivial, fun m ρ _ => Cert.GateARefIdeal.Entry.frame m ρ trivial,
  fun m ρ _ => Cert.GateB.Gen.frame m ρ, fun m ρ _ => Cert.GateBIdeal.Gen.frame m ρ, fun m ρ _ => Cert.GateBIdeal.Gen.frame m ρ, fun m ρ _ => Cert.GateBRefIdeal.Entry.frame m ρ trivial, fun m ρ _ => Cert.GateBRefIdeal.Entry.frame m ρ trivial,
  fun m ρ _ => Cert.NormsMid.Gen.frame m ρ, fun m ρ _ => Cert.NormsMidIdeal.Gen.frame m ρ, fun m ρ _ => Cert.NormsMidIdeal.Gen.frame m ρ, fun m ρ _ => Cert.NormsMidRefIdeal.Entry.frame m ρ trivial, fun m ρ _ => Cert.NormsMidRefIdeal.Entry.frame m ρ trivial,
  fun m ρ _ => Cert.Pool.Gen.frame m ρ, fun m ρ _ => Cert.PoolIdeal.Gen.frame m ρ, fun m ρ _ => Cert.PoolIdeal.Gen.frame m ρ, fun m ρ _ => Cert.PoolRefIdeal.Entry.frame m ρ trivial, fun m ρ _ => Cert.PoolRefIdeal.Entry.frame m ρ trivial,
  fun m ρ _ => Cert.GateAFwd.Gen.frame m ρ, fun m ρ _ => Cert.GateAFwdIdeal.Gen.frame m ρ, fun m ρ _ => Cert.GateAFwdIdeal.Gen.frame m ρ, fun m ρ _ => Cert.GateAFwdRefIdeal.Entry.frame m ρ trivial, fun m ρ _ => Cert.GateAFwdRefIdeal.Entry.frame m ρ trivial,
  fun m ρ _ => Cert.GateBFwd.Gen.frame m ρ, fun m ρ _ => Cert.GateBFwdIdeal.Gen.frame m ρ, fun m ρ _ => Cert.GateBFwdRefIdeal.Entry.frame m ρ trivial,
  fun m ρ _ => Cert.NormFwd.Gen.frame m ρ, fun m ρ _ => Cert.NormFwdIdeal.Gen.frame m ρ, fun m ρ _ => Cert.NormFwdRefIdeal.Entry.frame m ρ trivial,
  fun m ρ _ => Cert.PoolFwd.Gen.frame m ρ, fun m ρ _ => Cert.PoolFwdIdeal.Gen.frame m ρ, fun m ρ _ => Cert.PoolFwdIdeal.Gen.frame m ρ, fun m ρ _ => Cert.PoolFwdRefIdeal.Entry.frame m ρ trivial, fun m ρ _ => Cert.PoolFwdRefIdeal.Entry.frame m ρ trivial,
  fun m ρ _ => Cert.InProj.Gen.frame m ρ, fun m ρ _ => Cert.InProjIdeal.Gen.frame m ρ, fun m ρ _ => Cert.InProjRefIdeal.Entry.frame m ρ trivial,
  fun m ρ _ => Cert.OutProj.Gen.frame m ρ, fun m ρ _ => Cert.OutProjIdeal.Gen.frame m ρ, fun m ρ _ => Cert.OutProjRefIdeal.Entry.frame m ρ trivial,
  fun m ρ _ => Cert.Grouped.Gen.frame m ρ, fun m ρ _ => Cert.GroupedIdeal.Gen.frame m ρ, fun m ρ _ => Cert.GroupedRefIdeal.Entry.frame m ρ trivial,
  fun m ρ _ => Cert.DactOut.Gen.frame m ρ, fun m ρ _ => Cert.DactOutIdeal.Gen.frame m ρ, fun m ρ _ => Cert.DactOutRefIdeal.Entry.frame m ρ trivial,
  fun m ρ _ => Cert.DactIn.Gen.frame m ρ, fun m ρ _ => Cert.DactInIdeal.Gen.frame m ρ, fun m ρ _ => Cert.DactInRefIdeal.Entry.frame m ρ trivial,
  fun m ρ _ => Cert.Dw.Gen.frame m ρ, fun m ρ _ => Cert.DwIdeal.Gen.frame m ρ, fun m ρ _ => Cert.DwRefIdeal.Entry.frame m ρ trivial,
  fun m ρ _ => Cert.DwSharded.Gen.frame m ρ, fun m ρ _ => Cert.DwShardedIdeal.Gen.frame m ρ, fun m ρ _ => Cert.DwShardedRefIdeal.Entry.frame m ρ trivial,
  fun m ρ _ => Cert.DwGrouped.Gen.frame m ρ, fun m ρ _ => Cert.DwGroupedIdeal.Gen.frame m ρ, fun m ρ _ => Cert.DwGroupedRefIdeal.Entry.frame m ρ trivial,
  fun m ρ _ => Cert.SmallAdamw.Gen.frame m ρ, fun m ρ _ => Cert.SmallAdamwIdeal.Gen.frame m ρ, fun m ρ _ => Cert.SmallAdamwRefIdeal.Entry.frame m ρ trivial,
  fun m ρ h => Cert.DwClass.Gen.frame m ρ (Cert.DwClass.Whole.ok_of_pre m h), fun m ρ h => Cert.DwClassIdeal.Gen.frame m ρ (Cert.DwClassIdeal.Whole.ok_of_pre m h), fun m ρ _ => Cert.DwClassRefIdeal.Entry.frame m ρ trivial, fun m ρ _ => Cert.DwClassRefIdeal.Entry.frame m ρ trivial,
  fun m ρ h => Cert.ReduceAdamw.Gen.frame m ρ (Cert.ReduceAdamw.Whole.ok_of_pre m h), fun m ρ h => Cert.ReduceAdamwIdeal.Gen.frame m ρ (Cert.ReduceAdamwIdeal.Whole.ok_of_pre m h), fun m ρ _ => Cert.ReduceAdamwRefIdeal.Entry.frame m ρ trivial, fun m ρ _ => Cert.ReduceAdamwRefIdeal.Entry.frame m ρ trivial,
  fun m ρ h => Cert.ChipSums.Gen.frame m ρ (Cert.ChipSums.Whole.ok_of_pre m h), fun m ρ h => Cert.ChipSumsIdeal.Gen.frame m ρ (Cert.ChipSumsIdeal.Whole.ok_of_pre m h), fun m ρ _ => Cert.ChipSumsRefIdeal.Entry.frame m ρ trivial, fun m ρ _ => Cert.ChipSumsRefIdeal.Entry.frame m ρ trivial,
  trivial, Cert.NormFirstIdeal.Whole.claim,
  trivial, Cert.LossHeadIdeal.Whole.claim,
  ⟨IdealRules.named_const.statement Cert.GateAIdeal.κ "inv_sqrt2" .f32 0x3F3504F3#32 _ rfl,
    IdealRules.named_const.statement Cert.GateAIdeal.κ "inv_sqrt_2pi" .f32 0x3ECC422A#32 _ rfl⟩, Cert.GateAIdeal.Whole.claim,
  trivial, Cert.GateBIdeal.Whole.claim,
  trivial, Cert.NormsMidIdeal.Whole.claim,
  trivial, Cert.PoolIdeal.Whole.claim,
  IdealRules.named_const.statement Cert.GateAFwdIdeal.κ "inv_sqrt2" .f32 0x3F3504F3#32 _ rfl, Cert.GateAFwdIdeal.Whole.claim,
  trivial, Cert.GateBFwdIdeal.Whole.claim,
  trivial, Cert.NormFwdIdeal.Whole.claim,
  trivial, Cert.PoolFwdIdeal.Whole.claim,
  trivial, Cert.InProjIdeal.Whole.claim,
  trivial, Cert.OutProjIdeal.Whole.claim,
  trivial, Cert.GroupedIdeal.Whole.claim,
  trivial, Cert.DactOutIdeal.Whole.claim,
  trivial, Cert.DactInIdeal.Whole.claim,
  trivial, Cert.DwIdeal.Whole.claim,
  trivial, Cert.DwShardedIdeal.Whole.claim,
  trivial, Cert.DwGroupedIdeal.Whole.claim,
  trivial, Cert.SmallAdamwIdeal.Whole.claim,
  trivial, Cert.DwClassIdeal.Whole.claim,
  trivial, Cert.ReduceAdamwIdeal.Whole.claim,
  trivial, Cert.ChipSumsIdeal.Whole.claim⟩

end Cert.Proof

end
